-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_InMb (m : (ℓ : Loc Cert.InMb.nD Cert.InMb.τ Cert.InMb.sig) → Buf (Elt Bits) ℓ) : Prop :=
  True

def Pre_InMbIdeal (m : (ℓ : Loc Cert.InMbIdeal.nD Cert.InMbIdeal.τ Cert.InMbIdeal.sig) → Buf (Elt Ideal) ℓ) : Prop :=
  True

def Pre_InMbReferenceIdeal (m : (ℓ : Loc Cert.InMbReferenceIdeal.nD Cert.InMbReferenceIdeal.τ Cert.InMbReferenceIdeal.sig) → Buf (Elt Ideal) ℓ) : Prop :=
  True

def Pre_InRw (m : (ℓ : Loc Cert.InRw.nD Cert.InRw.τ Cert.InRw.sig) → Buf (Elt Bits) ℓ) : Prop :=
  True

def Pre_InRwIdeal (m : (ℓ : Loc Cert.InRwIdeal.nD Cert.InRwIdeal.τ Cert.InRwIdeal.sig) → Buf (Elt Ideal) ℓ) : Prop :=
  True

def Pre_InRwReferenceIdeal (m : (ℓ : Loc Cert.InRwReferenceIdeal.nD Cert.InRwReferenceIdeal.τ Cert.InRwReferenceIdeal.sig) → Buf (Elt Ideal) ℓ) : Prop :=
  True

def Pre_InHg (m : (ℓ : Loc Cert.InHg.nD Cert.InHg.τ Cert.InHg.sig) → Buf (Elt Bits) ℓ) : Prop :=
  True

def Pre_InHgIdeal (m : (ℓ : Loc Cert.InHgIdeal.nD Cert.InHgIdeal.τ Cert.InHgIdeal.sig) → Buf (Elt Ideal) ℓ) : Prop :=
  True

def Pre_InHgReferenceIdeal (m : (ℓ : Loc Cert.InHgReferenceIdeal.nD Cert.InHgReferenceIdeal.τ Cert.InHgReferenceIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjReferenceIdeal (m : (ℓ : Loc Cert.OutProjReferenceIdeal.nD Cert.OutProjReferenceIdeal.τ Cert.OutProjReferenceIdeal.sig) → Buf (Elt Ideal) ℓ) : Prop :=
  True

def Pre_RecHg (m : (ℓ : Loc Cert.RecHg.nD Cert.RecHg.τ Cert.RecHg.sig) → Buf (Elt Bits) ℓ) : Prop :=
  True

def Pre_RecHgIdeal (m : (ℓ : Loc Cert.RecHgIdeal.nD Cert.RecHgIdeal.τ Cert.RecHgIdeal.sig) → Buf (Elt Ideal) ℓ) : Prop :=
  True

def Pre_RecHgReferenceIdeal (m : (ℓ : Loc Cert.RecHgReferenceIdeal.nD Cert.RecHgReferenceIdeal.τ Cert.RecHgReferenceIdeal.sig) → Buf (Elt Ideal) ℓ) : Prop :=
  True

def Pre_RecMb (m : (ℓ : Loc Cert.RecMb.nD Cert.RecMb.τ Cert.RecMb.sig) → Buf (Elt Bits) ℓ) : Prop :=
  True

def Pre_RecMbIdeal (m : (ℓ : Loc Cert.RecMbIdeal.nD Cert.RecMbIdeal.τ Cert.RecMbIdeal.sig) → Buf (Elt Ideal) ℓ) : Prop :=
  True

def Pre_RecMbReferenceIdeal (m : (ℓ : Loc Cert.RecMbReferenceIdeal.nD Cert.RecMbReferenceIdeal.τ Cert.RecMbReferenceIdeal.sig) → Buf (Elt Ideal) ℓ) : Prop :=
  True

def Pre_FfnStep (m : (ℓ : Loc Cert.FfnStep.nD Cert.FfnStep.τ Cert.FfnStep.sig) → Buf (Elt Bits) ℓ) : Prop :=
  True

def Pre_FfnStepIdeal (m : (ℓ : Loc Cert.FfnStepIdeal.nD Cert.FfnStepIdeal.τ Cert.FfnStepIdeal.sig) → Buf (Elt Ideal) ℓ) : Prop :=
  True

def Pre_FfnStepReferenceIdeal (m : (ℓ : Loc Cert.FfnStepReferenceIdeal.nD Cert.FfnStepReferenceIdeal.τ Cert.FfnStepReferenceIdeal.sig) → Buf (Elt Ideal) ℓ) : Prop :=
  True

def Pre_InMbStep (m : (ℓ : Loc Cert.InMbStep.nD Cert.InMbStep.τ Cert.InMbStep.sig) → Buf (Elt Bits) ℓ) : Prop :=
  True

def Pre_InMbStepIdeal (m : (ℓ : Loc Cert.InMbStepIdeal.nD Cert.InMbStepIdeal.τ Cert.InMbStepIdeal.sig) → Buf (Elt Ideal) ℓ) : Prop :=
  True

def Pre_InMbStepReferenceIdeal (m : (ℓ : Loc Cert.InMbStepReferenceIdeal.nD Cert.InMbStepReferenceIdeal.τ Cert.InMbStepReferenceIdeal.sig) → Buf (Elt Ideal) ℓ) : Prop :=
  True

def Pre_InRwStep (m : (ℓ : Loc Cert.InRwStep.nD Cert.InRwStep.τ Cert.InRwStep.sig) → Buf (Elt Bits) ℓ) : Prop :=
  True

def Pre_InRwStepIdeal (m : (ℓ : Loc Cert.InRwStepIdeal.nD Cert.InRwStepIdeal.τ Cert.InRwStepIdeal.sig) → Buf (Elt Ideal) ℓ) : Prop :=
  True

def Pre_InRwStepReferenceIdeal (m : (ℓ : Loc Cert.InRwStepReferenceIdeal.nD Cert.InRwStepReferenceIdeal.τ Cert.InRwStepReferenceIdeal.sig) → Buf (Elt Ideal) ℓ) : Prop :=
  True

def Pre_Ssd (m : (ℓ : Loc Cert.Ssd.nD Cert.Ssd.τ Cert.Ssd.sig) → Buf (Elt Bits) ℓ) : Prop :=
  True

def Pre_SsdIdeal (m : (ℓ : Loc Cert.SsdIdeal.nD Cert.SsdIdeal.τ Cert.SsdIdeal.sig) → Buf (Elt Ideal) ℓ) : Prop :=
  True

def Pre_SsdReferenceIdeal (m : (ℓ : Loc Cert.SsdReferenceIdeal.nD Cert.SsdReferenceIdeal.τ Cert.SsdReferenceIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaReferenceIdeal (m : (ℓ : Loc Cert.AdaReferenceIdeal.nD Cert.AdaReferenceIdeal.τ Cert.AdaReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6))
      ∧ r.2.sem = fun _ => 0)

def quiescent_InMb [hInMb : Cert.InMb.Facts] : Prop :=
  ∀ (m : (ℓ : Loc Cert.InMb.nD Cert.InMb.τ Cert.InMb.sig) → Buf (Elt Bits) ℓ) (g : Dev Cert.InMb.nD → PrngReg), Pre_InMb m →
    θ_run (Cert.InMb.defs (F := Bits)) (onTc (τ := Cert.InMb.τ) (Cert.InMb.main (F := Bits))) ⟨m, fun _ => 0, g⟩ (fun r => (∀ c : Dev Cert.InMb.nD,
      r.2.mem ((c.tc : Thread Cert.InMb.nD Cert.InMb.τ).loc Cert.InMb.main_arg0) = m ((c.tc : Thread Cert.InMb.nD Cert.InMb.τ).loc Cert.InMb.main_arg0)
      ∧ r.2.mem ((c.tc : Thread Cert.InMb.nD Cert.InMb.τ).loc Cert.InMb.main_arg1) = m ((c.tc : Thread Cert.InMb.nD Cert.InMb.τ).loc Cert.InMb.main_arg1)
      ∧ r.2.mem ((c.tc : Thread Cert.InMb.nD Cert.InMb.τ).loc Cert.InMb.main_arg2) = m ((c.tc : Thread Cert.InMb.nD Cert.InMb.τ).loc Cert.InMb.main_arg2)
      ∧ r.2.mem ((c.tc : Thread Cert.InMb.nD Cert.InMb.τ).loc Cert.InMb.main_arg3) = m ((c.tc : Thread Cert.InMb.nD Cert.InMb.τ).loc Cert.InMb.main_arg3))
      ∧ r.2.sem = fun _ => 0)

def quiescent_InMbIdeal [hInMbIdeal : Cert.InMbIdeal.Facts] : Prop :=
  ∀ (m : (ℓ : Loc Cert.InMbIdeal.nD Cert.InMbIdeal.τ Cert.InMbIdeal.sig) → Buf (Elt Ideal) ℓ) (g : Dev Cert.InMbIdeal.nD → PrngReg), Pre_InMbIdeal m →
    θ_run (Cert.InMbIdeal.defs (F := Ideal)) (onTc (τ := Cert.InMbIdeal.τ) (Cert.InMbIdeal.main (F := Ideal))) ⟨m, fun _ => 0, g⟩ (fun r => (∀ c : Dev Cert.InMbIdeal.nD,
      r.2.mem ((c.tc : Thread Cert.InMbIdeal.nD Cert.InMbIdeal.τ).loc Cert.InMbIdeal.main_arg0) = m ((c.tc : Thread Cert.InMbIdeal.nD Cert.InMbIdeal.τ).loc Cert.InMbIdeal.main_arg0)
      ∧ r.2.mem ((c.tc : Thread Cert.InMbIdeal.nD Cert.InMbIdeal.τ).loc Cert.InMbIdeal.main_arg1) = m ((c.tc : Thread Cert.InMbIdeal.nD Cert.InMbIdeal.τ).loc Cert.InMbIdeal.main_arg1)
      ∧ r.2.mem ((c.tc : Thread Cert.InMbIdeal.nD Cert.InMbIdeal.τ).loc Cert.InMbIdeal.main_arg2) = m ((c.tc : Thread Cert.InMbIdeal.nD Cert.InMbIdeal.τ).loc Cert.InMbIdeal.main_arg2)
      ∧ r.2.mem ((c.tc : Thread Cert.InMbIdeal.nD Cert.InMbIdeal.τ).loc Cert.InMbIdeal.main_arg3) = m ((c.tc : Thread Cert.InMbIdeal.nD Cert.InMbIdeal.τ).loc Cert.InMbIdeal.main_arg3))
      ∧ r.2.sem = fun _ => 0)

def quiescent_InMbReferenceIdeal [hInMbReferenceIdeal : Cert.InMbReferenceIdeal.Facts] : Prop :=
  ∀ (m : (ℓ : Loc Cert.InMbReferenceIdeal.nD Cert.InMbReferenceIdeal.τ Cert.InMbReferenceIdeal.sig) → Buf (Elt Ideal) ℓ) (g : Dev Cert.InMbReferenceIdeal.nD → PrngReg), Pre_InMbReferenceIdeal m →
    θ_run (Cert.InMbReferenceIdeal.defs (F := Ideal)) (onTc (τ := Cert.InMbReferenceIdeal.τ) (Cert.InMbReferenceIdeal.main (F := Ideal))) ⟨m, fun _ => 0, g⟩ (fun r => (∀ c : Dev Cert.InMbReferenceIdeal.nD,
      r.2.mem ((c.tc : Thread Cert.InMbReferenceIdeal.nD Cert.InMbReferenceIdeal.τ).loc Cert.InMbReferenceIdeal.main_arg0) = m ((c.tc : Thread Cert.InMbReferenceIdeal.nD Cert.InMbReferenceIdeal.τ).loc Cert.InMbReferenceIdeal.main_arg0)
      ∧ r.2.mem ((c.tc : Thread Cert.InMbReferenceIdeal.nD Cert.InMbReferenceIdeal.τ).loc Cert.InMbReferenceIdeal.main_arg1) = m ((c.tc : Thread Cert.InMbReferenceIdeal.nD Cert.InMbReferenceIdeal.τ).loc Cert.InMbReferenceIdeal.main_arg1)
      ∧ r.2.mem ((c.tc : Thread Cert.InMbReferenceIdeal.nD Cert.InMbReferenceIdeal.τ).loc Cert.InMbReferenceIdeal.main_arg2) = m ((c.tc : Thread Cert.InMbReferenceIdeal.nD Cert.InMbReferenceIdeal.τ).loc Cert.InMbReferenceIdeal.main_arg2)
      ∧ r.2.mem ((c.tc : Thread Cert.InMbReferenceIdeal.nD Cert.InMbReferenceIdeal.τ).loc Cert.InMbReferenceIdeal.main_arg3) = m ((c.tc : Thread Cert.InMbReferenceIdeal.nD Cert.InMbReferenceIdeal.τ).loc Cert.InMbReferenceIdeal.main_arg3))
      ∧ r.2.sem = fun _ => 0)

def quiescent_InRw [hInRw : Cert.InRw.Facts] : Prop :=
  ∀ (m : (ℓ : Loc Cert.InRw.nD Cert.InRw.τ Cert.InRw.sig) → Buf (Elt Bits) ℓ) (g : Dev Cert.InRw.nD → PrngReg), Pre_InRw m →
    θ_run (Cert.InRw.defs (F := Bits)) (onTc (τ := Cert.InRw.τ) (Cert.InRw.main (F := Bits))) ⟨m, fun _ => 0, g⟩ (fun r => (∀ c : Dev Cert.InRw.nD,
      r.2.mem ((c.tc : Thread Cert.InRw.nD Cert.InRw.τ).loc Cert.InRw.main_arg0) = m ((c.tc : Thread Cert.InRw.nD Cert.InRw.τ).loc Cert.InRw.main_arg0)
      ∧ r.2.mem ((c.tc : Thread Cert.InRw.nD Cert.InRw.τ).loc Cert.InRw.main_arg1) = m ((c.tc : Thread Cert.InRw.nD Cert.InRw.τ).loc Cert.InRw.main_arg1)
      ∧ r.2.mem ((c.tc : Thread Cert.InRw.nD Cert.InRw.τ).loc Cert.InRw.main_arg2) = m ((c.tc : Thread Cert.InRw.nD Cert.InRw.τ).loc Cert.InRw.main_arg2)
      ∧ r.2.mem ((c.tc : Thread Cert.InRw.nD Cert.InRw.τ).loc Cert.InRw.main_arg3) = m ((c.tc : Thread Cert.InRw.nD Cert.InRw.τ).loc Cert.InRw.main_arg3))
      ∧ r.2.sem = fun _ => 0)

def quiescent_InRwIdeal [hInRwIdeal : Cert.InRwIdeal.Facts] : Prop :=
  ∀ (m : (ℓ : Loc Cert.InRwIdeal.nD Cert.InRwIdeal.τ Cert.InRwIdeal.sig) → Buf (Elt Ideal) ℓ) (g : Dev Cert.InRwIdeal.nD → PrngReg), Pre_InRwIdeal m →
    θ_run (Cert.InRwIdeal.defs (F := Ideal)) (onTc (τ := Cert.InRwIdeal.τ) (Cert.InRwIdeal.main (F := Ideal))) ⟨m, fun _ => 0, g⟩ (fun r => (∀ c : Dev Cert.InRwIdeal.nD,
      r.2.mem ((c.tc : Thread Cert.InRwIdeal.nD Cert.InRwIdeal.τ).loc Cert.InRwIdeal.main_arg0) = m ((c.tc : Thread Cert.InRwIdeal.nD Cert.InRwIdeal.τ).loc Cert.InRwIdeal.main_arg0)
      ∧ r.2.mem ((c.tc : Thread Cert.InRwIdeal.nD Cert.InRwIdeal.τ).loc Cert.InRwIdeal.main_arg1) = m ((c.tc : Thread Cert.InRwIdeal.nD Cert.InRwIdeal.τ).loc Cert.InRwIdeal.main_arg1)
      ∧ r.2.mem ((c.tc : Thread Cert.InRwIdeal.nD Cert.InRwIdeal.τ).loc Cert.InRwIdeal.main_arg2) = m ((c.tc : Thread Cert.InRwIdeal.nD Cert.InRwIdeal.τ).loc Cert.InRwIdeal.main_arg2)
      ∧ r.2.mem ((c.tc : Thread Cert.InRwIdeal.nD Cert.InRwIdeal.τ).loc Cert.InRwIdeal.main_arg3) = m ((c.tc : Thread Cert.InRwIdeal.nD Cert.InRwIdeal.τ).loc Cert.InRwIdeal.main_arg3))
      ∧ r.2.sem = fun _ => 0)

def quiescent_InRwReferenceIdeal [hInRwReferenceIdeal : Cert.InRwReferenceIdeal.Facts] : Prop :=
  ∀ (m : (ℓ : Loc Cert.InRwReferenceIdeal.nD Cert.InRwReferenceIdeal.τ Cert.InRwReferenceIdeal.sig) → Buf (Elt Ideal) ℓ) (g : Dev Cert.InRwReferenceIdeal.nD → PrngReg), Pre_InRwReferenceIdeal m →
    θ_run (Cert.InRwReferenceIdeal.defs (F := Ideal)) (onTc (τ := Cert.InRwReferenceIdeal.τ) (Cert.InRwReferenceIdeal.main (F := Ideal))) ⟨m, fun _ => 0, g⟩ (fun r => (∀ c : Dev Cert.InRwReferenceIdeal.nD,
      r.2.mem ((c.tc : Thread Cert.InRwReferenceIdeal.nD Cert.InRwReferenceIdeal.τ).loc Cert.InRwReferenceIdeal.main_arg0) = m ((c.tc : Thread Cert.InRwReferenceIdeal.nD Cert.InRwReferenceIdeal.τ).loc Cert.InRwReferenceIdeal.main_arg0)
      ∧ r.2.mem ((c.tc : Thread Cert.InRwReferenceIdeal.nD Cert.InRwReferenceIdeal.τ).loc Cert.InRwReferenceIdeal.main_arg1) = m ((c.tc : Thread Cert.InRwReferenceIdeal.nD Cert.InRwReferenceIdeal.τ).loc Cert.InRwReferenceIdeal.main_arg1)
      ∧ r.2.mem ((c.tc : Thread Cert.InRwReferenceIdeal.nD Cert.InRwReferenceIdeal.τ).loc Cert.InRwReferenceIdeal.main_arg2) = m ((c.tc : Thread Cert.InRwReferenceIdeal.nD Cert.InRwReferenceIdeal.τ).loc Cert.InRwReferenceIdeal.main_arg2)
      ∧ r.2.mem ((c.tc : Thread Cert.InRwReferenceIdeal.nD Cert.InRwReferenceIdeal.τ).loc Cert.InRwReferenceIdeal.main_arg3) = m ((c.tc : Thread Cert.InRwReferenceIdeal.nD Cert.InRwReferenceIdeal.τ).loc Cert.InRwReferenceIdeal.main_arg3))
      ∧ r.2.sem = fun _ => 0)

def quiescent_InHg [hInHg : Cert.InHg.Facts] : Prop :=
  ∀ (m : (ℓ : Loc Cert.InHg.nD Cert.InHg.τ Cert.InHg.sig) → Buf (Elt Bits) ℓ) (g : Dev Cert.InHg.nD → PrngReg), Pre_InHg m →
    θ_run (Cert.InHg.defs (F := Bits)) (onTc (τ := Cert.InHg.τ) (Cert.InHg.main (F := Bits))) ⟨m, fun _ => 0, g⟩ (fun r => (∀ c : Dev Cert.InHg.nD,
      r.2.mem ((c.tc : Thread Cert.InHg.nD Cert.InHg.τ).loc Cert.InHg.main_arg0) = m ((c.tc : Thread Cert.InHg.nD Cert.InHg.τ).loc Cert.InHg.main_arg0)
      ∧ r.2.mem ((c.tc : Thread Cert.InHg.nD Cert.InHg.τ).loc Cert.InHg.main_arg1) = m ((c.tc : Thread Cert.InHg.nD Cert.InHg.τ).loc Cert.InHg.main_arg1)
      ∧ r.2.mem ((c.tc : Thread Cert.InHg.nD Cert.InHg.τ).loc Cert.InHg.main_arg2) = m ((c.tc : Thread Cert.InHg.nD Cert.InHg.τ).loc Cert.InHg.main_arg2)
      ∧ r.2.mem ((c.tc : Thread Cert.InHg.nD Cert.InHg.τ).loc Cert.InHg.main_arg3) = m ((c.tc : Thread Cert.InHg.nD Cert.InHg.τ).loc Cert.InHg.main_arg3)
      ∧ r.2.mem ((c.tc : Thread Cert.InHg.nD Cert.InHg.τ).loc Cert.InHg.main_arg4) = m ((c.tc : Thread Cert.InHg.nD Cert.InHg.τ).loc Cert.InHg.main_arg4))
      ∧ r.2.sem = fun _ => 0)

def quiescent_InHgIdeal [hInHgIdeal : Cert.InHgIdeal.Facts] : Prop :=
  ∀ (m : (ℓ : Loc Cert.InHgIdeal.nD Cert.InHgIdeal.τ Cert.InHgIdeal.sig) → Buf (Elt Ideal) ℓ) (g : Dev Cert.InHgIdeal.nD → PrngReg), Pre_InHgIdeal m →
    θ_run (Cert.InHgIdeal.defs (F := Ideal)) (onTc (τ := Cert.InHgIdeal.τ) (Cert.InHgIdeal.main (F := Ideal))) ⟨m, fun _ => 0, g⟩ (fun r => (∀ c : Dev Cert.InHgIdeal.nD,
      r.2.mem ((c.tc : Thread Cert.InHgIdeal.nD Cert.InHgIdeal.τ).loc Cert.InHgIdeal.main_arg0) = m ((c.tc : Thread Cert.InHgIdeal.nD Cert.InHgIdeal.τ).loc Cert.InHgIdeal.main_arg0)
      ∧ r.2.mem ((c.tc : Thread Cert.InHgIdeal.nD Cert.InHgIdeal.τ).loc Cert.InHgIdeal.main_arg1) = m ((c.tc : Thread Cert.InHgIdeal.nD Cert.InHgIdeal.τ).loc Cert.InHgIdeal.main_arg1)
      ∧ r.2.mem ((c.tc : Thread Cert.InHgIdeal.nD Cert.InHgIdeal.τ).loc Cert.InHgIdeal.main_arg2) = m ((c.tc : Thread Cert.InHgIdeal.nD Cert.InHgIdeal.τ).loc Cert.InHgIdeal.main_arg2)
      ∧ r.2.mem ((c.tc : Thread Cert.InHgIdeal.nD Cert.InHgIdeal.τ).loc Cert.InHgIdeal.main_arg3) = m ((c.tc : Thread Cert.InHgIdeal.nD Cert.InHgIdeal.τ).loc Cert.InHgIdeal.main_arg3)
      ∧ r.2.mem ((c.tc : Thread Cert.InHgIdeal.nD Cert.InHgIdeal.τ).loc Cert.InHgIdeal.main_arg4) = m ((c.tc : Thread Cert.InHgIdeal.nD Cert.InHgIdeal.τ).loc Cert.InHgIdeal.main_arg4))
      ∧ r.2.sem = fun _ => 0)

def quiescent_InHgReferenceIdeal [hInHgReferenceIdeal : Cert.InHgReferenceIdeal.Facts] : Prop :=
  ∀ (m : (ℓ : Loc Cert.InHgReferenceIdeal.nD Cert.InHgReferenceIdeal.τ Cert.InHgReferenceIdeal.sig) → Buf (Elt Ideal) ℓ) (g : Dev Cert.InHgReferenceIdeal.nD → PrngReg), Pre_InHgReferenceIdeal m →
    θ_run (Cert.InHgReferenceIdeal.defs (F := Ideal)) (onTc (τ := Cert.InHgReferenceIdeal.τ) (Cert.InHgReferenceIdeal.main (F := Ideal))) ⟨m, fun _ => 0, g⟩ (fun r => (∀ c : Dev Cert.InHgReferenceIdeal.nD,
      r.2.mem ((c.tc : Thread Cert.InHgReferenceIdeal.nD Cert.InHgReferenceIdeal.τ).loc Cert.InHgReferenceIdeal.main_arg0) = m ((c.tc : Thread Cert.InHgReferenceIdeal.nD Cert.InHgReferenceIdeal.τ).loc Cert.InHgReferenceIdeal.main_arg0)
      ∧ r.2.mem ((c.tc : Thread Cert.InHgReferenceIdeal.nD Cert.InHgReferenceIdeal.τ).loc Cert.InHgReferenceIdeal.main_arg1) = m ((c.tc : Thread Cert.InHgReferenceIdeal.nD Cert.InHgReferenceIdeal.τ).loc Cert.InHgReferenceIdeal.main_arg1)
      ∧ r.2.mem ((c.tc : Thread Cert.InHgReferenceIdeal.nD Cert.InHgReferenceIdeal.τ).loc Cert.InHgReferenceIdeal.main_arg2) = m ((c.tc : Thread Cert.InHgReferenceIdeal.nD Cert.InHgReferenceIdeal.τ).loc Cert.InHgReferenceIdeal.main_arg2)
      ∧ r.2.mem ((c.tc : Thread Cert.InHgReferenceIdeal.nD Cert.InHgReferenceIdeal.τ).loc Cert.InHgReferenceIdeal.main_arg3) = m ((c.tc : Thread Cert.InHgReferenceIdeal.nD Cert.InHgReferenceIdeal.τ).loc Cert.InHgReferenceIdeal.main_arg3)
      ∧ r.2.mem ((c.tc : Thread Cert.InHgReferenceIdeal.nD Cert.InHgReferenceIdeal.τ).loc Cert.InHgReferenceIdeal.main_arg4) = m ((c.tc : Thread Cert.InHgReferenceIdeal.nD Cert.InHgReferenceIdeal.τ).loc Cert.InHgReferenceIdeal.main_arg4))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5)
      ∧ r.2.mem ((c.tc : Thread Cert.OutProj.nD Cert.OutProj.τ).loc Cert.OutProj.main_arg6) = m ((c.tc : Thread Cert.OutProj.nD Cert.OutProj.τ).loc Cert.OutProj.main_arg6)
      ∧ r.2.mem ((c.tc : Thread Cert.OutProj.nD Cert.OutProj.τ).loc Cert.OutProj.main_arg7) = m ((c.tc : Thread Cert.OutProj.nD Cert.OutProj.τ).loc Cert.OutProj.main_arg7)
      ∧ r.2.mem ((c.tc : Thread Cert.OutProj.nD Cert.OutProj.τ).loc Cert.OutProj.main_arg8) = m ((c.tc : Thread Cert.OutProj.nD Cert.OutProj.τ).loc Cert.OutProj.main_arg8)
      ∧ r.2.mem ((c.tc : Thread Cert.OutProj.nD Cert.OutProj.τ).loc Cert.OutProj.main_arg9) = m ((c.tc : Thread Cert.OutProj.nD Cert.OutProj.τ).loc Cert.OutProj.main_arg9)
      ∧ r.2.mem ((c.tc : Thread Cert.OutProj.nD Cert.OutProj.τ).loc Cert.OutProj.main_arg10) = m ((c.tc : Thread Cert.OutProj.nD Cert.OutProj.τ).loc Cert.OutProj.main_arg10)
      ∧ r.2.mem ((c.tc : Thread Cert.OutProj.nD Cert.OutProj.τ).loc Cert.OutProj.main_arg11) = m ((c.tc : Thread Cert.OutProj.nD Cert.OutProj.τ).loc Cert.OutProj.main_arg11)
      ∧ r.2.mem ((c.tc : Thread Cert.OutProj.nD Cert.OutProj.τ).loc Cert.OutProj.main_arg12) = m ((c.tc : Thread Cert.OutProj.nD Cert.OutProj.τ).loc Cert.OutProj.main_arg12)
      ∧ r.2.mem ((c.tc : Thread Cert.OutProj.nD Cert.OutProj.τ).loc Cert.OutProj.main_arg13) = m ((c.tc : Thread Cert.OutProj.nD Cert.OutProj.τ).loc Cert.OutProj.main_arg13)
      ∧ r.2.mem ((c.tc : Thread Cert.OutProj.nD Cert.OutProj.τ).loc Cert.OutProj.main_arg14) = m ((c.tc : Thread Cert.OutProj.nD Cert.OutProj.τ).loc Cert.OutProj.main_arg14)
      ∧ r.2.mem ((c.tc : Thread Cert.OutProj.nD Cert.OutProj.τ).loc Cert.OutProj.main_arg15) = m ((c.tc : Thread Cert.OutProj.nD Cert.OutProj.τ).loc Cert.OutProj.main_arg15))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
      ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
      ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7)
      ∧ r.2.mem ((c.tc : Thread Cert.OutProjIdeal.nD Cert.OutProjIdeal.τ).loc Cert.OutProjIdeal.main_arg8) = m ((c.tc : Thread Cert.OutProjIdeal.nD Cert.OutProjIdeal.τ).loc Cert.OutProjIdeal.main_arg8)
      ∧ r.2.mem ((c.tc : Thread Cert.OutProjIdeal.nD Cert.OutProjIdeal.τ).loc Cert.OutProjIdeal.main_arg9) = m ((c.tc : Thread Cert.OutProjIdeal.nD Cert.OutProjIdeal.τ).loc Cert.OutProjIdeal.main_arg9)
      ∧ r.2.mem ((c.tc : Thread Cert.OutProjIdeal.nD Cert.OutProjIdeal.τ).loc Cert.OutProjIdeal.main_arg10) = m ((c.tc : Thread Cert.OutProjIdeal.nD Cert.OutProjIdeal.τ).loc Cert.OutProjIdeal.main_arg10)
      ∧ r.2.mem ((c.tc : Thread Cert.OutProjIdeal.nD Cert.OutProjIdeal.τ).loc Cert.OutProjIdeal.main_arg11) = m ((c.tc : Thread Cert.OutProjIdeal.nD Cert.OutProjIdeal.τ).loc Cert.OutProjIdeal.main_arg11)
      ∧ r.2.mem ((c.tc : Thread Cert.OutProjIdeal.nD Cert.OutProjIdeal.τ).loc Cert.OutProjIdeal.main_arg12) = m ((c.tc : Thread Cert.OutProjIdeal.nD Cert.OutProjIdeal.τ).loc Cert.OutProjIdeal.main_arg12)
      ∧ r.2.mem ((c.tc : Thread Cert.OutProjIdeal.nD Cert.OutProjIdeal.τ).loc Cert.OutProjIdeal.main_arg13) = m ((c.tc : Thread Cert.OutProjIdeal.nD Cert.OutProjIdeal.τ).loc Cert.OutProjIdeal.main_arg13)
      ∧ r.2.mem ((c.tc : Thread Cert.OutProjIdeal.nD Cert.OutProjIdeal.τ).loc Cert.OutProjIdeal.main_arg14) = m ((c.tc : Thread Cert.OutProjIdeal.nD Cert.OutProjIdeal.τ).loc Cert.OutProjIdeal.main_arg14)
      ∧ r.2.mem ((c.tc : Thread Cert.OutProjIdeal.nD Cert.OutProjIdeal.τ).loc Cert.OutProjIdeal.main_arg15) = m ((c.tc : Thread Cert.OutProjIdeal.nD Cert.OutProjIdeal.τ).loc Cert.OutProjIdeal.main_arg15))
      ∧ r.2.sem = fun _ => 0)

def quiescent_OutProjReferenceIdeal [hOutProjReferenceIdeal : Cert.OutProjReferenceIdeal.Facts] : Prop :=
  ∀ (m : (ℓ : Loc Cert.OutProjReferenceIdeal.nD Cert.OutProjReferenceIdeal.τ Cert.OutProjReferenceIdeal.sig) → Buf (Elt Ideal) ℓ) (g : Dev Cert.OutProjReferenceIdeal.nD → PrngReg), Pre_OutProjReferenceIdeal m →
    θ_run (Cert.OutProjReferenceIdeal.defs (F := Ideal)) (onTc (τ := Cert.OutProjReferenceIdeal.τ) (Cert.OutProjReferenceIdeal.main (F := Ideal))) ⟨m, fun _ => 0, g⟩ (fun r => (∀ c : Dev Cert.OutProjReferenceIdeal.nD,
      r.2.mem ((c.tc : Thread Cert.OutProjReferenceIdeal.nD Cert.OutProjReferenceIdeal.τ).loc Cert.OutProjReferenceIdeal.main_arg0) = m ((c.tc : Thread Cert.OutProjReferenceIdeal.nD Cert.OutProjReferenceIdeal.τ).loc Cert.OutProjReferenceIdeal.main_arg0)
      ∧ r.2.mem ((c.tc : Thread Cert.OutProjReferenceIdeal.nD Cert.OutProjReferenceIdeal.τ).loc Cert.OutProjReferenceIdeal.main_arg1) = m ((c.tc : Thread Cert.OutProjReferenceIdeal.nD Cert.OutProjReferenceIdeal.τ).loc Cert.OutProjReferenceIdeal.main_arg1)
      ∧ r.2.mem ((c.tc : Thread Cert.OutProjReferenceIdeal.nD Cert.OutProjReferenceIdeal.τ).loc Cert.OutProjReferenceIdeal.main_arg2) = m ((c.tc : Thread Cert.OutProjReferenceIdeal.nD Cert.OutProjReferenceIdeal.τ).loc Cert.OutProjReferenceIdeal.main_arg2)
      ∧ r.2.mem ((c.tc : Thread Cert.OutProjReferenceIdeal.nD Cert.OutProjReferenceIdeal.τ).loc Cert.OutProjReferenceIdeal.main_arg3) = m ((c.tc : Thread Cert.OutProjReferenceIdeal.nD Cert.OutProjReferenceIdeal.τ).loc Cert.OutProjReferenceIdeal.main_arg3)
      ∧ r.2.mem ((c.tc : Thread Cert.OutProjReferenceIdeal.nD Cert.OutProjReferenceIdeal.τ).loc Cert.OutProjReferenceIdeal.main_arg4) = m ((c.tc : Thread Cert.OutProjReferenceIdeal.nD Cert.OutProjReferenceIdeal.τ).loc Cert.OutProjReferenceIdeal.main_arg4)
      ∧ r.2.mem ((c.tc : Thread Cert.OutProjReferenceIdeal.nD Cert.OutProjReferenceIdeal.τ).loc Cert.OutProjReferenceIdeal.main_arg5) = m ((c.tc : Thread Cert.OutProjReferenceIdeal.nD Cert.OutProjReferenceIdeal.τ).loc Cert.OutProjReferenceIdeal.main_arg5)
      ∧ r.2.mem ((c.tc : Thread Cert.OutProjReferenceIdeal.nD Cert.OutProjReferenceIdeal.τ).loc Cert.OutProjReferenceIdeal.main_arg6) = m ((c.tc : Thread Cert.OutProjReferenceIdeal.nD Cert.OutProjReferenceIdeal.τ).loc Cert.OutProjReferenceIdeal.main_arg6)
      ∧ r.2.mem ((c.tc : Thread Cert.OutProjReferenceIdeal.nD Cert.OutProjReferenceIdeal.τ).loc Cert.OutProjReferenceIdeal.main_arg7) = m ((c.tc : Thread Cert.OutProjReferenceIdeal.nD Cert.OutProjReferenceIdeal.τ).loc Cert.OutProjReferenceIdeal.main_arg7)
      ∧ r.2.mem ((c.tc : Thread Cert.OutProjReferenceIdeal.nD Cert.OutProjReferenceIdeal.τ).loc Cert.OutProjReferenceIdeal.main_arg8) = m ((c.tc : Thread Cert.OutProjReferenceIdeal.nD Cert.OutProjReferenceIdeal.τ).loc Cert.OutProjReferenceIdeal.main_arg8)
      ∧ r.2.mem ((c.tc : Thread Cert.OutProjReferenceIdeal.nD Cert.OutProjReferenceIdeal.τ).loc Cert.OutProjReferenceIdeal.main_arg9) = m ((c.tc : Thread Cert.OutProjReferenceIdeal.nD Cert.OutProjReferenceIdeal.τ).loc Cert.OutProjReferenceIdeal.main_arg9)
      ∧ r.2.mem ((c.tc : Thread Cert.OutProjReferenceIdeal.nD Cert.OutProjReferenceIdeal.τ).loc Cert.OutProjReferenceIdeal.main_arg10) = m ((c.tc : Thread Cert.OutProjReferenceIdeal.nD Cert.OutProjReferenceIdeal.τ).loc Cert.OutProjReferenceIdeal.main_arg10)
      ∧ r.2.mem ((c.tc : Thread Cert.OutProjReferenceIdeal.nD Cert.OutProjReferenceIdeal.τ).loc Cert.OutProjReferenceIdeal.main_arg11) = m ((c.tc : Thread Cert.OutProjReferenceIdeal.nD Cert.OutProjReferenceIdeal.τ).loc Cert.OutProjReferenceIdeal.main_arg11)
      ∧ r.2.mem ((c.tc : Thread Cert.OutProjReferenceIdeal.nD Cert.OutProjReferenceIdeal.τ).loc Cert.OutProjReferenceIdeal.main_arg12) = m ((c.tc : Thread Cert.OutProjReferenceIdeal.nD Cert.OutProjReferenceIdeal.τ).loc Cert.OutProjReferenceIdeal.main_arg12)
      ∧ r.2.mem ((c.tc : Thread Cert.OutProjReferenceIdeal.nD Cert.OutProjReferenceIdeal.τ).loc Cert.OutProjReferenceIdeal.main_arg13) = m ((c.tc : Thread Cert.OutProjReferenceIdeal.nD Cert.OutProjReferenceIdeal.τ).loc Cert.OutProjReferenceIdeal.main_arg13)
      ∧ r.2.mem ((c.tc : Thread Cert.OutProjReferenceIdeal.nD Cert.OutProjReferenceIdeal.τ).loc Cert.OutProjReferenceIdeal.main_arg14) = m ((c.tc : Thread Cert.OutProjReferenceIdeal.nD Cert.OutProjReferenceIdeal.τ).loc Cert.OutProjReferenceIdeal.main_arg14)
      ∧ r.2.mem ((c.tc : Thread Cert.OutProjReferenceIdeal.nD Cert.OutProjReferenceIdeal.τ).loc Cert.OutProjReferenceIdeal.main_arg15) = m ((c.tc : Thread Cert.OutProjReferenceIdeal.nD Cert.OutProjReferenceIdeal.τ).loc Cert.OutProjReferenceIdeal.main_arg15))
      ∧ r.2.sem = fun _ => 0)

def quiescent_RecHg [hRecHg : Cert.RecHg.Facts] : Prop :=
  ∀ (m : (ℓ : Loc Cert.RecHg.nD Cert.RecHg.τ Cert.RecHg.sig) → Buf (Elt Bits) ℓ) (g : Dev Cert.RecHg.nD → PrngReg), Pre_RecHg m →
    θ_run (Cert.RecHg.defs (F := Bits)) (onTc (τ := Cert.RecHg.τ) (Cert.RecHg.main (F := Bits))) ⟨m, fun _ => 0, g⟩ (fun r => (∀ c : Dev Cert.RecHg.nD,
      r.2.mem ((c.tc : Thread Cert.RecHg.nD Cert.RecHg.τ).loc Cert.RecHg.main_arg0) = m ((c.tc : Thread Cert.RecHg.nD Cert.RecHg.τ).loc Cert.RecHg.main_arg0)
      ∧ r.2.mem ((c.tc : Thread Cert.RecHg.nD Cert.RecHg.τ).loc Cert.RecHg.main_arg1) = m ((c.tc : Thread Cert.RecHg.nD Cert.RecHg.τ).loc Cert.RecHg.main_arg1)
      ∧ r.2.mem ((c.tc : Thread Cert.RecHg.nD Cert.RecHg.τ).loc Cert.RecHg.main_arg2) = m ((c.tc : Thread Cert.RecHg.nD Cert.RecHg.τ).loc Cert.RecHg.main_arg2)
      ∧ r.2.mem ((c.tc : Thread Cert.RecHg.nD Cert.RecHg.τ).loc Cert.RecHg.main_arg3) = m ((c.tc : Thread Cert.RecHg.nD Cert.RecHg.τ).loc Cert.RecHg.main_arg3)
      ∧ r.2.mem ((c.tc : Thread Cert.RecHg.nD Cert.RecHg.τ).loc Cert.RecHg.main_arg4) = m ((c.tc : Thread Cert.RecHg.nD Cert.RecHg.τ).loc Cert.RecHg.main_arg4))
      ∧ r.2.sem = fun _ => 0)

def quiescent_RecHgIdeal [hRecHgIdeal : Cert.RecHgIdeal.Facts] : Prop :=
  ∀ (m : (ℓ : Loc Cert.RecHgIdeal.nD Cert.RecHgIdeal.τ Cert.RecHgIdeal.sig) → Buf (Elt Ideal) ℓ) (g : Dev Cert.RecHgIdeal.nD → PrngReg), Pre_RecHgIdeal m →
    θ_run (Cert.RecHgIdeal.defs (F := Ideal)) (onTc (τ := Cert.RecHgIdeal.τ) (Cert.RecHgIdeal.main (F := Ideal))) ⟨m, fun _ => 0, g⟩ (fun r => (∀ c : Dev Cert.RecHgIdeal.nD,
      r.2.mem ((c.tc : Thread Cert.RecHgIdeal.nD Cert.RecHgIdeal.τ).loc Cert.RecHgIdeal.main_arg0) = m ((c.tc : Thread Cert.RecHgIdeal.nD Cert.RecHgIdeal.τ).loc Cert.RecHgIdeal.main_arg0)
      ∧ r.2.mem ((c.tc : Thread Cert.RecHgIdeal.nD Cert.RecHgIdeal.τ).loc Cert.RecHgIdeal.main_arg1) = m ((c.tc : Thread Cert.RecHgIdeal.nD Cert.RecHgIdeal.τ).loc Cert.RecHgIdeal.main_arg1)
      ∧ r.2.mem ((c.tc : Thread Cert.RecHgIdeal.nD Cert.RecHgIdeal.τ).loc Cert.RecHgIdeal.main_arg2) = m ((c.tc : Thread Cert.RecHgIdeal.nD Cert.RecHgIdeal.τ).loc Cert.RecHgIdeal.main_arg2)
      ∧ r.2.mem ((c.tc : Thread Cert.RecHgIdeal.nD Cert.RecHgIdeal.τ).loc Cert.RecHgIdeal.main_arg3) = m ((c.tc : Thread Cert.RecHgIdeal.nD Cert.RecHgIdeal.τ).loc Cert.RecHgIdeal.main_arg3)
      ∧ r.2.mem ((c.tc : Thread Cert.RecHgIdeal.nD Cert.RecHgIdeal.τ).loc Cert.RecHgIdeal.main_arg4) = m ((c.tc : Thread Cert.RecHgIdeal.nD Cert.RecHgIdeal.τ).loc Cert.RecHgIdeal.main_arg4))
      ∧ r.2.sem = fun _ => 0)

def quiescent_RecHgReferenceIdeal [hRecHgReferenceIdeal : Cert.RecHgReferenceIdeal.Facts] : Prop :=
  ∀ (m : (ℓ : Loc Cert.RecHgReferenceIdeal.nD Cert.RecHgReferenceIdeal.τ Cert.RecHgReferenceIdeal.sig) → Buf (Elt Ideal) ℓ) (g : Dev Cert.RecHgReferenceIdeal.nD → PrngReg), Pre_RecHgReferenceIdeal m →
    θ_run (Cert.RecHgReferenceIdeal.defs (F := Ideal)) (onTc (τ := Cert.RecHgReferenceIdeal.τ) (Cert.RecHgReferenceIdeal.main (F := Ideal))) ⟨m, fun _ => 0, g⟩ (fun r => (∀ c : Dev Cert.RecHgReferenceIdeal.nD,
      r.2.mem ((c.tc : Thread Cert.RecHgReferenceIdeal.nD Cert.RecHgReferenceIdeal.τ).loc Cert.RecHgReferenceIdeal.main_arg0) = m ((c.tc : Thread Cert.RecHgReferenceIdeal.nD Cert.RecHgReferenceIdeal.τ).loc Cert.RecHgReferenceIdeal.main_arg0)
      ∧ r.2.mem ((c.tc : Thread Cert.RecHgReferenceIdeal.nD Cert.RecHgReferenceIdeal.τ).loc Cert.RecHgReferenceIdeal.main_arg1) = m ((c.tc : Thread Cert.RecHgReferenceIdeal.nD Cert.RecHgReferenceIdeal.τ).loc Cert.RecHgReferenceIdeal.main_arg1)
      ∧ r.2.mem ((c.tc : Thread Cert.RecHgReferenceIdeal.nD Cert.RecHgReferenceIdeal.τ).loc Cert.RecHgReferenceIdeal.main_arg2) = m ((c.tc : Thread Cert.RecHgReferenceIdeal.nD Cert.RecHgReferenceIdeal.τ).loc Cert.RecHgReferenceIdeal.main_arg2)
      ∧ r.2.mem ((c.tc : Thread Cert.RecHgReferenceIdeal.nD Cert.RecHgReferenceIdeal.τ).loc Cert.RecHgReferenceIdeal.main_arg3) = m ((c.tc : Thread Cert.RecHgReferenceIdeal.nD Cert.RecHgReferenceIdeal.τ).loc Cert.RecHgReferenceIdeal.main_arg3)
      ∧ r.2.mem ((c.tc : Thread Cert.RecHgReferenceIdeal.nD Cert.RecHgReferenceIdeal.τ).loc Cert.RecHgReferenceIdeal.main_arg4) = m ((c.tc : Thread Cert.RecHgReferenceIdeal.nD Cert.RecHgReferenceIdeal.τ).loc Cert.RecHgReferenceIdeal.main_arg4))
      ∧ r.2.sem = fun _ => 0)

def quiescent_RecMb [hRecMb : Cert.RecMb.Facts] : Prop :=
  ∀ (m : (ℓ : Loc Cert.RecMb.nD Cert.RecMb.τ Cert.RecMb.sig) → Buf (Elt Bits) ℓ) (g : Dev Cert.RecMb.nD → PrngReg), Pre_RecMb m →
    θ_run (Cert.RecMb.defs (F := Bits)) (onTc (τ := Cert.RecMb.τ) (Cert.RecMb.main (F := Bits))) ⟨m, fun _ => 0, g⟩ (fun r => (∀ c : Dev Cert.RecMb.nD,
      r.2.mem ((c.tc : Thread Cert.RecMb.nD Cert.RecMb.τ).loc Cert.RecMb.main_arg0) = m ((c.tc : Thread Cert.RecMb.nD Cert.RecMb.τ).loc Cert.RecMb.main_arg0)
      ∧ r.2.mem ((c.tc : Thread Cert.RecMb.nD Cert.RecMb.τ).loc Cert.RecMb.main_arg1) = m ((c.tc : Thread Cert.RecMb.nD Cert.RecMb.τ).loc Cert.RecMb.main_arg1)
      ∧ r.2.mem ((c.tc : Thread Cert.RecMb.nD Cert.RecMb.τ).loc Cert.RecMb.main_arg2) = m ((c.tc : Thread Cert.RecMb.nD Cert.RecMb.τ).loc Cert.RecMb.main_arg2)
      ∧ r.2.mem ((c.tc : Thread Cert.RecMb.nD Cert.RecMb.τ).loc Cert.RecMb.main_arg3) = m ((c.tc : Thread Cert.RecMb.nD Cert.RecMb.τ).loc Cert.RecMb.main_arg3)
      ∧ r.2.mem ((c.tc : Thread Cert.RecMb.nD Cert.RecMb.τ).loc Cert.RecMb.main_arg4) = m ((c.tc : Thread Cert.RecMb.nD Cert.RecMb.τ).loc Cert.RecMb.main_arg4))
      ∧ r.2.sem = fun _ => 0)

def quiescent_RecMbIdeal [hRecMbIdeal : Cert.RecMbIdeal.Facts] : Prop :=
  ∀ (m : (ℓ : Loc Cert.RecMbIdeal.nD Cert.RecMbIdeal.τ Cert.RecMbIdeal.sig) → Buf (Elt Ideal) ℓ) (g : Dev Cert.RecMbIdeal.nD → PrngReg), Pre_RecMbIdeal m →
    θ_run (Cert.RecMbIdeal.defs (F := Ideal)) (onTc (τ := Cert.RecMbIdeal.τ) (Cert.RecMbIdeal.main (F := Ideal))) ⟨m, fun _ => 0, g⟩ (fun r => (∀ c : Dev Cert.RecMbIdeal.nD,
      r.2.mem ((c.tc : Thread Cert.RecMbIdeal.nD Cert.RecMbIdeal.τ).loc Cert.RecMbIdeal.main_arg0) = m ((c.tc : Thread Cert.RecMbIdeal.nD Cert.RecMbIdeal.τ).loc Cert.RecMbIdeal.main_arg0)
      ∧ r.2.mem ((c.tc : Thread Cert.RecMbIdeal.nD Cert.RecMbIdeal.τ).loc Cert.RecMbIdeal.main_arg1) = m ((c.tc : Thread Cert.RecMbIdeal.nD Cert.RecMbIdeal.τ).loc Cert.RecMbIdeal.main_arg1)
      ∧ r.2.mem ((c.tc : Thread Cert.RecMbIdeal.nD Cert.RecMbIdeal.τ).loc Cert.RecMbIdeal.main_arg2) = m ((c.tc : Thread Cert.RecMbIdeal.nD Cert.RecMbIdeal.τ).loc Cert.RecMbIdeal.main_arg2)
      ∧ r.2.mem ((c.tc : Thread Cert.RecMbIdeal.nD Cert.RecMbIdeal.τ).loc Cert.RecMbIdeal.main_arg3) = m ((c.tc : Thread Cert.RecMbIdeal.nD Cert.RecMbIdeal.τ).loc Cert.RecMbIdeal.main_arg3)
      ∧ r.2.mem ((c.tc : Thread Cert.RecMbIdeal.nD Cert.RecMbIdeal.τ).loc Cert.RecMbIdeal.main_arg4) = m ((c.tc : Thread Cert.RecMbIdeal.nD Cert.RecMbIdeal.τ).loc Cert.RecMbIdeal.main_arg4))
      ∧ r.2.sem = fun _ => 0)

def quiescent_RecMbReferenceIdeal [hRecMbReferenceIdeal : Cert.RecMbReferenceIdeal.Facts] : Prop :=
  ∀ (m : (ℓ : Loc Cert.RecMbReferenceIdeal.nD Cert.RecMbReferenceIdeal.τ Cert.RecMbReferenceIdeal.sig) → Buf (Elt Ideal) ℓ) (g : Dev Cert.RecMbReferenceIdeal.nD → PrngReg), Pre_RecMbReferenceIdeal m →
    θ_run (Cert.RecMbReferenceIdeal.defs (F := Ideal)) (onTc (τ := Cert.RecMbReferenceIdeal.τ) (Cert.RecMbReferenceIdeal.main (F := Ideal))) ⟨m, fun _ => 0, g⟩ (fun r => (∀ c : Dev Cert.RecMbReferenceIdeal.nD,
      r.2.mem ((c.tc : Thread Cert.RecMbReferenceIdeal.nD Cert.RecMbReferenceIdeal.τ).loc Cert.RecMbReferenceIdeal.main_arg0) = m ((c.tc : Thread Cert.RecMbReferenceIdeal.nD Cert.RecMbReferenceIdeal.τ).loc Cert.RecMbReferenceIdeal.main_arg0)
      ∧ r.2.mem ((c.tc : Thread Cert.RecMbReferenceIdeal.nD Cert.RecMbReferenceIdeal.τ).loc Cert.RecMbReferenceIdeal.main_arg1) = m ((c.tc : Thread Cert.RecMbReferenceIdeal.nD Cert.RecMbReferenceIdeal.τ).loc Cert.RecMbReferenceIdeal.main_arg1)
      ∧ r.2.mem ((c.tc : Thread Cert.RecMbReferenceIdeal.nD Cert.RecMbReferenceIdeal.τ).loc Cert.RecMbReferenceIdeal.main_arg2) = m ((c.tc : Thread Cert.RecMbReferenceIdeal.nD Cert.RecMbReferenceIdeal.τ).loc Cert.RecMbReferenceIdeal.main_arg2)
      ∧ r.2.mem ((c.tc : Thread Cert.RecMbReferenceIdeal.nD Cert.RecMbReferenceIdeal.τ).loc Cert.RecMbReferenceIdeal.main_arg3) = m ((c.tc : Thread Cert.RecMbReferenceIdeal.nD Cert.RecMbReferenceIdeal.τ).loc Cert.RecMbReferenceIdeal.main_arg3)
      ∧ r.2.mem ((c.tc : Thread Cert.RecMbReferenceIdeal.nD Cert.RecMbReferenceIdeal.τ).loc Cert.RecMbReferenceIdeal.main_arg4) = m ((c.tc : Thread Cert.RecMbReferenceIdeal.nD Cert.RecMbReferenceIdeal.τ).loc Cert.RecMbReferenceIdeal.main_arg4))
      ∧ r.2.sem = fun _ => 0)

def quiescent_FfnStep [hFfnStep : Cert.FfnStep.Facts] : Prop :=
  ∀ (m : (ℓ : Loc Cert.FfnStep.nD Cert.FfnStep.τ Cert.FfnStep.sig) → Buf (Elt Bits) ℓ) (g : Dev Cert.FfnStep.nD → PrngReg), Pre_FfnStep m →
    θ_run (Cert.FfnStep.defs (F := Bits)) (onTc (τ := Cert.FfnStep.τ) (Cert.FfnStep.main (F := Bits))) ⟨m, fun _ => 0, g⟩ (fun r => (∀ c : Dev Cert.FfnStep.nD,
      r.2.mem ((c.tc : Thread Cert.FfnStep.nD Cert.FfnStep.τ).loc Cert.FfnStep.main_arg0) = m ((c.tc : Thread Cert.FfnStep.nD Cert.FfnStep.τ).loc Cert.FfnStep.main_arg0)
      ∧ r.2.mem ((c.tc : Thread Cert.FfnStep.nD Cert.FfnStep.τ).loc Cert.FfnStep.main_arg1) = m ((c.tc : Thread Cert.FfnStep.nD Cert.FfnStep.τ).loc Cert.FfnStep.main_arg1)
      ∧ r.2.mem ((c.tc : Thread Cert.FfnStep.nD Cert.FfnStep.τ).loc Cert.FfnStep.main_arg2) = m ((c.tc : Thread Cert.FfnStep.nD Cert.FfnStep.τ).loc Cert.FfnStep.main_arg2)
      ∧ r.2.mem ((c.tc : Thread Cert.FfnStep.nD Cert.FfnStep.τ).loc Cert.FfnStep.main_arg3) = m ((c.tc : Thread Cert.FfnStep.nD Cert.FfnStep.τ).loc Cert.FfnStep.main_arg3)
      ∧ r.2.mem ((c.tc : Thread Cert.FfnStep.nD Cert.FfnStep.τ).loc Cert.FfnStep.main_arg4) = m ((c.tc : Thread Cert.FfnStep.nD Cert.FfnStep.τ).loc Cert.FfnStep.main_arg4)
      ∧ r.2.mem ((c.tc : Thread Cert.FfnStep.nD Cert.FfnStep.τ).loc Cert.FfnStep.main_arg5) = m ((c.tc : Thread Cert.FfnStep.nD Cert.FfnStep.τ).loc Cert.FfnStep.main_arg5)
      ∧ r.2.mem ((c.tc : Thread Cert.FfnStep.nD Cert.FfnStep.τ).loc Cert.FfnStep.main_arg6) = m ((c.tc : Thread Cert.FfnStep.nD Cert.FfnStep.τ).loc Cert.FfnStep.main_arg6))
      ∧ r.2.sem = fun _ => 0)

def quiescent_FfnStepIdeal [hFfnStepIdeal : Cert.FfnStepIdeal.Facts] : Prop :=
  ∀ (m : (ℓ : Loc Cert.FfnStepIdeal.nD Cert.FfnStepIdeal.τ Cert.FfnStepIdeal.sig) → Buf (Elt Ideal) ℓ) (g : Dev Cert.FfnStepIdeal.nD → PrngReg), Pre_FfnStepIdeal m →
    θ_run (Cert.FfnStepIdeal.defs (F := Ideal)) (onTc (τ := Cert.FfnStepIdeal.τ) (Cert.FfnStepIdeal.main (F := Ideal))) ⟨m, fun _ => 0, g⟩ (fun r => (∀ c : Dev Cert.FfnStepIdeal.nD,
      r.2.mem ((c.tc : Thread Cert.FfnStepIdeal.nD Cert.FfnStepIdeal.τ).loc Cert.FfnStepIdeal.main_arg0) = m ((c.tc : Thread Cert.FfnStepIdeal.nD Cert.FfnStepIdeal.τ).loc Cert.FfnStepIdeal.main_arg0)
      ∧ r.2.mem ((c.tc : Thread Cert.FfnStepIdeal.nD Cert.FfnStepIdeal.τ).loc Cert.FfnStepIdeal.main_arg1) = m ((c.tc : Thread Cert.FfnStepIdeal.nD Cert.FfnStepIdeal.τ).loc Cert.FfnStepIdeal.main_arg1)
      ∧ r.2.mem ((c.tc : Thread Cert.FfnStepIdeal.nD Cert.FfnStepIdeal.τ).loc Cert.FfnStepIdeal.main_arg2) = m ((c.tc : Thread Cert.FfnStepIdeal.nD Cert.FfnStepIdeal.τ).loc Cert.FfnStepIdeal.main_arg2)
      ∧ r.2.mem ((c.tc : Thread Cert.FfnStepIdeal.nD Cert.FfnStepIdeal.τ).loc Cert.FfnStepIdeal.main_arg3) = m ((c.tc : Thread Cert.FfnStepIdeal.nD Cert.FfnStepIdeal.τ).loc Cert.FfnStepIdeal.main_arg3)
      ∧ r.2.mem ((c.tc : Thread Cert.FfnStepIdeal.nD Cert.FfnStepIdeal.τ).loc Cert.FfnStepIdeal.main_arg4) = m ((c.tc : Thread Cert.FfnStepIdeal.nD Cert.FfnStepIdeal.τ).loc Cert.FfnStepIdeal.main_arg4)
      ∧ r.2.mem ((c.tc : Thread Cert.FfnStepIdeal.nD Cert.FfnStepIdeal.τ).loc Cert.FfnStepIdeal.main_arg5) = m ((c.tc : Thread Cert.FfnStepIdeal.nD Cert.FfnStepIdeal.τ).loc Cert.FfnStepIdeal.main_arg5)
      ∧ r.2.mem ((c.tc : Thread Cert.FfnStepIdeal.nD Cert.FfnStepIdeal.τ).loc Cert.FfnStepIdeal.main_arg6) = m ((c.tc : Thread Cert.FfnStepIdeal.nD Cert.FfnStepIdeal.τ).loc Cert.FfnStepIdeal.main_arg6))
      ∧ r.2.sem = fun _ => 0)

def quiescent_FfnStepReferenceIdeal [hFfnStepReferenceIdeal : Cert.FfnStepReferenceIdeal.Facts] : Prop :=
  ∀ (m : (ℓ : Loc Cert.FfnStepReferenceIdeal.nD Cert.FfnStepReferenceIdeal.τ Cert.FfnStepReferenceIdeal.sig) → Buf (Elt Ideal) ℓ) (g : Dev Cert.FfnStepReferenceIdeal.nD → PrngReg), Pre_FfnStepReferenceIdeal m →
    θ_run (Cert.FfnStepReferenceIdeal.defs (F := Ideal)) (onTc (τ := Cert.FfnStepReferenceIdeal.τ) (Cert.FfnStepReferenceIdeal.main (F := Ideal))) ⟨m, fun _ => 0, g⟩ (fun r => (∀ c : Dev Cert.FfnStepReferenceIdeal.nD,
      r.2.mem ((c.tc : Thread Cert.FfnStepReferenceIdeal.nD Cert.FfnStepReferenceIdeal.τ).loc Cert.FfnStepReferenceIdeal.main_arg0) = m ((c.tc : Thread Cert.FfnStepReferenceIdeal.nD Cert.FfnStepReferenceIdeal.τ).loc Cert.FfnStepReferenceIdeal.main_arg0)
      ∧ r.2.mem ((c.tc : Thread Cert.FfnStepReferenceIdeal.nD Cert.FfnStepReferenceIdeal.τ).loc Cert.FfnStepReferenceIdeal.main_arg1) = m ((c.tc : Thread Cert.FfnStepReferenceIdeal.nD Cert.FfnStepReferenceIdeal.τ).loc Cert.FfnStepReferenceIdeal.main_arg1)
      ∧ r.2.mem ((c.tc : Thread Cert.FfnStepReferenceIdeal.nD Cert.FfnStepReferenceIdeal.τ).loc Cert.FfnStepReferenceIdeal.main_arg2) = m ((c.tc : Thread Cert.FfnStepReferenceIdeal.nD Cert.FfnStepReferenceIdeal.τ).loc Cert.FfnStepReferenceIdeal.main_arg2)
      ∧ r.2.mem ((c.tc : Thread Cert.FfnStepReferenceIdeal.nD Cert.FfnStepReferenceIdeal.τ).loc Cert.FfnStepReferenceIdeal.main_arg3) = m ((c.tc : Thread Cert.FfnStepReferenceIdeal.nD Cert.FfnStepReferenceIdeal.τ).loc Cert.FfnStepReferenceIdeal.main_arg3)
      ∧ r.2.mem ((c.tc : Thread Cert.FfnStepReferenceIdeal.nD Cert.FfnStepReferenceIdeal.τ).loc Cert.FfnStepReferenceIdeal.main_arg4) = m ((c.tc : Thread Cert.FfnStepReferenceIdeal.nD Cert.FfnStepReferenceIdeal.τ).loc Cert.FfnStepReferenceIdeal.main_arg4)
      ∧ r.2.mem ((c.tc : Thread Cert.FfnStepReferenceIdeal.nD Cert.FfnStepReferenceIdeal.τ).loc Cert.FfnStepReferenceIdeal.main_arg5) = m ((c.tc : Thread Cert.FfnStepReferenceIdeal.nD Cert.FfnStepReferenceIdeal.τ).loc Cert.FfnStepReferenceIdeal.main_arg5)
      ∧ r.2.mem ((c.tc : Thread Cert.FfnStepReferenceIdeal.nD Cert.FfnStepReferenceIdeal.τ).loc Cert.FfnStepReferenceIdeal.main_arg6) = m ((c.tc : Thread Cert.FfnStepReferenceIdeal.nD Cert.FfnStepReferenceIdeal.τ).loc Cert.FfnStepReferenceIdeal.main_arg6))
      ∧ r.2.sem = fun _ => 0)

def quiescent_InMbStep [hInMbStep : Cert.InMbStep.Facts] : Prop :=
  ∀ (m : (ℓ : Loc Cert.InMbStep.nD Cert.InMbStep.τ Cert.InMbStep.sig) → Buf (Elt Bits) ℓ) (g : Dev Cert.InMbStep.nD → PrngReg), Pre_InMbStep m →
    θ_run (Cert.InMbStep.defs (F := Bits)) (onTc (τ := Cert.InMbStep.τ) (Cert.InMbStep.main (F := Bits))) ⟨m, fun _ => 0, g⟩ (fun r => (∀ c : Dev Cert.InMbStep.nD,
      r.2.mem ((c.tc : Thread Cert.InMbStep.nD Cert.InMbStep.τ).loc Cert.InMbStep.main_arg0) = m ((c.tc : Thread Cert.InMbStep.nD Cert.InMbStep.τ).loc Cert.InMbStep.main_arg0)
      ∧ r.2.mem ((c.tc : Thread Cert.InMbStep.nD Cert.InMbStep.τ).loc Cert.InMbStep.main_arg1) = m ((c.tc : Thread Cert.InMbStep.nD Cert.InMbStep.τ).loc Cert.InMbStep.main_arg1)
      ∧ r.2.mem ((c.tc : Thread Cert.InMbStep.nD Cert.InMbStep.τ).loc Cert.InMbStep.main_arg2) = m ((c.tc : Thread Cert.InMbStep.nD Cert.InMbStep.τ).loc Cert.InMbStep.main_arg2)
      ∧ r.2.mem ((c.tc : Thread Cert.InMbStep.nD Cert.InMbStep.τ).loc Cert.InMbStep.main_arg3) = m ((c.tc : Thread Cert.InMbStep.nD Cert.InMbStep.τ).loc Cert.InMbStep.main_arg3))
      ∧ r.2.sem = fun _ => 0)

def quiescent_InMbStepIdeal [hInMbStepIdeal : Cert.InMbStepIdeal.Facts] : Prop :=
  ∀ (m : (ℓ : Loc Cert.InMbStepIdeal.nD Cert.InMbStepIdeal.τ Cert.InMbStepIdeal.sig) → Buf (Elt Ideal) ℓ) (g : Dev Cert.InMbStepIdeal.nD → PrngReg), Pre_InMbStepIdeal m →
    θ_run (Cert.InMbStepIdeal.defs (F := Ideal)) (onTc (τ := Cert.InMbStepIdeal.τ) (Cert.InMbStepIdeal.main (F := Ideal))) ⟨m, fun _ => 0, g⟩ (fun r => (∀ c : Dev Cert.InMbStepIdeal.nD,
      r.2.mem ((c.tc : Thread Cert.InMbStepIdeal.nD Cert.InMbStepIdeal.τ).loc Cert.InMbStepIdeal.main_arg0) = m ((c.tc : Thread Cert.InMbStepIdeal.nD Cert.InMbStepIdeal.τ).loc Cert.InMbStepIdeal.main_arg0)
      ∧ r.2.mem ((c.tc : Thread Cert.InMbStepIdeal.nD Cert.InMbStepIdeal.τ).loc Cert.InMbStepIdeal.main_arg1) = m ((c.tc : Thread Cert.InMbStepIdeal.nD Cert.InMbStepIdeal.τ).loc Cert.InMbStepIdeal.main_arg1)
      ∧ r.2.mem ((c.tc : Thread Cert.InMbStepIdeal.nD Cert.InMbStepIdeal.τ).loc Cert.InMbStepIdeal.main_arg2) = m ((c.tc : Thread Cert.InMbStepIdeal.nD Cert.InMbStepIdeal.τ).loc Cert.InMbStepIdeal.main_arg2)
      ∧ r.2.mem ((c.tc : Thread Cert.InMbStepIdeal.nD Cert.InMbStepIdeal.τ).loc Cert.InMbStepIdeal.main_arg3) = m ((c.tc : Thread Cert.InMbStepIdeal.nD Cert.InMbStepIdeal.τ).loc Cert.InMbStepIdeal.main_arg3))
      ∧ r.2.sem = fun _ => 0)

def quiescent_InMbStepReferenceIdeal [hInMbStepReferenceIdeal : Cert.InMbStepReferenceIdeal.Facts] : Prop :=
  ∀ (m : (ℓ : Loc Cert.InMbStepReferenceIdeal.nD Cert.InMbStepReferenceIdeal.τ Cert.InMbStepReferenceIdeal.sig) → Buf (Elt Ideal) ℓ) (g : Dev Cert.InMbStepReferenceIdeal.nD → PrngReg), Pre_InMbStepReferenceIdeal m →
    θ_run (Cert.InMbStepReferenceIdeal.defs (F := Ideal)) (onTc (τ := Cert.InMbStepReferenceIdeal.τ) (Cert.InMbStepReferenceIdeal.main (F := Ideal))) ⟨m, fun _ => 0, g⟩ (fun r => (∀ c : Dev Cert.InMbStepReferenceIdeal.nD,
      r.2.mem ((c.tc : Thread Cert.InMbStepReferenceIdeal.nD Cert.InMbStepReferenceIdeal.τ).loc Cert.InMbStepReferenceIdeal.main_arg0) = m ((c.tc : Thread Cert.InMbStepReferenceIdeal.nD Cert.InMbStepReferenceIdeal.τ).loc Cert.InMbStepReferenceIdeal.main_arg0)
      ∧ r.2.mem ((c.tc : Thread Cert.InMbStepReferenceIdeal.nD Cert.InMbStepReferenceIdeal.τ).loc Cert.InMbStepReferenceIdeal.main_arg1) = m ((c.tc : Thread Cert.InMbStepReferenceIdeal.nD Cert.InMbStepReferenceIdeal.τ).loc Cert.InMbStepReferenceIdeal.main_arg1)
      ∧ r.2.mem ((c.tc : Thread Cert.InMbStepReferenceIdeal.nD Cert.InMbStepReferenceIdeal.τ).loc Cert.InMbStepReferenceIdeal.main_arg2) = m ((c.tc : Thread Cert.InMbStepReferenceIdeal.nD Cert.InMbStepReferenceIdeal.τ).loc Cert.InMbStepReferenceIdeal.main_arg2)
      ∧ r.2.mem ((c.tc : Thread Cert.InMbStepReferenceIdeal.nD Cert.InMbStepReferenceIdeal.τ).loc Cert.InMbStepReferenceIdeal.main_arg3) = m ((c.tc : Thread Cert.InMbStepReferenceIdeal.nD Cert.InMbStepReferenceIdeal.τ).loc Cert.InMbStepReferenceIdeal.main_arg3))
      ∧ r.2.sem = fun _ => 0)

def quiescent_InRwStep [hInRwStep : Cert.InRwStep.Facts] : Prop :=
  ∀ (m : (ℓ : Loc Cert.InRwStep.nD Cert.InRwStep.τ Cert.InRwStep.sig) → Buf (Elt Bits) ℓ) (g : Dev Cert.InRwStep.nD → PrngReg), Pre_InRwStep m →
    θ_run (Cert.InRwStep.defs (F := Bits)) (onTc (τ := Cert.InRwStep.τ) (Cert.InRwStep.main (F := Bits))) ⟨m, fun _ => 0, g⟩ (fun r => (∀ c : Dev Cert.InRwStep.nD,
      r.2.mem ((c.tc : Thread Cert.InRwStep.nD Cert.InRwStep.τ).loc Cert.InRwStep.main_arg0) = m ((c.tc : Thread Cert.InRwStep.nD Cert.InRwStep.τ).loc Cert.InRwStep.main_arg0)
      ∧ r.2.mem ((c.tc : Thread Cert.InRwStep.nD Cert.InRwStep.τ).loc Cert.InRwStep.main_arg1) = m ((c.tc : Thread Cert.InRwStep.nD Cert.InRwStep.τ).loc Cert.InRwStep.main_arg1)
      ∧ r.2.mem ((c.tc : Thread Cert.InRwStep.nD Cert.InRwStep.τ).loc Cert.InRwStep.main_arg2) = m ((c.tc : Thread Cert.InRwStep.nD Cert.InRwStep.τ).loc Cert.InRwStep.main_arg2)
      ∧ r.2.mem ((c.tc : Thread Cert.InRwStep.nD Cert.InRwStep.τ).loc Cert.InRwStep.main_arg3) = m ((c.tc : Thread Cert.InRwStep.nD Cert.InRwStep.τ).loc Cert.InRwStep.main_arg3))
      ∧ r.2.sem = fun _ => 0)

def quiescent_InRwStepIdeal [hInRwStepIdeal : Cert.InRwStepIdeal.Facts] : Prop :=
  ∀ (m : (ℓ : Loc Cert.InRwStepIdeal.nD Cert.InRwStepIdeal.τ Cert.InRwStepIdeal.sig) → Buf (Elt Ideal) ℓ) (g : Dev Cert.InRwStepIdeal.nD → PrngReg), Pre_InRwStepIdeal m →
    θ_run (Cert.InRwStepIdeal.defs (F := Ideal)) (onTc (τ := Cert.InRwStepIdeal.τ) (Cert.InRwStepIdeal.main (F := Ideal))) ⟨m, fun _ => 0, g⟩ (fun r => (∀ c : Dev Cert.InRwStepIdeal.nD,
      r.2.mem ((c.tc : Thread Cert.InRwStepIdeal.nD Cert.InRwStepIdeal.τ).loc Cert.InRwStepIdeal.main_arg0) = m ((c.tc : Thread Cert.InRwStepIdeal.nD Cert.InRwStepIdeal.τ).loc Cert.InRwStepIdeal.main_arg0)
      ∧ r.2.mem ((c.tc : Thread Cert.InRwStepIdeal.nD Cert.InRwStepIdeal.τ).loc Cert.InRwStepIdeal.main_arg1) = m ((c.tc : Thread Cert.InRwStepIdeal.nD Cert.InRwStepIdeal.τ).loc Cert.InRwStepIdeal.main_arg1)
      ∧ r.2.mem ((c.tc : Thread Cert.InRwStepIdeal.nD Cert.InRwStepIdeal.τ).loc Cert.InRwStepIdeal.main_arg2) = m ((c.tc : Thread Cert.InRwStepIdeal.nD Cert.InRwStepIdeal.τ).loc Cert.InRwStepIdeal.main_arg2)
      ∧ r.2.mem ((c.tc : Thread Cert.InRwStepIdeal.nD Cert.InRwStepIdeal.τ).loc Cert.InRwStepIdeal.main_arg3) = m ((c.tc : Thread Cert.InRwStepIdeal.nD Cert.InRwStepIdeal.τ).loc Cert.InRwStepIdeal.main_arg3))
      ∧ r.2.sem = fun _ => 0)

def quiescent_InRwStepReferenceIdeal [hInRwStepReferenceIdeal : Cert.InRwStepReferenceIdeal.Facts] : Prop :=
  ∀ (m : (ℓ : Loc Cert.InRwStepReferenceIdeal.nD Cert.InRwStepReferenceIdeal.τ Cert.InRwStepReferenceIdeal.sig) → Buf (Elt Ideal) ℓ) (g : Dev Cert.InRwStepReferenceIdeal.nD → PrngReg), Pre_InRwStepReferenceIdeal m →
    θ_run (Cert.InRwStepReferenceIdeal.defs (F := Ideal)) (onTc (τ := Cert.InRwStepReferenceIdeal.τ) (Cert.InRwStepReferenceIdeal.main (F := Ideal))) ⟨m, fun _ => 0, g⟩ (fun r => (∀ c : Dev Cert.InRwStepReferenceIdeal.nD,
      r.2.mem ((c.tc : Thread Cert.InRwStepReferenceIdeal.nD Cert.InRwStepReferenceIdeal.τ).loc Cert.InRwStepReferenceIdeal.main_arg0) = m ((c.tc : Thread Cert.InRwStepReferenceIdeal.nD Cert.InRwStepReferenceIdeal.τ).loc Cert.InRwStepReferenceIdeal.main_arg0)
      ∧ r.2.mem ((c.tc : Thread Cert.InRwStepReferenceIdeal.nD Cert.InRwStepReferenceIdeal.τ).loc Cert.InRwStepReferenceIdeal.main_arg1) = m ((c.tc : Thread Cert.InRwStepReferenceIdeal.nD Cert.InRwStepReferenceIdeal.τ).loc Cert.InRwStepReferenceIdeal.main_arg1)
      ∧ r.2.mem ((c.tc : Thread Cert.InRwStepReferenceIdeal.nD Cert.InRwStepReferenceIdeal.τ).loc Cert.InRwStepReferenceIdeal.main_arg2) = m ((c.tc : Thread Cert.InRwStepReferenceIdeal.nD Cert.InRwStepReferenceIdeal.τ).loc Cert.InRwStepReferenceIdeal.main_arg2)
      ∧ r.2.mem ((c.tc : Thread Cert.InRwStepReferenceIdeal.nD Cert.InRwStepReferenceIdeal.τ).loc Cert.InRwStepReferenceIdeal.main_arg3) = m ((c.tc : Thread Cert.InRwStepReferenceIdeal.nD Cert.InRwStepReferenceIdeal.τ).loc Cert.InRwStepReferenceIdeal.main_arg3))
      ∧ r.2.sem = fun _ => 0)

def quiescent_Ssd [hSsd : Cert.Ssd.Facts] : Prop :=
  ∀ (m : (ℓ : Loc Cert.Ssd.nD Cert.Ssd.τ Cert.Ssd.sig) → Buf (Elt Bits) ℓ) (g : Dev Cert.Ssd.nD → PrngReg), Pre_Ssd m →
    θ_run (Cert.Ssd.defs (F := Bits)) (onTc (τ := Cert.Ssd.τ) (Cert.Ssd.main (F := Bits))) ⟨m, fun _ => 0, g⟩ (fun r => (∀ c : Dev Cert.Ssd.nD,
      r.2.mem ((c.tc : Thread Cert.Ssd.nD Cert.Ssd.τ).loc Cert.Ssd.main_arg0) = m ((c.tc : Thread Cert.Ssd.nD Cert.Ssd.τ).loc Cert.Ssd.main_arg0)
      ∧ r.2.mem ((c.tc : Thread Cert.Ssd.nD Cert.Ssd.τ).loc Cert.Ssd.main_arg1) = m ((c.tc : Thread Cert.Ssd.nD Cert.Ssd.τ).loc Cert.Ssd.main_arg1)
      ∧ r.2.mem ((c.tc : Thread Cert.Ssd.nD Cert.Ssd.τ).loc Cert.Ssd.main_arg2) = m ((c.tc : Thread Cert.Ssd.nD Cert.Ssd.τ).loc Cert.Ssd.main_arg2)
      ∧ r.2.mem ((c.tc : Thread Cert.Ssd.nD Cert.Ssd.τ).loc Cert.Ssd.main_arg3) = m ((c.tc : Thread Cert.Ssd.nD Cert.Ssd.τ).loc Cert.Ssd.main_arg3))
      ∧ r.2.sem = fun _ => 0)

def quiescent_SsdIdeal [hSsdIdeal : Cert.SsdIdeal.Facts] : Prop :=
  ∀ (m : (ℓ : Loc Cert.SsdIdeal.nD Cert.SsdIdeal.τ Cert.SsdIdeal.sig) → Buf (Elt Ideal) ℓ) (g : Dev Cert.SsdIdeal.nD → PrngReg), Pre_SsdIdeal m →
    θ_run (Cert.SsdIdeal.defs (F := Ideal)) (onTc (τ := Cert.SsdIdeal.τ) (Cert.SsdIdeal.main (F := Ideal))) ⟨m, fun _ => 0, g⟩ (fun r => (∀ c : Dev Cert.SsdIdeal.nD,
      r.2.mem ((c.tc : Thread Cert.SsdIdeal.nD Cert.SsdIdeal.τ).loc Cert.SsdIdeal.main_arg0) = m ((c.tc : Thread Cert.SsdIdeal.nD Cert.SsdIdeal.τ).loc Cert.SsdIdeal.main_arg0)
      ∧ r.2.mem ((c.tc : Thread Cert.SsdIdeal.nD Cert.SsdIdeal.τ).loc Cert.SsdIdeal.main_arg1) = m ((c.tc : Thread Cert.SsdIdeal.nD Cert.SsdIdeal.τ).loc Cert.SsdIdeal.main_arg1)
      ∧ r.2.mem ((c.tc : Thread Cert.SsdIdeal.nD Cert.SsdIdeal.τ).loc Cert.SsdIdeal.main_arg2) = m ((c.tc : Thread Cert.SsdIdeal.nD Cert.SsdIdeal.τ).loc Cert.SsdIdeal.main_arg2)
      ∧ r.2.mem ((c.tc : Thread Cert.SsdIdeal.nD Cert.SsdIdeal.τ).loc Cert.SsdIdeal.main_arg3) = m ((c.tc : Thread Cert.SsdIdeal.nD Cert.SsdIdeal.τ).loc Cert.SsdIdeal.main_arg3))
      ∧ r.2.sem = fun _ => 0)

def quiescent_SsdReferenceIdeal [hSsdReferenceIdeal : Cert.SsdReferenceIdeal.Facts] : Prop :=
  ∀ (m : (ℓ : Loc Cert.SsdReferenceIdeal.nD Cert.SsdReferenceIdeal.τ Cert.SsdReferenceIdeal.sig) → Buf (Elt Ideal) ℓ) (g : Dev Cert.SsdReferenceIdeal.nD → PrngReg), Pre_SsdReferenceIdeal m →
    θ_run (Cert.SsdReferenceIdeal.defs (F := Ideal)) (onTc (τ := Cert.SsdReferenceIdeal.τ) (Cert.SsdReferenceIdeal.main (F := Ideal))) ⟨m, fun _ => 0, g⟩ (fun r => (∀ c : Dev Cert.SsdReferenceIdeal.nD,
      r.2.mem ((c.tc : Thread Cert.SsdReferenceIdeal.nD Cert.SsdReferenceIdeal.τ).loc Cert.SsdReferenceIdeal.main_arg0) = m ((c.tc : Thread Cert.SsdReferenceIdeal.nD Cert.SsdReferenceIdeal.τ).loc Cert.SsdReferenceIdeal.main_arg0)
      ∧ r.2.mem ((c.tc : Thread Cert.SsdReferenceIdeal.nD Cert.SsdReferenceIdeal.τ).loc Cert.SsdReferenceIdeal.main_arg1) = m ((c.tc : Thread Cert.SsdReferenceIdeal.nD Cert.SsdReferenceIdeal.τ).loc Cert.SsdReferenceIdeal.main_arg1)
      ∧ r.2.mem ((c.tc : Thread Cert.SsdReferenceIdeal.nD Cert.SsdReferenceIdeal.τ).loc Cert.SsdReferenceIdeal.main_arg2) = m ((c.tc : Thread Cert.SsdReferenceIdeal.nD Cert.SsdReferenceIdeal.τ).loc Cert.SsdReferenceIdeal.main_arg2)
      ∧ r.2.mem ((c.tc : Thread Cert.SsdReferenceIdeal.nD Cert.SsdReferenceIdeal.τ).loc Cert.SsdReferenceIdeal.main_arg3) = m ((c.tc : Thread Cert.SsdReferenceIdeal.nD Cert.SsdReferenceIdeal.τ).loc Cert.SsdReferenceIdeal.main_arg3))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2)
      ∧ r.2.mem ((c.tc : Thread Cert.Ada.nD Cert.Ada.τ).loc Cert.Ada.main_arg3) = m ((c.tc : Thread Cert.Ada.nD Cert.Ada.τ).loc Cert.Ada.main_arg3))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
      ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3))
      ∧ r.2.sem = fun _ => 0)

def quiescent_AdaReferenceIdeal [hAdaReferenceIdeal : Cert.AdaReferenceIdeal.Facts] : Prop :=
  ∀ (m : (ℓ : Loc Cert.AdaReferenceIdeal.nD Cert.AdaReferenceIdeal.τ Cert.AdaReferenceIdeal.sig) → Buf (Elt Ideal) ℓ) (g : Dev Cert.AdaReferenceIdeal.nD → PrngReg), Pre_AdaReferenceIdeal m →
    θ_run (Cert.AdaReferenceIdeal.defs (F := Ideal)) (onTc (τ := Cert.AdaReferenceIdeal.τ) (Cert.AdaReferenceIdeal.main (F := Ideal))) ⟨m, fun _ => 0, g⟩ (fun r => (∀ c : Dev Cert.AdaReferenceIdeal.nD,
      r.2.mem ((c.tc : Thread Cert.AdaReferenceIdeal.nD Cert.AdaReferenceIdeal.τ).loc Cert.AdaReferenceIdeal.main_arg0) = m ((c.tc : Thread Cert.AdaReferenceIdeal.nD Cert.AdaReferenceIdeal.τ).loc Cert.AdaReferenceIdeal.main_arg0)
      ∧ r.2.mem ((c.tc : Thread Cert.AdaReferenceIdeal.nD Cert.AdaReferenceIdeal.τ).loc Cert.AdaReferenceIdeal.main_arg1) = m ((c.tc : Thread Cert.AdaReferenceIdeal.nD Cert.AdaReferenceIdeal.τ).loc Cert.AdaReferenceIdeal.main_arg1)
      ∧ r.2.mem ((c.tc : Thread Cert.AdaReferenceIdeal.nD Cert.AdaReferenceIdeal.τ).loc Cert.AdaReferenceIdeal.main_arg2) = m ((c.tc : Thread Cert.AdaReferenceIdeal.nD Cert.AdaReferenceIdeal.τ).loc Cert.AdaReferenceIdeal.main_arg2)
      ∧ r.2.mem ((c.tc : Thread Cert.AdaReferenceIdeal.nD Cert.AdaReferenceIdeal.τ).loc Cert.AdaReferenceIdeal.main_arg3) = m ((c.tc : Thread Cert.AdaReferenceIdeal.nD Cert.AdaReferenceIdeal.τ).loc Cert.AdaReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)
      ∧ m' ((c.tc : Thread Cert.FfnReferenceIdeal.nD Cert.FfnReferenceIdeal.τ).loc Cert.FfnReferenceIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v6)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v6) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v51) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5)
          ∧ r.2.mem ((c.tc : Thread Cert.FfnReferenceIdeal.nD Cert.FfnReferenceIdeal.τ).loc Cert.FfnReferenceIdeal.main_arg6) = m' ((c.tc : Thread Cert.FfnReferenceIdeal.nD Cert.FfnReferenceIdeal.τ).loc Cert.FfnReferenceIdeal.main_arg6))

def preserves_InMb_InMbIdeal : Prop :=
  True

def algebraic_InMbIdeal_InMbReferenceIdeal [hInMbIdeal : Cert.InMbIdeal.Facts] [hInMbReferenceIdeal : Cert.InMbReferenceIdeal.Facts] : Prop :=
  ∀ (m : (ℓ : Loc Cert.InMbIdeal.nD Cert.InMbIdeal.τ Cert.InMbIdeal.sig) → Buf (Elt Ideal) ℓ) (g : Dev Cert.InMbIdeal.nD → PrngReg)
    (m' : (ℓ : Loc Cert.InMbReferenceIdeal.nD Cert.InMbReferenceIdeal.τ Cert.InMbReferenceIdeal.sig) → Buf (Elt Ideal) ℓ) (g' : Dev Cert.InMbReferenceIdeal.nD → PrngReg), Pre_InMbIdeal m →
    (∀ c : Dev Cert.InMbIdeal.nD,
      m' ((c.tc : Thread Cert.InMbReferenceIdeal.nD Cert.InMbReferenceIdeal.τ).loc Cert.InMbReferenceIdeal.main_arg0) = m ((c.tc : Thread Cert.InMbIdeal.nD Cert.InMbIdeal.τ).loc Cert.InMbIdeal.main_arg0)
      ∧ m' ((c.tc : Thread Cert.InMbReferenceIdeal.nD Cert.InMbReferenceIdeal.τ).loc Cert.InMbReferenceIdeal.main_arg1) = m ((c.tc : Thread Cert.InMbIdeal.nD Cert.InMbIdeal.τ).loc Cert.InMbIdeal.main_arg1)
      ∧ m' ((c.tc : Thread Cert.InMbReferenceIdeal.nD Cert.InMbReferenceIdeal.τ).loc Cert.InMbReferenceIdeal.main_arg2) = m ((c.tc : Thread Cert.InMbIdeal.nD Cert.InMbIdeal.τ).loc Cert.InMbIdeal.main_arg2)
      ∧ m' ((c.tc : Thread Cert.InMbReferenceIdeal.nD Cert.InMbReferenceIdeal.τ).loc Cert.InMbReferenceIdeal.main_arg3) = m ((c.tc : Thread Cert.InMbIdeal.nD Cert.InMbIdeal.τ).loc Cert.InMbIdeal.main_arg3)) →
    ∃ (v0 : (c : Dev Cert.InMbIdeal.nD) → Buf (Elt Ideal) ((c.tc : Thread Cert.InMbIdeal.nD Cert.InMbIdeal.τ).loc Cert.InMbIdeal.main_v8_0)) (v1 : (c : Dev Cert.InMbIdeal.nD) → Buf (Elt Ideal) ((c.tc : Thread Cert.InMbIdeal.nD Cert.InMbIdeal.τ).loc Cert.InMbIdeal.main_v8_1)) (v2 : (c : Dev Cert.InMbIdeal.nD) → Buf (Elt Ideal) ((c.tc : Thread Cert.InMbIdeal.nD Cert.InMbIdeal.τ).loc Cert.InMbIdeal.main_v8_2)),
      θ_run (Cert.InMbIdeal.defs (F := Ideal)) (onTc (τ := Cert.InMbIdeal.τ) (Cert.InMbIdeal.main (F := Ideal))) ⟨m, fun _ => 0, g⟩ (fun r => ∀ c : Dev Cert.InMbIdeal.nD,
          r.2.mem ((c.tc : Thread Cert.InMbIdeal.nD Cert.InMbIdeal.τ).loc Cert.InMbIdeal.main_v8_0) = v0 c
          ∧ r.2.mem ((c.tc : Thread Cert.InMbIdeal.nD Cert.InMbIdeal.τ).loc Cert.InMbIdeal.main_v8_1) = v1 c
          ∧ r.2.mem ((c.tc : Thread Cert.InMbIdeal.nD Cert.InMbIdeal.τ).loc Cert.InMbIdeal.main_v8_2) = v2 c
          ∧ r.2.mem ((c.tc : Thread Cert.InMbIdeal.nD Cert.InMbIdeal.τ).loc Cert.InMbIdeal.main_arg0) = m ((c.tc : Thread Cert.InMbIdeal.nD Cert.InMbIdeal.τ).loc Cert.InMbIdeal.main_arg0)
          ∧ r.2.mem ((c.tc : Thread Cert.InMbIdeal.nD Cert.InMbIdeal.τ).loc Cert.InMbIdeal.main_arg1) = m ((c.tc : Thread Cert.InMbIdeal.nD Cert.InMbIdeal.τ).loc Cert.InMbIdeal.main_arg1)
          ∧ r.2.mem ((c.tc : Thread Cert.InMbIdeal.nD Cert.InMbIdeal.τ).loc Cert.InMbIdeal.main_arg2) = m ((c.tc : Thread Cert.InMbIdeal.nD Cert.InMbIdeal.τ).loc Cert.InMbIdeal.main_arg2)
          ∧ r.2.mem ((c.tc : Thread Cert.InMbIdeal.nD Cert.InMbIdeal.τ).loc Cert.InMbIdeal.main_arg3) = m ((c.tc : Thread Cert.InMbIdeal.nD Cert.InMbIdeal.τ).loc Cert.InMbIdeal.main_arg3))
      ∧ θ_run (Cert.InMbReferenceIdeal.defs (F := Ideal)) (onTc (τ := Cert.InMbReferenceIdeal.τ) (Cert.InMbReferenceIdeal.main (F := Ideal))) ⟨m', fun _ => 0, g'⟩ (fun r => ∀ c : Dev Cert.InMbReferenceIdeal.nD,
          r.2.mem ((c.tc : Thread Cert.InMbReferenceIdeal.nD Cert.InMbReferenceIdeal.τ).loc Cert.InMbReferenceIdeal.main_v37) = v0 c
          ∧ r.2.mem ((c.tc : Thread Cert.InMbReferenceIdeal.nD Cert.InMbReferenceIdeal.τ).loc Cert.InMbReferenceIdeal.main_v36) = v1 c
          ∧ r.2.mem ((c.tc : Thread Cert.InMbReferenceIdeal.nD Cert.InMbReferenceIdeal.τ).loc Cert.InMbReferenceIdeal.main_v40) = v2 c
          ∧ r.2.mem ((c.tc : Thread Cert.InMbReferenceIdeal.nD Cert.InMbReferenceIdeal.τ).loc Cert.InMbReferenceIdeal.main_arg0) = m' ((c.tc : Thread Cert.InMbReferenceIdeal.nD Cert.InMbReferenceIdeal.τ).loc Cert.InMbReferenceIdeal.main_arg0)
          ∧ r.2.mem ((c.tc : Thread Cert.InMbReferenceIdeal.nD Cert.InMbReferenceIdeal.τ).loc Cert.InMbReferenceIdeal.main_arg1) = m' ((c.tc : Thread Cert.InMbReferenceIdeal.nD Cert.InMbReferenceIdeal.τ).loc Cert.InMbReferenceIdeal.main_arg1)
          ∧ r.2.mem ((c.tc : Thread Cert.InMbReferenceIdeal.nD Cert.InMbReferenceIdeal.τ).loc Cert.InMbReferenceIdeal.main_arg2) = m' ((c.tc : Thread Cert.InMbReferenceIdeal.nD Cert.InMbReferenceIdeal.τ).loc Cert.InMbReferenceIdeal.main_arg2)
          ∧ r.2.mem ((c.tc : Thread Cert.InMbReferenceIdeal.nD Cert.InMbReferenceIdeal.τ).loc Cert.InMbReferenceIdeal.main_arg3) = m' ((c.tc : Thread Cert.InMbReferenceIdeal.nD Cert.InMbReferenceIdeal.τ).loc Cert.InMbReferenceIdeal.main_arg3))

def preserves_InRw_InRwIdeal : Prop :=
  True

def algebraic_InRwIdeal_InRwReferenceIdeal [hInRwIdeal : Cert.InRwIdeal.Facts] [hInRwReferenceIdeal : Cert.InRwReferenceIdeal.Facts] : Prop :=
  ∀ (m : (ℓ : Loc Cert.InRwIdeal.nD Cert.InRwIdeal.τ Cert.InRwIdeal.sig) → Buf (Elt Ideal) ℓ) (g : Dev Cert.InRwIdeal.nD → PrngReg)
    (m' : (ℓ : Loc Cert.InRwReferenceIdeal.nD Cert.InRwReferenceIdeal.τ Cert.InRwReferenceIdeal.sig) → Buf (Elt Ideal) ℓ) (g' : Dev Cert.InRwReferenceIdeal.nD → PrngReg), Pre_InRwIdeal m →
    (∀ c : Dev Cert.InRwIdeal.nD,
      m' ((c.tc : Thread Cert.InRwReferenceIdeal.nD Cert.InRwReferenceIdeal.τ).loc Cert.InRwReferenceIdeal.main_arg0) = m ((c.tc : Thread Cert.InRwIdeal.nD Cert.InRwIdeal.τ).loc Cert.InRwIdeal.main_arg0)
      ∧ m' ((c.tc : Thread Cert.InRwReferenceIdeal.nD Cert.InRwReferenceIdeal.τ).loc Cert.InRwReferenceIdeal.main_arg1) = m ((c.tc : Thread Cert.InRwIdeal.nD Cert.InRwIdeal.τ).loc Cert.InRwIdeal.main_arg1)
      ∧ m' ((c.tc : Thread Cert.InRwReferenceIdeal.nD Cert.InRwReferenceIdeal.τ).loc Cert.InRwReferenceIdeal.main_arg2) = m ((c.tc : Thread Cert.InRwIdeal.nD Cert.InRwIdeal.τ).loc Cert.InRwIdeal.main_arg2)
      ∧ m' ((c.tc : Thread Cert.InRwReferenceIdeal.nD Cert.InRwReferenceIdeal.τ).loc Cert.InRwReferenceIdeal.main_arg3) = m ((c.tc : Thread Cert.InRwIdeal.nD Cert.InRwIdeal.τ).loc Cert.InRwIdeal.main_arg3)) →
    ∃ (v0 : (c : Dev Cert.InRwIdeal.nD) → Buf (Elt Ideal) ((c.tc : Thread Cert.InRwIdeal.nD Cert.InRwIdeal.τ).loc Cert.InRwIdeal.main_v12)),
      θ_run (Cert.InRwIdeal.defs (F := Ideal)) (onTc (τ := Cert.InRwIdeal.τ) (Cert.InRwIdeal.main (F := Ideal))) ⟨m, fun _ => 0, g⟩ (fun r => ∀ c : Dev Cert.InRwIdeal.nD,
          r.2.mem ((c.tc : Thread Cert.InRwIdeal.nD Cert.InRwIdeal.τ).loc Cert.InRwIdeal.main_v12) = v0 c
          ∧ r.2.mem ((c.tc : Thread Cert.InRwIdeal.nD Cert.InRwIdeal.τ).loc Cert.InRwIdeal.main_arg0) = m ((c.tc : Thread Cert.InRwIdeal.nD Cert.InRwIdeal.τ).loc Cert.InRwIdeal.main_arg0)
          ∧ r.2.mem ((c.tc : Thread Cert.InRwIdeal.nD Cert.InRwIdeal.τ).loc Cert.InRwIdeal.main_arg1) = m ((c.tc : Thread Cert.InRwIdeal.nD Cert.InRwIdeal.τ).loc Cert.InRwIdeal.main_arg1)
          ∧ r.2.mem ((c.tc : Thread Cert.InRwIdeal.nD Cert.InRwIdeal.τ).loc Cert.InRwIdeal.main_arg2) = m ((c.tc : Thread Cert.InRwIdeal.nD Cert.InRwIdeal.τ).loc Cert.InRwIdeal.main_arg2)
          ∧ r.2.mem ((c.tc : Thread Cert.InRwIdeal.nD Cert.InRwIdeal.τ).loc Cert.InRwIdeal.main_arg3) = m ((c.tc : Thread Cert.InRwIdeal.nD Cert.InRwIdeal.τ).loc Cert.InRwIdeal.main_arg3))
      ∧ θ_run (Cert.InRwReferenceIdeal.defs (F := Ideal)) (onTc (τ := Cert.InRwReferenceIdeal.τ) (Cert.InRwReferenceIdeal.main (F := Ideal))) ⟨m', fun _ => 0, g'⟩ (fun r => ∀ c : Dev Cert.InRwReferenceIdeal.nD,
          r.2.mem ((c.tc : Thread Cert.InRwReferenceIdeal.nD Cert.InRwReferenceIdeal.τ).loc Cert.InRwReferenceIdeal.main_v47) = v0 c
          ∧ r.2.mem ((c.tc : Thread Cert.InRwReferenceIdeal.nD Cert.InRwReferenceIdeal.τ).loc Cert.InRwReferenceIdeal.main_arg0) = m' ((c.tc : Thread Cert.InRwReferenceIdeal.nD Cert.InRwReferenceIdeal.τ).loc Cert.InRwReferenceIdeal.main_arg0)
          ∧ r.2.mem ((c.tc : Thread Cert.InRwReferenceIdeal.nD Cert.InRwReferenceIdeal.τ).loc Cert.InRwReferenceIdeal.main_arg1) = m' ((c.tc : Thread Cert.InRwReferenceIdeal.nD Cert.InRwReferenceIdeal.τ).loc Cert.InRwReferenceIdeal.main_arg1)
          ∧ r.2.mem ((c.tc : Thread Cert.InRwReferenceIdeal.nD Cert.InRwReferenceIdeal.τ).loc Cert.InRwReferenceIdeal.main_arg2) = m' ((c.tc : Thread Cert.InRwReferenceIdeal.nD Cert.InRwReferenceIdeal.τ).loc Cert.InRwReferenceIdeal.main_arg2)
          ∧ r.2.mem ((c.tc : Thread Cert.InRwReferenceIdeal.nD Cert.InRwReferenceIdeal.τ).loc Cert.InRwReferenceIdeal.main_arg3) = m' ((c.tc : Thread Cert.InRwReferenceIdeal.nD Cert.InRwReferenceIdeal.τ).loc Cert.InRwReferenceIdeal.main_arg3))

def preserves_InHg_InHgIdeal : Prop :=
  True

def algebraic_InHgIdeal_InHgReferenceIdeal [hInHgIdeal : Cert.InHgIdeal.Facts] [hInHgReferenceIdeal : Cert.InHgReferenceIdeal.Facts] : Prop :=
  ∀ (m : (ℓ : Loc Cert.InHgIdeal.nD Cert.InHgIdeal.τ Cert.InHgIdeal.sig) → Buf (Elt Ideal) ℓ) (g : Dev Cert.InHgIdeal.nD → PrngReg)
    (m' : (ℓ : Loc Cert.InHgReferenceIdeal.nD Cert.InHgReferenceIdeal.τ Cert.InHgReferenceIdeal.sig) → Buf (Elt Ideal) ℓ) (g' : Dev Cert.InHgReferenceIdeal.nD → PrngReg), Pre_InHgIdeal m →
    (∀ c : Dev Cert.InHgIdeal.nD,
      m' ((c.tc : Thread Cert.InHgReferenceIdeal.nD Cert.InHgReferenceIdeal.τ).loc Cert.InHgReferenceIdeal.main_arg0) = m ((c.tc : Thread Cert.InHgIdeal.nD Cert.InHgIdeal.τ).loc Cert.InHgIdeal.main_arg0)
      ∧ m' ((c.tc : Thread Cert.InHgReferenceIdeal.nD Cert.InHgReferenceIdeal.τ).loc Cert.InHgReferenceIdeal.main_arg1) = m ((c.tc : Thread Cert.InHgIdeal.nD Cert.InHgIdeal.τ).loc Cert.InHgIdeal.main_arg1)
      ∧ m' ((c.tc : Thread Cert.InHgReferenceIdeal.nD Cert.InHgReferenceIdeal.τ).loc Cert.InHgReferenceIdeal.main_arg2) = m ((c.tc : Thread Cert.InHgIdeal.nD Cert.InHgIdeal.τ).loc Cert.InHgIdeal.main_arg2)
      ∧ m' ((c.tc : Thread Cert.InHgReferenceIdeal.nD Cert.InHgReferenceIdeal.τ).loc Cert.InHgReferenceIdeal.main_arg3) = m ((c.tc : Thread Cert.InHgIdeal.nD Cert.InHgIdeal.τ).loc Cert.InHgIdeal.main_arg3)
      ∧ m' ((c.tc : Thread Cert.InHgReferenceIdeal.nD Cert.InHgReferenceIdeal.τ).loc Cert.InHgReferenceIdeal.main_arg4) = m ((c.tc : Thread Cert.InHgIdeal.nD Cert.InHgIdeal.τ).loc Cert.InHgIdeal.main_arg4)) →
    ∃ (v0 : (c : Dev Cert.InHgIdeal.nD) → Buf (Elt Ideal) ((c.tc : Thread Cert.InHgIdeal.nD Cert.InHgIdeal.τ).loc Cert.InHgIdeal.main_v8_0)) (v1 : (c : Dev Cert.InHgIdeal.nD) → Buf (Elt Ideal) ((c.tc : Thread Cert.InHgIdeal.nD Cert.InHgIdeal.τ).loc Cert.InHgIdeal.main_v8_1)) (v2 : (c : Dev Cert.InHgIdeal.nD) → Buf (Elt Ideal) ((c.tc : Thread Cert.InHgIdeal.nD Cert.InHgIdeal.τ).loc Cert.InHgIdeal.main_v8_2)) (v3 : (c : Dev Cert.InHgIdeal.nD) → Buf (Elt Ideal) ((c.tc : Thread Cert.InHgIdeal.nD Cert.InHgIdeal.τ).loc Cert.InHgIdeal.main_v8_3)) (v4 : (c : Dev Cert.InHgIdeal.nD) → Buf (Elt Ideal) ((c.tc : Thread Cert.InHgIdeal.nD Cert.InHgIdeal.τ).loc Cert.InHgIdeal.main_v8_4)),
      θ_run (Cert.InHgIdeal.defs (F := Ideal)) (onTc (τ := Cert.InHgIdeal.τ) (Cert.InHgIdeal.main (F := Ideal))) ⟨m, fun _ => 0, g⟩ (fun r => ∀ c : Dev Cert.InHgIdeal.nD,
          r.2.mem ((c.tc : Thread Cert.InHgIdeal.nD Cert.InHgIdeal.τ).loc Cert.InHgIdeal.main_v8_0) = v0 c
          ∧ r.2.mem ((c.tc : Thread Cert.InHgIdeal.nD Cert.InHgIdeal.τ).loc Cert.InHgIdeal.main_v8_1) = v1 c
          ∧ r.2.mem ((c.tc : Thread Cert.InHgIdeal.nD Cert.InHgIdeal.τ).loc Cert.InHgIdeal.main_v8_2) = v2 c
          ∧ r.2.mem ((c.tc : Thread Cert.InHgIdeal.nD Cert.InHgIdeal.τ).loc Cert.InHgIdeal.main_v8_3) = v3 c
          ∧ r.2.mem ((c.tc : Thread Cert.InHgIdeal.nD Cert.InHgIdeal.τ).loc Cert.InHgIdeal.main_v8_4) = v4 c
          ∧ r.2.mem ((c.tc : Thread Cert.InHgIdeal.nD Cert.InHgIdeal.τ).loc Cert.InHgIdeal.main_arg0) = m ((c.tc : Thread Cert.InHgIdeal.nD Cert.InHgIdeal.τ).loc Cert.InHgIdeal.main_arg0)
          ∧ r.2.mem ((c.tc : Thread Cert.InHgIdeal.nD Cert.InHgIdeal.τ).loc Cert.InHgIdeal.main_arg1) = m ((c.tc : Thread Cert.InHgIdeal.nD Cert.InHgIdeal.τ).loc Cert.InHgIdeal.main_arg1)
          ∧ r.2.mem ((c.tc : Thread Cert.InHgIdeal.nD Cert.InHgIdeal.τ).loc Cert.InHgIdeal.main_arg2) = m ((c.tc : Thread Cert.InHgIdeal.nD Cert.InHgIdeal.τ).loc Cert.InHgIdeal.main_arg2)
          ∧ r.2.mem ((c.tc : Thread Cert.InHgIdeal.nD Cert.InHgIdeal.τ).loc Cert.InHgIdeal.main_arg3) = m ((c.tc : Thread Cert.InHgIdeal.nD Cert.InHgIdeal.τ).loc Cert.InHgIdeal.main_arg3)
          ∧ r.2.mem ((c.tc : Thread Cert.InHgIdeal.nD Cert.InHgIdeal.τ).loc Cert.InHgIdeal.main_arg4) = m ((c.tc : Thread Cert.InHgIdeal.nD Cert.InHgIdeal.τ).loc Cert.InHgIdeal.main_arg4))
      ∧ θ_run (Cert.InHgReferenceIdeal.defs (F := Ideal)) (onTc (τ := Cert.InHgReferenceIdeal.τ) (Cert.InHgReferenceIdeal.main (F := Ideal))) ⟨m', fun _ => 0, g'⟩ (fun r => ∀ c : Dev Cert.InHgReferenceIdeal.nD,
          r.2.mem ((c.tc : Thread Cert.InHgReferenceIdeal.nD Cert.InHgReferenceIdeal.τ).loc Cert.InHgReferenceIdeal.main_v32) = v0 c
          ∧ r.2.mem ((c.tc : Thread Cert.InHgReferenceIdeal.nD Cert.InHgReferenceIdeal.τ).loc Cert.InHgReferenceIdeal.main_v60) = v1 c
          ∧ r.2.mem ((c.tc : Thread Cert.InHgReferenceIdeal.nD Cert.InHgReferenceIdeal.τ).loc Cert.InHgReferenceIdeal.main_v72) = v2 c
          ∧ r.2.mem ((c.tc : Thread Cert.InHgReferenceIdeal.nD Cert.InHgReferenceIdeal.τ).loc Cert.InHgReferenceIdeal.main_v34) = v3 c
          ∧ r.2.mem ((c.tc : Thread Cert.InHgReferenceIdeal.nD Cert.InHgReferenceIdeal.τ).loc Cert.InHgReferenceIdeal.main_v35) = v4 c
          ∧ r.2.mem ((c.tc : Thread Cert.InHgReferenceIdeal.nD Cert.InHgReferenceIdeal.τ).loc Cert.InHgReferenceIdeal.main_arg0) = m' ((c.tc : Thread Cert.InHgReferenceIdeal.nD Cert.InHgReferenceIdeal.τ).loc Cert.InHgReferenceIdeal.main_arg0)
          ∧ r.2.mem ((c.tc : Thread Cert.InHgReferenceIdeal.nD Cert.InHgReferenceIdeal.τ).loc Cert.InHgReferenceIdeal.main_arg1) = m' ((c.tc : Thread Cert.InHgReferenceIdeal.nD Cert.InHgReferenceIdeal.τ).loc Cert.InHgReferenceIdeal.main_arg1)
          ∧ r.2.mem ((c.tc : Thread Cert.InHgReferenceIdeal.nD Cert.InHgReferenceIdeal.τ).loc Cert.InHgReferenceIdeal.main_arg2) = m' ((c.tc : Thread Cert.InHgReferenceIdeal.nD Cert.InHgReferenceIdeal.τ).loc Cert.InHgReferenceIdeal.main_arg2)
          ∧ r.2.mem ((c.tc : Thread Cert.InHgReferenceIdeal.nD Cert.InHgReferenceIdeal.τ).loc Cert.InHgReferenceIdeal.main_arg3) = m' ((c.tc : Thread Cert.InHgReferenceIdeal.nD Cert.InHgReferenceIdeal.τ).loc Cert.InHgReferenceIdeal.main_arg3)
          ∧ r.2.mem ((c.tc : Thread Cert.InHgReferenceIdeal.nD Cert.InHgReferenceIdeal.τ).loc Cert.InHgReferenceIdeal.main_arg4) = m' ((c.tc : Thread Cert.InHgReferenceIdeal.nD Cert.InHgReferenceIdeal.τ).loc Cert.InHgReferenceIdeal.main_arg4))

def preserves_OutProj_OutProjIdeal : Prop :=
  True

def algebraic_OutProjIdeal_OutProjReferenceIdeal [hOutProjIdeal : Cert.OutProjIdeal.Facts] [hOutProjReferenceIdeal : Cert.OutProjReferenceIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjReferenceIdeal.nD Cert.OutProjReferenceIdeal.τ Cert.OutProjReferenceIdeal.sig) → Buf (Elt Ideal) ℓ) (g' : Dev Cert.OutProjReferenceIdeal.nD → PrngReg), Pre_OutProjIdeal m →
    (∀ c : Dev Cert.OutProjIdeal.nD,
      m' ((c.tc : Thread Cert.OutProjReferenceIdeal.nD Cert.OutProjReferenceIdeal.τ).loc Cert.OutProjReferenceIdeal.main_arg0) = m ((c.tc : Thread Cert.OutProjIdeal.nD Cert.OutProjIdeal.τ).loc Cert.OutProjIdeal.main_arg0)
      ∧ m' ((c.tc : Thread Cert.OutProjReferenceIdeal.nD Cert.OutProjReferenceIdeal.τ).loc Cert.OutProjReferenceIdeal.main_arg1) = m ((c.tc : Thread Cert.OutProjIdeal.nD Cert.OutProjIdeal.τ).loc Cert.OutProjIdeal.main_arg1)
      ∧ m' ((c.tc : Thread Cert.OutProjReferenceIdeal.nD Cert.OutProjReferenceIdeal.τ).loc Cert.OutProjReferenceIdeal.main_arg2) = m ((c.tc : Thread Cert.OutProjIdeal.nD Cert.OutProjIdeal.τ).loc Cert.OutProjIdeal.main_arg2)
      ∧ m' ((c.tc : Thread Cert.OutProjReferenceIdeal.nD Cert.OutProjReferenceIdeal.τ).loc Cert.OutProjReferenceIdeal.main_arg3) = m ((c.tc : Thread Cert.OutProjIdeal.nD Cert.OutProjIdeal.τ).loc Cert.OutProjIdeal.main_arg3)
      ∧ m' ((c.tc : Thread Cert.OutProjReferenceIdeal.nD Cert.OutProjReferenceIdeal.τ).loc Cert.OutProjReferenceIdeal.main_arg4) = m ((c.tc : Thread Cert.OutProjIdeal.nD Cert.OutProjIdeal.τ).loc Cert.OutProjIdeal.main_arg4)
      ∧ m' ((c.tc : Thread Cert.OutProjReferenceIdeal.nD Cert.OutProjReferenceIdeal.τ).loc Cert.OutProjReferenceIdeal.main_arg5) = m ((c.tc : Thread Cert.OutProjIdeal.nD Cert.OutProjIdeal.τ).loc Cert.OutProjIdeal.main_arg5)
      ∧ m' ((c.tc : Thread Cert.OutProjReferenceIdeal.nD Cert.OutProjReferenceIdeal.τ).loc Cert.OutProjReferenceIdeal.main_arg6) = m ((c.tc : Thread Cert.OutProjIdeal.nD Cert.OutProjIdeal.τ).loc Cert.OutProjIdeal.main_arg6)
      ∧ m' ((c.tc : Thread Cert.OutProjReferenceIdeal.nD Cert.OutProjReferenceIdeal.τ).loc Cert.OutProjReferenceIdeal.main_arg7) = m ((c.tc : Thread Cert.OutProjIdeal.nD Cert.OutProjIdeal.τ).loc Cert.OutProjIdeal.main_arg7)
      ∧ m' ((c.tc : Thread Cert.OutProjReferenceIdeal.nD Cert.OutProjReferenceIdeal.τ).loc Cert.OutProjReferenceIdeal.main_arg8) = m ((c.tc : Thread Cert.OutProjIdeal.nD Cert.OutProjIdeal.τ).loc Cert.OutProjIdeal.main_arg8)
      ∧ m' ((c.tc : Thread Cert.OutProjReferenceIdeal.nD Cert.OutProjReferenceIdeal.τ).loc Cert.OutProjReferenceIdeal.main_arg9) = m ((c.tc : Thread Cert.OutProjIdeal.nD Cert.OutProjIdeal.τ).loc Cert.OutProjIdeal.main_arg9)
      ∧ m' ((c.tc : Thread Cert.OutProjReferenceIdeal.nD Cert.OutProjReferenceIdeal.τ).loc Cert.OutProjReferenceIdeal.main_arg10) = m ((c.tc : Thread Cert.OutProjIdeal.nD Cert.OutProjIdeal.τ).loc Cert.OutProjIdeal.main_arg10)
      ∧ m' ((c.tc : Thread Cert.OutProjReferenceIdeal.nD Cert.OutProjReferenceIdeal.τ).loc Cert.OutProjReferenceIdeal.main_arg11) = m ((c.tc : Thread Cert.OutProjIdeal.nD Cert.OutProjIdeal.τ).loc Cert.OutProjIdeal.main_arg11)
      ∧ m' ((c.tc : Thread Cert.OutProjReferenceIdeal.nD Cert.OutProjReferenceIdeal.τ).loc Cert.OutProjReferenceIdeal.main_arg12) = m ((c.tc : Thread Cert.OutProjIdeal.nD Cert.OutProjIdeal.τ).loc Cert.OutProjIdeal.main_arg12)
      ∧ m' ((c.tc : Thread Cert.OutProjReferenceIdeal.nD Cert.OutProjReferenceIdeal.τ).loc Cert.OutProjReferenceIdeal.main_arg13) = m ((c.tc : Thread Cert.OutProjIdeal.nD Cert.OutProjIdeal.τ).loc Cert.OutProjIdeal.main_arg13)
      ∧ m' ((c.tc : Thread Cert.OutProjReferenceIdeal.nD Cert.OutProjReferenceIdeal.τ).loc Cert.OutProjReferenceIdeal.main_arg14) = m ((c.tc : Thread Cert.OutProjIdeal.nD Cert.OutProjIdeal.τ).loc Cert.OutProjIdeal.main_arg14)
      ∧ m' ((c.tc : Thread Cert.OutProjReferenceIdeal.nD Cert.OutProjReferenceIdeal.τ).loc Cert.OutProjReferenceIdeal.main_arg15) = m ((c.tc : Thread Cert.OutProjIdeal.nD Cert.OutProjIdeal.τ).loc Cert.OutProjIdeal.main_arg15)) →
    ∃ (v0 : (c : Dev Cert.OutProjIdeal.nD) → Buf (Elt Ideal) ((c.tc : Thread Cert.OutProjIdeal.nD Cert.OutProjIdeal.τ).loc Cert.OutProjIdeal.main_v9)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v9) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
          ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
          ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7)
          ∧ r.2.mem ((c.tc : Thread Cert.OutProjIdeal.nD Cert.OutProjIdeal.τ).loc Cert.OutProjIdeal.main_arg8) = m ((c.tc : Thread Cert.OutProjIdeal.nD Cert.OutProjIdeal.τ).loc Cert.OutProjIdeal.main_arg8)
          ∧ r.2.mem ((c.tc : Thread Cert.OutProjIdeal.nD Cert.OutProjIdeal.τ).loc Cert.OutProjIdeal.main_arg9) = m ((c.tc : Thread Cert.OutProjIdeal.nD Cert.OutProjIdeal.τ).loc Cert.OutProjIdeal.main_arg9)
          ∧ r.2.mem ((c.tc : Thread Cert.OutProjIdeal.nD Cert.OutProjIdeal.τ).loc Cert.OutProjIdeal.main_arg10) = m ((c.tc : Thread Cert.OutProjIdeal.nD Cert.OutProjIdeal.τ).loc Cert.OutProjIdeal.main_arg10)
          ∧ r.2.mem ((c.tc : Thread Cert.OutProjIdeal.nD Cert.OutProjIdeal.τ).loc Cert.OutProjIdeal.main_arg11) = m ((c.tc : Thread Cert.OutProjIdeal.nD Cert.OutProjIdeal.τ).loc Cert.OutProjIdeal.main_arg11)
          ∧ r.2.mem ((c.tc : Thread Cert.OutProjIdeal.nD Cert.OutProjIdeal.τ).loc Cert.OutProjIdeal.main_arg12) = m ((c.tc : Thread Cert.OutProjIdeal.nD Cert.OutProjIdeal.τ).loc Cert.OutProjIdeal.main_arg12)
          ∧ r.2.mem ((c.tc : Thread Cert.OutProjIdeal.nD Cert.OutProjIdeal.τ).loc Cert.OutProjIdeal.main_arg13) = m ((c.tc : Thread Cert.OutProjIdeal.nD Cert.OutProjIdeal.τ).loc Cert.OutProjIdeal.main_arg13)
          ∧ r.2.mem ((c.tc : Thread Cert.OutProjIdeal.nD Cert.OutProjIdeal.τ).loc Cert.OutProjIdeal.main_arg14) = m ((c.tc : Thread Cert.OutProjIdeal.nD Cert.OutProjIdeal.τ).loc Cert.OutProjIdeal.main_arg14)
          ∧ r.2.mem ((c.tc : Thread Cert.OutProjIdeal.nD Cert.OutProjIdeal.τ).loc Cert.OutProjIdeal.main_arg15) = m ((c.tc : Thread Cert.OutProjIdeal.nD Cert.OutProjIdeal.τ).loc Cert.OutProjIdeal.main_arg15))
      ∧ θ_run (Cert.OutProjReferenceIdeal.defs (F := Ideal)) (onTc (τ := Cert.OutProjReferenceIdeal.τ) (Cert.OutProjReferenceIdeal.main (F := Ideal))) ⟨m', fun _ => 0, g'⟩ (fun r => ∀ c : Dev Cert.OutProjReferenceIdeal.nD,
          r.2.mem ((c.tc : Thread Cert.OutProjReferenceIdeal.nD Cert.OutProjReferenceIdeal.τ).loc Cert.OutProjReferenceIdeal.main_v89) = v0 c
          ∧ r.2.mem ((c.tc : Thread Cert.OutProjReferenceIdeal.nD Cert.OutProjReferenceIdeal.τ).loc Cert.OutProjReferenceIdeal.main_arg0) = m' ((c.tc : Thread Cert.OutProjReferenceIdeal.nD Cert.OutProjReferenceIdeal.τ).loc Cert.OutProjReferenceIdeal.main_arg0)
          ∧ r.2.mem ((c.tc : Thread Cert.OutProjReferenceIdeal.nD Cert.OutProjReferenceIdeal.τ).loc Cert.OutProjReferenceIdeal.main_arg1) = m' ((c.tc : Thread Cert.OutProjReferenceIdeal.nD Cert.OutProjReferenceIdeal.τ).loc Cert.OutProjReferenceIdeal.main_arg1)
          ∧ r.2.mem ((c.tc : Thread Cert.OutProjReferenceIdeal.nD Cert.OutProjReferenceIdeal.τ).loc Cert.OutProjReferenceIdeal.main_arg2) = m' ((c.tc : Thread Cert.OutProjReferenceIdeal.nD Cert.OutProjReferenceIdeal.τ).loc Cert.OutProjReferenceIdeal.main_arg2)
          ∧ r.2.mem ((c.tc : Thread Cert.OutProjReferenceIdeal.nD Cert.OutProjReferenceIdeal.τ).loc Cert.OutProjReferenceIdeal.main_arg3) = m' ((c.tc : Thread Cert.OutProjReferenceIdeal.nD Cert.OutProjReferenceIdeal.τ).loc Cert.OutProjReferenceIdeal.main_arg3)
          ∧ r.2.mem ((c.tc : Thread Cert.OutProjReferenceIdeal.nD Cert.OutProjReferenceIdeal.τ).loc Cert.OutProjReferenceIdeal.main_arg4) = m' ((c.tc : Thread Cert.OutProjReferenceIdeal.nD Cert.OutProjReferenceIdeal.τ).loc Cert.OutProjReferenceIdeal.main_arg4)
          ∧ r.2.mem ((c.tc : Thread Cert.OutProjReferenceIdeal.nD Cert.OutProjReferenceIdeal.τ).loc Cert.OutProjReferenceIdeal.main_arg5) = m' ((c.tc : Thread Cert.OutProjReferenceIdeal.nD Cert.OutProjReferenceIdeal.τ).loc Cert.OutProjReferenceIdeal.main_arg5)
          ∧ r.2.mem ((c.tc : Thread Cert.OutProjReferenceIdeal.nD Cert.OutProjReferenceIdeal.τ).loc Cert.OutProjReferenceIdeal.main_arg6) = m' ((c.tc : Thread Cert.OutProjReferenceIdeal.nD Cert.OutProjReferenceIdeal.τ).loc Cert.OutProjReferenceIdeal.main_arg6)
          ∧ r.2.mem ((c.tc : Thread Cert.OutProjReferenceIdeal.nD Cert.OutProjReferenceIdeal.τ).loc Cert.OutProjReferenceIdeal.main_arg7) = m' ((c.tc : Thread Cert.OutProjReferenceIdeal.nD Cert.OutProjReferenceIdeal.τ).loc Cert.OutProjReferenceIdeal.main_arg7)
          ∧ r.2.mem ((c.tc : Thread Cert.OutProjReferenceIdeal.nD Cert.OutProjReferenceIdeal.τ).loc Cert.OutProjReferenceIdeal.main_arg8) = m' ((c.tc : Thread Cert.OutProjReferenceIdeal.nD Cert.OutProjReferenceIdeal.τ).loc Cert.OutProjReferenceIdeal.main_arg8)
          ∧ r.2.mem ((c.tc : Thread Cert.OutProjReferenceIdeal.nD Cert.OutProjReferenceIdeal.τ).loc Cert.OutProjReferenceIdeal.main_arg9) = m' ((c.tc : Thread Cert.OutProjReferenceIdeal.nD Cert.OutProjReferenceIdeal.τ).loc Cert.OutProjReferenceIdeal.main_arg9)
          ∧ r.2.mem ((c.tc : Thread Cert.OutProjReferenceIdeal.nD Cert.OutProjReferenceIdeal.τ).loc Cert.OutProjReferenceIdeal.main_arg10) = m' ((c.tc : Thread Cert.OutProjReferenceIdeal.nD Cert.OutProjReferenceIdeal.τ).loc Cert.OutProjReferenceIdeal.main_arg10)
          ∧ r.2.mem ((c.tc : Thread Cert.OutProjReferenceIdeal.nD Cert.OutProjReferenceIdeal.τ).loc Cert.OutProjReferenceIdeal.main_arg11) = m' ((c.tc : Thread Cert.OutProjReferenceIdeal.nD Cert.OutProjReferenceIdeal.τ).loc Cert.OutProjReferenceIdeal.main_arg11)
          ∧ r.2.mem ((c.tc : Thread Cert.OutProjReferenceIdeal.nD Cert.OutProjReferenceIdeal.τ).loc Cert.OutProjReferenceIdeal.main_arg12) = m' ((c.tc : Thread Cert.OutProjReferenceIdeal.nD Cert.OutProjReferenceIdeal.τ).loc Cert.OutProjReferenceIdeal.main_arg12)
          ∧ r.2.mem ((c.tc : Thread Cert.OutProjReferenceIdeal.nD Cert.OutProjReferenceIdeal.τ).loc Cert.OutProjReferenceIdeal.main_arg13) = m' ((c.tc : Thread Cert.OutProjReferenceIdeal.nD Cert.OutProjReferenceIdeal.τ).loc Cert.OutProjReferenceIdeal.main_arg13)
          ∧ r.2.mem ((c.tc : Thread Cert.OutProjReferenceIdeal.nD Cert.OutProjReferenceIdeal.τ).loc Cert.OutProjReferenceIdeal.main_arg14) = m' ((c.tc : Thread Cert.OutProjReferenceIdeal.nD Cert.OutProjReferenceIdeal.τ).loc Cert.OutProjReferenceIdeal.main_arg14)
          ∧ r.2.mem ((c.tc : Thread Cert.OutProjReferenceIdeal.nD Cert.OutProjReferenceIdeal.τ).loc Cert.OutProjReferenceIdeal.main_arg15) = m' ((c.tc : Thread Cert.OutProjReferenceIdeal.nD Cert.OutProjReferenceIdeal.τ).loc Cert.OutProjReferenceIdeal.main_arg15))

def preserves_RecHg_RecHgIdeal : Prop :=
  True

def algebraic_RecHgIdeal_RecHgReferenceIdeal [hRecHgIdeal : Cert.RecHgIdeal.Facts] [hRecHgReferenceIdeal : Cert.RecHgReferenceIdeal.Facts] : Prop :=
  ∀ (m : (ℓ : Loc Cert.RecHgIdeal.nD Cert.RecHgIdeal.τ Cert.RecHgIdeal.sig) → Buf (Elt Ideal) ℓ) (g : Dev Cert.RecHgIdeal.nD → PrngReg)
    (m' : (ℓ : Loc Cert.RecHgReferenceIdeal.nD Cert.RecHgReferenceIdeal.τ Cert.RecHgReferenceIdeal.sig) → Buf (Elt Ideal) ℓ) (g' : Dev Cert.RecHgReferenceIdeal.nD → PrngReg), Pre_RecHgIdeal m →
    (∀ c : Dev Cert.RecHgIdeal.nD,
      m' ((c.tc : Thread Cert.RecHgReferenceIdeal.nD Cert.RecHgReferenceIdeal.τ).loc Cert.RecHgReferenceIdeal.main_arg0) = m ((c.tc : Thread Cert.RecHgIdeal.nD Cert.RecHgIdeal.τ).loc Cert.RecHgIdeal.main_arg0)
      ∧ m' ((c.tc : Thread Cert.RecHgReferenceIdeal.nD Cert.RecHgReferenceIdeal.τ).loc Cert.RecHgReferenceIdeal.main_arg1) = m ((c.tc : Thread Cert.RecHgIdeal.nD Cert.RecHgIdeal.τ).loc Cert.RecHgIdeal.main_arg1)
      ∧ m' ((c.tc : Thread Cert.RecHgReferenceIdeal.nD Cert.RecHgReferenceIdeal.τ).loc Cert.RecHgReferenceIdeal.main_arg2) = m ((c.tc : Thread Cert.RecHgIdeal.nD Cert.RecHgIdeal.τ).loc Cert.RecHgIdeal.main_arg2)
      ∧ m' ((c.tc : Thread Cert.RecHgReferenceIdeal.nD Cert.RecHgReferenceIdeal.τ).loc Cert.RecHgReferenceIdeal.main_arg3) = m ((c.tc : Thread Cert.RecHgIdeal.nD Cert.RecHgIdeal.τ).loc Cert.RecHgIdeal.main_arg3)
      ∧ m' ((c.tc : Thread Cert.RecHgReferenceIdeal.nD Cert.RecHgReferenceIdeal.τ).loc Cert.RecHgReferenceIdeal.main_arg4) = m ((c.tc : Thread Cert.RecHgIdeal.nD Cert.RecHgIdeal.τ).loc Cert.RecHgIdeal.main_arg4)) →
    ∃ (v0 : (c : Dev Cert.RecHgIdeal.nD) → Buf (Elt Ideal) ((c.tc : Thread Cert.RecHgIdeal.nD Cert.RecHgIdeal.τ).loc Cert.RecHgIdeal.main_v7_0)) (v1 : (c : Dev Cert.RecHgIdeal.nD) → Buf (Elt Ideal) ((c.tc : Thread Cert.RecHgIdeal.nD Cert.RecHgIdeal.τ).loc Cert.RecHgIdeal.main_v7_1)),
      θ_run (Cert.RecHgIdeal.defs (F := Ideal)) (onTc (τ := Cert.RecHgIdeal.τ) (Cert.RecHgIdeal.main (F := Ideal))) ⟨m, fun _ => 0, g⟩ (fun r => ∀ c : Dev Cert.RecHgIdeal.nD,
          r.2.mem ((c.tc : Thread Cert.RecHgIdeal.nD Cert.RecHgIdeal.τ).loc Cert.RecHgIdeal.main_v7_0) = v0 c
          ∧ r.2.mem ((c.tc : Thread Cert.RecHgIdeal.nD Cert.RecHgIdeal.τ).loc Cert.RecHgIdeal.main_v7_1) = v1 c
          ∧ r.2.mem ((c.tc : Thread Cert.RecHgIdeal.nD Cert.RecHgIdeal.τ).loc Cert.RecHgIdeal.main_arg0) = m ((c.tc : Thread Cert.RecHgIdeal.nD Cert.RecHgIdeal.τ).loc Cert.RecHgIdeal.main_arg0)
          ∧ r.2.mem ((c.tc : Thread Cert.RecHgIdeal.nD Cert.RecHgIdeal.τ).loc Cert.RecHgIdeal.main_arg1) = m ((c.tc : Thread Cert.RecHgIdeal.nD Cert.RecHgIdeal.τ).loc Cert.RecHgIdeal.main_arg1)
          ∧ r.2.mem ((c.tc : Thread Cert.RecHgIdeal.nD Cert.RecHgIdeal.τ).loc Cert.RecHgIdeal.main_arg2) = m ((c.tc : Thread Cert.RecHgIdeal.nD Cert.RecHgIdeal.τ).loc Cert.RecHgIdeal.main_arg2)
          ∧ r.2.mem ((c.tc : Thread Cert.RecHgIdeal.nD Cert.RecHgIdeal.τ).loc Cert.RecHgIdeal.main_arg3) = m ((c.tc : Thread Cert.RecHgIdeal.nD Cert.RecHgIdeal.τ).loc Cert.RecHgIdeal.main_arg3)
          ∧ r.2.mem ((c.tc : Thread Cert.RecHgIdeal.nD Cert.RecHgIdeal.τ).loc Cert.RecHgIdeal.main_arg4) = m ((c.tc : Thread Cert.RecHgIdeal.nD Cert.RecHgIdeal.τ).loc Cert.RecHgIdeal.main_arg4))
      ∧ θ_run (Cert.RecHgReferenceIdeal.defs (F := Ideal)) (onTc (τ := Cert.RecHgReferenceIdeal.τ) (Cert.RecHgReferenceIdeal.main (F := Ideal))) ⟨m', fun _ => 0, g'⟩ (fun r => ∀ c : Dev Cert.RecHgReferenceIdeal.nD,
          r.2.mem ((c.tc : Thread Cert.RecHgReferenceIdeal.nD Cert.RecHgReferenceIdeal.τ).loc Cert.RecHgReferenceIdeal.main_v15) = v0 c
          ∧ r.2.mem ((c.tc : Thread Cert.RecHgReferenceIdeal.nD Cert.RecHgReferenceIdeal.τ).loc Cert.RecHgReferenceIdeal.main_v16) = v1 c
          ∧ r.2.mem ((c.tc : Thread Cert.RecHgReferenceIdeal.nD Cert.RecHgReferenceIdeal.τ).loc Cert.RecHgReferenceIdeal.main_arg0) = m' ((c.tc : Thread Cert.RecHgReferenceIdeal.nD Cert.RecHgReferenceIdeal.τ).loc Cert.RecHgReferenceIdeal.main_arg0)
          ∧ r.2.mem ((c.tc : Thread Cert.RecHgReferenceIdeal.nD Cert.RecHgReferenceIdeal.τ).loc Cert.RecHgReferenceIdeal.main_arg1) = m' ((c.tc : Thread Cert.RecHgReferenceIdeal.nD Cert.RecHgReferenceIdeal.τ).loc Cert.RecHgReferenceIdeal.main_arg1)
          ∧ r.2.mem ((c.tc : Thread Cert.RecHgReferenceIdeal.nD Cert.RecHgReferenceIdeal.τ).loc Cert.RecHgReferenceIdeal.main_arg2) = m' ((c.tc : Thread Cert.RecHgReferenceIdeal.nD Cert.RecHgReferenceIdeal.τ).loc Cert.RecHgReferenceIdeal.main_arg2)
          ∧ r.2.mem ((c.tc : Thread Cert.RecHgReferenceIdeal.nD Cert.RecHgReferenceIdeal.τ).loc Cert.RecHgReferenceIdeal.main_arg3) = m' ((c.tc : Thread Cert.RecHgReferenceIdeal.nD Cert.RecHgReferenceIdeal.τ).loc Cert.RecHgReferenceIdeal.main_arg3)
          ∧ r.2.mem ((c.tc : Thread Cert.RecHgReferenceIdeal.nD Cert.RecHgReferenceIdeal.τ).loc Cert.RecHgReferenceIdeal.main_arg4) = m' ((c.tc : Thread Cert.RecHgReferenceIdeal.nD Cert.RecHgReferenceIdeal.τ).loc Cert.RecHgReferenceIdeal.main_arg4))

def preserves_RecMb_RecMbIdeal : Prop :=
  True

def algebraic_RecMbIdeal_RecMbReferenceIdeal [hRecMbIdeal : Cert.RecMbIdeal.Facts] [hRecMbReferenceIdeal : Cert.RecMbReferenceIdeal.Facts] : Prop :=
  ∀ (m : (ℓ : Loc Cert.RecMbIdeal.nD Cert.RecMbIdeal.τ Cert.RecMbIdeal.sig) → Buf (Elt Ideal) ℓ) (g : Dev Cert.RecMbIdeal.nD → PrngReg)
    (m' : (ℓ : Loc Cert.RecMbReferenceIdeal.nD Cert.RecMbReferenceIdeal.τ Cert.RecMbReferenceIdeal.sig) → Buf (Elt Ideal) ℓ) (g' : Dev Cert.RecMbReferenceIdeal.nD → PrngReg), Pre_RecMbIdeal m →
    (∀ c : Dev Cert.RecMbIdeal.nD,
      m' ((c.tc : Thread Cert.RecMbReferenceIdeal.nD Cert.RecMbReferenceIdeal.τ).loc Cert.RecMbReferenceIdeal.main_arg0) = m ((c.tc : Thread Cert.RecMbIdeal.nD Cert.RecMbIdeal.τ).loc Cert.RecMbIdeal.main_arg0)
      ∧ m' ((c.tc : Thread Cert.RecMbReferenceIdeal.nD Cert.RecMbReferenceIdeal.τ).loc Cert.RecMbReferenceIdeal.main_arg1) = m ((c.tc : Thread Cert.RecMbIdeal.nD Cert.RecMbIdeal.τ).loc Cert.RecMbIdeal.main_arg1)
      ∧ m' ((c.tc : Thread Cert.RecMbReferenceIdeal.nD Cert.RecMbReferenceIdeal.τ).loc Cert.RecMbReferenceIdeal.main_arg2) = m ((c.tc : Thread Cert.RecMbIdeal.nD Cert.RecMbIdeal.τ).loc Cert.RecMbIdeal.main_arg2)
      ∧ m' ((c.tc : Thread Cert.RecMbReferenceIdeal.nD Cert.RecMbReferenceIdeal.τ).loc Cert.RecMbReferenceIdeal.main_arg3) = m ((c.tc : Thread Cert.RecMbIdeal.nD Cert.RecMbIdeal.τ).loc Cert.RecMbIdeal.main_arg3)
      ∧ m' ((c.tc : Thread Cert.RecMbReferenceIdeal.nD Cert.RecMbReferenceIdeal.τ).loc Cert.RecMbReferenceIdeal.main_arg4) = m ((c.tc : Thread Cert.RecMbIdeal.nD Cert.RecMbIdeal.τ).loc Cert.RecMbIdeal.main_arg4)) →
    ∃ (v0 : (c : Dev Cert.RecMbIdeal.nD) → Buf (Elt Ideal) ((c.tc : Thread Cert.RecMbIdeal.nD Cert.RecMbIdeal.τ).loc Cert.RecMbIdeal.main_v6_0)) (v1 : (c : Dev Cert.RecMbIdeal.nD) → Buf (Elt Ideal) ((c.tc : Thread Cert.RecMbIdeal.nD Cert.RecMbIdeal.τ).loc Cert.RecMbIdeal.main_v6_1)),
      θ_run (Cert.RecMbIdeal.defs (F := Ideal)) (onTc (τ := Cert.RecMbIdeal.τ) (Cert.RecMbIdeal.main (F := Ideal))) ⟨m, fun _ => 0, g⟩ (fun r => ∀ c : Dev Cert.RecMbIdeal.nD,
          r.2.mem ((c.tc : Thread Cert.RecMbIdeal.nD Cert.RecMbIdeal.τ).loc Cert.RecMbIdeal.main_v6_0) = v0 c
          ∧ r.2.mem ((c.tc : Thread Cert.RecMbIdeal.nD Cert.RecMbIdeal.τ).loc Cert.RecMbIdeal.main_v6_1) = v1 c
          ∧ r.2.mem ((c.tc : Thread Cert.RecMbIdeal.nD Cert.RecMbIdeal.τ).loc Cert.RecMbIdeal.main_arg0) = m ((c.tc : Thread Cert.RecMbIdeal.nD Cert.RecMbIdeal.τ).loc Cert.RecMbIdeal.main_arg0)
          ∧ r.2.mem ((c.tc : Thread Cert.RecMbIdeal.nD Cert.RecMbIdeal.τ).loc Cert.RecMbIdeal.main_arg1) = m ((c.tc : Thread Cert.RecMbIdeal.nD Cert.RecMbIdeal.τ).loc Cert.RecMbIdeal.main_arg1)
          ∧ r.2.mem ((c.tc : Thread Cert.RecMbIdeal.nD Cert.RecMbIdeal.τ).loc Cert.RecMbIdeal.main_arg2) = m ((c.tc : Thread Cert.RecMbIdeal.nD Cert.RecMbIdeal.τ).loc Cert.RecMbIdeal.main_arg2)
          ∧ r.2.mem ((c.tc : Thread Cert.RecMbIdeal.nD Cert.RecMbIdeal.τ).loc Cert.RecMbIdeal.main_arg3) = m ((c.tc : Thread Cert.RecMbIdeal.nD Cert.RecMbIdeal.τ).loc Cert.RecMbIdeal.main_arg3)
          ∧ r.2.mem ((c.tc : Thread Cert.RecMbIdeal.nD Cert.RecMbIdeal.τ).loc Cert.RecMbIdeal.main_arg4) = m ((c.tc : Thread Cert.RecMbIdeal.nD Cert.RecMbIdeal.τ).loc Cert.RecMbIdeal.main_arg4))
      ∧ θ_run (Cert.RecMbReferenceIdeal.defs (F := Ideal)) (onTc (τ := Cert.RecMbReferenceIdeal.τ) (Cert.RecMbReferenceIdeal.main (F := Ideal))) ⟨m', fun _ => 0, g'⟩ (fun r => ∀ c : Dev Cert.RecMbReferenceIdeal.nD,
          r.2.mem ((c.tc : Thread Cert.RecMbReferenceIdeal.nD Cert.RecMbReferenceIdeal.τ).loc Cert.RecMbReferenceIdeal.main_v19) = v0 c
          ∧ r.2.mem ((c.tc : Thread Cert.RecMbReferenceIdeal.nD Cert.RecMbReferenceIdeal.τ).loc Cert.RecMbReferenceIdeal.main_v16) = v1 c
          ∧ r.2.mem ((c.tc : Thread Cert.RecMbReferenceIdeal.nD Cert.RecMbReferenceIdeal.τ).loc Cert.RecMbReferenceIdeal.main_arg0) = m' ((c.tc : Thread Cert.RecMbReferenceIdeal.nD Cert.RecMbReferenceIdeal.τ).loc Cert.RecMbReferenceIdeal.main_arg0)
          ∧ r.2.mem ((c.tc : Thread Cert.RecMbReferenceIdeal.nD Cert.RecMbReferenceIdeal.τ).loc Cert.RecMbReferenceIdeal.main_arg1) = m' ((c.tc : Thread Cert.RecMbReferenceIdeal.nD Cert.RecMbReferenceIdeal.τ).loc Cert.RecMbReferenceIdeal.main_arg1)
          ∧ r.2.mem ((c.tc : Thread Cert.RecMbReferenceIdeal.nD Cert.RecMbReferenceIdeal.τ).loc Cert.RecMbReferenceIdeal.main_arg2) = m' ((c.tc : Thread Cert.RecMbReferenceIdeal.nD Cert.RecMbReferenceIdeal.τ).loc Cert.RecMbReferenceIdeal.main_arg2)
          ∧ r.2.mem ((c.tc : Thread Cert.RecMbReferenceIdeal.nD Cert.RecMbReferenceIdeal.τ).loc Cert.RecMbReferenceIdeal.main_arg3) = m' ((c.tc : Thread Cert.RecMbReferenceIdeal.nD Cert.RecMbReferenceIdeal.τ).loc Cert.RecMbReferenceIdeal.main_arg3)
          ∧ r.2.mem ((c.tc : Thread Cert.RecMbReferenceIdeal.nD Cert.RecMbReferenceIdeal.τ).loc Cert.RecMbReferenceIdeal.main_arg4) = m' ((c.tc : Thread Cert.RecMbReferenceIdeal.nD Cert.RecMbReferenceIdeal.τ).loc Cert.RecMbReferenceIdeal.main_arg4))

def preserves_FfnStep_FfnStepIdeal : Prop :=
  True

def algebraic_FfnStepIdeal_FfnStepReferenceIdeal [hFfnStepIdeal : Cert.FfnStepIdeal.Facts] [hFfnStepReferenceIdeal : Cert.FfnStepReferenceIdeal.Facts] : Prop :=
  ∀ (m : (ℓ : Loc Cert.FfnStepIdeal.nD Cert.FfnStepIdeal.τ Cert.FfnStepIdeal.sig) → Buf (Elt Ideal) ℓ) (g : Dev Cert.FfnStepIdeal.nD → PrngReg)
    (m' : (ℓ : Loc Cert.FfnStepReferenceIdeal.nD Cert.FfnStepReferenceIdeal.τ Cert.FfnStepReferenceIdeal.sig) → Buf (Elt Ideal) ℓ) (g' : Dev Cert.FfnStepReferenceIdeal.nD → PrngReg), Pre_FfnStepIdeal m →
    (∀ c : Dev Cert.FfnStepIdeal.nD,
      m' ((c.tc : Thread Cert.FfnStepReferenceIdeal.nD Cert.FfnStepReferenceIdeal.τ).loc Cert.FfnStepReferenceIdeal.main_arg0) = m ((c.tc : Thread Cert.FfnStepIdeal.nD Cert.FfnStepIdeal.τ).loc Cert.FfnStepIdeal.main_arg0)
      ∧ m' ((c.tc : Thread Cert.FfnStepReferenceIdeal.nD Cert.FfnStepReferenceIdeal.τ).loc Cert.FfnStepReferenceIdeal.main_arg1) = m ((c.tc : Thread Cert.FfnStepIdeal.nD Cert.FfnStepIdeal.τ).loc Cert.FfnStepIdeal.main_arg1)
      ∧ m' ((c.tc : Thread Cert.FfnStepReferenceIdeal.nD Cert.FfnStepReferenceIdeal.τ).loc Cert.FfnStepReferenceIdeal.main_arg2) = m ((c.tc : Thread Cert.FfnStepIdeal.nD Cert.FfnStepIdeal.τ).loc Cert.FfnStepIdeal.main_arg2)
      ∧ m' ((c.tc : Thread Cert.FfnStepReferenceIdeal.nD Cert.FfnStepReferenceIdeal.τ).loc Cert.FfnStepReferenceIdeal.main_arg3) = m ((c.tc : Thread Cert.FfnStepIdeal.nD Cert.FfnStepIdeal.τ).loc Cert.FfnStepIdeal.main_arg3)
      ∧ m' ((c.tc : Thread Cert.FfnStepReferenceIdeal.nD Cert.FfnStepReferenceIdeal.τ).loc Cert.FfnStepReferenceIdeal.main_arg4) = m ((c.tc : Thread Cert.FfnStepIdeal.nD Cert.FfnStepIdeal.τ).loc Cert.FfnStepIdeal.main_arg4)
      ∧ m' ((c.tc : Thread Cert.FfnStepReferenceIdeal.nD Cert.FfnStepReferenceIdeal.τ).loc Cert.FfnStepReferenceIdeal.main_arg5) = m ((c.tc : Thread Cert.FfnStepIdeal.nD Cert.FfnStepIdeal.τ).loc Cert.FfnStepIdeal.main_arg5)
      ∧ m' ((c.tc : Thread Cert.FfnStepReferenceIdeal.nD Cert.FfnStepReferenceIdeal.τ).loc Cert.FfnStepReferenceIdeal.main_arg6) = m ((c.tc : Thread Cert.FfnStepIdeal.nD Cert.FfnStepIdeal.τ).loc Cert.FfnStepIdeal.main_arg6)) →
    ∃ (v0 : (c : Dev Cert.FfnStepIdeal.nD) → Buf (Elt Ideal) ((c.tc : Thread Cert.FfnStepIdeal.nD Cert.FfnStepIdeal.τ).loc Cert.FfnStepIdeal.main_v7)),
      θ_run (Cert.FfnStepIdeal.defs (F := Ideal)) (onTc (τ := Cert.FfnStepIdeal.τ) (Cert.FfnStepIdeal.main (F := Ideal))) ⟨m, fun _ => 0, g⟩ (fun r => ∀ c : Dev Cert.FfnStepIdeal.nD,
          r.2.mem ((c.tc : Thread Cert.FfnStepIdeal.nD Cert.FfnStepIdeal.τ).loc Cert.FfnStepIdeal.main_v7) = v0 c
          ∧ r.2.mem ((c.tc : Thread Cert.FfnStepIdeal.nD Cert.FfnStepIdeal.τ).loc Cert.FfnStepIdeal.main_arg0) = m ((c.tc : Thread Cert.FfnStepIdeal.nD Cert.FfnStepIdeal.τ).loc Cert.FfnStepIdeal.main_arg0)
          ∧ r.2.mem ((c.tc : Thread Cert.FfnStepIdeal.nD Cert.FfnStepIdeal.τ).loc Cert.FfnStepIdeal.main_arg1) = m ((c.tc : Thread Cert.FfnStepIdeal.nD Cert.FfnStepIdeal.τ).loc Cert.FfnStepIdeal.main_arg1)
          ∧ r.2.mem ((c.tc : Thread Cert.FfnStepIdeal.nD Cert.FfnStepIdeal.τ).loc Cert.FfnStepIdeal.main_arg2) = m ((c.tc : Thread Cert.FfnStepIdeal.nD Cert.FfnStepIdeal.τ).loc Cert.FfnStepIdeal.main_arg2)
          ∧ r.2.mem ((c.tc : Thread Cert.FfnStepIdeal.nD Cert.FfnStepIdeal.τ).loc Cert.FfnStepIdeal.main_arg3) = m ((c.tc : Thread Cert.FfnStepIdeal.nD Cert.FfnStepIdeal.τ).loc Cert.FfnStepIdeal.main_arg3)
          ∧ r.2.mem ((c.tc : Thread Cert.FfnStepIdeal.nD Cert.FfnStepIdeal.τ).loc Cert.FfnStepIdeal.main_arg4) = m ((c.tc : Thread Cert.FfnStepIdeal.nD Cert.FfnStepIdeal.τ).loc Cert.FfnStepIdeal.main_arg4)
          ∧ r.2.mem ((c.tc : Thread Cert.FfnStepIdeal.nD Cert.FfnStepIdeal.τ).loc Cert.FfnStepIdeal.main_arg5) = m ((c.tc : Thread Cert.FfnStepIdeal.nD Cert.FfnStepIdeal.τ).loc Cert.FfnStepIdeal.main_arg5)
          ∧ r.2.mem ((c.tc : Thread Cert.FfnStepIdeal.nD Cert.FfnStepIdeal.τ).loc Cert.FfnStepIdeal.main_arg6) = m ((c.tc : Thread Cert.FfnStepIdeal.nD Cert.FfnStepIdeal.τ).loc Cert.FfnStepIdeal.main_arg6))
      ∧ θ_run (Cert.FfnStepReferenceIdeal.defs (F := Ideal)) (onTc (τ := Cert.FfnStepReferenceIdeal.τ) (Cert.FfnStepReferenceIdeal.main (F := Ideal))) ⟨m', fun _ => 0, g'⟩ (fun r => ∀ c : Dev Cert.FfnStepReferenceIdeal.nD,
          r.2.mem ((c.tc : Thread Cert.FfnStepReferenceIdeal.nD Cert.FfnStepReferenceIdeal.τ).loc Cert.FfnStepReferenceIdeal.main_v49) = v0 c
          ∧ r.2.mem ((c.tc : Thread Cert.FfnStepReferenceIdeal.nD Cert.FfnStepReferenceIdeal.τ).loc Cert.FfnStepReferenceIdeal.main_arg0) = m' ((c.tc : Thread Cert.FfnStepReferenceIdeal.nD Cert.FfnStepReferenceIdeal.τ).loc Cert.FfnStepReferenceIdeal.main_arg0)
          ∧ r.2.mem ((c.tc : Thread Cert.FfnStepReferenceIdeal.nD Cert.FfnStepReferenceIdeal.τ).loc Cert.FfnStepReferenceIdeal.main_arg1) = m' ((c.tc : Thread Cert.FfnStepReferenceIdeal.nD Cert.FfnStepReferenceIdeal.τ).loc Cert.FfnStepReferenceIdeal.main_arg1)
          ∧ r.2.mem ((c.tc : Thread Cert.FfnStepReferenceIdeal.nD Cert.FfnStepReferenceIdeal.τ).loc Cert.FfnStepReferenceIdeal.main_arg2) = m' ((c.tc : Thread Cert.FfnStepReferenceIdeal.nD Cert.FfnStepReferenceIdeal.τ).loc Cert.FfnStepReferenceIdeal.main_arg2)
          ∧ r.2.mem ((c.tc : Thread Cert.FfnStepReferenceIdeal.nD Cert.FfnStepReferenceIdeal.τ).loc Cert.FfnStepReferenceIdeal.main_arg3) = m' ((c.tc : Thread Cert.FfnStepReferenceIdeal.nD Cert.FfnStepReferenceIdeal.τ).loc Cert.FfnStepReferenceIdeal.main_arg3)
          ∧ r.2.mem ((c.tc : Thread Cert.FfnStepReferenceIdeal.nD Cert.FfnStepReferenceIdeal.τ).loc Cert.FfnStepReferenceIdeal.main_arg4) = m' ((c.tc : Thread Cert.FfnStepReferenceIdeal.nD Cert.FfnStepReferenceIdeal.τ).loc Cert.FfnStepReferenceIdeal.main_arg4)
          ∧ r.2.mem ((c.tc : Thread Cert.FfnStepReferenceIdeal.nD Cert.FfnStepReferenceIdeal.τ).loc Cert.FfnStepReferenceIdeal.main_arg5) = m' ((c.tc : Thread Cert.FfnStepReferenceIdeal.nD Cert.FfnStepReferenceIdeal.τ).loc Cert.FfnStepReferenceIdeal.main_arg5)
          ∧ r.2.mem ((c.tc : Thread Cert.FfnStepReferenceIdeal.nD Cert.FfnStepReferenceIdeal.τ).loc Cert.FfnStepReferenceIdeal.main_arg6) = m' ((c.tc : Thread Cert.FfnStepReferenceIdeal.nD Cert.FfnStepReferenceIdeal.τ).loc Cert.FfnStepReferenceIdeal.main_arg6))

def preserves_InMbStep_InMbStepIdeal : Prop :=
  True

def algebraic_InMbStepIdeal_InMbStepReferenceIdeal [hInMbStepIdeal : Cert.InMbStepIdeal.Facts] [hInMbStepReferenceIdeal : Cert.InMbStepReferenceIdeal.Facts] : Prop :=
  ∀ (m : (ℓ : Loc Cert.InMbStepIdeal.nD Cert.InMbStepIdeal.τ Cert.InMbStepIdeal.sig) → Buf (Elt Ideal) ℓ) (g : Dev Cert.InMbStepIdeal.nD → PrngReg)
    (m' : (ℓ : Loc Cert.InMbStepReferenceIdeal.nD Cert.InMbStepReferenceIdeal.τ Cert.InMbStepReferenceIdeal.sig) → Buf (Elt Ideal) ℓ) (g' : Dev Cert.InMbStepReferenceIdeal.nD → PrngReg), Pre_InMbStepIdeal m →
    (∀ c : Dev Cert.InMbStepIdeal.nD,
      m' ((c.tc : Thread Cert.InMbStepReferenceIdeal.nD Cert.InMbStepReferenceIdeal.τ).loc Cert.InMbStepReferenceIdeal.main_arg0) = m ((c.tc : Thread Cert.InMbStepIdeal.nD Cert.InMbStepIdeal.τ).loc Cert.InMbStepIdeal.main_arg0)
      ∧ m' ((c.tc : Thread Cert.InMbStepReferenceIdeal.nD Cert.InMbStepReferenceIdeal.τ).loc Cert.InMbStepReferenceIdeal.main_arg1) = m ((c.tc : Thread Cert.InMbStepIdeal.nD Cert.InMbStepIdeal.τ).loc Cert.InMbStepIdeal.main_arg1)
      ∧ m' ((c.tc : Thread Cert.InMbStepReferenceIdeal.nD Cert.InMbStepReferenceIdeal.τ).loc Cert.InMbStepReferenceIdeal.main_arg2) = m ((c.tc : Thread Cert.InMbStepIdeal.nD Cert.InMbStepIdeal.τ).loc Cert.InMbStepIdeal.main_arg2)
      ∧ m' ((c.tc : Thread Cert.InMbStepReferenceIdeal.nD Cert.InMbStepReferenceIdeal.τ).loc Cert.InMbStepReferenceIdeal.main_arg3) = m ((c.tc : Thread Cert.InMbStepIdeal.nD Cert.InMbStepIdeal.τ).loc Cert.InMbStepIdeal.main_arg3)) →
    ∃ (v0 : (c : Dev Cert.InMbStepIdeal.nD) → Buf (Elt Ideal) ((c.tc : Thread Cert.InMbStepIdeal.nD Cert.InMbStepIdeal.τ).loc Cert.InMbStepIdeal.main_v9_0)) (v1 : (c : Dev Cert.InMbStepIdeal.nD) → Buf (Elt Ideal) ((c.tc : Thread Cert.InMbStepIdeal.nD Cert.InMbStepIdeal.τ).loc Cert.InMbStepIdeal.main_v9_1)) (v2 : (c : Dev Cert.InMbStepIdeal.nD) → Buf (Elt Ideal) ((c.tc : Thread Cert.InMbStepIdeal.nD Cert.InMbStepIdeal.τ).loc Cert.InMbStepIdeal.main_v9_2)),
      θ_run (Cert.InMbStepIdeal.defs (F := Ideal)) (onTc (τ := Cert.InMbStepIdeal.τ) (Cert.InMbStepIdeal.main (F := Ideal))) ⟨m, fun _ => 0, g⟩ (fun r => ∀ c : Dev Cert.InMbStepIdeal.nD,
          r.2.mem ((c.tc : Thread Cert.InMbStepIdeal.nD Cert.InMbStepIdeal.τ).loc Cert.InMbStepIdeal.main_v9_0) = v0 c
          ∧ r.2.mem ((c.tc : Thread Cert.InMbStepIdeal.nD Cert.InMbStepIdeal.τ).loc Cert.InMbStepIdeal.main_v9_1) = v1 c
          ∧ r.2.mem ((c.tc : Thread Cert.InMbStepIdeal.nD Cert.InMbStepIdeal.τ).loc Cert.InMbStepIdeal.main_v9_2) = v2 c
          ∧ r.2.mem ((c.tc : Thread Cert.InMbStepIdeal.nD Cert.InMbStepIdeal.τ).loc Cert.InMbStepIdeal.main_arg0) = m ((c.tc : Thread Cert.InMbStepIdeal.nD Cert.InMbStepIdeal.τ).loc Cert.InMbStepIdeal.main_arg0)
          ∧ r.2.mem ((c.tc : Thread Cert.InMbStepIdeal.nD Cert.InMbStepIdeal.τ).loc Cert.InMbStepIdeal.main_arg1) = m ((c.tc : Thread Cert.InMbStepIdeal.nD Cert.InMbStepIdeal.τ).loc Cert.InMbStepIdeal.main_arg1)
          ∧ r.2.mem ((c.tc : Thread Cert.InMbStepIdeal.nD Cert.InMbStepIdeal.τ).loc Cert.InMbStepIdeal.main_arg2) = m ((c.tc : Thread Cert.InMbStepIdeal.nD Cert.InMbStepIdeal.τ).loc Cert.InMbStepIdeal.main_arg2)
          ∧ r.2.mem ((c.tc : Thread Cert.InMbStepIdeal.nD Cert.InMbStepIdeal.τ).loc Cert.InMbStepIdeal.main_arg3) = m ((c.tc : Thread Cert.InMbStepIdeal.nD Cert.InMbStepIdeal.τ).loc Cert.InMbStepIdeal.main_arg3))
      ∧ θ_run (Cert.InMbStepReferenceIdeal.defs (F := Ideal)) (onTc (τ := Cert.InMbStepReferenceIdeal.τ) (Cert.InMbStepReferenceIdeal.main (F := Ideal))) ⟨m', fun _ => 0, g'⟩ (fun r => ∀ c : Dev Cert.InMbStepReferenceIdeal.nD,
          r.2.mem ((c.tc : Thread Cert.InMbStepReferenceIdeal.nD Cert.InMbStepReferenceIdeal.τ).loc Cert.InMbStepReferenceIdeal.main_v39) = v0 c
          ∧ r.2.mem ((c.tc : Thread Cert.InMbStepReferenceIdeal.nD Cert.InMbStepReferenceIdeal.τ).loc Cert.InMbStepReferenceIdeal.main_v40) = v1 c
          ∧ r.2.mem ((c.tc : Thread Cert.InMbStepReferenceIdeal.nD Cert.InMbStepReferenceIdeal.τ).loc Cert.InMbStepReferenceIdeal.main_v41) = v2 c
          ∧ r.2.mem ((c.tc : Thread Cert.InMbStepReferenceIdeal.nD Cert.InMbStepReferenceIdeal.τ).loc Cert.InMbStepReferenceIdeal.main_arg0) = m' ((c.tc : Thread Cert.InMbStepReferenceIdeal.nD Cert.InMbStepReferenceIdeal.τ).loc Cert.InMbStepReferenceIdeal.main_arg0)
          ∧ r.2.mem ((c.tc : Thread Cert.InMbStepReferenceIdeal.nD Cert.InMbStepReferenceIdeal.τ).loc Cert.InMbStepReferenceIdeal.main_arg1) = m' ((c.tc : Thread Cert.InMbStepReferenceIdeal.nD Cert.InMbStepReferenceIdeal.τ).loc Cert.InMbStepReferenceIdeal.main_arg1)
          ∧ r.2.mem ((c.tc : Thread Cert.InMbStepReferenceIdeal.nD Cert.InMbStepReferenceIdeal.τ).loc Cert.InMbStepReferenceIdeal.main_arg2) = m' ((c.tc : Thread Cert.InMbStepReferenceIdeal.nD Cert.InMbStepReferenceIdeal.τ).loc Cert.InMbStepReferenceIdeal.main_arg2)
          ∧ r.2.mem ((c.tc : Thread Cert.InMbStepReferenceIdeal.nD Cert.InMbStepReferenceIdeal.τ).loc Cert.InMbStepReferenceIdeal.main_arg3) = m' ((c.tc : Thread Cert.InMbStepReferenceIdeal.nD Cert.InMbStepReferenceIdeal.τ).loc Cert.InMbStepReferenceIdeal.main_arg3))

def preserves_InRwStep_InRwStepIdeal : Prop :=
  True

def algebraic_InRwStepIdeal_InRwStepReferenceIdeal [hInRwStepIdeal : Cert.InRwStepIdeal.Facts] [hInRwStepReferenceIdeal : Cert.InRwStepReferenceIdeal.Facts] : Prop :=
  ∀ (m : (ℓ : Loc Cert.InRwStepIdeal.nD Cert.InRwStepIdeal.τ Cert.InRwStepIdeal.sig) → Buf (Elt Ideal) ℓ) (g : Dev Cert.InRwStepIdeal.nD → PrngReg)
    (m' : (ℓ : Loc Cert.InRwStepReferenceIdeal.nD Cert.InRwStepReferenceIdeal.τ Cert.InRwStepReferenceIdeal.sig) → Buf (Elt Ideal) ℓ) (g' : Dev Cert.InRwStepReferenceIdeal.nD → PrngReg), Pre_InRwStepIdeal m →
    (∀ c : Dev Cert.InRwStepIdeal.nD,
      m' ((c.tc : Thread Cert.InRwStepReferenceIdeal.nD Cert.InRwStepReferenceIdeal.τ).loc Cert.InRwStepReferenceIdeal.main_arg0) = m ((c.tc : Thread Cert.InRwStepIdeal.nD Cert.InRwStepIdeal.τ).loc Cert.InRwStepIdeal.main_arg0)
      ∧ m' ((c.tc : Thread Cert.InRwStepReferenceIdeal.nD Cert.InRwStepReferenceIdeal.τ).loc Cert.InRwStepReferenceIdeal.main_arg1) = m ((c.tc : Thread Cert.InRwStepIdeal.nD Cert.InRwStepIdeal.τ).loc Cert.InRwStepIdeal.main_arg1)
      ∧ m' ((c.tc : Thread Cert.InRwStepReferenceIdeal.nD Cert.InRwStepReferenceIdeal.τ).loc Cert.InRwStepReferenceIdeal.main_arg2) = m ((c.tc : Thread Cert.InRwStepIdeal.nD Cert.InRwStepIdeal.τ).loc Cert.InRwStepIdeal.main_arg2)
      ∧ m' ((c.tc : Thread Cert.InRwStepReferenceIdeal.nD Cert.InRwStepReferenceIdeal.τ).loc Cert.InRwStepReferenceIdeal.main_arg3) = m ((c.tc : Thread Cert.InRwStepIdeal.nD Cert.InRwStepIdeal.τ).loc Cert.InRwStepIdeal.main_arg3)) →
    ∃ (v0 : (c : Dev Cert.InRwStepIdeal.nD) → Buf (Elt Ideal) ((c.tc : Thread Cert.InRwStepIdeal.nD Cert.InRwStepIdeal.τ).loc Cert.InRwStepIdeal.main_v13)),
      θ_run (Cert.InRwStepIdeal.defs (F := Ideal)) (onTc (τ := Cert.InRwStepIdeal.τ) (Cert.InRwStepIdeal.main (F := Ideal))) ⟨m, fun _ => 0, g⟩ (fun r => ∀ c : Dev Cert.InRwStepIdeal.nD,
          r.2.mem ((c.tc : Thread Cert.InRwStepIdeal.nD Cert.InRwStepIdeal.τ).loc Cert.InRwStepIdeal.main_v13) = v0 c
          ∧ r.2.mem ((c.tc : Thread Cert.InRwStepIdeal.nD Cert.InRwStepIdeal.τ).loc Cert.InRwStepIdeal.main_arg0) = m ((c.tc : Thread Cert.InRwStepIdeal.nD Cert.InRwStepIdeal.τ).loc Cert.InRwStepIdeal.main_arg0)
          ∧ r.2.mem ((c.tc : Thread Cert.InRwStepIdeal.nD Cert.InRwStepIdeal.τ).loc Cert.InRwStepIdeal.main_arg1) = m ((c.tc : Thread Cert.InRwStepIdeal.nD Cert.InRwStepIdeal.τ).loc Cert.InRwStepIdeal.main_arg1)
          ∧ r.2.mem ((c.tc : Thread Cert.InRwStepIdeal.nD Cert.InRwStepIdeal.τ).loc Cert.InRwStepIdeal.main_arg2) = m ((c.tc : Thread Cert.InRwStepIdeal.nD Cert.InRwStepIdeal.τ).loc Cert.InRwStepIdeal.main_arg2)
          ∧ r.2.mem ((c.tc : Thread Cert.InRwStepIdeal.nD Cert.InRwStepIdeal.τ).loc Cert.InRwStepIdeal.main_arg3) = m ((c.tc : Thread Cert.InRwStepIdeal.nD Cert.InRwStepIdeal.τ).loc Cert.InRwStepIdeal.main_arg3))
      ∧ θ_run (Cert.InRwStepReferenceIdeal.defs (F := Ideal)) (onTc (τ := Cert.InRwStepReferenceIdeal.τ) (Cert.InRwStepReferenceIdeal.main (F := Ideal))) ⟨m', fun _ => 0, g'⟩ (fun r => ∀ c : Dev Cert.InRwStepReferenceIdeal.nD,
          r.2.mem ((c.tc : Thread Cert.InRwStepReferenceIdeal.nD Cert.InRwStepReferenceIdeal.τ).loc Cert.InRwStepReferenceIdeal.main_v46) = v0 c
          ∧ r.2.mem ((c.tc : Thread Cert.InRwStepReferenceIdeal.nD Cert.InRwStepReferenceIdeal.τ).loc Cert.InRwStepReferenceIdeal.main_arg0) = m' ((c.tc : Thread Cert.InRwStepReferenceIdeal.nD Cert.InRwStepReferenceIdeal.τ).loc Cert.InRwStepReferenceIdeal.main_arg0)
          ∧ r.2.mem ((c.tc : Thread Cert.InRwStepReferenceIdeal.nD Cert.InRwStepReferenceIdeal.τ).loc Cert.InRwStepReferenceIdeal.main_arg1) = m' ((c.tc : Thread Cert.InRwStepReferenceIdeal.nD Cert.InRwStepReferenceIdeal.τ).loc Cert.InRwStepReferenceIdeal.main_arg1)
          ∧ r.2.mem ((c.tc : Thread Cert.InRwStepReferenceIdeal.nD Cert.InRwStepReferenceIdeal.τ).loc Cert.InRwStepReferenceIdeal.main_arg2) = m' ((c.tc : Thread Cert.InRwStepReferenceIdeal.nD Cert.InRwStepReferenceIdeal.τ).loc Cert.InRwStepReferenceIdeal.main_arg2)
          ∧ r.2.mem ((c.tc : Thread Cert.InRwStepReferenceIdeal.nD Cert.InRwStepReferenceIdeal.τ).loc Cert.InRwStepReferenceIdeal.main_arg3) = m' ((c.tc : Thread Cert.InRwStepReferenceIdeal.nD Cert.InRwStepReferenceIdeal.τ).loc Cert.InRwStepReferenceIdeal.main_arg3))

def preserves_Ssd_SsdIdeal : Prop :=
  True

def algebraic_SsdIdeal_SsdReferenceIdeal [hSsdIdeal : Cert.SsdIdeal.Facts] [hSsdReferenceIdeal : Cert.SsdReferenceIdeal.Facts] : Prop :=
  ∀ (m : (ℓ : Loc Cert.SsdIdeal.nD Cert.SsdIdeal.τ Cert.SsdIdeal.sig) → Buf (Elt Ideal) ℓ) (g : Dev Cert.SsdIdeal.nD → PrngReg)
    (m' : (ℓ : Loc Cert.SsdReferenceIdeal.nD Cert.SsdReferenceIdeal.τ Cert.SsdReferenceIdeal.sig) → Buf (Elt Ideal) ℓ) (g' : Dev Cert.SsdReferenceIdeal.nD → PrngReg), Pre_SsdIdeal m →
    (∀ c : Dev Cert.SsdIdeal.nD,
      m' ((c.tc : Thread Cert.SsdReferenceIdeal.nD Cert.SsdReferenceIdeal.τ).loc Cert.SsdReferenceIdeal.main_arg0) = m ((c.tc : Thread Cert.SsdIdeal.nD Cert.SsdIdeal.τ).loc Cert.SsdIdeal.main_arg0)
      ∧ m' ((c.tc : Thread Cert.SsdReferenceIdeal.nD Cert.SsdReferenceIdeal.τ).loc Cert.SsdReferenceIdeal.main_arg1) = m ((c.tc : Thread Cert.SsdIdeal.nD Cert.SsdIdeal.τ).loc Cert.SsdIdeal.main_arg1)
      ∧ m' ((c.tc : Thread Cert.SsdReferenceIdeal.nD Cert.SsdReferenceIdeal.τ).loc Cert.SsdReferenceIdeal.main_arg2) = m ((c.tc : Thread Cert.SsdIdeal.nD Cert.SsdIdeal.τ).loc Cert.SsdIdeal.main_arg2)
      ∧ m' ((c.tc : Thread Cert.SsdReferenceIdeal.nD Cert.SsdReferenceIdeal.τ).loc Cert.SsdReferenceIdeal.main_arg3) = m ((c.tc : Thread Cert.SsdIdeal.nD Cert.SsdIdeal.τ).loc Cert.SsdIdeal.main_arg3)) →
    ∃ (v0 : (c : Dev Cert.SsdIdeal.nD) → Buf (Elt Ideal) ((c.tc : Thread Cert.SsdIdeal.nD Cert.SsdIdeal.τ).loc Cert.SsdIdeal.main_v0_0)) (v1 : (c : Dev Cert.SsdIdeal.nD) → Buf (Elt Ideal) ((c.tc : Thread Cert.SsdIdeal.nD Cert.SsdIdeal.τ).loc Cert.SsdIdeal.main_v0_1)),
      θ_run (Cert.SsdIdeal.defs (F := Ideal)) (onTc (τ := Cert.SsdIdeal.τ) (Cert.SsdIdeal.main (F := Ideal))) ⟨m, fun _ => 0, g⟩ (fun r => ∀ c : Dev Cert.SsdIdeal.nD,
          r.2.mem ((c.tc : Thread Cert.SsdIdeal.nD Cert.SsdIdeal.τ).loc Cert.SsdIdeal.main_v0_0) = v0 c
          ∧ r.2.mem ((c.tc : Thread Cert.SsdIdeal.nD Cert.SsdIdeal.τ).loc Cert.SsdIdeal.main_v0_1) = v1 c
          ∧ r.2.mem ((c.tc : Thread Cert.SsdIdeal.nD Cert.SsdIdeal.τ).loc Cert.SsdIdeal.main_arg0) = m ((c.tc : Thread Cert.SsdIdeal.nD Cert.SsdIdeal.τ).loc Cert.SsdIdeal.main_arg0)
          ∧ r.2.mem ((c.tc : Thread Cert.SsdIdeal.nD Cert.SsdIdeal.τ).loc Cert.SsdIdeal.main_arg1) = m ((c.tc : Thread Cert.SsdIdeal.nD Cert.SsdIdeal.τ).loc Cert.SsdIdeal.main_arg1)
          ∧ r.2.mem ((c.tc : Thread Cert.SsdIdeal.nD Cert.SsdIdeal.τ).loc Cert.SsdIdeal.main_arg2) = m ((c.tc : Thread Cert.SsdIdeal.nD Cert.SsdIdeal.τ).loc Cert.SsdIdeal.main_arg2)
          ∧ r.2.mem ((c.tc : Thread Cert.SsdIdeal.nD Cert.SsdIdeal.τ).loc Cert.SsdIdeal.main_arg3) = m ((c.tc : Thread Cert.SsdIdeal.nD Cert.SsdIdeal.τ).loc Cert.SsdIdeal.main_arg3))
      ∧ θ_run (Cert.SsdReferenceIdeal.defs (F := Ideal)) (onTc (τ := Cert.SsdReferenceIdeal.τ) (Cert.SsdReferenceIdeal.main (F := Ideal))) ⟨m', fun _ => 0, g'⟩ (fun r => ∀ c : Dev Cert.SsdReferenceIdeal.nD,
          r.2.mem ((c.tc : Thread Cert.SsdReferenceIdeal.nD Cert.SsdReferenceIdeal.τ).loc Cert.SsdReferenceIdeal.main_v189) = v0 c
          ∧ r.2.mem ((c.tc : Thread Cert.SsdReferenceIdeal.nD Cert.SsdReferenceIdeal.τ).loc Cert.SsdReferenceIdeal.main_v190) = v1 c
          ∧ r.2.mem ((c.tc : Thread Cert.SsdReferenceIdeal.nD Cert.SsdReferenceIdeal.τ).loc Cert.SsdReferenceIdeal.main_arg0) = m' ((c.tc : Thread Cert.SsdReferenceIdeal.nD Cert.SsdReferenceIdeal.τ).loc Cert.SsdReferenceIdeal.main_arg0)
          ∧ r.2.mem ((c.tc : Thread Cert.SsdReferenceIdeal.nD Cert.SsdReferenceIdeal.τ).loc Cert.SsdReferenceIdeal.main_arg1) = m' ((c.tc : Thread Cert.SsdReferenceIdeal.nD Cert.SsdReferenceIdeal.τ).loc Cert.SsdReferenceIdeal.main_arg1)
          ∧ r.2.mem ((c.tc : Thread Cert.SsdReferenceIdeal.nD Cert.SsdReferenceIdeal.τ).loc Cert.SsdReferenceIdeal.main_arg2) = m' ((c.tc : Thread Cert.SsdReferenceIdeal.nD Cert.SsdReferenceIdeal.τ).loc Cert.SsdReferenceIdeal.main_arg2)
          ∧ r.2.mem ((c.tc : Thread Cert.SsdReferenceIdeal.nD Cert.SsdReferenceIdeal.τ).loc Cert.SsdReferenceIdeal.main_arg3) = m' ((c.tc : Thread Cert.SsdReferenceIdeal.nD Cert.SsdReferenceIdeal.τ).loc Cert.SsdReferenceIdeal.main_arg3))

def preserves_Ada_AdaIdeal : Prop :=
  True

def algebraic_AdaIdeal_AdaReferenceIdeal [hAdaIdeal : Cert.AdaIdeal.Facts] [hAdaReferenceIdeal : Cert.AdaReferenceIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaReferenceIdeal.nD Cert.AdaReferenceIdeal.τ Cert.AdaReferenceIdeal.sig) → Buf (Elt Ideal) ℓ) (g' : Dev Cert.AdaReferenceIdeal.nD → PrngReg), Pre_AdaIdeal m →
    (∀ c : Dev Cert.AdaIdeal.nD,
      m' ((c.tc : Thread Cert.AdaReferenceIdeal.nD Cert.AdaReferenceIdeal.τ).loc Cert.AdaReferenceIdeal.main_arg0) = m ((c.tc : Thread Cert.AdaIdeal.nD Cert.AdaIdeal.τ).loc Cert.AdaIdeal.main_arg0)
      ∧ m' ((c.tc : Thread Cert.AdaReferenceIdeal.nD Cert.AdaReferenceIdeal.τ).loc Cert.AdaReferenceIdeal.main_arg1) = m ((c.tc : Thread Cert.AdaIdeal.nD Cert.AdaIdeal.τ).loc Cert.AdaIdeal.main_arg1)
      ∧ m' ((c.tc : Thread Cert.AdaReferenceIdeal.nD Cert.AdaReferenceIdeal.τ).loc Cert.AdaReferenceIdeal.main_arg2) = m ((c.tc : Thread Cert.AdaIdeal.nD Cert.AdaIdeal.τ).loc Cert.AdaIdeal.main_arg2)
      ∧ m' ((c.tc : Thread Cert.AdaReferenceIdeal.nD Cert.AdaReferenceIdeal.τ).loc Cert.AdaReferenceIdeal.main_arg3) = m ((c.tc : Thread Cert.AdaIdeal.nD Cert.AdaIdeal.τ).loc Cert.AdaIdeal.main_arg3)) →
    ∃ (v0 : (c : Dev Cert.AdaIdeal.nD) → Buf (Elt Ideal) ((c.tc : Thread Cert.AdaIdeal.nD Cert.AdaIdeal.τ).loc Cert.AdaIdeal.main_v3)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v3) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
          ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3))
      ∧ θ_run (Cert.AdaReferenceIdeal.defs (F := Ideal)) (onTc (τ := Cert.AdaReferenceIdeal.τ) (Cert.AdaReferenceIdeal.main (F := Ideal))) ⟨m', fun _ => 0, g'⟩ (fun r => ∀ c : Dev Cert.AdaReferenceIdeal.nD,
          r.2.mem ((c.tc : Thread Cert.AdaReferenceIdeal.nD Cert.AdaReferenceIdeal.τ).loc Cert.AdaReferenceIdeal.main_v7) = v0 c
          ∧ r.2.mem ((c.tc : Thread Cert.AdaReferenceIdeal.nD Cert.AdaReferenceIdeal.τ).loc Cert.AdaReferenceIdeal.main_arg0) = m' ((c.tc : Thread Cert.AdaReferenceIdeal.nD Cert.AdaReferenceIdeal.τ).loc Cert.AdaReferenceIdeal.main_arg0)
          ∧ r.2.mem ((c.tc : Thread Cert.AdaReferenceIdeal.nD Cert.AdaReferenceIdeal.τ).loc Cert.AdaReferenceIdeal.main_arg1) = m' ((c.tc : Thread Cert.AdaReferenceIdeal.nD Cert.AdaReferenceIdeal.τ).loc Cert.AdaReferenceIdeal.main_arg1)
          ∧ r.2.mem ((c.tc : Thread Cert.AdaReferenceIdeal.nD Cert.AdaReferenceIdeal.τ).loc Cert.AdaReferenceIdeal.main_arg2) = m' ((c.tc : Thread Cert.AdaReferenceIdeal.nD Cert.AdaReferenceIdeal.τ).loc Cert.AdaReferenceIdeal.main_arg2)
          ∧ r.2.mem ((c.tc : Thread Cert.AdaReferenceIdeal.nD Cert.AdaReferenceIdeal.τ).loc Cert.AdaReferenceIdeal.main_arg3) = m' ((c.tc : Thread Cert.AdaReferenceIdeal.nD Cert.AdaReferenceIdeal.τ).loc Cert.AdaReferenceIdeal.main_arg3))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hInMb : Cert.InMb.Facts) (hInMbIdeal : Cert.InMbIdeal.Facts) (hInMbReferenceIdeal : Cert.InMbReferenceIdeal.Facts) (hInRw : Cert.InRw.Facts) (hInRwIdeal : Cert.InRwIdeal.Facts) (hInRwReferenceIdeal : Cert.InRwReferenceIdeal.Facts) (hInHg : Cert.InHg.Facts) (hInHgIdeal : Cert.InHgIdeal.Facts) (hInHgReferenceIdeal : Cert.InHgReferenceIdeal.Facts) (hOutProj : Cert.OutProj.Facts) (hOutProjIdeal : Cert.OutProjIdeal.Facts) (hOutProjReferenceIdeal : Cert.OutProjReferenceIdeal.Facts) (hRecHg : Cert.RecHg.Facts) (hRecHgIdeal : Cert.RecHgIdeal.Facts) (hRecHgReferenceIdeal : Cert.RecHgReferenceIdeal.Facts) (hRecMb : Cert.RecMb.Facts) (hRecMbIdeal : Cert.RecMbIdeal.Facts) (hRecMbReferenceIdeal : Cert.RecMbReferenceIdeal.Facts) (hFfnStep : Cert.FfnStep.Facts) (hFfnStepIdeal : Cert.FfnStepIdeal.Facts) (hFfnStepReferenceIdeal : Cert.FfnStepReferenceIdeal.Facts) (hInMbStep : Cert.InMbStep.Facts) (hInMbStepIdeal : Cert.InMbStepIdeal.Facts) (hInMbStepReferenceIdeal : Cert.InMbStepReferenceIdeal.Facts) (hInRwStep : Cert.InRwStep.Facts) (hInRwStepIdeal : Cert.InRwStepIdeal.Facts) (hInRwStepReferenceIdeal : Cert.InRwStepReferenceIdeal.Facts) (hSsd : Cert.Ssd.Facts) (hSsdIdeal : Cert.SsdIdeal.Facts) (hSsdReferenceIdeal : Cert.SsdReferenceIdeal.Facts) (hAda : Cert.Ada.Facts) (hAdaIdeal : Cert.AdaIdeal.Facts) (hAdaReferenceIdeal : Cert.AdaReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Ffn (hFfn := hFfn)
    ∧ quiescent_FfnIdeal (hFfnIdeal := hFfnIdeal)
    ∧ quiescent_FfnReferenceIdeal (hFfnReferenceIdeal := hFfnReferenceIdeal)
    ∧ quiescent_InMb (hInMb := hInMb)
    ∧ quiescent_InMbIdeal (hInMbIdeal := hInMbIdeal)
    ∧ quiescent_InMbReferenceIdeal (hInMbReferenceIdeal := hInMbReferenceIdeal)
    ∧ quiescent_InRw (hInRw := hInRw)
    ∧ quiescent_InRwIdeal (hInRwIdeal := hInRwIdeal)
    ∧ quiescent_InRwReferenceIdeal (hInRwReferenceIdeal := hInRwReferenceIdeal)
    ∧ quiescent_InHg (hInHg := hInHg)
    ∧ quiescent_InHgIdeal (hInHgIdeal := hInHgIdeal)
    ∧ quiescent_InHgReferenceIdeal (hInHgReferenceIdeal := hInHgReferenceIdeal)
    ∧ quiescent_OutProj (hOutProj := hOutProj)
    ∧ quiescent_OutProjIdeal (hOutProjIdeal := hOutProjIdeal)
    ∧ quiescent_OutProjReferenceIdeal (hOutProjReferenceIdeal := hOutProjReferenceIdeal)
    ∧ quiescent_RecHg (hRecHg := hRecHg)
    ∧ quiescent_RecHgIdeal (hRecHgIdeal := hRecHgIdeal)
    ∧ quiescent_RecHgReferenceIdeal (hRecHgReferenceIdeal := hRecHgReferenceIdeal)
    ∧ quiescent_RecMb (hRecMb := hRecMb)
    ∧ quiescent_RecMbIdeal (hRecMbIdeal := hRecMbIdeal)
    ∧ quiescent_RecMbReferenceIdeal (hRecMbReferenceIdeal := hRecMbReferenceIdeal)
    ∧ quiescent_FfnStep (hFfnStep := hFfnStep)
    ∧ quiescent_FfnStepIdeal (hFfnStepIdeal := hFfnStepIdeal)
    ∧ quiescent_FfnStepReferenceIdeal (hFfnStepReferenceIdeal := hFfnStepReferenceIdeal)
    ∧ quiescent_InMbStep (hInMbStep := hInMbStep)
    ∧ quiescent_InMbStepIdeal (hInMbStepIdeal := hInMbStepIdeal)
    ∧ quiescent_InMbStepReferenceIdeal (hInMbStepReferenceIdeal := hInMbStepReferenceIdeal)
    ∧ quiescent_InRwStep (hInRwStep := hInRwStep)
    ∧ quiescent_InRwStepIdeal (hInRwStepIdeal := hInRwStepIdeal)
    ∧ quiescent_InRwStepReferenceIdeal (hInRwStepReferenceIdeal := hInRwStepReferenceIdeal)
    ∧ quiescent_Ssd (hSsd := hSsd)
    ∧ quiescent_SsdIdeal (hSsdIdeal := hSsdIdeal)
    ∧ quiescent_SsdReferenceIdeal (hSsdReferenceIdeal := hSsdReferenceIdeal)
    ∧ quiescent_Ada (hAda := hAda)
    ∧ quiescent_AdaIdeal (hAdaIdeal := hAdaIdeal)
    ∧ quiescent_AdaReferenceIdeal (hAdaReferenceIdeal := hAdaReferenceIdeal)
    ∧ preserves_Kernel_KernelIdeal
    ∧ algebraic_KernelIdeal_ReferenceIdeal (hKernelIdeal := hKernelIdeal) (hReferenceIdeal := hReferenceIdeal)
    ∧ preserves_Ffn_FfnIdeal
    ∧ algebraic_FfnIdeal_FfnReferenceIdeal (hFfnIdeal := hFfnIdeal) (hFfnReferenceIdeal := hFfnReferenceIdeal)
    ∧ preserves_InMb_InMbIdeal
    ∧ algebraic_InMbIdeal_InMbReferenceIdeal (hInMbIdeal := hInMbIdeal) (hInMbReferenceIdeal := hInMbReferenceIdeal)
    ∧ preserves_InRw_InRwIdeal
    ∧ algebraic_InRwIdeal_InRwReferenceIdeal (hInRwIdeal := hInRwIdeal) (hInRwReferenceIdeal := hInRwReferenceIdeal)
    ∧ preserves_InHg_InHgIdeal
    ∧ algebraic_InHgIdeal_InHgReferenceIdeal (hInHgIdeal := hInHgIdeal) (hInHgReferenceIdeal := hInHgReferenceIdeal)
    ∧ preserves_OutProj_OutProjIdeal
    ∧ algebraic_OutProjIdeal_OutProjReferenceIdeal (hOutProjIdeal := hOutProjIdeal) (hOutProjReferenceIdeal := hOutProjReferenceIdeal)
    ∧ preserves_RecHg_RecHgIdeal
    ∧ algebraic_RecHgIdeal_RecHgReferenceIdeal (hRecHgIdeal := hRecHgIdeal) (hRecHgReferenceIdeal := hRecHgReferenceIdeal)
    ∧ preserves_RecMb_RecMbIdeal
    ∧ algebraic_RecMbIdeal_RecMbReferenceIdeal (hRecMbIdeal := hRecMbIdeal) (hRecMbReferenceIdeal := hRecMbReferenceIdeal)
    ∧ preserves_FfnStep_FfnStepIdeal
    ∧ algebraic_FfnStepIdeal_FfnStepReferenceIdeal (hFfnStepIdeal := hFfnStepIdeal) (hFfnStepReferenceIdeal := hFfnStepReferenceIdeal)
    ∧ preserves_InMbStep_InMbStepIdeal
    ∧ algebraic_InMbStepIdeal_InMbStepReferenceIdeal (hInMbStepIdeal := hInMbStepIdeal) (hInMbStepReferenceIdeal := hInMbStepReferenceIdeal)
    ∧ preserves_InRwStep_InRwStepIdeal
    ∧ algebraic_InRwStepIdeal_InRwStepReferenceIdeal (hInRwStepIdeal := hInRwStepIdeal) (hInRwStepReferenceIdeal := hInRwStepReferenceIdeal)
    ∧ preserves_Ssd_SsdIdeal
    ∧ algebraic_SsdIdeal_SsdReferenceIdeal (hSsdIdeal := hSsdIdeal) (hSsdReferenceIdeal := hSsdReferenceIdeal)
    ∧ preserves_Ada_AdaIdeal
    ∧ algebraic_AdaIdeal_AdaReferenceIdeal (hAdaIdeal := hAdaIdeal) (hAdaReferenceIdeal := hAdaReferenceIdeal)
-- ==== Kernel.lean ====
abbrev S1x128x256 : Shape := ⟨3, ![1, 128, 256]⟩
abbrev S128x4x64x64 : Shape := ⟨4, ![128, 4, 64, 64]⟩
abbrev S128x256 : Shape := ⟨2, ![128, 256]⟩
abbrev S256x128 : Shape := ⟨2, ![256, 128]⟩
abbrev S_ : Shape := ⟨0, ![]⟩
abbrev S8x256 : Shape := ⟨2, ![8, 256]⟩
abbrev S8x4x64x64 : Shape := ⟨4, ![8, 4, 64, 64]⟩
abbrev S1x128 : Shape := ⟨2, ![1, 128]⟩
abbrev S1x1x64x64 : Shape := ⟨4, ![1, 1, 64, 64]⟩
abbrev S64x64 : Shape := ⟨2, ![64, 64]⟩
abbrev S64x128 : Shape := ⟨2, ![64, 128]⟩
abbrev S128x128 : Shape := ⟨2, ![128, 128]⟩
abbrev S128 : Shape := ⟨1, ![128]⟩
abbrev S128x1 : Shape := ⟨2, ![128, 1]⟩
abbrev S64x1 : Shape := ⟨2, ![64, 1]⟩
abbrev S64 : Shape := ⟨1, ![64]⟩

abbrev nBuf : Space → Nat
  | .hbm => 19
  | .vmem => 16
  | .smem => 0
  | _ => 0

abbrev bufTy : (tb : Table) → Fin (tcTables nBuf tb) → BufTy
  | .hbm, ⟨0, _⟩ => ⟨S1x128x256, .f32⟩
  | .hbm, ⟨1, _⟩ => ⟨S1x128x256, .f32⟩
  | .hbm, ⟨2, _⟩ => ⟨S1x128x256, .f32⟩
  | .hbm, ⟨3, _⟩ => ⟨S1x128x256, .f32⟩
  | .hbm, ⟨4, _⟩ => ⟨S1x128x256, .f32⟩
  | .hbm, ⟨5, _⟩ => ⟨S1x128x256, .f32⟩
  | .hbm, ⟨6, _⟩ => ⟨S128x4x64x64, .f32⟩
  | .hbm, ⟨7, _⟩ => ⟨S128x256, .f32⟩
  | .hbm, ⟨8, _⟩ => ⟨S256x128, .f32⟩
  | .hbm, ⟨9, _⟩ => ⟨S_, .i32⟩
  | .hbm, ⟨10, _⟩ => ⟨S_, .f32⟩
  | .hbm, ⟨11, _⟩ => ⟨S256x128, .f32⟩
  | .hbm, ⟨12, _⟩ => ⟨S128x256, .f32⟩
  | .hbm, ⟨13, _⟩ => ⟨S128x256, .f32⟩
  | .hbm, ⟨14, _⟩ => ⟨S128x256, .f32⟩
  | .hbm, ⟨15, _⟩ => ⟨S128x256, .f32⟩
  | .hbm, ⟨16, _⟩ => ⟨S128x256, .f32⟩
  | .hbm, ⟨17, _⟩ => ⟨S256x128, .f32⟩
  | .hbm, ⟨18, _⟩ => ⟨S128x4x64x64, .f32⟩
  | .local _ .vmem, ⟨0, _⟩ => ⟨S8x256, .f32⟩
  | .local _ .vmem, ⟨1, _⟩ => ⟨S8x256, .f32⟩
  | .local _ .vmem, ⟨2, _⟩ => ⟨S8x256, .f32⟩
  | .local _ .vmem, ⟨3, _⟩ => ⟨S8x256, .f32⟩
  | .local _ .vmem, ⟨4, _⟩ => ⟨S8x256, .f32⟩
  | .local _ .vmem, ⟨5, _⟩ => ⟨S8x256, .f32⟩
  | .local _ .vmem, ⟨6, _⟩ => ⟨S8x256, .f32⟩
  | .local _ .vmem, ⟨7, _⟩ => ⟨S8x256, .f32⟩
  | .local _ .vmem, ⟨8, _⟩ => ⟨S8x256, .f32⟩
  | .local _ .vmem, ⟨9, _⟩ => ⟨S8x256, .f32⟩
  | .local _ .vmem, ⟨10, _⟩ => ⟨S256x128, .f32⟩
  | .local _ .vmem, ⟨11, _⟩ => ⟨S8x4x64x64, .f32⟩
  | .local _ .vmem, ⟨12, _⟩ => ⟨S8x4x64x64, .f32⟩
  | .local _ .vmem, ⟨13, _⟩ => ⟨S256x128, .f32⟩
  | .local _ .vmem, ⟨14, _⟩ => ⟨S8x4x64x64, .f32⟩
  | .local _ .vmem, ⟨15, _⟩ => ⟨S8x4x64x64, .f32⟩
  | _, _ => ⟨S1x128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_call0_v0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S8x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8x4x64x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S8x4x64x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S1x128x256 : Shape := ⟨3, ![1, 128, 256]⟩
abbrev S128x4x64x64 : Shape := ⟨4, ![128, 4, 64, 64]⟩
abbrev S128x4x64 : Shape := ⟨3, ![128, 4, 64]⟩
abbrev S128x4x1x64 : Shape := ⟨4, ![128, 4, 1, 64]⟩
abbrev S128x4x64x1 : Shape := ⟨4, ![128, 4, 64, 1]⟩
abbrev S128x256 : Shape := ⟨2, ![128, 256]⟩
abbrev S256x128 : Shape := ⟨2, ![256, 128]⟩

abbrev nBuf : Space → Nat
  | .hbm => 32
  | .vmem => 0
  | .smem => 0
  | _ => 0

abbrev bufTy : (tb : Table) → Fin (tcTables nBuf tb) → BufTy
  | .hbm, ⟨0, _⟩ => ⟨S1x128x256, .f32⟩
  | .hbm, ⟨1, _⟩ => ⟨S1x128x256, .f32⟩
  | .hbm, ⟨2, _⟩ => ⟨S1x128x256, .f32⟩
  | .hbm, ⟨3, _⟩ => ⟨S1x128x256, .f32⟩
  | .hbm, ⟨4, _⟩ => ⟨S1x128x256, .f32⟩
  | .hbm, ⟨5, _⟩ => ⟨S1x128x256, .f32⟩
  | .hbm, ⟨6, _⟩ => ⟨S128x4x64x64, .f32⟩
  | .hbm, ⟨7, _⟩ => ⟨S128x4x64, .f32⟩
  | .hbm, ⟨8, _⟩ => ⟨S128x4x64, .f32⟩
  | .hbm, ⟨9, _⟩ => ⟨S128x4x64, .f32⟩
  | .hbm, ⟨10, _⟩ => ⟨S128x4x64, .f32⟩
  | .hbm, ⟨11, _⟩ => ⟨S128x4x64, .f32⟩
  | .hbm, ⟨12, _⟩ => ⟨S128x4x64, .f32⟩
  | .hbm, ⟨13, _⟩ => ⟨S128x4x64, .f32⟩
  | .hbm, ⟨14, _⟩ => ⟨S128x4x1x64, .f32⟩
  | .hbm, ⟨15, _⟩ => ⟨S128x4x64x64, .f32⟩
  | .hbm, ⟨16, _⟩ => ⟨S128x4x64x64, .f32⟩
  | .hbm, ⟨17, _⟩ => ⟨S128x4x64x1, .f32⟩
  | .hbm, ⟨18, _⟩ => ⟨S128x4x1x64, .f32⟩
  | .hbm, ⟨19, _⟩ => ⟨S128x4x64x64, .f32⟩
  | .hbm, ⟨20, _⟩ => ⟨S128x4x64x64, .f32⟩
  | .hbm, ⟨21, _⟩ => ⟨S128x4x64x64, .f32⟩
  | .hbm, ⟨22, _⟩ => ⟨S128x4x64x64, .f32⟩
  | .hbm, ⟨23, _⟩ => ⟨S128x4x64x1, .f32⟩
  | .hbm, ⟨24, _⟩ => ⟨S128x4x1x64, .f32⟩
  | .hbm, ⟨25, _⟩ => ⟨S128x4x64x64, .f32⟩
  | .hbm, ⟨26, _⟩ => ⟨S128x4x64x64, .f32⟩
  | .hbm, ⟨27, _⟩ => ⟨S128x4x64x64, .f32⟩
  | .hbm, ⟨28, _⟩ => ⟨S128x4x64x64, .f32⟩
  | .hbm, ⟨29, _⟩ => ⟨S128x4x64, .f32⟩
  | .hbm, ⟨30, _⟩ => ⟨S128x256, .f32⟩
  | .hbm, ⟨31, _⟩ => ⟨S256x128, .f32⟩
  | _, _ => ⟨S1x128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]
-- ==== Ffn.lean ====
abbrev S8x2048x1024 : Shape := ⟨3, ![8, 2048, 1024]⟩
abbrev S1024 : Shape := ⟨1, ![1024]⟩
abbrev S8x6144 : Shape := ⟨2, ![8, 6144]⟩
abbrev S1024x2816 : Shape := ⟨2, ![1024, 2816]⟩
abbrev S2816x1024 : Shape := ⟨2, ![2816, 1024]⟩
abbrev S1x1024 : Shape := ⟨2, ![1, 1024]⟩
abbrev S8x1x6144 : Shape := ⟨3, ![8, 1, 6144]⟩
abbrev S1x512x1024 : Shape := ⟨3, ![1, 512, 1024]⟩
abbrev S1x1x1024 : Shape := ⟨3, ![1, 1, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩

abbrev nBuf : Space → Nat
  | .hbm => 14
  | .vmem => 16
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S8x6144, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1024, .f32⟩
  | .hbm, ⟨7, _⟩ => ⟨S1x1024, .f32⟩
  | .hbm, ⟨8, _⟩ => ⟨S8x1x6144, .f32⟩
  | .hbm, ⟨9, _⟩ => ⟨S1024x2816, .bf16⟩
  | .hbm, ⟨10, _⟩ => ⟨S1024x2816, .bf16⟩
  | .hbm, ⟨11, _⟩ => ⟨S2816x1024, .bf16⟩
  | .hbm, ⟨12, _⟩ => ⟨S1x1024, .f32⟩
  | .hbm, ⟨13, _⟩ => ⟨S8x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1024x2816, .bf16⟩
  | .local _ .vmem, ⟨10, _⟩ => ⟨S1024x2816, .bf16⟩
  | .local _ .vmem, ⟨11, _⟩ => ⟨S2816x1024, .bf16⟩
  | .local _ .vmem, ⟨12, _⟩ => ⟨S1x1024, .f32⟩
  | .local _ .vmem, ⟨13, _⟩ => ⟨S1x512x1024, .f32⟩
  | .local _ .vmem, ⟨14, _⟩ => ⟨S1x512x1024, .f32⟩
  | .local _ .vmem, ⟨15, _⟩ => ⟨S512x2816, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c4_i32 : BitVec 32 := 4#32
  let c0_i32_0 : BitVec 32 := 0#32
  ![arg0.toNat, c0_i32.toNat, c4_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c3_i32 : BitVec 32 := 3#32
  let c0_i32_0 : BitVec 32 := 0#32
  ![arg0.toNat, c0_i32.toNat, c3_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c5_i32 : BitVec 32 := 5#32
  let c0_i32_0 : BitVec 32 := 0#32
  ![arg0.toNat, c0_i32.toNat, c5_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== FfnReferenceIdeal.lean ====
abbrev S8x2048x1024 : Shape := ⟨3, ![8, 2048, 1024]⟩
abbrev S1024 : Shape := ⟨1, ![1024]⟩
abbrev S8x6144 : Shape := ⟨2, ![8, 6144]⟩
abbrev S1024x2816 : Shape := ⟨2, ![1024, 2816]⟩
abbrev S2816x1024 : Shape := ⟨2, ![2816, 1024]⟩
abbrev S8x1024 : Shape := ⟨2, ![8, 1024]⟩
abbrev S8x1x1024 : Shape := ⟨3, ![8, 1, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x2816 : Shape := ⟨3, ![8, 2048, 2816]⟩

abbrev nBuf : Space → Nat
  | .hbm => 74
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S8x6144, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1024, .f32⟩
  | .hbm, ⟨7, _⟩ => ⟨S8x1024, .f32⟩
  | .hbm, ⟨8, _⟩ => ⟨S8x1024, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S8x1x1024, .f32⟩
  | .hbm, ⟨14, _⟩ => ⟨S8x1x1024, .f32⟩
  | .hbm, ⟨15, _⟩ => ⟨S8x1x1024, .f32⟩
  | .hbm, ⟨16, _⟩ => ⟨S8x1x1024, .f32⟩
  | .hbm, ⟨17, _⟩ => ⟨S8x1x1024, .f32⟩
  | .hbm, ⟨18, _⟩ => ⟨S8x1x1024, .f32⟩
  | .hbm, ⟨19, _⟩ => ⟨S8x2048x1024, .f32⟩
  | .hbm, ⟨20, _⟩ => ⟨S_, .f32⟩
  | .hbm, ⟨21, _⟩ => ⟨S8x2048, .f32⟩
  | .hbm, ⟨22, _⟩ => ⟨S8x2048x1, .f32⟩
  | .hbm, ⟨23, _⟩ => ⟨S_, .f32⟩
  | .hbm, ⟨24, _⟩ => ⟨S8x2048x1, .f32⟩
  | .hbm, ⟨25, _⟩ => ⟨S8x2048x1, .f32⟩
  | .hbm, ⟨26, _⟩ => ⟨S_, .f32⟩
  | .hbm, ⟨27, _⟩ => ⟨S8x2048x1, .f32⟩
  | .hbm, ⟨28, _⟩ => ⟨S8x2048x1, .f32⟩
  | .hbm, ⟨29, _⟩ => ⟨S8x2048x1, .f32⟩
  | .hbm, ⟨30, _⟩ => ⟨S8x2048x1024, .f32⟩
  | .hbm, ⟨31, _⟩ => ⟨S8x2048x1024, .f32⟩
  | .hbm, ⟨32, _⟩ => ⟨S1x1x1024, .f32⟩
  | .hbm, ⟨33, _⟩ => ⟨S8x2048x1024, .f32⟩
  | .hbm, ⟨34, _⟩ => ⟨S8x2048x1024, .f32⟩
  | .hbm, ⟨35, _⟩ => ⟨S_, .f32⟩
  | .hbm, ⟨36, _⟩ => ⟨S8x1x1024, .f32⟩
  | .hbm, ⟨37, _⟩ => ⟨S8x1x1024, .f32⟩
  | .hbm, ⟨38, _⟩ => ⟨S8x2048x1024, .f32⟩
  | .hbm, ⟨39, _⟩ => ⟨S8x2048x1024, .f32⟩
  | .hbm, ⟨40, _⟩ => ⟨S8x2048x1024, .f32⟩
  | .hbm, ⟨41, _⟩ => ⟨S8x2048x1024, .f32⟩
  | .hbm, ⟨42, _⟩ => ⟨S8x2048x2816, .f32⟩
  | .hbm, ⟨43, _⟩ => ⟨S8x2048x2816, .f32⟩
  | .hbm, ⟨44, _⟩ => ⟨S8x2048x2816, .f32⟩
  | .hbm, ⟨45, _⟩ => ⟨S_, .f32⟩
  | .hbm, ⟨46, _⟩ => ⟨S8x2048x2816, .f32⟩
  | .hbm, ⟨47, _⟩ => ⟨S8x2048x2816, .f32⟩
  | .hbm, ⟨48, _⟩ => ⟨S_, .f32⟩
  | .hbm, ⟨49, _⟩ => ⟨S8x2048x2816, .f32⟩
  | .hbm, ⟨50, _⟩ => ⟨S8x2048x2816, .f32⟩
  | .hbm, ⟨51, _⟩ => ⟨S8x2048x2816, .f32⟩
  | .hbm, ⟨52, _⟩ => ⟨S8x2048x2816, .f32⟩
  | .hbm, ⟨53, _⟩ => ⟨S8x2048x2816, .f32⟩
  | .hbm, ⟨54, _⟩ => ⟨S8x2048x1024, .f32⟩
  | .hbm, ⟨55, _⟩ => ⟨S8x2048x1024, .f32⟩
  | .hbm, ⟨56, _⟩ => ⟨S8x2048x1024, .f32⟩
  | .hbm, ⟨57, _⟩ => ⟨S8x2048x1024, .f32⟩
  | .hbm, ⟨58, _⟩ => ⟨S8x2048x1024, .f32⟩
  | .hbm, ⟨59, _⟩ => ⟨S_, .f32⟩
  | .hbm, ⟨60, _⟩ => ⟨S8x2048, .f32⟩
  | .hbm, ⟨61, _⟩ => ⟨S8x2048x1, .f32⟩
  | .hbm, ⟨62, _⟩ => ⟨S_, .f32⟩
  | .hbm, ⟨63, _⟩ => ⟨S8x2048x1, .f32⟩
  | .hbm, ⟨64, _⟩ => ⟨S8x2048x1, .f32⟩
  | .hbm, ⟨65, _⟩ => ⟨S_, .f32⟩
  | .hbm, ⟨66, _⟩ => ⟨S8x2048x1, .f32⟩
  | .hbm, ⟨67, _⟩ => ⟨S8x2048x1, .f32⟩
  | .hbm, ⟨68, _⟩ => ⟨S8x2048x1, .f32⟩
  | .hbm, ⟨69, _⟩ => ⟨S8x2048x1024, .f32⟩
  | .hbm, ⟨70, _⟩ => ⟨S8x2048x1024, .f32⟩
  | .hbm, ⟨71, _⟩ => ⟨S1x1x1024, .f32⟩
  | .hbm, ⟨72, _⟩ => ⟨S8x2048x1024, .f32⟩
  | .hbm, ⟨73, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_call0_v5 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_3 : Ref sig .tc := ⟨.hbm, 59, rfl⟩
abbrev main_v40 : Ref sig .tc := ⟨.hbm, 60, rfl⟩
abbrev main_v41 : Ref sig .tc := ⟨.hbm, 61, rfl⟩
abbrev main_cst_4 : Ref sig .tc := ⟨.hbm, 62, rfl⟩
abbrev main_v42 : Ref sig .tc := ⟨.hbm, 63, rfl⟩
abbrev main_v43 : Ref sig .tc := ⟨.hbm, 64, rfl⟩
abbrev main_cst_5 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩

abbrev nD : Nat := 1
abbrev τ : Topo := Topo.v7x

variable {F : FTy → Type} [FloatOps F]
-- ==== InMb.lean ====
abbrev S8x2048x1024 : Shape := ⟨3, ![8, 2048, 1024]⟩
abbrev S1024 : Shape := ⟨1, ![1024]⟩
abbrev S8x6144 : Shape := ⟨2, ![8, 6144]⟩
abbrev S1024x3208 : Shape := ⟨2, ![1024, 3208]⟩
abbrev S1024x768 : Shape := ⟨2, ![1024, 768]⟩
abbrev S1024x512 : Shape := ⟨2, ![1024, 512]⟩
abbrev S1024x8 : Shape := ⟨2, ![1024, 8]⟩
abbrev S_ : Shape := ⟨0, ![]⟩
abbrev S1024x128 : Shape := ⟨2, ![1024, 128]⟩
abbrev S1024x1408 : Shape := ⟨2, ![1024, 1408]⟩
abbrev S1x1024 : Shape := ⟨2, ![1, 1024]⟩
abbrev S8x1x6144 : Shape := ⟨3, ![8, 1, 6144]⟩
abbrev S8x2048x768 : Shape := ⟨3, ![8, 2048, 768]⟩
abbrev S8x2048x512 : Shape := ⟨3, ![8, 2048, 512]⟩
abbrev S8x2048x128 : Shape := ⟨3, ![8, 2048, 128]⟩
abbrev S1x512x1024 : Shape := ⟨3, ![1, 512, 1024]⟩
abbrev S1x1x1024 : Shape := ⟨3, ![1, 1, 1024]⟩
abbrev S1x512x768 : Shape := ⟨3, ![1, 512, 768]⟩
abbrev S1x512x512 : Shape := ⟨3, ![1, 512, 512]⟩
abbrev S1x512x128 : Shape := ⟨3, ![1, 512, 128]⟩
abbrev S512x1024 : Shape := ⟨2, ![512, 1024]⟩
abbrev S512 : Shape := ⟨1, ![512]⟩
abbrev S512x1 : Shape := ⟨2, ![512, 1]⟩
abbrev S512x1408 : Shape := ⟨2, ![512, 1408]⟩
abbrev S512x768 : Shape := ⟨2, ![512, 768]⟩
abbrev S512x512 : Shape := ⟨2, ![512, 512]⟩
abbrev S512x128 : Shape := ⟨2, ![512, 128]⟩

abbrev nBuf : Space → Nat
  | .hbm => 17
  | .vmem => 14
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S8x6144, .f32⟩
  | .hbm, ⟨3, _⟩ => ⟨S1024x3208, .f32⟩
  | .hbm, ⟨4, _⟩ => ⟨S1024x768, .f32⟩
  | .hbm, ⟨5, _⟩ => ⟨S1024x512, .f32⟩
  | .hbm, ⟨6, _⟩ => ⟨S1024x8, .f32⟩
  | .hbm, ⟨7, _⟩ => ⟨S_, .i32⟩
  | .hbm, ⟨8, _⟩ => ⟨S_, .f32⟩
  | .hbm, ⟨9, _⟩ => ⟨S1024x128, .f32⟩
  | .hbm, ⟨10, _⟩ => ⟨S1024x1408, .f32⟩
  | .hbm, ⟨11, _⟩ => ⟨S1024x1408, .bf16⟩
  | .hbm, ⟨12, _⟩ => ⟨S1x1024, .f32⟩
  | .hbm, ⟨13, _⟩ => ⟨S8x1x6144, .f32⟩
  | .hbm, ⟨14, _⟩ => ⟨S8x2048x768, .f32⟩
  | .hbm, ⟨15, _⟩ => ⟨S8x2048x512, .f32⟩
  | .hbm, ⟨16, _⟩ => ⟨S8x2048x128, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x1408, .bf16⟩
  | .local _ .vmem, ⟨8, _⟩ => ⟨S1x512x768, .f32⟩
  | .local _ .vmem, ⟨9, _⟩ => ⟨S1x512x768, .f32⟩
  | .local _ .vmem, ⟨10, _⟩ => ⟨S1x512x512, .f32⟩
  | .local _ .vmem, ⟨11, _⟩ => ⟨S1x512x512, .f32⟩
  | .local _ .vmem, ⟨12, _⟩ => ⟨S1x512x128, .f32⟩
  | .local _ .vmem, ⟨13, _⟩ => ⟨S1x512x128, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v8_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x1408 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== InMbReferenceIdeal.lean ====
abbrev S8x2048x1024 : Shape := ⟨3, ![8, 2048, 1024]⟩
abbrev S1024 : Shape := ⟨1, ![1024]⟩
abbrev S8x6144 : Shape := ⟨2, ![8, 6144]⟩
abbrev S1024x3208 : Shape := ⟨2, ![1024, 3208]⟩
abbrev S8x1024 : Shape := ⟨2, ![8, 1024]⟩
abbrev S8x1x1024 : Shape := ⟨3, ![8, 1, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x3208 : Shape := ⟨3, ![8, 2048, 3208]⟩
abbrev S8x2048x256 : Shape := ⟨3, ![8, 2048, 256]⟩
abbrev S8x2048x512 : Shape := ⟨3, ![8, 2048, 512]⟩
abbrev S8x2048x768 : Shape := ⟨3, ![8, 2048, 768]⟩
abbrev S8x2048x8 : Shape := ⟨3, ![8, 2048, 8]⟩
abbrev S8x2048x896 : Shape := ⟨3, ![8, 2048, 896]⟩
abbrev S8x2048x128 : Shape := ⟨3, ![8, 2048, 128]⟩

abbrev nBuf : Space → Nat
  | .hbm => 51
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S8x6144, .f32⟩
  | .hbm, ⟨3, _⟩ => ⟨S1024x3208, .f32⟩
  | .hbm, ⟨4, _⟩ => ⟨S8x1024, .f32⟩
  | .hbm, ⟨5, _⟩ => ⟨S8x1024, .f32⟩
  | .hbm, ⟨6, _⟩ => ⟨S8x1024, .f32⟩
  | .hbm, ⟨7, _⟩ => ⟨S8x1024, .f32⟩
  | .hbm, ⟨8, _⟩ => ⟨S8x1024, .f32⟩
  | .hbm, ⟨9, _⟩ => ⟨S8x1024, .f32⟩
  | .hbm, ⟨10, _⟩ => ⟨S8x1x1024, .f32⟩
  | .hbm, ⟨11, _⟩ => ⟨S8x1x1024, .f32⟩
  | .hbm, ⟨12, _⟩ => ⟨S8x1x1024, .f32⟩
  | .hbm, ⟨13, _⟩ => ⟨S8x1x1024, .f32⟩
  | .hbm, ⟨14, _⟩ => ⟨S8x1x1024, .f32⟩
  | .hbm, ⟨15, _⟩ => ⟨S8x1x1024, .f32⟩
  | .hbm, ⟨16, _⟩ => ⟨S8x2048x1024, .f32⟩
  | .hbm, ⟨17, _⟩ => ⟨S_, .f32⟩
  | .hbm, ⟨18, _⟩ => ⟨S8x2048, .f32⟩
  | .hbm, ⟨19, _⟩ => ⟨S8x2048x1, .f32⟩
  | .hbm, ⟨20, _⟩ => ⟨S_, .f32⟩
  | .hbm, ⟨21, _⟩ => ⟨S8x2048x1, .f32⟩
  | .hbm, ⟨22, _⟩ => ⟨S8x2048x1, .f32⟩
  | .hbm, ⟨23, _⟩ => ⟨S_, .f32⟩
  | .hbm, ⟨24, _⟩ => ⟨S8x2048x1, .f32⟩
  | .hbm, ⟨25, _⟩ => ⟨S8x2048x1, .f32⟩
  | .hbm, ⟨26, _⟩ => ⟨S8x2048x1, .f32⟩
  | .hbm, ⟨27, _⟩ => ⟨S8x2048x1024, .f32⟩
  | .hbm, ⟨28, _⟩ => ⟨S8x2048x1024, .f32⟩
  | .hbm, ⟨29, _⟩ => ⟨S1x1x1024, .f32⟩
  | .hbm, ⟨30, _⟩ => ⟨S8x2048x1024, .f32⟩
  | .hbm, ⟨31, _⟩ => ⟨S8x2048x1024, .f32⟩
  | .hbm, ⟨32, _⟩ => ⟨S_, .f32⟩
  | .hbm, ⟨33, _⟩ => ⟨S8x1x1024, .f32⟩
  | .hbm, ⟨34, _⟩ => ⟨S8x1x1024, .f32⟩
  | .hbm, ⟨35, _⟩ => ⟨S8x2048x1024, .f32⟩
  | .hbm, ⟨36, _⟩ => ⟨S8x2048x1024, .f32⟩
  | .hbm, ⟨37, _⟩ => ⟨S8x2048x1024, .f32⟩
  | .hbm, ⟨38, _⟩ => ⟨S8x2048x1024, .f32⟩
  | .hbm, ⟨39, _⟩ => ⟨S8x2048x3208, .f32⟩
  | .hbm, ⟨40, _⟩ => ⟨S8x2048x256, .f32⟩
  | .hbm, ⟨41, _⟩ => ⟨S8x2048x256, .f32⟩
  | .hbm, ⟨42, _⟩ => ⟨S8x2048x256, .f32⟩
  | .hbm, ⟨43, _⟩ => ⟨S8x2048x256, .f32⟩
  | .hbm, ⟨44, _⟩ => ⟨S8x2048x512, .f32⟩
  | .hbm, ⟨45, _⟩ => ⟨S8x2048x768, .f32⟩
  | .hbm, ⟨46, _⟩ => ⟨S8x2048x8, .f32⟩
  | .hbm, ⟨47, _⟩ => ⟨S8x2048x896, .f32⟩
  | .hbm, ⟨48, _⟩ => ⟨S_, .i32⟩
  | .hbm, ⟨49, _⟩ => ⟨S_, .f32⟩
  | .hbm, ⟨50, _⟩ => ⟨S8x2048x128, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_2 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_c : Ref sig .tc := ⟨.hbm, 48, rfl⟩
abbrev main_call0_v0 : Ref sig .tc := ⟨.hbm, 49, rfl⟩
abbrev main_v40 : Ref sig .tc := ⟨.hbm, 50, rfl⟩

abbrev nD : Nat := 1
abbrev τ : Topo := Topo.v7x

variable {F : FTy → Type} [FloatOps F]
-- ==== InRw.lean ====
abbrev S8x2048x1024 : Shape := ⟨3, ![8, 2048, 1024]⟩
abbrev S1024 : Shape := ⟨1, ![1024]⟩
abbrev S8x6144 : Shape := ⟨2, ![8, 6144]⟩
abbrev S1024x3208 : Shape := ⟨2, ![1024, 3208]⟩
abbrev S1024x896 : Shape := ⟨2, ![1024, 896]⟩
abbrev S1024x768 : Shape := ⟨2, ![1024, 768]⟩
abbrev S1024x32 : Shape := ⟨2, ![1024, 32]⟩
abbrev S_ : Shape := ⟨0, ![]⟩
abbrev S1024x128 : Shape := ⟨2, ![1024, 128]⟩
abbrev S1024x64 : Shape := ⟨2, ![1024, 64]⟩
abbrev S1024x1152 : Shape := ⟨2, ![1024, 1152]⟩
abbrev S1x1024 : Shape := ⟨2, ![1, 1024]⟩
abbrev S8x1x6144 : Shape := ⟨3, ![8, 1, 6144]⟩
abbrev S8x2048x1152 : Shape := ⟨3, ![8, 2048, 1152]⟩
abbrev S1x512x1024 : Shape := ⟨3, ![1, 512, 1024]⟩
abbrev S1x1x1024 : Shape := ⟨3, ![1, 1, 1024]⟩
abbrev S1x512x1152 : Shape := ⟨3, ![1, 512, 1152]⟩
abbrev S512x1024 : Shape := ⟨2, ![512, 1024]⟩
abbrev S512 : Shape := ⟨1, ![512]⟩
abbrev S512x1 : Shape := ⟨2, ![512, 1]⟩
abbrev S512x1152 : Shape := ⟨2, ![512, 1152]⟩

abbrev nBuf : Space → Nat
  | .hbm => 23
  | .vmem => 10
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S8x6144, .f32⟩
  | .hbm, ⟨3, _⟩ => ⟨S1024x3208, .f32⟩
  | .hbm, ⟨4, _⟩ => ⟨S1024x896, .f32⟩
  | .hbm, ⟨5, _⟩ => ⟨S1024x768, .f32⟩
  | .hbm, ⟨6, _⟩ => ⟨S1024x32, .f32⟩
  | .hbm, ⟨7, _⟩ => ⟨S_, .i32⟩
  | .hbm, ⟨8, _⟩ => ⟨S_, .f32⟩
  | .hbm, ⟨9, _⟩ => ⟨S1024x128, .f32⟩
  | .hbm, ⟨10, _⟩ => ⟨S1024x32, .f32⟩
  | .hbm, ⟨11, _⟩ => ⟨S_, .i32⟩
  | .hbm, ⟨12, _⟩ => ⟨S_, .f32⟩
  | .hbm, ⟨13, _⟩ => ⟨S1024x128, .f32⟩
  | .hbm, ⟨14, _⟩ => ⟨S1024x64, .f32⟩
  | .hbm, ⟨15, _⟩ => ⟨S_, .i32⟩
  | .hbm, ⟨16, _⟩ => ⟨S_, .f32⟩
  | .hbm, ⟨17, _⟩ => ⟨S1024x128, .f32⟩
  | .hbm, ⟨18, _⟩ => ⟨S1024x1152, .f32⟩
  | .hbm, ⟨19, _⟩ => ⟨S1024x1152, .bf16⟩
  | .hbm, ⟨20, _⟩ => ⟨S1x1024, .f32⟩
  | .hbm, ⟨21, _⟩ => ⟨S8x1x6144, .f32⟩
  | .hbm, ⟨22, _⟩ => ⟨S8x2048x1152, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x1152, .bf16⟩
  | .local _ .vmem, ⟨8, _⟩ => ⟨S1x512x1152, .f32⟩
  | .local _ .vmem, ⟨9, _⟩ => ⟨S1x512x1152, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_call1_v0 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_call2_v0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x1152 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1152 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== InRwReferenceIdeal.lean ====
abbrev S8x2048x1024 : Shape := ⟨3, ![8, 2048, 1024]⟩
abbrev S1024 : Shape := ⟨1, ![1024]⟩
abbrev S8x6144 : Shape := ⟨2, ![8, 6144]⟩
abbrev S1024x3208 : Shape := ⟨2, ![1024, 3208]⟩
abbrev S8x1024 : Shape := ⟨2, ![8, 1024]⟩
abbrev S8x1x1024 : Shape := ⟨3, ![8, 1, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x3208 : Shape := ⟨3, ![8, 2048, 3208]⟩
abbrev S8x2048x256 : Shape := ⟨3, ![8, 2048, 256]⟩
abbrev S8x2048x512 : Shape := ⟨3, ![8, 2048, 512]⟩
abbrev S8x2048x768 : Shape := ⟨3, ![8, 2048, 768]⟩
abbrev S8x2048x8 : Shape := ⟨3, ![8, 2048, 8]⟩
abbrev S8x2048x896 : Shape := ⟨3, ![8, 2048, 896]⟩
abbrev S8x2048x32 : Shape := ⟨3, ![8, 2048, 32]⟩
abbrev S8x2048x64 : Shape := ⟨3, ![8, 2048, 64]⟩
abbrev S8x2048x128 : Shape := ⟨3, ![8, 2048, 128]⟩
abbrev S8x2048x1152 : Shape := ⟨3, ![8, 2048, 1152]⟩

abbrev nBuf : Space → Nat
  | .hbm => 62
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S8x6144, .f32⟩
  | .hbm, ⟨3, _⟩ => ⟨S1024x3208, .f32⟩
  | .hbm, ⟨4, _⟩ => ⟨S8x1024, .f32⟩
  | .hbm, ⟨5, _⟩ => ⟨S8x1024, .f32⟩
  | .hbm, ⟨6, _⟩ => ⟨S8x1024, .f32⟩
  | .hbm, ⟨7, _⟩ => ⟨S8x1024, .f32⟩
  | .hbm, ⟨8, _⟩ => ⟨S8x1024, .f32⟩
  | .hbm, ⟨9, _⟩ => ⟨S8x1024, .f32⟩
  | .hbm, ⟨10, _⟩ => ⟨S8x1x1024, .f32⟩
  | .hbm, ⟨11, _⟩ => ⟨S8x1x1024, .f32⟩
  | .hbm, ⟨12, _⟩ => ⟨S8x1x1024, .f32⟩
  | .hbm, ⟨13, _⟩ => ⟨S8x1x1024, .f32⟩
  | .hbm, ⟨14, _⟩ => ⟨S8x1x1024, .f32⟩
  | .hbm, ⟨15, _⟩ => ⟨S8x1x1024, .f32⟩
  | .hbm, ⟨16, _⟩ => ⟨S8x2048x1024, .f32⟩
  | .hbm, ⟨17, _⟩ => ⟨S_, .f32⟩
  | .hbm, ⟨18, _⟩ => ⟨S8x2048, .f32⟩
  | .hbm, ⟨19, _⟩ => ⟨S8x2048x1, .f32⟩
  | .hbm, ⟨20, _⟩ => ⟨S_, .f32⟩
  | .hbm, ⟨21, _⟩ => ⟨S8x2048x1, .f32⟩
  | .hbm, ⟨22, _⟩ => ⟨S8x2048x1, .f32⟩
  | .hbm, ⟨23, _⟩ => ⟨S_, .f32⟩
  | .hbm, ⟨24, _⟩ => ⟨S8x2048x1, .f32⟩
  | .hbm, ⟨25, _⟩ => ⟨S8x2048x1, .f32⟩
  | .hbm, ⟨26, _⟩ => ⟨S8x2048x1, .f32⟩
  | .hbm, ⟨27, _⟩ => ⟨S8x2048x1024, .f32⟩
  | .hbm, ⟨28, _⟩ => ⟨S8x2048x1024, .f32⟩
  | .hbm, ⟨29, _⟩ => ⟨S1x1x1024, .f32⟩
  | .hbm, ⟨30, _⟩ => ⟨S8x2048x1024, .f32⟩
  | .hbm, ⟨31, _⟩ => ⟨S8x2048x1024, .f32⟩
  | .hbm, ⟨32, _⟩ => ⟨S_, .f32⟩
  | .hbm, ⟨33, _⟩ => ⟨S8x1x1024, .f32⟩
  | .hbm, ⟨34, _⟩ => ⟨S8x1x1024, .f32⟩
  | .hbm, ⟨35, _⟩ => ⟨S8x2048x1024, .f32⟩
  | .hbm, ⟨36, _⟩ => ⟨S8x2048x1024, .f32⟩
  | .hbm, ⟨37, _⟩ => ⟨S8x2048x1024, .f32⟩
  | .hbm, ⟨38, _⟩ => ⟨S8x2048x1024, .f32⟩
  | .hbm, ⟨39, _⟩ => ⟨S8x2048x3208, .f32⟩
  | .hbm, ⟨40, _⟩ => ⟨S8x2048x256, .f32⟩
  | .hbm, ⟨41, _⟩ => ⟨S8x2048x256, .f32⟩
  | .hbm, ⟨42, _⟩ => ⟨S8x2048x256, .f32⟩
  | .hbm, ⟨43, _⟩ => ⟨S8x2048x256, .f32⟩
  | .hbm, ⟨44, _⟩ => ⟨S8x2048x512, .f32⟩
  | .hbm, ⟨45, _⟩ => ⟨S8x2048x768, .f32⟩
  | .hbm, ⟨46, _⟩ => ⟨S8x2048x8, .f32⟩
  | .hbm, ⟨47, _⟩ => ⟨S8x2048x896, .f32⟩
  | .hbm, ⟨48, _⟩ => ⟨S8x2048x768, .f32⟩
  | .hbm, ⟨49, _⟩ => ⟨S8x2048x32, .f32⟩
  | .hbm, ⟨50, _⟩ => ⟨S8x2048x32, .f32⟩
  | .hbm, ⟨51, _⟩ => ⟨S8x2048x64, .f32⟩
  | .hbm, ⟨52, _⟩ => ⟨S_, .i32⟩
  | .hbm, ⟨53, _⟩ => ⟨S_, .f32⟩
  | .hbm, ⟨54, _⟩ => ⟨S8x2048x128, .f32⟩
  | .hbm, ⟨55, _⟩ => ⟨S_, .i32⟩
  | .hbm, ⟨56, _⟩ => ⟨S_, .f32⟩
  | .hbm, ⟨57, _⟩ => ⟨S8x2048x128, .f32⟩
  | .hbm, ⟨58, _⟩ => ⟨S_, .i32⟩
  | .hbm, ⟨59, _⟩ => ⟨S_, .f32⟩
  | .hbm, ⟨60, _⟩ => ⟨S8x2048x128, .f32⟩
  | .hbm, ⟨61, _⟩ => ⟨S8x2048x1152, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_2 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_c : Ref sig .tc := ⟨.hbm, 52, rfl⟩
abbrev main_call0_v0 : Ref sig .tc := ⟨.hbm, 53, rfl⟩
abbrev main_v44 : Ref sig .tc := ⟨.hbm, 54, rfl⟩
abbrev main_c_3 : Ref sig .tc := ⟨.hbm, 55, rfl⟩
abbrev main_call1_v0 : Ref sig .tc := ⟨.hbm, 56, rfl⟩
abbrev main_v45 : Ref sig .tc := ⟨.hbm, 57, rfl⟩
abbrev main_c_4 : Ref sig .tc := ⟨.hbm, 58, rfl⟩
abbrev main_call2_v0 : Ref sig .tc := ⟨.hbm, 59, rfl⟩
abbrev main_v46 : Ref sig .tc := ⟨.hbm, 60, rfl⟩
abbrev main_v47 : Ref sig .tc := ⟨.hbm, 61, rfl⟩

abbrev nD : Nat := 1
abbrev τ : Topo := Topo.v7x

variable {F : FTy → Type} [FloatOps F]
-- ==== InHg.lean ====
abbrev S8x2048x1024 : Shape := ⟨3, ![8, 2048, 1024]⟩
abbrev S1024 : Shape := ⟨1, ![1024]⟩
abbrev S8x6144 : Shape := ⟨2, ![8, 6144]⟩
abbrev S1024x3208 : Shape := ⟨2, ![1024, 3208]⟩
abbrev S256 : Shape := ⟨1, ![256]⟩
abbrev S1024x1024 : Shape := ⟨2, ![1024, 1024]⟩
abbrev S1x256 : Shape := ⟨2, ![1, 256]⟩
abbrev S1x1024 : Shape := ⟨2, ![1, 1024]⟩
abbrev S8x1x6144 : Shape := ⟨3, ![8, 1, 6144]⟩
abbrev S8x2048x256 : Shape := ⟨3, ![8, 2048, 256]⟩
abbrev S1x512x1024 : Shape := ⟨3, ![1, 512, 1024]⟩
abbrev S1x1x1024 : Shape := ⟨3, ![1, 1, 1024]⟩
abbrev S1x512x256 : Shape := ⟨3, ![1, 512, 256]⟩
abbrev S512x1024 : Shape := ⟨2, ![512, 1024]⟩
abbrev S512 : Shape := ⟨1, ![512]⟩
abbrev S512x1 : Shape := ⟨2, ![512, 1]⟩
abbrev S512x256 : Shape := ⟨2, ![512, 256]⟩

abbrev nBuf : Space → Nat
  | .hbm => 18
  | .vmem => 21
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S8x6144, .f32⟩
  | .hbm, ⟨3, _⟩ => ⟨S1024x3208, .f32⟩
  | .hbm, ⟨4, _⟩ => ⟨S256, .f32⟩
  | .hbm, ⟨5, _⟩ => ⟨S1024x1024, .f32⟩
  | .hbm, ⟨6, _⟩ => ⟨S1024x1024, .bf16⟩
  | .hbm, ⟨7, _⟩ => ⟨S1x256, .f32⟩
  | .hbm, ⟨8, _⟩ => ⟨S1x1024, .f32⟩
  | .hbm, ⟨9, _⟩ => ⟨S8x1x6144, .f32⟩
  | .hbm, ⟨10, _⟩ => ⟨S1x256, .f32⟩
  | .hbm, ⟨11, _⟩ => ⟨S1x256, .f32⟩
  | .hbm, ⟨12, _⟩ => ⟨S1x256, .f32⟩
  | .hbm, ⟨13, _⟩ => ⟨S8x2048x256, .f32⟩
  | .hbm, ⟨14, _⟩ => ⟨S8x2048x256, .f32⟩
  | .hbm, ⟨15, _⟩ => ⟨S8x2048x256, .f32⟩
  | .hbm, ⟨16, _⟩ => ⟨S8x2048x256, .f32⟩
  | .hbm, ⟨17, _⟩ => ⟨S8x2048x256, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x1024, .bf16⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S1x512x256, .f32⟩
  | .local _ .vmem, ⟨12, _⟩ => ⟨S1x512x256, .f32⟩
  | .local _ .vmem, ⟨13, _⟩ => ⟨S1x512x256, .f32⟩
  | .local _ .vmem, ⟨14, _⟩ => ⟨S1x512x256, .f32⟩
  | .local _ .vmem, ⟨15, _⟩ => ⟨S1x512x256, .f32⟩
  | .local _ .vmem, ⟨16, _⟩ => ⟨S1x512x256, .f32⟩
  | .local _ .vmem, ⟨17, _⟩ => ⟨S1x512x256, .f32⟩
  | .local _ .vmem, ⟨18, _⟩ => ⟨S1x512x256, .f32⟩
  | .local _ .vmem, ⟨19, _⟩ => ⟨S1x512x256, .f32⟩
  | .local _ .vmem, ⟨20, _⟩ => ⟨S1x512x256, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev main_v8_3 : Ref sig .tc := ⟨.hbm, 16, rfl⟩
abbrev main_v8_4 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== InHgReferenceIdeal.lean ====
abbrev S8x2048x1024 : Shape := ⟨3, ![8, 2048, 1024]⟩
abbrev S1024 : Shape := ⟨1, ![1024]⟩
abbrev S8x6144 : Shape := ⟨2, ![8, 6144]⟩
abbrev S1024x3208 : Shape := ⟨2, ![1024, 3208]⟩
abbrev S256 : Shape := ⟨1, ![256]⟩
abbrev S8x1024 : Shape := ⟨2, ![8, 1024]⟩
abbrev S8x1x1024 : Shape := ⟨3, ![8, 1, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x3208 : Shape := ⟨3, ![8, 2048, 3208]⟩
abbrev S8x2048x256 : Shape := ⟨3, ![8, 2048, 256]⟩
abbrev S8x2048x512 : Shape := ⟨3, ![8, 2048, 512]⟩
abbrev S8x2048x768 : Shape := ⟨3, ![8, 2048, 768]⟩
abbrev S8x2048x8 : Shape := ⟨3, ![8, 2048, 8]⟩
abbrev S8x2048x896 : Shape := ⟨3, ![8, 2048, 896]⟩
abbrev S1x1x256 : Shape := ⟨3, ![1, 1, 256]⟩

abbrev nBuf : Space → Nat
  | .hbm => 100
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S8x6144, .f32⟩
  | .hbm, ⟨3, _⟩ => ⟨S1024x3208, .f32⟩
  | .hbm, ⟨4, _⟩ => ⟨S256, .f32⟩
  | .hbm, ⟨5, _⟩ => ⟨S8x1024, .f32⟩
  | .hbm, ⟨6, _⟩ => ⟨S8x1024, .f32⟩
  | .hbm, ⟨7, _⟩ => ⟨S8x1024, .f32⟩
  | .hbm, ⟨8, _⟩ => ⟨S8x1024, .f32⟩
  | .hbm, ⟨9, _⟩ => ⟨S8x1024, .f32⟩
  | .hbm, ⟨10, _⟩ => ⟨S8x1024, .f32⟩
  | .hbm, ⟨11, _⟩ => ⟨S8x1x1024, .f32⟩
  | .hbm, ⟨12, _⟩ => ⟨S8x1x1024, .f32⟩
  | .hbm, ⟨13, _⟩ => ⟨S8x1x1024, .f32⟩
  | .hbm, ⟨14, _⟩ => ⟨S8x1x1024, .f32⟩
  | .hbm, ⟨15, _⟩ => ⟨S8x1x1024, .f32⟩
  | .hbm, ⟨16, _⟩ => ⟨S8x1x1024, .f32⟩
  | .hbm, ⟨17, _⟩ => ⟨S8x2048x1024, .f32⟩
  | .hbm, ⟨18, _⟩ => ⟨S_, .f32⟩
  | .hbm, ⟨19, _⟩ => ⟨S8x2048, .f32⟩
  | .hbm, ⟨20, _⟩ => ⟨S8x2048x1, .f32⟩
  | .hbm, ⟨21, _⟩ => ⟨S_, .f32⟩
  | .hbm, ⟨22, _⟩ => ⟨S8x2048x1, .f32⟩
  | .hbm, ⟨23, _⟩ => ⟨S8x2048x1, .f32⟩
  | .hbm, ⟨24, _⟩ => ⟨S_, .f32⟩
  | .hbm, ⟨25, _⟩ => ⟨S8x2048x1, .f32⟩
  | .hbm, ⟨26, _⟩ => ⟨S8x2048x1, .f32⟩
  | .hbm, ⟨27, _⟩ => ⟨S8x2048x1, .f32⟩
  | .hbm, ⟨28, _⟩ => ⟨S8x2048x1024, .f32⟩
  | .hbm, ⟨29, _⟩ => ⟨S8x2048x1024, .f32⟩
  | .hbm, ⟨30, _⟩ => ⟨S1x1x1024, .f32⟩
  | .hbm, ⟨31, _⟩ => ⟨S8x2048x1024, .f32⟩
  | .hbm, ⟨32, _⟩ => ⟨S8x2048x1024, .f32⟩
  | .hbm, ⟨33, _⟩ => ⟨S_, .f32⟩
  | .hbm, ⟨34, _⟩ => ⟨S8x1x1024, .f32⟩
  | .hbm, ⟨35, _⟩ => ⟨S8x1x1024, .f32⟩
  | .hbm, ⟨36, _⟩ => ⟨S8x2048x1024, .f32⟩
  | .hbm, ⟨37, _⟩ => ⟨S8x2048x1024, .f32⟩
  | .hbm, ⟨38, _⟩ => ⟨S8x2048x1024, .f32⟩
  | .hbm, ⟨39, _⟩ => ⟨S8x2048x1024, .f32⟩
  | .hbm, ⟨40, _⟩ => ⟨S8x2048x3208, .f32⟩
  | .hbm, ⟨41, _⟩ => ⟨S8x2048x256, .f32⟩
  | .hbm, ⟨42, _⟩ => ⟨S8x2048x256, .f32⟩
  | .hbm, ⟨43, _⟩ => ⟨S8x2048x256, .f32⟩
  | .hbm, ⟨44, _⟩ => ⟨S8x2048x256, .f32⟩
  | .hbm, ⟨45, _⟩ => ⟨S8x2048x512, .f32⟩
  | .hbm, ⟨46, _⟩ => ⟨S8x2048x768, .f32⟩
  | .hbm, ⟨47, _⟩ => ⟨S8x2048x8, .f32⟩
  | .hbm, ⟨48, _⟩ => ⟨S8x2048x896, .f32⟩
  | .hbm, ⟨49, _⟩ => ⟨S256, .f32⟩
  | .hbm, ⟨50, _⟩ => ⟨S256, .f32⟩
  | .hbm, ⟨51, _⟩ => ⟨S256, .f32⟩
  | .hbm, ⟨52, _⟩ => ⟨S8x2048x256, .f32⟩
  | .hbm, ⟨53, _⟩ => ⟨S_, .f32⟩
  | .hbm, ⟨54, _⟩ => ⟨S8x2048x256, .f32⟩
  | .hbm, ⟨55, _⟩ => ⟨S8x2048x256, .f32⟩
  | .hbm, ⟨56, _⟩ => ⟨S8x2048x256, .f32⟩
  | .hbm, ⟨57, _⟩ => ⟨S8x2048x256, .f32⟩
  | .hbm, ⟨58, _⟩ => ⟨S8x2048x256, .i1⟩
  | .hbm, ⟨59, _⟩ => ⟨S8x2048x256, .f32⟩
  | .hbm, ⟨60, _⟩ => ⟨S8x2048x256, .f32⟩
  | .hbm, ⟨61, _⟩ => ⟨S8x2048x256, .f32⟩
  | .hbm, ⟨62, _⟩ => ⟨S8x2048x256, .f32⟩
  | .hbm, ⟨63, _⟩ => ⟨S8x2048x256, .f32⟩
  | .hbm, ⟨64, _⟩ => ⟨S8x2048x256, .f32⟩
  | .hbm, ⟨65, _⟩ => ⟨S8x2048x256, .f32⟩
  | .hbm, ⟨66, _⟩ => ⟨S8x2048x256, .f32⟩
  | .hbm, ⟨67, _⟩ => ⟨S8x2048x256, .f32⟩
  | .hbm, ⟨68, _⟩ => ⟨S1x1x256, .f32⟩
  | .hbm, ⟨69, _⟩ => ⟨S8x2048x256, .f32⟩
  | .hbm, ⟨70, _⟩ => ⟨S8x2048x256, .f32⟩
  | .hbm, ⟨71, _⟩ => ⟨S1x1x256, .f32⟩
  | .hbm, ⟨72, _⟩ => ⟨S8x2048x256, .f32⟩
  | .hbm, ⟨73, _⟩ => ⟨S8x2048x256, .f32⟩
  | .hbm, ⟨74, _⟩ => ⟨S8x2048x256, .f32⟩
  | .hbm, ⟨75, _⟩ => ⟨S8x2048x256, .f32⟩
  | .hbm, ⟨76, _⟩ => ⟨S8x2048x256, .i1⟩
  | .hbm, ⟨77, _⟩ => ⟨S8x2048x256, .f32⟩
  | .hbm, ⟨78, _⟩ => ⟨S8x2048x256, .f32⟩
  | .hbm, ⟨79, _⟩ => ⟨S8x2048x256, .f32⟩
  | .hbm, ⟨80, _⟩ => ⟨S8x2048x256, .f32⟩
  | .hbm, ⟨81, _⟩ => ⟨S8x2048x256, .f32⟩
  | .hbm, ⟨82, _⟩ => ⟨S8x2048x256, .f32⟩
  | .hbm, ⟨83, _⟩ => ⟨S8x2048x256, .f32⟩
  | .hbm, ⟨84, _⟩ => ⟨S8x2048x256, .f32⟩
  | .hbm, ⟨85, _⟩ => ⟨S_, .f32⟩
  | .hbm, ⟨86, _⟩ => ⟨S256, .f32⟩
  | .hbm, ⟨87, _⟩ => ⟨S256, .f32⟩
  | .hbm, ⟨88, _⟩ => ⟨S8x2048x256, .f32⟩
  | .hbm, ⟨89, _⟩ => ⟨S8x2048x256, .f32⟩
  | .hbm, ⟨90, _⟩ => ⟨S8x2048x256, .f32⟩
  | .hbm, ⟨91, _⟩ => ⟨S_, .f32⟩
  | .hbm, ⟨92, _⟩ => ⟨S8x2048x256, .f32⟩
  | .hbm, ⟨93, _⟩ => ⟨S8x2048x256, .f32⟩
  | .hbm, ⟨94, _⟩ => ⟨S_, .f32⟩
  | .hbm, ⟨95, _⟩ => ⟨S8x2048x256, .f32⟩
  | .hbm, ⟨96, _⟩ => ⟨S8x2048x256, .f32⟩
  | .hbm, ⟨97, _⟩ => ⟨S1x1x256, .f32⟩
  | .hbm, ⟨98, _⟩ => ⟨S8x2048x256, .f32⟩
  | .hbm, ⟨99, _⟩ => ⟨S8x2048x256, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_call0_v0 : Ref sig .tc := ⟨.hbm, 52, rfl⟩
abbrev main_call0_call0_cst : Ref sig .tc := ⟨.hbm, 53, rfl⟩
abbrev main_call0_call0_v0 : Ref sig .tc := ⟨.hbm, 54, rfl⟩
abbrev main_call0_call0_v1 : Ref sig .tc := ⟨.hbm, 55, rfl⟩
abbrev main_call0_call0_v2 : Ref sig .tc := ⟨.hbm, 56, rfl⟩
abbrev main_call0_call0_v3 : Ref sig .tc := ⟨.hbm, 57, rfl⟩
abbrev main_call0_call0_v4 : Ref sig .tc := ⟨.hbm, 58, rfl⟩
abbrev main_call0_call0_v5 : Ref sig .tc := ⟨.hbm, 59, rfl⟩
abbrev main_call0_call0_v6 : Ref sig .tc := ⟨.hbm, 60, rfl⟩
abbrev main_call0_call0_v7 : Ref sig .tc := ⟨.hbm, 61, rfl⟩
abbrev main_call0_call0_v8 : Ref sig .tc := ⟨.hbm, 62, rfl⟩
abbrev main_call0_call0_v9 : Ref sig .tc := ⟨.hbm, 63, rfl⟩
abbrev main_call0_call0_v10 : Ref sig .tc := ⟨.hbm, 64, rfl⟩
abbrev main_call0_call0_v11 : Ref sig .tc := ⟨.hbm, 65, rfl⟩
abbrev main_call0_v1 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_3 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_cst_4 : Ref sig .tc := ⟨.hbm, 91, rfl⟩
abbrev main_v66 : Ref sig .tc := ⟨.hbm, 92, rfl⟩
abbrev main_v67 : Ref sig .tc := ⟨.hbm, 93, rfl⟩
abbrev main_cst_5 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩

abbrev nD : Nat := 1
abbrev τ : Topo := Topo.v7x

variable {F : FTy → Type} [FloatOps F]
-- ==== OutProj.lean ====
abbrev S8x2048x1024 : Shape := ⟨3, ![8, 2048, 1024]⟩
abbrev S8x6144 : Shape := ⟨2, ![8, 6144]⟩
abbrev S8x2048x256 : Shape := ⟨3, ![8, 2048, 256]⟩
abbrev S8x2048x512 : Shape := ⟨3, ![8, 2048, 512]⟩
abbrev S256 : Shape := ⟨1, ![256]⟩
abbrev S8 : Shape := ⟨1, ![8]⟩
abbrev S512 : Shape := ⟨1, ![512]⟩
abbrev S1024x1024 : Shape := ⟨2, ![1024, 1024]⟩
abbrev S8x1x6144 : Shape := ⟨3, ![8, 1, 6144]⟩
abbrev S1x256 : Shape := ⟨2, ![1, 256]⟩
abbrev S8x64 : Shape := ⟨2, ![8, 64]⟩
abbrev S1x512 : Shape := ⟨2, ![1, 512]⟩
abbrev S1x512x1024 : Shape := ⟨3, ![1, 512, 1024]⟩
abbrev S1x1x1024 : Shape := ⟨3, ![1, 1, 1024]⟩
abbrev S1x512x256 : Shape := ⟨3, ![1, 512, 256]⟩
abbrev S1x512x512 : Shape := ⟨3, ![1, 512, 512]⟩
abbrev S512x256 : Shape := ⟨2, ![512, 256]⟩
abbrev S256x256 : Shape := ⟨2, ![256, 256]⟩
abbrev S512x512 : Shape := ⟨2, ![512, 512]⟩
abbrev S512x1 : Shape := ⟨2, ![512, 1]⟩
abbrev S256x1024 : Shape := ⟨2, ![256, 1024]⟩
abbrev S512x1024 : Shape := ⟨2, ![512, 1024]⟩
abbrev S1x1024 : Shape := ⟨2, ![1, 1024]⟩

abbrev nBuf : Space → Nat
  | .hbm => 26
  | .vmem => 28
  | .smem => 0
  | _ => 0

abbrev bufTy : (tb : Table) → Fin (tcTables nBuf tb) → BufTy
  | .hbm, ⟨0, _⟩ => ⟨S8x2048x1024, .f32⟩
  | .hbm, ⟨1, _⟩ => ⟨S8x6144, .f32⟩
  | .hbm, ⟨2, _⟩ => ⟨S8x2048x256, .f32⟩
  | .hbm, ⟨3, _⟩ => ⟨S8x2048x256, .f32⟩
  | .hbm, ⟨4, _⟩ => ⟨S8x2048x512, .f32⟩
  | .hbm, ⟨5, _⟩ => ⟨S8x2048x512, .f32⟩
  | .hbm, ⟨6, _⟩ => ⟨S8x2048x512, .f32⟩
  | .hbm, ⟨7, _⟩ => ⟨S8x2048x256, .f32⟩
  | .hbm, ⟨8, _⟩ => ⟨S8x2048x256, .f32⟩
  | .hbm, ⟨9, _⟩ => ⟨S8x2048x256, .f32⟩
  | .hbm, ⟨10, _⟩ => ⟨S256, .f32⟩
  | .hbm, ⟨11, _⟩ => ⟨S8, .f32⟩
  | .hbm, ⟨12, _⟩ => ⟨S512, .f32⟩
  | .hbm, ⟨13, _⟩ => ⟨S256, .f32⟩
  | .hbm, ⟨14, _⟩ => ⟨S256, .f32⟩
  | .hbm, ⟨15, _⟩ => ⟨S1024x1024, .f32⟩
  | .hbm, ⟨16, _⟩ => ⟨S8x1x6144, .f32⟩
  | .hbm, ⟨17, _⟩ => ⟨S1x256, .f32⟩
  | .hbm, ⟨18, _⟩ => ⟨S8x64, .f32⟩
  | .hbm, ⟨19, _⟩ => ⟨S512, .f32⟩
  | .hbm, ⟨20, _⟩ => ⟨S1x512, .f32⟩
  | .hbm, ⟨21, _⟩ => ⟨S1x512, .f32⟩
  | .hbm, ⟨22, _⟩ => ⟨S1x256, .f32⟩
  | .hbm, ⟨23, _⟩ => ⟨S1x256, .f32⟩
  | .hbm, ⟨24, _⟩ => ⟨S1024x1024, .bf16⟩
  | .hbm, ⟨25, _⟩ => ⟨S8x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x512x256, .f32⟩
  | .local _ .vmem, ⟨5, _⟩ => ⟨S1x512x256, .f32⟩
  | .local _ .vmem, ⟨6, _⟩ => ⟨S1x512x256, .f32⟩
  | .local _ .vmem, ⟨7, _⟩ => ⟨S1x512x256, .f32⟩
  | .local _ .vmem, ⟨8, _⟩ => ⟨S1x512x512, .f32⟩
  | .local _ .vmem, ⟨9, _⟩ => ⟨S1x512x512, .f32⟩
  | .local _ .vmem, ⟨10, _⟩ => ⟨S1x512x512, .f32⟩
  | .local _ .vmem, ⟨11, _⟩ => ⟨S1x512x512, .f32⟩
  | .local _ .vmem, ⟨12, _⟩ => ⟨S1x512x512, .f32⟩
  | .local _ .vmem, ⟨13, _⟩ => ⟨S1x512x512, .f32⟩
  | .local _ .vmem, ⟨14, _⟩ => ⟨S1x512x256, .f32⟩
  | .local _ .vmem, ⟨15, _⟩ => ⟨S1x512x256, .f32⟩
  | .local _ .vmem, ⟨16, _⟩ => ⟨S1x512x256, .f32⟩
  | .local _ .vmem, ⟨17, _⟩ => ⟨S1x512x256, .f32⟩
  | .local _ .vmem, ⟨18, _⟩ => ⟨S1x512x256, .f32⟩
  | .local _ .vmem, ⟨19, _⟩ => ⟨S1x512x256, .f32⟩
  | .local _ .vmem, ⟨20, _⟩ => ⟨S1x256, .f32⟩
  | .local _ .vmem, ⟨21, _⟩ => ⟨S1x512, .f32⟩
  | .local _ .vmem, ⟨22, _⟩ => ⟨S1x512, .f32⟩
  | .local _ .vmem, ⟨23, _⟩ => ⟨S1x256, .f32⟩
  | .local _ .vmem, ⟨24, _⟩ => ⟨S1x256, .f32⟩
  | .local _ .vmem, ⟨25, _⟩ => ⟨S1024x1024, .bf16⟩
  | .local _ .vmem, ⟨26, _⟩ => ⟨S1x512x1024, .f32⟩
  | .local _ .vmem, ⟨27, _⟩ => ⟨S1x512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg16_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem16_0 : DmaSem sig := 26
abbrev cc0_sem16_1 : DmaSem sig := 27

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1024x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S1x512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== OutProjReferenceIdeal.lean ====
abbrev S8x2048x1024 : Shape := ⟨3, ![8, 2048, 1024]⟩
abbrev S8x6144 : Shape := ⟨2, ![8, 6144]⟩
abbrev S8x2048x256 : Shape := ⟨3, ![8, 2048, 256]⟩
abbrev S8x2048x512 : Shape := ⟨3, ![8, 2048, 512]⟩
abbrev S256 : Shape := ⟨1, ![256]⟩
abbrev S8 : Shape := ⟨1, ![8]⟩
abbrev S512 : Shape := ⟨1, ![512]⟩
abbrev S1024x1024 : Shape := ⟨2, ![1024, 1024]⟩
abbrev S8x1024 : Shape := ⟨2, ![8, 1024]⟩
abbrev S8x1x1024 : Shape := ⟨3, ![8, 1, 1024]⟩
abbrev S8x2048x4x64 : Shape := ⟨4, ![8, 2048, 4, 64]⟩
abbrev S4x64 : Shape := ⟨2, ![4, 64]⟩
abbrev S_ : Shape := ⟨0, ![]⟩
abbrev S8x2048x4 : Shape := ⟨3, ![8, 2048, 4]⟩
abbrev S8x2048x4x1 : Shape := ⟨4, ![8, 2048, 4, 1]⟩
abbrev S1x1x4x64 : Shape := ⟨4, ![1, 1, 4, 64]⟩
abbrev S8x2048x8x64 : Shape := ⟨4, ![8, 2048, 8, 64]⟩
abbrev S8x1 : Shape := ⟨2, ![8, 1]⟩
abbrev S1x1x8x1 : Shape := ⟨4, ![1, 1, 8, 1]⟩
abbrev S8x2048x2x256 : Shape := ⟨4, ![8, 2048, 2, 256]⟩
abbrev S2x256 : Shape := ⟨2, ![2, 256]⟩
abbrev S8x2048x2 : Shape := ⟨3, ![8, 2048, 2]⟩
abbrev S8x2048x2x1 : Shape := ⟨4, ![8, 2048, 2, 1]⟩
abbrev S1x1x2x256 : Shape := ⟨4, ![1, 1, 2, 256]⟩

abbrev nBuf : Space → Nat
  | .hbm => 125
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x6144, .f32⟩
  | .hbm, ⟨2, _⟩ => ⟨S8x2048x256, .f32⟩
  | .hbm, ⟨3, _⟩ => ⟨S8x2048x256, .f32⟩
  | .hbm, ⟨4, _⟩ => ⟨S8x2048x512, .f32⟩
  | .hbm, ⟨5, _⟩ => ⟨S8x2048x512, .f32⟩
  | .hbm, ⟨6, _⟩ => ⟨S8x2048x512, .f32⟩
  | .hbm, ⟨7, _⟩ => ⟨S8x2048x256, .f32⟩
  | .hbm, ⟨8, _⟩ => ⟨S8x2048x256, .f32⟩
  | .hbm, ⟨9, _⟩ => ⟨S8x2048x256, .f32⟩
  | .hbm, ⟨10, _⟩ => ⟨S256, .f32⟩
  | .hbm, ⟨11, _⟩ => ⟨S8, .f32⟩
  | .hbm, ⟨12, _⟩ => ⟨S512, .f32⟩
  | .hbm, ⟨13, _⟩ => ⟨S256, .f32⟩
  | .hbm, ⟨14, _⟩ => ⟨S256, .f32⟩
  | .hbm, ⟨15, _⟩ => ⟨S1024x1024, .f32⟩
  | .hbm, ⟨16, _⟩ => ⟨S8x1024, .f32⟩
  | .hbm, ⟨17, _⟩ => ⟨S8x1024, .f32⟩
  | .hbm, ⟨18, _⟩ => ⟨S8x1024, .f32⟩
  | .hbm, ⟨19, _⟩ => ⟨S8x1024, .f32⟩
  | .hbm, ⟨20, _⟩ => ⟨S8x1024, .f32⟩
  | .hbm, ⟨21, _⟩ => ⟨S8x1024, .f32⟩
  | .hbm, ⟨22, _⟩ => ⟨S8x1x1024, .f32⟩
  | .hbm, ⟨23, _⟩ => ⟨S8x1x1024, .f32⟩
  | .hbm, ⟨24, _⟩ => ⟨S8x1x1024, .f32⟩
  | .hbm, ⟨25, _⟩ => ⟨S8x1x1024, .f32⟩
  | .hbm, ⟨26, _⟩ => ⟨S8x1x1024, .f32⟩
  | .hbm, ⟨27, _⟩ => ⟨S8x1x1024, .f32⟩
  | .hbm, ⟨28, _⟩ => ⟨S8x2048x4x64, .f32⟩
  | .hbm, ⟨29, _⟩ => ⟨S4x64, .f32⟩
  | .hbm, ⟨30, _⟩ => ⟨S8x2048x4x64, .f32⟩
  | .hbm, ⟨31, _⟩ => ⟨S_, .f32⟩
  | .hbm, ⟨32, _⟩ => ⟨S8x2048x4, .f32⟩
  | .hbm, ⟨33, _⟩ => ⟨S8x2048x4x1, .f32⟩
  | .hbm, ⟨34, _⟩ => ⟨S_, .f32⟩
  | .hbm, ⟨35, _⟩ => ⟨S8x2048x4x1, .f32⟩
  | .hbm, ⟨36, _⟩ => ⟨S8x2048x4x1, .f32⟩
  | .hbm, ⟨37, _⟩ => ⟨S_, .f32⟩
  | .hbm, ⟨38, _⟩ => ⟨S8x2048x4x1, .f32⟩
  | .hbm, ⟨39, _⟩ => ⟨S8x2048x4x1, .f32⟩
  | .hbm, ⟨40, _⟩ => ⟨S8x2048x4x1, .f32⟩
  | .hbm, ⟨41, _⟩ => ⟨S8x2048x4x64, .f32⟩
  | .hbm, ⟨42, _⟩ => ⟨S8x2048x4x64, .f32⟩
  | .hbm, ⟨43, _⟩ => ⟨S1x1x4x64, .f32⟩
  | .hbm, ⟨44, _⟩ => ⟨S8x2048x4x64, .f32⟩
  | .hbm, ⟨45, _⟩ => ⟨S8x2048x4x64, .f32⟩
  | .hbm, ⟨46, _⟩ => ⟨S8x2048x256, .f32⟩
  | .hbm, ⟨47, _⟩ => ⟨S8x2048x256, .f32⟩
  | .hbm, ⟨48, _⟩ => ⟨S8x2048x256, .f32⟩
  | .hbm, ⟨49, _⟩ => ⟨S_, .f32⟩
  | .hbm, ⟨50, _⟩ => ⟨S8x2048x256, .f32⟩
  | .hbm, ⟨51, _⟩ => ⟨S8x2048x256, .f32⟩
  | .hbm, ⟨52, _⟩ => ⟨S_, .f32⟩
  | .hbm, ⟨53, _⟩ => ⟨S8x2048x256, .f32⟩
  | .hbm, ⟨54, _⟩ => ⟨S8x2048x256, .f32⟩
  | .hbm, ⟨55, _⟩ => ⟨S8x2048x256, .f32⟩
  | .hbm, ⟨56, _⟩ => ⟨S8x2048x256, .f32⟩
  | .hbm, ⟨57, _⟩ => ⟨S8x2048x8x64, .f32⟩
  | .hbm, ⟨58, _⟩ => ⟨S8x1, .f32⟩
  | .hbm, ⟨59, _⟩ => ⟨S8x2048x8x64, .f32⟩
  | .hbm, ⟨60, _⟩ => ⟨S1x1x8x1, .f32⟩
  | .hbm, ⟨61, _⟩ => ⟨S8x2048x8x64, .f32⟩
  | .hbm, ⟨62, _⟩ => ⟨S8x2048x8x64, .f32⟩
  | .hbm, ⟨63, _⟩ => ⟨S8x2048x8x64, .f32⟩
  | .hbm, ⟨64, _⟩ => ⟨S8x2048x512, .f32⟩
  | .hbm, ⟨65, _⟩ => ⟨S8x2048x512, .f32⟩
  | .hbm, ⟨66, _⟩ => ⟨S8x2048x2x256, .f32⟩
  | .hbm, ⟨67, _⟩ => ⟨S2x256, .f32⟩
  | .hbm, ⟨68, _⟩ => ⟨S8x2048x2x256, .f32⟩
  | .hbm, ⟨69, _⟩ => ⟨S_, .f32⟩
  | .hbm, ⟨70, _⟩ => ⟨S8x2048x2, .f32⟩
  | .hbm, ⟨71, _⟩ => ⟨S8x2048x2x1, .f32⟩
  | .hbm, ⟨72, _⟩ => ⟨S_, .f32⟩
  | .hbm, ⟨73, _⟩ => ⟨S8x2048x2x1, .f32⟩
  | .hbm, ⟨74, _⟩ => ⟨S8x2048x2x1, .f32⟩
  | .hbm, ⟨75, _⟩ => ⟨S_, .f32⟩
  | .hbm, ⟨76, _⟩ => ⟨S8x2048x2x1, .f32⟩
  | .hbm, ⟨77, _⟩ => ⟨S8x2048x2x1, .f32⟩
  | .hbm, ⟨78, _⟩ => ⟨S8x2048x2x1, .f32⟩
  | .hbm, ⟨79, _⟩ => ⟨S8x2048x2x256, .f32⟩
  | .hbm, ⟨80, _⟩ => ⟨S8x2048x2x256, .f32⟩
  | .hbm, ⟨81, _⟩ => ⟨S1x1x2x256, .f32⟩
  | .hbm, ⟨82, _⟩ => ⟨S8x2048x2x256, .f32⟩
  | .hbm, ⟨83, _⟩ => ⟨S8x2048x2x256, .f32⟩
  | .hbm, ⟨84, _⟩ => ⟨S8x2048x512, .f32⟩
  | .hbm, ⟨85, _⟩ => ⟨S8x2048x4x64, .f32⟩
  | .hbm, ⟨86, _⟩ => ⟨S_, .f32⟩
  | .hbm, ⟨87, _⟩ => ⟨S8x2048x4, .f32⟩
  | .hbm, ⟨88, _⟩ => ⟨S8x2048x4x1, .f32⟩
  | .hbm, ⟨89, _⟩ => ⟨S_, .f32⟩
  | .hbm, ⟨90, _⟩ => ⟨S8x2048x4x1, .f32⟩
  | .hbm, ⟨91, _⟩ => ⟨S8x2048x4x1, .f32⟩
  | .hbm, ⟨92, _⟩ => ⟨S8x2048x4x64, .f32⟩
  | .hbm, ⟨93, _⟩ => ⟨S8x2048x4x64, .f32⟩
  | .hbm, ⟨94, _⟩ => ⟨S8x2048x4x64, .f32⟩
  | .hbm, ⟨95, _⟩ => ⟨S_, .f32⟩
  | .hbm, ⟨96, _⟩ => ⟨S8x2048x4, .f32⟩
  | .hbm, ⟨97, _⟩ => ⟨S8x2048x4x1, .f32⟩
  | .hbm, ⟨98, _⟩ => ⟨S_, .f32⟩
  | .hbm, ⟨99, _⟩ => ⟨S8x2048x4x1, .f32⟩
  | .hbm, ⟨100, _⟩ => ⟨S8x2048x4x1, .f32⟩
  | .hbm, ⟨101, _⟩ => ⟨S8x2048x4x64, .f32⟩
  | .hbm, ⟨102, _⟩ => ⟨S8x2048x4x64, .f32⟩
  | .hbm, ⟨103, _⟩ => ⟨S_, .f32⟩
  | .hbm, ⟨104, _⟩ => ⟨S8x2048x4x1, .f32⟩
  | .hbm, ⟨105, _⟩ => ⟨S8x2048x4x1, .f32⟩
  | .hbm, ⟨106, _⟩ => ⟨S8x2048x4x1, .f32⟩
  | .hbm, ⟨107, _⟩ => ⟨S8x2048x4x64, .f32⟩
  | .hbm, ⟨108, _⟩ => ⟨S8x2048x4x64, .f32⟩
  | .hbm, ⟨109, _⟩ => ⟨S4x64, .f32⟩
  | .hbm, ⟨110, _⟩ => ⟨S1x1x4x64, .f32⟩
  | .hbm, ⟨111, _⟩ => ⟨S8x2048x4x64, .f32⟩
  | .hbm, ⟨112, _⟩ => ⟨S8x2048x4x64, .f32⟩
  | .hbm, ⟨113, _⟩ => ⟨S4x64, .f32⟩
  | .hbm, ⟨114, _⟩ => ⟨S1x1x4x64, .f32⟩
  | .hbm, ⟨115, _⟩ => ⟨S8x2048x4x64, .f32⟩
  | .hbm, ⟨116, _⟩ => ⟨S8x2048x4x64, .f32⟩
  | .hbm, ⟨117, _⟩ => ⟨S8x2048x256, .f32⟩
  | .hbm, ⟨118, _⟩ => ⟨S8x2048x256, .f32⟩
  | .hbm, ⟨119, _⟩ => ⟨S8x2048x256, .f32⟩
  | .hbm, ⟨120, _⟩ => ⟨S8x2048x1024, .f32⟩
  | .hbm, ⟨121, _⟩ => ⟨S8x2048x1024, .f32⟩
  | .hbm, ⟨122, _⟩ => ⟨S8x2048x1024, .f32⟩
  | .hbm, ⟨123, _⟩ => ⟨S8x2048x1024, .f32⟩
  | .hbm, ⟨124, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst : Ref sig .tc := ⟨.hbm, 31, rfl⟩
abbrev main_v15 : Ref sig .tc := ⟨.hbm, 32, rfl⟩
abbrev main_v16 : Ref sig .tc := ⟨.hbm, 33, rfl⟩
abbrev main_cst_0 : Ref sig .tc := ⟨.hbm, 34, rfl⟩
abbrev main_v17 : Ref sig .tc := ⟨.hbm, 35, rfl⟩
abbrev main_v18 : Ref sig .tc := ⟨.hbm, 36, rfl⟩
abbrev main_cst_1 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_call0_v0 : Ref sig .tc := ⟨.hbm, 47, rfl⟩
abbrev main_call0_v1 : Ref sig .tc := ⟨.hbm, 48, rfl⟩
abbrev main_call0_cst : Ref sig .tc := ⟨.hbm, 49, rfl⟩
abbrev main_call0_v2 : Ref sig .tc := ⟨.hbm, 50, rfl⟩
abbrev main_call0_v3 : Ref sig .tc := ⟨.hbm, 51, rfl⟩
abbrev main_call0_cst_0 : Ref sig .tc := ⟨.hbm, 52, rfl⟩
abbrev main_call0_v4 : Ref sig .tc := ⟨.hbm, 53, rfl⟩
abbrev main_call0_v5 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_2 : Ref sig .tc := ⟨.hbm, 69, rfl⟩
abbrev main_v42 : Ref sig .tc := ⟨.hbm, 70, rfl⟩
abbrev main_v43 : Ref sig .tc := ⟨.hbm, 71, rfl⟩
abbrev main_cst_3 : Ref sig .tc := ⟨.hbm, 72, rfl⟩
abbrev main_v44 : Ref sig .tc := ⟨.hbm, 73, rfl⟩
abbrev main_v45 : Ref sig .tc := ⟨.hbm, 74, rfl⟩
abbrev main_cst_4 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_cst_5 : Ref sig .tc := ⟨.hbm, 86, rfl⟩
abbrev main_v56 : Ref sig .tc := ⟨.hbm, 87, rfl⟩
abbrev main_v57 : Ref sig .tc := ⟨.hbm, 88, rfl⟩
abbrev main_cst_6 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_cst_7 : Ref sig .tc := ⟨.hbm, 95, rfl⟩
abbrev main_v63 : Ref sig .tc := ⟨.hbm, 96, rfl⟩
abbrev main_v64 : Ref sig .tc := ⟨.hbm, 97, rfl⟩
abbrev main_cst_8 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_cst_9 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩

abbrev nD : Nat := 1
abbrev τ : Topo := Topo.v7x

variable {F : FTy → Type} [FloatOps F]
-- ==== RecHg.lean ====
abbrev S1x128x256 : Shape := ⟨3, ![1, 128, 256]⟩
abbrev S128x4x64x64 : Shape := ⟨4, ![128, 4, 64, 64]⟩
abbrev S128x256 : Shape := ⟨2, ![128, 256]⟩
abbrev S256x128 : Shape := ⟨2, ![256, 128]⟩
abbrev S_ : Shape := ⟨0, ![]⟩
abbrev S8x256 : Shape := ⟨2, ![8, 256]⟩
abbrev S8x4x64x64 : Shape := ⟨4, ![8, 4, 64, 64]⟩
abbrev S1x128 : Shape := ⟨2, ![1, 128]⟩
abbrev S1x1x64x64 : Shape := ⟨4, ![1, 1, 64, 64]⟩
abbrev S64x64 : Shape := ⟨2, ![64, 64]⟩
abbrev S64x128 : Shape := ⟨2, ![64, 128]⟩
abbrev S128x128 : Shape := ⟨2, ![128, 128]⟩
abbrev S128 : Shape := ⟨1, ![128]⟩
abbrev S128x1 : Shape := ⟨2, ![128, 1]⟩
abbrev S64x1 : Shape := ⟨2, ![64, 1]⟩
abbrev S64 : Shape := ⟨1, ![64]⟩

abbrev nBuf : Space → Nat
  | .hbm => 16
  | .vmem => 12
  | .smem => 0
  | _ => 0

abbrev bufTy : (tb : Table) → Fin (tcTables nBuf tb) → BufTy
  | .hbm, ⟨0, _⟩ => ⟨S1x128x256, .f32⟩
  | .hbm, ⟨1, _⟩ => ⟨S1x128x256, .f32⟩
  | .hbm, ⟨2, _⟩ => ⟨S1x128x256, .f32⟩
  | .hbm, ⟨3, _⟩ => ⟨S1x128x256, .f32⟩
  | .hbm, ⟨4, _⟩ => ⟨S128x4x64x64, .f32⟩
  | .hbm, ⟨5, _⟩ => ⟨S128x4x64x64, .f32⟩
  | .hbm, ⟨6, _⟩ => ⟨S128x256, .f32⟩
  | .hbm, ⟨7, _⟩ => ⟨S256x128, .f32⟩
  | .hbm, ⟨8, _⟩ => ⟨S_, .i32⟩
  | .hbm, ⟨9, _⟩ => ⟨S_, .f32⟩
  | .hbm, ⟨10, _⟩ => ⟨S256x128, .f32⟩
  | .hbm, ⟨11, _⟩ => ⟨S128x256, .f32⟩
  | .hbm, ⟨12, _⟩ => ⟨S128x256, .f32⟩
  | .hbm, ⟨13, _⟩ => ⟨S128x256, .f32⟩
  | .hbm, ⟨14, _⟩ => ⟨S256x128, .f32⟩
  | .hbm, ⟨15, _⟩ => ⟨S128x4x64x64, .f32⟩
  | .local _ .vmem, ⟨0, _⟩ => ⟨S8x256, .f32⟩
  | .local _ .vmem, ⟨1, _⟩ => ⟨S8x256, .f32⟩
  | .local _ .vmem, ⟨2, _⟩ => ⟨S8x256, .f32⟩
  | .local _ .vmem, ⟨3, _⟩ => ⟨S8x256, .f32⟩
  | .local _ .vmem, ⟨4, _⟩ => ⟨S8x256, .f32⟩
  | .local _ .vmem, ⟨5, _⟩ => ⟨S8x256, .f32⟩
  | .local _ .vmem, ⟨6, _⟩ => ⟨S256x128, .f32⟩
  | .local _ .vmem, ⟨7, _⟩ => ⟨S8x4x64x64, .f32⟩
  | .local _ .vmem, ⟨8, _⟩ => ⟨S8x4x64x64, .f32⟩
  | .local _ .vmem, ⟨9, _⟩ => ⟨S256x128, .f32⟩
  | .local _ .vmem, ⟨10, _⟩ => ⟨S8x4x64x64, .f32⟩
  | .local _ .vmem, ⟨11, _⟩ => ⟨S8x4x64x64, .f32⟩
  | _, _ => ⟨S1x128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S8x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8x4x64x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8x4x64x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== RecHgReferenceIdeal.lean ====
abbrev S1x128x256 : Shape := ⟨3, ![1, 128, 256]⟩
abbrev S128x4x64x64 : Shape := ⟨4, ![128, 4, 64, 64]⟩
abbrev S128x4x64 : Shape := ⟨3, ![128, 4, 64]⟩
abbrev S128x4x64x1 : Shape := ⟨4, ![128, 4, 64, 1]⟩
abbrev S128x4x1x64 : Shape := ⟨4, ![128, 4, 1, 64]⟩
abbrev S128x256 : Shape := ⟨2, ![128, 256]⟩
abbrev S256x128 : Shape := ⟨2, ![256, 128]⟩

abbrev nBuf : Space → Nat
  | .hbm => 22
  | .vmem => 0
  | .smem => 0
  | _ => 0

abbrev bufTy : (tb : Table) → Fin (tcTables nBuf tb) → BufTy
  | .hbm, ⟨0, _⟩ => ⟨S1x128x256, .f32⟩
  | .hbm, ⟨1, _⟩ => ⟨S1x128x256, .f32⟩
  | .hbm, ⟨2, _⟩ => ⟨S1x128x256, .f32⟩
  | .hbm, ⟨3, _⟩ => ⟨S1x128x256, .f32⟩
  | .hbm, ⟨4, _⟩ => ⟨S128x4x64x64, .f32⟩
  | .hbm, ⟨5, _⟩ => ⟨S128x4x64, .f32⟩
  | .hbm, ⟨6, _⟩ => ⟨S128x4x64, .f32⟩
  | .hbm, ⟨7, _⟩ => ⟨S128x4x64, .f32⟩
  | .hbm, ⟨8, _⟩ => ⟨S128x4x64, .f32⟩
  | .hbm, ⟨9, _⟩ => ⟨S128x4x64x1, .f32⟩
  | .hbm, ⟨10, _⟩ => ⟨S128x4x64x64, .f32⟩
  | .hbm, ⟨11, _⟩ => ⟨S128x4x64x64, .f32⟩
  | .hbm, ⟨12, _⟩ => ⟨S128x4x64x1, .f32⟩
  | .hbm, ⟨13, _⟩ => ⟨S128x4x1x64, .f32⟩
  | .hbm, ⟨14, _⟩ => ⟨S128x4x64x64, .f32⟩
  | .hbm, ⟨15, _⟩ => ⟨S128x4x64x64, .f32⟩
  | .hbm, ⟨16, _⟩ => ⟨S128x4x64x64, .f32⟩
  | .hbm, ⟨17, _⟩ => ⟨S128x4x64x64, .f32⟩
  | .hbm, ⟨18, _⟩ => ⟨S128x4x64, .f32⟩
  | .hbm, ⟨19, _⟩ => ⟨S128x256, .f32⟩
  | .hbm, ⟨20, _⟩ => ⟨S256x128, .f32⟩
  | .hbm, ⟨21, _⟩ => ⟨S128x4x64x64, .f32⟩
  | _, _ => ⟨S1x128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]
-- ==== RecMb.lean ====
abbrev S1x128x512 : Shape := ⟨3, ![1, 128, 512]⟩
abbrev S1x128x256 : Shape := ⟨3, ![1, 128, 256]⟩
abbrev S128x8x64x64 : Shape := ⟨4, ![128, 8, 64, 64]⟩
abbrev S128x512 : Shape := ⟨2, ![128, 512]⟩
abbrev S512x128 : Shape := ⟨2, ![512, 128]⟩
abbrev S_ : Shape := ⟨0, ![]⟩
abbrev S128x256 : Shape := ⟨2, ![128, 256]⟩
abbrev S8x512 : Shape := ⟨2, ![8, 512]⟩
abbrev S8x256 : Shape := ⟨2, ![8, 256]⟩
abbrev S8x8x64x64 : Shape := ⟨4, ![8, 8, 64, 64]⟩
abbrev S1x128 : Shape := ⟨2, ![1, 128]⟩
abbrev S1x1x64x64 : Shape := ⟨4, ![1, 1, 64, 64]⟩
abbrev S64x64 : Shape := ⟨2, ![64, 64]⟩
abbrev S64x128 : Shape := ⟨2, ![64, 128]⟩
abbrev S128x128 : Shape := ⟨2, ![128, 128]⟩
abbrev S128 : Shape := ⟨1, ![128]⟩
abbrev S128x1 : Shape := ⟨2, ![128, 1]⟩
abbrev S64x1 : Shape := ⟨2, ![64, 1]⟩
abbrev S64 : Shape := ⟨1, ![64]⟩

abbrev nBuf : Space → Nat
  | .hbm => 15
  | .vmem => 12
  | .smem => 0
  | _ => 0

abbrev bufTy : (tb : Table) → Fin (tcTables nBuf tb) → BufTy
  | .hbm, ⟨0, _⟩ => ⟨S1x128x512, .f32⟩
  | .hbm, ⟨1, _⟩ => ⟨S1x128x256, .f32⟩
  | .hbm, ⟨2, _⟩ => ⟨S1x128x256, .f32⟩
  | .hbm, ⟨3, _⟩ => ⟨S1x128x512, .f32⟩
  | .hbm, ⟨4, _⟩ => ⟨S128x8x64x64, .f32⟩
  | .hbm, ⟨5, _⟩ => ⟨S128x512, .f32⟩
  | .hbm, ⟨6, _⟩ => ⟨S512x128, .f32⟩
  | .hbm, ⟨7, _⟩ => ⟨S_, .i32⟩
  | .hbm, ⟨8, _⟩ => ⟨S_, .f32⟩
  | .hbm, ⟨9, _⟩ => ⟨S512x128, .f32⟩
  | .hbm, ⟨10, _⟩ => ⟨S128x512, .f32⟩
  | .hbm, ⟨11, _⟩ => ⟨S128x256, .f32⟩
  | .hbm, ⟨12, _⟩ => ⟨S128x256, .f32⟩
  | .hbm, ⟨13, _⟩ => ⟨S512x128, .f32⟩
  | .hbm, ⟨14, _⟩ => ⟨S128x8x64x64, .f32⟩
  | .local _ .vmem, ⟨0, _⟩ => ⟨S8x512, .f32⟩
  | .local _ .vmem, ⟨1, _⟩ => ⟨S8x512, .f32⟩
  | .local _ .vmem, ⟨2, _⟩ => ⟨S8x256, .f32⟩
  | .local _ .vmem, ⟨3, _⟩ => ⟨S8x256, .f32⟩
  | .local _ .vmem, ⟨4, _⟩ => ⟨S8x256, .f32⟩
  | .local _ .vmem, ⟨5, _⟩ => ⟨S8x256, .f32⟩
  | .local _ .vmem, ⟨6, _⟩ => ⟨S512x128, .f32⟩
  | .local _ .vmem, ⟨7, _⟩ => ⟨S8x8x64x64, .f32⟩
  | .local _ .vmem, ⟨8, _⟩ => ⟨S8x8x64x64, .f32⟩
  | .local _ .vmem, ⟨9, _⟩ => ⟨S512x128, .f32⟩
  | .local _ .vmem, ⟨10, _⟩ => ⟨S8x8x64x64, .f32⟩
  | .local _ .vmem, ⟨11, _⟩ => ⟨S8x8x64x64, .f32⟩
  | _, _ => ⟨S1x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8x8x64x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8x8x64x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== RecMbReferenceIdeal.lean ====
abbrev S1x128x512 : Shape := ⟨3, ![1, 128, 512]⟩
abbrev S1x128x256 : Shape := ⟨3, ![1, 128, 256]⟩
abbrev S128x8x64x64 : Shape := ⟨4, ![128, 8, 64, 64]⟩
abbrev S128x8x64 : Shape := ⟨3, ![128, 8, 64]⟩
abbrev S128x2x1x2x64 : Shape := ⟨5, ![128, 2, 1, 2, 64]⟩
abbrev S128x2x2x2x64 : Shape := ⟨5, ![128, 2, 2, 2, 64]⟩
abbrev S128x8x1x64 : Shape := ⟨4, ![128, 8, 1, 64]⟩
abbrev S128x8x64x1 : Shape := ⟨4, ![128, 8, 64, 1]⟩
abbrev S128x512 : Shape := ⟨2, ![128, 512]⟩
abbrev S512x128 : Shape := ⟨2, ![512, 128]⟩

abbrev nBuf : Space → Nat
  | .hbm => 25
  | .vmem => 0
  | .smem => 0
  | _ => 0

abbrev bufTy : (tb : Table) → Fin (tcTables nBuf tb) → BufTy
  | .hbm, ⟨0, _⟩ => ⟨S1x128x512, .f32⟩
  | .hbm, ⟨1, _⟩ => ⟨S1x128x256, .f32⟩
  | .hbm, ⟨2, _⟩ => ⟨S1x128x256, .f32⟩
  | .hbm, ⟨3, _⟩ => ⟨S1x128x512, .f32⟩
  | .hbm, ⟨4, _⟩ => ⟨S128x8x64x64, .f32⟩
  | .hbm, ⟨5, _⟩ => ⟨S128x8x64, .f32⟩
  | .hbm, ⟨6, _⟩ => ⟨S128x8x64, .f32⟩
  | .hbm, ⟨7, _⟩ => ⟨S128x2x1x2x64, .f32⟩
  | .hbm, ⟨8, _⟩ => ⟨S128x2x2x2x64, .f32⟩
  | .hbm, ⟨9, _⟩ => ⟨S128x8x64, .f32⟩
  | .hbm, ⟨10, _⟩ => ⟨S128x2x1x2x64, .f32⟩
  | .hbm, ⟨11, _⟩ => ⟨S128x2x2x2x64, .f32⟩
  | .hbm, ⟨12, _⟩ => ⟨S128x8x64, .f32⟩
  | .hbm, ⟨13, _⟩ => ⟨S128x8x1x64, .f32⟩
  | .hbm, ⟨14, _⟩ => ⟨S128x8x64x64, .f32⟩
  | .hbm, ⟨15, _⟩ => ⟨S128x8x64x64, .f32⟩
  | .hbm, ⟨16, _⟩ => ⟨S128x8x64x1, .f32⟩
  | .hbm, ⟨17, _⟩ => ⟨S128x8x1x64, .f32⟩
  | .hbm, ⟨18, _⟩ => ⟨S128x8x64x64, .f32⟩
  | .hbm, ⟨19, _⟩ => ⟨S128x8x64x64, .f32⟩
  | .hbm, ⟨20, _⟩ => ⟨S128x8x64x64, .f32⟩
  | .hbm, ⟨21, _⟩ => ⟨S128x8x64x64, .f32⟩
  | .hbm, ⟨22, _⟩ => ⟨S128x8x64, .f32⟩
  | .hbm, ⟨23, _⟩ => ⟨S128x512, .f32⟩
  | .hbm, ⟨24, _⟩ => ⟨S512x128, .f32⟩
  | _, _ => ⟨S1x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩

abbrev nD : Nat := 1
abbrev τ : Topo := Topo.v7x

variable {F : FTy → Type} [FloatOps F]
-- ==== FfnStep.lean ====
abbrev S128x1x1024 : Shape := ⟨3, ![128, 1, 1024]⟩
abbrev S1024 : Shape := ⟨1, ![1024]⟩
abbrev S128x6144 : Shape := ⟨2, ![128, 6144]⟩
abbrev S1024x2816 : Shape := ⟨2, ![1024, 2816]⟩
abbrev S2816x1024 : Shape := ⟨2, ![2816, 1024]⟩
abbrev S1x128x1024 : Shape := ⟨3, ![1, 128, 1024]⟩
abbrev S1x1024 : Shape := ⟨2, ![1, 1024]⟩
abbrev S1x128x6144 : Shape := ⟨3, ![1, 128, 6144]⟩
abbrev S128x2816 : Shape := ⟨2, ![128, 2816]⟩
abbrev S128x1024 : Shape := ⟨2, ![128, 1024]⟩
abbrev S128 : Shape := ⟨1, ![128]⟩
abbrev S128x1 : Shape := ⟨2, ![128, 1]⟩
abbrev S1024x256 : Shape := ⟨2, ![1024, 256]⟩
abbrev S128x256 : Shape := ⟨2, ![128, 256]⟩

abbrev nBuf : Space → Nat
  | .hbm => 15
  | .vmem => 11
  | .smem => 0
  | _ => 0

abbrev bufTy : (tb : Table) → Fin (tcTables nBuf tb) → BufTy
  | .hbm, ⟨0, _⟩ => ⟨S128x1x1024, .f32⟩
  | .hbm, ⟨1, _⟩ => ⟨S1024, .f32⟩
  | .hbm, ⟨2, _⟩ => ⟨S128x6144, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1024, .f32⟩
  | .hbm, ⟨7, _⟩ => ⟨S1x128x1024, .f32⟩
  | .hbm, ⟨8, _⟩ => ⟨S1x1024, .f32⟩
  | .hbm, ⟨9, _⟩ => ⟨S1x128x6144, .f32⟩
  | .hbm, ⟨10, _⟩ => ⟨S1024x2816, .bf16⟩
  | .hbm, ⟨11, _⟩ => ⟨S1024x2816, .bf16⟩
  | .hbm, ⟨12, _⟩ => ⟨S2816x1024, .bf16⟩
  | .hbm, ⟨13, _⟩ => ⟨S1x1024, .f32⟩
  | .hbm, ⟨14, _⟩ => ⟨S1x128x1024, .f32⟩
  | .local _ .vmem, ⟨0, _⟩ => ⟨S1x128x1024, .f32⟩
  | .local _ .vmem, ⟨1, _⟩ => ⟨S1x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1024x2816, .bf16⟩
  | .local _ .vmem, ⟨6, _⟩ => ⟨S1024x2816, .bf16⟩
  | .local _ .vmem, ⟨7, _⟩ => ⟨S2816x1024, .bf16⟩
  | .local _ .vmem, ⟨8, _⟩ => ⟨S1x1024, .f32⟩
  | .local _ .vmem, ⟨9, _⟩ => ⟨S1x128x1024, .f32⟩
  | .local _ .vmem, ⟨10, _⟩ => ⟨S128x2816, .bf16⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_4 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, arg1.toNat, c5_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, true]
-- ==== FfnStepReferenceIdeal.lean ====
abbrev S128x1x1024 : Shape := ⟨3, ![128, 1, 1024]⟩
abbrev S1024 : Shape := ⟨1, ![1024]⟩
abbrev S128x6144 : Shape := ⟨2, ![128, 6144]⟩
abbrev S1024x2816 : Shape := ⟨2, ![1024, 2816]⟩
abbrev S2816x1024 : Shape := ⟨2, ![2816, 1024]⟩
abbrev S128x1024 : Shape := ⟨2, ![128, 1024]⟩
abbrev S_ : Shape := ⟨0, ![]⟩
abbrev S128x1 : Shape := ⟨2, ![128, 1]⟩
abbrev S128x1x1 : Shape := ⟨3, ![128, 1, 1]⟩
abbrev S1x1x1024 : Shape := ⟨3, ![1, 1, 1024]⟩
abbrev S128x1x2816 : Shape := ⟨3, ![128, 1, 2816]⟩
abbrev S1x128x1024 : Shape := ⟨3, ![1, 128, 1024]⟩

abbrev nBuf : Space → Nat
  | .hbm => 72
  | .vmem => 0
  | .smem => 0
  | _ => 0

abbrev bufTy : (tb : Table) → Fin (tcTables nBuf tb) → BufTy
  | .hbm, ⟨0, _⟩ => ⟨S128x1x1024, .f32⟩
  | .hbm, ⟨1, _⟩ => ⟨S1024, .f32⟩
  | .hbm, ⟨2, _⟩ => ⟨S128x6144, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1024, .f32⟩
  | .hbm, ⟨7, _⟩ => ⟨S128x1024, .f32⟩
  | .hbm, ⟨8, _⟩ => ⟨S128x1024, .f32⟩
  | .hbm, ⟨9, _⟩ => ⟨S128x1024, .f32⟩
  | .hbm, ⟨10, _⟩ => ⟨S128x1024, .f32⟩
  | .hbm, ⟨11, _⟩ => ⟨S128x1024, .f32⟩
  | .hbm, ⟨12, _⟩ => ⟨S128x1024, .f32⟩
  | .hbm, ⟨13, _⟩ => ⟨S128x1x1024, .f32⟩
  | .hbm, ⟨14, _⟩ => ⟨S128x1x1024, .f32⟩
  | .hbm, ⟨15, _⟩ => ⟨S128x1x1024, .f32⟩
  | .hbm, ⟨16, _⟩ => ⟨S128x1x1024, .f32⟩
  | .hbm, ⟨17, _⟩ => ⟨S128x1x1024, .f32⟩
  | .hbm, ⟨18, _⟩ => ⟨S128x1x1024, .f32⟩
  | .hbm, ⟨19, _⟩ => ⟨S128x1x1024, .f32⟩
  | .hbm, ⟨20, _⟩ => ⟨S_, .f32⟩
  | .hbm, ⟨21, _⟩ => ⟨S128x1, .f32⟩
  | .hbm, ⟨22, _⟩ => ⟨S128x1x1, .f32⟩
  | .hbm, ⟨23, _⟩ => ⟨S_, .f32⟩
  | .hbm, ⟨24, _⟩ => ⟨S128x1x1, .f32⟩
  | .hbm, ⟨25, _⟩ => ⟨S128x1x1, .f32⟩
  | .hbm, ⟨26, _⟩ => ⟨S_, .f32⟩
  | .hbm, ⟨27, _⟩ => ⟨S128x1x1, .f32⟩
  | .hbm, ⟨28, _⟩ => ⟨S128x1x1, .f32⟩
  | .hbm, ⟨29, _⟩ => ⟨S128x1x1, .f32⟩
  | .hbm, ⟨30, _⟩ => ⟨S128x1x1024, .f32⟩
  | .hbm, ⟨31, _⟩ => ⟨S128x1x1024, .f32⟩
  | .hbm, ⟨32, _⟩ => ⟨S1x1x1024, .f32⟩
  | .hbm, ⟨33, _⟩ => ⟨S128x1x1024, .f32⟩
  | .hbm, ⟨34, _⟩ => ⟨S128x1x1024, .f32⟩
  | .hbm, ⟨35, _⟩ => ⟨S_, .f32⟩
  | .hbm, ⟨36, _⟩ => ⟨S128x1x1024, .f32⟩
  | .hbm, ⟨37, _⟩ => ⟨S128x1x1024, .f32⟩
  | .hbm, ⟨38, _⟩ => ⟨S128x1x1024, .f32⟩
  | .hbm, ⟨39, _⟩ => ⟨S128x1x1024, .f32⟩
  | .hbm, ⟨40, _⟩ => ⟨S128x1x2816, .f32⟩
  | .hbm, ⟨41, _⟩ => ⟨S128x1x2816, .f32⟩
  | .hbm, ⟨42, _⟩ => ⟨S128x1x2816, .f32⟩
  | .hbm, ⟨43, _⟩ => ⟨S_, .f32⟩
  | .hbm, ⟨44, _⟩ => ⟨S128x1x2816, .f32⟩
  | .hbm, ⟨45, _⟩ => ⟨S128x1x2816, .f32⟩
  | .hbm, ⟨46, _⟩ => ⟨S_, .f32⟩
  | .hbm, ⟨47, _⟩ => ⟨S128x1x2816, .f32⟩
  | .hbm, ⟨48, _⟩ => ⟨S128x1x2816, .f32⟩
  | .hbm, ⟨49, _⟩ => ⟨S128x1x2816, .f32⟩
  | .hbm, ⟨50, _⟩ => ⟨S128x1x2816, .f32⟩
  | .hbm, ⟨51, _⟩ => ⟨S128x1x2816, .f32⟩
  | .hbm, ⟨52, _⟩ => ⟨S128x1x1024, .f32⟩
  | .hbm, ⟨53, _⟩ => ⟨S128x1x1024, .f32⟩
  | .hbm, ⟨54, _⟩ => ⟨S128x1x1024, .f32⟩
  | .hbm, ⟨55, _⟩ => ⟨S128x1x1024, .f32⟩
  | .hbm, ⟨56, _⟩ => ⟨S_, .f32⟩
  | .hbm, ⟨57, _⟩ => ⟨S128x1, .f32⟩
  | .hbm, ⟨58, _⟩ => ⟨S128x1x1, .f32⟩
  | .hbm, ⟨59, _⟩ => ⟨S_, .f32⟩
  | .hbm, ⟨60, _⟩ => ⟨S128x1x1, .f32⟩
  | .hbm, ⟨61, _⟩ => ⟨S128x1x1, .f32⟩
  | .hbm, ⟨62, _⟩ => ⟨S_, .f32⟩
  | .hbm, ⟨63, _⟩ => ⟨S128x1x1, .f32⟩
  | .hbm, ⟨64, _⟩ => ⟨S128x1x1, .f32⟩
  | .hbm, ⟨65, _⟩ => ⟨S128x1x1, .f32⟩
  | .hbm, ⟨66, _⟩ => ⟨S128x1x1024, .f32⟩
  | .hbm, ⟨67, _⟩ => ⟨S128x1x1024, .f32⟩
  | .hbm, ⟨68, _⟩ => ⟨S1x1x1024, .f32⟩
  | .hbm, ⟨69, _⟩ => ⟨S128x1x1024, .f32⟩
  | .hbm, ⟨70, _⟩ => ⟨S128x1x1024, .f32⟩
  | .hbm, ⟨71, _⟩ => ⟨S1x128x1024, .f32⟩
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_call0_v5 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_3 : Ref sig .tc := ⟨.hbm, 56, rfl⟩
abbrev main_v37 : Ref sig .tc := ⟨.hbm, 57, rfl⟩
abbrev main_v38 : Ref sig .tc := ⟨.hbm, 58, rfl⟩
abbrev main_cst_4 : Ref sig .tc := ⟨.hbm, 59, rfl⟩
abbrev main_v39 : Ref sig .tc := ⟨.hbm, 60, rfl⟩
abbrev main_v40 : Ref sig .tc := ⟨.hbm, 61, rfl⟩
abbrev main_cst_5 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩

abbrev nD : Nat := 1
abbrev τ : Topo := Topo.v7x

variable {F : FTy → Type} [FloatOps F]
-- ==== InMbStep.lean ====
abbrev S128x1x1024 : Shape := ⟨3, ![128, 1, 1024]⟩
abbrev S1024 : Shape := ⟨1, ![1024]⟩
abbrev S128x6144 : Shape := ⟨2, ![128, 6144]⟩
abbrev S1024x3208 : Shape := ⟨2, ![1024, 3208]⟩
abbrev S1024x768 : Shape := ⟨2, ![1024, 768]⟩
abbrev S1024x512 : Shape := ⟨2, ![1024, 512]⟩
abbrev S1024x8 : Shape := ⟨2, ![1024, 8]⟩
abbrev S_ : Shape := ⟨0, ![]⟩
abbrev S1024x128 : Shape := ⟨2, ![1024, 128]⟩
abbrev S1024x1408 : Shape := ⟨2, ![1024, 1408]⟩
abbrev S1x128x1024 : Shape := ⟨3, ![1, 128, 1024]⟩
abbrev S1x1024 : Shape := ⟨2, ![1, 1024]⟩
abbrev S1x128x6144 : Shape := ⟨3, ![1, 128, 6144]⟩
abbrev S1x128x768 : Shape := ⟨3, ![1, 128, 768]⟩
abbrev S1x128x512 : Shape := ⟨3, ![1, 128, 512]⟩
abbrev S1x128x128 : Shape := ⟨3, ![1, 128, 128]⟩
abbrev S128x1024 : Shape := ⟨2, ![128, 1024]⟩
abbrev S128 : Shape := ⟨1, ![128]⟩
abbrev S128x1 : Shape := ⟨2, ![128, 1]⟩
abbrev S128x1408 : Shape := ⟨2, ![128, 1408]⟩
abbrev S128x768 : Shape := ⟨2, ![128, 768]⟩
abbrev S128x512 : Shape := ⟨2, ![128, 512]⟩
abbrev S128x128 : Shape := ⟨2, ![128, 128]⟩

abbrev nBuf : Space → Nat
  | .hbm => 18
  | .vmem => 8
  | .smem => 0
  | _ => 0

abbrev bufTy : (tb : Table) → Fin (tcTables nBuf tb) → BufTy
  | .hbm, ⟨0, _⟩ => ⟨S128x1x1024, .f32⟩
  | .hbm, ⟨1, _⟩ => ⟨S1024, .f32⟩
  | .hbm, ⟨2, _⟩ => ⟨S128x6144, .f32⟩
  | .hbm, ⟨3, _⟩ => ⟨S1024x3208, .f32⟩
  | .hbm, ⟨4, _⟩ => ⟨S1024x768, .f32⟩
  | .hbm, ⟨5, _⟩ => ⟨S1024x512, .f32⟩
  | .hbm, ⟨6, _⟩ => ⟨S1024x8, .f32⟩
  | .hbm, ⟨7, _⟩ => ⟨S_, .i32⟩
  | .hbm, ⟨8, _⟩ => ⟨S_, .f32⟩
  | .hbm, ⟨9, _⟩ => ⟨S1024x128, .f32⟩
  | .hbm, ⟨10, _⟩ => ⟨S1024x1408, .f32⟩
  | .hbm, ⟨11, _⟩ => ⟨S1024x1408, .bf16⟩
  | .hbm, ⟨12, _⟩ => ⟨S1x128x1024, .f32⟩
  | .hbm, ⟨13, _⟩ => ⟨S1x1024, .f32⟩
  | .hbm, ⟨14, _⟩ => ⟨S1x128x6144, .f32⟩
  | .hbm, ⟨15, _⟩ => ⟨S1x128x768, .f32⟩
  | .hbm, ⟨16, _⟩ => ⟨S1x128x512, .f32⟩
  | .hbm, ⟨17, _⟩ => ⟨S1x128x128, .f32⟩
  | .local _ .vmem, ⟨0, _⟩ => ⟨S1x128x1024, .f32⟩
  | .local _ .vmem, ⟨1, _⟩ => ⟨S1x1024, .f32⟩
  | .local _ .vmem, ⟨2, _⟩ => ⟨S1x128x1024, .f32⟩
  | .local _ .vmem, ⟨3, _⟩ => ⟨S1x128x1024, .f32⟩
  | .local _ .vmem, ⟨4, _⟩ => ⟨S1024x1408, .bf16⟩
  | .local _ .vmem, ⟨5, _⟩ => ⟨S1x128x768, .f32⟩
  | .local _ .vmem, ⟨6, _⟩ => ⟨S1x128x512, .f32⟩
  | .local _ .vmem, ⟨7, _⟩ => ⟨S1x128x128, .f32⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev main_v9_2 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1024x1408 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== InMbStepReferenceIdeal.lean ====
abbrev S128x1x1024 : Shape := ⟨3, ![128, 1, 1024]⟩
abbrev S1024 : Shape := ⟨1, ![1024]⟩
abbrev S128x6144 : Shape := ⟨2, ![128, 6144]⟩
abbrev S1024x3208 : Shape := ⟨2, ![1024, 3208]⟩
abbrev S128x1024 : Shape := ⟨2, ![128, 1024]⟩
abbrev S_ : Shape := ⟨0, ![]⟩
abbrev S128x1 : Shape := ⟨2, ![128, 1]⟩
abbrev S128x1x1 : Shape := ⟨3, ![128, 1, 1]⟩
abbrev S1x1x1024 : Shape := ⟨3, ![1, 1, 1024]⟩
abbrev S128x1x3208 : Shape := ⟨3, ![128, 1, 3208]⟩
abbrev S128x1x256 : Shape := ⟨3, ![128, 1, 256]⟩
abbrev S128x1x512 : Shape := ⟨3, ![128, 1, 512]⟩
abbrev S128x1x768 : Shape := ⟨3, ![128, 1, 768]⟩
abbrev S128x1x8 : Shape := ⟨3, ![128, 1, 8]⟩
abbrev S128x1x896 : Shape := ⟨3, ![128, 1, 896]⟩
abbrev S128x1x128 : Shape := ⟨3, ![128, 1, 128]⟩
abbrev S1x128x768 : Shape := ⟨3, ![1, 128, 768]⟩
abbrev S1x128x512 : Shape := ⟨3, ![1, 128, 512]⟩
abbrev S1x128x128 : Shape := ⟨3, ![1, 128, 128]⟩

abbrev nBuf : Space → Nat
  | .hbm => 52
  | .vmem => 0
  | .smem => 0
  | _ => 0

abbrev bufTy : (tb : Table) → Fin (tcTables nBuf tb) → BufTy
  | .hbm, ⟨0, _⟩ => ⟨S128x1x1024, .f32⟩
  | .hbm, ⟨1, _⟩ => ⟨S1024, .f32⟩
  | .hbm, ⟨2, _⟩ => ⟨S128x6144, .f32⟩
  | .hbm, ⟨3, _⟩ => ⟨S1024x3208, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .hbm, ⟨8, _⟩ => ⟨S128x1024, .f32⟩
  | .hbm, ⟨9, _⟩ => ⟨S128x1024, .f32⟩
  | .hbm, ⟨10, _⟩ => ⟨S128x1x1024, .f32⟩
  | .hbm, ⟨11, _⟩ => ⟨S128x1x1024, .f32⟩
  | .hbm, ⟨12, _⟩ => ⟨S128x1x1024, .f32⟩
  | .hbm, ⟨13, _⟩ => ⟨S128x1x1024, .f32⟩
  | .hbm, ⟨14, _⟩ => ⟨S128x1x1024, .f32⟩
  | .hbm, ⟨15, _⟩ => ⟨S128x1x1024, .f32⟩
  | .hbm, ⟨16, _⟩ => ⟨S128x1x1024, .f32⟩
  | .hbm, ⟨17, _⟩ => ⟨S_, .f32⟩
  | .hbm, ⟨18, _⟩ => ⟨S128x1, .f32⟩
  | .hbm, ⟨19, _⟩ => ⟨S128x1x1, .f32⟩
  | .hbm, ⟨20, _⟩ => ⟨S_, .f32⟩
  | .hbm, ⟨21, _⟩ => ⟨S128x1x1, .f32⟩
  | .hbm, ⟨22, _⟩ => ⟨S128x1x1, .f32⟩
  | .hbm, ⟨23, _⟩ => ⟨S_, .f32⟩
  | .hbm, ⟨24, _⟩ => ⟨S128x1x1, .f32⟩
  | .hbm, ⟨25, _⟩ => ⟨S128x1x1, .f32⟩
  | .hbm, ⟨26, _⟩ => ⟨S128x1x1, .f32⟩
  | .hbm, ⟨27, _⟩ => ⟨S128x1x1024, .f32⟩
  | .hbm, ⟨28, _⟩ => ⟨S128x1x1024, .f32⟩
  | .hbm, ⟨29, _⟩ => ⟨S1x1x1024, .f32⟩
  | .hbm, ⟨30, _⟩ => ⟨S128x1x1024, .f32⟩
  | .hbm, ⟨31, _⟩ => ⟨S128x1x1024, .f32⟩
  | .hbm, ⟨32, _⟩ => ⟨S_, .f32⟩
  | .hbm, ⟨33, _⟩ => ⟨S128x1x1024, .f32⟩
  | .hbm, ⟨34, _⟩ => ⟨S128x1x1024, .f32⟩
  | .hbm, ⟨35, _⟩ => ⟨S128x1x1024, .f32⟩
  | .hbm, ⟨36, _⟩ => ⟨S128x1x1024, .f32⟩
  | .hbm, ⟨37, _⟩ => ⟨S128x1x3208, .f32⟩
  | .hbm, ⟨38, _⟩ => ⟨S128x1x256, .f32⟩
  | .hbm, ⟨39, _⟩ => ⟨S128x1x256, .f32⟩
  | .hbm, ⟨40, _⟩ => ⟨S128x1x256, .f32⟩
  | .hbm, ⟨41, _⟩ => ⟨S128x1x256, .f32⟩
  | .hbm, ⟨42, _⟩ => ⟨S128x1x512, .f32⟩
  | .hbm, ⟨43, _⟩ => ⟨S128x1x768, .f32⟩
  | .hbm, ⟨44, _⟩ => ⟨S128x1x8, .f32⟩
  | .hbm, ⟨45, _⟩ => ⟨S128x1x896, .f32⟩
  | .hbm, ⟨46, _⟩ => ⟨S_, .i32⟩
  | .hbm, ⟨47, _⟩ => ⟨S_, .f32⟩
  | .hbm, ⟨48, _⟩ => ⟨S128x1x128, .f32⟩
  | .hbm, ⟨49, _⟩ => ⟨S1x128x768, .f32⟩
  | .hbm, ⟨50, _⟩ => ⟨S1x128x512, .f32⟩
  | .hbm, ⟨51, _⟩ => ⟨S1x128x128, .f32⟩
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_2 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_c : Ref sig .tc := ⟨.hbm, 46, rfl⟩
abbrev main_call0_v0 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩

abbrev nD : Nat := 1
abbrev τ : Topo := Topo.v7x

variable {F : FTy → Type} [FloatOps F]
-- ==== InRwStep.lean ====
abbrev S128x1x1024 : Shape := ⟨3, ![128, 1, 1024]⟩
abbrev S1024 : Shape := ⟨1, ![1024]⟩
abbrev S128x6144 : Shape := ⟨2, ![128, 6144]⟩
abbrev S1024x3208 : Shape := ⟨2, ![1024, 3208]⟩
abbrev S1024x896 : Shape := ⟨2, ![1024, 896]⟩
abbrev S1024x768 : Shape := ⟨2, ![1024, 768]⟩
abbrev S1024x32 : Shape := ⟨2, ![1024, 32]⟩
abbrev S_ : Shape := ⟨0, ![]⟩
abbrev S1024x128 : Shape := ⟨2, ![1024, 128]⟩
abbrev S1024x64 : Shape := ⟨2, ![1024, 64]⟩
abbrev S1024x1152 : Shape := ⟨2, ![1024, 1152]⟩
abbrev S1x128x1024 : Shape := ⟨3, ![1, 128, 1024]⟩
abbrev S1x1024 : Shape := ⟨2, ![1, 1024]⟩
abbrev S1x128x6144 : Shape := ⟨3, ![1, 128, 6144]⟩
abbrev S1x128x1152 : Shape := ⟨3, ![1, 128, 1152]⟩
abbrev S128x1024 : Shape := ⟨2, ![128, 1024]⟩
abbrev S128 : Shape := ⟨1, ![128]⟩
abbrev S128x1 : Shape := ⟨2, ![128, 1]⟩
abbrev S128x1152 : Shape := ⟨2, ![128, 1152]⟩

abbrev nBuf : Space → Nat
  | .hbm => 24
  | .vmem => 6
  | .smem => 0
  | _ => 0

abbrev bufTy : (tb : Table) → Fin (tcTables nBuf tb) → BufTy
  | .hbm, ⟨0, _⟩ => ⟨S128x1x1024, .f32⟩
  | .hbm, ⟨1, _⟩ => ⟨S1024, .f32⟩
  | .hbm, ⟨2, _⟩ => ⟨S128x6144, .f32⟩
  | .hbm, ⟨3, _⟩ => ⟨S1024x3208, .f32⟩
  | .hbm, ⟨4, _⟩ => ⟨S1024x896, .f32⟩
  | .hbm, ⟨5, _⟩ => ⟨S1024x768, .f32⟩
  | .hbm, ⟨6, _⟩ => ⟨S1024x32, .f32⟩
  | .hbm, ⟨7, _⟩ => ⟨S_, .i32⟩
  | .hbm, ⟨8, _⟩ => ⟨S_, .f32⟩
  | .hbm, ⟨9, _⟩ => ⟨S1024x128, .f32⟩
  | .hbm, ⟨10, _⟩ => ⟨S1024x32, .f32⟩
  | .hbm, ⟨11, _⟩ => ⟨S_, .i32⟩
  | .hbm, ⟨12, _⟩ => ⟨S_, .f32⟩
  | .hbm, ⟨13, _⟩ => ⟨S1024x128, .f32⟩
  | .hbm, ⟨14, _⟩ => ⟨S1024x64, .f32⟩
  | .hbm, ⟨15, _⟩ => ⟨S_, .i32⟩
  | .hbm, ⟨16, _⟩ => ⟨S_, .f32⟩
  | .hbm, ⟨17, _⟩ => ⟨S1024x128, .f32⟩
  | .hbm, ⟨18, _⟩ => ⟨S1024x1152, .f32⟩
  | .hbm, ⟨19, _⟩ => ⟨S1024x1152, .bf16⟩
  | .hbm, ⟨20, _⟩ => ⟨S1x128x1024, .f32⟩
  | .hbm, ⟨21, _⟩ => ⟨S1x1024, .f32⟩
  | .hbm, ⟨22, _⟩ => ⟨S1x128x6144, .f32⟩
  | .hbm, ⟨23, _⟩ => ⟨S1x128x1152, .f32⟩
  | .local _ .vmem, ⟨0, _⟩ => ⟨S1x128x1024, .f32⟩
  | .local _ .vmem, ⟨1, _⟩ => ⟨S1x1024, .f32⟩
  | .local _ .vmem, ⟨2, _⟩ => ⟨S1x128x1024, .f32⟩
  | .local _ .vmem, ⟨3, _⟩ => ⟨S1x128x1024, .f32⟩
  | .local _ .vmem, ⟨4, _⟩ => ⟨S1024x1152, .bf16⟩
  | .local _ .vmem, ⟨5, _⟩ => ⟨S1x128x1152, .f32⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_call1_v0 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_call2_v0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1024x1152 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128x1152 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]
-- ==== InRwStepReferenceIdeal.lean ====
abbrev S128x1x1024 : Shape := ⟨3, ![128, 1, 1024]⟩
abbrev S1024 : Shape := ⟨1, ![1024]⟩
abbrev S128x6144 : Shape := ⟨2, ![128, 6144]⟩
abbrev S1024x3208 : Shape := ⟨2, ![1024, 3208]⟩
abbrev S128x1024 : Shape := ⟨2, ![128, 1024]⟩
abbrev S_ : Shape := ⟨0, ![]⟩
abbrev S128x1 : Shape := ⟨2, ![128, 1]⟩
abbrev S128x1x1 : Shape := ⟨3, ![128, 1, 1]⟩
abbrev S1x1x1024 : Shape := ⟨3, ![1, 1, 1024]⟩
abbrev S128x1x3208 : Shape := ⟨3, ![128, 1, 3208]⟩
abbrev S128x1x256 : Shape := ⟨3, ![128, 1, 256]⟩
abbrev S128x1x512 : Shape := ⟨3, ![128, 1, 512]⟩
abbrev S128x1x768 : Shape := ⟨3, ![128, 1, 768]⟩
abbrev S128x1x8 : Shape := ⟨3, ![128, 1, 8]⟩
abbrev S128x1x896 : Shape := ⟨3, ![128, 1, 896]⟩
abbrev S128x1x32 : Shape := ⟨3, ![128, 1, 32]⟩
abbrev S128x1x64 : Shape := ⟨3, ![128, 1, 64]⟩
abbrev S128x1x128 : Shape := ⟨3, ![128, 1, 128]⟩
abbrev S128x1x1152 : Shape := ⟨3, ![128, 1, 1152]⟩
abbrev S1x128x1152 : Shape := ⟨3, ![1, 128, 1152]⟩

abbrev nBuf : Space → Nat
  | .hbm => 61
  | .vmem => 0
  | .smem => 0
  | _ => 0

abbrev bufTy : (tb : Table) → Fin (tcTables nBuf tb) → BufTy
  | .hbm, ⟨0, _⟩ => ⟨S128x1x1024, .f32⟩
  | .hbm, ⟨1, _⟩ => ⟨S1024, .f32⟩
  | .hbm, ⟨2, _⟩ => ⟨S128x6144, .f32⟩
  | .hbm, ⟨3, _⟩ => ⟨S1024x3208, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .hbm, ⟨8, _⟩ => ⟨S128x1024, .f32⟩
  | .hbm, ⟨9, _⟩ => ⟨S128x1024, .f32⟩
  | .hbm, ⟨10, _⟩ => ⟨S128x1x1024, .f32⟩
  | .hbm, ⟨11, _⟩ => ⟨S128x1x1024, .f32⟩
  | .hbm, ⟨12, _⟩ => ⟨S128x1x1024, .f32⟩
  | .hbm, ⟨13, _⟩ => ⟨S128x1x1024, .f32⟩
  | .hbm, ⟨14, _⟩ => ⟨S128x1x1024, .f32⟩
  | .hbm, ⟨15, _⟩ => ⟨S128x1x1024, .f32⟩
  | .hbm, ⟨16, _⟩ => ⟨S128x1x1024, .f32⟩
  | .hbm, ⟨17, _⟩ => ⟨S_, .f32⟩
  | .hbm, ⟨18, _⟩ => ⟨S128x1, .f32⟩
  | .hbm, ⟨19, _⟩ => ⟨S128x1x1, .f32⟩
  | .hbm, ⟨20, _⟩ => ⟨S_, .f32⟩
  | .hbm, ⟨21, _⟩ => ⟨S128x1x1, .f32⟩
  | .hbm, ⟨22, _⟩ => ⟨S128x1x1, .f32⟩
  | .hbm, ⟨23, _⟩ => ⟨S_, .f32⟩
  | .hbm, ⟨24, _⟩ => ⟨S128x1x1, .f32⟩
  | .hbm, ⟨25, _⟩ => ⟨S128x1x1, .f32⟩
  | .hbm, ⟨26, _⟩ => ⟨S128x1x1, .f32⟩
  | .hbm, ⟨27, _⟩ => ⟨S128x1x1024, .f32⟩
  | .hbm, ⟨28, _⟩ => ⟨S128x1x1024, .f32⟩
  | .hbm, ⟨29, _⟩ => ⟨S1x1x1024, .f32⟩
  | .hbm, ⟨30, _⟩ => ⟨S128x1x1024, .f32⟩
  | .hbm, ⟨31, _⟩ => ⟨S128x1x1024, .f32⟩
  | .hbm, ⟨32, _⟩ => ⟨S_, .f32⟩
  | .hbm, ⟨33, _⟩ => ⟨S128x1x1024, .f32⟩
  | .hbm, ⟨34, _⟩ => ⟨S128x1x1024, .f32⟩
  | .hbm, ⟨35, _⟩ => ⟨S128x1x1024, .f32⟩
  | .hbm, ⟨36, _⟩ => ⟨S128x1x1024, .f32⟩
  | .hbm, ⟨37, _⟩ => ⟨S128x1x3208, .f32⟩
  | .hbm, ⟨38, _⟩ => ⟨S128x1x256, .f32⟩
  | .hbm, ⟨39, _⟩ => ⟨S128x1x256, .f32⟩
  | .hbm, ⟨40, _⟩ => ⟨S128x1x256, .f32⟩
  | .hbm, ⟨41, _⟩ => ⟨S128x1x256, .f32⟩
  | .hbm, ⟨42, _⟩ => ⟨S128x1x512, .f32⟩
  | .hbm, ⟨43, _⟩ => ⟨S128x1x768, .f32⟩
  | .hbm, ⟨44, _⟩ => ⟨S128x1x8, .f32⟩
  | .hbm, ⟨45, _⟩ => ⟨S128x1x896, .f32⟩
  | .hbm, ⟨46, _⟩ => ⟨S128x1x768, .f32⟩
  | .hbm, ⟨47, _⟩ => ⟨S128x1x32, .f32⟩
  | .hbm, ⟨48, _⟩ => ⟨S128x1x32, .f32⟩
  | .hbm, ⟨49, _⟩ => ⟨S128x1x64, .f32⟩
  | .hbm, ⟨50, _⟩ => ⟨S_, .i32⟩
  | .hbm, ⟨51, _⟩ => ⟨S_, .f32⟩
  | .hbm, ⟨52, _⟩ => ⟨S128x1x128, .f32⟩
  | .hbm, ⟨53, _⟩ => ⟨S_, .i32⟩
  | .hbm, ⟨54, _⟩ => ⟨S_, .f32⟩
  | .hbm, ⟨55, _⟩ => ⟨S128x1x128, .f32⟩
  | .hbm, ⟨56, _⟩ => ⟨S_, .i32⟩
  | .hbm, ⟨57, _⟩ => ⟨S_, .f32⟩
  | .hbm, ⟨58, _⟩ => ⟨S128x1x128, .f32⟩
  | .hbm, ⟨59, _⟩ => ⟨S128x1x1152, .f32⟩
  | .hbm, ⟨60, _⟩ => ⟨S1x128x1152, .f32⟩
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_2 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_c : Ref sig .tc := ⟨.hbm, 50, rfl⟩
abbrev main_call0_v0 : Ref sig .tc := ⟨.hbm, 51, rfl⟩
abbrev main_v42 : Ref sig .tc := ⟨.hbm, 52, rfl⟩
abbrev main_c_3 : Ref sig .tc := ⟨.hbm, 53, rfl⟩
abbrev main_call1_v0 : Ref sig .tc := ⟨.hbm, 54, rfl⟩
abbrev main_v43 : Ref sig .tc := ⟨.hbm, 55, rfl⟩
abbrev main_c_4 : Ref sig .tc := ⟨.hbm, 56, rfl⟩
abbrev main_call2_v0 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩

abbrev nD : Nat := 1
abbrev τ : Topo := Topo.v7x

variable {F : FTy → Type} [FloatOps F]
-- ==== Ssd.lean ====
abbrev S8x2048x128 : Shape := ⟨3, ![8, 2048, 128]⟩
abbrev S8x2048x512 : Shape := ⟨3, ![8, 2048, 512]⟩
abbrev S8x2048x256 : Shape := ⟨3, ![8, 2048, 256]⟩
abbrev S8x8x64x64 : Shape := ⟨4, ![8, 8, 64, 64]⟩
abbrev S1x128x128 : Shape := ⟨3, ![1, 128, 128]⟩
abbrev S1x128x512 : Shape := ⟨3, ![1, 128, 512]⟩
abbrev S1x128x256 : Shape := ⟨3, ![1, 128, 256]⟩
abbrev S1x8x64x64 : Shape := ⟨4, ![1, 8, 64, 64]⟩
abbrev S8x64x64 : Shape := ⟨3, ![8, 64, 64]⟩
abbrev S128x128 : Shape := ⟨2, ![128, 128]⟩
abbrev S128x256 : Shape := ⟨2, ![128, 256]⟩
abbrev S128x64 : Shape := ⟨2, ![128, 64]⟩
abbrev S128x1 : Shape := ⟨2, ![128, 1]⟩
abbrev S1x1 : Shape := ⟨2, ![1, 1]⟩
abbrev S1x128 : Shape := ⟨2, ![1, 128]⟩
abbrev S1x128x64 : Shape := ⟨3, ![1, 128, 64]⟩
abbrev S1x64x64 : Shape := ⟨3, ![1, 64, 64]⟩
abbrev S64x64 : Shape := ⟨2, ![64, 64]⟩

abbrev nBuf : Space → Nat
  | .hbm => 6
  | .vmem => 13
  | .smem => 0
  | _ => 0

abbrev bufTy : (tb : Table) → Fin (tcTables nBuf tb) → BufTy
  | .hbm, ⟨0, _⟩ => ⟨S8x2048x128, .f32⟩
  | .hbm, ⟨1, _⟩ => ⟨S8x2048x512, .f32⟩
  | .hbm, ⟨2, _⟩ => ⟨S8x2048x256, .f32⟩
  | .hbm, ⟨3, _⟩ => ⟨S8x8x64x64, .f32⟩
  | .hbm, ⟨4, _⟩ => ⟨S8x2048x512, .f32⟩
  | .hbm, ⟨5, _⟩ => ⟨S8x8x64x64, .f32⟩
  | .local _ .vmem, ⟨0, _⟩ => ⟨S1x128x128, .f32⟩
  | .local _ .vmem, ⟨1, _⟩ => ⟨S1x128x128, .f32⟩
  | .local _ .vmem, ⟨2, _⟩ => ⟨S1x128x512, .f32⟩
  | .local _ .vmem, ⟨3, _⟩ => ⟨S1x128x512, .f32⟩
  | .local _ .vmem, ⟨4, _⟩ => ⟨S1x128x256, .f32⟩
  | .local _ .vmem, ⟨5, _⟩ => ⟨S1x128x256, .f32⟩
  | .local _ .vmem, ⟨6, _⟩ => ⟨S1x8x64x64, .f32⟩
  | .local _ .vmem, ⟨7, _⟩ => ⟨S1x8x64x64, .f32⟩
  | .local _ .vmem, ⟨8, _⟩ => ⟨S1x128x512, .f32⟩
  | .local _ .vmem, ⟨9, _⟩ => ⟨S1x128x512, .f32⟩
  | .local _ .vmem, ⟨10, _⟩ => ⟨S1x8x64x64, .f32⟩
  | .local _ .vmem, ⟨11, _⟩ => ⟨S1x8x64x64, .f32⟩
  | .local _ .vmem, ⟨12, _⟩ => ⟨S8x64x64, .f32⟩
  | _, _ => ⟨S8x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v345 : BitVec 1 := Scalar.cmpi .eq arg1 c15_i32
  let v346 : BitVec 32 := Scalar.extui v345
  let c0_i32_124 : BitVec 32 := 0#32
  let v347 : BitVec 1 := Scalar.cmpi .ne v346 c0_i32_124
  v347

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x64x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x64x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== SsdReferenceIdeal.lean ====
abbrev S8x2048x128 : Shape := ⟨3, ![8, 2048, 128]⟩
abbrev S8x2048x512 : Shape := ⟨3, ![8, 2048, 512]⟩
abbrev S8x2048x256 : Shape := ⟨3, ![8, 2048, 256]⟩
abbrev S8x8x64x64 : Shape := ⟨4, ![8, 8, 64, 64]⟩
abbrev S8x2048x8 : Shape := ⟨3, ![8, 2048, 8]⟩
abbrev S8x16x128x2x4 : Shape := ⟨5, ![8, 16, 128, 2, 4]⟩
abbrev S8x16x128x2x4x64 : Shape := ⟨6, ![8, 16, 128, 2, 4, 64]⟩
abbrev S8x16x128x2x64 : Shape := ⟨5, ![8, 16, 128, 2, 64]⟩
abbrev S_ : Shape := ⟨0, ![]⟩
abbrev S128x128 : Shape := ⟨2, ![128, 128]⟩
abbrev S8x16x128x1x2x4 : Shape := ⟨6, ![8, 16, 128, 1, 2, 4]⟩
abbrev S8x16x1x128x2x4 : Shape := ⟨6, ![8, 16, 1, 128, 2, 4]⟩
abbrev S8x16x128x128x2x4 : Shape := ⟨6, ![8, 16, 128, 128, 2, 4]⟩
abbrev S1x1x128x128x1x1 : Shape := ⟨6, ![1, 1, 128, 128, 1, 1]⟩
abbrev S8x16x2x128x128 : Shape := ⟨5, ![8, 16, 2, 128, 128]⟩
abbrev S8x16x128x128x2 : Shape := ⟨5, ![8, 16, 128, 128, 2]⟩
abbrev S8x16x128x128x2x1 : Shape := ⟨6, ![8, 16, 128, 128, 2, 1]⟩
abbrev S8x16x2x4x64x128 : Shape := ⟨6, ![8, 16, 2, 4, 64, 128]⟩
abbrev S8x16x1x2x4 : Shape := ⟨5, ![8, 16, 1, 2, 4]⟩
abbrev S8x16x2x4 : Shape := ⟨4, ![8, 16, 2, 4]⟩
abbrev S8x16x128x2x4x1 : Shape := ⟨6, ![8, 16, 128, 2, 4, 1]⟩
abbrev S8x16x2x4x64x64 : Shape := ⟨6, ![8, 16, 2, 4, 64, 64]⟩
abbrev S8x2x4x64x64 : Shape := ⟨5, ![8, 2, 4, 64, 64]⟩
abbrev S8x1x2x4 : Shape := ⟨4, ![8, 1, 2, 4]⟩
abbrev S8x2x4 : Shape := ⟨3, ![8, 2, 4]⟩
abbrev S8x2x4x1x1 : Shape := ⟨5, ![8, 2, 4, 1, 1]⟩
abbrev S8x1x2x4x64x64 : Shape := ⟨6, ![8, 1, 2, 4, 64, 64]⟩

abbrev nBuf : Space → Nat
  | .hbm => 210
  | .vmem => 0
  | .smem => 0
  | _ => 0

abbrev hbmTy0_0 (i : Nat) : BufTy := match i % 128 with
  | 0 => ⟨S8x2048x128, .f32⟩
  | 1 => ⟨S8x2048x512, .f32⟩
  | 2 => ⟨S8x2048x256, .f32⟩
  | 3 => ⟨S8x8x64x64, .f32⟩
  | 4 => ⟨S8x2048x8, .f32⟩
  | 5 => ⟨S8x16x128x2x4, .f32⟩
  | 6 => ⟨S8x16x128x2x4x64, .f32⟩
  | 7 => ⟨S8x2048x128, .f32⟩
  | 8 => ⟨S8x16x128x2x64, .f32⟩
  | 9 => ⟨S8x2048x128, .f32⟩
  | 10 => ⟨S8x16x128x2x64, .f32⟩
  | 11 => ⟨S_, .f32⟩
  | 12 => ⟨S_, .f32⟩
  | 13 => ⟨S8x16x128x2x4, .f32⟩
  | 14 => ⟨S_, .i1⟩
  | 15 => ⟨S128x128, .i1⟩
  | 16 => ⟨S128x128, .i32⟩
  | 17 => ⟨S_, .i32⟩
  | 18 => ⟨S128x128, .i32⟩
  | 19 => ⟨S128x128, .i32⟩
  | 20 => ⟨S128x128, .i32⟩
  | 21 => ⟨S128x128, .i1⟩
  | 22 => ⟨S_, .i1⟩
  | 23 => ⟨S128x128, .i1⟩
  | 24 => ⟨S128x128, .i1⟩
  | 25 => ⟨S8x16x128x1x2x4, .f32⟩
  | 26 => ⟨S8x16x1x128x2x4, .f32⟩
  | 27 => ⟨S8x16x128x128x2x4, .f32⟩
  | 28 => ⟨S8x16x128x128x2x4, .f32⟩
  | 29 => ⟨S8x16x128x128x2x4, .f32⟩
  | 30 => ⟨S1x1x128x128x1x1, .i1⟩
  | 31 => ⟨S_, .f32⟩
  | 32 => ⟨S_, .f32⟩
  | 33 => ⟨S8x16x128x128x2x4, .i1⟩
  | 34 => ⟨S8x16x128x128x2x4, .f32⟩
  | 35 => ⟨S8x16x128x128x2x4, .f32⟩
  | 36 => ⟨S8x16x128x128x2x4, .f32⟩
  | 37 => ⟨S8x16x2x128x128, .f32⟩
  | 38 => ⟨S8x16x128x128x2, .f32⟩
  | 39 => ⟨S8x16x128x128x2x1, .f32⟩
  | 40 => ⟨S8x16x128x128x2x4, .f32⟩
  | 41 => ⟨S8x16x128x128x2x4, .f32⟩
  | 42 => ⟨S8x16x2x4x64x128, .f32⟩
  | 43 => ⟨S8x16x128x2x4x64, .f32⟩
  | 44 => ⟨S8x16x1x2x4, .f32⟩
  | 45 => ⟨S8x16x2x4, .f32⟩
  | 46 => ⟨S8x16x1x2x4, .f32⟩
  | 47 => ⟨S8x16x128x2x4, .f32⟩
  | 48 => ⟨S8x16x128x2x4, .f32⟩
  | 49 => ⟨S8x16x128x2x4, .f32⟩
  | 50 => ⟨S8x16x128x2x4x1, .f32⟩
  | 51 => ⟨S8x16x128x2x4x64, .f32⟩
  | 52 => ⟨S8x16x128x2x4x64, .f32⟩
  | 53 => ⟨S8x16x2x4x64x64, .f32⟩
  | 54 => ⟨S8x16x2x4, .f32⟩
  | 55 => ⟨S8x2x4x64x64, .f32⟩
  | 56 => ⟨S8x1x2x4, .f32⟩
  | 57 => ⟨S8x2x4, .f32⟩
  | 58 => ⟨S8x2x4x1x1, .f32⟩
  | 59 => ⟨S8x2x4x64x64, .f32⟩
  | 60 => ⟨S8x2x4x64x64, .f32⟩
  | 61 => ⟨S8x1x2x4x64x64, .f32⟩
  | 62 => ⟨S8x2x4x64x64, .f32⟩
  | 63 => ⟨S8x2x4x64x64, .f32⟩
  | 64 => ⟨S8x1x2x4, .f32⟩
  | 65 => ⟨S8x2x4, .f32⟩
  | 66 => ⟨S8x2x4x1x1, .f32⟩
  | 67 => ⟨S8x2x4x64x64, .f32⟩
  | 68 => ⟨S8x2x4x64x64, .f32⟩
  | 69 => ⟨S8x1x2x4x64x64, .f32⟩
  | 70 => ⟨S8x2x4x64x64, .f32⟩
  | 71 => ⟨S8x2x4x64x64, .f32⟩
  | 72 => ⟨S8x1x2x4, .f32⟩
  | 73 => ⟨S8x2x4, .f32⟩
  | 74 => ⟨S8x2x4x1x1, .f32⟩
  | 75 => ⟨S8x2x4x64x64, .f32⟩
  | 76 => ⟨S8x2x4x64x64, .f32⟩
  | 77 => ⟨S8x1x2x4x64x64, .f32⟩
  | 78 => ⟨S8x2x4x64x64, .f32⟩
  | 79 => ⟨S8x2x4x64x64, .f32⟩
  | 80 => ⟨S8x1x2x4, .f32⟩
  | 81 => ⟨S8x2x4, .f32⟩
  | 82 => ⟨S8x2x4x1x1, .f32⟩
  | 83 => ⟨S8x2x4x64x64, .f32⟩
  | 84 => ⟨S8x2x4x64x64, .f32⟩
  | 85 => ⟨S8x1x2x4x64x64, .f32⟩
  | 86 => ⟨S8x2x4x64x64, .f32⟩
  | 87 => ⟨S8x2x4x64x64, .f32⟩
  | 88 => ⟨S8x1x2x4, .f32⟩
  | 89 => ⟨S8x2x4, .f32⟩
  | 90 => ⟨S8x2x4x1x1, .f32⟩
  | 91 => ⟨S8x2x4x64x64, .f32⟩
  | 92 => ⟨S8x2x4x64x64, .f32⟩
  | 93 => ⟨S8x1x2x4x64x64, .f32⟩
  | 94 => ⟨S8x2x4x64x64, .f32⟩
  | 95 => ⟨S8x2x4x64x64, .f32⟩
  | 96 => ⟨S8x1x2x4, .f32⟩
  | 97 => ⟨S8x2x4, .f32⟩
  | 98 => ⟨S8x2x4x1x1, .f32⟩
  | 99 => ⟨S8x2x4x64x64, .f32⟩
  | 100 => ⟨S8x2x4x64x64, .f32⟩
  | 101 => ⟨S8x1x2x4x64x64, .f32⟩
  | 102 => ⟨S8x2x4x64x64, .f32⟩
  | 103 => ⟨S8x2x4x64x64, .f32⟩
  | 104 => ⟨S8x1x2x4, .f32⟩
  | 105 => ⟨S8x2x4, .f32⟩
  | 106 => ⟨S8x2x4x1x1, .f32⟩
  | 107 => ⟨S8x2x4x64x64, .f32⟩
  | 108 => ⟨S8x2x4x64x64, .f32⟩
  | 109 => ⟨S8x1x2x4x64x64, .f32⟩
  | 110 => ⟨S8x2x4x64x64, .f32⟩
  | 111 => ⟨S8x2x4x64x64, .f32⟩
  | 112 => ⟨S8x1x2x4, .f32⟩
  | 113 => ⟨S8x2x4, .f32⟩
  | 114 => ⟨S8x2x4x1x1, .f32⟩
  | 115 => ⟨S8x2x4x64x64, .f32⟩
  | 116 => ⟨S8x2x4x64x64, .f32⟩
  | 117 => ⟨S8x1x2x4x64x64, .f32⟩
  | 118 => ⟨S8x2x4x64x64, .f32⟩
  | 119 => ⟨S8x2x4x64x64, .f32⟩
  | 120 => ⟨S8x1x2x4, .f32⟩
  | 121 => ⟨S8x2x4, .f32⟩
  | 122 => ⟨S8x2x4x1x1, .f32⟩
  | 123 => ⟨S8x2x4x64x64, .f32⟩
  | 124 => ⟨S8x2x4x64x64, .f32⟩
  | 125 => ⟨S8x1x2x4x64x64, .f32⟩
  | 126 => ⟨S8x2x4x64x64, .f32⟩
  | 127 => ⟨S8x2x4x64x64, .f32⟩
  | _ => ⟨S8x2048x128, .f32⟩

abbrev hbmTy0_1 (i : Nat) : BufTy := match i % 128 with
  | 0 => ⟨S8x1x2x4, .f32⟩
  | 1 => ⟨S8x2x4, .f32⟩
  | 2 => ⟨S8x2x4x1x1, .f32⟩
  | 3 => ⟨S8x2x4x64x64, .f32⟩
  | 4 => ⟨S8x2x4x64x64, .f32⟩
  | 5 => ⟨S8x1x2x4x64x64, .f32⟩
  | 6 => ⟨S8x2x4x64x64, .f32⟩
  | 7 => ⟨S8x2x4x64x64, .f32⟩
  | 8 => ⟨S8x1x2x4, .f32⟩
  | 9 => ⟨S8x2x4, .f32⟩
  | 10 => ⟨S8x2x4x1x1, .f32⟩
  | 11 => ⟨S8x2x4x64x64, .f32⟩
  | 12 => ⟨S8x2x4x64x64, .f32⟩
  | 13 => ⟨S8x1x2x4x64x64, .f32⟩
  | 14 => ⟨S8x2x4x64x64, .f32⟩
  | 15 => ⟨S8x2x4x64x64, .f32⟩
  | 16 => ⟨S8x1x2x4, .f32⟩
  | 17 => ⟨S8x2x4, .f32⟩
  | 18 => ⟨S8x2x4x1x1, .f32⟩
  | 19 => ⟨S8x2x4x64x64, .f32⟩
  | 20 => ⟨S8x2x4x64x64, .f32⟩
  | 21 => ⟨S8x1x2x4x64x64, .f32⟩
  | 22 => ⟨S8x2x4x64x64, .f32⟩
  | 23 => ⟨S8x2x4x64x64, .f32⟩
  | 24 => ⟨S8x1x2x4, .f32⟩
  | 25 => ⟨S8x2x4, .f32⟩
  | 26 => ⟨S8x2x4x1x1, .f32⟩
  | 27 => ⟨S8x2x4x64x64, .f32⟩
  | 28 => ⟨S8x2x4x64x64, .f32⟩
  | 29 => ⟨S8x1x2x4x64x64, .f32⟩
  | 30 => ⟨S8x2x4x64x64, .f32⟩
  | 31 => ⟨S8x2x4x64x64, .f32⟩
  | 32 => ⟨S8x1x2x4, .f32⟩
  | 33 => ⟨S8x2x4, .f32⟩
  | 34 => ⟨S8x2x4x1x1, .f32⟩
  | 35 => ⟨S8x2x4x64x64, .f32⟩
  | 36 => ⟨S8x2x4x64x64, .f32⟩
  | 37 => ⟨S8x1x2x4x64x64, .f32⟩
  | 38 => ⟨S8x2x4x64x64, .f32⟩
  | 39 => ⟨S8x2x4x64x64, .f32⟩
  | 40 => ⟨S8x1x2x4, .f32⟩
  | 41 => ⟨S8x2x4, .f32⟩
  | 42 => ⟨S8x2x4x1x1, .f32⟩
  | 43 => ⟨S8x2x4x64x64, .f32⟩
  | 44 => ⟨S8x2x4x64x64, .f32⟩
  | 45 => ⟨S8x1x2x4x64x64, .f32⟩
  | 46 => ⟨S8x2x4x64x64, .f32⟩
  | 47 => ⟨S8x2x4x64x64, .f32⟩
  | 48 => ⟨S8x1x2x4, .f32⟩
  | 49 => ⟨S8x2x4, .f32⟩
  | 50 => ⟨S8x2x4x1x1, .f32⟩
  | 51 => ⟨S8x2x4x64x64, .f32⟩
  | 52 => ⟨S8x2x4x64x64, .f32⟩
  | 53 => ⟨S8x1x2x4x64x64, .f32⟩
  | 54 => ⟨S8x2x4x64x64, .f32⟩
  | 55 => ⟨S8x2x4x64x64, .f32⟩
  | 56 => ⟨S8x1x2x4x64x64, .f32⟩
  | 57 => ⟨S8x1x2x4x64x64, .f32⟩
  | 58 => ⟨S8x1x2x4x64x64, .f32⟩
  | 59 => ⟨S8x1x2x4x64x64, .f32⟩
  | 60 => ⟨S8x1x2x4x64x64, .f32⟩
  | 61 => ⟨S8x1x2x4x64x64, .f32⟩
  | 62 => ⟨S8x1x2x4x64x64, .f32⟩
  | 63 => ⟨S8x1x2x4x64x64, .f32⟩
  | 64 => ⟨S8x1x2x4x64x64, .f32⟩
  | 65 => ⟨S8x1x2x4x64x64, .f32⟩
  | 66 => ⟨S8x1x2x4x64x64, .f32⟩
  | 67 => ⟨S8x1x2x4x64x64, .f32⟩
  | 68 => ⟨S8x1x2x4x64x64, .f32⟩
  | 69 => ⟨S8x1x2x4x64x64, .f32⟩
  | 70 => ⟨S8x1x2x4x64x64, .f32⟩
  | 71 => ⟨S8x1x2x4x64x64, .f32⟩
  | 72 => ⟨S8x16x2x4x64x64, .f32⟩
  | 73 => ⟨S8x16x128x2x4, .f32⟩
  | 74 => ⟨S8x16x128x2x4x1, .f32⟩
  | 75 => ⟨S8x16x2x4x64x128, .f32⟩
  | 76 => ⟨S8x16x128x2x4x64, .f32⟩
  | 77 => ⟨S8x16x128x2x4x64, .f32⟩
  | 78 => ⟨S8x16x128x2x4x64, .f32⟩
  | 79 => ⟨S8x16x128x2x4x64, .f32⟩
  | 80 => ⟨S8x2048x512, .f32⟩
  | 81 => ⟨S8x8x64x64, .f32⟩
  | _ => ⟨S8x2048x128, .f32⟩

abbrev hbmTy (i : Nat) : BufTy := match i / 128 with
  | 0 => hbmTy0_0 i
  | 1 => hbmTy0_1 i
  | _ => ⟨S8x2048x128, .f32⟩

abbrev bufTy : (tb : Table) → Fin (tcTables nBuf tb) → BufTy
  | .hbm, ⟨i, _⟩ => hbmTy i
  | _, _ => ⟨S8x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_call0_cst : Ref sig .tc := ⟨.hbm, 11, rfl⟩
abbrev main_call0_call0_v0 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_call1_v0 : Ref sig .tc := ⟨.hbm, 16, rfl⟩
abbrev main_call1_c : Ref sig .tc := ⟨.hbm, 17, rfl⟩
abbrev main_call1_v1 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_call1_c_0 : Ref sig .tc := ⟨.hbm, 22, rfl⟩
abbrev main_call1_v5 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst : Ref sig .tc := ⟨.hbm, 31, rfl⟩
abbrev main_call2_v0 : Ref sig .tc := ⟨.hbm, 32, rfl⟩
abbrev main_call2_v1 : Ref sig .tc := ⟨.hbm, 33, rfl⟩
abbrev main_call2_v2 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_v123 : Ref sig .tc := ⟨.hbm, 142, rfl⟩
abbrev main_v124 : Ref sig .tc := ⟨.hbm, 143, rfl⟩
abbrev main_v125 : Ref sig .tc := ⟨.hbm, 144, rfl⟩
abbrev main_v126 : Ref sig .tc := ⟨.hbm, 145, rfl⟩
abbrev main_v127 : Ref sig .tc := ⟨.hbm, 146, rfl⟩
abbrev main_v128 : Ref sig .tc := ⟨.hbm, 147, rfl⟩
abbrev main_v129 : Ref sig .tc := ⟨.hbm, 148, rfl⟩
abbrev main_v130 : Ref sig .tc := ⟨.hbm, 149, rfl⟩
abbrev main_v131 : Ref sig .tc := ⟨.hbm, 150, rfl⟩
abbrev main_v132 : Ref sig .tc := ⟨.hbm, 151, rfl⟩
abbrev main_v133 : Ref sig .tc := ⟨.hbm, 152, rfl⟩
abbrev main_v134 : Ref sig .tc := ⟨.hbm, 153, rfl⟩
abbrev main_v135 : Ref sig .tc := ⟨.hbm, 154, rfl⟩
abbrev main_v136 : Ref sig .tc := ⟨.hbm, 155, rfl⟩
abbrev main_v137 : Ref sig .tc := ⟨.hbm, 156, rfl⟩
abbrev main_v138 : Ref sig .tc := ⟨.hbm, 157, rfl⟩
abbrev main_v139 : Ref sig .tc := ⟨.hbm, 158, rfl⟩
abbrev main_v140 : Ref sig .tc := ⟨.hbm, 159, rfl⟩
abbrev main_v141 : Ref sig .tc := ⟨.hbm, 160, rfl⟩
abbrev main_v142 : Ref sig .tc := ⟨.hbm, 161, rfl⟩
abbrev main_v143 : Ref sig .tc := ⟨.hbm, 162, rfl⟩
abbrev main_v144 : Ref sig .tc := ⟨.hbm, 163, rfl⟩
abbrev main_v145 : Ref sig .tc := ⟨.hbm, 164, rfl⟩
abbrev main_v146 : Ref sig .tc := ⟨.hbm, 165, rfl⟩
abbrev main_v147 : Ref sig .tc := ⟨.hbm, 166, rfl⟩
abbrev main_v148 : Ref sig .tc := ⟨.hbm, 167, rfl⟩
abbrev main_v149 : Ref sig .tc := ⟨.hbm, 168, rfl⟩
abbrev main_v150 : Ref sig .tc := ⟨.hbm, 169, rfl⟩
abbrev main_v151 : Ref sig .tc := ⟨.hbm, 170, rfl⟩
abbrev main_v152 : Ref sig .tc := ⟨.hbm, 171, rfl⟩
abbrev main_v153 : Ref sig .tc := ⟨.hbm, 172, rfl⟩
abbrev main_v154 : Ref sig .tc := ⟨.hbm, 173, rfl⟩
abbrev main_v155 : Ref sig .tc := ⟨.hbm, 174, rfl⟩
abbrev main_v156 : Ref sig .tc := ⟨.hbm, 175, rfl⟩
abbrev main_v157 : Ref sig .tc := ⟨.hbm, 176, rfl⟩
abbrev main_v158 : Ref sig .tc := ⟨.hbm, 177, rfl⟩
abbrev main_v159 : Ref sig .tc := ⟨.hbm, 178, rfl⟩
abbrev main_v160 : Ref sig .tc := ⟨.hbm, 179, rfl⟩
abbrev main_v161 : Ref sig .tc := ⟨.hbm, 180, rfl⟩
abbrev main_v162 : Ref sig .tc := ⟨.hbm, 181, rfl⟩
abbrev main_v163 : Ref sig .tc := ⟨.hbm, 182, rfl⟩
abbrev main_v164 : Ref sig .tc := ⟨.hbm, 183, rfl⟩
abbrev main_v165 : Ref sig .tc := ⟨.hbm, 184, rfl⟩
abbrev main_v166 : Ref sig .tc := ⟨.hbm, 185, rfl⟩
abbrev main_v167 : Ref sig .tc := ⟨.hbm, 186, rfl⟩
abbrev main_v168 : Ref sig .tc := ⟨.hbm, 187, rfl⟩
abbrev main_v169 : Ref sig .tc := ⟨.hbm, 188, rfl⟩
abbrev main_v170 : Ref sig .tc := ⟨.hbm, 189, rfl⟩
abbrev main_v171 : Ref sig .tc := ⟨.hbm, 190, rfl⟩
abbrev main_v172 : Ref sig .tc := ⟨.hbm, 191, rfl⟩
abbrev main_v173 : Ref sig .tc := ⟨.hbm, 192, rfl⟩
abbrev main_v174 : Ref sig .tc := ⟨.hbm, 193, rfl⟩
abbrev main_v175 : Ref sig .tc := ⟨.hbm, 194, rfl⟩
abbrev main_v176 : Ref sig .tc := ⟨.hbm, 195, rfl⟩
abbrev main_v177 : Ref sig .tc := ⟨.hbm, 196, rfl⟩
abbrev main_v178 : Ref sig .tc := ⟨.hbm, 197, rfl⟩
abbrev main_v179 : Ref sig .tc := ⟨.hbm, 198, rfl⟩
abbrev main_v180 : Ref sig .tc := ⟨.hbm, 199, rfl⟩
abbrev main_v181 : Ref sig .tc := ⟨.hbm, 200, rfl⟩
abbrev main_v182 : Ref sig .tc := ⟨.hbm, 201, rfl⟩
abbrev main_v183 : Ref sig .tc := ⟨.hbm, 202, rfl⟩
abbrev main_v184 : Ref sig .tc := ⟨.hbm, 203, rfl⟩
abbrev main_v185 : Ref sig .tc := ⟨.hbm, 204, rfl⟩
abbrev main_v186 : Ref sig .tc := ⟨.hbm, 205, rfl⟩
abbrev main_v187 : Ref sig .tc := ⟨.hbm, 206, rfl⟩
abbrev main_v188 : Ref sig .tc := ⟨.hbm, 207, rfl⟩
abbrev main_v189 : Ref sig .tc := ⟨.hbm, 208, rfl⟩
abbrev main_v190 : Ref sig .tc := ⟨.hbm, 209, rfl⟩

abbrev nD : Nat := 1
abbrev τ : Topo := Topo.v7x

variable {F : FTy → Type} [FloatOps F]
-- ==== Ada.lean ====
abbrev S8x1024 : Shape := ⟨2, ![8, 1024]⟩
abbrev S128x1024 : Shape := ⟨2, ![128, 1024]⟩
abbrev S4x1024x6144 : Shape := ⟨3, ![4, 1024, 6144]⟩
abbrev S4x6144 : Shape := ⟨2, ![4, 6144]⟩
abbrev S136x1024 : Shape := ⟨2, ![136, 1024]⟩
abbrev S_ : Shape := ⟨0, ![]⟩
abbrev S144x1024 : Shape := ⟨2, ![144, 1024]⟩
abbrev S4x1x6144 : Shape := ⟨3, ![4, 1, 6144]⟩
abbrev S4x144x6144 : Shape := ⟨3, ![4, 144, 6144]⟩
abbrev S1x1024x1536 : Shape := ⟨3, ![1, 1024, 1536]⟩
abbrev S1x1x1536 : Shape := ⟨3, ![1, 1, 1536]⟩
abbrev S1x144x1536 : Shape := ⟨3, ![1, 144, 1536]⟩
abbrev S1024x1536 : Shape := ⟨2, ![1024, 1536]⟩
abbrev S144x1536 : Shape := ⟨2, ![144, 1536]⟩
abbrev S1x1536 : Shape := ⟨2, ![1, 1536]⟩

abbrev nBuf : Space → Nat
  | .hbm => 10
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S128x1024, .f32⟩
  | .hbm, ⟨2, _⟩ => ⟨S4x1024x6144, .f32⟩
  | .hbm, ⟨3, _⟩ => ⟨S4x6144, .f32⟩
  | .hbm, ⟨4, _⟩ => ⟨S136x1024, .f32⟩
  | .hbm, ⟨5, _⟩ => ⟨S_, .i32⟩
  | .hbm, ⟨6, _⟩ => ⟨S_, .f32⟩
  | .hbm, ⟨7, _⟩ => ⟨S144x1024, .f32⟩
  | .hbm, ⟨8, _⟩ => ⟨S4x1x6144, .f32⟩
  | .hbm, ⟨9, _⟩ => ⟨S4x144x6144, .f32⟩
  | .local _ .vmem, ⟨0, _⟩ => ⟨S144x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x144x1536, .f32⟩
  | .local _ .vmem, ⟨6, _⟩ => ⟨S1x144x1536, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S144x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x144x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AdaReferenceIdeal.lean ====
abbrev S8x1024 : Shape := ⟨2, ![8, 1024]⟩
abbrev S128x1024 : Shape := ⟨2, ![128, 1024]⟩
abbrev S4x1024x6144 : Shape := ⟨3, ![4, 1024, 6144]⟩
abbrev S4x6144 : Shape := ⟨2, ![4, 6144]⟩
abbrev S_ : Shape := ⟨0, ![]⟩
abbrev S144x1024 : Shape := ⟨2, ![144, 1024]⟩
abbrev S4x6144x144 : Shape := ⟨3, ![4, 6144, 144]⟩
abbrev S4x144x6144 : Shape := ⟨3, ![4, 144, 6144]⟩
abbrev S4x1x6144 : Shape := ⟨3, ![4, 1, 6144]⟩

abbrev nBuf : Space → Nat
  | .hbm => 21
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S128x1024, .f32⟩
  | .hbm, ⟨2, _⟩ => ⟨S4x1024x6144, .f32⟩
  | .hbm, ⟨3, _⟩ => ⟨S4x6144, .f32⟩
  | .hbm, ⟨4, _⟩ => ⟨S_, .f32⟩
  | .hbm, ⟨5, _⟩ => ⟨S8x1024, .f32⟩
  | .hbm, ⟨6, _⟩ => ⟨S144x1024, .f32⟩
  | .hbm, ⟨7, _⟩ => ⟨S144x1024, .f32⟩
  | .hbm, ⟨8, _⟩ => ⟨S144x1024, .f32⟩
  | .hbm, ⟨9, _⟩ => ⟨S_, .f32⟩
  | .hbm, ⟨10, _⟩ => ⟨S144x1024, .f32⟩
  | .hbm, ⟨11, _⟩ => ⟨S144x1024, .f32⟩
  | .hbm, ⟨12, _⟩ => ⟨S_, .f32⟩
  | .hbm, ⟨13, _⟩ => ⟨S144x1024, .f32⟩
  | .hbm, ⟨14, _⟩ => ⟨S144x1024, .f32⟩
  | .hbm, ⟨15, _⟩ => ⟨S144x1024, .f32⟩
  | .hbm, ⟨16, _⟩ => ⟨S4x6144x144, .f32⟩
  | .hbm, ⟨17, _⟩ => ⟨S4x144x6144, .f32⟩
  | .hbm, ⟨18, _⟩ => ⟨S4x1x6144, .f32⟩
  | .hbm, ⟨19, _⟩ => ⟨S4x144x6144, .f32⟩
  | .hbm, ⟨20, _⟩ => ⟨S4x144x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩

abbrev nD : Nat := 1
abbrev τ : Topo := Topo.v7x

variable {F : FTy → Type} [FloatOps F]
-- ==== Proof.Rec.Step.lean ====
/-
  One head pair of the decode recurrence, as vector operations and read at an index.

  A pair holds two 64-by-64 states side by side in a 64-by-128 array: row `v` is the value coordinate, lanes 0..63 are the key
  coordinate of the first head and lanes 64..127 of the second.
-/
module

public import proofs.«01_k».proof.Proof.Gen.KernelIdeal
public import Idealize.ShloMosaic.Lib.Pointwise

@[expose] public section

set_option maxRecDepth 16384

noncomputable section

namespace Cert.Rec

open Idealize.ShloMosaic Idealize.ShloMosaic.TcCoe Idealize.SL.Sem
open Cert.KernelIdeal Cert.KernelIdeal.Gen

/-- The lanes of the first head. -/
def half : IVec S1x128 1 := cmpi .slt (iota .tc S1x128 32 [1] iota_S1x128_d1_w32) (broadcast S1x128 64#32)

/-- The lane of sequence `b` of the block of eight that grid point `i` takes. -/
def lane (i : BitVec 32) (b : BitVec 32) : IVec S1x128 1 :=
  cmpi .eq (iota .tc S1x128 32 [1] iota_S1x128_d1_w32) (broadcast S1x128 (Scalar.addi (Scalar.muli i 8#32) b))

/-- Two states side by side. -/
def pair (s₀ s₁ : Vec Ideal S1x1x64x64 .f32) : FVec Ideal S64x128 .f32 :=
  concatenate S64x128 1 [⟨S64x64, shapeCast S64x64 s₀ shapeCasts_S1x1x64x64_S64x64⟩, ⟨S64x64, shapeCast S64x64 s₁ shapeCasts_S1x1x64x64_S64x64⟩]
    concatenates_S64x64_S64x64_S64x128_d1

/-- Every row of a pair times one row of keys. -/
def scale (s : FVec Ideal S64x128 .f32) (r : Vec Ideal S1x128 .f32) : FVec Ideal S64x128 .f32 :=
  mulf s (broadcastTo S64x128 (shapeCast S1x128 r shapeCasts_S1x128_S1x128) broadcasts_S1x128_S64x128)

/-- The lane mask of a row on a pair. -/
def halves : IVec S64x128 1 := broadcastTo S64x128 (shapeCast S1x128 half shapeCasts_S1x128_S1x128) broadcasts_S1x128_S64x128

/-- The sums over the lanes of the first and of the second head. -/
def seg₀ (p : FVec Ideal S64x128 .f32) : FVec Ideal S64x1 .f32 :=
  shapeCast S64x1 (multiReduction .add [1] S64 (select halves p (broadcast S64x128 (Scalar.ofBits .f32 0x00000000#32 : Ideal .f32))) 0x00000000#32
    reduces_S64x128_S64 (.inl rfl) rfl) shapeCasts_S64_S64x1
def seg₁ (p : FVec Ideal S64x128 .f32) : FVec Ideal S64x1 .f32 :=
  shapeCast S64x1 (multiReduction .add [1] S64 (select halves (broadcast S64x128 (Scalar.ofBits .f32 0x00000000#32 : Ideal .f32)) p) 0x00000000#32
    reduces_S64x128_S64 (.inl rfl) rfl) shapeCasts_S64_S64x1

/-- A column for each head, across the head's lanes. -/
def cols (c₀ c₁ : FVec Ideal S64x1 .f32) : FVec Ideal S64x128 .f32 :=
  select halves (broadcastTo S64x128 (shapeCast S64x1 c₀ shapeCasts_S64x1_S64x1) broadcasts_S64x1_S64x128)
    (broadcastTo S64x128 (shapeCast S64x1 c₁ shapeCasts_S64x1_S64x1) broadcasts_S64x1_S64x128)

/-- The values of the sequence at the lane `mt`, from the transposed values of the two heads. -/
def values (mt : IVec S1x128 1) (vt : Vec Ideal S128x128 .f32) : FVec Ideal S64x128 .f32 :=
  let c : FVec Ideal S128x1 .f32 := shapeCast S128x1 (multiReduction .add [1] S128
    (select (broadcastTo S128x128 (shapeCast S1x128 mt shapeCasts_S1x128_S1x128) broadcasts_S1x128_S128x128)
      (shapeCast S128x128 vt shapeCasts_S128x128_S128x128) (broadcast S128x128 (Scalar.ofBits .f32 0x00000000#32 : Ideal .f32)))
    0x00000000#32 reduces_S128x128_S128 (.inl rfl) rfl) shapeCasts_S128_S128x1
  cols (extractStridedSlice S64x1 ![0, 0] c slices_S128x1_o0_0_S64x1) (extractStridedSlice S64x1 ![64, 0] c slices_S128x1_o64_0_S64x1)

/-- The new pair of states: decay, the removal along the key, and the new value. -/
def next (mt : IVec S1x128 1) (s₀ s₁ : Vec Ideal S1x1x64x64 .f32) (vt : Vec Ideal S128x128 .f32) (w k a b : Vec Ideal S1x128 .f32) :
    FVec Ideal S64x128 .f32 :=
  addf (addf (scale (pair s₀ s₁) w) (scale (cols (seg₀ (scale (pair s₀ s₁) a)) (seg₁ (scale (pair s₀ s₁) a))) b)) (scale (values mt vt) k)

/-- The halves of a pair as they are stored, -/
def left (s : FVec Ideal S64x128 .f32) : FVec Ideal S1x1x64x64 .f32 :=
  shapeCast S1x1x64x64 (extractStridedSlice S64x64 ![0, 0] s slices_S64x128_o0_0_S64x64) shapeCasts_S64x64_S1x1x64x64
def right (s : FVec Ideal S64x128 .f32) : FVec Ideal S1x1x64x64 .f32 :=
  shapeCast S1x1x64x64 (extractStridedSlice S64x64 ![0, 64] s slices_S64x128_o0_64_S64x64) shapeCasts_S64x64_S1x1x64x64

/-- and a column of results as it is stored, across all lanes, with the mask of the lane. -/
def spread (c : FVec Ideal S64x1 .f32) : FVec Ideal S64x128 .f32 :=
  shapeCast S64x128 (broadcastTo S64x128 (shapeCast S64x1 c shapeCasts_S64x1_S64x1) broadcasts_S64x1_S64x128) shapeCasts_S64x128_S64x128
def mask (mt : IVec S1x128 1) : IVec S64x128 1 :=
  shapeCast S64x128 (broadcastTo S64x128 (shapeCast S1x128 mt shapeCasts_S1x128_S1x128) broadcasts_S1x128_S64x128) shapeCasts_S64x128_S64x128

/-! ## At an index -/

theorem half_lo (l : Fin 64) : half (ix2 0 ⟨l.val, by omega⟩) = 1#1 := by
  revert l; decide +kernel
theorem half_hi (l : Fin 64) : half (ix2 0 ⟨64 + l.val, by omega⟩) = 0#1 := by
  revert l; decide +kernel

theorem sel_one {α : Type} (x y : α) : Scalar.select 1#1 x y = x := rfl
theorem sel_zero {α : Type} (x y : α) : Scalar.select 0#1 x y = y := rfl

theorem seg₀_apply (p : FVec Ideal S64x128 .f32) (v : Fin 64) (z : Fin 1) :
    seg₀ p (ix2 v z) = ∑ j : Fin 64, p (ix2 v ⟨j.val, by omega⟩) := by
  pointwise [seg₀, halves]
  rw [Fin.sum_univ_two_halves 64 64 rfl]
  simp only [half_lo, half_hi, sel_one, sel_zero, Finset.sum_const_zero, add_zero]

theorem seg₁_apply (p : FVec Ideal S64x128 .f32) (v : Fin 64) (z : Fin 1) :
    seg₁ p (ix2 v z) = ∑ j : Fin 64, p (ix2 v ⟨64 + j.val, by omega⟩) := by
  pointwise [seg₁, halves]
  rw [Fin.sum_univ_two_halves 64 64 rfl]
  simp only [half_lo, half_hi, sel_one, sel_zero, Finset.sum_const_zero, zero_add]

theorem cols_lo (c₀ c₁ : FVec Ideal S64x1 .f32) (v l : Fin 64) : cols c₀ c₁ (ix2 v ⟨l.val, by omega⟩) = c₀ (ix2 v 0) := by
  pointwise [cols, halves]
  simp only [half_lo, sel_one]

theorem cols_hi (c₀ c₁ : FVec Ideal S64x1 .f32) (v l : Fin 64) : cols c₀ c₁ (ix2 v ⟨64 + l.val, by omega⟩) = c₁ (ix2 v 0) := by
  pointwise [cols, halves]
  simp only [half_hi, sel_zero]

/-- The mask of one lane. -/
def At (mt : IVec S1x128 1) (L : Fin 128) : Prop := ∀ l : Fin 128, mt (ix2 0 l) = if l = L then 1#1 else 0#1

theorem pick (mt : IVec S1x128 1) (L : Fin 128) (h : At mt L) (f : Fin 128 → EReal) :
    ∑ l : Fin 128, Scalar.select (mt (ix2 0 l)) (f l) 0 = f L := by
  rw [Finset.sum_eq_single L]
  · rw [h L, if_pos rfl]; rfl
  · intro l _ hl; rw [h l, if_neg hl]; rfl
  · exact fun h => absurd (Finset.mem_univ _) h

theorem values_lo (mt : IVec S1x128 1) (L : Fin 128) (h : At mt L) (vt : Vec Ideal S128x128 .f32) (v l : Fin 64) :
    values mt vt (ix2 v ⟨l.val, by omega⟩) = vt (ix2 ⟨v.val, by omega⟩ L) := by
  unfold values
  refine (cols_lo _ _ v l).trans ?_
  pointwise []
  exact pick mt L h fun k => vt (ix2 _ k)

theorem values_hi (mt : IVec S1x128 1) (L : Fin 128) (h : At mt L) (vt : Vec Ideal S128x128 .f32) (v l : Fin 64) :
    values mt vt (ix2 v ⟨64 + l.val, by omega⟩) = vt (ix2 ⟨64 + v.val, by omega⟩ L) := by
  unfold values
  refine (cols_hi _ _ v l).trans ?_
  pointwise []
  exact pick mt L h fun k => vt (ix2 _ k)

theorem pair_lo (s₀ s₁ : Vec Ideal S1x1x64x64 .f32) (v l : Fin 64) : pair s₀ s₁ (ix2 v ⟨l.val, by omega⟩) = s₀ (ix4 0 0 v l) := by
  pointwise [pair]
theorem pair_hi (s₀ s₁ : Vec Ideal S1x1x64x64 .f32) (v l : Fin 64) : pair s₀ s₁ (ix2 v ⟨64 + l.val, by omega⟩) = s₁ (ix4 0 0 v l) := by
  pointwise [pair]
theorem scale_apply (s : FVec Ideal S64x128 .f32) (r : Vec Ideal S1x128 .f32) (v : Fin 64) (l : Fin 128) :
    scale s r (ix2 v l) = s (ix2 v l) * r (ix2 0 l) := by
  pointwise [scale]

theorem next_lo (mt : IVec S1x128 1) (L : Fin 128) (h : At mt L) (s₀ s₁ : Vec Ideal S1x1x64x64 .f32) (vt : Vec Ideal S128x128 .f32)
    (w k a b : Vec Ideal S1x128 .f32) (v l : Fin 64) :
    next mt s₀ s₁ vt w k a b (ix2 v ⟨l.val, by omega⟩)
      = s₀ (ix4 0 0 v l) * w (ix2 0 ⟨l.val, by omega⟩)
        + (∑ j : Fin 64, s₀ (ix4 0 0 v j) * a (ix2 0 ⟨j.val, by omega⟩)) * b (ix2 0 ⟨l.val, by omega⟩)
        + vt (ix2 ⟨v.val, by omega⟩ L) * k (ix2 0 ⟨l.val, by omega⟩) := by
  unfold next
  pointwise []
  simp only [scale_apply, values_lo mt L h, cols_lo, seg₀_apply, pair_lo]

theorem next_hi (mt : IVec S1x128 1) (L : Fin 128) (h : At mt L) (s₀ s₁ : Vec Ideal S1x1x64x64 .f32) (vt : Vec Ideal S128x128 .f32)
    (w k a b : Vec Ideal S1x128 .f32) (v l : Fin 64) :
    next mt s₀ s₁ vt w k a b (ix2 v ⟨64 + l.val, by omega⟩)
      = s₁ (ix4 0 0 v l) * w (ix2 0 ⟨64 + l.val, by omega⟩)
        + (∑ j : Fin 64, s₁ (ix4 0 0 v j) * a (ix2 0 ⟨64 + j.val, by omega⟩)) * b (ix2 0 ⟨64 + l.val, by omega⟩)
        + vt (ix2 ⟨64 + v.val, by omega⟩ L) * k (ix2 0 ⟨64 + l.val, by omega⟩) := by
  unfold next
  pointwise []
  simp only [scale_apply, values_hi mt L h, cols_hi, seg₁_apply, pair_hi]

theorem left_apply (s : FVec Ideal S64x128 .f32) (z z' : Fin 1) (v l : Fin 64) : left s (ix4 z z' v l) = s (ix2 v ⟨l.val, by omega⟩) := by
  pointwise [left]
theorem right_apply (s : FVec Ideal S64x128 .f32) (z z' : Fin 1) (v l : Fin 64) : right s (ix4 z z' v l) = s (ix2 v ⟨64 + l.val, by omega⟩) := by
  pointwise [right]
theorem spread_apply (c : FVec Ideal S64x1 .f32) (v : Fin 64) (l : Fin 128) : spread c (ix2 v l) = c (ix2 v 0) := by
  pointwise [spread]
theorem mask_apply (mt : IVec S1x128 1) (v : Fin 64) (l : Fin 128) : mask mt (ix2 v l) = mt (ix2 0 l) := by
  pointwise [mask]

theorem lane_word : ∀ (i : Fin 16) (b : Fin 8), Scalar.addi (Scalar.muli (BitVec.ofNat 32 i.val) 8#32) (BitVec.ofNat 32 b.val)
    = BitVec.ofNat 32 (8 * i.val + b.val) := by decide +kernel
theorem word_eq : ∀ l m : Fin 128, IntOp.cmpi CmpIPredicate.eq (BitVec.ofNat 32 l.val) (BitVec.ofNat 32 m.val)
    = if l = m then 1#1 else 0#1 := by decide +kernel

/-- The lane mask of sequence `b` at grid point `i` is the mask of lane `8 i + b`. -/
theorem lane_at (i : Fin 16) (b : Fin 8) : At (lane (BitVec.ofNat 32 i.val) (BitVec.ofNat 32 b.val)) ⟨8 * i.val + b.val, by omega⟩ := by
  intro l
  pointwise [lane]
  rw [lane_word i b]
  exact word_eq l ⟨8 * i.val + b.val, by omega⟩

/-- The places of the mask. -/
theorem mem_mask (i : Fin 16) (b : Fin 8) (x : S64x128.Idx) :
    x ∈ IVec.on (mask (lane (BitVec.ofNat 32 i.val) (BitVec.ofNat 32 b.val))) ↔ (x 1).val = 8 * i.val + b.val := by
  obtain ⟨v, l, rfl⟩ : ∃ v l, x = ix2 v l := ⟨x 0, x 1, by funext q; fin_cases q <;> rfl⟩
  simp only [IVec.on, Finset.mem_filter, Finset.mem_univ, true_and, mask_apply]
  rw [lane_at i b l]
  show _ ↔ l.val = _
  constructor
  · intro h
    by_contra hne
    rw [if_neg (fun e => hne (congrArg Fin.val e))] at h
    exact absurd h (by decide)
  · intro h; rw [if_pos (Fin.ext h)]; rfl

end Cert.Rec
end
-- ==== Proof.Rec.Masked.lean ====
/-
  A chain of masked stores of columns into a resident block, each into 64 rows and one lane.

  Store number `N b + h` writes rows 64 h … 64 h + 63 at lane 8 i + b, for eight sequences `b` and `N` heads `h`.
-/
module

public import Idealize.ShloMosaic.Lib.Pointwise
public import Idealize.ShloMosaic.Lib.WholeRead
public import Idealize.ShloMosaic.Lib.Writes

@[expose] public section

noncomputable section

namespace Cert.Rec

open Idealize.ShloMosaic Idealize.ShloMosaic.TcCoe Idealize.SL.Sem

/-- The places that the stores numbered `n` and on leave as they are. -/
def Before (N i n : ℕ) {a : ℕ} (y : (⟨2, ![a, 128]⟩ : Shape).Idx) : Prop :=
  (y 1).val / 8 = i → N * ((y 1).val % 8) + (y 0).val / 64 < n

/-- One store of the chain: where its column has the values of `G`, the block has them after it at every place that the stores
    after it leave, if it had them before at every place that this one leaves too. -/
theorem store_step (N i : ℕ) (b : Fin 8) (h : Fin N) {sig : RefSig} {κ : Kind} {sp : Space} {a : ℕ} {F : FTy → Type}
    {m : Memref sig κ sp (⟨2, ![a, 128]⟩ : Shape) .f32} (G : Vec F (⟨2, ![a, 128]⟩ : Shape) .f32)
    (ha : a ≤ 64 * N) {o : Fin 2 → ℕ} (ho : o = ![64 * h.val, 0])
    {inb : ∀ x : Fin 2, o x + (![64, 128] : Fin 2 → ℕ) x ≤ (![a, 128] : Fin 2 → ℕ) x}
    (f : m.view.ty.Contents (Elt F)) (M : Finset (⟨2, ![64, 128]⟩ : Shape).Idx)
    (hM : ∀ k, k ∈ M ↔ (k 1).val = 8 * i + b.val)
    (w : Vec F (⟨2, ![64, 128]⟩ : Shape) .f32)
    (hw : ∀ (k : (⟨2, ![64, 128]⟩ : Shape).Idx) (y : (⟨2, ![a, 128]⟩ : Shape).Idx),
      (y 0).val = 64 * h.val + (k 0).val → (y 1).val = 8 * i + b.val → w k = G y)
    (hf : ∀ y, Before N i (N * b.val + h.val) y → m.view.read (Elt F) f y = G y) :
    ∀ y, Before N i (N * b.val + h.val + 1) y →
      m.view.read (Elt F) ((m.access (Rect.unit (s := (⟨2, ![a, 128]⟩ : Shape)) o ![64, 128] inb)).write (Elt F) f w M) y = G y := by
  subst ho
  intro y hy
  by_cases hit : y ∈ M.map (Rect.unit (s := (⟨2, ![a, 128]⟩ : Shape)) ![64 * h.val, 0] ![64, 128] inb).emb
  · obtain ⟨k, hk, rfl⟩ := Finset.mem_map.mp hit
    refine (View.read_slice_write_emb (v := m.view) _ f w hk).trans (hw k _ ?_ ?_)
    · show 64 * h.val + 1 * (k 0).val = _; omega
    · show 0 + 1 * (k 1).val = _
      have := (hM k).mp hk; omega
  · refine (View.read_slice_write_of_not_mem (v := m.view) (Rect.unit (s := (⟨2, ![a, 128]⟩ : Shape)) ![64 * h.val, 0] ![64, 128] inb) f w M
      hit).trans (hf y fun hi => ?_)
    have hn := hy hi
    rcases Nat.lt_or_ge (N * ((y 1).val % 8) + (y 0).val / 64) (N * b.val + h.val) with hlt | hge
    · exact hlt
    · exfalso
      have he : N * ((y 1).val % 8) + (y 0).val / 64 = N * b.val + h.val := by omega
      have y0 : (y 0).val < a := (y 0).isLt
      have hp : (y 0).val / 64 < N := by omega
      have hN : 0 < N := by omega
      have hb := congrArg (· / N) he
      simp only [Nat.mul_add_div hN, Nat.div_eq_of_lt hp, Nat.div_eq_of_lt h.isLt, Nat.add_zero] at hb
      rw [hb] at he
      have hh : (y 0).val / 64 = h.val := Nat.add_left_cancel he
      refine hit (Finset.mem_map.mpr ⟨ix2 ⟨(y 0).val % 64, by omega⟩ ⟨(y 1).val, (y 1).isLt⟩, (hM _).mpr ?_, ?_⟩)
      · show (y 1).val = _; omega
      · funext x; apply Fin.ext; fin_cases x
        · show 64 * h.val + 1 * ((y 0).val % 64) = (y 0).val; omega
        · show 0 + 1 * (y 1).val = (y 1).val; omega

end Cert.Rec
end
-- ==== Proof.Rec.Point.lean ====
/-
  The block of one grid point: the new states and results of eight sequences, read at an index, and the payloads of the stores.
-/
module

public import proofs.«01_k».proof.Proof.Rec.Step
public import proofs.«01_k».proof.Proof.Rec.Masked

@[expose] public section

set_option maxRecDepth 16384

noncomputable section

namespace Cert.Rec

open Idealize.ShloMosaic Idealize.ShloMosaic.TcCoe Idealize.SL.Sem
open Cert.KernelIdeal Cert.KernelIdeal.Gen

/-- The place of lane `l` of head `h` in a row of all heads. -/
def at4 (h : Fin 4) (l : Fin 64) : Fin 256 := ⟨64 * h.val + l.val, by omega⟩
/-- The lane of sequence `b` at grid point `i`. -/
def ln (i : Fin 16) (b : Fin 8) : Fin 128 := ⟨8 * i.val + b.val, by omega⟩

section
variable (i : Fin 16) (w k r a e : Vec Ideal S8x256 .f32) (vt : Vec Ideal S256x128 .f32) (s : Vec Ideal S8x4x64x64 .f32)

/-- The new state of sequence `b` and head `h`. -/
def stepAt (b : Fin 8) (h : Fin 4) (v l : Fin 64) : EReal :=
  s (ix4 b h v l) * w (ix2 b (at4 h l)) + (∑ j : Fin 64, s (ix4 b h v j) * a (ix2 b (at4 h j))) * e (ix2 b (at4 h l))
    + vt (ix2 (at4 h v) (ln i b)) * k (ix2 b (at4 h l))

/-- Its product with the receiving row. -/
def outAt (b : Fin 8) (h : Fin 4) (v : Fin 64) : EReal := ∑ l : Fin 64, stepAt i w k a e vt s b h v l * r (ix2 b (at4 h l))

/-- The block of new states, -/
def stateBlk : Vec Ideal S8x4x64x64 .f32 := fun y => stepAt i w k a e vt s (y 0) (y 1) (y 2) (y 3)

/-- and the resident block of results: the lanes of this grid point are new, the others as they were. -/
def outBlk (d : Vec Ideal S256x128 .f32) : Vec Ideal S256x128 .f32 := fun y =>
  if (y 1).val / 8 = i.val then
    outAt i w k r a e vt s ⟨(y 1).val % 8, by omega⟩ ⟨(y 0).val / 64, by have := (y 0).isLt; change _ < 256 at this; omega⟩ ⟨(y 0).val % 64, by omega⟩
  else d y
end

/-! ## The loads -/

theorem inb2 (b : Fin 8) (p : Fin 2) : ∀ x, (![b.val, 128 * p.val] : Fin 2 → ℕ) x + S1x128.size x ≤ S8x256.size x := by
  revert b p; decide
theorem inbv (p : Fin 2) : ∀ x, (![128 * p.val, 0] : Fin 2 → ℕ) x + S128x128.size x ≤ S256x128.size x := by revert p; decide
theorem inbs (b : Fin 8) (h : Fin 4) : ∀ x, (![b.val, h.val, 0, 0] : Fin 4 → ℕ) x + S1x1x64x64.size x ≤ S8x4x64x64.size x := by
  revert b h; decide

/-- One row of two heads, -/
def row (m : Memref sig .tc .vmem S8x256 .f32) (hm : m.IsWhole) (x : Vec Ideal S8x256 .f32) (b : Fin 8) (p : Fin 2) : Vec Ideal S1x128 .f32 :=
  View.readAt (Elt Ideal) m.view (Rect.unit (s := S8x256) ![b.val, 128 * p.val] S1x128.size (inb2 b p)).toLoadRect (hm.unread x)
/-- the transposed values of two heads, -/
def vals (m : Memref sig .tc .vmem S256x128 .f32) (hm : m.IsWhole) (x : Vec Ideal S256x128 .f32) (p : Fin 2) : Vec Ideal S128x128 .f32 :=
  View.readAt (Elt Ideal) m.view (Rect.unit (s := S256x128) ![128 * p.val, 0] S128x128.size (inbv p)).toLoadRect (hm.unread x)
/-- the state of one head. -/
def stat (m : Memref sig .tc .vmem S8x4x64x64 .f32) (hm : m.IsWhole) (x : Vec Ideal S8x4x64x64 .f32) (b : Fin 8) (h : Fin 4) : Vec Ideal S1x1x64x64 .f32 :=
  View.readAt (Elt Ideal) m.view (Rect.unit (s := S8x4x64x64) ![b.val, h.val, 0, 0] S1x1x64x64.size (inbs b h)).toLoadRect (hm.unread x)

theorem row_apply (m : Memref sig .tc .vmem S8x256 .f32) (hm : m.IsWhole) (x : Vec Ideal S8x256 .f32) (b : Fin 8) (p : Fin 2) (l : Fin 128) :
    row m hm x b p (ix2 0 l) = x (ix2 b ⟨128 * p.val + l.val, by omega⟩) :=
  (hm.readAt_unread x _ _).trans (congrArg x (funext fun z => Fin.ext (by
    fin_cases z
    · show b.val + 1 * 0 = b.val; omega
    · show 128 * p.val + 1 * l.val = 128 * p.val + l.val; omega)))
theorem vals_apply (m : Memref sig .tc .vmem S256x128 .f32) (hm : m.IsWhole) (x : Vec Ideal S256x128 .f32) (p : Fin 2) (v l : Fin 128) :
    vals m hm x p (ix2 v l) = x (ix2 ⟨128 * p.val + v.val, by omega⟩ l) :=
  (hm.readAt_unread x _ _).trans (congrArg x (funext fun z => Fin.ext (by
    fin_cases z
    · show 128 * p.val + 1 * v.val = 128 * p.val + v.val; omega
    · show 0 + 1 * l.val = l.val; omega)))
theorem stat_apply (m : Memref sig .tc .vmem S8x4x64x64 .f32) (hm : m.IsWhole) (x : Vec Ideal S8x4x64x64 .f32) (b : Fin 8) (h : Fin 4) (v l : Fin 64) :
    stat m hm x b h (ix4 0 0 v l) = x (ix4 b h v l) :=
  (hm.readAt_unread x _ _).trans (congrArg x (funext fun z => Fin.ext (by
    fin_cases z
    · show b.val + 1 * 0 = b.val; omega
    · show h.val + 1 * 0 = h.val; omega
    · show 0 + 1 * v.val = v.val; omega
    · show 0 + 1 * l.val = l.val; omega)))

/-! ## The payloads -/

def lo (p : Fin 2) : Fin 4 := ⟨2 * p.val, by omega⟩
def hi (p : Fin 2) : Fin 4 := ⟨2 * p.val + 1, by omega⟩

section
variable (i : Fin 16) (m₀ : Memref sig .tc .vmem S8x256 .f32) (h₀ : m₀.IsWhole) (m₁ : Memref sig .tc .vmem S8x256 .f32) (h₁ : m₁.IsWhole)
  (m₂ : Memref sig .tc .vmem S8x256 .f32) (h₂ : m₂.IsWhole) (m₃ : Memref sig .tc .vmem S8x256 .f32) (h₃ : m₃.IsWhole)
  (m₄ : Memref sig .tc .vmem S8x256 .f32) (h₄ : m₄.IsWhole) (m₅ : Memref sig .tc .vmem S256x128 .f32) (h₅ : m₅.IsWhole)
  (m₆ : Memref sig .tc .vmem S8x4x64x64 .f32) (h₆ : m₆.IsWhole)
  (w k r a e : Vec Ideal S8x256 .f32) (vt : Vec Ideal S256x128 .f32) (s : Vec Ideal S8x4x64x64 .f32) (b : Fin 8) (p : Fin 2)

/-- The new pair of states of sequence `b`, -/
def pairOf : FVec Ideal S64x128 .f32 :=
  next (lane (BitVec.ofNat 32 i.val) (BitVec.ofNat 32 b.val)) (stat m₆ h₆ s b (lo p)) (stat m₆ h₆ s b (hi p)) (vals m₅ h₅ vt p)
    (row m₀ h₀ w b p) (row m₁ h₁ k b p) (row m₃ h₃ a b p) (row m₄ h₄ e b p)

/-- and the columns of its results. -/
def colLo : FVec Ideal S64x128 .f32 :=
  spread (seg₀ (scale (pairOf i m₀ h₀ m₁ h₁ m₃ h₃ m₄ h₄ m₅ h₅ m₆ h₆ w k a e vt s b p) (row m₂ h₂ r b p)))
def colHi : FVec Ideal S64x128 .f32 :=
  spread (seg₁ (scale (pairOf i m₀ h₀ m₁ h₁ m₃ h₃ m₄ h₄ m₅ h₅ m₆ h₆ w k a e vt s b p) (row m₂ h₂ r b p)))

theorem at_lo (l : Fin 64) : (⟨128 * p.val + l.val, by omega⟩ : Fin 256) = at4 (lo p) l := Fin.ext (by show 128 * p.val + l.val = 64 * (2 * p.val) + l.val; omega)
theorem at_hi (l : Fin 64) : (⟨128 * p.val + (64 + l.val), by omega⟩ : Fin 256) = at4 (hi p) l := Fin.ext (by show 128 * p.val + (64 + l.val) = 64 * (2 * p.val + 1) + l.val; omega)

theorem pairOf_lo (v l : Fin 64) : pairOf i m₀ h₀ m₁ h₁ m₃ h₃ m₄ h₄ m₅ h₅ m₆ h₆ w k a e vt s b p (ix2 v ⟨l.val, by omega⟩)
    = stepAt i w k a e vt s b (lo p) v l := by
  unfold pairOf stepAt
  rw [next_lo _ (ln i b) (lane_at i b)]
  simp only [row_apply, vals_apply, stat_apply, at_lo]

theorem pairOf_hi (v l : Fin 64) : pairOf i m₀ h₀ m₁ h₁ m₃ h₃ m₄ h₄ m₅ h₅ m₆ h₆ w k a e vt s b p (ix2 v ⟨64 + l.val, by omega⟩)
    = stepAt i w k a e vt s b (hi p) v l := by
  unfold pairOf stepAt
  rw [next_hi _ (ln i b) (lane_at i b)]
  simp only [row_apply, vals_apply, stat_apply, at_hi]

theorem colLo_apply (v : Fin 64) (l : Fin 128) : colLo i m₀ h₀ m₁ h₁ m₂ h₂ m₃ h₃ m₄ h₄ m₅ h₅ m₆ h₆ w k r a e vt s b p (ix2 v l)
    = outAt i w k r a e vt s b (lo p) v := by
  unfold colLo outAt
  rw [spread_apply, seg₀_apply]
  refine Finset.sum_congr rfl fun j _ => ?_
  rw [scale_apply, pairOf_lo, row_apply]
  exact congrArg (fun z => _ * r (ix2 b z)) (at_lo p j)

theorem colHi_apply (v : Fin 64) (l : Fin 128) : colHi i m₀ h₀ m₁ h₁ m₂ h₂ m₃ h₃ m₄ h₄ m₅ h₅ m₆ h₆ w k r a e vt s b p (ix2 v l)
    = outAt i w k r a e vt s b (hi p) v := by
  unfold colHi outAt
  rw [spread_apply, seg₁_apply]
  refine Finset.sum_congr rfl fun j _ => ?_
  rw [scale_apply, pairOf_hi, row_apply]
  exact congrArg (fun z => _ * r (ix2 b z)) (at_hi p j)

/-- What the stores of states write is the block of new states. -/
theorem left_blk (x : S1x1x64x64.Idx) : left (pairOf i m₀ h₀ m₁ h₁ m₃ h₃ m₄ h₄ m₅ h₅ m₆ h₆ w k a e vt s b p) x
    = stateBlk i w k a e vt s ((Rect.unit (s := S8x4x64x64) ![b.val, (lo p).val, 0, 0] S1x1x64x64.size (inbs b (lo p))).emb x) := by
  obtain ⟨z, z', v, l, rfl⟩ : ∃ z z' v l, x = ix4 z z' v l := ⟨x 0, x 1, x 2, x 3, by funext q; fin_cases q <;> rfl⟩
  rw [left_apply, pairOf_lo]
  unfold stateBlk
  congr 1 <;> apply Fin.ext
  · show _ = b.val + 1 * z.val; omega
  · show _ = (lo p).val + 1 * z'.val; omega
  · show _ = 0 + 1 * v.val; omega
  · show _ = 0 + 1 * l.val; omega
theorem right_blk (x : S1x1x64x64.Idx) : right (pairOf i m₀ h₀ m₁ h₁ m₃ h₃ m₄ h₄ m₅ h₅ m₆ h₆ w k a e vt s b p) x
    = stateBlk i w k a e vt s ((Rect.unit (s := S8x4x64x64) ![b.val, (hi p).val, 0, 0] S1x1x64x64.size (inbs b (hi p))).emb x) := by
  obtain ⟨z, z', v, l, rfl⟩ : ∃ z z' v l, x = ix4 z z' v l := ⟨x 0, x 1, x 2, x 3, by funext q; fin_cases q <;> rfl⟩
  rw [right_apply, pairOf_hi]
  unfold stateBlk
  congr 1 <;> apply Fin.ext
  · show _ = b.val + 1 * z.val; omega
  · show _ = (hi p).val + 1 * z'.val; omega
  · show _ = 0 + 1 * v.val; omega
  · show _ = 0 + 1 * l.val; omega

/-- What the stores of columns write is the block of results. -/
theorem colLo_blk (d : Vec Ideal S256x128 .f32) (x : S64x128.Idx) (y : S256x128.Idx) (hy : (y 0).val = 64 * (lo p).val + (x 0).val)
    (hl : (y 1).val = 8 * i.val + b.val) : colLo i m₀ h₀ m₁ h₁ m₂ h₂ m₃ h₃ m₄ h₄ m₅ h₅ m₆ h₆ w k r a e vt s b p x
    = outBlk i w k r a e vt s d y := by
  obtain ⟨v, l, rfl⟩ : ∃ v l, x = ix2 v l := ⟨x 0, x 1, by funext q; fin_cases q <;> rfl⟩
  change (y 0).val = 64 * (lo p).val + v.val at hy
  rw [colLo_apply]; unfold outBlk
  rw [if_pos (by omega)]
  congr 1 <;> apply Fin.ext
  · show b.val = (y 1).val % 8; omega
  · show (lo p).val = (y 0).val / 64; omega
  · show v.val = (y 0).val % 64; omega
theorem colHi_blk (d : Vec Ideal S256x128 .f32) (x : S64x128.Idx) (y : S256x128.Idx) (hy : (y 0).val = 64 * (hi p).val + (x 0).val)
    (hl : (y 1).val = 8 * i.val + b.val) : colHi i m₀ h₀ m₁ h₁ m₂ h₂ m₃ h₃ m₄ h₄ m₅ h₅ m₆ h₆ w k r a e vt s b p x
    = outBlk i w k r a e vt s d y := by
  obtain ⟨v, l, rfl⟩ : ∃ v l, x = ix2 v l := ⟨x 0, x 1, by funext q; fin_cases q <;> rfl⟩
  change (y 0).val = 64 * (hi p).val + v.val at hy
  rw [colHi_apply]; unfold outBlk
  rw [if_pos (by omega)]
  congr 1 <;> apply Fin.ext
  · show b.val = (y 1).val % 8; omega
  · show (hi p).val = (y 0).val / 64; omega
  · show v.val = (y 0).val % 64; omega
end

end Cert.Rec
end
-- ==== Proof.Rec.Run.lean ====
module

public import proofs.«01_k».proof.Proof.Gen.KernelIdeal.Frame
public import proofs.«01_k».proof.Proof.Gen.KernelIdeal.Skeleton
public import Idealize.ShloMosaic.Lib.Pipeline.FrameBody
public import Idealize.ShloMosaic.Lib.Pipeline.FrameSuffix
public import Idealize.ShloMosaic.Lib.Tactic
public import proofs.«01_k».proof.Proof.Rec.Point

@[expose] public section

set_option maxRecDepth 16384

noncomputable section

namespace Cert.Rec

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

set_option maxHeartbeats 4000000 in
/-- One grid point's body: the inputs stay, the resident block takes the results of this point, the block of states is the new one. -/
theorem run (c : Dev nD) (i : grid0.Coords) (arg1 : Memref sig .tc .vmem S8x256 .f32) (harg1 : arg1.IsWhole) (arg2 : Memref sig .tc .vmem S8x256 .f32) (harg2 : arg2.IsWhole) (arg3 : Memref sig .tc .vmem S8x256 .f32) (harg3 : arg3.IsWhole) (arg4 : Memref sig .tc .vmem S8x256 .f32) (harg4 : arg4.IsWhole) (arg5 : Memref sig .tc .vmem S8x256 .f32) (harg5 : arg5.IsWhole) (arg6 : Memref sig .tc .vmem S256x128 .f32) (harg6 : arg6.IsWhole) (arg7 : Memref sig .tc .vmem S8x4x64x64 .f32) (harg7 : arg7.IsWhole) (arg8 : Memref sig .tc .vmem S256x128 .f32) (harg8 : arg8.IsWhole) (arg9 : Memref sig .tc .vmem S8x4x64x64 .f32) (harg9 : arg9.IsWhole)
    (x0 : Vec Ideal S8x256 .f32) (x1 : Vec Ideal S8x256 .f32) (x2 : Vec Ideal S8x256 .f32) (x3 : Vec Ideal S8x256 .f32) (x4 : Vec Ideal S8x256 .f32) (x5 : Vec Ideal S256x128 .f32) (x6 : Vec Ideal S8x4x64x64 .f32) :
      ∀ (d : Vec Ideal S256x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare d ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (outBlk (i 0) x0 x1 x2 x3 x4 x5 x6 d) ∗ owns (c : Thread nD τ) arg9 fullShare (stateBlk (i 0) x0 x1 x3 x4 x5 x6)) -∗ K ⟨⟩))
          ⊢ wp frame (wpE (defs₀ (F := Ideal)) Variants.none c none) E (cc0_rec_step i arg1 harg1 arg2 harg2 arg3 harg3 arg4 harg4 arg5 harg5 arg6 harg6 arg7 harg7 arg8 harg8 arg9 harg9) K := by
    intro d E K
    simp only [cc0_rec_step_eq_skeleton]; unfold cc0_rec_step_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr
      swap; · iexact H7
      ipureintro
      funext y
      have hy : Before 4 (i 0).val 32 y := fun _ => by
        have := (y 0).isLt; change _ < 256 at this; omega
      revert hy; revert y
      refine store_step 4 (i 0).val 7 3 _ (by decide) rfl _ _ (mem_mask (i 0) 7) _ (colHi_blk (i 0) arg1 harg1 arg2 harg2 arg3 harg3 arg4 harg4 arg5 harg5 arg6 harg6 arg7 harg7 x0 x1 x2 x3 x4 x5 x6 7 1 d) ?_
      refine store_step 4 (i 0).val 7 2 _ (by decide) rfl _ _ (mem_mask (i 0) 7) _ (colLo_blk (i 0) arg1 harg1 arg2 harg2 arg3 harg3 arg4 harg4 arg5 harg5 arg6 harg6 arg7 harg7 x0 x1 x2 x3 x4 x5 x6 7 1 d) ?_
      refine store_step 4 (i 0).val 7 1 _ (by decide) rfl _ _ (mem_mask (i 0) 7) _ (colHi_blk (i 0) arg1 harg1 arg2 harg2 arg3 harg3 arg4 harg4 arg5 harg5 arg6 harg6 arg7 harg7 x0 x1 x2 x3 x4 x5 x6 7 0 d) ?_
      refine store_step 4 (i 0).val 7 0 _ (by decide) rfl _ _ (mem_mask (i 0) 7) _ (colLo_blk (i 0) arg1 harg1 arg2 harg2 arg3 harg3 arg4 harg4 arg5 harg5 arg6 harg6 arg7 harg7 x0 x1 x2 x3 x4 x5 x6 7 0 d) ?_
      refine store_step 4 (i 0).val 6 3 _ (by decide) rfl _ _ (mem_mask (i 0) 6) _ (colHi_blk (i 0) arg1 harg1 arg2 harg2 arg3 harg3 arg4 harg4 arg5 harg5 arg6 harg6 arg7 harg7 x0 x1 x2 x3 x4 x5 x6 6 1 d) ?_
      refine store_step 4 (i 0).val 6 2 _ (by decide) rfl _ _ (mem_mask (i 0) 6) _ (colLo_blk (i 0) arg1 harg1 arg2 harg2 arg3 harg3 arg4 harg4 arg5 harg5 arg6 harg6 arg7 harg7 x0 x1 x2 x3 x4 x5 x6 6 1 d) ?_
      refine store_step 4 (i 0).val 6 1 _ (by decide) rfl _ _ (mem_mask (i 0) 6) _ (colHi_blk (i 0) arg1 harg1 arg2 harg2 arg3 harg3 arg4 harg4 arg5 harg5 arg6 harg6 arg7 harg7 x0 x1 x2 x3 x4 x5 x6 6 0 d) ?_
      refine store_step 4 (i 0).val 6 0 _ (by decide) rfl _ _ (mem_mask (i 0) 6) _ (colLo_blk (i 0) arg1 harg1 arg2 harg2 arg3 harg3 arg4 harg4 arg5 harg5 arg6 harg6 arg7 harg7 x0 x1 x2 x3 x4 x5 x6 6 0 d) ?_
      refine store_step 4 (i 0).val 5 3 _ (by decide) rfl _ _ (mem_mask (i 0) 5) _ (colHi_blk (i 0) arg1 harg1 arg2 harg2 arg3 harg3 arg4 harg4 arg5 harg5 arg6 harg6 arg7 harg7 x0 x1 x2 x3 x4 x5 x6 5 1 d) ?_
      refine store_step 4 (i 0).val 5 2 _ (by decide) rfl _ _ (mem_mask (i 0) 5) _ (colLo_blk (i 0) arg1 harg1 arg2 harg2 arg3 harg3 arg4 harg4 arg5 harg5 arg6 harg6 arg7 harg7 x0 x1 x2 x3 x4 x5 x6 5 1 d) ?_
      refine store_step 4 (i 0).val 5 1 _ (by decide) rfl _ _ (mem_mask (i 0) 5) _ (colHi_blk (i 0) arg1 harg1 arg2 harg2 arg3 harg3 arg4 harg4 arg5 harg5 arg6 harg6 arg7 harg7 x0 x1 x2 x3 x4 x5 x6 5 0 d) ?_
      refine store_step 4 (i 0).val 5 0 _ (by decide) rfl _ _ (mem_mask (i 0) 5) _ (colLo_blk (i 0) arg1 harg1 arg2 harg2 arg3 harg3 arg4 harg4 arg5 harg5 arg6 harg6 arg7 harg7 x0 x1 x2 x3 x4 x5 x6 5 0 d) ?_
      refine store_step 4 (i 0).val 4 3 _ (by decide) rfl _ _ (mem_mask (i 0) 4) _ (colHi_blk (i 0) arg1 harg1 arg2 harg2 arg3 harg3 arg4 harg4 arg5 harg5 arg6 harg6 arg7 harg7 x0 x1 x2 x3 x4 x5 x6 4 1 d) ?_
      refine store_step 4 (i 0).val 4 2 _ (by decide) rfl _ _ (mem_mask (i 0) 4) _ (colLo_blk (i 0) arg1 harg1 arg2 harg2 arg3 harg3 arg4 harg4 arg5 harg5 arg6 harg6 arg7 harg7 x0 x1 x2 x3 x4 x5 x6 4 1 d) ?_
      refine store_step 4 (i 0).val 4 1 _ (by decide) rfl _ _ (mem_mask (i 0) 4) _ (colHi_blk (i 0) arg1 harg1 arg2 harg2 arg3 harg3 arg4 harg4 arg5 harg5 arg6 harg6 arg7 harg7 x0 x1 x2 x3 x4 x5 x6 4 0 d) ?_
      refine store_step 4 (i 0).val 4 0 _ (by decide) rfl _ _ (mem_mask (i 0) 4) _ (colLo_blk (i 0) arg1 harg1 arg2 harg2 arg3 harg3 arg4 harg4 arg5 harg5 arg6 harg6 arg7 harg7 x0 x1 x2 x3 x4 x5 x6 4 0 d) ?_
      refine store_step 4 (i 0).val 3 3 _ (by decide) rfl _ _ (mem_mask (i 0) 3) _ (colHi_blk (i 0) arg1 harg1 arg2 harg2 arg3 harg3 arg4 harg4 arg5 harg5 arg6 harg6 arg7 harg7 x0 x1 x2 x3 x4 x5 x6 3 1 d) ?_
      refine store_step 4 (i 0).val 3 2 _ (by decide) rfl _ _ (mem_mask (i 0) 3) _ (colLo_blk (i 0) arg1 harg1 arg2 harg2 arg3 harg3 arg4 harg4 arg5 harg5 arg6 harg6 arg7 harg7 x0 x1 x2 x3 x4 x5 x6 3 1 d) ?_
      refine store_step 4 (i 0).val 3 1 _ (by decide) rfl _ _ (mem_mask (i 0) 3) _ (colHi_blk (i 0) arg1 harg1 arg2 harg2 arg3 harg3 arg4 harg4 arg5 harg5 arg6 harg6 arg7 harg7 x0 x1 x2 x3 x4 x5 x6 3 0 d) ?_
      refine store_step 4 (i 0).val 3 0 _ (by decide) rfl _ _ (mem_mask (i 0) 3) _ (colLo_blk (i 0) arg1 harg1 arg2 harg2 arg3 harg3 arg4 harg4 arg5 harg5 arg6 harg6 arg7 harg7 x0 x1 x2 x3 x4 x5 x6 3 0 d) ?_
      refine store_step 4 (i 0).val 2 3 _ (by decide) rfl _ _ (mem_mask (i 0) 2) _ (colHi_blk (i 0) arg1 harg1 arg2 harg2 arg3 harg3 arg4 harg4 arg5 harg5 arg6 harg6 arg7 harg7 x0 x1 x2 x3 x4 x5 x6 2 1 d) ?_
      refine store_step 4 (i 0).val 2 2 _ (by decide) rfl _ _ (mem_mask (i 0) 2) _ (colLo_blk (i 0) arg1 harg1 arg2 harg2 arg3 harg3 arg4 harg4 arg5 harg5 arg6 harg6 arg7 harg7 x0 x1 x2 x3 x4 x5 x6 2 1 d) ?_
      refine store_step 4 (i 0).val 2 1 _ (by decide) rfl _ _ (mem_mask (i 0) 2) _ (colHi_blk (i 0) arg1 harg1 arg2 harg2 arg3 harg3 arg4 harg4 arg5 harg5 arg6 harg6 arg7 harg7 x0 x1 x2 x3 x4 x5 x6 2 0 d) ?_
      refine store_step 4 (i 0).val 2 0 _ (by decide) rfl _ _ (mem_mask (i 0) 2) _ (colLo_blk (i 0) arg1 harg1 arg2 harg2 arg3 harg3 arg4 harg4 arg5 harg5 arg6 harg6 arg7 harg7 x0 x1 x2 x3 x4 x5 x6 2 0 d) ?_
      refine store_step 4 (i 0).val 1 3 _ (by decide) rfl _ _ (mem_mask (i 0) 1) _ (colHi_blk (i 0) arg1 harg1 arg2 harg2 arg3 harg3 arg4 harg4 arg5 harg5 arg6 harg6 arg7 harg7 x0 x1 x2 x3 x4 x5 x6 1 1 d) ?_
      refine store_step 4 (i 0).val 1 2 _ (by decide) rfl _ _ (mem_mask (i 0) 1) _ (colLo_blk (i 0) arg1 harg1 arg2 harg2 arg3 harg3 arg4 harg4 arg5 harg5 arg6 harg6 arg7 harg7 x0 x1 x2 x3 x4 x5 x6 1 1 d) ?_
      refine store_step 4 (i 0).val 1 1 _ (by decide) rfl _ _ (mem_mask (i 0) 1) _ (colHi_blk (i 0) arg1 harg1 arg2 harg2 arg3 harg3 arg4 harg4 arg5 harg5 arg6 harg6 arg7 harg7 x0 x1 x2 x3 x4 x5 x6 1 0 d) ?_
      refine store_step 4 (i 0).val 1 0 _ (by decide) rfl _ _ (mem_mask (i 0) 1) _ (colLo_blk (i 0) arg1 harg1 arg2 harg2 arg3 harg3 arg4 harg4 arg5 harg5 arg6 harg6 arg7 harg7 x0 x1 x2 x3 x4 x5 x6 1 0 d) ?_
      refine store_step 4 (i 0).val 0 3 _ (by decide) rfl _ _ (mem_mask (i 0) 0) _ (colHi_blk (i 0) arg1 harg1 arg2 harg2 arg3 harg3 arg4 harg4 arg5 harg5 arg6 harg6 arg7 harg7 x0 x1 x2 x3 x4 x5 x6 0 1 d) ?_
      refine store_step 4 (i 0).val 0 2 _ (by decide) rfl _ _ (mem_mask (i 0) 0) _ (colLo_blk (i 0) arg1 harg1 arg2 harg2 arg3 harg3 arg4 harg4 arg5 harg5 arg6 harg6 arg7 harg7 x0 x1 x2 x3 x4 x5 x6 0 1 d) ?_
      refine store_step 4 (i 0).val 0 1 _ (by decide) rfl _ _ (mem_mask (i 0) 0) _ (colHi_blk (i 0) arg1 harg1 arg2 harg2 arg3 harg3 arg4 harg4 arg5 harg5 arg6 harg6 arg7 harg7 x0 x1 x2 x3 x4 x5 x6 0 0 d) ?_
      refine store_step 4 (i 0).val 0 0 _ (by decide) rfl _ _ (mem_mask (i 0) 0) _ (colLo_blk (i 0) arg1 harg1 arg2 harg2 arg3 harg3 arg4 harg4 arg5 harg5 arg6 harg6 arg7 harg7 x0 x1 x2 x3 x4 x5 x6 0 0 d) ?_
      intro y hy
      rw [hf7]; unfold outBlk
      rw [if_neg]
      intro hi
      exact absurd (hy hi) (Nat.not_lt_zero _)
    · iexists _; isplitr
      swap; · iexact H8
      ipureintro
      funext y
      refine View.read_writes_apply_of_pieces _ _ _ _ ?_ y (View.cover_of_tiled _ ![1, 1, 64, 64] (by rfl) y)
      simp only [List.forall_mem_cons]
      refine ⟨right_blk (i 0) arg1 harg1 arg2 harg2 arg4 harg4 arg5 harg5 arg6 harg6 arg7 harg7 x0 x1 x3 x4 x5 x6 7 1,
        left_blk (i 0) arg1 harg1 arg2 harg2 arg4 harg4 arg5 harg5 arg6 harg6 arg7 harg7 x0 x1 x3 x4 x5 x6 7 1,
        right_blk (i 0) arg1 harg1 arg2 harg2 arg4 harg4 arg5 harg5 arg6 harg6 arg7 harg7 x0 x1 x3 x4 x5 x6 7 0,
        left_blk (i 0) arg1 harg1 arg2 harg2 arg4 harg4 arg5 harg5 arg6 harg6 arg7 harg7 x0 x1 x3 x4 x5 x6 7 0,
        right_blk (i 0) arg1 harg1 arg2 harg2 arg4 harg4 arg5 harg5 arg6 harg6 arg7 harg7 x0 x1 x3 x4 x5 x6 6 1,
        left_blk (i 0) arg1 harg1 arg2 harg2 arg4 harg4 arg5 harg5 arg6 harg6 arg7 harg7 x0 x1 x3 x4 x5 x6 6 1,
        right_blk (i 0) arg1 harg1 arg2 harg2 arg4 harg4 arg5 harg5 arg6 harg6 arg7 harg7 x0 x1 x3 x4 x5 x6 6 0,
        left_blk (i 0) arg1 harg1 arg2 harg2 arg4 harg4 arg5 harg5 arg6 harg6 arg7 harg7 x0 x1 x3 x4 x5 x6 6 0,
        right_blk (i 0) arg1 harg1 arg2 harg2 arg4 harg4 arg5 harg5 arg6 harg6 arg7 harg7 x0 x1 x3 x4 x5 x6 5 1,
        left_blk (i 0) arg1 harg1 arg2 harg2 arg4 harg4 arg5 harg5 arg6 harg6 arg7 harg7 x0 x1 x3 x4 x5 x6 5 1,
        right_blk (i 0) arg1 harg1 arg2 harg2 arg4 harg4 arg5 harg5 arg6 harg6 arg7 harg7 x0 x1 x3 x4 x5 x6 5 0,
        left_blk (i 0) arg1 harg1 arg2 harg2 arg4 harg4 arg5 harg5 arg6 harg6 arg7 harg7 x0 x1 x3 x4 x5 x6 5 0,
        right_blk (i 0) arg1 harg1 arg2 harg2 arg4 harg4 arg5 harg5 arg6 harg6 arg7 harg7 x0 x1 x3 x4 x5 x6 4 1,
        left_blk (i 0) arg1 harg1 arg2 harg2 arg4 harg4 arg5 harg5 arg6 harg6 arg7 harg7 x0 x1 x3 x4 x5 x6 4 1,
        right_blk (i 0) arg1 harg1 arg2 harg2 arg4 harg4 arg5 harg5 arg6 harg6 arg7 harg7 x0 x1 x3 x4 x5 x6 4 0,
        left_blk (i 0) arg1 harg1 arg2 harg2 arg4 harg4 arg5 harg5 arg6 harg6 arg7 harg7 x0 x1 x3 x4 x5 x6 4 0,
        right_blk (i 0) arg1 harg1 arg2 harg2 arg4 harg4 arg5 harg5 arg6 harg6 arg7 harg7 x0 x1 x3 x4 x5 x6 3 1,
        left_blk (i 0) arg1 harg1 arg2 harg2 arg4 harg4 arg5 harg5 arg6 harg6 arg7 harg7 x0 x1 x3 x4 x5 x6 3 1,
        right_blk (i 0) arg1 harg1 arg2 harg2 arg4 harg4 arg5 harg5 arg6 harg6 arg7 harg7 x0 x1 x3 x4 x5 x6 3 0,
        left_blk (i 0) arg1 harg1 arg2 harg2 arg4 harg4 arg5 harg5 arg6 harg6 arg7 harg7 x0 x1 x3 x4 x5 x6 3 0,
        right_blk (i 0) arg1 harg1 arg2 harg2 arg4 harg4 arg5 harg5 arg6 harg6 arg7 harg7 x0 x1 x3 x4 x5 x6 2 1,
        left_blk (i 0) arg1 harg1 arg2 harg2 arg4 harg4 arg5 harg5 arg6 harg6 arg7 harg7 x0 x1 x3 x4 x5 x6 2 1,
        right_blk (i 0) arg1 harg1 arg2 harg2 arg4 harg4 arg5 harg5 arg6 harg6 arg7 harg7 x0 x1 x3 x4 x5 x6 2 0,
        left_blk (i 0) arg1 harg1 arg2 harg2 arg4 harg4 arg5 harg5 arg6 harg6 arg7 harg7 x0 x1 x3 x4 x5 x6 2 0,
        right_blk (i 0) arg1 harg1 arg2 harg2 arg4 harg4 arg5 harg5 arg6 harg6 arg7 harg7 x0 x1 x3 x4 x5 x6 1 1,
        left_blk (i 0) arg1 harg1 arg2 harg2 arg4 harg4 arg5 harg5 arg6 harg6 arg7 harg7 x0 x1 x3 x4 x5 x6 1 1,
        right_blk (i 0) arg1 harg1 arg2 harg2 arg4 harg4 arg5 harg5 arg6 harg6 arg7 harg7 x0 x1 x3 x4 x5 x6 1 0,
        left_blk (i 0) arg1 harg1 arg2 harg2 arg4 harg4 arg5 harg5 arg6 harg6 arg7 harg7 x0 x1 x3 x4 x5 x6 1 0,
        right_blk (i 0) arg1 harg1 arg2 harg2 arg4 harg4 arg5 harg5 arg6 harg6 arg7 harg7 x0 x1 x3 x4 x5 x6 0 1,
        left_blk (i 0) arg1 harg1 arg2 harg2 arg4 harg4 arg5 harg5 arg6 harg6 arg7 harg7 x0 x1 x3 x4 x5 x6 0 1,
        right_blk (i 0) arg1 harg1 arg2 harg2 arg4 harg4 arg5 harg5 arg6 harg6 arg7 harg7 x0 x1 x3 x4 x5 x6 0 0,
        left_blk (i 0) arg1 harg1 arg2 harg2 arg4 harg4 arg5 harg5 arg6 harg6 arg7 harg7 x0 x1 x3 x4 x5 x6 0 0, fun _ h => absurd h List.not_mem_nil⟩

end Cert.Rec
end
-- ==== Proof.Rec.Frame.lean ====
/-
  The run of the recurrence: what the region leaves in its two result arrays.

  The resident block keeps the lanes of the points before, so it is held to a predicate: after point `t` its lanes below 8 (t + 1) hold
  the results. Lanes above hold anything until their point comes.
-/
module

public import proofs.«01_k».proof.Proof.Gen.KernelIdeal.Frame
public import proofs.«01_k».proof.Proof.Gen.KernelIdeal.Skeleton
public import Idealize.ShloMosaic.Lib.Pipeline.FrameBody
public import Idealize.ShloMosaic.Lib.Pipeline.FrameSuffix
public import Idealize.ShloMosaic.Lib.Tactic
public import proofs.«01_k».proof.Proof.Rec.Run
public import Idealize.ShloMosaic.Lib.Pipeline.DatRel
public import Idealize.ShloMosaic.Lib.Pipeline.ArrRel

@[expose] public section

set_option maxRecDepth 16384

noncomputable section

namespace Cert.Rec

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

theorem coord (t : Fin cfg0.N) : (grid0.coords t 0).val = t.val := (by decide +kernel : ∀ t : Fin grid0.N, (grid0.coords t 0).val = t.val) t

/-- The grid point that takes a lane. -/
def pt (l : Fin 128) : Fin cfg0.N := ⟨l.val / 8, by show _ < grid0.N; rw [N_0]; omega⟩

/-- The results, row by row and lane by lane. -/
def res (c : Dev nD) : Vec Ideal S256x128 .f32 := fun y =>
  outAt (grid0.coords (pt (y 1)) 0) (iblk m c 0 (pt (y 1))) (iblk m c 1 (pt (y 1))) (iblk m c 2 (pt (y 1))) (iblk m c 3 (pt (y 1)))
    (iblk m c 4 (pt (y 1))) (iblk m c 5 (pt (y 1))) (iblk m c 6 (pt (y 1)))
    ⟨(y 1).val % 8, by omega⟩ ⟨(y 0).val / 64, by have := (y 0).isLt; change _ < 256 at this; omega⟩ ⟨(y 0).val % 64, by omega⟩

/-- The resident block is held to a predicate, nothing else is. -/
def held : Fin cfg0.W → Bool := fun w => w.val == 7

def Rl (c : Dev nD) : (w : Fin cfg0.W) → Fin cfg0.N → ((cfg0.win w).block.Idx → Elt Ideal (cfg0.win w).elt) → Prop := fun w t X =>
  match w, X with
  | ⟨7, _⟩, X => ∀ y : S256x128.Idx, (y 1).val < 8 * (t.val + 1) → X y = res m c y
  | _, _ => True

def pdat (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, _⟩ => stateBlk (grid0.coords t 0) (iblk m c 0 t) (iblk m c 1 t) (iblk m c 3 t) (iblk m c 4 t) (iblk m c 5 t) (iblk m c 6 t)
  Φ _ := Pipeline.ΦA spec0 c
  q _ := fullShare
  owed _ := 0

theorem A_eq (c : Dev nD) (w : Fin cfg0.W) : (pdat m 0 c).A w = V m c (Pipeline.arrRef spec0 w) := by
  dsimp only [pdat]

theorem after_0 (c : Dev nD) (t : Fin cfg0.N) : (pdat m 0 c).after 0 t = iblk m c 0 t := by dsimp only [pdat]
theorem after_1 (c : Dev nD) (t : Fin cfg0.N) : (pdat m 0 c).after 1 t = iblk m c 1 t := by dsimp only [pdat]
theorem after_2 (c : Dev nD) (t : Fin cfg0.N) : (pdat m 0 c).after 2 t = iblk m c 2 t := by dsimp only [pdat]
theorem after_3 (c : Dev nD) (t : Fin cfg0.N) : (pdat m 0 c).after 3 t = iblk m c 3 t := by dsimp only [pdat]
theorem after_4 (c : Dev nD) (t : Fin cfg0.N) : (pdat m 0 c).after 4 t = iblk m c 4 t := by dsimp only [pdat]
theorem after_5 (c : Dev nD) (t : Fin cfg0.N) : (pdat m 0 c).after 5 t = iblk m c 5 t := by dsimp only [pdat]
theorem after_6 (c : Dev nD) (t : Fin cfg0.N) : (pdat m 0 c).after 6 t = iblk m c 6 t := by dsimp only [pdat]
theorem after_8 (c : Dev nD) (t : Fin cfg0.N) : (pdat m 0 c).after 8 t
    = stateBlk (grid0.coords t 0) (iblk m c 0 t) (iblk m c 1 t) (iblk m c 3 t) (iblk m c 4 t) (iblk m c 5 t) (iblk m c 6 t) := by dsimp only [pdat]
theorem before_0 (c : Dev nD) (t : Fin cfg0.N) (d) : (pdat m 0 c).before 0 t d = iblk m c 0 t :=
  (Dat.before_in_eq_fetched _ 0 rfl (fun _ => rfl) (fun _ _ _ => rfl) (fun t => by rw [after_0]; rfl) t d).trans rfl
theorem before_1 (c : Dev nD) (t : Fin cfg0.N) (d) : (pdat m 0 c).before 1 t d = iblk m c 1 t :=
  (Dat.before_in_eq_fetched _ 1 rfl (fun _ => rfl) (fun _ _ _ => rfl) (fun t => by rw [after_1]; rfl) t d).trans rfl
theorem before_2 (c : Dev nD) (t : Fin cfg0.N) (d) : (pdat m 0 c).before 2 t d = iblk m c 2 t :=
  (Dat.before_in_eq_fetched _ 2 rfl (fun _ => rfl) (fun _ _ _ => rfl) (fun t => by rw [after_2]; rfl) t d).trans rfl
theorem before_3 (c : Dev nD) (t : Fin cfg0.N) (d) : (pdat m 0 c).before 3 t d = iblk m c 3 t :=
  (Dat.before_in_eq_fetched _ 3 rfl (fun _ => rfl) (fun _ _ _ => rfl) (fun t => by rw [after_3]; rfl) t d).trans rfl
theorem before_4 (c : Dev nD) (t : Fin cfg0.N) (d) : (pdat m 0 c).before 4 t d = iblk m c 4 t :=
  (Dat.before_in_eq_fetched _ 4 rfl (fun _ => rfl) (fun _ _ _ => rfl) (fun t => by rw [after_4]; rfl) t d).trans rfl
theorem before_5 (c : Dev nD) (t : Fin cfg0.N) (d) : (pdat m 0 c).before 5 t d = iblk m c 5 t :=
  (Dat.before_in_eq_fetched _ 5 rfl (fun _ => rfl) (fun _ _ _ => rfl) (fun t => by rw [after_5]; rfl) t d).trans rfl
theorem before_6 (c : Dev nD) (t : Fin cfg0.N) (d) : (pdat m 0 c).before 6 t d = iblk m c 6 t :=
  (Dat.before_in_eq_fetched _ 6 rfl (fun _ => rfl) (fun _ _ _ => rfl) (fun t => by rw [after_6]; rfl) t d).trans rfl

/-- What the body finds in the resident block: the lanes of the points before. -/
theorem finds (c : Dev nD) (t : Fin cfg0.N) (X : S256x128.Idx → Elt Ideal .f32) (h : ((pdat m 0 c).toRRel held (Rl m c)).Finds 7 t X)
    (y : S256x128.Idx) (hy : (y 1).val < 8 * t.val) : X y = res m c y := by
  have ht : t.val ≠ 0 := by omega
  rcases (Pipeline.RDat.finds_of_pos (rd := (pdat m 0 c).toRRel held (Rl m c)) (w := 7) rfl ht X).mp h with hf | hl
  · exfalso
    have := (flush0_7 _).mp hf
    have hN : t.val < 16 := by have := t.isLt; change _ < grid0.N at this; rwa [N_0] at this
    change (t.val - 1) % 16 = 15 at this
    omega
  · exact Dat.toRRel_leaves _ rfl hl y (by show _ < 8 * (t.val - 1 + 1); omega)

/-- What it leaves there. -/
theorem leaves (c : Dev nD) (t : Fin cfg0.N) (X : S256x128.Idx → Elt Ideal .f32) (hX : ∀ y : S256x128.Idx, (y 1).val < 8 * t.val → X y = res m c y)
    (y : S256x128.Idx) (hy : (y 1).val < 8 * (t.val + 1)) :
    outBlk (grid0.coords t 0) (iblk m c 0 t) (iblk m c 1 t) (iblk m c 2 t) (iblk m c 3 t) (iblk m c 4 t) (iblk m c 5 t) (iblk m c 6 t) X y
      = res m c y := by
  unfold outBlk
  by_cases h : (y 1).val / 8 = (grid0.coords t 0).val
  · rw [if_pos h]
    rw [coord t] at h
    have e : pt (y 1) = t := Fin.ext h
    unfold res
    rw [e]
  · rw [if_neg h]
    rw [coord t] at h
    exact hX y (by omega)

def pre (c : Dev nD) (t : Fin cfg0.N) : sProp 𝕄 :=
  iprop((pdat m 0 c).Φ t.castSucc ∗ (pdat m 0 c).owesAt () t.castSucc
    ∗ (∃ d, owns (c : Thread nD τ) (st0_0 t) fullShare ((pdat m 0 c).before 0 t d))
    ∗ (∃ d, owns (c : Thread nD τ) (st0_1 t) fullShare ((pdat m 0 c).before 1 t d))
    ∗ (∃ d, owns (c : Thread nD τ) (st0_2 t) fullShare ((pdat m 0 c).before 2 t d))
    ∗ (∃ d, owns (c : Thread nD τ) (st0_3 t) fullShare ((pdat m 0 c).before 3 t d))
    ∗ (∃ d, owns (c : Thread nD τ) (st0_4 t) fullShare ((pdat m 0 c).before 4 t d))
    ∗ (∃ d, owns (c : Thread nD τ) (st0_5 t) fullShare ((pdat m 0 c).before 5 t d))
    ∗ (∃ d, owns (c : Thread nD τ) (st0_6 t) fullShare ((pdat m 0 c).before 6 t d))
    ∗ (∃ Y, ⌜((pdat m 0 c).toRRel held (Rl m c)).Finds 7 t Y⌝ ∗ owns (c : Thread nD τ) (st0_7 t) fullShare Y)
    ∗ (∃ d, owns (c : Thread nD τ) (st0_8 t) fullShare ((pdat m 0 c).before 8 t d)))

def post (c : Dev nD) (t : Fin cfg0.N) : sProp 𝕄 :=
  iprop((pdat m 0 c).Φ t.succ ∗ (pdat m 0 c).owesAt () t.succ
    ∗ owns (c : Thread nD τ) (st0_0 t) fullShare ((pdat m 0 c).after 0 t)
    ∗ owns (c : Thread nD τ) (st0_1 t) fullShare ((pdat m 0 c).after 1 t)
    ∗ owns (c : Thread nD τ) (st0_2 t) fullShare ((pdat m 0 c).after 2 t)
    ∗ owns (c : Thread nD τ) (st0_3 t) fullShare ((pdat m 0 c).after 3 t)
    ∗ owns (c : Thread nD τ) (st0_4 t) fullShare ((pdat m 0 c).after 4 t)
    ∗ owns (c : Thread nD τ) (st0_5 t) fullShare ((pdat m 0 c).after 5 t)
    ∗ owns (c : Thread nD τ) (st0_6 t) fullShare ((pdat m 0 c).after 6 t)
    ∗ (∃ X, ⌜Rl m c 7 t X⌝ ∗ owns (c : Thread nD τ) (st0_7 t) fullShare X)
    ∗ owns (c : Thread nD τ) (st0_8 t) fullShare ((pdat m 0 c).after 8 t))

set_option maxHeartbeats 800000 in
theorem sound (c : Dev nD) (t : Fin cfg0.N) :
    pre m c t ⊢ wp frame (wpE (defs₀ (F := Ideal)) Variants.none c none) Set.univ (bodyAt0 t) (fun _ => post m c t) := by
  unfold pre post bodyAt0
  simp only [before_0, before_1, before_2, before_3, before_4, before_5, before_6]
  rw [show (pdat m 0 c).Φ t.succ = (pdat m 0 c).Φ t.castSucc from rfl,
    show (pdat m 0 c).owesAt () t.succ = (pdat m 0 c).owesAt () t.castSucc from rfl,
    after_0, after_1, after_2, after_3, after_4, after_5, after_6, after_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, %hd7, H7⟩, ⟨%d8, H8⟩⟩
  iapply ((run c (grid0.coords t) _ _ _ _ _ _ _ _ _ _ _ _ _ _ _ _ _ _ (iblk m c 0 t) (iblk m c 1 t) (iblk m c 2 t) (iblk m c 3 t) (iblk m c 4 t) (iblk m c 5 t) (iblk m c 6 t)) d7 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iexists _; isplitr
    swap; · iexact H7
    ipureintro
    exact leaves m c t d7 (finds m c t d7 hd7)
  iexact H8

theorem row_body (t : Fin cfg0.N) :
    defs₀ (F := Ideal) .tc cfg0.body (cfg0.bodyArgs t (cfg0.slots t)) = bodyAt0 t := by
  unfold defs₀; rw [Defs.onTc_tc]

theorem obligation (c : Dev nD) : Pipeline.BodyObligationRel (pdat m 0 c) (defs₀ (F := Ideal)) Variants.none () Set.univ held (Rl m c) := fun t => by
  rw [bigSep_W0, bigSep_W0, row_body]
  exact triple_restated (sound m c t) rfl .rfl fun _ => .rfl

set_option backward.isDefEq.respectTransparency.types false in
/-- The run of the region, with every counter at zero after it. -/
theorem main_run : θ_run defs (onTc (τ := τ) (main (F := Ideal))) (s₀ m ρ)
    (fun r => (Pipeline.RDat.FramePost (cfgs 0) (fun c => (pdat m 0 c).toRRel held (Rl m c)) (V m)) r ∧ r.2.sem = fun _ => 0) :=
  Pipeline.RDat.θ_run_frame (Q' := _) cfgs (0 : Fin 1) launch0 defs₀ Variants.none (fun c => (pdat m 0 c).toRRel held (Rl m c)) m ρ main
    (hbody := fun c => (obligation m c).toRRel) (hshare := fun c => (pdat m 0 c).share_full fun _ => rfl)
    (howed := fun _ _ => rfl) (V := V m) (hmain := hmain m Variants.none) (hA := A_eq m) (hΦ := fun _ _ => rfl)

/-- The arguments end as they were launched. -/
theorem args (r : PUnit × MemSt nD τ sig (Elt Ideal))
    (h : Pipeline.RDat.FramePost (cfgs 0) (fun c => (pdat m 0 c).toRRel held (Rl m c)) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    (Pipeline.RDat.FramePost.arr_in h c 6 rfl).trans ((A_eq m c 6).trans (V_main_arg6 m c))⟩

/-- The last point writes the resident block back whole. -/
theorem whole_7 : (cfg0.win 7).WholeAt (pt 127) := by decide +kernel

/-- The results the region leaves, -/
theorem final_7 (r : PUnit × MemSt nD τ sig (Elt Ideal))
    (h : Pipeline.RDat.FramePost (cfgs 0) (fun c => (pdat m 0 c).toRRel held (Rl m c)) (V m) r) (c : Dev nD) :
    r.2.mem ((c.tc : Thread nD τ).loc main_v8_0) = res m c := by
  obtain ⟨X, hX, hG⟩ := Pipeline.RDat.ArrAt.emb_eq_of_wholeAt ((h c).1 7) whole_7
  have hR := Dat.toRRel_leaves _ rfl hX
  funext y
  exact (hG y).trans (hR y (by have := (y 1).isLt; change _ < 128 at this; exact this))

/-- and the states. -/
theorem final_8 (r : PUnit × MemSt nD τ sig (Elt Ideal))
    (h : Pipeline.RDat.FramePost (cfgs 0) (fun c => (pdat m 0 c).toRRel held (Rl m c)) (V m) r) (c : Dev nD) :
    r.2.mem ((c.tc : Thread nD τ).loc main_v8_1) = (pdat m 0 c).arrAt 8 (cfgs 0).N :=
  (((pdat m 0 c).toR.override_arrAt (by rfl) _ _).trans ((pdat m 0 c).toR_arrAt_iff 8 _ _)).mp ((h c).1 8)

end Cert.Rec
end
-- ==== Proof.Rec.Value.lean ====
module

public import proofs.«01_k».proof.Proof.Gen.KernelIdeal.Frame
public import proofs.«01_k».proof.Proof.Gen.KernelIdeal.Skeleton
public import Idealize.ShloMosaic.Lib.Pipeline.FrameBody
public import Idealize.ShloMosaic.Lib.Pipeline.FrameSuffix
public import Idealize.ShloMosaic.Lib.Tactic
public import proofs.«01_k».proof.Proof.Rec.Frame
public import Idealize.ShloMosaic.Lib.Pipeline.ValueKit
public import Idealize.ShloMosaic.Lib.Claim

@[expose] public section

set_option maxRecDepth 16384

noncomputable section

namespace Cert.Rec

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![0, 0] ∧ win0_6.index t = ![t.val, 0, 0, 0] ∧ win0_8.index t = ![t.val, 0, 0, 0] :=
  (by decide +kernel : ∀ t : Fin grid0.N, _)

/-! ## The blocks, read in the arguments -/

theorem flat (x : Vec Ideal S1x128x256 .f32) (r : Fin 128) (l : Fin 256) :
    shapeCast S128x256 x shapeCasts_S1x128x256_S128x256 (ix2 r l) = x (ix3 0 r l) := by pointwise
theorem turned (x : Vec Ideal S1x128x256 .f32) (r : Fin 128) (l : Fin 256) :
    transpose S256x128 [1, 0] (shapeCast S128x256 x shapeCasts_S1x128x256_S128x256) transposes_S128x256_S256x128_1_0 (ix2 l r) = x (ix3 0 r l) := by pointwise
theorem unpadded (x : Vec Ideal S256x128 .f32) (v : Vec Ideal S_ .f32) (l : Fin 256) (r : Fin 128) :
    pad S256x128 ![0, 0] ![0, 0] ![0, 0] x v pads_S256x128_S256x128_000_000 h_S_ (ix2 l r) = x (ix2 l r) := by pointwise

theorem entry_0 (c : Dev nD) : V m c main_v3 = shapeCast S128x256 (m ((c : Thread nD τ).loc main_arg0)) shapeCasts_S1x128x256_S128x256 := by
  show StableHlo.after (hostOps0 ++ (hostOps0_1 ++ (hostOps0_2 ++ []))) _ _ = _
  simp only [hostOps0, hostOps0_1, hostOps0_2, List.cons_append, List.nil_append]
  after_results <;> rfl
theorem read_0 (c : Dev nD) (t : Fin cfg0.N) (b : Fin 8) (l : Fin 256) (i : Fin 16) (hi : i.val = t.val) :
    iblk m c 0 t (ix2 b l) = m ((c : Thread nD τ).loc main_arg0) (ix3 0 (ln i b) l) := by
  show V m c main_v3 (((cfg0.win 0).blk t).view.emb (ix2 b l)) = _
  have e : ((cfg0.win 0).blk t).view.emb (ix2 b l) = (ix2 (ln i b) l : S128x256.Idx) := by blk_ext [idx t, ln]
  rw [entry_0, e]; exact flat _ _ _
theorem entry_1 (c : Dev nD) : V m c main_v4 = shapeCast S128x256 (m ((c : Thread nD τ).loc main_arg1)) shapeCasts_S1x128x256_S128x256 := by
  show StableHlo.after (hostOps0 ++ (hostOps0_1 ++ (hostOps0_2 ++ []))) _ _ = _
  simp only [hostOps0, hostOps0_1, hostOps0_2, List.cons_append, List.nil_append]
  after_results <;> rfl
theorem read_1 (c : Dev nD) (t : Fin cfg0.N) (b : Fin 8) (l : Fin 256) (i : Fin 16) (hi : i.val = t.val) :
    iblk m c 1 t (ix2 b l) = m ((c : Thread nD τ).loc main_arg1) (ix3 0 (ln i b) l) := by
  show V m c main_v4 (((cfg0.win 1).blk t).view.emb (ix2 b l)) = _
  have e : ((cfg0.win 1).blk t).view.emb (ix2 b l) = (ix2 (ln i b) l : S128x256.Idx) := by blk_ext [idx t, ln]
  rw [entry_1, e]; exact flat _ _ _
theorem entry_2 (c : Dev nD) : V m c main_v5 = shapeCast S128x256 (m ((c : Thread nD τ).loc main_arg2)) shapeCasts_S1x128x256_S128x256 := by
  show StableHlo.after (hostOps0 ++ (hostOps0_1 ++ (hostOps0_2 ++ []))) _ _ = _
  simp only [hostOps0, hostOps0_1, hostOps0_2, List.cons_append, List.nil_append]
  after_results <;> rfl
theorem read_2 (c : Dev nD) (t : Fin cfg0.N) (b : Fin 8) (l : Fin 256) (i : Fin 16) (hi : i.val = t.val) :
    iblk m c 2 t (ix2 b l) = m ((c : Thread nD τ).loc main_arg2) (ix3 0 (ln i b) l) := by
  show V m c main_v5 (((cfg0.win 2).blk t).view.emb (ix2 b l)) = _
  have e : ((cfg0.win 2).blk t).view.emb (ix2 b l) = (ix2 (ln i b) l : S128x256.Idx) := by blk_ext [idx t, ln]
  rw [entry_2, e]; exact flat _ _ _
theorem entry_3 (c : Dev nD) : V m c main_v6 = shapeCast S128x256 (m ((c : Thread nD τ).loc main_arg3)) shapeCasts_S1x128x256_S128x256 := by
  show StableHlo.after (hostOps0 ++ (hostOps0_1 ++ (hostOps0_2 ++ []))) _ _ = _
  simp only [hostOps0, hostOps0_1, hostOps0_2, List.cons_append, List.nil_append]
  after_results <;> rfl
theorem read_3 (c : Dev nD) (t : Fin cfg0.N) (b : Fin 8) (l : Fin 256) (i : Fin 16) (hi : i.val = t.val) :
    iblk m c 3 t (ix2 b l) = m ((c : Thread nD τ).loc main_arg3) (ix3 0 (ln i b) l) := by
  show V m c main_v6 (((cfg0.win 3).blk t).view.emb (ix2 b l)) = _
  have e : ((cfg0.win 3).blk t).view.emb (ix2 b l) = (ix2 (ln i b) l : S128x256.Idx) := by blk_ext [idx t, ln]
  rw [entry_3, e]; exact flat _ _ _
theorem entry_4 (c : Dev nD) : V m c main_v7 = shapeCast S128x256 (m ((c : Thread nD τ).loc main_arg4)) shapeCasts_S1x128x256_S128x256 := by
  show StableHlo.after (hostOps0 ++ (hostOps0_1 ++ (hostOps0_2 ++ []))) _ _ = _
  simp only [hostOps0, hostOps0_1, hostOps0_2, List.cons_append, List.nil_append]
  after_results <;> rfl
theorem read_4 (c : Dev nD) (t : Fin cfg0.N) (b : Fin 8) (l : Fin 256) (i : Fin 16) (hi : i.val = t.val) :
    iblk m c 4 t (ix2 b l) = m ((c : Thread nD τ).loc main_arg4) (ix3 0 (ln i b) l) := by
  show V m c main_v7 (((cfg0.win 4).blk t).view.emb (ix2 b l)) = _
  have e : ((cfg0.win 4).blk t).view.emb (ix2 b l) = (ix2 (ln i b) l : S128x256.Idx) := by blk_ext [idx t, ln]
  rw [entry_4, e]; exact flat _ _ _

theorem entry_5 (c : Dev nD) : ∃ v : Vec Ideal S_ .f32, V m c main_v2 = pad S256x128 ![0, 0] ![0, 0] ![0, 0]
    (transpose S256x128 [1, 0] (shapeCast S128x256 (m ((c : Thread nD τ).loc main_arg5)) shapeCasts_S1x128x256_S128x256) transposes_S128x256_S256x128_1_0)
    v pads_S256x128_S256x128_000_000 h_S_ := by
  refine ⟨(sitofp .f32 (constantI S_ 32 0#32) : FVec Ideal S_ .f32), ?_⟩
  show StableHlo.after (hostOps0 ++ (hostOps0_1 ++ (hostOps0_2 ++ []))) _ _ = _
  simp only [hostOps0, hostOps0_1, hostOps0_2, List.cons_append, List.nil_append]
  after_results <;> rfl
theorem read_5 (c : Dev nD) (t : Fin cfg0.N) (x : Fin 256) (l : Fin 128) :
    iblk m c 5 t (ix2 x l) = m ((c : Thread nD τ).loc main_arg5) (ix3 0 l x) := by
  show V m c main_v2 (((cfg0.win 5).blk t).view.emb (ix2 x l)) = _
  have e : ((cfg0.win 5).blk t).view.emb (ix2 x l) = (ix2 x l : S256x128.Idx) := by blk_ext [idx t]
  obtain ⟨v, hv⟩ := entry_5 m c
  rw [hv, e]; exact (unpadded _ _ _ _).trans (turned _ _ _)
theorem read_6 (c : Dev nD) (t : Fin cfg0.N) (b : Fin 8) (h : Fin 4) (v l : Fin 64) (i : Fin 16) (hi : i.val = t.val) :
    iblk m c 6 t (ix4 b h v l) = m ((c : Thread nD τ).loc main_arg6) (ix4 (ln i b) h v l) := by
  show V m c main_arg6 (((cfg0.win 6).blk t).view.emb (ix4 b h v l)) = _
  have e : ((cfg0.win 6).blk t).view.emb (ix4 b h v l) = (ix4 (ln i b) h v l : S128x4x64x64.Idx) := by blk_ext [idx t, ln]
  rw [V_main_arg6, e]

/-! ## The results in the arguments -/

section
variable (w k r a e v : Vec Ideal S1x128x256 .f32) (s : Vec Ideal S128x4x64x64 .f32)

/-- The new state of sequence `n` and head `h`, -/
def newState (n : Fin 128) (h : Fin 4) (x l : Fin 64) : EReal :=
  s (ix4 n h x l) * w (ix3 0 n (at4 h l)) + (∑ j : Fin 64, s (ix4 n h x j) * a (ix3 0 n (at4 h j))) * e (ix3 0 n (at4 h l))
    + v (ix3 0 n (at4 h x)) * k (ix3 0 n (at4 h l))

/-- and its product with the receiving row. -/
def newOut (n : Fin 128) (h : Fin 4) (x : Fin 64) : EReal := ∑ l : Fin 64, newState w k a e v s n h x l * r (ix3 0 n (at4 h l))
end

theorem step_eq (c : Dev nD) (t : Fin cfg0.N) (i : Fin 16) (hi : i.val = t.val) (b : Fin 8) (h : Fin 4) (x l : Fin 64) :
    stepAt i (iblk m c 0 t) (iblk m c 1 t) (iblk m c 3 t) (iblk m c 4 t) (iblk m c 5 t) (iblk m c 6 t) b h x l
    = newState (m ((c : Thread nD τ).loc main_arg0)) (m ((c : Thread nD τ).loc main_arg1)) (m ((c : Thread nD τ).loc main_arg3))
        (m ((c : Thread nD τ).loc main_arg4)) (m ((c : Thread nD τ).loc main_arg5)) (m ((c : Thread nD τ).loc main_arg6)) (ln i b) h x l := by
  unfold stepAt newState
  refine congrArg₂ (· + ·) (congrArg₂ (· + ·) (congrArg₂ (· * ·) (read_6 m c t b h x l i hi) (read_0 m c t b _ i hi))
    (congrArg₂ (· * ·) (Finset.sum_congr rfl fun j _ => congrArg₂ (· * ·) (read_6 m c t b h x j i hi) (read_3 m c t b _ i hi)) (read_4 m c t b _ i hi)))
    (congrArg₂ (· * ·) (read_5 m c t _ _) (read_1 m c t b _ i hi))

theorem newState_congr {w k a e v : Vec Ideal S1x128x256 .f32} {s : Vec Ideal S128x4x64x64 .f32} {n n' : Fin 128} {h h' : Fin 4} {x x' l l' : Fin 64}
    (hn : n = n') (hh : h = h') (hx : x = x') (hl : l = l') : newState w k a e v s n h x l = newState w k a e v s n' h' x' l' := by
  rw [hn, hh, hx, hl]

/-- The results the region leaves, -/
theorem res_eq (c : Dev nD) (h : Fin 4) (x : Fin 64) (n : Fin 128) :
    res m c (ix2 (at4 h x) n) = newOut (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6))
        n h x := by
  have hi : (grid0.coords (pt n) 0).val = (pt n).val := coord (pt n)
  have hn : ∀ q, ln (grid0.coords (pt n) 0) ⟨n.val % 8, q⟩ = n := fun q => Fin.ext (by
    show 8 * (grid0.coords (pt n) 0).val + n.val % 8 = n.val
    rw [hi]; show 8 * (n.val / 8) + n.val % 8 = n.val; omega)
  have hh : ∀ q, (⟨(at4 h x).val / 64, q⟩ : Fin 4) = h := fun q => Fin.ext (by show (64 * h.val + x.val) / 64 = h.val; omega)
  have hx : ∀ q, (⟨(at4 h x).val % 64, q⟩ : Fin 64) = x := fun q => Fin.ext (by show (64 * h.val + x.val) % 64 = x.val; omega)
  unfold res newOut outAt
  refine Finset.sum_congr rfl fun l _ => congrArg₂ (· * ·)
    ((step_eq m c (pt n) _ hi _ _ _ l).trans (newState_congr (hn _) (hh _) (hx _) rfl))
    ((read_2 m c (pt n) _ _ _ hi).trans (congrArg₂ (fun p q => m ((c : Thread nD τ).loc main_arg2) (ix3 0 p (at4 q l))) (hn _) (hh _)))

/-- and the states. -/
theorem states_eq (c : Dev nD) : (pdat m 0 c).arrAt 8 (cfgs 0).N = fun y : S128x4x64x64.Idx =>
    newState (m ((c : Thread nD τ).loc main_arg0)) (m ((c : Thread nD τ).loc main_arg1)) (m ((c : Thread nD τ).loc main_arg3))
        (m ((c : Thread nD τ).loc main_arg4)) (m ((c : Thread nD τ).loc main_arg5)) (m ((c : Thread nD τ).loc main_arg6)) (y 0) (y 1) (y 2) (y 3) := by
  refine (pdat m 0 c).arrAt_eq_of_covers 8 _ (by decide +kernel) fun t _ y => ?_
  rw [after_8]
  obtain ⟨b, h, x, l, rfl⟩ : ∃ b h x l, y = (ix4 b h x l : S8x4x64x64.Idx) := ⟨y 0, y 1, y 2, y 3, by funext q; fin_cases q <;> rfl⟩
  have e : ((cfg0.win 8).blk t).view.emb (ix4 b h x l) = (ix4 (ln (grid0.coords t 0) b) h x l : S128x4x64x64.Idx) := by
    have hi : (grid0.coords t 0).val = t.val := coord t
    blk_ext [idx t, ln]
  rw [e]
  exact step_eq m c t _ (coord t) b h x l

end Cert.Rec
end
-- ==== Proof.Rec.Reference.lean ====
/-
  The reference's results, index by index.
-/
module

public import proofs.«01_k».proof.Proof.Rec.Value
public import proofs.«01_k».proof.Proof.Gen.ReferenceIdeal.Read

@[expose] public section

set_option maxRecDepth 16384

noncomputable section

namespace Cert.Rec

open Idealize.ShloMosaic Idealize.ShloMosaic.TcCoe Idealize.SL.Sem
open Cert.ReferenceIdeal.Read

section
variable (w k r a e v : Vec Ideal Cert.KernelIdeal.S1x128x256 .f32) (s : Vec Ideal Cert.KernelIdeal.S128x4x64x64 .f32)

theorem heads_at {i : Cert.KernelIdeal.S1x128x256.Idx} {n : Fin 128} {h : Fin 4} {l : Fin 64} (h₀ : (i 0).val = 0)
    (h₁ : (i 1).val = ((n.val * 4 + h.val) * 64 + l.val) / 256 % 128) (h₂ : (i 2).val = ((n.val * 4 + h.val) * 64 + l.val) % 256) :
    i = ix3 0 n (at4 h l) := by
  funext z; apply Fin.ext; fin_cases z
  · exact h₀
  · refine h₁.trans ?_; show _ = n.val; omega
  · refine h₂.trans ?_; show _ = 64 * h.val + l.val; omega

theorem ref_state (n : Fin 128) (h : Fin 4) (x l : Fin 64) :
    val_main_v21 (F := Ideal) w k a e v s (ix4 n h x l) = newState w k a e v s n h x l := by
  rw [val_main_v21_apply, val_main_v15_apply, val_main_v20_apply, val_main_v9_apply, val_main_v14_apply, val_main_v8_apply, val_main_v7_apply,
    val_main_v0_apply, val_main_v12_apply, val_main_v10_apply, val_main_v6_apply, val_main_v13_apply, val_main_v11_apply, val_main_v4_apply,
    val_main_v18_apply, val_main_v16_apply, val_main_v5_apply, val_main_v19_apply, val_main_v17_apply, val_main_v1_apply]
  simp only [val_main_v3_apply]
  unfold newState
  refine congrArg₂ (· + ·) (congrArg₂ (· + ·) (congrArg₂ (· * ·) rfl (congrArg w (heads_at rfl rfl rfl)))
    (congrArg₂ (· * ·) (Finset.sum_congr rfl fun j _ => congrArg₂ (· * ·) (congrArg s ?_) (congrArg a (heads_at rfl rfl rfl))) (congrArg e (heads_at rfl rfl rfl))))
    (congrArg₂ (· * ·) (congrArg v (heads_at rfl rfl rfl)) (congrArg k (heads_at rfl rfl rfl)))
  funext z; fin_cases z <;> rfl

theorem ref_out (h : Fin 4) (x : Fin 64) (n : Fin 128) :
    val_main_v24 (F := Ideal) w k r a e v s (ix2 (at4 h x) n) = newOut w k r a e v s n h x := by
  rw [val_main_v24_apply, val_main_v23_apply, val_main_v22_apply]
  simp only [val_main_v2_apply]
  unfold newOut
  refine Finset.sum_congr rfl fun l _ => congrArg₂ (· * ·) ((congrArg (val_main_v21 (F := Ideal) w k a e v s) ?_).trans (ref_state w k a e v s n h x l)) (congrArg r (heads_at rfl ?_ ?_))
  · funext z; apply Fin.ext; fin_cases z
    · show (n.val * 256 + (64 * h.val + x.val)) / 256 = n.val; omega
    · show (n.val * 256 + (64 * h.val + x.val)) / 64 % 4 = h.val; omega
    · show (n.val * 256 + (64 * h.val + x.val)) % 64 = x.val; omega
    · rfl
  · show (((n.val * 256 + (64 * h.val + x.val)) / 256 * 4 + (n.val * 256 + (64 * h.val + x.val)) / 64 % 4) * 64 + l.val) / 256 % 128 = _; omega
  · show (((n.val * 256 + (64 * h.val + x.val)) / 256 * 4 + (n.val * 256 + (64 * h.val + x.val)) / 64 % 4) * 64 + l.val) % 256 = _; omega
end

end Cert.Rec
end
-- ==== Proof.Rec.Quiet.lean ====
/-
  The frame of the recurrence, over any float values: what the stores leave is not named.
-/
module

public import proofs.«01_k».proof.Proof.Gen.KernelIdeal.Frame
public import proofs.«01_k».proof.Proof.Gen.KernelIdeal.Skeleton
public import Idealize.ShloMosaic.Lib.Pipeline.FrameBody
public import Idealize.ShloMosaic.Lib.Pipeline.FrameSuffix
public import Idealize.ShloMosaic.Lib.Pipeline.DatRel
public import Idealize.ShloMosaic.Lib.Pipeline.ArrRel
public import Idealize.ShloMosaic.Lib.Tactic

@[expose] public section

set_option maxRecDepth 16384

noncomputable section

namespace Cert.RecQuiet

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- One grid point's body: the inputs stay, the outputs end at some contents. -/
theorem run (c : Dev nD) (i : grid0.Coords) (arg1 : Memref sig .tc .vmem S8x256 .f32) (harg1 : arg1.IsWhole) (arg2 : Memref sig .tc .vmem S8x256 .f32) (harg2 : arg2.IsWhole) (arg3 : Memref sig .tc .vmem S8x256 .f32) (harg3 : arg3.IsWhole) (arg4 : Memref sig .tc .vmem S8x256 .f32) (harg4 : arg4.IsWhole) (arg5 : Memref sig .tc .vmem S8x256 .f32) (harg5 : arg5.IsWhole) (arg6 : Memref sig .tc .vmem S256x128 .f32) (harg6 : arg6.IsWhole) (arg7 : Memref sig .tc .vmem S8x4x64x64 .f32) (harg7 : arg7.IsWhole) (arg8 : Memref sig .tc .vmem S256x128 .f32) (harg8 : arg8.IsWhole) (arg9 : Memref sig .tc .vmem S8x4x64x64 .f32) (harg9 : arg9.IsWhole)
    (x0 : Vec F S8x256 .f32) (x1 : Vec F S8x256 .f32) (x2 : Vec F S8x256 .f32) (x3 : Vec F S8x256 .f32) (x4 : Vec F S8x256 .f32) (x5 : Vec F S256x128 .f32) (x6 : Vec F S8x4x64x64 .f32) :
      ∀ (E : Set ℕ) (K : PUnit → sProp 𝕄),
        iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ (∃ d, owns (c : Thread nD τ) arg8 fullShare d)
        ∗ (∃ d, owns (c : Thread nD τ) arg9 fullShare d)
        ∗ (iprop(owns (c : Thread nD τ) arg1 fullShare x0
          ∗ owns (c : Thread nD τ) arg2 fullShare x1
          ∗ owns (c : Thread nD τ) arg3 fullShare x2
          ∗ owns (c : Thread nD τ) arg4 fullShare x3
          ∗ owns (c : Thread nD τ) arg5 fullShare x4
          ∗ owns (c : Thread nD τ) arg6 fullShare x5
          ∗ owns (c : Thread nD τ) arg7 fullShare x6
          ∗ (∃ d, owns (c : Thread nD τ) arg8 fullShare d)
          ∗ (∃ d, owns (c : Thread nD τ) arg9 fullShare d)) -∗ K ⟨⟩))
      ⊢ wp frame (wpE (defs₀ (F := F)) Variants.none c none) E (cc0_rec_step i arg1 harg1 arg2 harg2 arg3 harg3 arg4 harg4 arg5 harg5 arg6 harg6 arg7 harg7 arg8 harg8 arg9 harg9) K := by
    intro E K
    simp only [cc0_rec_step_eq_skeleton]; unfold cc0_rec_step_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; iexists _; isplitr
      swap; · iexact H7
      ipureintro; rfl
    iexists _; iexists _; isplitr
    swap; · iexact H8
    ipureintro; rfl

variable (m : (ℓ : Loc nD τ sig) → Buf (Elt F) ℓ) (ρ : Dev nD → PrngReg)

/-- The outputs are held to nothing. -/
def held : Fin cfg0.W → Bool := fun w => w.val == 7 || w.val == 8
def Rl (F : FTy → Type) (c : Dev nD) : (w : Fin cfg0.W) → Fin cfg0.N → ((cfg0.win w).block.Idx → Elt F (cfg0.win w).elt) → Prop := fun _ _ _ => True

def pdat (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
  Φ _ := Pipeline.ΦA spec0 c
  q _ := fullShare
  owed _ := 0

theorem A_eq (c : Dev nD) (w : Fin cfg0.W) : (pdat m 0 c).A w = V m c (Pipeline.arrRef spec0 w) := by
  dsimp only [pdat]
theorem after_0 (c : Dev nD) (t : Fin cfg0.N) : (pdat m 0 c).after 0 t = iblk m c 0 t := by dsimp only [pdat]
theorem after_1 (c : Dev nD) (t : Fin cfg0.N) : (pdat m 0 c).after 1 t = iblk m c 1 t := by dsimp only [pdat]
theorem after_2 (c : Dev nD) (t : Fin cfg0.N) : (pdat m 0 c).after 2 t = iblk m c 2 t := by dsimp only [pdat]
theorem after_3 (c : Dev nD) (t : Fin cfg0.N) : (pdat m 0 c).after 3 t = iblk m c 3 t := by dsimp only [pdat]
theorem after_4 (c : Dev nD) (t : Fin cfg0.N) : (pdat m 0 c).after 4 t = iblk m c 4 t := by dsimp only [pdat]
theorem after_5 (c : Dev nD) (t : Fin cfg0.N) : (pdat m 0 c).after 5 t = iblk m c 5 t := by dsimp only [pdat]
theorem after_6 (c : Dev nD) (t : Fin cfg0.N) : (pdat m 0 c).after 6 t = iblk m c 6 t := by dsimp only [pdat]
theorem before_0 (c : Dev nD) (t : Fin cfg0.N) (d) : (pdat m 0 c).before 0 t d = iblk m c 0 t :=
  (Dat.before_in_eq_fetched _ 0 rfl (fun _ => rfl) (fun _ _ _ => rfl) (fun t => by rw [after_0]; rfl) t d).trans rfl
theorem before_1 (c : Dev nD) (t : Fin cfg0.N) (d) : (pdat m 0 c).before 1 t d = iblk m c 1 t :=
  (Dat.before_in_eq_fetched _ 1 rfl (fun _ => rfl) (fun _ _ _ => rfl) (fun t => by rw [after_1]; rfl) t d).trans rfl
theorem before_2 (c : Dev nD) (t : Fin cfg0.N) (d) : (pdat m 0 c).before 2 t d = iblk m c 2 t :=
  (Dat.before_in_eq_fetched _ 2 rfl (fun _ => rfl) (fun _ _ _ => rfl) (fun t => by rw [after_2]; rfl) t d).trans rfl
theorem before_3 (c : Dev nD) (t : Fin cfg0.N) (d) : (pdat m 0 c).before 3 t d = iblk m c 3 t :=
  (Dat.before_in_eq_fetched _ 3 rfl (fun _ => rfl) (fun _ _ _ => rfl) (fun t => by rw [after_3]; rfl) t d).trans rfl
theorem before_4 (c : Dev nD) (t : Fin cfg0.N) (d) : (pdat m 0 c).before 4 t d = iblk m c 4 t :=
  (Dat.before_in_eq_fetched _ 4 rfl (fun _ => rfl) (fun _ _ _ => rfl) (fun t => by rw [after_4]; rfl) t d).trans rfl
theorem before_5 (c : Dev nD) (t : Fin cfg0.N) (d) : (pdat m 0 c).before 5 t d = iblk m c 5 t :=
  (Dat.before_in_eq_fetched _ 5 rfl (fun _ => rfl) (fun _ _ _ => rfl) (fun t => by rw [after_5]; rfl) t d).trans rfl
theorem before_6 (c : Dev nD) (t : Fin cfg0.N) (d) : (pdat m 0 c).before 6 t d = iblk m c 6 t :=
  (Dat.before_in_eq_fetched _ 6 rfl (fun _ => rfl) (fun _ _ _ => rfl) (fun t => by rw [after_6]; rfl) t d).trans rfl

def pre (c : Dev nD) (t : Fin cfg0.N) : sProp 𝕄 :=
  iprop((pdat m 0 c).Φ t.castSucc ∗ (pdat m 0 c).owesAt () t.castSucc
    ∗ (∃ d, owns (c : Thread nD τ) (st0_0 t) fullShare ((pdat m 0 c).before 0 t d))
    ∗ (∃ d, owns (c : Thread nD τ) (st0_1 t) fullShare ((pdat m 0 c).before 1 t d))
    ∗ (∃ d, owns (c : Thread nD τ) (st0_2 t) fullShare ((pdat m 0 c).before 2 t d))
    ∗ (∃ d, owns (c : Thread nD τ) (st0_3 t) fullShare ((pdat m 0 c).before 3 t d))
    ∗ (∃ d, owns (c : Thread nD τ) (st0_4 t) fullShare ((pdat m 0 c).before 4 t d))
    ∗ (∃ d, owns (c : Thread nD τ) (st0_5 t) fullShare ((pdat m 0 c).before 5 t d))
    ∗ (∃ d, owns (c : Thread nD τ) (st0_6 t) fullShare ((pdat m 0 c).before 6 t d))
    ∗ (∃ Y, ⌜((pdat m 0 c).toRRel held (Rl F c)).Finds 7 t Y⌝ ∗ owns (c : Thread nD τ) (st0_7 t) fullShare Y)
    ∗ (∃ Y, ⌜((pdat m 0 c).toRRel held (Rl F c)).Finds 8 t Y⌝ ∗ owns (c : Thread nD τ) (st0_8 t) fullShare Y))
def post (c : Dev nD) (t : Fin cfg0.N) : sProp 𝕄 :=
  iprop((pdat m 0 c).Φ t.succ ∗ (pdat m 0 c).owesAt () t.succ
    ∗ owns (c : Thread nD τ) (st0_0 t) fullShare ((pdat m 0 c).after 0 t)
    ∗ owns (c : Thread nD τ) (st0_1 t) fullShare ((pdat m 0 c).after 1 t)
    ∗ owns (c : Thread nD τ) (st0_2 t) fullShare ((pdat m 0 c).after 2 t)
    ∗ owns (c : Thread nD τ) (st0_3 t) fullShare ((pdat m 0 c).after 3 t)
    ∗ owns (c : Thread nD τ) (st0_4 t) fullShare ((pdat m 0 c).after 4 t)
    ∗ owns (c : Thread nD τ) (st0_5 t) fullShare ((pdat m 0 c).after 5 t)
    ∗ owns (c : Thread nD τ) (st0_6 t) fullShare ((pdat m 0 c).after 6 t)
    ∗ (∃ X, ⌜Rl F c 7 t X⌝ ∗ owns (c : Thread nD τ) (st0_7 t) fullShare X)
    ∗ (∃ X, ⌜Rl F c 8 t X⌝ ∗ owns (c : Thread nD τ) (st0_8 t) fullShare X))

set_option maxHeartbeats 800000 in
theorem sound (c : Dev nD) (t : Fin cfg0.N) :
    pre m c t ⊢ wp frame (wpE (defs₀ (F := F)) Variants.none c none) Set.univ (bodyAt0 t) (fun _ => post m c t) := by
  unfold pre post bodyAt0
  simp only [before_0, before_1, before_2, before_3, before_4, before_5, before_6]
  rw [show (pdat m 0 c).Φ t.succ = (pdat m 0 c).Φ t.castSucc from rfl,
    show (pdat m 0 c).owesAt () t.succ = (pdat m 0 c).owesAt () t.castSucc from rfl, after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, -, H7⟩, ⟨%d8, -, H8⟩⟩
  iapply ((run c (grid0.coords t) _ _ _ _ _ _ _ _ _ _ _ _ _ _ _ _ _ _ (iblk m c 0 t) (iblk m c 1 t) (iblk m c 2 t) (iblk m c 3 t) (iblk m c 4 t) (iblk m c 5 t) (iblk m c 6 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, ⟨%e7, H7⟩, ⟨%e8, H8⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iexists _; isplitr
    swap; · iexact H7
    ipureintro; trivial
  iexists _; isplitr
  swap; · iexact H8
  ipureintro; trivial

theorem row_body (t : Fin cfg0.N) :
    defs₀ (F := F) .tc cfg0.body (cfg0.bodyArgs t (cfg0.slots t)) = bodyAt0 t := by
  unfold defs₀; rw [Defs.onTc_tc]

theorem obligation (c : Dev nD) : Pipeline.BodyObligationRel (pdat m 0 c) (defs₀ (F := F)) Variants.none () Set.univ held (Rl F c) := fun t => by
  rw [bigSep_W0, bigSep_W0, row_body]
  exact triple_restated (sound m c t) rfl .rfl fun _ => .rfl

set_option backward.isDefEq.respectTransparency.types false in
theorem main_run : θ_run defs (onTc (τ := τ) (main (F := F))) (s₀ m ρ)
    (fun r => (Pipeline.RDat.FramePost (cfgs 0) (fun c => (pdat m 0 c).toRRel held (Rl F c)) (V m)) r ∧ r.2.sem = fun _ => 0) :=
  Pipeline.RDat.θ_run_frame (Q' := _) cfgs (0 : Fin 1) launch0 defs₀ Variants.none (fun c => (pdat m 0 c).toRRel held (Rl F c)) m ρ main
    (hbody := fun c => (obligation m c).toRRel) (hshare := fun c => (pdat m 0 c).share_full fun _ => rfl)
    (howed := fun _ _ => rfl) (V := V m) (hmain := hmain m Variants.none) (hA := A_eq m) (hΦ := fun _ _ => rfl)

/-- The arguments end as they were launched. -/
theorem args (r : PUnit × MemSt nD τ sig (Elt F))
    (h : Pipeline.RDat.FramePost (cfgs 0) (fun c => (pdat m 0 c).toRRel held (Rl F c)) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    (Pipeline.RDat.FramePost.arr_in h c 6 rfl).trans ((A_eq m c 6).trans (V_main_arg6 m c))⟩

end Cert.RecQuiet
end
-- ==== Proof.Layer.lean ====
/-
  The layer's row-wise mathematics, over the extended reals: the normalisation, its modulation, and the gated feed-forward row.
-/
module

public import Idealize.ShloMosaic.PureOps.Ideal

@[expose] public section

noncomputable section

namespace Cert.Layer

open Idealize.ShloMosaic

/-- The factor of the root-mean-square normalisation of a row of 1024 numbers. -/
def scale (x : Fin 1024 → EReal) : EReal :=
  Ideal.rsqrt (Ideal.div (∑ j, x j * x j) (Ideal.ofBits FTy.f32 1149239296#32) + Ideal.ofBits FTy.f32 897988541#32)

/-- The normalised and modulated row. -/
def modded (x g sc sh : Fin 1024 → EReal) (k : Fin 1024) : EReal := x k * scale x * g k * (1 + sc k) + sh k

/-- `silu a * b`. -/
def gated (a b : EReal) : EReal := a * Ideal.div 1 (1 + Ideal.exp (0 - a)) * b

/-- One entry of the feed-forward part's hidden row. -/
def hiddenRow (h : Fin 1024 → EReal) (wg wu : Fin 1024 → Fin 2816 → EReal) (l : Fin 2816) : EReal :=
  gated (∑ k, h k * wg k l) (∑ k, h k * wu k l)

/-- The row after the feed-forward part. -/
def after (x ga : Fin 1024 → EReal) (u : Fin 2816 → EReal) (wd : Fin 2816 → Fin 1024 → EReal) (n : Fin 1024) : EReal :=
  x n + ga n * ∑ l, u l * wd l n

/-- The layer's last row: the feed-forward part and the final normalisation. -/
def last (x g sc sh ga gf : Fin 1024 → EReal) (wg wu : Fin 1024 → Fin 2816 → EReal) (wd : Fin 2816 → Fin 1024 → EReal)
    (n : Fin 1024) : EReal :=
  after x ga (hiddenRow (modded x g sc sh) wg wu) wd n * scale (after x ga (hiddenRow (modded x g sc sh) wg wu) wd) * gf n

theorem last_congr {x g sc sh ga gf x' g' sc' sh' ga' gf' : Fin 1024 → EReal} {wg wu wg' wu' : Fin 1024 → Fin 2816 → EReal}
    {wd wd' : Fin 2816 → Fin 1024 → EReal} (h0 : x = x') (h1 : g = g') (h2 : sc = sc') (h3 : sh = sh') (h4 : ga = ga') (h5 : gf = gf')
    (h6 : wg = wg') (h7 : wu = wu') (h8 : wd = wd') (n : Fin 1024) : last x g sc sh ga gf wg wu wd n = last x' g' sc' sh' ga' gf' wg' wu' wd' n := by
  rw [h0, h1, h2, h3, h4, h5, h6, h7, h8]

/-- One entry of an input projection: the modulated row against a column of the weight. -/
def projected (x g sc sh w : Fin 1024 → EReal) : EReal := ∑ k, modded x g sc sh k * w k

theorem projected_congr {x g sc sh w x' g' sc' sh' w' : Fin 1024 → EReal} (h0 : ∀ j, x j = x' j) (h1 : ∀ j, g j = g' j) (h2 : ∀ j, sc j = sc' j)
    (h3 : ∀ j, sh j = sh' j) (h4 : ∀ j, w j = w' j) : projected x g sc sh w = projected x' g' sc' sh' w' := by
  rw [funext h0, funext h1, funext h2, funext h3, funext h4]

/-- A projection on a column of zeros. -/
theorem projected_zero (x g sc sh : Fin 1024 → EReal) : projected x g sc sh (fun _ => 0) = 0 := by
  unfold projected
  simp

/-- Lane `k` of the `j`-th of the six rows of the modulation. -/
abbrev sixth (j : Fin 6) (k : Fin 1024) : Fin 6144 := ⟨1024 * j.val + k.val, by omega⟩

/-- Row `r` of the `i`-th block of 512 rows of a sequence. -/
abbrev rowOf (i : Fin 4) (r : Fin 512) : Fin 2048 := ⟨512 * i.val + r.val, by omega⟩

end Cert.Layer
end
-- ==== Proof.Ffn.Value.lean ====
/-
  The feed-forward call's result, index by index, in its arguments.
-/
module

public import proofs.«01_k».proof.Proof.Gen.FfnIdeal.Frame
public import proofs.«01_k».proof.Proof.Gen.FfnIdeal.Value
public import proofs.«01_k».proof.Proof.Layer
public import Idealize.ShloMosaic.Lib.Pipeline.ValueKit
public import Idealize.ShloMosaic.Lib.Claim

@[expose] public section

set_option maxRecDepth 16384

noncomputable section

namespace Cert.FfnValue

open Idealize.ShloMosaic Idealize.ShloMosaic.TcCoe Idealize.SL.Sem
open Cert.FfnIdeal Cert.FfnIdeal.Gen Cert.Layer

variable (m : (ℓ : Loc nD τ sig) → Buf (Elt Ideal) ℓ) (ρ : Dev nD → PrngReg)

/-! ## The body's vectors, index by index -/

/-- The normalised and modulated block, row by row. -/
theorem modded_at (x : Vec Ideal S1x512x1024 .f32) (g : Vec Ideal S1x1024 .f32) (sc sh : Vec Ideal S1x1x1024 .f32) (r : Fin 512) (k : Fin 1024) :
    k0_pay3 x g sc sh (ix2 r k) = modded (fun j => x (ix3 0 r j)) (fun j => g (ix2 0 j)) (fun j => sc (ix3 0 0 j)) (fun j => sh (ix3 0 0 j)) k := by
  pointwise [k0_pay3, k0_pay2, modded, scale]

/-- One tile of the hidden block: the columns from `o` on. -/
theorem tile_at (h : FVec Ideal S512x1024 .bf16) (wg wu : Vec Ideal S1024x2816 .bf16) (o : ℕ)
    (inb : ∀ a, (![0, o] : Fin 2 → ℕ) a + (![1024, 256] : Fin 2 → ℕ) a ≤ S1024x2816.size a) (r : Fin 512) (l : Fin 2816) (x : S512x256.Idx)
    (e0 : (r : ℕ) = x 0) (e1 : (l : ℕ) = o + x 1) :
    k0_pay7 h (View.ld wg (Rect.unit (s := S1024x2816) ![0, o] ![1024, 256] inb)) (View.ld wu (Rect.unit (s := S1024x2816) ![0, o] ![1024, 256] inb)) x
      = hiddenRow (fun k => h (ix2 r k)) (fun k l => wg (ix2 k l)) (fun k l => wu (ix2 k l)) l := by
  obtain rfl : r = x 0 := Fin.ext e0
  obtain ⟨l, hl⟩ := l
  obtain rfl : l = o + x 1 := e1
  pointwise [k0_pay7, hiddenRow, gated]

/-- The block after the feed-forward part, normalised. -/
theorem tail_at (x : Vec Ideal S1x512x1024 .f32) (ga : Vec Ideal S1x1x1024 .f32) (u : FVec Ideal S512x2816 .bf16) (wd : Vec Ideal S2816x1024 .bf16)
    (gf : Vec Ideal S1x1024 .f32) (r : Fin 512) (n : Fin 1024) :
    k0_pay1 (k0_pay27 (k0_pay2 x) ga u wd) (k0_pay28 gf) (ix3 0 r n)
      = after (fun j => x (ix3 0 r j)) (fun j => ga (ix3 0 0 j)) (fun l => u (ix2 r l)) (fun l j => wd (ix2 l j)) n
        * scale (after (fun j => x (ix3 0 r j)) (fun j => ga (ix3 0 0 j)) (fun l => u (ix2 r l)) (fun l j => wd (ix2 l j))) * gf (ix2 0 n) := by
  pointwise [k0_pay1, k0_pay28, k0_pay27, k0_pay2, after, scale]

/-! ## The blocks, read in the arguments -/

theorem idx : ∀ t : Fin cfg0.N, win0_0.index t = ![t.val / 4, t.val % 4, 0] ∧ win0_1.index t = ![0, 0] ∧ win0_2.index t = ![t.val / 4, 0, 4]
    ∧ win0_3.index t = ![t.val / 4, 0, 3] ∧ win0_4.index t = ![t.val / 4, 0, 5] ∧ win0_5.index t = ![0, 0] ∧ win0_6.index t = ![0, 0]
    ∧ win0_7.index t = ![0, 0] ∧ win0_8.index t = ![0, 0] ∧ win0_9.index t = ![t.val / 4, t.val % 4, 0] :=
  (by decide +kernel : ∀ t : Fin grid0.N, _)

theorem lone (x : Vec Ideal S1024 .f32) (k : Fin 1024) : shapeCast S1x1024 x shapeCasts_S1024_S1x1024 (ix2 0 k) = x (ix1 k) := by pointwise
theorem spread (x : Vec Ideal S8x6144 .f32) (b : Fin 8) (k : Fin 6144) :
    broadcastInDim S8x1x6144 ![0, 2] bcast_S8x6144_S8x1x6144_0_2 x (ix3 b 0 k) = x (ix2 b k) := by pointwise

theorem entry_g (c : Dev nD) : V m c main_v0 = shapeCast S1x1024 (m ((c : Thread nD τ).loc main_arg1)) shapeCasts_S1024_S1x1024 := by
  show StableHlo.after hostOps0 _ _ = _
  after_results <;> rfl
theorem entry_mod (c : Dev nD) : V m c main_v1 = broadcastInDim S8x1x6144 ![0, 2] bcast_S8x6144_S8x1x6144_0_2 (m ((c : Thread nD τ).loc main_arg2)) := by
  show StableHlo.after hostOps0 _ _ = _
  after_results <;> rfl
theorem entry_wg (c : Dev nD) : V m c main_v2 = (m ((c : Thread nD τ).loc main_arg3) : Vec Ideal S1024x2816 .f32) := by
  show StableHlo.after hostOps0 _ _ = _
  after_results <;> rfl
theorem entry_wu (c : Dev nD) : V m c main_v3 = (m ((c : Thread nD τ).loc main_arg4) : Vec Ideal S1024x2816 .f32) := by
  show StableHlo.after hostOps0 _ _ = _
  after_results <;> rfl
theorem entry_wd (c : Dev nD) : V m c main_v4 = (m ((c : Thread nD τ).loc main_arg5) : Vec Ideal S2816x1024 .f32) := by
  show StableHlo.after hostOps0 _ _ = _
  after_results <;> rfl
theorem entry_gf (c : Dev nD) : V m c main_v5 = shapeCast S1x1024 (m ((c : Thread nD τ).loc main_arg6)) shapeCasts_S1024_S1x1024 := by
  show StableHlo.after hostOps0 _ _ = _
  after_results <;> rfl

section
variable (c : Dev nD) (t : Fin cfg0.N) (b : Fin 8) (i : Fin 4)

theorem read_x (hb : b.val = t.val / 4) (hi : i.val = t.val % 4) (r : Fin 512) (k : Fin 1024) :
    iblk m c 0 t (ix3 0 r k) = m ((c : Thread nD τ).loc main_arg0) (ix3 b (rowOf i r) k) := by
  show V m c main_arg0 (((cfg0.win 0).blk t).view.emb (ix3 0 r k)) = _
  have e : ((cfg0.win 0).blk t).view.emb (ix3 0 r k) = (ix3 b (rowOf i r) k : S8x2048x1024.Idx) := by blk_ext [idx t, rowOf, hb, hi]
  rw [V_main_arg0, e]
theorem read_g (k : Fin 1024) : iblk m c 1 t (ix2 0 k) = m ((c : Thread nD τ).loc main_arg1) (ix1 k) := by
  show V m c main_v0 (((cfg0.win 1).blk t).view.emb (ix2 0 k)) = _
  have e : ((cfg0.win 1).blk t).view.emb (ix2 0 k) = (ix2 0 k : S1x1024.Idx) := by blk_ext [idx t]
  rw [entry_g, e]; exact lone _ _
theorem read_sc (hb : b.val = t.val / 4) (k : Fin 1024) : iblk m c 2 t (ix3 0 0 k) = m ((c : Thread nD τ).loc main_arg2) (ix2 b (sixth 4 k)) := by
  show V m c main_v1 (((cfg0.win 2).blk t).view.emb (ix3 0 0 k)) = _
  have e : ((cfg0.win 2).blk t).view.emb (ix3 0 0 k) = (ix3 b 0 (sixth 4 k) : S8x1x6144.Idx) := by blk_ext [idx t, sixth, hb]
  rw [entry_mod, e]; exact spread _ _ _
theorem read_sh (hb : b.val = t.val / 4) (k : Fin 1024) : iblk m c 3 t (ix3 0 0 k) = m ((c : Thread nD τ).loc main_arg2) (ix2 b (sixth 3 k)) := by
  show V m c main_v1 (((cfg0.win 3).blk t).view.emb (ix3 0 0 k)) = _
  have e : ((cfg0.win 3).blk t).view.emb (ix3 0 0 k) = (ix3 b 0 (sixth 3 k) : S8x1x6144.Idx) := by blk_ext [idx t, sixth, hb]
  rw [entry_mod, e]; exact spread _ _ _
theorem read_ga (hb : b.val = t.val / 4) (k : Fin 1024) : iblk m c 4 t (ix3 0 0 k) = m ((c : Thread nD τ).loc main_arg2) (ix2 b (sixth 5 k)) := by
  show V m c main_v1 (((cfg0.win 4).blk t).view.emb (ix3 0 0 k)) = _
  have e : ((cfg0.win 4).blk t).view.emb (ix3 0 0 k) = (ix3 b 0 (sixth 5 k) : S8x1x6144.Idx) := by blk_ext [idx t, sixth, hb]
  rw [entry_mod, e]; exact spread _ _ _
theorem read_wg (k : Fin 1024) (l : Fin 2816) : iblk m c 5 t (ix2 k l) = m ((c : Thread nD τ).loc main_arg3) (ix2 k l) := by
  show V m c main_v2 (((cfg0.win 5).blk t).view.emb (ix2 k l)) = _
  have e : ((cfg0.win 5).blk t).view.emb (ix2 k l) = (ix2 k l : S1024x2816.Idx) := by blk_ext [idx t]
  rw [entry_wg, e]
theorem read_wu (k : Fin 1024) (l : Fin 2816) : iblk m c 6 t (ix2 k l) = m ((c : Thread nD τ).loc main_arg4) (ix2 k l) := by
  show V m c main_v3 (((cfg0.win 6).blk t).view.emb (ix2 k l)) = _
  have e : ((cfg0.win 6).blk t).view.emb (ix2 k l) = (ix2 k l : S1024x2816.Idx) := by blk_ext [idx t]
  rw [entry_wu, e]
theorem read_wd (l : Fin 2816) (k : Fin 1024) : iblk m c 7 t (ix2 l k) = m ((c : Thread nD τ).loc main_arg5) (ix2 l k) := by
  show V m c main_v4 (((cfg0.win 7).blk t).view.emb (ix2 l k)) = _
  have e : ((cfg0.win 7).blk t).view.emb (ix2 l k) = (ix2 l k : S2816x1024.Idx) := by blk_ext [idx t]
  rw [entry_wd, e]
theorem read_gf (k : Fin 1024) : iblk m c 8 t (ix2 0 k) = m ((c : Thread nD τ).loc main_arg6) (ix1 k) := by
  show V m c main_v5 (((cfg0.win 8).blk t).view.emb (ix2 0 k)) = _
  have e : ((cfg0.win 8).blk t).view.emb (ix2 0 k) = (ix2 0 k : S1x1024.Idx) := by blk_ext [idx t]
  rw [entry_gf, e]; exact lone _ _
end

/-! ## The result -/

section
variable (x : Vec Ideal S8x2048x1024 .f32) (g : Vec Ideal S1024 .f32) (md : Vec Ideal S8x6144 .f32) (wg wu : Vec Ideal S1024x2816 .f32)
  (wd : Vec Ideal S2816x1024 .f32) (gf : Vec Ideal S1024 .f32)

/-- The layer's last row for token `q` of sequence `b`. -/
def lastRow (b : Fin 8) (q : Fin 2048) (n : Fin 1024) : EReal :=
  last (fun j => x (ix3 b q j)) (fun j => g (ix1 j)) (fun j => md (ix2 b (sixth 4 j))) (fun j => md (ix2 b (sixth 3 j)))
    (fun j => md (ix2 b (sixth 5 j))) (fun j => gf (ix1 j)) (fun k l => wg (ix2 k l)) (fun k l => wu (ix2 k l)) (fun l k => wd (ix2 l k)) n
end

theorem out_at (c : Dev nD) (t : Fin cfg0.N) (r : Fin 512) (n : Fin 1024) :
    outsAt0 m c t (ix3 0 r n) = last (fun j => iblk m c 0 t (ix3 0 r j)) (fun j => iblk m c 1 t (ix2 0 j)) (fun j => iblk m c 2 t (ix3 0 0 j))
      (fun j => iblk m c 3 t (ix3 0 0 j)) (fun j => iblk m c 4 t (ix3 0 0 j)) (fun j => iblk m c 8 t (ix2 0 j))
      (fun k l => iblk m c 5 t (ix2 k l)) (fun k l => iblk m c 6 t (ix2 k l)) (fun l k => iblk m c 7 t (ix2 l k)) n := by
  unfold outsAt0
  frame_out
  rw [View.readCov_eq_canon']
  refine (tail_at _ _ _ _ _ _ _).trans ?_
  unfold last
  refine congrArg (fun u => after _ _ u _ n * scale (after _ _ u _) * _) (funext fun l => ?_)
  refine Eq.trans (b := hiddenRow (fun k => k0_pay3 (iblk m c 0 t) (iblk m c 1 t) (iblk m c 2 t) (iblk m c 3 t) (ix2 r k)) (fun k l => iblk m c 5 t (ix2 k l))
    (fun k l => iblk m c 6 t (ix2 k l)) l) ?_ (congrArg (fun q => hiddenRow q _ _ l) (funext fun k => modded_at _ _ _ _ r k))
  have e : (Rect.unit (s := S512x2816) ![0, 0] ![512, 2816] inb_S512x2816_S512x2816_0_0).idx (ix2 r l) = (ix2 r l : S512x2816.Idx) := by
    funext q; apply Fin.ext
    refine (Rect.idx_unit_val _ _ _ _ q).trans ?_
    fin_cases q <;> exact Nat.zero_add _
  refine (congrArg (View.canon _) e).trans ?_
  canon_tiles z h
  all_goals first
    | exact tile_at _ _ _ _ _ r l z h0 h1
    | exact tile_at _ _ _ 0 _ r l z h0 (h1.trans (Nat.zero_add _).symm)

theorem out_eq (c : Dev nD) (t : Fin cfg0.N) (b : Fin 8) (i : Fin 4) (hb : b.val = t.val / 4) (hi : i.val = t.val % 4) (r : Fin 512) (n : Fin 1024) :
    outsAt0 m c t (ix3 0 r n) = lastRow (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) b (rowOf i r) n := by
  refine (out_at m c t r n).trans ?_
  unfold lastRow
  exact last_congr (funext fun j => read_x m c t b i hb hi r j) (funext fun j => read_g m c t j) (funext fun j => read_sc m c t b hb j)
    (funext fun j => read_sh m c t b hb j) (funext fun j => read_ga m c t b hb j) (funext fun j => read_gf m c t j)
    (funext fun k => funext fun l => read_wg m c t k l) (funext fun k => funext fun l => read_wu m c t k l)
    (funext fun l => funext fun k => read_wd m c t l k) n

/-- What the region leaves in the result: the layer's last rows. -/
theorem final (c : Dev nD) : (dats m 0 c).arrAt 9 (cfgs 0).N = fun y : S8x2048x1024.Idx =>
    lastRow (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (y 0) (y 1) (y 2) := by
  refine (dats m 0 c).arrAt_eq_of_covers 9 _ (by decide +kernel) fun t _ y => ?_
  obtain ⟨o, r, n, rfl⟩ : ∃ o r n, y = (ix3 o r n : S1x512x1024.Idx) := ⟨y 0, y 1, y 2, by funext q; fin_cases q <;> rfl⟩
  obtain rfl : o = 0 := Subsingleton.elim _ _
  have hN : t.val < 32 := t.isLt
  have e : ((cfg0.win 9).blk t).view.emb (ix3 0 r n) = (ix3 (⟨t.val / 4, by omega⟩ : Fin 8) (rowOf ⟨t.val % 4, by omega⟩ r) n : S8x2048x1024.Idx) := by
    blk_ext [idx t, rowOf]
  rw [e, after0_9]
  have e' : (cfg0.win 9).xinj (cfg0.grid.coords t) (ix3 0 r n) = (ix3 0 r n : S1x512x1024.Idx) := by
    funext z; fin_cases z <;> rfl
  rw [cast_eq]
  refine (congrArg (outsAt0 m c t) e').trans ?_
  exact out_eq m c t ⟨t.val / 4, by omega⟩ ⟨t.val % 4, by omega⟩ rfl rfl r n

end Cert.FfnValue
end
-- ==== Proof.Ffn.Reference.lean ====
/-
  The reference's feed-forward result, index by index.
-/
module

public import proofs.«01_k».proof.Proof.Ffn.Value
public import proofs.«01_k».proof.Proof.Gen.FfnReferenceIdeal.Run
public import proofs.«01_k».proof.Proof.Gen.FfnReferenceIdeal.Read

@[expose] public section

set_option maxRecDepth 16384

noncomputable section

namespace Cert.FfnValue

open Idealize.ShloMosaic Idealize.ShloMosaic.TcCoe Idealize.SL.Sem
open Cert.FfnReferenceIdeal Cert.FfnReferenceIdeal.Read Cert.Layer

variable (x : Vec Ideal S8x2048x1024 .f32) (g : Vec Ideal S1024 .f32) (md : Vec Ideal S8x6144 .f32) (wg wu : Vec Ideal S1024x2816 .f32)
  (wd : Vec Ideal S2816x1024 .f32) (gf : Vec Ideal S1024 .f32)

theorem ref_modded (b : Fin 8) (q : Fin 2048) (k : Fin 1024) :
    val_main_v30 (F := Ideal) x g md (ix3 b q k) = modded (fun j => x (ix3 b q j)) (fun j => g (ix1 j)) (fun j => md (ix2 b (sixth 4 j)))
      (fun j => md (ix2 b (sixth 3 j))) k := by
  have e (j : Fin 1024) : idx_main_v13 (idx_main_v14 (idx_main_v20 (ix3 b q k))) j = (ix3 b q j : S8x2048x1024.Idx) := by
    funext z; fin_cases z <;> rfl
  have e1 : idx_main_v22 (idx_main_v23 (ix3 b q k)) = (ix1 k : S1024.Idx) := by funext z; fin_cases z <;> rfl
  have e2 : idx_main_v4 (idx_main_v10 (idx_main_v27 (ix3 b q k))) = (ix2 b (sixth 4 k) : S8x6144.Idx) := by
    funext z; apply Fin.ext; fin_cases z <;> first | rfl | exact Nat.add_comm _ _
  have e3 : idx_main_v3 (idx_main_v9 (idx_main_v29 (ix3 b q k))) = (ix2 b (sixth 3 k) : S8x6144.Idx) := by
    funext z; apply Fin.ext; fin_cases z <;> first | rfl | exact Nat.add_comm _ _
  pointwise [val_main_v30_apply, val_main_v29_apply, val_main_v28_apply, val_main_v27_apply, val_main_v26_apply, val_main_v25_apply, val_main_cst_2_apply,
    val_main_v24_apply, val_main_v23_apply, val_main_v22_apply, val_main_v21_apply, val_main_v20_apply, val_main_v19_apply, val_main_v18_apply,
    val_main_v17_apply, val_main_cst_1_apply, val_main_v16_apply, val_main_v15_apply, val_main_cst_0_apply, val_main_v14_apply, val_main_v13_apply,
    val_main_cst_apply, val_main_v12_apply, val_main_v10_apply, val_main_v9_apply, val_main_v4_apply, val_main_v3_apply, modded, scale]
  simp only [e, e1, e2, e3]

theorem ref_hidden (b : Fin 8) (q : Fin 2048) (l : Fin 2816) :
    val_main_v34 (F := Ideal) x g md wg wu (ix3 b q l) = hiddenRow (fun k => val_main_v30 (F := Ideal) x g md (ix3 b q k)) (fun k l => wg (ix2 k l))
      (fun k l => wu (ix2 k l)) l := by
  have e (k : Fin 1024) : lidx_main_v31 (ix3 b q l) k = (ix3 b q k : S8x2048x1024.Idx) := by funext z; fin_cases z <;> rfl
  have e1 (k : Fin 1024) : ridx_main_v31 (ix3 b q l) k = (ix2 k l : S1024x2816.Idx) := by funext z; fin_cases z <;> rfl
  have e2 (k : Fin 1024) : lidx_main_v33 (ix3 b q l) k = (ix3 b q k : S8x2048x1024.Idx) := by funext z; fin_cases z <;> rfl
  have e3 (k : Fin 1024) : ridx_main_v33 (ix3 b q l) k = (ix2 k l : S1024x2816.Idx) := by funext z; fin_cases z <;> rfl
  pointwise [val_main_v34_apply, val_main_v33_apply, val_main_v32_apply, val_main_call0_v5_apply, val_main_call0_v4_apply, val_main_call0_v3_apply,
    val_main_call0_v2_apply, val_main_call0_v1_apply, val_main_call0_v0_apply, val_main_call0_cst_apply, val_main_call0_cst_0_apply, val_main_v31_apply,
    hiddenRow, gated]
  simp only [e, e1, e2, e3, zero_sub]

theorem ref_after (b : Fin 8) (q : Fin 2048) (n : Fin 1024) :
    val_main_v38 (F := Ideal) x g md wg wu wd (ix3 b q n) = after (fun j => x (ix3 b q j)) (fun j => md (ix2 b (sixth 5 j)))
      (fun l => val_main_v34 (F := Ideal) x g md wg wu (ix3 b q l)) (fun l j => wd (ix2 l j)) n := by
  have e (k : Fin 2816) : lidx_main_v35 (ix3 b q n) k = (ix3 b q k : S8x2048x2816.Idx) := by funext z; fin_cases z <;> rfl
  have e1 (k : Fin 2816) : ridx_main_v35 (ix3 b q n) k = (ix2 k n : S2816x1024.Idx) := by funext z; fin_cases z <;> rfl
  have e2 : idx_main_v5 (idx_main_v11 (idx_main_v36 (ix3 b q n))) = (ix2 b (sixth 5 n) : S8x6144.Idx) := by
    funext z; apply Fin.ext; fin_cases z <;> first | rfl | exact Nat.add_comm _ _
  pointwise [val_main_v38_apply, val_main_v37_apply, val_main_v36_apply, val_main_v35_apply, val_main_v11_apply, val_main_v5_apply, after]
  simp only [e, e1, e2]

theorem ref_last (b : Fin 8) (q : Fin 2048) (n : Fin 1024) :
    val_main_v51 (F := Ideal) x g md wg wu wd gf (ix3 b q n) = val_main_v38 (F := Ideal) x g md wg wu wd (ix3 b q n)
      * scale (fun j => val_main_v38 (F := Ideal) x g md wg wu wd (ix3 b q j)) * gf (ix1 n) := by
  have e (j : Fin 1024) : idx_main_v40 (idx_main_v41 (idx_main_v47 (ix3 b q n))) j = (ix3 b q j : S8x2048x1024.Idx) := by
    funext z; fin_cases z <;> rfl
  have e1 : idx_main_v49 (idx_main_v50 (ix3 b q n)) = (ix1 n : S1024.Idx) := by funext z; fin_cases z <;> rfl
  pointwise [val_main_v51_apply, val_main_v50_apply, val_main_v49_apply, val_main_v48_apply, val_main_v47_apply, val_main_v46_apply, val_main_v45_apply,
    val_main_v44_apply, val_main_cst_5_apply, val_main_v43_apply, val_main_v42_apply, val_main_cst_4_apply, val_main_v41_apply, val_main_v40_apply,
    val_main_cst_3_apply, val_main_v39_apply, scale]
  simp only [e, e1]

theorem ref_row (b : Fin 8) (q : Fin 2048) (n : Fin 1024) :
    val_main_v51 (F := Ideal) x g md wg wu wd gf (ix3 b q n) = lastRow x g md wg wu wd gf b q n := by
  rw [ref_last]
  simp only [ref_after, ref_hidden, ref_modded]
  rfl

end Cert.FfnValue
end
-- ==== Proof.Ffn.Claims.lean ====
/-
  The feed-forward call's claims.
-/
module

public import proofs.«01_k».proof.Defs
public import proofs.«01_k».proof.Proof.Gen.Ffn
public import proofs.«01_k».proof.Proof.Gen.Ffn.Frame
public import proofs.«01_k».proof.Proof.Gen.FfnIdeal
public import proofs.«01_k».proof.Proof.Gen.FfnReferenceIdeal
public import proofs.«01_k».proof.Proof.Ffn.Reference
public import Idealize.ShloMosaic.Adequacy
public import Idealize.ShloMosaic.Init
public import Idealize.ShloMosaic.Lib.Claim

@[expose] public section

set_option maxRecDepth 16384

noncomputable section

namespace Cert.FfnValue

open Idealize.ShloMosaic Idealize.ShloMosaic.TcCoe Idealize.SL.Sem

theorem quiescent_bits : Cert.quiescent_Ffn := fun m g _ => Cert.Ffn.Gen.frame m g

theorem quiescent_ideal : Cert.quiescent_FfnIdeal := fun m g _ => Cert.FfnIdeal.Gen.frame m g

theorem quiescent_reference : Cert.quiescent_FfnReferenceIdeal := fun m g _ =>
  (θ_run _ _ _).mono (fun r h => ⟨fun c => (h c).2, sem_eq_zero_of_no_sems (by decide) r.2⟩) (Cert.FfnReferenceIdeal.Value.run m g)

theorem algebraic : Cert.algebraic_FfnIdeal_FfnReferenceIdeal := fun m g m' g' _ hagree =>
  ⟨fun c => (Cert.FfnIdeal.Gen.dats m 0 c).arrAt 9 Cert.FfnIdeal.cfg0.N,
   Cert.FfnIdeal.Value.run_blocks m g,
   (θ_run _ _ _).mono (fun _ h c => by
      obtain ⟨a0, a1, a2, a3, a4, a5, a6⟩ := hagree c
      obtain ⟨h0, hargs⟩ := h c
      refine ⟨h0.trans ?_, hargs⟩
      refine (Cert.FfnReferenceIdeal.Read.val_main_v51_eq m' c).trans ?_
      rw [a0, a1, a2, a3, a4, a5, a6]
      refine Eq.trans (funext fun y => ?_) (final m c).symm
      have hy : y = ix3 (y 0) (y 1) (y 2) := by funext z; fin_cases z <;> rfl
      rw [hy]
      exact ref_row _ _ _ _ _ _ _ _ _ _)
     (Cert.FfnReferenceIdeal.Value.run m' g')⟩

end Cert.FfnValue
end
-- ==== Proof.InMb.Value.lean ====
/-
  The second input projection's results, index by index, in its arguments.
-/
module

public import proofs.«01_k».proof.Proof.Gen.InMbIdeal.Frame
public import proofs.«01_k».proof.Proof.Gen.InMbIdeal.Value
public import proofs.«01_k».proof.Proof.Layer
public import Idealize.ShloMosaic.Lib.Pipeline.ValueKit
public import Idealize.ShloMosaic.Lib.Claim

@[expose] public section

set_option maxRecDepth 16384

noncomputable section

namespace Cert.InMbValue

open Idealize.ShloMosaic Idealize.ShloMosaic.TcCoe Idealize.SL.Sem
open Cert.InMbIdeal Cert.InMbIdeal.Gen Cert.Layer

variable (m : (ℓ : Loc nD τ sig) → Buf (Elt Ideal) ℓ) (ρ : Dev nD → PrngReg)

/-! ## The body's vectors, index by index -/

theorem proj_at (x : Vec Ideal S1x512x1024 .f32) (g : Vec Ideal S1x1024 .f32) (sc sh : Vec Ideal S1x1x1024 .f32) (w : Vec Ideal S1024x1408 .bf16)
    (r : Fin 512) (n : Fin 1408) :
    k0_pay3 x g sc sh w (ix2 r n) = projected (fun j => x (ix3 0 r j)) (fun j => g (ix2 0 j)) (fun j => sc (ix3 0 0 j)) (fun j => sh (ix3 0 0 j))
      (fun j => w (ix2 j n)) := by
  pointwise [k0_pay3, projected, modded, scale]

/-! ## The blocks, read in the arguments -/

theorem idx : ∀ t : Fin cfg0.N, win0_0.index t = ![t.val / 4, t.val % 4, 0] ∧ win0_1.index t = ![0, 0] ∧ win0_2.index t = ![t.val / 4, 0, 1]
    ∧ win0_3.index t = ![t.val / 4, 0, 0] ∧ win0_4.index t = ![0, 0] ∧ win0_5.index t = ![t.val / 4, t.val % 4, 0]
    ∧ win0_6.index t = ![t.val / 4, t.val % 4, 0] ∧ win0_7.index t = ![t.val / 4, t.val % 4, 0] :=
  (by decide +kernel : ∀ t : Fin grid0.N, _)

theorem lone (x : Vec Ideal S1024 .f32) (k : Fin 1024) : shapeCast S1x1024 x shapeCasts_S1024_S1x1024 (ix2 0 k) = x (ix1 k) := by pointwise
theorem spread (x : Vec Ideal S8x6144 .f32) (b : Fin 8) (k : Fin 6144) :
    broadcastInDim S8x1x6144 ![0, 2] bcast_S8x6144_S8x1x6144_0_2 x (ix3 b 0 k) = x (ix2 b k) := by pointwise

theorem zero : FloatOps.sitofp (F := Ideal) FTy.f32 (0#32) = (0 : EReal) := by
  show (((0#32 : BitVec 32).toInt : ℝ) : EReal) = 0
  norm_num

/-- The packed weight: the convolution's columns, the gate's, and the step's eight followed by zeros. -/
def packed (w : Vec Ideal S1024x3208 .f32) : Vec Ideal S1024x1408 .f32 :=
  concatenate S1024x1408 1 [⟨S1024x768, extractStridedSlice S1024x768 ![0, 1536] w slices_S1024x3208_S1024x768_0_1536⟩,
    ⟨S1024x512, extractStridedSlice S1024x512 ![0, 1024] w slices_S1024x3208_S1024x512_0_1024⟩,
    ⟨S1024x128, pad S1024x128 ![0, 0] ![0, 120] ![0, 0] (extractStridedSlice S1024x8 ![0, 2304] w slices_S1024x3208_S1024x8_0_2304)
      (sitofp (F := Ideal) .f32 (constantI S_ 32 0#32)) pads_S1024x8_S1024x128_000_01200 h_S_⟩] concatenates_S1024x768_S1024x512_S1024x128_S1024x1408_d1

/-- The weight's columns that a result's lane `n` is projected on. -/
def column_xbc (w : Vec Ideal S1024x3208 .f32) (k : Fin 1024) (n : Fin 768) : EReal := w (ix2 k ⟨1536 + n.val, by omega⟩)
def column_z (w : Vec Ideal S1024x3208 .f32) (k : Fin 1024) (n : Fin 512) : EReal := w (ix2 k ⟨1024 + n.val, by omega⟩)
def column_dt (w : Vec Ideal S1024x3208 .f32) (k : Fin 1024) (n : Fin 128) : EReal := if h : n.val < 8 then w (ix2 k ⟨2304 + n.val, by omega⟩) else 0

theorem packed_xbc (w : Vec Ideal S1024x3208 .f32) (k : Fin 1024) (n : Fin 768) :
    packed w (ix2 k ⟨n.val, by omega⟩) = column_xbc w k n := by
  pointwise [packed, column_xbc]
theorem packed_z (w : Vec Ideal S1024x3208 .f32) (k : Fin 1024) (n : Fin 512) :
    packed w (ix2 k ⟨768 + n.val, by omega⟩) = column_z w k n := by
  pointwise [packed, column_z]
theorem packed_dt (w : Vec Ideal S1024x3208 .f32) (k : Fin 1024) (n : Fin 128) :
    packed w (ix2 k ⟨1280 + n.val, by omega⟩) = column_dt w k n := by
  unfold column_dt
  pointwise [packed]
  have e : 1280 + n.val - 768 - 512 = n.val := by omega
  rw [dif_neg (by omega), dif_neg (by omega)]
  simp only [e]
  split
  · rfl
  · exact zero

theorem entry_g (c : Dev nD) : V m c main_v6 = shapeCast S1x1024 (m ((c : Thread nD τ).loc main_arg1)) shapeCasts_S1024_S1x1024 := by
  entry_read
  try rfl
theorem entry_mod (c : Dev nD) : V m c main_v7 = broadcastInDim S8x1x6144 ![0, 2] bcast_S8x6144_S8x1x6144_0_2 (m ((c : Thread nD τ).loc main_arg2)) := by
  show StableHlo.after (List.flatten [hostOps0, hostOps0_1, hostOps0_2]) _ _ = _
  after_results <;> rfl
theorem entry_w (c : Dev nD) : V m c main_v5 = packed (m ((c : Thread nD τ).loc main_arg3)) := by
  simp only [V, hostOps0, hostOps0_1, hostOps0_2, List.flatten_cons, List.flatten_nil, List.append_nil, List.cons_append, List.nil_append]
  after_results <;> rfl

section
variable (c : Dev nD) (t : Fin cfg0.N) (b : Fin 8) (i : Fin 4)

theorem read_x (hb : b.val = t.val / 4) (hi : i.val = t.val % 4) (r : Fin 512) (k : Fin 1024) :
    iblk m c 0 t (ix3 0 r k) = m ((c : Thread nD τ).loc main_arg0) (ix3 b (rowOf i r) k) := by
  show V m c main_arg0 (((cfg0.win 0).blk t).view.emb (ix3 0 r k)) = _
  have e : ((cfg0.win 0).blk t).view.emb (ix3 0 r k) = (ix3 b (rowOf i r) k : S8x2048x1024.Idx) := by blk_ext [idx t, rowOf, hb, hi]
  rw [V_main_arg0, e]
theorem read_g (k : Fin 1024) : iblk m c 1 t (ix2 0 k) = m ((c : Thread nD τ).loc main_arg1) (ix1 k) := by
  show V m c main_v6 (((cfg0.win 1).blk t).view.emb (ix2 0 k)) = _
  have e : ((cfg0.win 1).blk t).view.emb (ix2 0 k) = (ix2 0 k : S1x1024.Idx) := by blk_ext [idx t]
  rw [entry_g, e]; exact lone _ _
theorem read_sc (hb : b.val = t.val / 4) (k : Fin 1024) : iblk m c 2 t (ix3 0 0 k) = m ((c : Thread nD τ).loc main_arg2) (ix2 b (sixth 1 k)) := by
  show V m c main_v7 (((cfg0.win 2).blk t).view.emb (ix3 0 0 k)) = _
  have e : ((cfg0.win 2).blk t).view.emb (ix3 0 0 k) = (ix3 b 0 (sixth 1 k) : S8x1x6144.Idx) := by blk_ext [idx t, sixth, hb]
  rw [entry_mod, e]; exact spread _ _ _
theorem read_sh (hb : b.val = t.val / 4) (k : Fin 1024) : iblk m c 3 t (ix3 0 0 k) = m ((c : Thread nD τ).loc main_arg2) (ix2 b (sixth 0 k)) := by
  show V m c main_v7 (((cfg0.win 3).blk t).view.emb (ix3 0 0 k)) = _
  have e : ((cfg0.win 3).blk t).view.emb (ix3 0 0 k) = (ix3 b 0 (sixth 0 k) : S8x1x6144.Idx) := by blk_ext [idx t, sixth, hb]
  rw [entry_mod, e]; exact spread _ _ _
theorem read_w (k : Fin 1024) (n : Fin 1408) : iblk m c 4 t (ix2 k n) = packed (m ((c : Thread nD τ).loc main_arg3)) (ix2 k n) := by
  show V m c main_v5 (((cfg0.win 4).blk t).view.emb (ix2 k n)) = _
  have e : ((cfg0.win 4).blk t).view.emb (ix2 k n) = (ix2 k n : S1024x1408.Idx) := by blk_ext [idx t]
  rw [entry_w, e]
end

/-! ## The results -/

/-- Token `q` of sequence `b`, projected on a column `w` of the weight. -/
def entryOf (x : Vec Ideal S8x2048x1024 .f32) (g : Vec Ideal S1024 .f32) (md : Vec Ideal S8x6144 .f32) (b : Fin 8) (q : Fin 2048)
    (w : Fin 1024 → EReal) : EReal :=
  projected (fun j => x (ix3 b q j)) (fun j => g (ix1 j)) (fun j => md (ix2 b (sixth 1 j))) (fun j => md (ix2 b (sixth 0 j))) w

theorem proj_eq (c : Dev nD) (t : Fin cfg0.N) (b : Fin 8) (i : Fin 4) (hb : b.val = t.val / 4) (hi : i.val = t.val % 4) (r : Fin 512) (n : Fin 1408) :
    k0_pay3 (iblk m c 0 t) (iblk m c 1 t) (iblk m c 2 t) (iblk m c 3 t) (iblk m c 4 t) (ix2 r n)
      = entryOf (m ((c : Thread nD τ).loc main_arg0)) (m ((c : Thread nD τ).loc main_arg1)) (m ((c : Thread nD τ).loc main_arg2)) b (rowOf i r)
          (fun k => packed (m ((c : Thread nD τ).loc main_arg3)) (ix2 k n)) := by
  refine (proj_at _ _ _ _ _ _ _).trans ?_
  exact projected_congr (fun j => read_x m c t b i hb hi r j) (fun j => read_g m c t j) (fun j => read_sc m c t b hb j)
    (fun j => read_sh m c t b hb j) (fun j => read_w m c t j n)

theorem out_xbc (c : Dev nD) (t : Fin cfg0.N) (r : Fin 512) (n : Fin 768) :
    out0_5 (iblk m c 0 t) (iblk m c 1 t) (iblk m c 2 t) (iblk m c 3 t) (iblk m c 4 t) (ix3 0 r n)
      = k0_pay3 (iblk m c 0 t) (iblk m c 1 t) (iblk m c 2 t) (iblk m c 3 t) (iblk m c 4 t) (ix2 r ⟨n.val, by omega⟩) := by
  unfold out0_5
  frame_out
  pointwise [k0_pay4]

theorem final_xbc (c : Dev nD) : (dats m 0 c).arrAt 5 (cfgs 0).N = fun y : S8x2048x768.Idx =>
    entryOf (m ((c : Thread nD τ).loc main_arg0)) (m ((c : Thread nD τ).loc main_arg1)) (m ((c : Thread nD τ).loc main_arg2)) (y 0) (y 1)
      (fun k => column_xbc (m ((c : Thread nD τ).loc main_arg3)) k (y 2)) := by
  refine (dats m 0 c).arrAt_eq_of_covers 5 _ (by decide +kernel) fun t _ y => ?_
  obtain ⟨o, r, n, rfl⟩ : ∃ o r n, y = (ix3 o r n : S1x512x768.Idx) := ⟨y 0, y 1, y 2, by funext q; fin_cases q <;> rfl⟩
  obtain rfl : o = 0 := Subsingleton.elim _ _
  have hN : t.val < 32 := t.isLt
  have e : ((cfg0.win 5).blk t).view.emb (ix3 0 r n) = (ix3 (⟨t.val / 4, by omega⟩ : Fin 8) (rowOf ⟨t.val % 4, by omega⟩ r) n : S8x2048x768.Idx) := by
    blk_ext [idx t, rowOf]
  rw [e, after0_5]
  have e' : (cfg0.win 5).xinj (cfg0.grid.coords t) (ix3 0 r n) = (ix3 0 r n : S1x512x768.Idx) := by
    funext z; fin_cases z <;> rfl
  rw [cast_eq]
  refine (congrArg (out0_5 (iblk m c 0 t) (iblk m c 1 t) (iblk m c 2 t) (iblk m c 3 t) (iblk m c 4 t)) e').trans ?_
  refine (out_xbc m c t r n).trans ((proj_eq m c t ⟨t.val / 4, by omega⟩ ⟨t.val % 4, by omega⟩ rfl rfl r _).trans ?_)
  exact congrArg (entryOf _ _ _ _ _) (funext fun k => packed_xbc _ k n)

theorem out_z (c : Dev nD) (t : Fin cfg0.N) (r : Fin 512) (n : Fin 512) :
    out0_6 (iblk m c 0 t) (iblk m c 1 t) (iblk m c 2 t) (iblk m c 3 t) (iblk m c 4 t) (ix3 0 r n)
      = k0_pay3 (iblk m c 0 t) (iblk m c 1 t) (iblk m c 2 t) (iblk m c 3 t) (iblk m c 4 t) (ix2 r ⟨768 + n.val, by omega⟩) := by
  unfold out0_6
  frame_out
  pointwise [k0_pay1, k0_pay5]

theorem final_z (c : Dev nD) : (dats m 0 c).arrAt 6 (cfgs 0).N = fun y : S8x2048x512.Idx =>
    entryOf (m ((c : Thread nD τ).loc main_arg0)) (m ((c : Thread nD τ).loc main_arg1)) (m ((c : Thread nD τ).loc main_arg2)) (y 0) (y 1)
      (fun k => column_z (m ((c : Thread nD τ).loc main_arg3)) k (y 2)) := by
  refine (dats m 0 c).arrAt_eq_of_covers 6 _ (by decide +kernel) fun t _ y => ?_
  obtain ⟨o, r, n, rfl⟩ : ∃ o r n, y = (ix3 o r n : S1x512x512.Idx) := ⟨y 0, y 1, y 2, by funext q; fin_cases q <;> rfl⟩
  obtain rfl : o = 0 := Subsingleton.elim _ _
  have hN : t.val < 32 := t.isLt
  have e : ((cfg0.win 6).blk t).view.emb (ix3 0 r n) = (ix3 (⟨t.val / 4, by omega⟩ : Fin 8) (rowOf ⟨t.val % 4, by omega⟩ r) n : S8x2048x512.Idx) := by
    blk_ext [idx t, rowOf]
  rw [e, after0_6]
  have e' : (cfg0.win 6).xinj (cfg0.grid.coords t) (ix3 0 r n) = (ix3 0 r n : S1x512x512.Idx) := by
    funext z; fin_cases z <;> rfl
  rw [cast_eq]
  refine (congrArg (out0_6 (iblk m c 0 t) (iblk m c 1 t) (iblk m c 2 t) (iblk m c 3 t) (iblk m c 4 t)) e').trans ?_
  refine (out_z m c t r n).trans ((proj_eq m c t ⟨t.val / 4, by omega⟩ ⟨t.val % 4, by omega⟩ rfl rfl r _).trans ?_)
  exact congrArg (entryOf _ _ _ _ _) (funext fun k => packed_z _ k n)

theorem out_dt (c : Dev nD) (t : Fin cfg0.N) (r : Fin 512) (n : Fin 128) :
    out0_7 (iblk m c 0 t) (iblk m c 1 t) (iblk m c 2 t) (iblk m c 3 t) (iblk m c 4 t) (ix3 0 r n)
      = k0_pay3 (iblk m c 0 t) (iblk m c 1 t) (iblk m c 2 t) (iblk m c 3 t) (iblk m c 4 t) (ix2 r ⟨1280 + n.val, by omega⟩) := by
  unfold out0_7
  frame_out
  pointwise [k0_pay2]

theorem final_dt (c : Dev nD) : (dats m 0 c).arrAt 7 (cfgs 0).N = fun y : S8x2048x128.Idx =>
    entryOf (m ((c : Thread nD τ).loc main_arg0)) (m ((c : Thread nD τ).loc main_arg1)) (m ((c : Thread nD τ).loc main_arg2)) (y 0) (y 1)
      (fun k => column_dt (m ((c : Thread nD τ).loc main_arg3)) k (y 2)) := by
  refine (dats m 0 c).arrAt_eq_of_covers 7 _ (by decide +kernel) fun t _ y => ?_
  obtain ⟨o, r, n, rfl⟩ : ∃ o r n, y = (ix3 o r n : S1x512x128.Idx) := ⟨y 0, y 1, y 2, by funext q; fin_cases q <;> rfl⟩
  obtain rfl : o = 0 := Subsingleton.elim _ _
  have hN : t.val < 32 := t.isLt
  have e : ((cfg0.win 7).blk t).view.emb (ix3 0 r n) = (ix3 (⟨t.val / 4, by omega⟩ : Fin 8) (rowOf ⟨t.val % 4, by omega⟩ r) n : S8x2048x128.Idx) := by
    blk_ext [idx t, rowOf]
  rw [e, after0_7]
  have e' : (cfg0.win 7).xinj (cfg0.grid.coords t) (ix3 0 r n) = (ix3 0 r n : S1x512x128.Idx) := by
    funext z; fin_cases z <;> rfl
  rw [cast_eq]
  refine (congrArg (out0_7 (iblk m c 0 t) (iblk m c 1 t) (iblk m c 2 t) (iblk m c 3 t) (iblk m c 4 t)) e').trans ?_
  refine (out_dt m c t r n).trans ((proj_eq m c t ⟨t.val / 4, by omega⟩ ⟨t.val % 4, by omega⟩ rfl rfl r _).trans ?_)
  exact congrArg (entryOf _ _ _ _ _) (funext fun k => packed_dt _ k n)

end Cert.InMbValue
end
-- ==== Proof.InMb.Reference.lean ====
/-
  The reference's second input projection, index by index.
-/
module

public import proofs.«01_k».proof.Proof.InMb.Value
public import proofs.«01_k».proof.Proof.Gen.InMbReferenceIdeal.Run
public import proofs.«01_k».proof.Proof.Gen.InMbReferenceIdeal.Read

@[expose] public section

set_option maxRecDepth 16384

noncomputable section

namespace Cert.InMbValue

open Idealize.ShloMosaic Idealize.ShloMosaic.TcCoe Idealize.SL.Sem
open Cert.InMbReferenceIdeal Cert.InMbReferenceIdeal.Read Cert.Layer

variable (x : Vec Ideal S8x2048x1024 .f32) (g : Vec Ideal S1024 .f32) (md : Vec Ideal S8x6144 .f32) (w : Vec Ideal S1024x3208 .f32)

theorem ref_modded (b : Fin 8) (q : Fin 2048) (k : Fin 1024) :
    val_main_v30 (F := Ideal) x g md (ix3 b q k) = modded (fun j => x (ix3 b q j)) (fun j => g (ix1 j)) (fun j => md (ix2 b (sixth 1 j)))
      (fun j => md (ix2 b (sixth 0 j))) k := by
  have e (j : Fin 1024) : idx_main_v13 (idx_main_v14 (idx_main_v20 (ix3 b q k))) j = (ix3 b q j : S8x2048x1024.Idx) := by
    funext z; fin_cases z <;> rfl
  have e1 : idx_main_v22 (idx_main_v23 (ix3 b q k)) = (ix1 k : S1024.Idx) := by funext z; fin_cases z <;> rfl
  have e2 : idx_main_v1 (idx_main_v7 (idx_main_v27 (ix3 b q k))) = (ix2 b (sixth 1 k) : S8x6144.Idx) := by
    funext z; apply Fin.ext; fin_cases z <;> first | rfl | exact Nat.add_comm _ _ | simp
  have e3 : idx_main_v0 (idx_main_v6 (idx_main_v29 (ix3 b q k))) = (ix2 b (sixth 0 k) : S8x6144.Idx) := by
    funext z; apply Fin.ext; fin_cases z <;> first | rfl | exact Nat.add_comm _ _ | simp
  pointwise [val_main_v30_apply, val_main_v29_apply, val_main_v28_apply, val_main_v27_apply, val_main_v26_apply, val_main_v25_apply, val_main_cst_2_apply,
    val_main_v24_apply, val_main_v23_apply, val_main_v22_apply, val_main_v21_apply, val_main_v20_apply, val_main_v19_apply, val_main_v18_apply,
    val_main_v17_apply, val_main_cst_1_apply, val_main_v16_apply, val_main_v15_apply, val_main_cst_0_apply, val_main_v14_apply, val_main_v13_apply,
    val_main_cst_apply, val_main_v12_apply, val_main_v7_apply, val_main_v6_apply, val_main_v1_apply, val_main_v0_apply, modded, scale]
  simp only [e, e1, e2, e3]

/-- The whole projection. -/
theorem ref_proj (b : Fin 8) (q : Fin 2048) (n : Fin 3208) :
    val_main_v31 (F := Ideal) x g md w (ix3 b q n) = entryOf x g md b q (fun k => w (ix2 k n)) := by
  have e (k : Fin 1024) : lidx_main_v31 (ix3 b q n) k = (ix3 b q k : S8x2048x1024.Idx) := by funext z; fin_cases z <;> rfl
  have e1 (k : Fin 1024) : ridx_main_v31 (ix3 b q n) k = (ix2 k n : S1024x3208.Idx) := by funext z; fin_cases z <;> rfl
  unfold entryOf projected
  rw [val_main_v31_apply]
  refine Finset.sum_congr rfl fun k _ => ?_
  rw [e, e1, ref_modded]

theorem ref_xbc (b : Fin 8) (q : Fin 2048) (n : Fin 768) :
    val_main_v37 (F := Ideal) x g md w (ix3 b q n) = entryOf x g md b q (fun k => column_xbc w k n) := by
  rw [val_main_v37_apply]
  refine Eq.trans (congrArg _ ?_) (ref_proj x g md w b q ⟨1536 + n.val, by omega⟩)
  funext z; apply Fin.ext; fin_cases z <;> first | rfl | exact Nat.add_comm _ _

theorem ref_z (b : Fin 8) (q : Fin 2048) (n : Fin 512) :
    val_main_v36 (F := Ideal) x g md w (ix3 b q n) = entryOf x g md b q (fun k => column_z w k n) := by
  rw [val_main_v36_apply]
  refine Eq.trans (congrArg _ ?_) (ref_proj x g md w b q ⟨1024 + n.val, by omega⟩)
  funext z; apply Fin.ext; fin_cases z <;> first | rfl | exact Nat.add_comm _ _

theorem ref_dt (b : Fin 8) (q : Fin 2048) (n : Fin 128) :
    val_main_v40 (F := Ideal) x g md w (ix3 b q n) = entryOf x g md b q (fun k => column_dt w k n) := by
  pointwise [val_main_v40, val_main_call0_v0_apply, val_main_c_apply]
  split
  · rename_i h
    have e : (fun k => column_dt w k n) = fun k => w (ix2 k ⟨2304 + n.val, by omega⟩) := funext fun k => dif_pos h
    rw [e]
    rw [val_main_v38_apply]
    refine Eq.trans (congrArg _ ?_) (ref_proj x g md w b q ⟨2304 + n.val, by omega⟩)
    funext z; apply Fin.ext; fin_cases z <;> first | rfl | exact Nat.add_comm _ _
  · rename_i h
    have e : (fun k => column_dt w k n) = fun _ => 0 := funext fun k => dif_neg h
    rw [e]
    exact zero.trans (projected_zero _ _ _ _).symm

end Cert.InMbValue
end
-- ==== Proof.InMb.Claims.lean ====
/-
  The second input projection's claims.
-/
module

public import proofs.«01_k».proof.Defs
public import proofs.«01_k».proof.Proof.Gen.InMb
public import proofs.«01_k».proof.Proof.Gen.InMb.Frame
public import proofs.«01_k».proof.Proof.Gen.InMbIdeal
public import proofs.«01_k».proof.Proof.Gen.InMbReferenceIdeal
public import proofs.«01_k».proof.Proof.InMb.Reference
public import Idealize.ShloMosaic.Adequacy
public import Idealize.ShloMosaic.Init
public import Idealize.ShloMosaic.Lib.Claim

@[expose] public section

set_option maxRecDepth 16384

noncomputable section

namespace Cert.InMbValue

open Idealize.ShloMosaic Idealize.ShloMosaic.TcCoe Idealize.SL.Sem

theorem quiescent_bits : Cert.quiescent_InMb := fun m g _ => Cert.InMb.Gen.frame m g

theorem quiescent_ideal : Cert.quiescent_InMbIdeal := fun m g _ => Cert.InMbIdeal.Gen.frame m g

theorem quiescent_reference : Cert.quiescent_InMbReferenceIdeal := fun m g _ =>
  (θ_run _ _ _).mono (fun r h => ⟨fun c => (h c).2.2.2, sem_eq_zero_of_no_sems (by decide) r.2⟩) (Cert.InMbReferenceIdeal.Value.run m g)

theorem algebraic : Cert.algebraic_InMbIdeal_InMbReferenceIdeal := fun m g m' g' _ hagree =>
  ⟨fun c => (Cert.InMbIdeal.Gen.dats m 0 c).arrAt 5 Cert.InMbIdeal.cfg0.N,
   fun c => (Cert.InMbIdeal.Gen.dats m 0 c).arrAt 6 Cert.InMbIdeal.cfg0.N,
   fun c => (Cert.InMbIdeal.Gen.dats m 0 c).arrAt 7 Cert.InMbIdeal.cfg0.N,
   Cert.InMbIdeal.Value.run_blocks m g,
   (θ_run _ _ _).mono (fun _ h c => by
      obtain ⟨a0, a1, a2, a3⟩ := hagree c
      obtain ⟨h0, h1, h2, hargs⟩ := h c
      refine ⟨h0.trans ?_, h1.trans ?_, h2.trans ?_, hargs⟩
      · rw [a0, a1, a2, a3]
        refine (Cert.InMbReferenceIdeal.Read.val_main_v37_eq _ _ _ _).trans (Eq.trans (funext fun y => ?_) (final_xbc m c).symm)
        have hy : y = ix3 (y 0) (y 1) (y 2) := by funext z; fin_cases z <;> rfl
        rw [hy]
        exact ref_xbc _ _ _ _ _ _ _
      · rw [a0, a1, a2, a3]
        refine (Cert.InMbReferenceIdeal.Read.val_main_v36_eq _ _ _ _).trans (Eq.trans (funext fun y => ?_) (final_z m c).symm)
        have hy : y = ix3 (y 0) (y 1) (y 2) := by funext z; fin_cases z <;> rfl
        rw [hy]
        exact ref_z _ _ _ _ _ _ _
      · rw [a0, a1, a2, a3]
        refine (Cert.InMbReferenceIdeal.Read.val_main_v40_eq _ _ _ _).trans (Eq.trans (funext fun y => ?_) (final_dt m c).symm)
        have hy : y = ix3 (y 0) (y 1) (y 2) := by funext z; fin_cases z <;> rfl
        rw [hy]
        exact ref_dt _ _ _ _ _ _ _)
     (Cert.InMbReferenceIdeal.Value.run m' g')⟩

end Cert.InMbValue
end
-- ==== Proof.InRw.Value.lean ====
/-
  The third input projection's result, index by index, in its arguments.
-/
module

public import proofs.«01_k».proof.Proof.Gen.InRwIdeal.Frame
public import proofs.«01_k».proof.Proof.Gen.InRwIdeal.Value
public import proofs.«01_k».proof.Proof.InMb.Value
public import Idealize.ShloMosaic.Lib.Pipeline.ValueKit
public import Idealize.ShloMosaic.Lib.Claim

@[expose] public section

set_option maxRecDepth 16384

noncomputable section

namespace Cert.InRwValue

open Idealize.ShloMosaic Idealize.ShloMosaic.TcCoe Idealize.SL.Sem
open Cert.InRwIdeal Cert.InRwIdeal.Gen Cert.Layer
open Cert.InMbValue (entryOf zero)

variable (m : (ℓ : Loc nD τ sig) → Buf (Elt Ideal) ℓ) (ρ : Dev nD → PrngReg)

/-! ## The body's vectors, index by index -/

theorem proj_at (x : Vec Ideal S1x512x1024 .f32) (g : Vec Ideal S1x1024 .f32) (sc sh : Vec Ideal S1x1x1024 .f32) (w : Vec Ideal S1024x1152 .bf16)
    (r : Fin 512) (n : Fin 1152) :
    k0_pay1 x g sc sh w (ix3 0 r n) = projected (fun j => x (ix3 0 r j)) (fun j => g (ix2 0 j)) (fun j => sc (ix3 0 0 j)) (fun j => sh (ix3 0 0 j))
      (fun j => w (ix2 j n)) := by
  pointwise [k0_pay1, projected, modded, scale]

/-! ## The blocks, read in the arguments -/

theorem idx : ∀ t : Fin cfg0.N, win0_0.index t = ![t.val / 4, t.val % 4, 0] ∧ win0_1.index t = ![0, 0] ∧ win0_2.index t = ![t.val / 4, 0, 1]
    ∧ win0_3.index t = ![t.val / 4, 0, 0] ∧ win0_4.index t = ![0, 0] ∧ win0_5.index t = ![t.val / 4, t.val % 4, 0] :=
  (by decide +kernel : ∀ t : Fin grid0.N, _)

theorem lone (x : Vec Ideal S1024 .f32) (k : Fin 1024) : shapeCast S1x1024 x shapeCasts_S1024_S1x1024 (ix2 0 k) = x (ix1 k) := by pointwise
theorem spread (x : Vec Ideal S8x6144 .f32) (b : Fin 8) (k : Fin 6144) :
    broadcastInDim S8x1x6144 ![0, 2] bcast_S8x6144_S8x1x6144_0_2 x (ix3 b 0 k) = x (ix2 b k) := by pointwise

/-- The padded slice of the weight's columns from `o` on. -/
def padded (w : Vec Ideal S1024x896 .f32) : Vec Ideal S1024x1152 .f32 :=
  concatenate S1024x1152 1 [⟨S1024x768, extractStridedSlice S1024x768 ![0, 0] w slices_S1024x896_S1024x768_0_0⟩,
    ⟨S1024x128, pad S1024x128 ![0, 0] ![0, 96] ![0, 0] (extractStridedSlice S1024x32 ![0, 768] w slices_S1024x896_S1024x32_0_768)
      (sitofp (F := Ideal) .f32 (constantI S_ 32 0#32)) pads_S1024x32_S1024x128_000_0960 h_S_⟩,
    ⟨S1024x128, pad S1024x128 ![0, 0] ![0, 96] ![0, 0] (extractStridedSlice S1024x32 ![0, 800] w slices_S1024x896_S1024x32_0_800)
      (sitofp (F := Ideal) .f32 (constantI S_ 32 0#32)) pads_S1024x32_S1024x128_000_0960 h_S_⟩,
    ⟨S1024x128, pad S1024x128 ![0, 0] ![0, 64] ![0, 0] (extractStridedSlice S1024x64 ![0, 832] w slices_S1024x896_S1024x64_0_832)
      (sitofp (F := Ideal) .f32 (constantI S_ 32 0#32)) pads_S1024x64_S1024x128_000_0640 h_S_⟩]
    concatenates_S1024x768_S1024x128_S1024x128_S1024x128_S1024x1152_d1

/-- The packed weight: the receptance, key and value columns, then the three low-rank pieces, each filled up with zeros to 128 columns. -/
def packed (w : Vec Ideal S1024x3208 .f32) : Vec Ideal S1024x1152 .f32 :=
  padded (extractStridedSlice S1024x896 ![0, 2312] w slices_S1024x3208_S1024x896_0_2312)

/-- The weight's column that the result's lane `n` is projected on. -/
def column (w : Vec Ideal S1024x3208 .f32) (k : Fin 1024) (n : Fin 1152) : EReal :=
  if h : n.val < 768 then w (ix2 k ⟨2312 + n.val, by omega⟩)
  else if h1 : n.val - 768 < 128 then (if h2 : n.val - 768 < 32 then w (ix2 k ⟨2312 + (768 + (n.val - 768)), by omega⟩) else 0)
  else if h1 : n.val - 768 - 128 < 128 then (if h2 : n.val - 768 - 128 < 32 then w (ix2 k ⟨2312 + (800 + (n.val - 768 - 128)), by omega⟩) else 0)
  else if h2 : n.val - 768 - 128 - 128 < 64 then w (ix2 k ⟨2312 + (832 + (n.val - 768 - 128 - 128)), by omega⟩) else 0

theorem packed_eq (w : Vec Ideal S1024x3208 .f32) (k : Fin 1024) (n : Fin 1152) : packed w (ix2 k n) = column w k n := by
  unfold column
  pointwise [packed, padded]
  simp only [zero]

theorem entry_g (c : Dev nD) : V m c main_v10 = shapeCast S1x1024 (m ((c : Thread nD τ).loc main_arg1)) shapeCasts_S1024_S1x1024 := by
  entry_read
  try rfl
theorem entry_mod (c : Dev nD) : V m c main_v11 = broadcastInDim S8x1x6144 ![0, 2] bcast_S8x6144_S8x1x6144_0_2 (m ((c : Thread nD τ).loc main_arg2)) := by
  show StableHlo.after (List.flatten [hostOps0, hostOps0_1, hostOps0_2, hostOps0_3, hostOps0_4, hostOps0_5, hostOps0_6]) _ _ = _
  after_results <;> rfl
theorem entry_w (c : Dev nD) : V m c main_v9 = packed (m ((c : Thread nD τ).loc main_arg3)) := by
  simp only [V, hostOps0, hostOps0_1, hostOps0_2, hostOps0_3, hostOps0_4, hostOps0_5, hostOps0_6, List.flatten_cons, List.flatten_nil, List.append_nil, List.cons_append, List.nil_append]
  after_results <;> rfl

section
variable (c : Dev nD) (t : Fin cfg0.N) (b : Fin 8) (i : Fin 4)

theorem read_x (hb : b.val = t.val / 4) (hi : i.val = t.val % 4) (r : Fin 512) (k : Fin 1024) :
    iblk m c 0 t (ix3 0 r k) = m ((c : Thread nD τ).loc main_arg0) (ix3 b (rowOf i r) k) := by
  show V m c main_arg0 (((cfg0.win 0).blk t).view.emb (ix3 0 r k)) = _
  have e : ((cfg0.win 0).blk t).view.emb (ix3 0 r k) = (ix3 b (rowOf i r) k : S8x2048x1024.Idx) := by blk_ext [idx t, rowOf, hb, hi]
  rw [V_main_arg0, e]
theorem read_g (k : Fin 1024) : iblk m c 1 t (ix2 0 k) = m ((c : Thread nD τ).loc main_arg1) (ix1 k) := by
  show V m c main_v10 (((cfg0.win 1).blk t).view.emb (ix2 0 k)) = _
  have e : ((cfg0.win 1).blk t).view.emb (ix2 0 k) = (ix2 0 k : S1x1024.Idx) := by blk_ext [idx t]
  rw [entry_g, e]; exact lone _ _
theorem read_sc (hb : b.val = t.val / 4) (k : Fin 1024) : iblk m c 2 t (ix3 0 0 k) = m ((c : Thread nD τ).loc main_arg2) (ix2 b (sixth 1 k)) := by
  show V m c main_v11 (((cfg0.win 2).blk t).view.emb (ix3 0 0 k)) = _
  have e : ((cfg0.win 2).blk t).view.emb (ix3 0 0 k) = (ix3 b 0 (sixth 1 k) : S8x1x6144.Idx) := by blk_ext [idx t, sixth, hb]
  rw [entry_mod, e]; exact spread _ _ _
theorem read_sh (hb : b.val = t.val / 4) (k : Fin 1024) : iblk m c 3 t (ix3 0 0 k) = m ((c : Thread nD τ).loc main_arg2) (ix2 b (sixth 0 k)) := by
  show V m c main_v11 (((cfg0.win 3).blk t).view.emb (ix3 0 0 k)) = _
  have e : ((cfg0.win 3).blk t).view.emb (ix3 0 0 k) = (ix3 b 0 (sixth 0 k) : S8x1x6144.Idx) := by blk_ext [idx t, sixth, hb]
  rw [entry_mod, e]; exact spread _ _ _
theorem read_w (k : Fin 1024) (n : Fin 1152) : iblk m c 4 t (ix2 k n) = packed (m ((c : Thread nD τ).loc main_arg3)) (ix2 k n) := by
  show V m c main_v9 (((cfg0.win 4).blk t).view.emb (ix2 k n)) = _
  have e : ((cfg0.win 4).blk t).view.emb (ix2 k n) = (ix2 k n : S1024x1152.Idx) := by blk_ext [idx t]
  rw [entry_w, e]
end

/-! ## The results -/

theorem proj_eq (c : Dev nD) (t : Fin cfg0.N) (b : Fin 8) (i : Fin 4) (hb : b.val = t.val / 4) (hi : i.val = t.val % 4) (r : Fin 512) (n : Fin 1152) :
    k0_pay1 (iblk m c 0 t) (iblk m c 1 t) (iblk m c 2 t) (iblk m c 3 t) (iblk m c 4 t) (ix3 0 r n)
      = entryOf (m ((c : Thread nD τ).loc main_arg0)) (m ((c : Thread nD τ).loc main_arg1)) (m ((c : Thread nD τ).loc main_arg2)) b (rowOf i r)
          (fun k => packed (m ((c : Thread nD τ).loc main_arg3)) (ix2 k n)) := by
  refine (proj_at _ _ _ _ _ _ _).trans ?_
  exact projected_congr (fun j => read_x m c t b i hb hi r j) (fun j => read_g m c t j) (fun j => read_sc m c t b hb j)
    (fun j => read_sh m c t b hb j) (fun j => read_w m c t j n)

theorem out_at (c : Dev nD) (t : Fin cfg0.N) (r : Fin 512) (n : Fin 1152) :
    out0_5 (iblk m c 0 t) (iblk m c 1 t) (iblk m c 2 t) (iblk m c 3 t) (iblk m c 4 t) (ix3 0 r n)
      = k0_pay1 (iblk m c 0 t) (iblk m c 1 t) (iblk m c 2 t) (iblk m c 3 t) (iblk m c 4 t) (ix3 0 r n) := by
  unfold out0_5
  frame_out

theorem final (c : Dev nD) : (dats m 0 c).arrAt 5 (cfgs 0).N = fun y : S8x2048x1152.Idx =>
    entryOf (m ((c : Thread nD τ).loc main_arg0)) (m ((c : Thread nD τ).loc main_arg1)) (m ((c : Thread nD τ).loc main_arg2)) (y 0) (y 1)
      (fun k => column (m ((c : Thread nD τ).loc main_arg3)) k (y 2)) := by
  refine (dats m 0 c).arrAt_eq_of_covers 5 _ (by decide +kernel) fun t _ y => ?_
  obtain ⟨o, r, n, rfl⟩ : ∃ o r n, y = (ix3 o r n : S1x512x1152.Idx) := ⟨y 0, y 1, y 2, by funext q; fin_cases q <;> rfl⟩
  obtain rfl : o = 0 := Subsingleton.elim _ _
  have hN : t.val < 32 := t.isLt
  have e : ((cfg0.win 5).blk t).view.emb (ix3 0 r n) = (ix3 (⟨t.val / 4, by omega⟩ : Fin 8) (rowOf ⟨t.val % 4, by omega⟩ r) n : S8x2048x1152.Idx) := by
    blk_ext [idx t, rowOf]
  rw [e, after0_5]
  have e' : (cfg0.win 5).xinj (cfg0.grid.coords t) (ix3 0 r n) = (ix3 0 r n : S1x512x1152.Idx) := by
    funext z; fin_cases z <;> rfl
  rw [cast_eq]
  refine (congrArg (out0_5 (iblk m c 0 t) (iblk m c 1 t) (iblk m c 2 t) (iblk m c 3 t) (iblk m c 4 t)) e').trans ?_
  refine (out_at m c t r n).trans ((proj_eq m c t ⟨t.val / 4, by omega⟩ ⟨t.val % 4, by omega⟩ rfl rfl r _).trans ?_)
  exact congrArg (entryOf _ _ _ _ _) (funext fun k => packed_eq _ k n)

end Cert.InRwValue
end
-- ==== Proof.InRw.Reference.lean ====
/-
  The reference's third input projection, index by index.
-/
module

public import proofs.«01_k».proof.Proof.InRw.Value
public import proofs.«01_k».proof.Proof.InMb.Reference
public import proofs.«01_k».proof.Proof.Gen.InRwReferenceIdeal.Run
public import proofs.«01_k».proof.Proof.Gen.InRwReferenceIdeal.Read

@[expose] public section

set_option maxRecDepth 16384

noncomputable section

namespace Cert.InRwValue

open Idealize.ShloMosaic Idealize.ShloMosaic.TcCoe Idealize.SL.Sem
open Cert.InRwReferenceIdeal Cert.InRwReferenceIdeal.Read Cert.Layer
open Cert.InMbValue (entryOf zero)

variable (x : Vec Ideal S8x2048x1024 .f32) (g : Vec Ideal S1024 .f32) (md : Vec Ideal S8x6144 .f32) (w : Vec Ideal S1024x3208 .f32)

theorem ref_proj (b : Fin 8) (q : Fin 2048) (n : Fin 3208) :
    val_main_v31 (F := Ideal) x g md w (ix3 b q n) = entryOf x g md b q (fun k => w (ix2 k n)) :=
  Cert.InMbValue.ref_proj x g md w b q n

theorem ref_rw (b : Fin 8) (q : Fin 2048) (n : Fin 896) :
    val_main_v39 (F := Ideal) x g md w (ix3 b q n) = entryOf x g md b q (fun k => w (ix2 k ⟨2312 + n.val, by omega⟩)) := by
  rw [val_main_v39_apply]
  refine Eq.trans (congrArg _ ?_) (ref_proj x g md w b q ⟨2312 + n.val, by omega⟩)
  funext z; apply Fin.ext; fin_cases z <;> first | rfl | exact Nat.add_comm _ _

theorem ref_res (b : Fin 8) (q : Fin 2048) (n : Fin 1152) :
    val_main_v47 (F := Ideal) x g md w (ix3 b q n) = entryOf x g md b q (fun k => column w k n) := by
  have lane (i : S8x2048x896.Idx) (o : Fin 896) (hi : i = ix3 b q o) (hc : ∀ k, column w k n = w (ix2 k ⟨2312 + o.val, by omega⟩)) :
      val_main_v39 (F := Ideal) x g md w i = entryOf x g md b q (fun k => column w k n) := by
    rw [hi, ref_rw, funext hc]
  have none (hc : ∀ k, column w k n = 0) : FloatOps.sitofp (F := Ideal) FTy.f32 (0#32) = entryOf x g md b q (fun k => column w k n) := by
    rw [funext hc]
    exact zero.trans (projected_zero _ _ _ _).symm
  pointwise [val_main_v47, val_main_v46, val_main_v45, val_main_v44, val_main_call0_v0_apply, val_main_call1_v0_apply, val_main_call2_v0_apply, val_main_c_apply,
    val_main_c_3_apply, val_main_c_4_apply, val_main_v40_apply, val_main_v41_apply, val_main_v42_apply, val_main_v43_apply]
  split
  · rename_i h
    exact lane _ ⟨n.val, by omega⟩ (by funext z; apply Fin.ext; fin_cases z <;> simp) (fun k => by simp [column, h])
  split
  · rename_i h h1
    split
    · rename_i h2
      exact lane _ ⟨768 + (n.val - 768), by omega⟩ (by funext z; apply Fin.ext; fin_cases z <;> simp) (fun k => by simp [column, h, h1, h2])
    · rename_i h2
      exact none fun k => by simp [column, h, h1, h2]
  split
  · rename_i h h1 h3
    split
    · rename_i h2
      exact lane _ ⟨800 + (n.val - 768 - 128), by omega⟩ (by funext z; apply Fin.ext; fin_cases z <;> simp) (fun k => by simp [column, h, h1, h2, h3])
    · rename_i h2
      exact none fun k => by simp [column, h, h1, h2, h3]
  · rename_i h h1 h3
    split
    · rename_i h2
      exact lane _ ⟨832 + (n.val - 768 - 128 - 128), by omega⟩ (by funext z; apply Fin.ext; fin_cases z <;> simp) (fun k => by simp [column, h, h1, h2, h3])
    · rename_i h2
      exact none fun k => by simp [column, h, h1, h2, h3]

end Cert.InRwValue
end
-- ==== Proof.InRw.Claims.lean ====
/-
  The third input projection's claims.
-/
module

public import proofs.«01_k».proof.Defs
public import proofs.«01_k».proof.Proof.Gen.InRw
public import proofs.«01_k».proof.Proof.Gen.InRw.Frame
public import proofs.«01_k».proof.Proof.Gen.InRwIdeal
public import proofs.«01_k».proof.Proof.Gen.InRwReferenceIdeal
public import proofs.«01_k».proof.Proof.InRw.Reference
public import Idealize.ShloMosaic.Adequacy
public import Idealize.ShloMosaic.Init
public import Idealize.ShloMosaic.Lib.Claim

@[expose] public section

set_option maxRecDepth 16384

noncomputable section

namespace Cert.InRwValue

open Idealize.ShloMosaic Idealize.ShloMosaic.TcCoe Idealize.SL.Sem

theorem quiescent_bits : Cert.quiescent_InRw := fun m g _ => Cert.InRw.Gen.frame m g

theorem quiescent_ideal : Cert.quiescent_InRwIdeal := fun m g _ => Cert.InRwIdeal.Gen.frame m g

theorem quiescent_reference : Cert.quiescent_InRwReferenceIdeal := fun m g _ =>
  (θ_run _ _ _).mono (fun r h => ⟨fun c => (h c).2, sem_eq_zero_of_no_sems (by decide) r.2⟩) (Cert.InRwReferenceIdeal.Value.run m g)

theorem algebraic : Cert.algebraic_InRwIdeal_InRwReferenceIdeal := fun m g m' g' _ hagree =>
  ⟨fun c => (Cert.InRwIdeal.Gen.dats m 0 c).arrAt 5 Cert.InRwIdeal.cfg0.N,
   Cert.InRwIdeal.Value.run_blocks m g,
   (θ_run _ _ _).mono (fun _ h c => by
      obtain ⟨a0, a1, a2, a3⟩ := hagree c
      obtain ⟨h0, hargs⟩ := h c
      refine ⟨h0.trans ?_, hargs⟩
      refine (Cert.InRwReferenceIdeal.Read.val_main_v47_eq m' c).trans ?_
      rw [a0, a1, a2, a3]
      refine Eq.trans (funext fun y => ?_) (final m c).symm
      have hy : y = ix3 (y 0) (y 1) (y 2) := by funext z; fin_cases z <;> rfl
      rw [hy]
      exact ref_res _ _ _ _ _ _ _)
     (Cert.InRwReferenceIdeal.Value.run m' g')⟩

end Cert.InRwValue
end
-- ==== Proof.InHg.Value.lean ====
/-
  The first input projection's results, index by index, in its arguments.
-/
module

public import proofs.«01_k».proof.Proof.Gen.InHgIdeal.Frame
public import proofs.«01_k».proof.Proof.Gen.InHgIdeal.Value
public import proofs.«01_k».proof.Proof.InMb.Value
public import Idealize.ShloMosaic.Lib.Pipeline.ValueKit
public import Idealize.ShloMosaic.Lib.Claim

@[expose] public section

set_option maxRecDepth 16384

noncomputable section

namespace Cert.InHgValue

open Idealize.ShloMosaic Idealize.ShloMosaic.TcCoe Idealize.SL.Sem
open Cert.InHgIdeal Cert.InHgIdeal.Gen Cert.Layer
open Cert.InMbValue (entryOf zero)

variable (m : (ℓ : Loc nD τ sig) → Buf (Elt Ideal) ℓ) (ρ : Dev nD → PrngReg)

/-! ## The decay and the key -/

def softplus (v : EReal) : EReal := max v 0 + Ideal.log1p (Ideal.exp (-FloatOps.absf (F := Ideal) (φ := FTy.f32) v))

/-- `log (exp a + exp (b + log_sigmoid z))`. -/
def decay (a b z : EReal) : EReal :=
  max a (b - softplus (-z)) + Ideal.log1p (Ideal.exp (-FloatOps.absf (F := Ideal) (φ := FTy.f32) (a - (b - softplus (-z)))))

/-- `log (1 - lb)`. -/
def logOneMinus (lb : EReal) : EReal := Ideal.log1p (-lb)

/-- `(1 - lb) * sigmoid (-z)`. -/
def key (lb z : EReal) : EReal := (1 - lb) * Ideal.div 1 (1 + Ideal.exp (- -z))

/-! ## The body's vectors, index by index -/

theorem proj_at (x : Vec Ideal S1x512x1024 .f32) (g : Vec Ideal S1x1024 .f32) (sc sh : Vec Ideal S1x1x1024 .f32) (w : Vec Ideal S1024x1024 .bf16)
    (r : Fin 512) (n : Fin 1024) :
    k0_pay4 x g sc sh w (ix2 r n) = projected (fun j => x (ix3 0 r j)) (fun j => g (ix2 0 j)) (fun j => sc (ix3 0 0 j)) (fun j => sh (ix3 0 0 j))
      (fun j => w (ix2 j n)) := by
  pointwise [k0_pay4, projected, modded, scale]

theorem decay_at (z : FVec Ideal S512x256 .f32) (a b : Vec Ideal S1x256 .f32) (r : Fin 512) (n : Fin 256) :
    k0_pay9 z a b (ix3 0 r n) = decay (a (ix2 0 n)) (b (ix2 0 n)) (z (ix2 r n)) := by
  pointwise [k0_pay9]
  simp only [zero_sub]
  rfl

theorem key_at (z : FVec Ideal S512x256 .f32) (lb : Vec Ideal S1x256 .f32) (r : Fin 512) (n : Fin 256) :
    k0_pay1 (k0_pay10 (k0_pay5 lb)) (k0_pay11 z) (ix3 0 r n) = key (lb (ix2 0 n)) (z (ix2 r n)) := by
  pointwise [k0_pay1, k0_pay10, k0_pay5, k0_pay11]
  simp only [zero_sub]
  rfl

/-! ## The blocks, read in the arguments -/

theorem idx : ∀ t : Fin cfg0.N, win0_0.index t = ![t.val / 4, t.val % 4, 0] ∧ win0_1.index t = ![0, 0] ∧ win0_2.index t = ![t.val / 4, 0, 1]
    ∧ win0_3.index t = ![t.val / 4, 0, 0] ∧ win0_4.index t = ![0, 0] ∧ win0_5.index t = ![0, 0] ∧ win0_6.index t = ![0, 0] ∧ win0_7.index t = ![0, 0]
    ∧ win0_8.index t = ![t.val / 4, t.val % 4, 0] ∧ win0_9.index t = ![t.val / 4, t.val % 4, 0] ∧ win0_10.index t = ![t.val / 4, t.val % 4, 0]
    ∧ win0_11.index t = ![t.val / 4, t.val % 4, 0] ∧ win0_12.index t = ![t.val / 4, t.val % 4, 0] :=
  (by decide +kernel : ∀ t : Fin grid0.N, _)

theorem lone (x : Vec Ideal S1024 .f32) (k : Fin 1024) : shapeCast S1x1024 x shapeCasts_S1024_S1x1024 (ix2 0 k) = x (ix1 k) := by pointwise
theorem spread (x : Vec Ideal S8x6144 .f32) (b : Fin 8) (k : Fin 6144) :
    broadcastInDim S8x1x6144 ![0, 2] bcast_S8x6144_S8x1x6144_0_2 x (ix3 b 0 k) = x (ix2 b k) := by pointwise

theorem lone' (x : Vec Ideal S256 .f32) (k : Fin 256) : shapeCast S1x256 x shapeCasts_S256_S1x256 (ix2 0 k) = x (ix1 k) := by pointwise

/-- The weight's first columns. -/
def packed (w : Vec Ideal S1024x3208 .f32) : Vec Ideal S1024x1024 .f32 :=
  extractStridedSlice S1024x1024 ![0, 0] w slices_S1024x3208_S1024x1024_0_0

theorem packed_eq (w : Vec Ideal S1024x3208 .f32) (k n : Fin 1024) : packed w (ix2 k n) = w (ix2 k ⟨n.val, by omega⟩) := by
  pointwise [packed]

theorem entry_g (c : Dev nD) : V m c main_v3 = shapeCast S1x1024 (m ((c : Thread nD τ).loc main_arg1)) shapeCasts_S1024_S1x1024 := by
  show StableHlo.after hostOps0 _ _ = _
  after_results <;> rfl
theorem entry_mod (c : Dev nD) : V m c main_v4 = broadcastInDim S8x1x6144 ![0, 2] bcast_S8x6144_S8x1x6144_0_2 (m ((c : Thread nD τ).loc main_arg2)) := by
  show StableHlo.after hostOps0 _ _ = _
  after_results <;> rfl
theorem entry_w (c : Dev nD) : V m c main_v1 = packed (m ((c : Thread nD τ).loc main_arg3)) := by
  show StableHlo.after hostOps0 _ _ = _
  after_results <;> rfl
theorem entry_lb (c : Dev nD) : V m c main_v2 = shapeCast S1x256 (m ((c : Thread nD τ).loc main_arg4)) shapeCasts_S256_S1x256 := by
  show StableHlo.after hostOps0 _ _ = _
  after_results <;> rfl
theorem entry_a (c : Dev nD) : V m c main_v5 = Host.log (F := Ideal) (φ := .f32) (shapeCast S1x256 (m ((c : Thread nD τ).loc main_arg4)) shapeCasts_S256_S1x256) := by
  show StableHlo.after hostOps0 _ _ = _
  after_results <;> rfl
theorem entry_b (c : Dev nD) : V m c main_v7 = Host.log1p (F := Ideal) (φ := .f32) (Host.negf (F := Ideal) (φ := .f32) (shapeCast S1x256 (m ((c : Thread nD τ).loc main_arg4)) shapeCasts_S256_S1x256)) := by
  show StableHlo.after hostOps0 _ _ = _
  after_results <;> rfl

section
variable (c : Dev nD) (t : Fin cfg0.N) (b : Fin 8) (i : Fin 4)

theorem read_x (hb : b.val = t.val / 4) (hi : i.val = t.val % 4) (r : Fin 512) (k : Fin 1024) :
    iblk m c 0 t (ix3 0 r k) = m ((c : Thread nD τ).loc main_arg0) (ix3 b (rowOf i r) k) := by
  show V m c main_arg0 (((cfg0.win 0).blk t).view.emb (ix3 0 r k)) = _
  have e : ((cfg0.win 0).blk t).view.emb (ix3 0 r k) = (ix3 b (rowOf i r) k : S8x2048x1024.Idx) := by blk_ext [idx t, rowOf, hb, hi]
  rw [V_main_arg0, e]
theorem read_g (k : Fin 1024) : iblk m c 1 t (ix2 0 k) = m ((c : Thread nD τ).loc main_arg1) (ix1 k) := by
  show V m c main_v3 (((cfg0.win 1).blk t).view.emb (ix2 0 k)) = _
  have e : ((cfg0.win 1).blk t).view.emb (ix2 0 k) = (ix2 0 k : S1x1024.Idx) := by blk_ext [idx t]
  rw [entry_g, e]; exact lone _ _
theorem read_sc (hb : b.val = t.val / 4) (k : Fin 1024) : iblk m c 2 t (ix3 0 0 k) = m ((c : Thread nD τ).loc main_arg2) (ix2 b (sixth 1 k)) := by
  show V m c main_v4 (((cfg0.win 2).blk t).view.emb (ix3 0 0 k)) = _
  have e : ((cfg0.win 2).blk t).view.emb (ix3 0 0 k) = (ix3 b 0 (sixth 1 k) : S8x1x6144.Idx) := by blk_ext [idx t, sixth, hb]
  rw [entry_mod, e]; exact spread _ _ _
theorem read_sh (hb : b.val = t.val / 4) (k : Fin 1024) : iblk m c 3 t (ix3 0 0 k) = m ((c : Thread nD τ).loc main_arg2) (ix2 b (sixth 0 k)) := by
  show V m c main_v4 (((cfg0.win 3).blk t).view.emb (ix3 0 0 k)) = _
  have e : ((cfg0.win 3).blk t).view.emb (ix3 0 0 k) = (ix3 b 0 (sixth 0 k) : S8x1x6144.Idx) := by blk_ext [idx t, sixth, hb]
  rw [entry_mod, e]; exact spread _ _ _
theorem read_w (k : Fin 1024) (n : Fin 1024) : iblk m c 4 t (ix2 k n) = packed (m ((c : Thread nD τ).loc main_arg3)) (ix2 k n) := by
  show V m c main_v1 (((cfg0.win 4).blk t).view.emb (ix2 k n)) = _
  have e : ((cfg0.win 4).blk t).view.emb (ix2 k n) = (ix2 k n : S1024x1024.Idx) := by blk_ext [idx t]
  rw [entry_w, e]
theorem read_lb (k : Fin 256) : iblk m c 5 t (ix2 0 k) = m ((c : Thread nD τ).loc main_arg4) (ix1 k) := by
  show V m c main_v2 (((cfg0.win 5).blk t).view.emb (ix2 0 k)) = _
  have e : ((cfg0.win 5).blk t).view.emb (ix2 0 k) = (ix2 0 k : S1x256.Idx) := by blk_ext [idx t]
  rw [entry_lb, e]; exact lone' _ _
theorem read_a (k : Fin 256) : iblk m c 6 t (ix2 0 k) = Ideal.log (m ((c : Thread nD τ).loc main_arg4) (ix1 k)) := by
  show V m c main_v5 (((cfg0.win 6).blk t).view.emb (ix2 0 k)) = _
  have e : ((cfg0.win 6).blk t).view.emb (ix2 0 k) = (ix2 0 k : S1x256.Idx) := by blk_ext [idx t]
  rw [entry_a, e]; exact congrArg Ideal.log (lone' _ _)
theorem read_b (k : Fin 256) : iblk m c 7 t (ix2 0 k) = logOneMinus (m ((c : Thread nD τ).loc main_arg4) (ix1 k)) := by
  show V m c main_v7 (((cfg0.win 7).blk t).view.emb (ix2 0 k)) = _
  have e : ((cfg0.win 7).blk t).view.emb (ix2 0 k) = (ix2 0 k : S1x256.Idx) := by blk_ext [idx t]
  rw [entry_b, e]; exact congrArg logOneMinus (lone' _ _)
end

/-! ## The results -/

theorem proj_eq (c : Dev nD) (t : Fin cfg0.N) (b : Fin 8) (i : Fin 4) (hb : b.val = t.val / 4) (hi : i.val = t.val % 4) (r : Fin 512) (n : Fin 1024) :
    k0_pay4 (iblk m c 0 t) (iblk m c 1 t) (iblk m c 2 t) (iblk m c 3 t) (iblk m c 4 t) (ix2 r n)
      = entryOf (m ((c : Thread nD τ).loc main_arg0)) (m ((c : Thread nD τ).loc main_arg1)) (m ((c : Thread nD τ).loc main_arg2)) b (rowOf i r)
          (fun k => m ((c : Thread nD τ).loc main_arg3) (ix2 k ⟨n.val, by omega⟩)) := by
  refine (proj_at _ _ _ _ _ _ _).trans ?_
  exact projected_congr (fun j => read_x m c t b i hb hi r j) (fun j => read_g m c t j) (fun j => read_sc m c t b hb j)
    (fun j => read_sh m c t b hb j) (fun j => (read_w m c t j n).trans (packed_eq _ _ _))

/-- Lane `n` of the four pieces of 256 lanes from lane `o` on, for token `q` of sequence `b`. -/
def lane (x : Vec Ideal S8x2048x1024 .f32) (g : Vec Ideal S1024 .f32) (md : Vec Ideal S8x6144 .f32) (w : Vec Ideal S1024x3208 .f32) (o : Fin 769)
    (b : Fin 8) (q : Fin 2048) (n : Fin 256) : EReal :=
  entryOf x g md b q (fun k => w (ix2 k ⟨o.val + n.val, by omega⟩))

theorem lane_eq (c : Dev nD) (t : Fin cfg0.N) (b : Fin 8) (i : Fin 4) (hb : b.val = t.val / 4) (hi : i.val = t.val % 4) (r : Fin 512) (o : Fin 769)
    (n : Fin 256) : k0_pay4 (iblk m c 0 t) (iblk m c 1 t) (iblk m c 2 t) (iblk m c 3 t) (iblk m c 4 t) (ix2 r ⟨o.val + n.val, by omega⟩)
      = lane (m ((c : Thread nD τ).loc main_arg0)) (m ((c : Thread nD τ).loc main_arg1)) (m ((c : Thread nD τ).loc main_arg2)) (m ((c : Thread nD τ).loc main_arg3)) o b (rowOf i r) n :=
  proj_eq m c t b i hb hi r _

theorem block_idx (y : S1x512x256.Idx) : ∃ r n, y = (ix3 0 r n : S1x512x256.Idx) :=
  ⟨y 1, y 2, by funext q; fin_cases q; exacts [Subsingleton.elim (α := Fin 1) _ _, rfl, rfl]⟩

theorem out_query (c : Dev nD) (t : Fin cfg0.N) (r : Fin 512) (n : Fin 256) :
    out0_8 (iblk m c 0 t) (iblk m c 1 t) (iblk m c 2 t) (iblk m c 3 t) (iblk m c 4 t) (iblk m c 5 t) (iblk m c 6 t) (iblk m c 7 t) (ix3 0 r n)
      = k0_pay4 (iblk m c 0 t) (iblk m c 1 t) (iblk m c 2 t) (iblk m c 3 t) (iblk m c 4 t) (ix2 r ⟨0 + n.val, by omega⟩) := by
  unfold_out out0_8
  frame_out
  pointwise [k0_pay8, k0_pay7]

theorem final_query (c : Dev nD) : (dats m 0 c).arrAt 8 (cfgs 0).N = fun y : S8x2048x256.Idx =>
    (lane (m ((c : Thread nD τ).loc main_arg0)) (m ((c : Thread nD τ).loc main_arg1)) (m ((c : Thread nD τ).loc main_arg2)) (m ((c : Thread nD τ).loc main_arg3)) 0 (y 0) (y 1) (y 2)) := by
  refine (dats m 0 c).arrAt_eq_of_covers 8 _ (by decide +kernel) fun t _ y => ?_
  obtain ⟨r, n, rfl⟩ := block_idx y
  have hN : t.val < 32 := t.isLt
  have e : ((cfg0.win 8).blk t).view.emb (ix3 0 r n) = (ix3 (⟨t.val / 4, by omega⟩ : Fin 8) (rowOf ⟨t.val % 4, by omega⟩ r) n : S8x2048x256.Idx) := by
    blk_ext [idx t, rowOf]
  rw [e, after0_8]
  have e' : (cfg0.win 8).xinj (cfg0.grid.coords t) (ix3 0 r n) = (ix3 0 r n : S1x512x256.Idx) := by
    funext z; fin_cases z <;> rfl
  rw [cast_eq]
  refine (congrArg (out0_8 (iblk m c 0 t) (iblk m c 1 t) (iblk m c 2 t) (iblk m c 3 t) (iblk m c 4 t) (iblk m c 5 t) (iblk m c 6 t) (iblk m c 7 t)) e').trans ((out_query m c t r n).trans ?_)
  exact lane_eq m c t _ _ rfl rfl r 0 n

theorem out_decay (c : Dev nD) (t : Fin cfg0.N) (r : Fin 512) (n : Fin 256) :
    out0_9 (iblk m c 0 t) (iblk m c 1 t) (iblk m c 2 t) (iblk m c 3 t) (iblk m c 4 t) (iblk m c 5 t) (iblk m c 6 t) (iblk m c 7 t) (ix3 0 r n)
      = decay (iblk m c 6 t (ix2 0 n)) (iblk m c 7 t (ix2 0 n)) (k0_pay4 (iblk m c 0 t) (iblk m c 1 t) (iblk m c 2 t) (iblk m c 3 t) (iblk m c 4 t) (ix2 r ⟨256 + n.val, by omega⟩)) := by
  unfold_out out0_9
  frame_out
  exact (decay_at _ _ _ r n).trans (congrArg (decay _ _) (by pointwise [k0_pay6]))

theorem final_decay (c : Dev nD) : (dats m 0 c).arrAt 9 (cfgs 0).N = fun y : S8x2048x256.Idx =>
    decay (Ideal.log (m ((c : Thread nD τ).loc main_arg4) (ix1 (y 2)))) (logOneMinus (m ((c : Thread nD τ).loc main_arg4) (ix1 (y 2)))) (lane (m ((c : Thread nD τ).loc main_arg0)) (m ((c : Thread nD τ).loc main_arg1)) (m ((c : Thread nD τ).loc main_arg2)) (m ((c : Thread nD τ).loc main_arg3)) 256 (y 0) (y 1) (y 2)) := by
  refine (dats m 0 c).arrAt_eq_of_covers 9 _ (by decide +kernel) fun t _ y => ?_
  obtain ⟨r, n, rfl⟩ := block_idx y
  have hN : t.val < 32 := t.isLt
  have e : ((cfg0.win 9).blk t).view.emb (ix3 0 r n) = (ix3 (⟨t.val / 4, by omega⟩ : Fin 8) (rowOf ⟨t.val % 4, by omega⟩ r) n : S8x2048x256.Idx) := by
    blk_ext [idx t, rowOf]
  rw [e, after0_9]
  have e' : (cfg0.win 9).xinj (cfg0.grid.coords t) (ix3 0 r n) = (ix3 0 r n : S1x512x256.Idx) := by
    funext z; fin_cases z <;> rfl
  rw [cast_eq]
  refine (congrArg (out0_9 (iblk m c 0 t) (iblk m c 1 t) (iblk m c 2 t) (iblk m c 3 t) (iblk m c 4 t) (iblk m c 5 t) (iblk m c 6 t) (iblk m c 7 t)) e').trans ((out_decay m c t r n).trans ?_)
  rw [read_a, read_b]
  exact congrArg (decay _ _) (lane_eq m c t _ _ rfl rfl r 256 n)

theorem out_key (c : Dev nD) (t : Fin cfg0.N) (r : Fin 512) (n : Fin 256) :
    out0_10 (iblk m c 0 t) (iblk m c 1 t) (iblk m c 2 t) (iblk m c 3 t) (iblk m c 4 t) (iblk m c 5 t) (iblk m c 6 t) (iblk m c 7 t) (ix3 0 r n)
      = key (iblk m c 5 t (ix2 0 n)) (k0_pay4 (iblk m c 0 t) (iblk m c 1 t) (iblk m c 2 t) (iblk m c 3 t) (iblk m c 4 t) (ix2 r ⟨256 + n.val, by omega⟩)) := by
  unfold_out out0_10
  frame_out
  exact (key_at _ _ r n).trans (congrArg (key _) (by pointwise [k0_pay6]))

theorem final_key (c : Dev nD) : (dats m 0 c).arrAt 10 (cfgs 0).N = fun y : S8x2048x256.Idx =>
    key (m ((c : Thread nD τ).loc main_arg4) (ix1 (y 2))) (lane (m ((c : Thread nD τ).loc main_arg0)) (m ((c : Thread nD τ).loc main_arg1)) (m ((c : Thread nD τ).loc main_arg2)) (m ((c : Thread nD τ).loc main_arg3)) 256 (y 0) (y 1) (y 2)) := by
  refine (dats m 0 c).arrAt_eq_of_covers 10 _ (by decide +kernel) fun t _ y => ?_
  obtain ⟨r, n, rfl⟩ := block_idx y
  have hN : t.val < 32 := t.isLt
  have e : ((cfg0.win 10).blk t).view.emb (ix3 0 r n) = (ix3 (⟨t.val / 4, by omega⟩ : Fin 8) (rowOf ⟨t.val % 4, by omega⟩ r) n : S8x2048x256.Idx) := by
    blk_ext [idx t, rowOf]
  rw [e, after0_10]
  have e' : (cfg0.win 10).xinj (cfg0.grid.coords t) (ix3 0 r n) = (ix3 0 r n : S1x512x256.Idx) := by
    funext z; fin_cases z <;> rfl
  rw [cast_eq]
  refine (congrArg (out0_10 (iblk m c 0 t) (iblk m c 1 t) (iblk m c 2 t) (iblk m c 3 t) (iblk m c 4 t) (iblk m c 5 t) (iblk m c 6 t) (iblk m c 7 t)) e').trans ((out_key m c t r n).trans ?_)
  rw [read_lb]
  exact congrArg (key _) (lane_eq m c t _ _ rfl rfl r 256 n)

theorem out_value (c : Dev nD) (t : Fin cfg0.N) (r : Fin 512) (n : Fin 256) :
    out0_11 (iblk m c 0 t) (iblk m c 1 t) (iblk m c 2 t) (iblk m c 3 t) (iblk m c 4 t) (iblk m c 5 t) (iblk m c 6 t) (iblk m c 7 t) (ix3 0 r n)
      = k0_pay4 (iblk m c 0 t) (iblk m c 1 t) (iblk m c 2 t) (iblk m c 3 t) (iblk m c 4 t) (ix2 r ⟨512 + n.val, by omega⟩) := by
  unfold_out out0_11
  frame_out
  pointwise [k0_pay2, k0_pay12]

theorem final_value (c : Dev nD) : (dats m 0 c).arrAt 11 (cfgs 0).N = fun y : S8x2048x256.Idx =>
    (lane (m ((c : Thread nD τ).loc main_arg0)) (m ((c : Thread nD τ).loc main_arg1)) (m ((c : Thread nD τ).loc main_arg2)) (m ((c : Thread nD τ).loc main_arg3)) 512 (y 0) (y 1) (y 2)) := by
  refine (dats m 0 c).arrAt_eq_of_covers 11 _ (by decide +kernel) fun t _ y => ?_
  obtain ⟨r, n, rfl⟩ := block_idx y
  have hN : t.val < 32 := t.isLt
  have e : ((cfg0.win 11).blk t).view.emb (ix3 0 r n) = (ix3 (⟨t.val / 4, by omega⟩ : Fin 8) (rowOf ⟨t.val % 4, by omega⟩ r) n : S8x2048x256.Idx) := by
    blk_ext [idx t, rowOf]
  rw [e, after0_11]
  have e' : (cfg0.win 11).xinj (cfg0.grid.coords t) (ix3 0 r n) = (ix3 0 r n : S1x512x256.Idx) := by
    funext z; fin_cases z <;> rfl
  rw [cast_eq]
  refine (congrArg (out0_11 (iblk m c 0 t) (iblk m c 1 t) (iblk m c 2 t) (iblk m c 3 t) (iblk m c 4 t) (iblk m c 5 t) (iblk m c 6 t) (iblk m c 7 t)) e').trans ((out_value m c t r n).trans ?_)
  exact lane_eq m c t _ _ rfl rfl r 512 n

theorem out_gate (c : Dev nD) (t : Fin cfg0.N) (r : Fin 512) (n : Fin 256) :
    out0_12 (iblk m c 0 t) (iblk m c 1 t) (iblk m c 2 t) (iblk m c 3 t) (iblk m c 4 t) (iblk m c 5 t) (iblk m c 6 t) (iblk m c 7 t) (ix3 0 r n)
      = k0_pay4 (iblk m c 0 t) (iblk m c 1 t) (iblk m c 2 t) (iblk m c 3 t) (iblk m c 4 t) (ix2 r ⟨768 + n.val, by omega⟩) := by
  unfold_out out0_12
  frame_out
  pointwise [k0_pay3, k0_pay12]

theorem final_gate (c : Dev nD) : (dats m 0 c).arrAt 12 (cfgs 0).N = fun y : S8x2048x256.Idx =>
    (lane (m ((c : Thread nD τ).loc main_arg0)) (m ((c : Thread nD τ).loc main_arg1)) (m ((c : Thread nD τ).loc main_arg2)) (m ((c : Thread nD τ).loc main_arg3)) 768 (y 0) (y 1) (y 2)) := by
  refine (dats m 0 c).arrAt_eq_of_covers 12 _ (by decide +kernel) fun t _ y => ?_
  obtain ⟨r, n, rfl⟩ := block_idx y
  have hN : t.val < 32 := t.isLt
  have e : ((cfg0.win 12).blk t).view.emb (ix3 0 r n) = (ix3 (⟨t.val / 4, by omega⟩ : Fin 8) (rowOf ⟨t.val % 4, by omega⟩ r) n : S8x2048x256.Idx) := by
    blk_ext [idx t, rowOf]
  rw [e, after0_12]
  have e' : (cfg0.win 12).xinj (cfg0.grid.coords t) (ix3 0 r n) = (ix3 0 r n : S1x512x256.Idx) := by
    funext z; fin_cases z <;> rfl
  rw [cast_eq]
  refine (congrArg (out0_12 (iblk m c 0 t) (iblk m c 1 t) (iblk m c 2 t) (iblk m c 3 t) (iblk m c 4 t) (iblk m c 5 t) (iblk m c 6 t) (iblk m c 7 t)) e').trans ((out_gate m c t r n).trans ?_)
  exact lane_eq m c t _ _ rfl rfl r 768 n

end Cert.InHgValue
end
-- ==== Proof.InHg.Reference.lean ====
/-
  The reference's first input projection, index by index.
-/
module

public import proofs.«01_k».proof.Proof.InHg.Value
public import proofs.«01_k».proof.Proof.InMb.Reference
public import proofs.«01_k».proof.Proof.Gen.InHgReferenceIdeal.Run
public import proofs.«01_k».proof.Proof.Gen.InHgReferenceIdeal.Read

@[expose] public section

set_option maxRecDepth 16384

noncomputable section

namespace Cert.InHgValue

open Idealize.ShloMosaic Idealize.ShloMosaic.TcCoe Idealize.SL.Sem
open Cert.InHgReferenceIdeal Cert.InHgReferenceIdeal.Read Cert.Layer
open Cert.InMbValue (entryOf zero)

variable (x : Vec Ideal S8x2048x1024 .f32) (g : Vec Ideal S1024 .f32) (md : Vec Ideal S8x6144 .f32) (w : Vec Ideal S1024x3208 .f32) (lb : Vec Ideal S256 .f32)

theorem ref_proj (b : Fin 8) (q : Fin 2048) (n : Fin 3208) :
    val_main_v31 (F := Ideal) x g md w (ix3 b q n) = entryOf x g md b q (fun k => w (ix2 k n)) :=
  Cert.InMbValue.ref_proj x g md w b q n

theorem ref_query (b : Fin 8) (q : Fin 2048) (n : Fin 256) :
    val_main_v32 (F := Ideal) x g md w (ix3 b q n) = lane x g md w 0 b q n := by
  rw [val_main_v32_apply]
  refine Eq.trans (congrArg _ ?_) (ref_proj x g md w b q ⟨0 + n.val, by omega⟩)
  funext z; apply Fin.ext; fin_cases z <;> first | rfl | exact Nat.add_comm _ _ | simp

theorem ref_forget (b : Fin 8) (q : Fin 2048) (n : Fin 256) :
    val_main_v33 (F := Ideal) x g md w (ix3 b q n) = lane x g md w 256 b q n := by
  rw [val_main_v33_apply]
  refine Eq.trans (congrArg _ ?_) (ref_proj x g md w b q ⟨256 + n.val, by omega⟩)
  funext z; apply Fin.ext; fin_cases z <;> first | rfl | exact Nat.add_comm _ _ | simp

theorem ref_value (b : Fin 8) (q : Fin 2048) (n : Fin 256) :
    val_main_v34 (F := Ideal) x g md w (ix3 b q n) = lane x g md w 512 b q n := by
  rw [val_main_v34_apply]
  refine Eq.trans (congrArg _ ?_) (ref_proj x g md w b q ⟨512 + n.val, by omega⟩)
  funext z; apply Fin.ext; fin_cases z <;> first | rfl | exact Nat.add_comm _ _ | simp

theorem ref_gate (b : Fin 8) (q : Fin 2048) (n : Fin 256) :
    val_main_v35 (F := Ideal) x g md w (ix3 b q n) = lane x g md w 768 b q n := by
  rw [val_main_v35_apply]
  refine Eq.trans (congrArg _ ?_) (ref_proj x g md w b q ⟨768 + n.val, by omega⟩)
  funext z; apply Fin.ext; fin_cases z <;> first | rfl | exact Nat.add_comm _ _ | simp

theorem ref_decay (b : Fin 8) (q : Fin 2048) (n : Fin 256) :
    val_main_v60 (F := Ideal) x g md w lb (ix3 b q n)
      = decay (Ideal.log (lb (ix1 n))) (logOneMinus (lb (ix1 n))) (lane x g md w 256 b q n) := by
  have e1 : idx_main_v47 (idx_main_v50 (ix3 b q n)) = (ix1 n : S256.Idx) := by funext z; fin_cases z <;> rfl
  have e2 : idx_main_v47 (idx_main_v48 (ix3 b q n)) = (ix1 n : S256.Idx) := by funext z; fin_cases z <;> rfl
  have e3 : idx_main_v44 (idx_main_v45 (ix3 b q n)) = (ix1 n : S256.Idx) := by funext z; fin_cases z <;> rfl
  rw [← ref_forget]
  pointwise [val_main_v40_apply, val_main_v41_apply, val_main_v42_apply, val_main_call0_v0_apply, val_main_call0_call0_cst_apply, val_main_call0_call0_v0_apply,
    val_main_call0_call0_v1_apply, val_main_call0_call0_v2_apply, val_main_call0_call0_v3_apply, val_main_call0_call0_v4_apply,
    val_main_call0_call0_v5_apply, val_main_call0_call0_v6_apply, val_main_call0_call0_v7_apply, val_main_call0_call0_v8_apply,
    val_main_call0_call0_v9_apply, val_main_call0_call0_v10_apply, val_main_call0_call0_v11_apply, val_main_call0_v1_apply, val_main_v43_apply,
    val_main_v44_apply, val_main_v45_apply, val_main_v46_apply, val_main_v47_apply, val_main_v48_apply, val_main_v49_apply, val_main_v50_apply,
    val_main_v51_apply, val_main_v52_apply, val_main_v53_apply, val_main_v54_apply, val_main_v55_apply, val_main_v56_apply, val_main_v57_apply,
    val_main_v58_apply, val_main_v59_apply, val_main_v60_apply]
  simp only [ne_eq, not_true_eq_false, if_false, ← sub_eq_add_neg, e1, e2, e3]
  rfl

theorem ref_key (b : Fin 8) (q : Fin 2048) (n : Fin 256) :
    val_main_v72 (F := Ideal) x g md w lb (ix3 b q n) = key (lb (ix1 n)) (lane x g md w 256 b q n) := by
  have e : idx_main_v70 (idx_main_v71 (ix3 b q n)) = (ix1 n : S256.Idx) := by funext z; fin_cases z <;> rfl
  rw [← ref_forget]
  pointwise [val_main_cst_3_apply, val_main_v61_apply, val_main_v62_apply, val_main_v63_apply, val_main_v64_apply, val_main_v65_apply, val_main_cst_4_apply,
    val_main_v66_apply, val_main_v67_apply, val_main_cst_5_apply, val_main_v68_apply, val_main_v69_apply, val_main_v70_apply, val_main_v71_apply,
    val_main_v72_apply]
  rw [e]
  rfl

end Cert.InHgValue
end
-- ==== Proof.InHg.Claims.lean ====
/-
  The first input projection's claims.
-/
module

public import proofs.«01_k».proof.Defs
public import proofs.«01_k».proof.Proof.Gen.InHg
public import proofs.«01_k».proof.Proof.Gen.InHg.Frame
public import proofs.«01_k».proof.Proof.Gen.InHgIdeal
public import proofs.«01_k».proof.Proof.Gen.InHgReferenceIdeal
public import proofs.«01_k».proof.Proof.InHg.Reference
public import Idealize.ShloMosaic.Adequacy
public import Idealize.ShloMosaic.Init
public import Idealize.ShloMosaic.Lib.Claim

@[expose] public section

set_option maxRecDepth 16384

noncomputable section

namespace Cert.InHgValue

open Idealize.ShloMosaic Idealize.ShloMosaic.TcCoe Idealize.SL.Sem

theorem quiescent_bits : Cert.quiescent_InHg := fun m g _ => Cert.InHg.Gen.frame m g

theorem quiescent_ideal : Cert.quiescent_InHgIdeal := fun m g _ => Cert.InHgIdeal.Gen.frame m g

theorem quiescent_reference : Cert.quiescent_InHgReferenceIdeal := fun m g _ =>
  (θ_run _ _ _).mono (fun r h => ⟨fun c => (h c).2.2.2.2.2, sem_eq_zero_of_no_sems (by decide) r.2⟩) (Cert.InHgReferenceIdeal.Value.run m g)

theorem algebraic : Cert.algebraic_InHgIdeal_InHgReferenceIdeal := fun m g m' g' _ hagree =>
  ⟨fun c => (Cert.InHgIdeal.Gen.dats m 0 c).arrAt 8 Cert.InHgIdeal.cfg0.N,
   fun c => (Cert.InHgIdeal.Gen.dats m 0 c).arrAt 9 Cert.InHgIdeal.cfg0.N,
   fun c => (Cert.InHgIdeal.Gen.dats m 0 c).arrAt 10 Cert.InHgIdeal.cfg0.N,
   fun c => (Cert.InHgIdeal.Gen.dats m 0 c).arrAt 11 Cert.InHgIdeal.cfg0.N,
   fun c => (Cert.InHgIdeal.Gen.dats m 0 c).arrAt 12 Cert.InHgIdeal.cfg0.N,
   Cert.InHgIdeal.Value.run_blocks m g,
   (θ_run _ _ _).mono (fun _ h c => by
      obtain ⟨a0, a1, a2, a3, a4⟩ := hagree c
      obtain ⟨h0, h1, h2, h3, h4, hargs⟩ := h c
      refine ⟨h0.trans ?_, h1.trans ?_, h2.trans ?_, h3.trans ?_, h4.trans ?_, hargs⟩
      · rw [a0, a1, a2, a3]
        refine (Cert.InHgReferenceIdeal.Read.val_main_v32_eq _ _ _ _).trans (Eq.trans (funext fun y => ?_) (final_query m c).symm)
        have hy : y = ix3 (y 0) (y 1) (y 2) := by funext z; fin_cases z <;> rfl
        rw [hy]
        exact ref_query _ _ _ _ _ _ _
      · refine (Cert.InHgReferenceIdeal.Read.val_main_v60_eq m' c).trans ?_
        rw [a0, a1, a2, a3, a4]
        refine Eq.trans (funext fun y => ?_) (final_decay m c).symm
        have hy : y = ix3 (y 0) (y 1) (y 2) := by funext z; fin_cases z <;> rfl
        rw [hy]
        exact ref_decay _ _ _ _ _ _ _ _
      · rw [a0, a1, a2, a3, a4]
        refine (Cert.InHgReferenceIdeal.Read.val_main_v72_eq _ _ _ _ _).trans (Eq.trans (funext fun y => ?_) (final_key m c).symm)
        have hy : y = ix3 (y 0) (y 1) (y 2) := by funext z; fin_cases z <;> rfl
        rw [hy]
        exact ref_key _ _ _ _ _ _ _ _
      · rw [a0, a1, a2, a3]
        refine (Cert.InHgReferenceIdeal.Read.val_main_v34_eq _ _ _ _).trans (Eq.trans (funext fun y => ?_) (final_value m c).symm)
        have hy : y = ix3 (y 0) (y 1) (y 2) := by funext z; fin_cases z <;> rfl
        rw [hy]
        exact ref_value _ _ _ _ _ _ _
      · rw [a0, a1, a2, a3]
        refine (Cert.InHgReferenceIdeal.Read.val_main_v35_eq _ _ _ _).trans (Eq.trans (funext fun y => ?_) (final_gate m c).symm)
        have hy : y = ix3 (y 0) (y 1) (y 2) := by funext z; fin_cases z <;> rfl
        rw [hy]
        exact ref_gate _ _ _ _ _ _ _)
     (Cert.InHgReferenceIdeal.Value.run m' g')⟩

end Cert.InHgValue
end
-- ==== Proof.OutProj.Row.lean ====
/-
  The output projection's row-wise mathematics, over the extended reals: the normalisations of the three mixers' results by heads and
  groups, and the projection of the three together.
-/
module

public import Idealize.ShloMosaic.PureOps.Ideal

@[expose] public section

noncomputable section

namespace Cert.OutRow

open Idealize.ShloMosaic

/-- Lane `d` of the head of lane `l`. -/
abbrev inHead (l : Fin 256) (d : Fin 64) : Fin 256 := ⟨64 * (l.val / 64) + d.val, by omega⟩

theorem inHead_inHead (l : Fin 256) (d e : Fin 64) : inHead (inHead l d) e = inHead l e :=
  Fin.ext (by show 64 * ((64 * (l.val / 64) + d.val) / 64) + e.val = 64 * (l.val / 64) + e.val; omega)

/-- The mean over the head of lane `l`. -/
def headMean (x : Fin 256 → EReal) (l : Fin 256) : EReal := Ideal.div (∑ d, x (inHead l d)) (Ideal.ofBits FTy.f32 0x42800000#32)

/-- The HGRN2 result, normalised by heads and gated. -/
def hgRow (o g gain : Fin 256 → EReal) (l : Fin 256) : EReal :=
  o l * Ideal.rsqrt (headMean (fun k => o k * o k) l + Ideal.ofBits FTy.f32 897988541#32) * gain l * (g l * Ideal.div 1 (1 + Ideal.exp (-g l)))

/-- The Mamba-2 result with its skip, gated. -/
def skip (o x z D : Fin 512 → EReal) (l : Fin 512) : EReal := (o l + D l * x l) * z l

/-- Normalised by the two groups of 256 lanes. -/
def mbRow (y gain : Fin 512 → EReal) (l : Fin 512) : EReal :=
  y l * Ideal.rsqrt (Ideal.div (∑ j : Fin 256, y ⟨256 * (l.val / 256) + j.val, by omega⟩ * y ⟨256 * (l.val / 256) + j.val, by omega⟩)
    (Ideal.ofBits FTy.f32 1132462080#32) + Ideal.ofBits FTy.f32 897988541#32) * gain l

/-- A lane less its head's mean. -/
def centred (o : Fin 256 → EReal) (l : Fin 256) : EReal := o l - headMean o l

/-- The RWKV-7 result, normalised by heads, with its bonus and gate. -/
def rwRow (o gate bonus gain bias : Fin 256 → EReal) (l : Fin 256) : EReal :=
  (centred o l * Ideal.rsqrt (headMean (fun k => centred o k * centred o k) l + Ideal.ofBits FTy.f32 0x3A27C5AC#32) * gain l + bias l + bonus l) * gate l

/-- The three results against the projection's column. -/
def mixed (a : Fin 256 → EReal) (y : Fin 512 → EReal) (c : Fin 256 → EReal) (w : Fin 1024 → EReal) : EReal :=
  ∑ k, a k * w ⟨k.val, by omega⟩ + ∑ k, y k * w ⟨256 + k.val, by omega⟩ + ∑ k, c k * w ⟨768 + k.val, by omega⟩

/-- The residual with the gated projection. -/
def outRow (x ga : EReal) (oh gh gnh : Fin 256 → EReal) (om mx z D gnm : Fin 512 → EReal)
    (ow gw bv gnw bw : Fin 256 → EReal) (w : Fin 1024 → EReal) : EReal :=
  x + ga * mixed (hgRow oh gh gnh) (mbRow (skip om mx z D) gnm) (rwRow ow gw bv gnw bw) w

/-- A sum over 256 lanes, by heads. -/
theorem sum_heads (f : Fin 256 → EReal) : ∑ k, f k = ∑ a : Fin 4, ∑ d : Fin 64, f ⟨64 * a.val + d.val, by omega⟩ := by
  rw [← Fintype.sum_prod_type', ← (finProdFinEquiv (m := 4) (n := 64)).sum_comp]
  exact Finset.sum_congr rfl fun p _ => congrArg f (Fin.ext (Nat.add_comm _ _))

/-- A sum over the lanes of one head, written as a masked sum over all. -/
theorem sum_masked (f : Fin 256 → EReal) (l : Fin 256) :
    ∑ k : Fin 256, (if k.val / 64 = l.val / 64 then f k else 0) = ∑ d, f (inHead l d) := by
  rw [sum_heads, Finset.sum_eq_single (⟨l.val / 64, by omega⟩ : Fin 4)]
  · exact Finset.sum_congr rfl fun d _ => if_pos (by show (64 * (l.val / 64) + d.val) / 64 = _; omega)
  · intro a _ ha
    refine Finset.sum_eq_zero fun d _ => if_neg fun h => ha (Fin.ext ?_)
    have : (64 * a.val + d.val) / 64 = l.val / 64 := h
    show a.val = l.val / 64
    omega
  · intro h; exact absurd (Finset.mem_univ _) h

/-- Times a sixty-fourth is over 64. -/
theorem mul_inv (x : EReal) : x * Ideal.ofBits FTy.f32 1015021568#32 = Ideal.div x (Ideal.ofBits FTy.f32 0x42800000#32) := by
  have h1 : Ideal.ofBits FTy.f32 0x42800000#32 = ((64 : ℝ) : EReal) := by simp [Ideal.ofBits, Ideal.ieee, -EReal.coe_mul]; norm_num
  have h2 : Ideal.ofBits FTy.f32 1015021568#32 = ((1 / 64 : ℝ) : EReal) := by simp [Ideal.ofBits, Ideal.ieee, -EReal.coe_mul]; norm_num
  rw [h1, h2, Ideal.div_coe (by norm_num)]

/-- A sum over the 1024 lanes, cut into 256, 512 and 256. -/
theorem sum_pieces (f : Fin 1024 → EReal) :
    ∑ k, f k = ∑ k : Fin 256, f ⟨k.val, by omega⟩ + ∑ k : Fin 512, f ⟨256 + k.val, by omega⟩ + ∑ k : Fin 256, f ⟨768 + k.val, by omega⟩ := by
  rw [show ∑ k, f k = ∑ k : Fin (768 + 256), f k from rfl, Fin.sum_univ_add,
    show ∑ k : Fin 768, f (Fin.castAdd 256 k) = ∑ k : Fin (256 + 512), f (Fin.castAdd 256 k) from rfl, Fin.sum_univ_add]
  rfl

end Cert.OutRow
end
-- ==== Proof.OutProj.Reference.lean ====
/-
  The reference's output projection, index by index.
-/
module

public import proofs.«01_k».proof.Proof.OutProj.Row
public import proofs.«01_k».proof.Proof.Layer
public import proofs.«01_k».proof.Proof.Gen.OutProjReferenceIdeal.Run
public import proofs.«01_k».proof.Proof.Gen.OutProjReferenceIdeal.Read
public import Idealize.ShloMosaic.Lib.Pipeline.ValueKit

@[expose] public section

set_option maxRecDepth 16384

noncomputable section

namespace Cert.OutRef

open Idealize.ShloMosaic Idealize.ShloMosaic.TcCoe Idealize.SL.Sem
open Cert.OutProjReferenceIdeal Cert.OutProjReferenceIdeal.Read Cert.OutRow Cert.Layer

variable (x : Vec Ideal S8x2048x1024 .f32) (md : Vec Ideal S8x6144 .f32) (oh gh : Vec Ideal S8x2048x256 .f32) (om mx z : Vec Ideal S8x2048x512 .f32)
  (ow gw bv : Vec Ideal S8x2048x256 .f32) (gnh : Vec Ideal S256 .f32) (D : Vec Ideal S8 .f32) (gnm : Vec Ideal S512 .f32) (gnw bw : Vec Ideal S256 .f32)
  (w : Vec Ideal S1024x1024 .f32)

theorem cut (b : Fin 8) (q : Fin 2048) (h : Fin 4) (d : Fin 64) :
    idx_main_v12 (ix4 b q h d) = (ix3 b q ⟨64 * h.val + d.val, by omega⟩ : S8x2048x256.Idx) := by
  funext z; apply Fin.ext; fin_cases z
  · show (((b.val * 2048 + q.val) * 4 + h.val) * 64 + d.val) / 524288 = b.val; omega
  · show (((b.val * 2048 + q.val) * 4 + h.val) * 64 + d.val) / 256 % 2048 = q.val; omega
  · show (((b.val * 2048 + q.val) * 4 + h.val) * 64 + d.val) % 256 = 64 * h.val + d.val; omega

theorem join (b : Fin 8) (q : Fin 2048) (l : Fin 256) :
    idx_main_v27 (ix3 b q l) = (ix4 b q ⟨l.val / 64, by omega⟩ ⟨l.val % 64, by omega⟩ : S8x2048x4x64.Idx) := by
  funext z; apply Fin.ext; fin_cases z
  · show ((b.val * 2048 + q.val) * 256 + l.val) / 524288 = b.val; omega
  · show ((b.val * 2048 + q.val) * 256 + l.val) / 256 % 2048 = q.val; omega
  · show ((b.val * 2048 + q.val) * 256 + l.val) / 64 % 4 = l.val / 64; omega
  · show ((b.val * 2048 + q.val) * 256 + l.val) % 64 = l.val % 64; omega

theorem whole (b : Fin 8) (q : Fin 2048) (l : Fin 256) : idx_main_v12 (idx_main_v27 (ix3 b q l)) = (ix3 b q l : S8x2048x256.Idx) := by
  rw [join, cut]
  exact congrArg (ix3 b q) (Fin.ext (Nat.div_add_mod l.val 64))

theorem head (b : Fin 8) (q : Fin 2048) (l : Fin 256) (d : Fin 64) :
    idx_main_v12 (idx_main_v15 (idx_main_v16 (idx_main_v22 (idx_main_v27 (ix3 b q l)))) d) = (ix3 b q (inHead l d) : S8x2048x256.Idx) := by
  have e : idx_main_v15 (idx_main_v16 (idx_main_v22 (idx_main_v27 (ix3 b q l)))) d = (ix4 b q ⟨l.val / 64, by omega⟩ d : S8x2048x4x64.Idx) := by
    rw [join]; funext z; fin_cases z <;> rfl
  rw [e, cut]

theorem gain (b : Fin 8) (q : Fin 2048) (l : Fin 256) : idx_main_v13 (idx_main_v24 (idx_main_v25 (idx_main_v27 (ix3 b q l)))) = (ix1 l : S256.Idx) := by
  rw [join]; funext z; apply Fin.ext; fin_cases z
  show l.val / 64 * 64 + l.val % 64 = l.val; omega

theorem ref_hg (b : Fin 8) (q : Fin 2048) (l : Fin 256) :
    val_main_v29 (F := Ideal) oh gh gnh (ix3 b q l)
      = hgRow (fun k => oh (ix3 b q k)) (fun k => gh (ix3 b q k)) (fun k => gnh (ix1 k)) l := by
  pointwise [val_main_v12_apply, val_main_v13_apply, val_main_v14_apply, val_main_cst_apply, val_main_v15_apply, val_main_v16_apply, val_main_cst_0_apply,
    val_main_v17_apply, val_main_v18_apply, val_main_cst_1_apply, val_main_v19_apply, val_main_v20_apply, val_main_v21_apply, val_main_v22_apply,
    val_main_v23_apply, val_main_v24_apply, val_main_v25_apply, val_main_v26_apply, val_main_v27_apply, val_main_call0_v0_apply,
    val_main_call0_v1_apply, val_main_call0_cst_apply, val_main_call0_v2_apply, val_main_call0_v3_apply, val_main_call0_cst_0_apply,
    val_main_call0_v4_apply, val_main_call0_v5_apply, val_main_v28_apply, val_main_v29_apply]
  simp only [whole, head, gain]
  rfl

theorem join_skip (b : Fin 8) (q : Fin 2048) (l : Fin 512) :
    idx_main_v37 (ix3 b q l) = (ix4 b q ⟨l.val / 64, by omega⟩ ⟨l.val % 64, by omega⟩ : S8x2048x8x64.Idx) := by
  funext z; apply Fin.ext; fin_cases z
  · show ((b.val * 2048 + q.val) * 512 + l.val) / 1048576 = b.val; omega
  · show ((b.val * 2048 + q.val) * 512 + l.val) / 512 % 2048 = q.val; omega
  · show ((b.val * 2048 + q.val) * 512 + l.val) / 64 % 8 = l.val / 64; omega
  · show ((b.val * 2048 + q.val) * 512 + l.val) % 64 = l.val % 64; omega

theorem whole_skip (b : Fin 8) (q : Fin 2048) (l : Fin 512) : idx_main_v30 (idx_main_v37 (ix3 b q l)) = (ix3 b q l : S8x2048x512.Idx) := by
  rw [join_skip]; funext z; apply Fin.ext; fin_cases z
  · show (((b.val * 2048 + q.val) * 8 + l.val / 64) * 64 + l.val % 64) / 1048576 = b.val; omega
  · show (((b.val * 2048 + q.val) * 8 + l.val / 64) * 64 + l.val % 64) / 512 % 2048 = q.val; omega
  · show (((b.val * 2048 + q.val) * 8 + l.val / 64) * 64 + l.val % 64) % 512 = l.val; omega

theorem join_group (b : Fin 8) (q : Fin 2048) (l : Fin 512) :
    idx_main_v54 (ix3 b q l) = (ix4 b q ⟨l.val / 256, by omega⟩ ⟨l.val % 256, by omega⟩ : S8x2048x2x256.Idx) := by
  funext z; apply Fin.ext; fin_cases z
  · show ((b.val * 2048 + q.val) * 512 + l.val) / 1048576 = b.val; omega
  · show ((b.val * 2048 + q.val) * 512 + l.val) / 512 % 2048 = q.val; omega
  · show ((b.val * 2048 + q.val) * 512 + l.val) / 256 % 2 = l.val / 256; omega
  · show ((b.val * 2048 + q.val) * 512 + l.val) % 256 = l.val % 256; omega

theorem cut_group (b : Fin 8) (q : Fin 2048) (a : Fin 2) (d : Fin 256) :
    idx_main_v39 (ix4 b q a d) = (ix3 b q ⟨256 * a.val + d.val, by omega⟩ : S8x2048x512.Idx) := by
  funext z; apply Fin.ext; fin_cases z
  · show (((b.val * 2048 + q.val) * 2 + a.val) * 256 + d.val) / 1048576 = b.val; omega
  · show (((b.val * 2048 + q.val) * 2 + a.val) * 256 + d.val) / 512 % 2048 = q.val; omega
  · show (((b.val * 2048 + q.val) * 2 + a.val) * 256 + d.val) % 512 = 256 * a.val + d.val; omega

theorem ref_skip (b : Fin 8) (q : Fin 2048) (l : Fin 512) :
    val_main_v38 (F := Ideal) om mx z D (ix3 b q l)
      = skip (fun k => om (ix3 b q k)) (fun k => mx (ix3 b q k)) (fun k => z (ix3 b q k)) (fun k => D (ix1 ⟨k.val / 64, by omega⟩)) l := by
  pointwise [val_main_v30_apply, val_main_v31_apply, val_main_v32_apply, val_main_v33_apply, val_main_v34_apply, val_main_v35_apply, val_main_v36_apply,
    val_main_v37_apply, val_main_v38_apply]
  have e : idx_main_v31 (idx_main_v33 (idx_main_v34 (idx_main_v37 (ix3 b q l)))) = (ix1 ⟨l.val / 64, by omega⟩ : S8.Idx) := by
    rw [join_skip]; funext z; fin_cases z; rfl
  have e2 : idx_main_v32 (idx_main_v37 (ix3 b q l)) = (ix3 b q l : S8x2048x512.Idx) := whole_skip b q l
  simp only [e, e2, whole_skip]
  rfl

theorem ref_mb (b : Fin 8) (q : Fin 2048) (l : Fin 512) :
    val_main_v54 (F := Ideal) om mx z D gnm (ix3 b q l)
      = mbRow (fun k => val_main_v38 (F := Ideal) om mx z D (ix3 b q k)) (fun k => gnm (ix1 k)) l := by
  pointwise [val_main_v39_apply, val_main_v40_apply, val_main_v41_apply, val_main_cst_2_apply, val_main_v42_apply, val_main_v43_apply, val_main_cst_3_apply,
    val_main_v44_apply, val_main_v45_apply, val_main_cst_4_apply, val_main_v46_apply, val_main_v47_apply, val_main_v48_apply, val_main_v49_apply,
    val_main_v50_apply, val_main_v51_apply, val_main_v52_apply, val_main_v53_apply, val_main_v54_apply]
  have e : idx_main_v39 (idx_main_v54 (ix3 b q l)) = (ix3 b q l : S8x2048x512.Idx) := by
    rw [join_group, cut_group]
    exact congrArg (ix3 b q) (Fin.ext (Nat.div_add_mod l.val 256))
  have e2 (j : Fin 256) : idx_main_v39 (idx_main_v42 (idx_main_v43 (idx_main_v49 (idx_main_v54 (ix3 b q l)))) j)
      = (ix3 b q ⟨256 * (l.val / 256) + j.val, by omega⟩ : S8x2048x512.Idx) := by
    have e' : idx_main_v42 (idx_main_v43 (idx_main_v49 (idx_main_v54 (ix3 b q l)))) j = (ix4 b q ⟨l.val / 256, by omega⟩ j : S8x2048x2x256.Idx) := by
      rw [join_group]; funext z; fin_cases z <;> rfl
    rw [e', cut_group]
  have e3 : idx_main_v40 (idx_main_v51 (idx_main_v52 (idx_main_v54 (ix3 b q l)))) = (ix1 l : S512.Idx) := by
    rw [join_group]; funext z; apply Fin.ext; fin_cases z
    show l.val / 256 * 256 + l.val % 256 = l.val; omega
  simp only [e, e2, e3]
  rfl

theorem ref_rw (b : Fin 8) (q : Fin 2048) (l : Fin 256) :
    val_main_v84 (F := Ideal) ow gw bv gnw bw (ix3 b q l)
      = rwRow (fun k => ow (ix3 b q k)) (fun k => gw (ix3 b q k)) (fun k => bv (ix3 b q k)) (fun k => gnw (ix1 k)) (fun k => bw (ix1 k)) l := by
  pointwise [val_main_v55_apply, val_main_cst_5_apply, val_main_v56_apply, val_main_v57_apply, val_main_cst_6_apply, val_main_v58_apply, val_main_v59_apply,
    val_main_v60_apply, val_main_v61_apply, val_main_v62_apply, val_main_cst_7_apply, val_main_v63_apply, val_main_v64_apply, val_main_cst_8_apply,
    val_main_v65_apply, val_main_v66_apply, val_main_v67_apply, val_main_v68_apply, val_main_cst_9_apply, val_main_v69_apply, val_main_v70_apply,
    val_main_v71_apply, val_main_v72_apply, val_main_v73_apply, val_main_v74_apply, val_main_v75_apply, val_main_v76_apply, val_main_v77_apply,
    val_main_v78_apply, val_main_v79_apply, val_main_v80_apply, val_main_v81_apply, val_main_v82_apply, val_main_v83_apply, val_main_v84_apply]
  have e : idx_main_v55 (idx_main_v82 (ix3 b q l)) = (ix3 b q l : S8x2048x256.Idx) := whole b q l
  have e1 (d : Fin 64) : idx_main_v55 (idx_main_v56 (idx_main_v57 (idx_main_v67 (idx_main_v82 (ix3 b q l)))) d)
      = (ix3 b q (inHead l d) : S8x2048x256.Idx) := head b q l d
  have e2 (d : Fin 64) : idx_main_v55 (idx_main_v63 (idx_main_v64 (idx_main_v72 (idx_main_v82 (ix3 b q l)))) d)
      = (ix3 b q (inHead l d) : S8x2048x256.Idx) := head b q l d
  have e3 (d d' : Fin 64) : idx_main_v55 (idx_main_v56 (idx_main_v57 (idx_main_v60 (idx_main_v63 (idx_main_v64 (idx_main_v72 (idx_main_v82
      (ix3 b q l)))) d))) d') = (ix3 b q (inHead l d') : S8x2048x256.Idx) := head b q l d'
  have e4 : idx_main_v74 (idx_main_v75 (idx_main_v76 (idx_main_v82 (ix3 b q l)))) = (ix1 l : S256.Idx) := gain b q l
  have e5 : idx_main_v78 (idx_main_v79 (idx_main_v80 (idx_main_v82 (ix3 b q l)))) = (ix1 l : S256.Idx) := gain b q l
  simp only [e, e1, e2, e3, e4, e5, rwRow, centred, headMean, inHead_inHead]

theorem ref_out (b : Fin 8) (q : Fin 2048) (n : Fin 1024) :
    val_main_v89 (F := Ideal) x md oh gh om mx z ow gw bv gnh D gnm gnw bw w (ix3 b q n)
      = outRow (x (ix3 b q n)) (md (ix2 b (sixth 2 n))) (fun k => oh (ix3 b q k)) (fun k => gh (ix3 b q k)) (fun k => gnh (ix1 k))
          (fun k => om (ix3 b q k)) (fun k => mx (ix3 b q k)) (fun k => z (ix3 b q k)) (fun k => D (ix1 ⟨k.val / 64, by omega⟩)) (fun k => gnm (ix1 k))
          (fun k => ow (ix3 b q k)) (fun k => gw (ix3 b q k)) (fun k => bv (ix3 b q k)) (fun k => gnw (ix1 k)) (fun k => bw (ix1 k))
          (fun k => w (ix2 k n)) := by
  pointwise [val_main_v89_apply, val_main_v88_apply, val_main_v87_apply, val_main_v86_apply, val_main_v85, val_main_v8_apply, val_main_v2_apply]
  have e : idx_main_v2 (idx_main_v8 (idx_main_v87 (ix3 b q n))) = (ix2 b (sixth 2 n) : S8x6144.Idx) := by
    funext z; apply Fin.ext; fin_cases z <;> first | rfl | exact Nat.add_comm _ _
  have er (k : Fin 1024) : ridx_main_v86 (ix3 b q n) k = (ix2 k n : S1024x1024.Idx) := by funext z; fin_cases z <;> rfl
  rw [e, sum_pieces]
  unfold outRow mixed
  refine congrArg (fun v : EReal => x (ix3 b q n) + md (ix2 b (sixth 2 n)) * v) ?_
  refine congrArg₂ (· + ·) (congrArg₂ (· + ·) ?_ ?_) ?_
  · refine Finset.sum_congr rfl fun k _ => ?_
    rw [dif_pos k.isLt, er, ref_hg]
  · refine Finset.sum_congr rfl fun k _ => ?_
    rw [dif_neg (show ¬ 256 + k.val < 256 by omega), dif_pos (show 256 + k.val - 256 < 512 by omega), er]
    have ek : (⟨256 + k.val - 256, by omega⟩ : Fin 512) = k := Fin.ext (by show 256 + k.val - 256 = k.val; omega)
    rw [ek, ref_mb]
    simp only [ref_skip]
  · refine Finset.sum_congr rfl fun k _ => ?_
    rw [dif_neg (show ¬ 768 + k.val < 256 by omega), dif_neg (show ¬ 768 + k.val - 256 < 512 by omega), er]
    have ek : (⟨768 + k.val - 256 - 512, by omega⟩ : Fin 256) = k := Fin.ext (by show 768 + k.val - 256 - 512 = k.val; omega)
    rw [ek, ref_rw]

end Cert.OutRef
end
-- ==== Proof.OutProj.Value.lean ====
/-
  The output projection's result, index by index, in its arguments.
-/
module

public import proofs.«01_k».proof.Proof.Gen.OutProjIdeal.Frame
public import proofs.«01_k».proof.Proof.Gen.OutProjIdeal.Value
public import proofs.«01_k».proof.Proof.OutProj.Row
public import proofs.«01_k».proof.Proof.Layer
public import Idealize.ShloMosaic.Lib.Pipeline.ValueKit
public import Idealize.ShloMosaic.Lib.Claim

@[expose] public section

set_option maxRecDepth 16384

noncomputable section

namespace Cert.OutValue

open Idealize.ShloMosaic Idealize.ShloMosaic.TcCoe Idealize.SL.Sem
open Cert.OutProjIdeal Cert.OutProjIdeal.Gen Cert.OutRow Cert.Layer

variable (m : (ℓ : Loc nD τ sig) → Buf (Elt Ideal) ℓ) (ρ : Dev nD → PrngReg)

/-! ## The mask of the heads -/

/-- The body's integer quotient of a lane by 64, rounded down. -/
def quotient (l : Fin 256) : BitVec 32 :=
  Scalar.select
    (IntOp.andi
      (IntOp.cmpi CmpIPredicate.ne
        (IntOp.subi (BitVec.setWidth 32 (IntOp.cmpi CmpIPredicate.sgt (BitVec.ofNat 32 l.val) 0#32))
          (BitVec.setWidth 32 (IntOp.cmpi CmpIPredicate.slt (BitVec.ofNat 32 l.val) 0#32)))
        (Scalar.subi (Scalar.extui (Scalar.cmpi CmpIPredicate.sgt 64#32 0#32)) (Scalar.extui (Scalar.cmpi CmpIPredicate.slt 64#32 0#32))))
      (IntOp.cmpi CmpIPredicate.ne (IntOp.remsi ArithUnit.vector (BitVec.ofNat 32 l.val) 64#32) 0#32))
    (IntOp.subi (IntOp.divsi ArithUnit.vector (BitVec.ofNat 32 l.val) 64#32) 1#32)
    (IntOp.divsi ArithUnit.vector (BitVec.ofNat 32 l.val) 64#32)

theorem quotient_eq : ∀ l : Fin 256, quotient l = BitVec.ofNat 32 (l.val / 64) := by decide +kernel

theorem row_at (k l : Fin 256) : k0_pay4 (ix2 k l) = BitVec.ofNat 32 (k.val / 64) := by
  refine Eq.trans ?_ (quotient_eq k)
  pointwise [k0_pay4]
  rfl
theorem row_at' (k l : Fin 256) : k0_pay13 (iota .tc S256x256 32 [0] iota_S256x256_d0_w32) 64#32 k0_pay12 (ix2 k l) = BitVec.ofNat 32 (k.val / 64) := by
  refine Eq.trans ?_ (quotient_eq k)
  pointwise [k0_pay13, k0_pay12]
  rfl
theorem row_at'' (k l : Fin 256) : k0_pay17 (ix2 k l) = BitVec.ofNat 32 (k.val / 64) := by
  refine Eq.trans ?_ (quotient_eq k)
  pointwise [k0_pay17]
  rfl
theorem col_at (k l : Fin 256) : k0_pay14 (ix2 k l) = BitVec.ofNat 32 (l.val / 64) := by
  refine Eq.trans ?_ (quotient_eq l)
  pointwise [k0_pay14]
  rfl

/-- The mask holds where the two lanes have the same head. -/
theorem pick (k l : Fin 256) (u v : EReal) :
    Scalar.select (IntOp.cmpi CmpIPredicate.eq (BitVec.ofNat 32 (k.val / 64)) (BitVec.ofNat 32 (l.val / 64))) u v
      = if k.val / 64 = l.val / 64 then u else v := by
  by_cases h : k.val / 64 = l.val / 64
  · rw [h, if_pos rfl]
    simp [Scalar.select, IntOp.cmpi]
  · have hb : BitVec.ofNat 32 (k.val / 64) ≠ BitVec.ofNat 32 (l.val / 64) := fun e => h (by
      have := congrArg BitVec.toNat e
      simp only [BitVec.toNat_ofNat] at this
      omega)
    rw [if_neg h]
    have hc : (BitVec.ofNat 32 (k.val / 64) == BitVec.ofNat 32 (l.val / 64)) = false := beq_eq_false_iff_ne.2 hb
    simp [Scalar.select, IntOp.cmpi, hc]

/-- The masked sum, times a sixty-fourth, is the head's mean. -/
theorem mean_eq (f : Fin 256 → EReal) (l : Fin 256) :
    (∑ k, Scalar.select (IntOp.cmpi CmpIPredicate.eq (BitVec.ofNat 32 (k.val / 64)) (BitVec.ofNat 32 (l.val / 64))) (f k) 0)
      * Ideal.ofBits FTy.f32 1015021568#32 = headMean f l := by
  simp only [pick]
  rw [sum_masked, mul_inv]
  rfl

/-! ## The body's vectors, index by index -/

theorem hg_at (o : Vec Ideal S1x512x256 .f32) (g : Vec Ideal S1x256 .f32) (gate : Vec Ideal S1x512x256 .f32) (r : Fin 512) (l : Fin 256) :
    k0_pay7 (k0_pay2 o) (k0_pay3 o) k0_pay4 (iota .tc S256x256 32 [1] iota_S256x256_d1_w32) 64#32 k0_pay5 k0_pay6
        (Scalar.subi (Scalar.extui (Scalar.cmpi .sgt 64#32 0#32)) (Scalar.extui (Scalar.cmpi .slt 64#32 0#32))) g gate (ix2 r l)
      = hgRow (fun k => o (ix3 0 r k)) (fun k => gate (ix3 0 r k)) (fun k => g (ix2 0 k)) l := by
  have e := mean_eq (fun k => o (ix3 0 r k) * o (ix3 0 r k)) l
  unfold hgRow
  rw [← e]
  simp only [← quotient_eq l]
  pointwise [k0_pay7, k0_pay5, k0_pay6, k0_pay2, k0_pay3, row_at]
  simp only [zero_sub, quotient]

theorem centred_at (x : FVec Ideal S512x256 .f32) (a b : IVec S256x256 32) (ha : ∀ k l, a (ix2 k l) = BitVec.ofNat 32 (k.val / 64))
    (hb : ∀ k l, b (ix2 k l) = BitVec.ofNat 32 (l.val / 64)) (r : Fin 512) (l : Fin 256) :
    k0_pay15 x a b (ix2 r l) = centred (fun k => x (ix2 r k)) l := by
  unfold centred
  rw [← mean_eq]
  pointwise [k0_pay15]
  simp only [ha, hb]

theorem rw_at (c : FVec Ideal S512x256 .f32) (d : FVec Ideal S512x256 .f32) (g b : Vec Ideal S1x256 .f32) (bv gate : Vec Ideal S1x512x256 .f32)
    (r : Fin 512) (l : Fin 256) :
    k0_pay20 c d k0_pay17 (iota .tc S256x256 32 [1] iota_S256x256_d1_w32) 64#32 k0_pay18 k0_pay19 (Scalar.cmpi .sgt 64#32 0#32) g b bv gate (ix2 r l)
      = (c (ix2 r l) * Ideal.rsqrt (headMean (fun k => d (ix2 r k)) l + Ideal.ofBits FTy.f32 0x3A27C5AC#32) * g (ix2 0 l) + b (ix2 0 l)
          + bv (ix3 0 r l)) * gate (ix3 0 r l) := by
  rw [← mean_eq]
  simp only [← quotient_eq l]
  pointwise [k0_pay20, k0_pay18, k0_pay19, row_at'']
  simp only [quotient]

theorem mb_at (o : Vec Ideal S1x512x512 .f32) (D : Vec Ideal S1x512 .f32) (mx z : Vec Ideal S1x512x512 .f32) (g : Vec Ideal S1x512 .f32) (r l : Fin 512) :
    k0_pay10 (k0_pay8 o) (k0_pay9 D) mx z g (ix2 r l)
      = mbRow (skip (fun k => o (ix3 0 r k)) (fun k => mx (ix3 0 r k)) (fun k => z (ix3 0 r k)) (fun k => D (ix2 0 k))) (fun k => g (ix2 0 k)) l := by
  unfold mbRow skip
  pointwise [k0_pay10, k0_pay8, k0_pay9]
  split
  · rename_i h
    have e : l.val / 256 = 0 := by omega
    simp only [e, Nat.mul_zero, Nat.zero_add]
  · rename_i h
    have e : l.val / 256 = 1 := by omega
    have e' : (⟨256 + (l.val - 256), by omega⟩ : Fin 512) = l := Fin.ext (by show 256 + (l.val - 256) = l.val; omega)
    simp only [e, e', Nat.mul_one]

theorem out_at (y : FVec Ideal S512x512 .f32) (c : FVec Ideal S512x256 .f32) (a : FVec Ideal S512x256 .f32) (w0 : Vec Ideal S256x1024 .bf16)
    (w1 : Vec Ideal S512x1024 .bf16) (w2 : Vec Ideal S256x1024 .bf16) (x : Vec Ideal S1x512x1024 .f32) (ga : Vec Ideal S1x1x1024 .f32) (r : Fin 512)
    (n : Fin 1024) :
    k0_pay1 y c (k0_pay21 a) w0 w1 w2 x ga (ix3 0 r n)
      = x (ix3 0 r n) + ga (ix3 0 0 n) * (∑ k, a (ix2 r k) * w0 (ix2 k n) + ∑ k, y (ix2 r k) * w1 (ix2 k n) + ∑ k, c (ix2 r k) * w2 (ix2 k n)) := by
  pointwise [k0_pay1, k0_pay21]

/-! ## The blocks, read in the arguments -/

theorem idx : ∀ t : Fin cfg0.N, win0_0.index t = ![t.val / 4, t.val % 4, 0]
    ∧ win0_1.index t = ![t.val / 4, 0, 2]
    ∧ win0_2.index t = ![t.val / 4, t.val % 4, 0]
    ∧ win0_3.index t = ![t.val / 4, t.val % 4, 0]
    ∧ win0_4.index t = ![t.val / 4, t.val % 4, 0]
    ∧ win0_5.index t = ![t.val / 4, t.val % 4, 0]
    ∧ win0_6.index t = ![t.val / 4, t.val % 4, 0]
    ∧ win0_7.index t = ![t.val / 4, t.val % 4, 0]
    ∧ win0_8.index t = ![t.val / 4, t.val % 4, 0]
    ∧ win0_9.index t = ![t.val / 4, t.val % 4, 0]
    ∧ win0_10.index t = ![0, 0]
    ∧ win0_11.index t = ![0, 0]
    ∧ win0_12.index t = ![0, 0]
    ∧ win0_13.index t = ![0, 0]
    ∧ win0_14.index t = ![0, 0]
    ∧ win0_15.index t = ![0, 0]
    ∧ win0_16.index t = ![t.val / 4, t.val % 4, 0] :=
  (by decide +kernel : ∀ t : Fin grid0.N, _)

theorem lone (x : Vec Ideal S256 .f32) (k : Fin 256) : shapeCast S1x256 x shapeCasts_S256_S1x256 (ix2 0 k) = x (ix1 k) := by pointwise
theorem lone' (x : Vec Ideal S512 .f32) (k : Fin 512) : shapeCast S1x512 x shapeCasts_S512_S1x512 (ix2 0 k) = x (ix1 k) := by pointwise
theorem spread (x : Vec Ideal S8x6144 .f32) (b : Fin 8) (k : Fin 6144) :
    broadcastInDim S8x1x6144 ![0, 2] bcast_S8x6144_S8x1x6144_0_2 x (ix3 b 0 k) = x (ix2 b k) := by pointwise

/-- The Mamba-2 skip's gain, repeated over the lanes of its head. -/
def repeated (x : Vec Ideal S8 .f32) : Vec Ideal S1x512 .f32 :=
  shapeCast S1x512 (shapeCast S512 (broadcastInDim S8x64 ![0] bcast_S8_S8x64_0 x) shapeCasts_S8x64_S512) shapeCasts_S512_S1x512
theorem repeated_eq (x : Vec Ideal S8 .f32) (k : Fin 512) : repeated x (ix2 0 k) = x (ix1 ⟨k.val / 64, by omega⟩) := by
  pointwise [repeated]

theorem entry_mod (c : Dev nD) : V m c main_v0 = broadcastInDim S8x1x6144 ![0, 2] bcast_S8x6144_S8x1x6144_0_2 (m ((c : Thread nD τ).loc main_arg1)) := by
  show StableHlo.after hostOps0 _ _ = _
  after_results <;> rfl
theorem entry_gnh (c : Dev nD) : V m c main_v1 = shapeCast S1x256 (m ((c : Thread nD τ).loc main_arg10)) shapeCasts_S256_S1x256 := by
  show StableHlo.after hostOps0 _ _ = _
  after_results <;> rfl
theorem entry_D (c : Dev nD) : V m c main_v4 = repeated (m ((c : Thread nD τ).loc main_arg11)) := by
  show StableHlo.after hostOps0 _ _ = _
  after_results <;> rfl
theorem entry_gnm (c : Dev nD) : V m c main_v5 = shapeCast S1x512 (m ((c : Thread nD τ).loc main_arg12)) shapeCasts_S512_S1x512 := by
  show StableHlo.after hostOps0 _ _ = _
  after_results <;> rfl
theorem entry_gnw (c : Dev nD) : V m c main_v6 = shapeCast S1x256 (m ((c : Thread nD τ).loc main_arg13)) shapeCasts_S256_S1x256 := by
  show StableHlo.after hostOps0 _ _ = _
  after_results <;> rfl
theorem entry_bw (c : Dev nD) : V m c main_v7 = shapeCast S1x256 (m ((c : Thread nD τ).loc main_arg14)) shapeCasts_S256_S1x256 := by
  show StableHlo.after hostOps0 _ _ = _
  after_results <;> rfl
theorem entry_w (c : Dev nD) : V m c main_v8 = m ((c : Thread nD τ).loc main_arg15) := by
  show StableHlo.after hostOps0 _ _ = _
  after_results <;> rfl

section
variable (c : Dev nD) (t : Fin cfg0.N) (b : Fin 8) (i : Fin 4)

theorem read_x (hb : b.val = t.val / 4) (hi : i.val = t.val % 4) (r : Fin 512) (k : Fin 1024) :
    iblk m c 0 t (ix3 0 r k) = m ((c : Thread nD τ).loc main_arg0) (ix3 b (rowOf i r) k) := by
  show V m c main_arg0 (((cfg0.win 0).blk t).view.emb (ix3 0 r k)) = _
  have e : ((cfg0.win 0).blk t).view.emb (ix3 0 r k) = (ix3 b (rowOf i r) k : S8x2048x1024.Idx) := by blk_ext [idx t, rowOf, hb, hi]
  rw [V_main_arg0, e]
theorem read_ga (hb : b.val = t.val / 4) (k : Fin 1024) : iblk m c 1 t (ix3 0 0 k) = m ((c : Thread nD τ).loc main_arg1) (ix2 b (sixth 2 k)) := by
  show V m c main_v0 (((cfg0.win 1).blk t).view.emb (ix3 0 0 k)) = _
  have e : ((cfg0.win 1).blk t).view.emb (ix3 0 0 k) = (ix3 b 0 (sixth 2 k) : S8x1x6144.Idx) := by blk_ext [idx t, sixth, hb]
  rw [entry_mod, e]; exact spread _ _ _
theorem read_2 (hb : b.val = t.val / 4) (hi : i.val = t.val % 4) (r : Fin 512) (k : Fin 256) :
    iblk m c 2 t (ix3 0 r k) = m ((c : Thread nD τ).loc main_arg2) (ix3 b (rowOf i r) k) := by
  show V m c main_arg2 (((cfg0.win 2).blk t).view.emb (ix3 0 r k)) = _
  have e : ((cfg0.win 2).blk t).view.emb (ix3 0 r k) = (ix3 b (rowOf i r) k : S8x2048x256.Idx) := by blk_ext [idx t, rowOf, hb, hi]
  rw [V_main_arg2, e]
theorem read_3 (hb : b.val = t.val / 4) (hi : i.val = t.val % 4) (r : Fin 512) (k : Fin 256) :
    iblk m c 3 t (ix3 0 r k) = m ((c : Thread nD τ).loc main_arg3) (ix3 b (rowOf i r) k) := by
  show V m c main_arg3 (((cfg0.win 3).blk t).view.emb (ix3 0 r k)) = _
  have e : ((cfg0.win 3).blk t).view.emb (ix3 0 r k) = (ix3 b (rowOf i r) k : S8x2048x256.Idx) := by blk_ext [idx t, rowOf, hb, hi]
  rw [V_main_arg3, e]
theorem read_4 (hb : b.val = t.val / 4) (hi : i.val = t.val % 4) (r : Fin 512) (k : Fin 512) :
    iblk m c 4 t (ix3 0 r k) = m ((c : Thread nD τ).loc main_arg4) (ix3 b (rowOf i r) k) := by
  show V m c main_arg4 (((cfg0.win 4).blk t).view.emb (ix3 0 r k)) = _
  have e : ((cfg0.win 4).blk t).view.emb (ix3 0 r k) = (ix3 b (rowOf i r) k : S8x2048x512.Idx) := by blk_ext [idx t, rowOf, hb, hi]
  rw [V_main_arg4, e]
theorem read_5 (hb : b.val = t.val / 4) (hi : i.val = t.val % 4) (r : Fin 512) (k : Fin 512) :
    iblk m c 5 t (ix3 0 r k) = m ((c : Thread nD τ).loc main_arg5) (ix3 b (rowOf i r) k) := by
  show V m c main_arg5 (((cfg0.win 5).blk t).view.emb (ix3 0 r k)) = _
  have e : ((cfg0.win 5).blk t).view.emb (ix3 0 r k) = (ix3 b (rowOf i r) k : S8x2048x512.Idx) := by blk_ext [idx t, rowOf, hb, hi]
  rw [V_main_arg5, e]
theorem read_6 (hb : b.val = t.val / 4) (hi : i.val = t.val % 4) (r : Fin 512) (k : Fin 512) :
    iblk m c 6 t (ix3 0 r k) = m ((c : Thread nD τ).loc main_arg6) (ix3 b (rowOf i r) k) := by
  show V m c main_arg6 (((cfg0.win 6).blk t).view.emb (ix3 0 r k)) = _
  have e : ((cfg0.win 6).blk t).view.emb (ix3 0 r k) = (ix3 b (rowOf i r) k : S8x2048x512.Idx) := by blk_ext [idx t, rowOf, hb, hi]
  rw [V_main_arg6, e]
theorem read_7 (hb : b.val = t.val / 4) (hi : i.val = t.val % 4) (r : Fin 512) (k : Fin 256) :
    iblk m c 7 t (ix3 0 r k) = m ((c : Thread nD τ).loc main_arg7) (ix3 b (rowOf i r) k) := by
  show V m c main_arg7 (((cfg0.win 7).blk t).view.emb (ix3 0 r k)) = _
  have e : ((cfg0.win 7).blk t).view.emb (ix3 0 r k) = (ix3 b (rowOf i r) k : S8x2048x256.Idx) := by blk_ext [idx t, rowOf, hb, hi]
  rw [V_main_arg7, e]
theorem read_8 (hb : b.val = t.val / 4) (hi : i.val = t.val % 4) (r : Fin 512) (k : Fin 256) :
    iblk m c 8 t (ix3 0 r k) = m ((c : Thread nD τ).loc main_arg8) (ix3 b (rowOf i r) k) := by
  show V m c main_arg8 (((cfg0.win 8).blk t).view.emb (ix3 0 r k)) = _
  have e : ((cfg0.win 8).blk t).view.emb (ix3 0 r k) = (ix3 b (rowOf i r) k : S8x2048x256.Idx) := by blk_ext [idx t, rowOf, hb, hi]
  rw [V_main_arg8, e]
theorem read_9 (hb : b.val = t.val / 4) (hi : i.val = t.val % 4) (r : Fin 512) (k : Fin 256) :
    iblk m c 9 t (ix3 0 r k) = m ((c : Thread nD τ).loc main_arg9) (ix3 b (rowOf i r) k) := by
  show V m c main_arg9 (((cfg0.win 9).blk t).view.emb (ix3 0 r k)) = _
  have e : ((cfg0.win 9).blk t).view.emb (ix3 0 r k) = (ix3 b (rowOf i r) k : S8x2048x256.Idx) := by blk_ext [idx t, rowOf, hb, hi]
  rw [V_main_arg9, e]
theorem read_10 (k : Fin 256) : iblk m c 10 t (ix2 0 k) = m ((c : Thread nD τ).loc main_arg10) (ix1 k) := by
  show V m c main_v1 (((cfg0.win 10).blk t).view.emb (ix2 0 k)) = _
  have e : ((cfg0.win 10).blk t).view.emb (ix2 0 k) = (ix2 0 k : S1x256.Idx) := by blk_ext [idx t]
  rw [entry_gnh, e]; exact lone _ _
theorem read_11 (k : Fin 512) : iblk m c 11 t (ix2 0 k) = m ((c : Thread nD τ).loc main_arg11) (ix1 ⟨k.val / 64, by omega⟩) := by
  show V m c main_v4 (((cfg0.win 11).blk t).view.emb (ix2 0 k)) = _
  have e : ((cfg0.win 11).blk t).view.emb (ix2 0 k) = (ix2 0 k : S1x512.Idx) := by blk_ext [idx t]
  rw [entry_D, e]; exact repeated_eq _ _
theorem read_12 (k : Fin 512) : iblk m c 12 t (ix2 0 k) = m ((c : Thread nD τ).loc main_arg12) (ix1 k) := by
  show V m c main_v5 (((cfg0.win 12).blk t).view.emb (ix2 0 k)) = _
  have e : ((cfg0.win 12).blk t).view.emb (ix2 0 k) = (ix2 0 k : S1x512.Idx) := by blk_ext [idx t]
  rw [entry_gnm, e]; exact lone' _ _
theorem read_13 (k : Fin 256) : iblk m c 13 t (ix2 0 k) = m ((c : Thread nD τ).loc main_arg13) (ix1 k) := by
  show V m c main_v6 (((cfg0.win 13).blk t).view.emb (ix2 0 k)) = _
  have e : ((cfg0.win 13).blk t).view.emb (ix2 0 k) = (ix2 0 k : S1x256.Idx) := by blk_ext [idx t]
  rw [entry_gnw, e]; exact lone _ _
theorem read_14 (k : Fin 256) : iblk m c 14 t (ix2 0 k) = m ((c : Thread nD τ).loc main_arg14) (ix1 k) := by
  show V m c main_v7 (((cfg0.win 14).blk t).view.emb (ix2 0 k)) = _
  have e : ((cfg0.win 14).blk t).view.emb (ix2 0 k) = (ix2 0 k : S1x256.Idx) := by blk_ext [idx t]
  rw [entry_bw, e]; exact lone _ _
theorem read_w (k n : Fin 1024) : iblk m c 15 t (ix2 k n) = m ((c : Thread nD τ).loc main_arg15) (ix2 k n) := by
  show V m c main_v8 (((cfg0.win 15).blk t).view.emb (ix2 k n)) = _
  have e : ((cfg0.win 15).blk t).view.emb (ix2 k n) = (ix2 k n : S1024x1024.Idx) := by blk_ext [idx t]
  rw [entry_w, e]
end

/-! ## The result -/

theorem block_idx (y : S1x512x1024.Idx) : ∃ r n, y = (ix3 0 r n : S1x512x1024.Idx) :=
  ⟨y 1, y 2, by funext q; fin_cases q; exacts [Subsingleton.elim (α := Fin 1) _ _, rfl, rfl]⟩

theorem piece0 (w : Vec Ideal S1024x1024 .bf16) (k : Fin 256) (n : Fin 1024) : View.ld w r0_4 (ix2 k n) = w (ix2 ⟨k.val, by omega⟩ n) := by
  refine congrArg w (funext fun z => Fin.ext ?_)
  fin_cases z <;> simp [Rect.idx_unit_val]
theorem piece1 (w : Vec Ideal S1024x1024 .bf16) (k : Fin 512) (n : Fin 1024) : View.ld w r0_5 (ix2 k n) = w (ix2 ⟨256 + k.val, by omega⟩ n) := by
  refine congrArg w (funext fun z => Fin.ext ?_)
  fin_cases z <;> simp [Rect.idx_unit_val]
theorem piece2 (w : Vec Ideal S1024x1024 .bf16) (k : Fin 256) (n : Fin 1024) : View.ld w r0_6 (ix2 k n) = w (ix2 ⟨768 + k.val, by omega⟩ n) := by
  refine congrArg w (funext fun z => Fin.ext ?_)
  fin_cases z <;> simp [Rect.idx_unit_val]

theorem copied (o : Vec Ideal S1x512x256 .f32) (r : Fin 512) (k : Fin 256) : k0_pay11 o (ix2 r k) = o (ix3 0 r k) := by
  pointwise [k0_pay11]

theorem out_row (x : Vec Ideal S1x512x1024 .f32) (ga : Vec Ideal S1x1x1024 .f32) (oh gh : Vec Ideal S1x512x256 .f32) (om mx z : Vec Ideal S1x512x512 .f32)
    (ow gw bv : Vec Ideal S1x512x256 .f32) (gnh : Vec Ideal S1x256 .f32) (D gnm : Vec Ideal S1x512 .f32) (gnw bw : Vec Ideal S1x256 .f32)
    (w : Vec Ideal S1024x1024 .bf16) (r : Fin 512) (n : Fin 1024) :
    out0_16 x ga oh gh om mx z ow gw bv gnh D gnm gnw bw w (ix3 0 r n)
      = outRow (x (ix3 0 r n)) (ga (ix3 0 0 n)) (fun k => oh (ix3 0 r k)) (fun k => gh (ix3 0 r k)) (fun k => gnh (ix2 0 k))
          (fun k => om (ix3 0 r k)) (fun k => mx (ix3 0 r k)) (fun k => z (ix3 0 r k)) (fun k => D (ix2 0 k)) (fun k => gnm (ix2 0 k))
          (fun k => ow (ix3 0 r k)) (fun k => gw (ix3 0 r k)) (fun k => bv (ix3 0 r k)) (fun k => gnw (ix2 0 k)) (fun k => bw (ix2 0 k))
          (fun k => w (ix2 k n)) := by
  unfold_out out0_16
  frame_out
  refine (out_at _ _ _ _ _ _ _ _ r n).trans ?_
  unfold outRow mixed
  refine congrArg (fun v : EReal => x (ix3 0 r n) + ga (ix3 0 0 n) * v) ?_
  refine congrArg₂ (· + ·) (congrArg₂ (· + ·) ?_ ?_) ?_
  · refine Finset.sum_congr rfl fun k _ => ?_
    rw [hg_at, piece0]
  · refine Finset.sum_congr rfl fun k _ => ?_
    rw [mb_at, piece1]
  · refine Finset.sum_congr rfl fun k _ => ?_
    rw [rw_at, piece2]
    simp only [k0_pay16, mulf_apply, centred_at _ _ _ row_at' col_at, copied, rwRow]
    rfl

theorem final (c : Dev nD) : (dats m 0 c).arrAt 16 (cfgs 0).N = fun y : S8x2048x1024.Idx =>
    outRow (m ((c : Thread nD τ).loc main_arg0) (ix3 (y 0) (y 1) (y 2))) (m ((c : Thread nD τ).loc main_arg1) (ix2 (y 0) (sixth 2 (y 2))))
      (fun k => m ((c : Thread nD τ).loc main_arg2) (ix3 (y 0) (y 1) k))
      (fun k => m ((c : Thread nD τ).loc main_arg3) (ix3 (y 0) (y 1) k)) (fun k => m ((c : Thread nD τ).loc main_arg10) (ix1 k))
      (fun k => m ((c : Thread nD τ).loc main_arg4) (ix3 (y 0) (y 1) k))
      (fun k => m ((c : Thread nD τ).loc main_arg5) (ix3 (y 0) (y 1) k))
      (fun k => m ((c : Thread nD τ).loc main_arg6) (ix3 (y 0) (y 1) k))
      (fun k => m ((c : Thread nD τ).loc main_arg11) (ix1 ⟨k.val / 64, by omega⟩)) (fun k => m ((c : Thread nD τ).loc main_arg12) (ix1 k))
      (fun k => m ((c : Thread nD τ).loc main_arg7) (ix3 (y 0) (y 1) k))
      (fun k => m ((c : Thread nD τ).loc main_arg8) (ix3 (y 0) (y 1) k))
      (fun k => m ((c : Thread nD τ).loc main_arg9) (ix3 (y 0) (y 1) k))
      (fun k => m ((c : Thread nD τ).loc main_arg13) (ix1 k)) (fun k => m ((c : Thread nD τ).loc main_arg14) (ix1 k))
      (fun k => m ((c : Thread nD τ).loc main_arg15) (ix2 k (y 2))) := by
  refine (dats m 0 c).arrAt_eq_of_covers 16 _ (by decide +kernel) fun t _ y => ?_
  obtain ⟨r, n, rfl⟩ := block_idx y
  have hN : t.val < 32 := t.isLt
  have e : ((cfg0.win 16).blk t).view.emb (ix3 0 r n) = (ix3 (⟨t.val / 4, by omega⟩ : Fin 8) (rowOf ⟨t.val % 4, by omega⟩ r) n : S8x2048x1024.Idx) := by
    blk_ext [idx t, rowOf]
  rw [e, after0_16]
  have e' : (cfg0.win 16).xinj (cfg0.grid.coords t) (ix3 0 r n) = (ix3 0 r n : S1x512x1024.Idx) := by
    funext z; fin_cases z <;> rfl
  rw [cast_eq]
  refine (congrArg (out0_16 (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (iblk m c 13 t) (iblk m c 14 t) (iblk m c 15 t)) e').trans ((out_row _ _ _ _ _ _ _ _ _ _ _ _ _ _ _ _ r n).trans ?_)
  simp only [read_x m c t ⟨t.val / 4, by omega⟩ ⟨t.val % 4, by omega⟩ rfl rfl, read_ga m c t ⟨t.val / 4, by omega⟩ rfl,
    read_2 m c t ⟨t.val / 4, by omega⟩ ⟨t.val % 4, by omega⟩ rfl rfl, read_3 m c t ⟨t.val / 4, by omega⟩ ⟨t.val % 4, by omega⟩ rfl rfl, read_4 m c t ⟨t.val / 4, by omega⟩ ⟨t.val % 4, by omega⟩ rfl rfl, read_5 m c t ⟨t.val / 4, by omega⟩ ⟨t.val % 4, by omega⟩ rfl rfl, read_6 m c t ⟨t.val / 4, by omega⟩ ⟨t.val % 4, by omega⟩ rfl rfl, read_7 m c t ⟨t.val / 4, by omega⟩ ⟨t.val % 4, by omega⟩ rfl rfl, read_8 m c t ⟨t.val / 4, by omega⟩ ⟨t.val % 4, by omega⟩ rfl rfl, read_9 m c t ⟨t.val / 4, by omega⟩ ⟨t.val % 4, by omega⟩ rfl rfl,
    read_10, read_11, read_12, read_13, read_14, read_w]
  rfl

end Cert.OutValue
end
-- ==== Proof.OutProj.Claims.lean ====
/-
  The output projection's claims.
-/
module

public import proofs.«01_k».proof.Defs
public import proofs.«01_k».proof.Proof.Gen.OutProj
public import proofs.«01_k».proof.Proof.Gen.OutProj.Frame
public import proofs.«01_k».proof.Proof.Gen.OutProjIdeal
public import proofs.«01_k».proof.Proof.Gen.OutProjReferenceIdeal
public import proofs.«01_k».proof.Proof.OutProj.Reference
public import proofs.«01_k».proof.Proof.OutProj.Value
public import Idealize.ShloMosaic.Adequacy
public import Idealize.ShloMosaic.Init
public import Idealize.ShloMosaic.Lib.Claim

@[expose] public section

set_option maxRecDepth 16384

noncomputable section

namespace Cert.OutValue

open Idealize.ShloMosaic Idealize.ShloMosaic.TcCoe Idealize.SL.Sem

theorem quiescent_bits : Cert.quiescent_OutProj := fun m g _ => Cert.OutProj.Gen.frame m g

theorem quiescent_ideal : Cert.quiescent_OutProjIdeal := fun m g _ => Cert.OutProjIdeal.Gen.frame m g

theorem quiescent_reference : Cert.quiescent_OutProjReferenceIdeal := fun m g _ =>
  (θ_run _ _ _).mono (fun r h => ⟨fun c => (h c).2, sem_eq_zero_of_no_sems (by decide) r.2⟩) (Cert.OutProjReferenceIdeal.Value.run m g)

theorem algebraic : Cert.algebraic_OutProjIdeal_OutProjReferenceIdeal := fun m g m' g' _ hagree =>
  ⟨fun c => (Cert.OutProjIdeal.Gen.dats m 0 c).arrAt 16 Cert.OutProjIdeal.cfg0.N,
   Cert.OutProjIdeal.Value.run_blocks m g,
   (θ_run _ _ _).mono (fun _ h c => by
      obtain ⟨a0, a1, a2, a3, a4, a5, a6, a7, a8, a9, a10, a11, a12, a13, a14, a15⟩ := hagree c
      obtain ⟨h0, hargs⟩ := h c
      refine ⟨h0.trans ?_, hargs⟩
      refine (Cert.OutProjReferenceIdeal.Read.val_main_v89_eq m' c).trans ?_
      rw [a0, a1, a2, a3, a4, a5, a6, a7, a8, a9, a10, a11, a12, a13, a14, a15]
      refine Eq.trans (funext fun y => ?_) (final m c).symm
      have hy : y = ix3 (y 0) (y 1) (y 2) := by funext z; fin_cases z <;> rfl
      rw [hy]
      exact Cert.OutRef.ref_out _ _ _ _ _ _ _ _ _ _ _ _ _ _ _ _ _ _ _)
     (Cert.OutProjReferenceIdeal.Value.run m' g')⟩

end Cert.OutValue
end
-- ==== Proof.Decay.Point.lean ====
/-
  The recurrence without the removal along the key, as the HGRN2 and the Mamba-2 mixers have it: the block of one grid point.

  The state of a head decays by a row and takes the product of a value column with a key row. The heads lie in pairs; `P` pairs of
  heads have `n` lanes of decays and values, and their keys are read in `m` lanes, of which several pairs may share some.
-/
module

public import proofs.«01_k».proof.Proof.Rec.Step
public import proofs.«01_k».proof.Proof.Rec.Masked

@[expose] public section

set_option maxRecDepth 16384

noncomputable section

namespace Cert.Decay

open Idealize.ShloMosaic Idealize.ShloMosaic.TcCoe Idealize.SL.Sem
open Cert.KernelIdeal Cert.KernelIdeal.Gen
open Cert.Rec (lane pair scale values seg₀ seg₁ left right spread mask At)

/-- How many pairs, heads and lanes there are, and the lane at which the keys of a pair begin. -/
structure Lay (P N n m : ℕ) where
  heads : N = 2 * P
  lanes : n = 64 * N
  key : ℕ → ℕ
  fits : ∀ p, p < P → key p + 128 ≤ m

/-- A row block, a transposed block of values, and a block of states. -/
abbrev SR (n : ℕ) : Shape := ⟨2, ![8, n]⟩
abbrev SV (n : ℕ) : Shape := ⟨2, ![n, 128]⟩
abbrev SS (N : ℕ) : Shape := ⟨4, ![8, N, 64, 64]⟩

/-- The new pair of states: decay, and the new value. -/
def next (mt : IVec S1x128 1) (s₀ s₁ : Vec Ideal S1x1x64x64 .f32) (vt : Vec Ideal S128x128 .f32) (w k : Vec Ideal S1x128 .f32) :
    FVec Ideal S64x128 .f32 :=
  addf (scale (pair s₀ s₁) w) (scale (values mt vt) k)

theorem next_lo (mt : IVec S1x128 1) (L : Fin 128) (h : At mt L) (s₀ s₁ : Vec Ideal S1x1x64x64 .f32) (vt : Vec Ideal S128x128 .f32)
    (w k : Vec Ideal S1x128 .f32) (v l : Fin 64) :
    next mt s₀ s₁ vt w k (ix2 v ⟨l.val, by omega⟩)
      = s₀ (ix4 0 0 v l) * w (ix2 0 ⟨l.val, by omega⟩) + vt (ix2 ⟨v.val, by omega⟩ L) * k (ix2 0 ⟨l.val, by omega⟩) := by
  unfold next
  pointwise []
  simp only [Cert.Rec.scale_apply, Cert.Rec.values_lo mt L h, Cert.Rec.pair_lo]

theorem next_hi (mt : IVec S1x128 1) (L : Fin 128) (h : At mt L) (s₀ s₁ : Vec Ideal S1x1x64x64 .f32) (vt : Vec Ideal S128x128 .f32)
    (w k : Vec Ideal S1x128 .f32) (v l : Fin 64) :
    next mt s₀ s₁ vt w k (ix2 v ⟨64 + l.val, by omega⟩)
      = s₁ (ix4 0 0 v l) * w (ix2 0 ⟨64 + l.val, by omega⟩) + vt (ix2 ⟨64 + v.val, by omega⟩ L) * k (ix2 0 ⟨64 + l.val, by omega⟩) := by
  unfold next
  pointwise []
  simp only [Cert.Rec.scale_apply, Cert.Rec.values_hi mt L h, Cert.Rec.pair_hi]

section
variable {P N n m : ℕ} (L : Lay P N n m)

/-- Lane `l` of head `h` in a row of all heads, -/
def wide (h : Fin N) (l : Fin 64) : Fin n := ⟨64 * h.val + l.val, by have := L.lanes; omega⟩
/-- and in a row of keys. -/
def keyed (h : Fin N) (l : Fin 64) : Fin m :=
  ⟨L.key (h.val / 2) + 64 * (h.val % 2) + l.val, by have := L.heads; have := L.fits (h.val / 2) (by omega); omega⟩
/-- The lane of sequence `b` at grid point `i`. -/
def ln (i : Fin 16) (b : Fin 8) : Fin 128 := ⟨8 * i.val + b.val, by omega⟩

variable (i : Fin 16) (w : Vec Ideal (SR n) .f32) (k r : Vec Ideal (SR m) .f32) (vt : Vec Ideal (SV n) .f32) (s : Vec Ideal (SS N) .f32)

/-- The new state of sequence `b` and head `h`. -/
def stepAt (b : Fin 8) (h : Fin N) (v l : Fin 64) : EReal :=
  s (ix4 b h v l) * w (ix2 b (wide L h l)) + vt (ix2 (wide L h v) (ln i b)) * k (ix2 b (keyed L h l))

/-- Its product with the receiving row. -/
def outAt (b : Fin 8) (h : Fin N) (v : Fin 64) : EReal := ∑ l : Fin 64, stepAt L i w k vt s b h v l * r (ix2 b (keyed L h l))

/-- The block of new states, -/
def stateBlk : Vec Ideal (SS N) .f32 := fun y => stepAt L i w k vt s (y 0) (y 1) (y 2) (y 3)

/-- The head of a row of values. -/
def headOf (x : Fin n) : Fin N := ⟨x.val / 64, by have := L.lanes; omega⟩

/-- and the resident block of results: the lanes of this grid point are new, the others as they were. -/
def outBlk (d : Vec Ideal (SV n) .f32) : Vec Ideal (SV n) .f32 := fun y =>
  if (y 1).val / 8 = i.val then outAt L i w k r vt s ⟨(y 1).val % 8, by omega⟩ (headOf L (y 0)) ⟨(y 0).val % 64, by omega⟩ else d y
end

/-! ## The loads -/

section
variable {sig : RefSig} {n N : ℕ}

theorem inb2 (b : Fin 8) (o : ℕ) (ho : o + 128 ≤ n) : ∀ x, (![b.val, o] : Fin 2 → ℕ) x + S1x128.size x ≤ (SR n).size x := fun x => by
  fin_cases x
  · show b.val + 1 ≤ 8; omega
  · exact ho
theorem inbv (o : ℕ) (ho : o + 128 ≤ n) : ∀ x, (![o, 0] : Fin 2 → ℕ) x + S128x128.size x ≤ (SV n).size x := fun x => by
  fin_cases x
  · exact ho
  · exact Nat.le_refl _
theorem inbs (b : Fin 8) (h : Fin N) : ∀ x, (![b.val, h.val, 0, 0] : Fin 4 → ℕ) x + S1x1x64x64.size x ≤ (SS N).size x := fun x => by
  fin_cases x
  · show b.val + 1 ≤ 8; omega
  · exact h.isLt
  · exact Nat.le_refl _
  · exact Nat.le_refl _

/-- One row of two heads, -/
def row (a : Memref sig .tc .vmem (SR n) .f32) (ha : a.IsWhole) (x : Vec Ideal (SR n) .f32) (b : Fin 8) (o : ℕ) (ho : o + 128 ≤ n) :
    Vec Ideal S1x128 .f32 :=
  View.readAt (Elt Ideal) a.view (Rect.unit (s := SR n) ![b.val, o] S1x128.size (inb2 b o ho)).toLoadRect (ha.unread x)
/-- the transposed values of two heads, -/
def vals (a : Memref sig .tc .vmem (SV n) .f32) (ha : a.IsWhole) (x : Vec Ideal (SV n) .f32) (o : ℕ) (ho : o + 128 ≤ n) :
    Vec Ideal S128x128 .f32 :=
  View.readAt (Elt Ideal) a.view (Rect.unit (s := SV n) ![o, 0] S128x128.size (inbv o ho)).toLoadRect (ha.unread x)
/-- the state of one head. -/
def stat (a : Memref sig .tc .vmem (SS N) .f32) (ha : a.IsWhole) (x : Vec Ideal (SS N) .f32) (b : Fin 8) (h : Fin N) :
    Vec Ideal S1x1x64x64 .f32 :=
  View.readAt (Elt Ideal) a.view (Rect.unit (s := SS N) ![b.val, h.val, 0, 0] S1x1x64x64.size (inbs b h)).toLoadRect (ha.unread x)

theorem row_apply (a : Memref sig .tc .vmem (SR n) .f32) (ha : a.IsWhole) (x : Vec Ideal (SR n) .f32) (b : Fin 8) (o : ℕ) (ho : o + 128 ≤ n)
    (l : Fin 128) : row a ha x b o ho (ix2 0 l) = x (ix2 b ⟨o + l.val, by omega⟩) :=
  (ha.readAt_unread x _ _).trans (congrArg x (funext fun z => Fin.ext (by
    fin_cases z
    · show b.val + 1 * 0 = b.val; omega
    · show o + 1 * l.val = o + l.val; omega)))
theorem vals_apply (a : Memref sig .tc .vmem (SV n) .f32) (ha : a.IsWhole) (x : Vec Ideal (SV n) .f32) (o : ℕ) (ho : o + 128 ≤ n)
    (v l : Fin 128) : vals a ha x o ho (ix2 v l) = x (ix2 ⟨o + v.val, by omega⟩ l) :=
  (ha.readAt_unread x _ _).trans (congrArg x (funext fun z => Fin.ext (by
    fin_cases z
    · show o + 1 * v.val = o + v.val; omega
    · show 0 + 1 * l.val = l.val; omega)))
theorem stat_apply (a : Memref sig .tc .vmem (SS N) .f32) (ha : a.IsWhole) (x : Vec Ideal (SS N) .f32) (b : Fin 8) (h : Fin N) (v l : Fin 64) :
    stat a ha x b h (ix4 0 0 v l) = x (ix4 b h v l) :=
  (ha.readAt_unread x _ _).trans (congrArg x (funext fun z => Fin.ext (by
    fin_cases z
    · show b.val + 1 * 0 = b.val; omega
    · show h.val + 1 * 0 = h.val; omega
    · show 0 + 1 * v.val = v.val; omega
    · show 0 + 1 * l.val = l.val; omega)))
end

/-! ## The payloads -/

section
variable {P N n m : ℕ} (L : Lay P N n m) {sig : RefSig}

def lo (p : Fin P) : Fin N := ⟨2 * p.val, by have := L.heads; omega⟩
def hi (p : Fin P) : Fin N := ⟨2 * p.val + 1, by have := L.heads; omega⟩

include L in
theorem fits_wide (p : Fin P) : 128 * p.val + 128 ≤ n := by have := L.heads; have := L.lanes; omega

variable (i : Fin 16) (m₀ : Memref sig .tc .vmem (SR n) .f32) (h₀ : m₀.IsWhole) (m₁ : Memref sig .tc .vmem (SR m) .f32) (h₁ : m₁.IsWhole)
  (m₂ : Memref sig .tc .vmem (SR m) .f32) (h₂ : m₂.IsWhole) (m₃ : Memref sig .tc .vmem (SV n) .f32) (h₃ : m₃.IsWhole)
  (m₄ : Memref sig .tc .vmem (SS N) .f32) (h₄ : m₄.IsWhole)
  (w : Vec Ideal (SR n) .f32) (k r : Vec Ideal (SR m) .f32) (vt : Vec Ideal (SV n) .f32) (s : Vec Ideal (SS N) .f32) (b : Fin 8) (p : Fin P)

/-- The new pair of states of sequence `b`, -/
def pairOf : FVec Ideal S64x128 .f32 :=
  next (lane (BitVec.ofNat 32 i.val) (BitVec.ofNat 32 b.val)) (stat m₄ h₄ s b (lo L p)) (stat m₄ h₄ s b (hi L p))
    (vals m₃ h₃ vt (128 * p.val) (fits_wide L p)) (row m₀ h₀ w b (128 * p.val) (fits_wide L p)) (row m₁ h₁ k b (L.key p.val) (L.fits p.val p.isLt))

/-- and the columns of its results. -/
def colLo : FVec Ideal S64x128 .f32 :=
  spread (seg₀ (scale (pairOf L i m₀ h₀ m₁ h₁ m₃ h₃ m₄ h₄ w k vt s b p) (row m₂ h₂ r b (L.key p.val) (L.fits p.val p.isLt))))
def colHi : FVec Ideal S64x128 .f32 :=
  spread (seg₁ (scale (pairOf L i m₀ h₀ m₁ h₁ m₃ h₃ m₄ h₄ w k vt s b p) (row m₂ h₂ r b (L.key p.val) (L.fits p.val p.isLt))))

theorem wide_lo (l : Fin 64) (h) : (⟨128 * p.val + l.val, h⟩ : Fin n) = wide L (lo L p) l := Fin.ext (by
  show 128 * p.val + l.val = 64 * (2 * p.val) + l.val; omega)
theorem wide_hi (l : Fin 64) (h) : (⟨128 * p.val + (64 + l.val), h⟩ : Fin n) = wide L (hi L p) l := Fin.ext (by
  show 128 * p.val + (64 + l.val) = 64 * (2 * p.val + 1) + l.val; omega)
theorem keyed_lo (l : Fin 64) (h) : (⟨L.key p.val + l.val, h⟩ : Fin m) = keyed L (lo L p) l := Fin.ext (by
  show L.key p.val + l.val = L.key (2 * p.val / 2) + 64 * (2 * p.val % 2) + l.val
  rw [show 2 * p.val / 2 = p.val by omega]; omega)
theorem keyed_hi (l : Fin 64) (h) : (⟨L.key p.val + (64 + l.val), h⟩ : Fin m) = keyed L (hi L p) l := Fin.ext (by
  show L.key p.val + (64 + l.val) = L.key ((2 * p.val + 1) / 2) + 64 * ((2 * p.val + 1) % 2) + l.val
  rw [show (2 * p.val + 1) / 2 = p.val by omega]; omega)

theorem pairOf_lo (v l : Fin 64) : pairOf L i m₀ h₀ m₁ h₁ m₃ h₃ m₄ h₄ w k vt s b p (ix2 v ⟨l.val, by omega⟩)
    = stepAt L i w k vt s b (lo L p) v l := by
  unfold pairOf stepAt
  rw [next_lo _ (ln i b) (Cert.Rec.lane_at i b)]
  simp only [row_apply, vals_apply, stat_apply, wide_lo L, keyed_lo L]

theorem pairOf_hi (v l : Fin 64) : pairOf L i m₀ h₀ m₁ h₁ m₃ h₃ m₄ h₄ w k vt s b p (ix2 v ⟨64 + l.val, by omega⟩)
    = stepAt L i w k vt s b (hi L p) v l := by
  unfold pairOf stepAt
  rw [next_hi _ (ln i b) (Cert.Rec.lane_at i b)]
  simp only [row_apply, vals_apply, stat_apply, wide_hi L, keyed_hi L]

theorem colLo_apply (v : Fin 64) (l : Fin 128) : colLo L i m₀ h₀ m₁ h₁ m₂ h₂ m₃ h₃ m₄ h₄ w k r vt s b p (ix2 v l)
    = outAt L i w k r vt s b (lo L p) v := by
  unfold colLo outAt
  rw [Cert.Rec.spread_apply, Cert.Rec.seg₀_apply]
  refine Finset.sum_congr rfl fun j _ => ?_
  rw [Cert.Rec.scale_apply, pairOf_lo, row_apply]
  exact congrArg (fun z => _ * r (ix2 b z)) (keyed_lo L p j _)

theorem colHi_apply (v : Fin 64) (l : Fin 128) : colHi L i m₀ h₀ m₁ h₁ m₂ h₂ m₃ h₃ m₄ h₄ w k r vt s b p (ix2 v l)
    = outAt L i w k r vt s b (hi L p) v := by
  unfold colHi outAt
  rw [Cert.Rec.spread_apply, Cert.Rec.seg₁_apply]
  refine Finset.sum_congr rfl fun j _ => ?_
  rw [Cert.Rec.scale_apply, pairOf_hi, row_apply]
  exact congrArg (fun z => _ * r (ix2 b z)) (keyed_hi L p j _)

/-- What the stores of states write is the block of new states. -/
theorem left_blk (x : S1x1x64x64.Idx) : left (pairOf L i m₀ h₀ m₁ h₁ m₃ h₃ m₄ h₄ w k vt s b p) x
    = stateBlk L i w k vt s ((Rect.unit (s := SS N) ![b.val, (lo L p).val, 0, 0] S1x1x64x64.size (inbs b (lo L p))).emb x) := by
  obtain ⟨z, z', v, l, rfl⟩ : ∃ z z' v l, x = ix4 z z' v l := ⟨x 0, x 1, x 2, x 3, by funext q; fin_cases q <;> rfl⟩
  rw [Cert.Rec.left_apply, pairOf_lo]
  unfold stateBlk
  congr 1 <;> apply Fin.ext
  · show _ = b.val + 1 * z.val; omega
  · show _ = (lo L p).val + 1 * z'.val; omega
  · show _ = 0 + 1 * v.val; omega
  · show _ = 0 + 1 * l.val; omega
theorem right_blk (x : S1x1x64x64.Idx) : right (pairOf L i m₀ h₀ m₁ h₁ m₃ h₃ m₄ h₄ w k vt s b p) x
    = stateBlk L i w k vt s ((Rect.unit (s := SS N) ![b.val, (hi L p).val, 0, 0] S1x1x64x64.size (inbs b (hi L p))).emb x) := by
  obtain ⟨z, z', v, l, rfl⟩ : ∃ z z' v l, x = ix4 z z' v l := ⟨x 0, x 1, x 2, x 3, by funext q; fin_cases q <;> rfl⟩
  rw [Cert.Rec.right_apply, pairOf_hi]
  unfold stateBlk
  congr 1 <;> apply Fin.ext
  · show _ = b.val + 1 * z.val; omega
  · show _ = (hi L p).val + 1 * z'.val; omega
  · show _ = 0 + 1 * v.val; omega
  · show _ = 0 + 1 * l.val; omega

/-- What the stores of columns write is the block of results. -/
theorem colLo_blk (d : Vec Ideal (SV n) .f32) (x : S64x128.Idx) (y : (SV n).Idx) (hy : (y 0).val = 64 * (lo L p).val + (x 0).val)
    (hl : (y 1).val = 8 * i.val + b.val) : colLo L i m₀ h₀ m₁ h₁ m₂ h₂ m₃ h₃ m₄ h₄ w k r vt s b p x = outBlk L i w k r vt s d y := by
  obtain ⟨v, l, rfl⟩ : ∃ v l, x = ix2 v l := ⟨x 0, x 1, by funext q; fin_cases q <;> rfl⟩
  change (y 0).val = 64 * (lo L p).val + v.val at hy
  rw [colLo_apply]; unfold outBlk
  rw [if_pos (by omega)]
  congr 1 <;> apply Fin.ext
  · show b.val = (y 1).val % 8; omega
  · show (lo L p).val = (y 0).val / 64; omega
  · show v.val = (y 0).val % 64; omega
theorem colHi_blk (d : Vec Ideal (SV n) .f32) (x : S64x128.Idx) (y : (SV n).Idx) (hy : (y 0).val = 64 * (hi L p).val + (x 0).val)
    (hl : (y 1).val = 8 * i.val + b.val) : colHi L i m₀ h₀ m₁ h₁ m₂ h₂ m₃ h₃ m₄ h₄ w k r vt s b p x = outBlk L i w k r vt s d y := by
  obtain ⟨v, l, rfl⟩ : ∃ v l, x = ix2 v l := ⟨x 0, x 1, by funext q; fin_cases q <;> rfl⟩
  change (y 0).val = 64 * (hi L p).val + v.val at hy
  rw [colHi_apply]; unfold outBlk
  rw [if_pos (by omega)]
  congr 1 <;> apply Fin.ext
  · show b.val = (y 1).val % 8; omega
  · show (hi L p).val = (y 0).val / 64; omega
  · show v.val = (y 0).val % 64; omega
end

/-! ## All sequences -/

section
variable {P N n m : ℕ} (L : Lay P N n m) (w : Vec Ideal (⟨3, ![1, 128, n]⟩ : Shape) .f32) (k r : Vec Ideal (⟨3, ![1, 128, m]⟩ : Shape) .f32)
  (v : Vec Ideal (⟨3, ![1, 128, n]⟩ : Shape) .f32) (s : Vec Ideal (⟨4, ![128, N, 64, 64]⟩ : Shape) .f32)

/-- The new state of sequence `q` and head `h`, -/
def newState (q : Fin 128) (h : Fin N) (x l : Fin 64) : EReal :=
  s (ix4 q h x l) * w (ix3 0 q (wide L h l)) + v (ix3 0 q (wide L h x)) * k (ix3 0 q (keyed L h l))

/-- and its product with the receiving row. -/
def newOut (q : Fin 128) (h : Fin N) (x : Fin 64) : EReal := ∑ l : Fin 64, newState L w k v s q h x l * r (ix3 0 q (keyed L h l))
end

end Cert.Decay
end
-- ==== Proof.RecHg.Run.lean ====
/-
  One grid point of the recurrence of this mixer, with the values that it stores.
-/
module

public import proofs.«01_k».proof.Proof.Gen.RecHgIdeal.Frame
public import proofs.«01_k».proof.Proof.Gen.RecHgIdeal.Skeleton
public import Idealize.ShloMosaic.Lib.Pipeline.FrameBody
public import Idealize.ShloMosaic.Lib.Pipeline.FrameSuffix
public import proofs.«01_k».proof.Proof.Decay.Point
public import Idealize.ShloMosaic.Lib.Tactic

@[expose] public section

set_option maxRecDepth 16384

noncomputable section

namespace Cert.RecHgRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.RecHgIdeal Cert.RecHgIdeal.Gen
open Cert.Decay (Lay outBlk stateBlk outAt stepAt)
open Cert.Rec (Before store_step mem_mask)

local notation "𝕄" => MT nD τ sig Unit (Elt Ideal) ℕ (UR sig nD τ) ℕ

/-- 2 pairs of heads; the keys of pair `p` begin at lane 128 * p. -/
def L : Lay 2 4 256 256 := ⟨rfl, rfl, fun p => 128 * p, by intro p hp; show 128 * p + 128 ≤ _; omega⟩

set_option maxHeartbeats 8000000 in
/-- One grid point's body: the inputs stay, the resident block takes the results of this point, the block of states is the new one. -/
theorem run (c : Dev nD) (i : grid0.Coords)
    (arg1 : Memref sig .tc .vmem S8x256 .f32) (harg1 : arg1.IsWhole)
    (arg2 : Memref sig .tc .vmem S8x256 .f32) (harg2 : arg2.IsWhole)
    (arg3 : Memref sig .tc .vmem S8x256 .f32) (harg3 : arg3.IsWhole)
    (arg4 : Memref sig .tc .vmem S256x128 .f32) (harg4 : arg4.IsWhole)
    (arg5 : Memref sig .tc .vmem S8x4x64x64 .f32) (harg5 : arg5.IsWhole)
    (arg6 : Memref sig .tc .vmem S256x128 .f32) (harg6 : arg6.IsWhole)
    (arg7 : Memref sig .tc .vmem S8x4x64x64 .f32) (harg7 : arg7.IsWhole)
    (x0 : Vec Ideal S8x256 .f32) (x1 x2 : Vec Ideal S8x256 .f32)
    (x3 : Vec Ideal S256x128 .f32) (x4 : Vec Ideal S8x4x64x64 .f32) (d : Vec Ideal S256x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ owns (c : Thread nD τ) arg6 fullShare d ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
          ∗ owns (c : Thread nD τ) arg6 fullShare (outBlk L (i 0) x0 x1 x2 x3 x4 d)
          ∗ owns (c : Thread nD τ) arg7 fullShare (stateBlk L (i 0) x0 x1 x3 x4)) -∗ K ⟨⟩))
      ⊢ wp frame (wpE (defs₀ (F := Ideal)) Variants.none c none) E (cc0_rec_step i arg1 harg1 arg2 harg2 arg3 harg3 arg4 harg4 arg5 harg5 arg6 harg6 arg7 harg7) K := by
    simp only [cc0_rec_step_eq_skeleton]; unfold cc0_rec_step_skel
    simp only [k0_part1_eq_skeleton, k0_part2_eq_skeleton, k0_part3_eq_skeleton, k0_part4_eq_skeleton, k0_part5_eq_skeleton,
      k0_part6_eq_skeleton, k0_part7_eq_skeleton, k0_part8_eq_skeleton, k0_part9_eq_skeleton, k0_part10_eq_skeleton,
      k0_part11_eq_skeleton, k0_part12_eq_skeleton, k0_part13_eq_skeleton, k0_part14_eq_skeleton, k0_part15_eq_skeleton,
      k0_part16_eq_skeleton, k0_part17_eq_skeleton, k0_part18_eq_skeleton, k0_part19_eq_skeleton, k0_part20_eq_skeleton,
      k0_part21_eq_skeleton, k0_part22_eq_skeleton, k0_part23_eq_skeleton, k0_part24_eq_skeleton, k0_part25_eq_skeleton,
      k0_part26_eq_skeleton, k0_part27_eq_skeleton, k0_part28_eq_skeleton, k0_part29_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
    obtain rfl := harg1.eq_unread hf0; obtain rfl := harg2.eq_unread hf1; obtain rfl := harg3.eq_unread hf2; obtain rfl := harg4.eq_unread hf3; obtain rfl := harg5.eq_unread hf4
    have loC := fun (b : Fin 8) (p : Fin 2) => Cert.Decay.colLo_blk L (i 0) arg1 harg1 arg2 harg2 arg3 harg3 arg4 harg4 arg5 harg5 x0 x1 x2 x3 x4 b p d
    have hiC := fun (b : Fin 8) (p : Fin 2) => Cert.Decay.colHi_blk L (i 0) arg1 harg1 arg2 harg2 arg3 harg3 arg4 harg4 arg5 harg5 x0 x1 x2 x3 x4 b p d
    have leftS := fun (b : Fin 8) (p : Fin 2) => Cert.Decay.left_blk L (i 0) arg1 harg1 arg2 harg2 arg4 harg4 arg5 harg5 x0 x1 x3 x4 b p
    have rightS := fun (b : Fin 8) (p : Fin 2) => Cert.Decay.right_blk L (i 0) arg1 harg1 arg2 harg2 arg4 harg4 arg5 harg5 x0 x1 x3 x4 b p
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr
      swap; · iexact H5
      ipureintro
      funext y
      have hy : Before 4 (i 0).val 32 y := fun _ => by
        have := (y 0).isLt; change _ < 256 at this; omega
      revert hy; revert y
      refine store_step 4 (i 0).val 7 3 _ (by decide) rfl _ _ (mem_mask (i 0) 7) _ (hiC 7 1) ?_
      refine store_step 4 (i 0).val 7 2 _ (by decide) rfl _ _ (mem_mask (i 0) 7) _ (loC 7 1) ?_
      refine store_step 4 (i 0).val 7 1 _ (by decide) rfl _ _ (mem_mask (i 0) 7) _ (hiC 7 0) ?_
      refine store_step 4 (i 0).val 7 0 _ (by decide) rfl _ _ (mem_mask (i 0) 7) _ (loC 7 0) ?_
      refine store_step 4 (i 0).val 6 3 _ (by decide) rfl _ _ (mem_mask (i 0) 6) _ (hiC 6 1) ?_
      refine store_step 4 (i 0).val 6 2 _ (by decide) rfl _ _ (mem_mask (i 0) 6) _ (loC 6 1) ?_
      refine store_step 4 (i 0).val 6 1 _ (by decide) rfl _ _ (mem_mask (i 0) 6) _ (hiC 6 0) ?_
      refine store_step 4 (i 0).val 6 0 _ (by decide) rfl _ _ (mem_mask (i 0) 6) _ (loC 6 0) ?_
      refine store_step 4 (i 0).val 5 3 _ (by decide) rfl _ _ (mem_mask (i 0) 5) _ (hiC 5 1) ?_
      refine store_step 4 (i 0).val 5 2 _ (by decide) rfl _ _ (mem_mask (i 0) 5) _ (loC 5 1) ?_
      refine store_step 4 (i 0).val 5 1 _ (by decide) rfl _ _ (mem_mask (i 0) 5) _ (hiC 5 0) ?_
      refine store_step 4 (i 0).val 5 0 _ (by decide) rfl _ _ (mem_mask (i 0) 5) _ (loC 5 0) ?_
      refine store_step 4 (i 0).val 4 3 _ (by decide) rfl _ _ (mem_mask (i 0) 4) _ (hiC 4 1) ?_
      refine store_step 4 (i 0).val 4 2 _ (by decide) rfl _ _ (mem_mask (i 0) 4) _ (loC 4 1) ?_
      refine store_step 4 (i 0).val 4 1 _ (by decide) rfl _ _ (mem_mask (i 0) 4) _ (hiC 4 0) ?_
      refine store_step 4 (i 0).val 4 0 _ (by decide) rfl _ _ (mem_mask (i 0) 4) _ (loC 4 0) ?_
      refine store_step 4 (i 0).val 3 3 _ (by decide) rfl _ _ (mem_mask (i 0) 3) _ (hiC 3 1) ?_
      refine store_step 4 (i 0).val 3 2 _ (by decide) rfl _ _ (mem_mask (i 0) 3) _ (loC 3 1) ?_
      refine store_step 4 (i 0).val 3 1 _ (by decide) rfl _ _ (mem_mask (i 0) 3) _ (hiC 3 0) ?_
      refine store_step 4 (i 0).val 3 0 _ (by decide) rfl _ _ (mem_mask (i 0) 3) _ (loC 3 0) ?_
      refine store_step 4 (i 0).val 2 3 _ (by decide) rfl _ _ (mem_mask (i 0) 2) _ (hiC 2 1) ?_
      refine store_step 4 (i 0).val 2 2 _ (by decide) rfl _ _ (mem_mask (i 0) 2) _ (loC 2 1) ?_
      refine store_step 4 (i 0).val 2 1 _ (by decide) rfl _ _ (mem_mask (i 0) 2) _ (hiC 2 0) ?_
      refine store_step 4 (i 0).val 2 0 _ (by decide) rfl _ _ (mem_mask (i 0) 2) _ (loC 2 0) ?_
      refine store_step 4 (i 0).val 1 3 _ (by decide) rfl _ _ (mem_mask (i 0) 1) _ (hiC 1 1) ?_
      refine store_step 4 (i 0).val 1 2 _ (by decide) rfl _ _ (mem_mask (i 0) 1) _ (loC 1 1) ?_
      refine store_step 4 (i 0).val 1 1 _ (by decide) rfl _ _ (mem_mask (i 0) 1) _ (hiC 1 0) ?_
      refine store_step 4 (i 0).val 1 0 _ (by decide) rfl _ _ (mem_mask (i 0) 1) _ (loC 1 0) ?_
      refine store_step 4 (i 0).val 0 3 _ (by decide) rfl _ _ (mem_mask (i 0) 0) _ (hiC 0 1) ?_
      refine store_step 4 (i 0).val 0 2 _ (by decide) rfl _ _ (mem_mask (i 0) 0) _ (loC 0 1) ?_
      refine store_step 4 (i 0).val 0 1 _ (by decide) rfl _ _ (mem_mask (i 0) 0) _ (hiC 0 0) ?_
      refine store_step 4 (i 0).val 0 0 _ (by decide) rfl _ _ (mem_mask (i 0) 0) _ (loC 0 0) ?_
      intro y hy
      rw [hf5]; unfold outBlk
      rw [if_neg]
      intro hi
      exact absurd (hy hi) (Nat.not_lt_zero _)
    · iexists _; isplitr
      swap; · iexact H6
      ipureintro
      funext y
      refine View.read_writes_apply_of_pieces _ _ _ _ ?_ y (View.cover_of_tiled _ ![1, 1, 64, 64] (by rfl) y)
      simp only [List.forall_mem_cons]
      refine ⟨rightS 7 1, leftS 7 1, rightS 7 0, leftS 7 0, rightS 6 1, leftS 6 1, rightS 6 0, leftS 6 0,
        rightS 5 1, leftS 5 1, rightS 5 0, leftS 5 0, rightS 4 1, leftS 4 1, rightS 4 0, leftS 4 0,
        rightS 3 1, leftS 3 1, rightS 3 0, leftS 3 0, rightS 2 1, leftS 2 1, rightS 2 0, leftS 2 0,
        rightS 1 1, leftS 1 1, rightS 1 0, leftS 1 0, rightS 0 1, leftS 0 1, rightS 0 0, leftS 0 0, fun _ h => absurd h List.not_mem_nil⟩

end Cert.RecHgRun
end
-- ==== Proof.RecHg.Frame.lean ====
/-
  The run of the whole grid: the resident block after a point has the results of that point and of those before.
-/
module

public import proofs.«01_k».proof.Proof.Gen.RecHgIdeal.Frame
public import proofs.«01_k».proof.Proof.Gen.RecHgIdeal.Skeleton
public import Idealize.ShloMosaic.Lib.Pipeline.FrameBody
public import Idealize.ShloMosaic.Lib.Pipeline.FrameSuffix
public import Idealize.ShloMosaic.Lib.Pipeline.DatRel
public import Idealize.ShloMosaic.Lib.Pipeline.ArrRel
public import proofs.«01_k».proof.Proof.RecHg.Run
public import Idealize.ShloMosaic.Lib.Tactic

@[expose] public section

set_option maxRecDepth 16384

noncomputable section

namespace Cert.RecHgRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.RecHgIdeal Cert.RecHgIdeal.Gen
open Cert.Decay (Lay outBlk stateBlk outAt stepAt headOf)

local notation "𝕄" => MT nD τ sig Unit (Elt Ideal) ℕ (UR sig nD τ) ℕ

variable (m : (ℓ : Loc nD τ sig) → Buf (Elt Ideal) ℓ) (ρ : Dev nD → PrngReg)

theorem coord (t : Fin cfg0.N) : (grid0.coords t 0).val = t.val := (by decide +kernel : ∀ t : Fin grid0.N, (grid0.coords t 0).val = t.val) t

/-- The grid point that takes a lane. -/
def pt (l : Fin 128) : Fin cfg0.N := ⟨l.val / 8, by show _ < grid0.N; rw [N_0]; omega⟩

/-- The results, row by row and lane by lane. -/
def res (c : Dev nD) : Vec Ideal S256x128 .f32 := fun y =>
  outAt L (grid0.coords (pt (y 1)) 0) (iblk m c 0 (pt (y 1))) (iblk m c 1 (pt (y 1))) (iblk m c 2 (pt (y 1))) (iblk m c 3 (pt (y 1))) (iblk m c 4 (pt (y 1)))
    ⟨(y 1).val % 8, by omega⟩ (headOf L (y 0)) ⟨(y 0).val % 64, by omega⟩

/-- The resident block is held to a predicate, nothing else is. -/
def held : Fin cfg0.W → Bool := fun w => w.val == 5

def Rl (c : Dev nD) : (w : Fin cfg0.W) → Fin cfg0.N → ((cfg0.win w).block.Idx → Elt Ideal (cfg0.win w).elt) → Prop := fun w t X =>
  match w, X with
  | ⟨5, _⟩, X => ∀ y : S256x128.Idx, (y 1).val < 8 * (t.val + 1) → X y = res m c y
  | _, _ => True

def pdat (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, _⟩ => stateBlk L (grid0.coords t 0) (iblk m c 0 t) (iblk m c 1 t) (iblk m c 3 t) (iblk m c 4 t)
  Φ _ := Pipeline.ΦA spec0 c
  q _ := fullShare
  owed _ := 0

theorem A_eq (c : Dev nD) (w : Fin cfg0.W) : (pdat m 0 c).A w = V m c (Pipeline.arrRef spec0 w) := by
  dsimp only [pdat]
theorem after_0 (c : Dev nD) (t : Fin cfg0.N) : (pdat m 0 c).after 0 t = iblk m c 0 t := by dsimp only [pdat]
theorem after_1 (c : Dev nD) (t : Fin cfg0.N) : (pdat m 0 c).after 1 t = iblk m c 1 t := by dsimp only [pdat]
theorem after_2 (c : Dev nD) (t : Fin cfg0.N) : (pdat m 0 c).after 2 t = iblk m c 2 t := by dsimp only [pdat]
theorem after_3 (c : Dev nD) (t : Fin cfg0.N) : (pdat m 0 c).after 3 t = iblk m c 3 t := by dsimp only [pdat]
theorem after_4 (c : Dev nD) (t : Fin cfg0.N) : (pdat m 0 c).after 4 t = iblk m c 4 t := by dsimp only [pdat]
theorem after_6 (c : Dev nD) (t : Fin cfg0.N) : (pdat m 0 c).after 6 t = stateBlk L (grid0.coords t 0) (iblk m c 0 t) (iblk m c 1 t) (iblk m c 3 t) (iblk m c 4 t) := by
  dsimp only [pdat]
theorem before_0 (c : Dev nD) (t : Fin cfg0.N) (d) : (pdat m 0 c).before 0 t d = iblk m c 0 t :=
  (Dat.before_in_eq_fetched _ 0 rfl (fun _ => rfl) (fun _ _ _ => rfl) (fun t => by rw [after_0]; rfl) t d).trans rfl
theorem before_1 (c : Dev nD) (t : Fin cfg0.N) (d) : (pdat m 0 c).before 1 t d = iblk m c 1 t :=
  (Dat.before_in_eq_fetched _ 1 rfl (fun _ => rfl) (fun _ _ _ => rfl) (fun t => by rw [after_1]; rfl) t d).trans rfl
theorem before_2 (c : Dev nD) (t : Fin cfg0.N) (d) : (pdat m 0 c).before 2 t d = iblk m c 2 t :=
  (Dat.before_in_eq_fetched _ 2 rfl (fun _ => rfl) (fun _ _ _ => rfl) (fun t => by rw [after_2]; rfl) t d).trans rfl
theorem before_3 (c : Dev nD) (t : Fin cfg0.N) (d) : (pdat m 0 c).before 3 t d = iblk m c 3 t :=
  (Dat.before_in_eq_fetched _ 3 rfl (fun _ => rfl) (fun _ _ _ => rfl) (fun t => by rw [after_3]; rfl) t d).trans rfl
theorem before_4 (c : Dev nD) (t : Fin cfg0.N) (d) : (pdat m 0 c).before 4 t d = iblk m c 4 t :=
  (Dat.before_in_eq_fetched _ 4 rfl (fun _ => rfl) (fun _ _ _ => rfl) (fun t => by rw [after_4]; rfl) t d).trans rfl

/-- What the body finds in the resident block: the lanes of the points before. -/
theorem finds (c : Dev nD) (t : Fin cfg0.N) (X : S256x128.Idx → Elt Ideal .f32) (h : ((pdat m 0 c).toRRel held (Rl m c)).Finds 5 t X)
    (y : S256x128.Idx) (hy : (y 1).val < 8 * t.val) : X y = res m c y := by
  have ht : t.val ≠ 0 := by omega
  rcases (Pipeline.RDat.finds_of_pos (rd := (pdat m 0 c).toRRel held (Rl m c)) (w := 5) rfl ht X).mp h with hf | hl
  · exfalso
    have := (flush0_5 _).mp hf
    have hN : t.val < 16 := by have := t.isLt; change _ < grid0.N at this; rwa [N_0] at this
    change (t.val - 1) % 16 = 15 at this
    omega
  · exact Dat.toRRel_leaves _ rfl hl y (by show _ < 8 * (t.val - 1 + 1); omega)

/-- What it leaves there. -/
theorem leaves (c : Dev nD) (t : Fin cfg0.N) (X : S256x128.Idx → Elt Ideal .f32) (hX : ∀ y : S256x128.Idx, (y 1).val < 8 * t.val → X y = res m c y)
    (y : S256x128.Idx) (hy : (y 1).val < 8 * (t.val + 1)) : outBlk L (grid0.coords t 0) (iblk m c 0 t) (iblk m c 1 t) (iblk m c 2 t) (iblk m c 3 t) (iblk m c 4 t) X y = res m c y := by
  unfold outBlk
  by_cases h : (y 1).val / 8 = (grid0.coords t 0).val
  · rw [if_pos h]
    rw [coord t] at h
    have e : pt (y 1) = t := Fin.ext h
    unfold res
    rw [e]
  · rw [if_neg h]
    rw [coord t] at h
    exact hX y (by omega)

def pre (c : Dev nD) (t : Fin cfg0.N) : sProp 𝕄 :=
  iprop((pdat m 0 c).Φ t.castSucc ∗ (pdat m 0 c).owesAt () t.castSucc
    ∗ (∃ d, owns (c : Thread nD τ) (st0_0 t) fullShare ((pdat m 0 c).before 0 t d))
    ∗ (∃ d, owns (c : Thread nD τ) (st0_1 t) fullShare ((pdat m 0 c).before 1 t d))
    ∗ (∃ d, owns (c : Thread nD τ) (st0_2 t) fullShare ((pdat m 0 c).before 2 t d))
    ∗ (∃ d, owns (c : Thread nD τ) (st0_3 t) fullShare ((pdat m 0 c).before 3 t d))
    ∗ (∃ d, owns (c : Thread nD τ) (st0_4 t) fullShare ((pdat m 0 c).before 4 t d))
    ∗ (∃ Y, ⌜((pdat m 0 c).toRRel held (Rl m c)).Finds 5 t Y⌝ ∗ owns (c : Thread nD τ) (st0_5 t) fullShare Y)
    ∗ (∃ d, owns (c : Thread nD τ) (st0_6 t) fullShare ((pdat m 0 c).before 6 t d)))

def post (c : Dev nD) (t : Fin cfg0.N) : sProp 𝕄 :=
  iprop((pdat m 0 c).Φ t.succ ∗ (pdat m 0 c).owesAt () t.succ
    ∗ owns (c : Thread nD τ) (st0_0 t) fullShare ((pdat m 0 c).after 0 t)
    ∗ owns (c : Thread nD τ) (st0_1 t) fullShare ((pdat m 0 c).after 1 t)
    ∗ owns (c : Thread nD τ) (st0_2 t) fullShare ((pdat m 0 c).after 2 t)
    ∗ owns (c : Thread nD τ) (st0_3 t) fullShare ((pdat m 0 c).after 3 t)
    ∗ owns (c : Thread nD τ) (st0_4 t) fullShare ((pdat m 0 c).after 4 t)
    ∗ (∃ X, ⌜Rl m c 5 t X⌝ ∗ owns (c : Thread nD τ) (st0_5 t) fullShare X)
    ∗ owns (c : Thread nD τ) (st0_6 t) fullShare ((pdat m 0 c).after 6 t))

set_option maxHeartbeats 800000 in
theorem sound (c : Dev nD) (t : Fin cfg0.N) :
    pre m c t ⊢ wp frame (wpE (defs₀ (F := Ideal)) Variants.none c none) Set.univ (bodyAt0 t) (fun _ => post m c t) := by
  unfold pre post bodyAt0
  simp only [before_0, before_1, before_2, before_3, before_4]
  rw [show (pdat m 0 c).Φ t.succ = (pdat m 0 c).Φ t.castSucc from rfl,
    show (pdat m 0 c).owesAt () t.succ = (pdat m 0 c).owesAt () t.castSucc from rfl, after_0, after_1, after_2, after_3, after_4, after_6]
  iintro ⟨HΦ, Ho, ⟨%d0, H0⟩, ⟨%d1, H1⟩, ⟨%d2, H2⟩, ⟨%d3, H3⟩, ⟨%d4, H4⟩, ⟨%d5, %hd5, H5⟩, ⟨%d6, H6⟩⟩
  iapply (run c (grid0.coords t) _ _ _ _ _ _ _ _ _ _ _ _ _ _ (iblk m c 0 t) (iblk m c 1 t) (iblk m c 2 t) (iblk m c 3 t) (iblk m c 4 t) d5 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]
  · iexists _; isplitr
    swap; · iexact H5
    ipureintro
    exact leaves m c t d5 (finds m c t d5 hd5)
  iexact H6

theorem row_body (t : Fin cfg0.N) : defs₀ (F := Ideal) .tc cfg0.body (cfg0.bodyArgs t (cfg0.slots t)) = bodyAt0 t := by
  unfold defs₀; rw [Defs.onTc_tc]

theorem obligation (c : Dev nD) : Pipeline.BodyObligationRel (pdat m 0 c) (defs₀ (F := Ideal)) Variants.none () Set.univ held (Rl m c) := fun t => by
  rw [bigSep_W0, bigSep_W0, row_body]
  exact triple_restated (sound m c t) rfl .rfl fun _ => .rfl

set_option backward.isDefEq.respectTransparency.types false in
/-- The run of the region, with every counter at zero after it. -/
theorem main_run : θ_run defs (onTc (τ := τ) (main (F := Ideal))) (s₀ m ρ)
    (fun r => (Pipeline.RDat.FramePost (cfgs 0) (fun c => (pdat m 0 c).toRRel held (Rl m c)) (V m)) r ∧ r.2.sem = fun _ => 0) :=
  Pipeline.RDat.θ_run_frame (Q' := _) cfgs (0 : Fin 1) launch0 defs₀ Variants.none (fun c => (pdat m 0 c).toRRel held (Rl m c)) m ρ main
    (hbody := fun c => (obligation m c).toRRel) (hshare := fun c => (pdat m 0 c).share_full fun _ => rfl)
    (howed := fun _ _ => rfl) (V := V m) (hmain := hmain m Variants.none) (hA := A_eq m) (hΦ := fun _ _ => rfl)

/-- The arguments end as they were launched. -/
theorem args (r : PUnit × MemSt nD τ sig (Elt Ideal))
    (h : Pipeline.RDat.FramePost (cfgs 0) (fun c => (pdat m 0 c).toRRel held (Rl m c)) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c)⟩

/-- The last point writes the resident block back whole. -/
theorem whole_5 : (cfg0.win 5).WholeAt (pt 127) := by decide +kernel

/-- The results the region leaves, -/
theorem final_5 (r : PUnit × MemSt nD τ sig (Elt Ideal))
    (h : Pipeline.RDat.FramePost (cfgs 0) (fun c => (pdat m 0 c).toRRel held (Rl m c)) (V m) r) (c : Dev nD) :
    r.2.mem ((c.tc : Thread nD τ).loc main_v7_0) = res m c := by
  obtain ⟨X, hX, hG⟩ := Pipeline.RDat.ArrAt.emb_eq_of_wholeAt ((h c).1 5) whole_5
  have hR := Dat.toRRel_leaves _ rfl hX
  funext y
  exact (hG y).trans (hR y (by have := (y 1).isLt; change _ < 128 at this; exact this))

/-- and the states. -/
theorem final_6 (r : PUnit × MemSt nD τ sig (Elt Ideal))
    (h : Pipeline.RDat.FramePost (cfgs 0) (fun c => (pdat m 0 c).toRRel held (Rl m c)) (V m) r) (c : Dev nD) :
    r.2.mem ((c.tc : Thread nD τ).loc main_v7_1) = (pdat m 0 c).arrAt 6 (cfgs 0).N :=
  (((pdat m 0 c).toR.override_arrAt (by rfl) _ _).trans ((pdat m 0 c).toR_arrAt_iff 6 _ _)).mp ((h c).1 6)

end Cert.RecHgRun
end
-- ==== Proof.RecHg.Value.lean ====
/-
  The results of the recurrence of this mixer in its arguments.
-/
module

public import proofs.«01_k».proof.Proof.Gen.RecHgIdeal.Frame
public import proofs.«01_k».proof.Proof.Gen.RecHgIdeal.Skeleton
public import Idealize.ShloMosaic.Lib.Pipeline.FrameBody
public import Idealize.ShloMosaic.Lib.Pipeline.FrameSuffix
public import proofs.«01_k».proof.Proof.RecHg.Frame
public import Idealize.ShloMosaic.Lib.Pipeline.ValueKit
public import Idealize.ShloMosaic.Lib.Claim
public import Idealize.ShloMosaic.Lib.Tactic

@[expose] public section

set_option maxRecDepth 16384

noncomputable section

namespace Cert.RecHgRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.RecHgIdeal Cert.RecHgIdeal.Gen
open Cert.Decay (Lay outBlk stateBlk outAt stepAt headOf ln wide keyed newState newOut)

local notation "𝕄" => MT nD τ sig Unit (Elt Ideal) ℕ (UR sig nD τ) ℕ

variable (m : (ℓ : Loc nD τ sig) → Buf (Elt Ideal) ℓ) (ρ : Dev nD → PrngReg)

theorem idx : ∀ t : Fin cfg0.N, win0_0.index t = ![t.val, 0] ∧ win0_1.index t = ![t.val, 0] ∧ win0_2.index t = ![t.val, 0] ∧ win0_3.index t = ![0, 0] ∧ win0_4.index t = ![t.val, 0, 0, 0] ∧ win0_6.index t = ![t.val, 0, 0, 0] :=
  (by decide +kernel : ∀ t : Fin grid0.N, _)

/-! ## The blocks, read in the arguments -/

theorem flat256 (x : Vec Ideal S1x128x256 .f32) (r : Fin 128) (l : Fin 256) :
    shapeCast S128x256 x shapeCasts_S1x128x256_S128x256 (ix2 r l) = x (ix3 0 r l) := by pointwise
theorem turned (x : Vec Ideal S1x128x256 .f32) (r : Fin 128) (l : Fin 256) :
    transpose S256x128 [1, 0] (shapeCast S128x256 x shapeCasts_S1x128x256_S128x256) transposes_S128x256_S256x128_1_0 (ix2 l r) = x (ix3 0 r l) := by pointwise
theorem unpadded (x : Vec Ideal S256x128 .f32) (v : Vec Ideal S_ .f32) (l : Fin 256) (r : Fin 128) :
    pad S256x128 ![0, 0] ![0, 0] ![0, 0] x v pads_S256x128_S256x128_000_000 h_S_ (ix2 l r) = x (ix2 l r) := by pointwise

theorem entry_0 (c : Dev nD) : V m c main_v4 = shapeCast S128x256 (m ((c : Thread nD τ).loc main_arg0)) shapeCasts_S1x128x256_S128x256 := by
  show StableHlo.after (hostOps0 ++ (hostOps0_1 ++ (hostOps0_2 ++ []))) _ _ = _
  simp only [hostOps0, hostOps0_1, hostOps0_2, List.cons_append, List.nil_append]
  after_results <;> rfl
theorem read_0 (c : Dev nD) (t : Fin cfg0.N) (b : Fin 8) (l : Fin 256) (i : Fin 16) (hi : i.val = t.val) :
    iblk m c 0 t (ix2 b l) = m ((c : Thread nD τ).loc main_arg0) (ix3 0 (ln i b) l) := by
  show V m c main_v4 (((cfg0.win 0).blk t).view.emb (ix2 b l)) = _
  have e : ((cfg0.win 0).blk t).view.emb (ix2 b l) = (ix2 (ln i b) l : S128x256.Idx) := by blk_ext [idx t, ln]
  rw [entry_0, e]; exact flat256 _ _ _
theorem entry_1 (c : Dev nD) : V m c main_v5 = shapeCast S128x256 (m ((c : Thread nD τ).loc main_arg1)) shapeCasts_S1x128x256_S128x256 := by
  show StableHlo.after (hostOps0 ++ (hostOps0_1 ++ (hostOps0_2 ++ []))) _ _ = _
  simp only [hostOps0, hostOps0_1, hostOps0_2, List.cons_append, List.nil_append]
  after_results <;> rfl
theorem read_1 (c : Dev nD) (t : Fin cfg0.N) (b : Fin 8) (l : Fin 256) (i : Fin 16) (hi : i.val = t.val) :
    iblk m c 1 t (ix2 b l) = m ((c : Thread nD τ).loc main_arg1) (ix3 0 (ln i b) l) := by
  show V m c main_v5 (((cfg0.win 1).blk t).view.emb (ix2 b l)) = _
  have e : ((cfg0.win 1).blk t).view.emb (ix2 b l) = (ix2 (ln i b) l : S128x256.Idx) := by blk_ext [idx t, ln]
  rw [entry_1, e]; exact flat256 _ _ _
theorem entry_2 (c : Dev nD) : V m c main_v6 = shapeCast S128x256 (m ((c : Thread nD τ).loc main_arg2)) shapeCasts_S1x128x256_S128x256 := by
  show StableHlo.after (hostOps0 ++ (hostOps0_1 ++ (hostOps0_2 ++ []))) _ _ = _
  simp only [hostOps0, hostOps0_1, hostOps0_2, List.cons_append, List.nil_append]
  after_results <;> rfl
theorem read_2 (c : Dev nD) (t : Fin cfg0.N) (b : Fin 8) (l : Fin 256) (i : Fin 16) (hi : i.val = t.val) :
    iblk m c 2 t (ix2 b l) = m ((c : Thread nD τ).loc main_arg2) (ix3 0 (ln i b) l) := by
  show V m c main_v6 (((cfg0.win 2).blk t).view.emb (ix2 b l)) = _
  have e : ((cfg0.win 2).blk t).view.emb (ix2 b l) = (ix2 (ln i b) l : S128x256.Idx) := by blk_ext [idx t, ln]
  rw [entry_2, e]; exact flat256 _ _ _
theorem entry_3 (c : Dev nD) : ∃ v : Vec Ideal S_ .f32, V m c main_v3 = pad S256x128 ![0, 0] ![0, 0] ![0, 0]
    (transpose S256x128 [1, 0] (shapeCast S128x256 (m ((c : Thread nD τ).loc main_arg3)) shapeCasts_S1x128x256_S128x256) transposes_S128x256_S256x128_1_0)
    v pads_S256x128_S256x128_000_000 h_S_ := by
  refine ⟨(sitofp .f32 (constantI S_ 32 0#32) : FVec Ideal S_ .f32), ?_⟩
  show StableHlo.after (hostOps0 ++ (hostOps0_1 ++ (hostOps0_2 ++ []))) _ _ = _
  simp only [hostOps0, hostOps0_1, hostOps0_2, List.cons_append, List.nil_append]
  after_results <;> rfl
theorem read_3 (c : Dev nD) (t : Fin cfg0.N) (x : Fin 256) (l : Fin 128) :
    iblk m c 3 t (ix2 x l) = m ((c : Thread nD τ).loc main_arg3) (ix3 0 l x) := by
  show V m c main_v3 (((cfg0.win 3).blk t).view.emb (ix2 x l)) = _
  have e : ((cfg0.win 3).blk t).view.emb (ix2 x l) = (ix2 x l : S256x128.Idx) := by blk_ext [idx t]
  obtain ⟨v, hv⟩ := entry_3 m c
  rw [hv, e]; exact (unpadded _ _ _ _).trans (turned _ _ _)

/-- The states as the region takes them. -/
def old (s : Vec Ideal S128x4x64x64 .f32) : Vec Ideal S128x4x64x64 .f32 := fun y => s (ix4 (y 0) (y 1) (y 3) (y 2))
theorem swapped (s : Vec Ideal S128x4x64x64 .f32) (q : Fin 128) (h : Fin 4) (v l : Fin 64) :
    transpose S128x4x64x64 [0, 1, 3, 2] s transposes_S128x4x64x64_S128x4x64x64_0_1_3_2 (ix4 q h v l) = old s (ix4 q h v l) := by pointwise [old]
theorem entry_4 (c : Dev nD) : V m c main_v0 = transpose S128x4x64x64 [0, 1, 3, 2] (m ((c : Thread nD τ).loc main_arg4)) transposes_S128x4x64x64_S128x4x64x64_0_1_3_2 := by
  show StableHlo.after (hostOps0 ++ (hostOps0_1 ++ (hostOps0_2 ++ []))) _ _ = _
  simp only [hostOps0, hostOps0_1, hostOps0_2, List.cons_append, List.nil_append]
  after_results <;> rfl
theorem read_4 (c : Dev nD) (t : Fin cfg0.N) (b : Fin 8) (h : Fin 4) (v l : Fin 64) (i : Fin 16) (hi : i.val = t.val) :
    iblk m c 4 t (ix4 b h v l) = old (m ((c : Thread nD τ).loc main_arg4)) (ix4 (ln i b) h v l) := by
  show V m c main_v0 (((cfg0.win 4).blk t).view.emb (ix4 b h v l)) = _
  have e : ((cfg0.win 4).blk t).view.emb (ix4 b h v l) = (ix4 (ln i b) h v l : S128x4x64x64.Idx) := by blk_ext [idx t, ln]
  rw [entry_4, e]; exact swapped _ _ _ _ _

/-! ## The results in the arguments -/

/-- The new states and results of all sequences. -/
def states (c : Dev nD) : Vec Ideal S128x4x64x64 .f32 := fun y =>
  newState L (m ((c : Thread nD τ).loc main_arg0)) (m ((c : Thread nD τ).loc main_arg1)) (m ((c : Thread nD τ).loc main_arg3)) (old (m ((c : Thread nD τ).loc main_arg4))) (y 0) (y 1) (y 2) (y 3)
def outs (c : Dev nD) (q : Fin 128) (h : Fin 4) (x : Fin 64) : EReal :=
  newOut L (m ((c : Thread nD τ).loc main_arg0)) (m ((c : Thread nD τ).loc main_arg1)) (m ((c : Thread nD τ).loc main_arg2)) (m ((c : Thread nD τ).loc main_arg3)) (old (m ((c : Thread nD τ).loc main_arg4))) q h x

theorem step_eq (c : Dev nD) (t : Fin cfg0.N) (i : Fin 16) (hi : i.val = t.val) (b : Fin 8) (h : Fin 4) (x l : Fin 64) :
    stepAt L i (iblk m c 0 t) (iblk m c 1 t) (iblk m c 3 t) (iblk m c 4 t) b h x l = states m c (ix4 (ln i b) h x l) := by
  unfold stepAt states newState
  exact congrArg₂ (· + ·) (congrArg₂ (· * ·) (read_4 m c t b h x l i hi) (read_0 m c t b _ i hi))
    (congrArg₂ (· * ·) (read_3 m c t _ _) (read_1 m c t b _ i hi))

/-- The results the region leaves, -/
theorem res_eq (c : Dev nD) (h : Fin 4) (x : Fin 64) (q : Fin 128) : res m c (ix2 (wide L h x) q) = outs m c q h x := by
  have hi : (grid0.coords (pt q) 0).val = (pt q).val := coord (pt q)
  have hn : ∀ z, ln (grid0.coords (pt q) 0) ⟨q.val % 8, z⟩ = q := fun z => Fin.ext (by
    show 8 * (grid0.coords (pt q) 0).val + q.val % 8 = q.val
    rw [hi]; show 8 * (q.val / 8) + q.val % 8 = q.val; omega)
  have hh : headOf L (wide L h x) = h := Fin.ext (by show (64 * h.val + x.val) / 64 = h.val; omega)
  have hx : ∀ z, (⟨(wide L h x).val % 64, z⟩ : Fin 64) = x := fun z => Fin.ext (by show (64 * h.val + x.val) % 64 = x.val; omega)
  unfold res outs newOut outAt
  refine Finset.sum_congr rfl fun l _ => congrArg₂ (· * ·)
    ((step_eq m c (pt q) _ hi _ _ _ l).trans (congrArg (states m c) (a₂ := (ix4 q h x l : S128x4x64x64.Idx)) ?_))
    ((read_2 m c (pt q) _ _ _ hi).trans (congrArg₂ (fun a z => m ((c : Thread nD τ).loc main_arg2) (ix3 0 a (keyed L z l))) (hn _) hh))
  funext z; fin_cases z
  · exact hn _
  · exact hh
  · exact hx _
  · rfl

/-- and the states. -/
theorem states_eq (c : Dev nD) : (pdat m 0 c).arrAt 6 (cfgs 0).N = states m c := by
  refine (pdat m 0 c).arrAt_eq_of_covers 6 _ (by decide +kernel) fun t _ y => ?_
  rw [after_6]
  obtain ⟨b, h, x, l, rfl⟩ : ∃ b h x l, y = (ix4 b h x l : S8x4x64x64.Idx) := ⟨y 0, y 1, y 2, y 3, by funext q; fin_cases q <;> rfl⟩
  have e : ((cfg0.win 6).blk t).view.emb (ix4 b h x l) = (ix4 (ln (grid0.coords t 0) b) h x l : S128x4x64x64.Idx) := by
    have hi : (grid0.coords t 0).val = t.val := coord t
    blk_ext [idx t, ln]
  rw [e]
  exact step_eq m c t _ (coord t) b h x l

end Cert.RecHgRun
end
-- ==== Proof.RecHg.Reference.lean ====
/-
  The reference's results, index by index.
-/
module

public import proofs.«01_k».proof.Proof.RecHg.Value
public import proofs.«01_k».proof.Proof.Gen.RecHgReferenceIdeal.Read

@[expose] public section

set_option maxRecDepth 16384

noncomputable section

namespace Cert.RecHgRun

open Idealize.ShloMosaic Idealize.ShloMosaic.TcCoe Idealize.SL.Sem
open Cert.RecHgReferenceIdeal.Read
open Cert.Decay (wide keyed newState newOut)

variable (w : Vec Ideal Cert.RecHgIdeal.S1x128x256 .f32) (k r : Vec Ideal Cert.RecHgIdeal.S1x128x256 .f32) (v : Vec Ideal Cert.RecHgIdeal.S1x128x256 .f32) (s : Vec Ideal Cert.RecHgIdeal.S128x4x64x64 .f32)

theorem rows_at {i : Cert.RecHgIdeal.S1x128x256.Idx} {q : Fin 128} {h : Fin 4} {l : Fin 64} (h₀ : (i 0).val = 0)
    (h₁ : (i 1).val = ((q.val * 4 + h.val) * 64 + l.val) / 256 % 128) (h₂ : (i 2).val = ((q.val * 4 + h.val) * 64 + l.val) % 256) :
    i = ix3 0 q (wide L h l) := by
  funext z; apply Fin.ext; fin_cases z
  · exact h₀
  · refine h₁.trans ?_; show _ = q.val; omega
  · refine h₂.trans ?_; show _ = 64 * h.val + l.val; omega

theorem keys_at {i : Cert.RecHgIdeal.S1x128x256.Idx} {q : Fin 128} {h : Fin 4} {l : Fin 64} (h₀ : (i 0).val = 0)
    (h₁ : (i 1).val = ((q.val * 4 + h.val) * 64 + l.val) / 256 % 128) (h₂ : (i 2).val = ((q.val * 4 + h.val) * 64 + l.val) % 256) :
    i = ix3 0 q (keyed L h l) := by
  funext z; apply Fin.ext; fin_cases z
  · exact h₀
  · refine h₁.trans ?_; show _ = q.val; omega
  · refine h₂.trans ?_; show _ = 128 * (h.val / 2) + 64 * (h.val % 2) + l.val; omega

theorem key_row (q : Fin 128) (h : Fin 4) (l : Fin 64) : val_main_v1 (F := Ideal) k (ix3 q h l) = k (ix3 0 q (keyed L h l)) := by
  rw [val_main_v1_apply]; exact congrArg k (keys_at rfl rfl rfl)
theorem receiving_row (q : Fin 128) (h : Fin 4) (l : Fin 64) : val_main_v2 (F := Ideal) r (ix3 q h l) = r (ix3 0 q (keyed L h l)) := by
  rw [val_main_v2_apply]; exact congrArg r (keys_at rfl rfl rfl)

/-- The reference's state, keys before values. -/
theorem ref_inner (q : Fin 128) (h : Fin 4) (x l : Fin 64) :
    val_main_v12 (F := Ideal) w k v s (ix4 q h l x) = newState L w k v (old s) q h x l := by
  rw [val_main_v12_apply, val_main_v6_apply, val_main_v11_apply, val_main_v5_apply, val_main_v4_apply, val_main_v0_apply, val_main_v9_apply, val_main_v7_apply,
    val_main_v10_apply, val_main_v8_apply, val_main_v3_apply]
  unfold newState
  refine congrArg₂ (· + ·) ((mul_comm _ _).trans (congrArg₂ (· * ·) rfl (congrArg w (rows_at rfl rfl rfl)))) ((mul_comm _ _).trans ?_)
  exact congrArg₂ (· * ·) (congrArg v (rows_at rfl rfl rfl)) ((congrArg (val_main_v1 (F := Ideal) k) (by funext z; fin_cases z <;> rfl)).trans (key_row k q h l))

theorem ref_state (q : Fin 128) (h : Fin 4) (x l : Fin 64) :
    val_main_v16 (F := Ideal) w k v s (ix4 q h x l) = newState L w k v (old s) q h x l := by
  rw [val_main_v16_apply]
  exact (congrArg (val_main_v12 (F := Ideal) w k v s) (by funext z; fin_cases z <;> rfl)).trans (ref_inner w k v s q h x l)

theorem ref_out (h : Fin 4) (x : Fin 64) (q : Fin 128) :
    val_main_v15 (F := Ideal) w k r v s (ix2 (wide L h x) q) = newOut L w k r v (old s) q h x := by
  rw [val_main_v15_apply, val_main_v14_apply, val_main_v13_apply]
  unfold newOut
  refine Finset.sum_congr rfl fun l _ => congrArg₂ (· * ·) ((congrArg (val_main_v12 (F := Ideal) w k v s) ?_).trans (ref_inner w k v s q h x l))
    ((congrArg (val_main_v2 (F := Ideal) r) ?_).trans (receiving_row r q h l))
  · funext z; apply Fin.ext; fin_cases z
    · show (q.val * 256 + (64 * h.val + x.val)) / 256 = q.val; omega
    · show (q.val * 256 + (64 * h.val + x.val)) / 64 % 4 = h.val; omega
    · rfl
    · show (q.val * 256 + (64 * h.val + x.val)) % 64 = x.val; omega
  · funext z; apply Fin.ext; fin_cases z
    · show (q.val * 256 + (64 * h.val + x.val)) / 256 = q.val; omega
    · show (q.val * 256 + (64 * h.val + x.val)) / 64 % 4 = h.val; omega
    · rfl

end Cert.RecHgRun
end
-- ==== Proof.RecHg.Quiet.lean ====
/-
  The frame of the recurrence of this mixer, over any float values: what the stores leave is not named.
-/
module

public import proofs.«01_k».proof.Proof.Gen.RecHgIdeal.Frame
public import proofs.«01_k».proof.Proof.Gen.RecHgIdeal.Skeleton
public import Idealize.ShloMosaic.Lib.Pipeline.FrameBody
public import Idealize.ShloMosaic.Lib.Pipeline.FrameSuffix
public import Idealize.ShloMosaic.Lib.Pipeline.DatRel
public import Idealize.ShloMosaic.Lib.Pipeline.ArrRel
public import Idealize.ShloMosaic.Lib.Tactic

@[expose] public section

set_option maxRecDepth 16384

noncomputable section

namespace Cert.RecHgQuiet

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.RecHgIdeal Cert.RecHgIdeal.Gen

variable {F : FTy → Type} [FloatOps F]

local notation "𝕄" => MT nD τ sig Unit (Elt F) ℕ (UR sig nD τ) ℕ

set_option maxHeartbeats 8000000 in
/-- One grid point's body: the inputs stay, the outputs end at some contents. -/
theorem run (c : Dev nD) (i : grid0.Coords)
    (arg1 : Memref sig .tc .vmem S8x256 .f32) (harg1 : arg1.IsWhole)
    (arg2 : Memref sig .tc .vmem S8x256 .f32) (harg2 : arg2.IsWhole)
    (arg3 : Memref sig .tc .vmem S8x256 .f32) (harg3 : arg3.IsWhole)
    (arg4 : Memref sig .tc .vmem S256x128 .f32) (harg4 : arg4.IsWhole)
    (arg5 : Memref sig .tc .vmem S8x4x64x64 .f32) (harg5 : arg5.IsWhole)
    (arg6 : Memref sig .tc .vmem S256x128 .f32) (harg6 : arg6.IsWhole)
    (arg7 : Memref sig .tc .vmem S8x4x64x64 .f32) (harg7 : arg7.IsWhole)
    (x0 : Vec F S8x256 .f32) (x1 x2 : Vec F S8x256 .f32)
    (x3 : Vec F S256x128 .f32) (x4 : Vec F S8x4x64x64 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
          ∗ (∃ d, owns (c : Thread nD τ) arg6 fullShare d) ∗ (∃ d, owns (c : Thread nD τ) arg7 fullShare d)) -∗ K ⟨⟩))
      ⊢ wp frame (wpE (defs₀ (F := F)) Variants.none c none) E (cc0_rec_step i arg1 harg1 arg2 harg2 arg3 harg3 arg4 harg4 arg5 harg5 arg6 harg6 arg7 harg7) K := by
    simp only [cc0_rec_step_eq_skeleton]; unfold cc0_rec_step_skel
    simp only [k0_part1_eq_skeleton, k0_part2_eq_skeleton, k0_part3_eq_skeleton, k0_part4_eq_skeleton, k0_part5_eq_skeleton,
      k0_part6_eq_skeleton, k0_part7_eq_skeleton, k0_part8_eq_skeleton, k0_part9_eq_skeleton, k0_part10_eq_skeleton,
      k0_part11_eq_skeleton, k0_part12_eq_skeleton, k0_part13_eq_skeleton, k0_part14_eq_skeleton, k0_part15_eq_skeleton,
      k0_part16_eq_skeleton, k0_part17_eq_skeleton, k0_part18_eq_skeleton, k0_part19_eq_skeleton, k0_part20_eq_skeleton,
      k0_part21_eq_skeleton, k0_part22_eq_skeleton, k0_part23_eq_skeleton, k0_part24_eq_skeleton, k0_part25_eq_skeleton,
      k0_part26_eq_skeleton, k0_part27_eq_skeleton, k0_part28_eq_skeleton, k0_part29_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
    obtain rfl := harg1.eq_unread hf0; obtain rfl := harg2.eq_unread hf1; obtain rfl := harg3.eq_unread hf2; obtain rfl := harg4.eq_unread hf3; obtain rfl := harg5.eq_unread hf4
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; iexists _; isplitr
      swap; · iexact H5
      ipureintro; rfl
    iexists _; iexists _; isplitr
    swap; · iexact H6
    ipureintro; rfl

variable (m : (ℓ : Loc nD τ sig) → Buf (Elt F) ℓ) (ρ : Dev nD → PrngReg)

/-- The outputs are held to nothing. -/
def held : Fin cfg0.W → Bool := fun w => w.val == 5 || w.val == 6
def Rl (F : FTy → Type) (c : Dev nD) : (w : Fin cfg0.W) → Fin cfg0.N → ((cfg0.win w).block.Idx → Elt F (cfg0.win w).elt) → Prop := fun _ _ _ => True

def pdat (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
  Φ _ := Pipeline.ΦA spec0 c
  q _ := fullShare
  owed _ := 0

theorem A_eq (c : Dev nD) (w : Fin cfg0.W) : (pdat m 0 c).A w = V m c (Pipeline.arrRef spec0 w) := by
  dsimp only [pdat]
theorem after_0 (c : Dev nD) (t : Fin cfg0.N) : (pdat m 0 c).after 0 t = iblk m c 0 t := by dsimp only [pdat]
theorem after_1 (c : Dev nD) (t : Fin cfg0.N) : (pdat m 0 c).after 1 t = iblk m c 1 t := by dsimp only [pdat]
theorem after_2 (c : Dev nD) (t : Fin cfg0.N) : (pdat m 0 c).after 2 t = iblk m c 2 t := by dsimp only [pdat]
theorem after_3 (c : Dev nD) (t : Fin cfg0.N) : (pdat m 0 c).after 3 t = iblk m c 3 t := by dsimp only [pdat]
theorem after_4 (c : Dev nD) (t : Fin cfg0.N) : (pdat m 0 c).after 4 t = iblk m c 4 t := by dsimp only [pdat]
theorem before_0 (c : Dev nD) (t : Fin cfg0.N) (d) : (pdat m 0 c).before 0 t d = iblk m c 0 t :=
  (Dat.before_in_eq_fetched _ 0 rfl (fun _ => rfl) (fun _ _ _ => rfl) (fun t => by rw [after_0]; rfl) t d).trans rfl
theorem before_1 (c : Dev nD) (t : Fin cfg0.N) (d) : (pdat m 0 c).before 1 t d = iblk m c 1 t :=
  (Dat.before_in_eq_fetched _ 1 rfl (fun _ => rfl) (fun _ _ _ => rfl) (fun t => by rw [after_1]; rfl) t d).trans rfl
theorem before_2 (c : Dev nD) (t : Fin cfg0.N) (d) : (pdat m 0 c).before 2 t d = iblk m c 2 t :=
  (Dat.before_in_eq_fetched _ 2 rfl (fun _ => rfl) (fun _ _ _ => rfl) (fun t => by rw [after_2]; rfl) t d).trans rfl
theorem before_3 (c : Dev nD) (t : Fin cfg0.N) (d) : (pdat m 0 c).before 3 t d = iblk m c 3 t :=
  (Dat.before_in_eq_fetched _ 3 rfl (fun _ => rfl) (fun _ _ _ => rfl) (fun t => by rw [after_3]; rfl) t d).trans rfl
theorem before_4 (c : Dev nD) (t : Fin cfg0.N) (d) : (pdat m 0 c).before 4 t d = iblk m c 4 t :=
  (Dat.before_in_eq_fetched _ 4 rfl (fun _ => rfl) (fun _ _ _ => rfl) (fun t => by rw [after_4]; rfl) t d).trans rfl

def pre (c : Dev nD) (t : Fin cfg0.N) : sProp 𝕄 :=
  iprop((pdat m 0 c).Φ t.castSucc ∗ (pdat m 0 c).owesAt () t.castSucc
    ∗ (∃ d, owns (c : Thread nD τ) (st0_0 t) fullShare ((pdat m 0 c).before 0 t d))
    ∗ (∃ d, owns (c : Thread nD τ) (st0_1 t) fullShare ((pdat m 0 c).before 1 t d))
    ∗ (∃ d, owns (c : Thread nD τ) (st0_2 t) fullShare ((pdat m 0 c).before 2 t d))
    ∗ (∃ d, owns (c : Thread nD τ) (st0_3 t) fullShare ((pdat m 0 c).before 3 t d))
    ∗ (∃ d, owns (c : Thread nD τ) (st0_4 t) fullShare ((pdat m 0 c).before 4 t d))
    ∗ (∃ Y, ⌜((pdat m 0 c).toRRel held (Rl F c)).Finds 5 t Y⌝ ∗ owns (c : Thread nD τ) (st0_5 t) fullShare Y)
    ∗ (∃ Y, ⌜((pdat m 0 c).toRRel held (Rl F c)).Finds 6 t Y⌝ ∗ owns (c : Thread nD τ) (st0_6 t) fullShare Y))
def post (c : Dev nD) (t : Fin cfg0.N) : sProp 𝕄 :=
  iprop((pdat m 0 c).Φ t.succ ∗ (pdat m 0 c).owesAt () t.succ
    ∗ owns (c : Thread nD τ) (st0_0 t) fullShare ((pdat m 0 c).after 0 t)
    ∗ owns (c : Thread nD τ) (st0_1 t) fullShare ((pdat m 0 c).after 1 t)
    ∗ owns (c : Thread nD τ) (st0_2 t) fullShare ((pdat m 0 c).after 2 t)
    ∗ owns (c : Thread nD τ) (st0_3 t) fullShare ((pdat m 0 c).after 3 t)
    ∗ owns (c : Thread nD τ) (st0_4 t) fullShare ((pdat m 0 c).after 4 t)
    ∗ (∃ X, ⌜Rl F c 5 t X⌝ ∗ owns (c : Thread nD τ) (st0_5 t) fullShare X)
    ∗ (∃ X, ⌜Rl F c 6 t X⌝ ∗ owns (c : Thread nD τ) (st0_6 t) fullShare X))

set_option maxHeartbeats 800000 in
theorem sound (c : Dev nD) (t : Fin cfg0.N) :
    pre m c t ⊢ wp frame (wpE (defs₀ (F := F)) Variants.none c none) Set.univ (bodyAt0 t) (fun _ => post m c t) := by
  unfold pre post bodyAt0
  simp only [before_0, before_1, before_2, before_3, before_4]
  rw [show (pdat m 0 c).Φ t.succ = (pdat m 0 c).Φ t.castSucc from rfl,
    show (pdat m 0 c).owesAt () t.succ = (pdat m 0 c).owesAt () t.castSucc from rfl, after_0, after_1, after_2, after_3, after_4]
  iintro ⟨HΦ, Ho, ⟨%d0, H0⟩, ⟨%d1, H1⟩, ⟨%d2, H2⟩, ⟨%d3, H3⟩, ⟨%d4, H4⟩, ⟨%d5, -, H5⟩, ⟨%d6, -, H6⟩⟩
  iapply (run c (grid0.coords t) _ _ _ _ _ _ _ _ _ _ _ _ _ _ (iblk m c 0 t) (iblk m c 1 t) (iblk m c 2 t) (iblk m c 3 t) (iblk m c 4 t) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, ⟨%e5, H5⟩, ⟨%e6, H6⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]
  · iexists _; isplitr
    swap; · iexact H5
    ipureintro; trivial
  iexists _; isplitr
  swap; · iexact H6
  ipureintro; trivial

theorem row_body (t : Fin cfg0.N) : defs₀ (F := F) .tc cfg0.body (cfg0.bodyArgs t (cfg0.slots t)) = bodyAt0 t := by
  unfold defs₀; rw [Defs.onTc_tc]

theorem obligation (c : Dev nD) : Pipeline.BodyObligationRel (pdat m 0 c) (defs₀ (F := F)) Variants.none () Set.univ held (Rl F c) := fun t => by
  rw [bigSep_W0, bigSep_W0, row_body]
  exact triple_restated (sound m c t) rfl .rfl fun _ => .rfl

set_option backward.isDefEq.respectTransparency.types false in
/-- The run of the region, with every counter at zero after it. -/
theorem main_run : θ_run defs (onTc (τ := τ) (main (F := F))) (s₀ m ρ)
    (fun r => (Pipeline.RDat.FramePost (cfgs 0) (fun c => (pdat m 0 c).toRRel held (Rl F c)) (V m)) r ∧ r.2.sem = fun _ => 0) :=
  Pipeline.RDat.θ_run_frame (Q' := _) cfgs (0 : Fin 1) launch0 defs₀ Variants.none (fun c => (pdat m 0 c).toRRel held (Rl F c)) m ρ main
    (hbody := fun c => (obligation m c).toRRel) (hshare := fun c => (pdat m 0 c).share_full fun _ => rfl)
    (howed := fun _ _ => rfl) (V := V m) (hmain := hmain m Variants.none) (hA := A_eq m) (hΦ := fun _ _ => rfl)

/-- The arguments end as they were launched. -/
theorem args (r : PUnit × MemSt nD τ sig (Elt F))
    (h : Pipeline.RDat.FramePost (cfgs 0) (fun c => (pdat m 0 c).toRRel held (Rl F c)) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c)⟩

end Cert.RecHgQuiet
end
-- ==== Proof.RecHg.Claims.lean ====
/-
  The claims of this call.
-/
module

public import proofs.«01_k».proof.Defs
public import proofs.«01_k».proof.Proof.Gen.RecHg
public import proofs.«01_k».proof.Proof.Gen.RecHgIdeal
public import proofs.«01_k».proof.Proof.Gen.RecHgReferenceIdeal
public import proofs.«01_k».proof.Proof.Gen.RecHgReferenceIdeal.Run
public import proofs.«01_k».proof.Proof.RecHg.Reference
public import proofs.«01_k».proof.Proof.RecHg.Quiet
public import Idealize.ShloMosaic.Adequacy
public import Idealize.ShloMosaic.Init
public import Idealize.ShloMosaic.Lib.Claim

@[expose] public section

set_option maxRecDepth 16384

noncomputable section

namespace Cert.RecHgValue

open Idealize.ShloMosaic Idealize.ShloMosaic.TcCoe Idealize.SL.Sem
open Cert.RecHgRun (L)
open Cert.Decay (wide newState)

/-- The two programs have the same text, so they have the same body table. -/
theorem table : Cert.RecHg.defs (F := Bits) = Cert.RecHgIdeal.defs (F := Bits) :=
  congrArg (Pipeline.defs (Cert.RecHgIdeal.pcfgs (F := Bits))) <| congrArg Defs.onTc <| by
    funext l a
    match l with
    | 0 => exact rfl

theorem quiescent_bits : Cert.quiescent_RecHg := fun m g _ => by
  rw [table]
  exact (θ_run Cert.RecHgIdeal.defs _ _).mono (fun _ h => ⟨fun c => Cert.RecHgQuiet.args m _ h.1 c, h.2⟩) (Cert.RecHgQuiet.main_run (F := Bits) m g)

theorem quiescent_ideal : Cert.quiescent_RecHgIdeal := fun m g _ =>
  (θ_run _ _ _).mono (fun _ h => ⟨fun c => Cert.RecHgQuiet.args m _ h.1 c, h.2⟩) (Cert.RecHgQuiet.main_run (F := Ideal) m g)

theorem quiescent_reference : Cert.quiescent_RecHgReferenceIdeal := fun m g _ =>
  (θ_run _ _ _).mono (fun r h => ⟨fun c => (h c).2.2, sem_eq_zero_of_no_sems (by decide) r.2⟩) (Cert.RecHgReferenceIdeal.Value.run m g)

theorem algebraic : Cert.algebraic_RecHgIdeal_RecHgReferenceIdeal := fun m g m' g' _ hagree =>
  ⟨fun c => Cert.RecHgRun.res m c, fun c => Cert.RecHgRun.states m c,
   (θ_run _ _ _).mono (fun _ h c => ⟨Cert.RecHgRun.final_5 m _ h.1 c, (Cert.RecHgRun.final_6 m _ h.1 c).trans (Cert.RecHgRun.states_eq m c), Cert.RecHgRun.args m _ h.1 c⟩) (Cert.RecHgRun.main_run m g),
   (θ_run _ _ _).mono (fun _ h c => by
      obtain ⟨a0, a1, a2, a3, a4⟩ := hagree c
      obtain ⟨h0, h1, hargs⟩ := h c
      refine ⟨h0.trans ?_, h1.trans ?_, hargs⟩
      · rw [a0, a1, a2, a3, a4]
        refine (Cert.RecHgReferenceIdeal.Read.val_main_v15_eq _ _ _ _ _).trans (funext fun y => ?_)
        have hy : y = ix2 (wide L ⟨(y 0).val / 64, by have := (y 0).isLt; change _ < 256 at this; omega⟩ ⟨(y 0).val % 64, by omega⟩) (y 1) := by
          funext z; apply Fin.ext; fin_cases z
          · show (y 0).val = 64 * ((y 0).val / 64) + (y 0).val % 64; omega
          · rfl
        rw [hy]
        exact (Cert.RecHgRun.ref_out _ _ _ _ _ _ _ _).trans (Cert.RecHgRun.res_eq m c _ _ _).symm
      · rw [a0, a1, a3, a4]
        refine (Cert.RecHgReferenceIdeal.Read.val_main_v16_eq _ _ _ _).trans (funext fun y => ?_)
        have hy : y = ix4 (y 0) (y 1) (y 2) (y 3) := by funext z; fin_cases z <;> rfl
        rw [hy]
        exact Cert.RecHgRun.ref_state _ _ _ _ _ _ _ _)
     (Cert.RecHgReferenceIdeal.Value.run m' g')⟩

end Cert.RecHgValue
end
-- ==== Proof.RecMb.Run.lean ====
/-
  One grid point of the recurrence of this mixer, with the values that it stores.
-/
module

public import proofs.«01_k».proof.Proof.Gen.RecMbIdeal.Frame
public import proofs.«01_k».proof.Proof.Gen.RecMbIdeal.Skeleton
public import Idealize.ShloMosaic.Lib.Pipeline.FrameBody
public import Idealize.ShloMosaic.Lib.Pipeline.FrameSuffix
public import proofs.«01_k».proof.Proof.Decay.Point
public import Idealize.ShloMosaic.Lib.Tactic

@[expose] public section

set_option maxRecDepth 16384

noncomputable section

namespace Cert.RecMbRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.RecMbIdeal Cert.RecMbIdeal.Gen
open Cert.Decay (Lay outBlk stateBlk outAt stepAt)
open Cert.Rec (Before store_step mem_mask)

local notation "𝕄" => MT nD τ sig Unit (Elt Ideal) ℕ (UR sig nD τ) ℕ

/-- 4 pairs of heads; the keys of pair `p` begin at lane 128 * (p / 2). -/
def L : Lay 4 8 512 256 := ⟨rfl, rfl, fun p => 128 * (p / 2), by intro p hp; show 128 * (p / 2) + 128 ≤ _; omega⟩

set_option maxHeartbeats 8000000 in
/-- One grid point's body: the inputs stay, the resident block takes the results of this point, the block of states is the new one. -/
theorem run (c : Dev nD) (i : grid0.Coords)
    (arg1 : Memref sig .tc .vmem S8x512 .f32) (harg1 : arg1.IsWhole)
    (arg2 : Memref sig .tc .vmem S8x256 .f32) (harg2 : arg2.IsWhole)
    (arg3 : Memref sig .tc .vmem S8x256 .f32) (harg3 : arg3.IsWhole)
    (arg4 : Memref sig .tc .vmem S512x128 .f32) (harg4 : arg4.IsWhole)
    (arg5 : Memref sig .tc .vmem S8x8x64x64 .f32) (harg5 : arg5.IsWhole)
    (arg6 : Memref sig .tc .vmem S512x128 .f32) (harg6 : arg6.IsWhole)
    (arg7 : Memref sig .tc .vmem S8x8x64x64 .f32) (harg7 : arg7.IsWhole)
    (x0 : Vec Ideal S8x512 .f32) (x1 x2 : Vec Ideal S8x256 .f32)
    (x3 : Vec Ideal S512x128 .f32) (x4 : Vec Ideal S8x8x64x64 .f32) (d : Vec Ideal S512x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ owns (c : Thread nD τ) arg6 fullShare d ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
          ∗ owns (c : Thread nD τ) arg6 fullShare (outBlk L (i 0) x0 x1 x2 x3 x4 d)
          ∗ owns (c : Thread nD τ) arg7 fullShare (stateBlk L (i 0) x0 x1 x3 x4)) -∗ K ⟨⟩))
      ⊢ wp frame (wpE (defs₀ (F := Ideal)) Variants.none c none) E (cc0_rec_step i arg1 harg1 arg2 harg2 arg3 harg3 arg4 harg4 arg5 harg5 arg6 harg6 arg7 harg7) K := by
    simp only [cc0_rec_step_eq_skeleton]; unfold cc0_rec_step_skel
    simp only [k0_part1_eq_skeleton, k0_part2_eq_skeleton, k0_part3_eq_skeleton, k0_part4_eq_skeleton, k0_part5_eq_skeleton,
      k0_part6_eq_skeleton, k0_part7_eq_skeleton, k0_part8_eq_skeleton, k0_part9_eq_skeleton, k0_part10_eq_skeleton,
      k0_part11_eq_skeleton, k0_part12_eq_skeleton, k0_part13_eq_skeleton, k0_part14_eq_skeleton, k0_part15_eq_skeleton,
      k0_part16_eq_skeleton, k0_part17_eq_skeleton, k0_part18_eq_skeleton, k0_part19_eq_skeleton, k0_part20_eq_skeleton,
      k0_part21_eq_skeleton, k0_part22_eq_skeleton, k0_part23_eq_skeleton, k0_part24_eq_skeleton, k0_part25_eq_skeleton,
      k0_part26_eq_skeleton, k0_part27_eq_skeleton, k0_part28_eq_skeleton, k0_part29_eq_skeleton, k0_part30_eq_skeleton,
      k0_part31_eq_skeleton, k0_part32_eq_skeleton, k0_part33_eq_skeleton, k0_part34_eq_skeleton, k0_part35_eq_skeleton,
      k0_part36_eq_skeleton, k0_part37_eq_skeleton, k0_part38_eq_skeleton, k0_part39_eq_skeleton, k0_part40_eq_skeleton,
      k0_part41_eq_skeleton, k0_part42_eq_skeleton, k0_part43_eq_skeleton, k0_part44_eq_skeleton, k0_part45_eq_skeleton,
      k0_part46_eq_skeleton, k0_part47_eq_skeleton, k0_part48_eq_skeleton, k0_part49_eq_skeleton, k0_part50_eq_skeleton,
      k0_part51_eq_skeleton, k0_part52_eq_skeleton, k0_part53_eq_skeleton, k0_part54_eq_skeleton, k0_part55_eq_skeleton,
      k0_part56_eq_skeleton, k0_part57_eq_skeleton, k0_part58_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
    obtain rfl := harg1.eq_unread hf0; obtain rfl := harg2.eq_unread hf1; obtain rfl := harg3.eq_unread hf2; obtain rfl := harg4.eq_unread hf3; obtain rfl := harg5.eq_unread hf4
    have loC := fun (b : Fin 8) (p : Fin 4) => Cert.Decay.colLo_blk L (i 0) arg1 harg1 arg2 harg2 arg3 harg3 arg4 harg4 arg5 harg5 x0 x1 x2 x3 x4 b p d
    have hiC := fun (b : Fin 8) (p : Fin 4) => Cert.Decay.colHi_blk L (i 0) arg1 harg1 arg2 harg2 arg3 harg3 arg4 harg4 arg5 harg5 x0 x1 x2 x3 x4 b p d
    have leftS := fun (b : Fin 8) (p : Fin 4) => Cert.Decay.left_blk L (i 0) arg1 harg1 arg2 harg2 arg4 harg4 arg5 harg5 x0 x1 x3 x4 b p
    have rightS := fun (b : Fin 8) (p : Fin 4) => Cert.Decay.right_blk L (i 0) arg1 harg1 arg2 harg2 arg4 harg4 arg5 harg5 x0 x1 x3 x4 b p
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr
      swap; · iexact H5
      ipureintro
      funext y
      have hy : Before 8 (i 0).val 64 y := fun _ => by
        have := (y 0).isLt; change _ < 512 at this; omega
      revert hy; revert y
      refine store_step 8 (i 0).val 7 7 _ (by decide) rfl _ _ (mem_mask (i 0) 7) _ (hiC 7 3) ?_
      refine store_step 8 (i 0).val 7 6 _ (by decide) rfl _ _ (mem_mask (i 0) 7) _ (loC 7 3) ?_
      refine store_step 8 (i 0).val 7 5 _ (by decide) rfl _ _ (mem_mask (i 0) 7) _ (hiC 7 2) ?_
      refine store_step 8 (i 0).val 7 4 _ (by decide) rfl _ _ (mem_mask (i 0) 7) _ (loC 7 2) ?_
      refine store_step 8 (i 0).val 7 3 _ (by decide) rfl _ _ (mem_mask (i 0) 7) _ (hiC 7 1) ?_
      refine store_step 8 (i 0).val 7 2 _ (by decide) rfl _ _ (mem_mask (i 0) 7) _ (loC 7 1) ?_
      refine store_step 8 (i 0).val 7 1 _ (by decide) rfl _ _ (mem_mask (i 0) 7) _ (hiC 7 0) ?_
      refine store_step 8 (i 0).val 7 0 _ (by decide) rfl _ _ (mem_mask (i 0) 7) _ (loC 7 0) ?_
      refine store_step 8 (i 0).val 6 7 _ (by decide) rfl _ _ (mem_mask (i 0) 6) _ (hiC 6 3) ?_
      refine store_step 8 (i 0).val 6 6 _ (by decide) rfl _ _ (mem_mask (i 0) 6) _ (loC 6 3) ?_
      refine store_step 8 (i 0).val 6 5 _ (by decide) rfl _ _ (mem_mask (i 0) 6) _ (hiC 6 2) ?_
      refine store_step 8 (i 0).val 6 4 _ (by decide) rfl _ _ (mem_mask (i 0) 6) _ (loC 6 2) ?_
      refine store_step 8 (i 0).val 6 3 _ (by decide) rfl _ _ (mem_mask (i 0) 6) _ (hiC 6 1) ?_
      refine store_step 8 (i 0).val 6 2 _ (by decide) rfl _ _ (mem_mask (i 0) 6) _ (loC 6 1) ?_
      refine store_step 8 (i 0).val 6 1 _ (by decide) rfl _ _ (mem_mask (i 0) 6) _ (hiC 6 0) ?_
      refine store_step 8 (i 0).val 6 0 _ (by decide) rfl _ _ (mem_mask (i 0) 6) _ (loC 6 0) ?_
      refine store_step 8 (i 0).val 5 7 _ (by decide) rfl _ _ (mem_mask (i 0) 5) _ (hiC 5 3) ?_
      refine store_step 8 (i 0).val 5 6 _ (by decide) rfl _ _ (mem_mask (i 0) 5) _ (loC 5 3) ?_
      refine store_step 8 (i 0).val 5 5 _ (by decide) rfl _ _ (mem_mask (i 0) 5) _ (hiC 5 2) ?_
      refine store_step 8 (i 0).val 5 4 _ (by decide) rfl _ _ (mem_mask (i 0) 5) _ (loC 5 2) ?_
      refine store_step 8 (i 0).val 5 3 _ (by decide) rfl _ _ (mem_mask (i 0) 5) _ (hiC 5 1) ?_
      refine store_step 8 (i 0).val 5 2 _ (by decide) rfl _ _ (mem_mask (i 0) 5) _ (loC 5 1) ?_
      refine store_step 8 (i 0).val 5 1 _ (by decide) rfl _ _ (mem_mask (i 0) 5) _ (hiC 5 0) ?_
      refine store_step 8 (i 0).val 5 0 _ (by decide) rfl _ _ (mem_mask (i 0) 5) _ (loC 5 0) ?_
      refine store_step 8 (i 0).val 4 7 _ (by decide) rfl _ _ (mem_mask (i 0) 4) _ (hiC 4 3) ?_
      refine store_step 8 (i 0).val 4 6 _ (by decide) rfl _ _ (mem_mask (i 0) 4) _ (loC 4 3) ?_
      refine store_step 8 (i 0).val 4 5 _ (by decide) rfl _ _ (mem_mask (i 0) 4) _ (hiC 4 2) ?_
      refine store_step 8 (i 0).val 4 4 _ (by decide) rfl _ _ (mem_mask (i 0) 4) _ (loC 4 2) ?_
      refine store_step 8 (i 0).val 4 3 _ (by decide) rfl _ _ (mem_mask (i 0) 4) _ (hiC 4 1) ?_
      refine store_step 8 (i 0).val 4 2 _ (by decide) rfl _ _ (mem_mask (i 0) 4) _ (loC 4 1) ?_
      refine store_step 8 (i 0).val 4 1 _ (by decide) rfl _ _ (mem_mask (i 0) 4) _ (hiC 4 0) ?_
      refine store_step 8 (i 0).val 4 0 _ (by decide) rfl _ _ (mem_mask (i 0) 4) _ (loC 4 0) ?_
      refine store_step 8 (i 0).val 3 7 _ (by decide) rfl _ _ (mem_mask (i 0) 3) _ (hiC 3 3) ?_
      refine store_step 8 (i 0).val 3 6 _ (by decide) rfl _ _ (mem_mask (i 0) 3) _ (loC 3 3) ?_
      refine store_step 8 (i 0).val 3 5 _ (by decide) rfl _ _ (mem_mask (i 0) 3) _ (hiC 3 2) ?_
      refine store_step 8 (i 0).val 3 4 _ (by decide) rfl _ _ (mem_mask (i 0) 3) _ (loC 3 2) ?_
      refine store_step 8 (i 0).val 3 3 _ (by decide) rfl _ _ (mem_mask (i 0) 3) _ (hiC 3 1) ?_
      refine store_step 8 (i 0).val 3 2 _ (by decide) rfl _ _ (mem_mask (i 0) 3) _ (loC 3 1) ?_
      refine store_step 8 (i 0).val 3 1 _ (by decide) rfl _ _ (mem_mask (i 0) 3) _ (hiC 3 0) ?_
      refine store_step 8 (i 0).val 3 0 _ (by decide) rfl _ _ (mem_mask (i 0) 3) _ (loC 3 0) ?_
      refine store_step 8 (i 0).val 2 7 _ (by decide) rfl _ _ (mem_mask (i 0) 2) _ (hiC 2 3) ?_
      refine store_step 8 (i 0).val 2 6 _ (by decide) rfl _ _ (mem_mask (i 0) 2) _ (loC 2 3) ?_
      refine store_step 8 (i 0).val 2 5 _ (by decide) rfl _ _ (mem_mask (i 0) 2) _ (hiC 2 2) ?_
      refine store_step 8 (i 0).val 2 4 _ (by decide) rfl _ _ (mem_mask (i 0) 2) _ (loC 2 2) ?_
      refine store_step 8 (i 0).val 2 3 _ (by decide) rfl _ _ (mem_mask (i 0) 2) _ (hiC 2 1) ?_
      refine store_step 8 (i 0).val 2 2 _ (by decide) rfl _ _ (mem_mask (i 0) 2) _ (loC 2 1) ?_
      refine store_step 8 (i 0).val 2 1 _ (by decide) rfl _ _ (mem_mask (i 0) 2) _ (hiC 2 0) ?_
      refine store_step 8 (i 0).val 2 0 _ (by decide) rfl _ _ (mem_mask (i 0) 2) _ (loC 2 0) ?_
      refine store_step 8 (i 0).val 1 7 _ (by decide) rfl _ _ (mem_mask (i 0) 1) _ (hiC 1 3) ?_
      refine store_step 8 (i 0).val 1 6 _ (by decide) rfl _ _ (mem_mask (i 0) 1) _ (loC 1 3) ?_
      refine store_step 8 (i 0).val 1 5 _ (by decide) rfl _ _ (mem_mask (i 0) 1) _ (hiC 1 2) ?_
      refine store_step 8 (i 0).val 1 4 _ (by decide) rfl _ _ (mem_mask (i 0) 1) _ (loC 1 2) ?_
      refine store_step 8 (i 0).val 1 3 _ (by decide) rfl _ _ (mem_mask (i 0) 1) _ (hiC 1 1) ?_
      refine store_step 8 (i 0).val 1 2 _ (by decide) rfl _ _ (mem_mask (i 0) 1) _ (loC 1 1) ?_
      refine store_step 8 (i 0).val 1 1 _ (by decide) rfl _ _ (mem_mask (i 0) 1) _ (hiC 1 0) ?_
      refine store_step 8 (i 0).val 1 0 _ (by decide) rfl _ _ (mem_mask (i 0) 1) _ (loC 1 0) ?_
      refine store_step 8 (i 0).val 0 7 _ (by decide) rfl _ _ (mem_mask (i 0) 0) _ (hiC 0 3) ?_
      refine store_step 8 (i 0).val 0 6 _ (by decide) rfl _ _ (mem_mask (i 0) 0) _ (loC 0 3) ?_
      refine store_step 8 (i 0).val 0 5 _ (by decide) rfl _ _ (mem_mask (i 0) 0) _ (hiC 0 2) ?_
      refine store_step 8 (i 0).val 0 4 _ (by decide) rfl _ _ (mem_mask (i 0) 0) _ (loC 0 2) ?_
      refine store_step 8 (i 0).val 0 3 _ (by decide) rfl _ _ (mem_mask (i 0) 0) _ (hiC 0 1) ?_
      refine store_step 8 (i 0).val 0 2 _ (by decide) rfl _ _ (mem_mask (i 0) 0) _ (loC 0 1) ?_
      refine store_step 8 (i 0).val 0 1 _ (by decide) rfl _ _ (mem_mask (i 0) 0) _ (hiC 0 0) ?_
      refine store_step 8 (i 0).val 0 0 _ (by decide) rfl _ _ (mem_mask (i 0) 0) _ (loC 0 0) ?_
      intro y hy
      rw [hf5]; unfold outBlk
      rw [if_neg]
      intro hi
      exact absurd (hy hi) (Nat.not_lt_zero _)
    · iexists _; isplitr
      swap; · iexact H6
      ipureintro
      funext y
      refine View.read_writes_apply_of_pieces _ _ _ _ ?_ y (View.cover_of_tiled _ ![1, 1, 64, 64] (by rfl) y)
      simp only [List.forall_mem_cons]
      refine ⟨rightS 7 3, leftS 7 3, rightS 7 2, leftS 7 2, rightS 7 1, leftS 7 1, rightS 7 0, leftS 7 0,
        rightS 6 3, leftS 6 3, rightS 6 2, leftS 6 2, rightS 6 1, leftS 6 1, rightS 6 0, leftS 6 0,
        rightS 5 3, leftS 5 3, rightS 5 2, leftS 5 2, rightS 5 1, leftS 5 1, rightS 5 0, leftS 5 0,
        rightS 4 3, leftS 4 3, rightS 4 2, leftS 4 2, rightS 4 1, leftS 4 1, rightS 4 0, leftS 4 0,
        rightS 3 3, leftS 3 3, rightS 3 2, leftS 3 2, rightS 3 1, leftS 3 1, rightS 3 0, leftS 3 0,
        rightS 2 3, leftS 2 3, rightS 2 2, leftS 2 2, rightS 2 1, leftS 2 1, rightS 2 0, leftS 2 0,
        rightS 1 3, leftS 1 3, rightS 1 2, leftS 1 2, rightS 1 1, leftS 1 1, rightS 1 0, leftS 1 0,
        rightS 0 3, leftS 0 3, rightS 0 2, leftS 0 2, rightS 0 1, leftS 0 1, rightS 0 0, leftS 0 0, fun _ h => absurd h List.not_mem_nil⟩

end Cert.RecMbRun
end
-- ==== Proof.RecMb.Frame.lean ====
/-
  The run of the whole grid: the resident block after a point has the results of that point and of those before.
-/
module

public import proofs.«01_k».proof.Proof.Gen.RecMbIdeal.Frame
public import proofs.«01_k».proof.Proof.Gen.RecMbIdeal.Skeleton
public import Idealize.ShloMosaic.Lib.Pipeline.FrameBody
public import Idealize.ShloMosaic.Lib.Pipeline.FrameSuffix
public import Idealize.ShloMosaic.Lib.Pipeline.DatRel
public import Idealize.ShloMosaic.Lib.Pipeline.ArrRel
public import proofs.«01_k».proof.Proof.RecMb.Run
public import Idealize.ShloMosaic.Lib.Tactic

@[expose] public section

set_option maxRecDepth 16384

noncomputable section

namespace Cert.RecMbRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.RecMbIdeal Cert.RecMbIdeal.Gen
open Cert.Decay (Lay outBlk stateBlk outAt stepAt headOf)

local notation "𝕄" => MT nD τ sig Unit (Elt Ideal) ℕ (UR sig nD τ) ℕ

variable (m : (ℓ : Loc nD τ sig) → Buf (Elt Ideal) ℓ) (ρ : Dev nD → PrngReg)

theorem coord (t : Fin cfg0.N) : (grid0.coords t 0).val = t.val := (by decide +kernel : ∀ t : Fin grid0.N, (grid0.coords t 0).val = t.val) t

/-- The grid point that takes a lane. -/
def pt (l : Fin 128) : Fin cfg0.N := ⟨l.val / 8, by show _ < grid0.N; rw [N_0]; omega⟩

/-- The results, row by row and lane by lane. -/
def res (c : Dev nD) : Vec Ideal S512x128 .f32 := fun y =>
  outAt L (grid0.coords (pt (y 1)) 0) (iblk m c 0 (pt (y 1))) (iblk m c 1 (pt (y 1))) (iblk m c 2 (pt (y 1))) (iblk m c 3 (pt (y 1))) (iblk m c 4 (pt (y 1)))
    ⟨(y 1).val % 8, by omega⟩ (headOf L (y 0)) ⟨(y 0).val % 64, by omega⟩

/-- The resident block is held to a predicate, nothing else is. -/
def held : Fin cfg0.W → Bool := fun w => w.val == 5

def Rl (c : Dev nD) : (w : Fin cfg0.W) → Fin cfg0.N → ((cfg0.win w).block.Idx → Elt Ideal (cfg0.win w).elt) → Prop := fun w t X =>
  match w, X with
  | ⟨5, _⟩, X => ∀ y : S512x128.Idx, (y 1).val < 8 * (t.val + 1) → X y = res m c y
  | _, _ => True

def pdat (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, _⟩ => stateBlk L (grid0.coords t 0) (iblk m c 0 t) (iblk m c 1 t) (iblk m c 3 t) (iblk m c 4 t)
  Φ _ := Pipeline.ΦA spec0 c
  q _ := fullShare
  owed _ := 0

theorem A_eq (c : Dev nD) (w : Fin cfg0.W) : (pdat m 0 c).A w = V m c (Pipeline.arrRef spec0 w) := by
  dsimp only [pdat]
theorem after_0 (c : Dev nD) (t : Fin cfg0.N) : (pdat m 0 c).after 0 t = iblk m c 0 t := by dsimp only [pdat]
theorem after_1 (c : Dev nD) (t : Fin cfg0.N) : (pdat m 0 c).after 1 t = iblk m c 1 t := by dsimp only [pdat]
theorem after_2 (c : Dev nD) (t : Fin cfg0.N) : (pdat m 0 c).after 2 t = iblk m c 2 t := by dsimp only [pdat]
theorem after_3 (c : Dev nD) (t : Fin cfg0.N) : (pdat m 0 c).after 3 t = iblk m c 3 t := by dsimp only [pdat]
theorem after_4 (c : Dev nD) (t : Fin cfg0.N) : (pdat m 0 c).after 4 t = iblk m c 4 t := by dsimp only [pdat]
theorem after_6 (c : Dev nD) (t : Fin cfg0.N) : (pdat m 0 c).after 6 t = stateBlk L (grid0.coords t 0) (iblk m c 0 t) (iblk m c 1 t) (iblk m c 3 t) (iblk m c 4 t) := by
  dsimp only [pdat]
theorem before_0 (c : Dev nD) (t : Fin cfg0.N) (d) : (pdat m 0 c).before 0 t d = iblk m c 0 t :=
  (Dat.before_in_eq_fetched _ 0 rfl (fun _ => rfl) (fun _ _ _ => rfl) (fun t => by rw [after_0]; rfl) t d).trans rfl
theorem before_1 (c : Dev nD) (t : Fin cfg0.N) (d) : (pdat m 0 c).before 1 t d = iblk m c 1 t :=
  (Dat.before_in_eq_fetched _ 1 rfl (fun _ => rfl) (fun _ _ _ => rfl) (fun t => by rw [after_1]; rfl) t d).trans rfl
theorem before_2 (c : Dev nD) (t : Fin cfg0.N) (d) : (pdat m 0 c).before 2 t d = iblk m c 2 t :=
  (Dat.before_in_eq_fetched _ 2 rfl (fun _ => rfl) (fun _ _ _ => rfl) (fun t => by rw [after_2]; rfl) t d).trans rfl
theorem before_3 (c : Dev nD) (t : Fin cfg0.N) (d) : (pdat m 0 c).before 3 t d = iblk m c 3 t :=
  (Dat.before_in_eq_fetched _ 3 rfl (fun _ => rfl) (fun _ _ _ => rfl) (fun t => by rw [after_3]; rfl) t d).trans rfl
theorem before_4 (c : Dev nD) (t : Fin cfg0.N) (d) : (pdat m 0 c).before 4 t d = iblk m c 4 t :=
  (Dat.before_in_eq_fetched _ 4 rfl (fun _ => rfl) (fun _ _ _ => rfl) (fun t => by rw [after_4]; rfl) t d).trans rfl

/-- What the body finds in the resident block: the lanes of the points before. -/
theorem finds (c : Dev nD) (t : Fin cfg0.N) (X : S512x128.Idx → Elt Ideal .f32) (h : ((pdat m 0 c).toRRel held (Rl m c)).Finds 5 t X)
    (y : S512x128.Idx) (hy : (y 1).val < 8 * t.val) : X y = res m c y := by
  have ht : t.val ≠ 0 := by omega
  rcases (Pipeline.RDat.finds_of_pos (rd := (pdat m 0 c).toRRel held (Rl m c)) (w := 5) rfl ht X).mp h with hf | hl
  · exfalso
    have := (flush0_5 _).mp hf
    have hN : t.val < 16 := by have := t.isLt; change _ < grid0.N at this; rwa [N_0] at this
    change (t.val - 1) % 16 = 15 at this
    omega
  · exact Dat.toRRel_leaves _ rfl hl y (by show _ < 8 * (t.val - 1 + 1); omega)

/-- What it leaves there. -/
theorem leaves (c : Dev nD) (t : Fin cfg0.N) (X : S512x128.Idx → Elt Ideal .f32) (hX : ∀ y : S512x128.Idx, (y 1).val < 8 * t.val → X y = res m c y)
    (y : S512x128.Idx) (hy : (y 1).val < 8 * (t.val + 1)) : outBlk L (grid0.coords t 0) (iblk m c 0 t) (iblk m c 1 t) (iblk m c 2 t) (iblk m c 3 t) (iblk m c 4 t) X y = res m c y := by
  unfold outBlk
  by_cases h : (y 1).val / 8 = (grid0.coords t 0).val
  · rw [if_pos h]
    rw [coord t] at h
    have e : pt (y 1) = t := Fin.ext h
    unfold res
    rw [e]
  · rw [if_neg h]
    rw [coord t] at h
    exact hX y (by omega)

def pre (c : Dev nD) (t : Fin cfg0.N) : sProp 𝕄 :=
  iprop((pdat m 0 c).Φ t.castSucc ∗ (pdat m 0 c).owesAt () t.castSucc
    ∗ (∃ d, owns (c : Thread nD τ) (st0_0 t) fullShare ((pdat m 0 c).before 0 t d))
    ∗ (∃ d, owns (c : Thread nD τ) (st0_1 t) fullShare ((pdat m 0 c).before 1 t d))
    ∗ (∃ d, owns (c : Thread nD τ) (st0_2 t) fullShare ((pdat m 0 c).before 2 t d))
    ∗ (∃ d, owns (c : Thread nD τ) (st0_3 t) fullShare ((pdat m 0 c).before 3 t d))
    ∗ (∃ d, owns (c : Thread nD τ) (st0_4 t) fullShare ((pdat m 0 c).before 4 t d))
    ∗ (∃ Y, ⌜((pdat m 0 c).toRRel held (Rl m c)).Finds 5 t Y⌝ ∗ owns (c : Thread nD τ) (st0_5 t) fullShare Y)
    ∗ (∃ d, owns (c : Thread nD τ) (st0_6 t) fullShare ((pdat m 0 c).before 6 t d)))

def post (c : Dev nD) (t : Fin cfg0.N) : sProp 𝕄 :=
  iprop((pdat m 0 c).Φ t.succ ∗ (pdat m 0 c).owesAt () t.succ
    ∗ owns (c : Thread nD τ) (st0_0 t) fullShare ((pdat m 0 c).after 0 t)
    ∗ owns (c : Thread nD τ) (st0_1 t) fullShare ((pdat m 0 c).after 1 t)
    ∗ owns (c : Thread nD τ) (st0_2 t) fullShare ((pdat m 0 c).after 2 t)
    ∗ owns (c : Thread nD τ) (st0_3 t) fullShare ((pdat m 0 c).after 3 t)
    ∗ owns (c : Thread nD τ) (st0_4 t) fullShare ((pdat m 0 c).after 4 t)
    ∗ (∃ X, ⌜Rl m c 5 t X⌝ ∗ owns (c : Thread nD τ) (st0_5 t) fullShare X)
    ∗ owns (c : Thread nD τ) (st0_6 t) fullShare ((pdat m 0 c).after 6 t))

set_option maxHeartbeats 800000 in
theorem sound (c : Dev nD) (t : Fin cfg0.N) :
    pre m c t ⊢ wp frame (wpE (defs₀ (F := Ideal)) Variants.none c none) Set.univ (bodyAt0 t) (fun _ => post m c t) := by
  unfold pre post bodyAt0
  simp only [before_0, before_1, before_2, before_3, before_4]
  rw [show (pdat m 0 c).Φ t.succ = (pdat m 0 c).Φ t.castSucc from rfl,
    show (pdat m 0 c).owesAt () t.succ = (pdat m 0 c).owesAt () t.castSucc from rfl, after_0, after_1, after_2, after_3, after_4, after_6]
  iintro ⟨HΦ, Ho, ⟨%d0, H0⟩, ⟨%d1, H1⟩, ⟨%d2, H2⟩, ⟨%d3, H3⟩, ⟨%d4, H4⟩, ⟨%d5, %hd5, H5⟩, ⟨%d6, H6⟩⟩
  iapply (run c (grid0.coords t) _ _ _ _ _ _ _ _ _ _ _ _ _ _ (iblk m c 0 t) (iblk m c 1 t) (iblk m c 2 t) (iblk m c 3 t) (iblk m c 4 t) d5 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]
  · iexists _; isplitr
    swap; · iexact H5
    ipureintro
    exact leaves m c t d5 (finds m c t d5 hd5)
  iexact H6

theorem row_body (t : Fin cfg0.N) : defs₀ (F := Ideal) .tc cfg0.body (cfg0.bodyArgs t (cfg0.slots t)) = bodyAt0 t := by
  unfold defs₀; rw [Defs.onTc_tc]

theorem obligation (c : Dev nD) : Pipeline.BodyObligationRel (pdat m 0 c) (defs₀ (F := Ideal)) Variants.none () Set.univ held (Rl m c) := fun t => by
  rw [bigSep_W0, bigSep_W0, row_body]
  exact triple_restated (sound m c t) rfl .rfl fun _ => .rfl

set_option backward.isDefEq.respectTransparency.types false in
/-- The run of the region, with every counter at zero after it. -/
theorem main_run : θ_run defs (onTc (τ := τ) (main (F := Ideal))) (s₀ m ρ)
    (fun r => (Pipeline.RDat.FramePost (cfgs 0) (fun c => (pdat m 0 c).toRRel held (Rl m c)) (V m)) r ∧ r.2.sem = fun _ => 0) :=
  Pipeline.RDat.θ_run_frame (Q' := _) cfgs (0 : Fin 1) launch0 defs₀ Variants.none (fun c => (pdat m 0 c).toRRel held (Rl m c)) m ρ main
    (hbody := fun c => (obligation m c).toRRel) (hshare := fun c => (pdat m 0 c).share_full fun _ => rfl)
    (howed := fun _ _ => rfl) (V := V m) (hmain := hmain m Variants.none) (hA := A_eq m) (hΦ := fun _ _ => rfl)

/-- The arguments end as they were launched. -/
theorem args (r : PUnit × MemSt nD τ sig (Elt Ideal))
    (h : Pipeline.RDat.FramePost (cfgs 0) (fun c => (pdat m 0 c).toRRel held (Rl m c)) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    (Pipeline.RDat.FramePost.arr_in h c 4 rfl).trans ((A_eq m c 4).trans (V_main_arg4 m c))⟩

/-- The last point writes the resident block back whole. -/
theorem whole_5 : (cfg0.win 5).WholeAt (pt 127) := by decide +kernel

/-- The results the region leaves, -/
theorem final_5 (r : PUnit × MemSt nD τ sig (Elt Ideal))
    (h : Pipeline.RDat.FramePost (cfgs 0) (fun c => (pdat m 0 c).toRRel held (Rl m c)) (V m) r) (c : Dev nD) :
    r.2.mem ((c.tc : Thread nD τ).loc main_v6_0) = res m c := by
  obtain ⟨X, hX, hG⟩ := Pipeline.RDat.ArrAt.emb_eq_of_wholeAt ((h c).1 5) whole_5
  have hR := Dat.toRRel_leaves _ rfl hX
  funext y
  exact (hG y).trans (hR y (by have := (y 1).isLt; change _ < 128 at this; exact this))

/-- and the states. -/
theorem final_6 (r : PUnit × MemSt nD τ sig (Elt Ideal))
    (h : Pipeline.RDat.FramePost (cfgs 0) (fun c => (pdat m 0 c).toRRel held (Rl m c)) (V m) r) (c : Dev nD) :
    r.2.mem ((c.tc : Thread nD τ).loc main_v6_1) = (pdat m 0 c).arrAt 6 (cfgs 0).N :=
  (((pdat m 0 c).toR.override_arrAt (by rfl) _ _).trans ((pdat m 0 c).toR_arrAt_iff 6 _ _)).mp ((h c).1 6)

end Cert.RecMbRun
end
-- ==== Proof.RecMb.Value.lean ====
/-
  The results of the recurrence of this mixer in its arguments.
-/
module

public import proofs.«01_k».proof.Proof.Gen.RecMbIdeal.Frame
public import proofs.«01_k».proof.Proof.Gen.RecMbIdeal.Skeleton
public import Idealize.ShloMosaic.Lib.Pipeline.FrameBody
public import Idealize.ShloMosaic.Lib.Pipeline.FrameSuffix
public import proofs.«01_k».proof.Proof.RecMb.Frame
public import Idealize.ShloMosaic.Lib.Pipeline.ValueKit
public import Idealize.ShloMosaic.Lib.Claim
public import Idealize.ShloMosaic.Lib.Tactic

@[expose] public section

set_option maxRecDepth 16384

noncomputable section

namespace Cert.RecMbRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.RecMbIdeal Cert.RecMbIdeal.Gen
open Cert.Decay (Lay outBlk stateBlk outAt stepAt headOf ln wide keyed newState newOut)

local notation "𝕄" => MT nD τ sig Unit (Elt Ideal) ℕ (UR sig nD τ) ℕ

variable (m : (ℓ : Loc nD τ sig) → Buf (Elt Ideal) ℓ) (ρ : Dev nD → PrngReg)

theorem idx : ∀ t : Fin cfg0.N, win0_0.index t = ![t.val, 0] ∧ win0_1.index t = ![t.val, 0] ∧ win0_2.index t = ![t.val, 0] ∧ win0_3.index t = ![0, 0] ∧ win0_4.index t = ![t.val, 0, 0, 0] ∧ win0_6.index t = ![t.val, 0, 0, 0] :=
  (by decide +kernel : ∀ t : Fin grid0.N, _)

/-! ## The blocks, read in the arguments -/

theorem flat256 (x : Vec Ideal S1x128x256 .f32) (r : Fin 128) (l : Fin 256) :
    shapeCast S128x256 x shapeCasts_S1x128x256_S128x256 (ix2 r l) = x (ix3 0 r l) := by pointwise
theorem flat512 (x : Vec Ideal S1x128x512 .f32) (r : Fin 128) (l : Fin 512) :
    shapeCast S128x512 x shapeCasts_S1x128x512_S128x512 (ix2 r l) = x (ix3 0 r l) := by pointwise
theorem turned (x : Vec Ideal S1x128x512 .f32) (r : Fin 128) (l : Fin 512) :
    transpose S512x128 [1, 0] (shapeCast S128x512 x shapeCasts_S1x128x512_S128x512) transposes_S128x512_S512x128_1_0 (ix2 l r) = x (ix3 0 r l) := by pointwise
theorem unpadded (x : Vec Ideal S512x128 .f32) (v : Vec Ideal S_ .f32) (l : Fin 512) (r : Fin 128) :
    pad S512x128 ![0, 0] ![0, 0] ![0, 0] x v pads_S512x128_S512x128_000_000 h_S_ (ix2 l r) = x (ix2 l r) := by pointwise

theorem entry_0 (c : Dev nD) : V m c main_v3 = shapeCast S128x512 (m ((c : Thread nD τ).loc main_arg0)) shapeCasts_S1x128x512_S128x512 := by
  show StableHlo.after (hostOps0 ++ (hostOps0_1 ++ (hostOps0_2 ++ []))) _ _ = _
  simp only [hostOps0, hostOps0_1, hostOps0_2, List.cons_append, List.nil_append]
  after_results <;> rfl
theorem read_0 (c : Dev nD) (t : Fin cfg0.N) (b : Fin 8) (l : Fin 512) (i : Fin 16) (hi : i.val = t.val) :
    iblk m c 0 t (ix2 b l) = m ((c : Thread nD τ).loc main_arg0) (ix3 0 (ln i b) l) := by
  show V m c main_v3 (((cfg0.win 0).blk t).view.emb (ix2 b l)) = _
  have e : ((cfg0.win 0).blk t).view.emb (ix2 b l) = (ix2 (ln i b) l : S128x512.Idx) := by blk_ext [idx t, ln]
  rw [entry_0, e]; exact flat512 _ _ _
theorem entry_1 (c : Dev nD) : V m c main_v4 = shapeCast S128x256 (m ((c : Thread nD τ).loc main_arg1)) shapeCasts_S1x128x256_S128x256 := by
  show StableHlo.after (hostOps0 ++ (hostOps0_1 ++ (hostOps0_2 ++ []))) _ _ = _
  simp only [hostOps0, hostOps0_1, hostOps0_2, List.cons_append, List.nil_append]
  after_results <;> rfl
theorem read_1 (c : Dev nD) (t : Fin cfg0.N) (b : Fin 8) (l : Fin 256) (i : Fin 16) (hi : i.val = t.val) :
    iblk m c 1 t (ix2 b l) = m ((c : Thread nD τ).loc main_arg1) (ix3 0 (ln i b) l) := by
  show V m c main_v4 (((cfg0.win 1).blk t).view.emb (ix2 b l)) = _
  have e : ((cfg0.win 1).blk t).view.emb (ix2 b l) = (ix2 (ln i b) l : S128x256.Idx) := by blk_ext [idx t, ln]
  rw [entry_1, e]; exact flat256 _ _ _
theorem entry_2 (c : Dev nD) : V m c main_v5 = shapeCast S128x256 (m ((c : Thread nD τ).loc main_arg2)) shapeCasts_S1x128x256_S128x256 := by
  show StableHlo.after (hostOps0 ++ (hostOps0_1 ++ (hostOps0_2 ++ []))) _ _ = _
  simp only [hostOps0, hostOps0_1, hostOps0_2, List.cons_append, List.nil_append]
  after_results <;> rfl
theorem read_2 (c : Dev nD) (t : Fin cfg0.N) (b : Fin 8) (l : Fin 256) (i : Fin 16) (hi : i.val = t.val) :
    iblk m c 2 t (ix2 b l) = m ((c : Thread nD τ).loc main_arg2) (ix3 0 (ln i b) l) := by
  show V m c main_v5 (((cfg0.win 2).blk t).view.emb (ix2 b l)) = _
  have e : ((cfg0.win 2).blk t).view.emb (ix2 b l) = (ix2 (ln i b) l : S128x256.Idx) := by blk_ext [idx t, ln]
  rw [entry_2, e]; exact flat256 _ _ _
theorem entry_3 (c : Dev nD) : ∃ v : Vec Ideal S_ .f32, V m c main_v2 = pad S512x128 ![0, 0] ![0, 0] ![0, 0]
    (transpose S512x128 [1, 0] (shapeCast S128x512 (m ((c : Thread nD τ).loc main_arg3)) shapeCasts_S1x128x512_S128x512) transposes_S128x512_S512x128_1_0)
    v pads_S512x128_S512x128_000_000 h_S_ := by
  refine ⟨(sitofp .f32 (constantI S_ 32 0#32) : FVec Ideal S_ .f32), ?_⟩
  show StableHlo.after (hostOps0 ++ (hostOps0_1 ++ (hostOps0_2 ++ []))) _ _ = _
  simp only [hostOps0, hostOps0_1, hostOps0_2, List.cons_append, List.nil_append]
  after_results <;> rfl
theorem read_3 (c : Dev nD) (t : Fin cfg0.N) (x : Fin 512) (l : Fin 128) :
    iblk m c 3 t (ix2 x l) = m ((c : Thread nD τ).loc main_arg3) (ix3 0 l x) := by
  show V m c main_v2 (((cfg0.win 3).blk t).view.emb (ix2 x l)) = _
  have e : ((cfg0.win 3).blk t).view.emb (ix2 x l) = (ix2 x l : S512x128.Idx) := by blk_ext [idx t]
  obtain ⟨v, hv⟩ := entry_3 m c
  rw [hv, e]; exact (unpadded _ _ _ _).trans (turned _ _ _)

/-- The states as the region takes them. -/
def old (s : Vec Ideal S128x8x64x64 .f32) : Vec Ideal S128x8x64x64 .f32 := s
theorem read_4 (c : Dev nD) (t : Fin cfg0.N) (b : Fin 8) (h : Fin 8) (v l : Fin 64) (i : Fin 16) (hi : i.val = t.val) :
    iblk m c 4 t (ix4 b h v l) = old (m ((c : Thread nD τ).loc main_arg4)) (ix4 (ln i b) h v l) := by
  show V m c main_arg4 (((cfg0.win 4).blk t).view.emb (ix4 b h v l)) = _
  have e : ((cfg0.win 4).blk t).view.emb (ix4 b h v l) = (ix4 (ln i b) h v l : S128x8x64x64.Idx) := by blk_ext [idx t, ln]
  rw [V_main_arg4, e]; rfl

/-! ## The results in the arguments -/

/-- The new states and results of all sequences. -/
def states (c : Dev nD) : Vec Ideal S128x8x64x64 .f32 := fun y =>
  newState L (m ((c : Thread nD τ).loc main_arg0)) (m ((c : Thread nD τ).loc main_arg1)) (m ((c : Thread nD τ).loc main_arg3)) (old (m ((c : Thread nD τ).loc main_arg4))) (y 0) (y 1) (y 2) (y 3)
def outs (c : Dev nD) (q : Fin 128) (h : Fin 8) (x : Fin 64) : EReal :=
  newOut L (m ((c : Thread nD τ).loc main_arg0)) (m ((c : Thread nD τ).loc main_arg1)) (m ((c : Thread nD τ).loc main_arg2)) (m ((c : Thread nD τ).loc main_arg3)) (old (m ((c : Thread nD τ).loc main_arg4))) q h x

theorem step_eq (c : Dev nD) (t : Fin cfg0.N) (i : Fin 16) (hi : i.val = t.val) (b : Fin 8) (h : Fin 8) (x l : Fin 64) :
    stepAt L i (iblk m c 0 t) (iblk m c 1 t) (iblk m c 3 t) (iblk m c 4 t) b h x l = states m c (ix4 (ln i b) h x l) := by
  unfold stepAt states newState
  exact congrArg₂ (· + ·) (congrArg₂ (· * ·) (read_4 m c t b h x l i hi) (read_0 m c t b _ i hi))
    (congrArg₂ (· * ·) (read_3 m c t _ _) (read_1 m c t b _ i hi))

/-- The results the region leaves, -/
theorem res_eq (c : Dev nD) (h : Fin 8) (x : Fin 64) (q : Fin 128) : res m c (ix2 (wide L h x) q) = outs m c q h x := by
  have hi : (grid0.coords (pt q) 0).val = (pt q).val := coord (pt q)
  have hn : ∀ z, ln (grid0.coords (pt q) 0) ⟨q.val % 8, z⟩ = q := fun z => Fin.ext (by
    show 8 * (grid0.coords (pt q) 0).val + q.val % 8 = q.val
    rw [hi]; show 8 * (q.val / 8) + q.val % 8 = q.val; omega)
  have hh : headOf L (wide L h x) = h := Fin.ext (by show (64 * h.val + x.val) / 64 = h.val; omega)
  have hx : ∀ z, (⟨(wide L h x).val % 64, z⟩ : Fin 64) = x := fun z => Fin.ext (by show (64 * h.val + x.val) % 64 = x.val; omega)
  unfold res outs newOut outAt
  refine Finset.sum_congr rfl fun l _ => congrArg₂ (· * ·)
    ((step_eq m c (pt q) _ hi _ _ _ l).trans (congrArg (states m c) (a₂ := (ix4 q h x l : S128x8x64x64.Idx)) ?_))
    ((read_2 m c (pt q) _ _ _ hi).trans (congrArg₂ (fun a z => m ((c : Thread nD τ).loc main_arg2) (ix3 0 a (keyed L z l))) (hn _) hh))
  funext z; fin_cases z
  · exact hn _
  · exact hh
  · exact hx _
  · rfl

/-- and the states. -/
theorem states_eq (c : Dev nD) : (pdat m 0 c).arrAt 6 (cfgs 0).N = states m c := by
  refine (pdat m 0 c).arrAt_eq_of_covers 6 _ (by decide +kernel) fun t _ y => ?_
  rw [after_6]
  obtain ⟨b, h, x, l, rfl⟩ : ∃ b h x l, y = (ix4 b h x l : S8x8x64x64.Idx) := ⟨y 0, y 1, y 2, y 3, by funext q; fin_cases q <;> rfl⟩
  have e : ((cfg0.win 6).blk t).view.emb (ix4 b h x l) = (ix4 (ln (grid0.coords t 0) b) h x l : S128x8x64x64.Idx) := by
    have hi : (grid0.coords t 0).val = t.val := coord t
    blk_ext [idx t, ln]
  rw [e]
  exact step_eq m c t _ (coord t) b h x l

end Cert.RecMbRun
end
-- ==== Proof.RecMb.Reference.lean ====
/-
  The reference's results, index by index.
-/
module

public import proofs.«01_k».proof.Proof.RecMb.Value
public import proofs.«01_k».proof.Proof.Gen.RecMbReferenceIdeal.Read

@[expose] public section

set_option maxRecDepth 16384

noncomputable section

namespace Cert.RecMbRun

open Idealize.ShloMosaic Idealize.ShloMosaic.TcCoe Idealize.SL.Sem
open Cert.RecMbReferenceIdeal.Read
open Cert.Decay (wide keyed newState newOut)

variable (w : Vec Ideal Cert.RecMbIdeal.S1x128x512 .f32) (k r : Vec Ideal Cert.RecMbIdeal.S1x128x256 .f32) (v : Vec Ideal Cert.RecMbIdeal.S1x128x512 .f32) (s : Vec Ideal Cert.RecMbIdeal.S128x8x64x64 .f32)

theorem rows_at {i : Cert.RecMbIdeal.S1x128x512.Idx} {q : Fin 128} {h : Fin 8} {l : Fin 64} (h₀ : (i 0).val = 0)
    (h₁ : (i 1).val = ((q.val * 8 + h.val) * 64 + l.val) / 512 % 128) (h₂ : (i 2).val = ((q.val * 8 + h.val) * 64 + l.val) % 512) :
    i = ix3 0 q (wide L h l) := by
  funext z; apply Fin.ext; fin_cases z
  · exact h₀
  · refine h₁.trans ?_; show _ = q.val; omega
  · refine h₂.trans ?_; show _ = 64 * h.val + l.val; omega

theorem keys_at {i : Cert.RecMbIdeal.S1x128x256.Idx} {q : Fin 128} {h : Fin 8} {l : Fin 64} {N : ℕ} (hN : N = (q.val * 8 + h.val) * 64 + l.val) (h₀ : (i 0).val = 0)
    (h₁ : (i 1).val = ((((N / 512 * 2 + N / 256 % 2) * 1 + 0) * 2 + N / 64 % 2) * 64 + N % 64) / 256 % 128)
    (h₂ : (i 2).val = ((((N / 512 * 2 + N / 256 % 2) * 1 + 0) * 2 + N / 64 % 2) * 64 + N % 64) % 256) :
    i = ix3 0 q (keyed L h l) := by
  have a1 : N / 512 = q.val := by omega
  have a2 : N / 256 % 2 = h.val / 4 := by omega
  have a3 : N / 64 % 2 = h.val % 2 := by omega
  have a4 : N % 64 = l.val := by omega
  have b1 : h.val / 4 < 2 := by have := h.isLt; omega
  have b2 : h.val % 2 < 2 := by omega
  have b3 : h.val / 2 / 2 = h.val / 4 := by omega
  rw [a1, a2, a3, a4] at h₁ h₂
  clear a1 a2 a3 a4 hN
  funext z; apply Fin.ext; fin_cases z
  · exact h₀
  · refine h₁.trans ?_; show _ = q.val; clear h₁ h₂ b3; generalize h.val / 4 = a at *; generalize h.val % 2 = b at *; have := l.isLt; omega
  · refine h₂.trans ?_; show _ = 128 * (h.val / 2 / 2) + 64 * (h.val % 2) + l.val
    rw [b3]; clear h₁ h₂ b3; generalize h.val / 4 = a at *; generalize h.val % 2 = b at *; have := l.isLt; omega

theorem key_row (q : Fin 128) (h : Fin 8) (l : Fin 64) : val_main_v4 (F := Ideal) k (ix3 q h l) = k (ix3 0 q (keyed L h l)) := by
  rw [val_main_v4_apply, val_main_v3_apply, val_main_v2_apply]; exact congrArg k (keys_at rfl rfl rfl rfl)
theorem receiving_row (q : Fin 128) (h : Fin 8) (l : Fin 64) : val_main_v7 (F := Ideal) r (ix3 q h l) = r (ix3 0 q (keyed L h l)) := by
  rw [val_main_v7_apply, val_main_v6_apply, val_main_v5_apply]; exact congrArg r (keys_at rfl rfl rfl rfl)

theorem ref_state (q : Fin 128) (h : Fin 8) (x l : Fin 64) :
    val_main_v16 (F := Ideal) w k v s (ix4 q h x l) = newState L w k v (old s) q h x l := by
  rw [val_main_v16_apply, val_main_v10_apply, val_main_v15_apply, val_main_v9_apply, val_main_v8_apply, val_main_v0_apply, val_main_v13_apply, val_main_v11_apply,
    val_main_v1_apply, val_main_v14_apply, val_main_v12_apply]
  unfold newState
  refine congrArg₂ (· + ·) ((mul_comm _ _).trans (congrArg₂ (· * ·) rfl (congrArg w (rows_at rfl rfl rfl)))) ?_
  exact congrArg₂ (· * ·) (congrArg v (rows_at rfl rfl rfl)) ((congrArg (val_main_v4 (F := Ideal) k) (by funext z; fin_cases z <;> rfl)).trans (key_row k q h l))

theorem ref_out (h : Fin 8) (x : Fin 64) (q : Fin 128) :
    val_main_v19 (F := Ideal) w k r v s (ix2 (wide L h x) q) = newOut L w k r v (old s) q h x := by
  rw [val_main_v19_apply, val_main_v18_apply, val_main_v17_apply]
  unfold newOut
  refine Finset.sum_congr rfl fun l _ => congrArg₂ (· * ·) ((congrArg (val_main_v16 (F := Ideal) w k v s) ?_).trans (ref_state w k v s q h x l))
    ((congrArg (val_main_v7 (F := Ideal) r) ?_).trans (receiving_row r q h l))
  · funext z; apply Fin.ext; fin_cases z
    · show (q.val * 512 + (64 * h.val + x.val)) / 512 = q.val; omega
    · show (q.val * 512 + (64 * h.val + x.val)) / 64 % 8 = h.val; omega
    · show (q.val * 512 + (64 * h.val + x.val)) % 64 = x.val; omega
    · rfl
  · funext z; apply Fin.ext; fin_cases z
    · show (q.val * 512 + (64 * h.val + x.val)) / 512 = q.val; omega
    · show (q.val * 512 + (64 * h.val + x.val)) / 64 % 8 = h.val; omega
    · rfl

end Cert.RecMbRun
end
-- ==== Proof.RecMb.Quiet.lean ====
/-
  The frame of the recurrence of this mixer, over any float values: what the stores leave is not named.
-/
module

public import proofs.«01_k».proof.Proof.Gen.RecMbIdeal.Frame
public import proofs.«01_k».proof.Proof.Gen.RecMbIdeal.Skeleton
public import Idealize.ShloMosaic.Lib.Pipeline.FrameBody
public import Idealize.ShloMosaic.Lib.Pipeline.FrameSuffix
public import Idealize.ShloMosaic.Lib.Pipeline.DatRel
public import Idealize.ShloMosaic.Lib.Pipeline.ArrRel
public import Idealize.ShloMosaic.Lib.Tactic

@[expose] public section

set_option maxRecDepth 16384

noncomputable section

namespace Cert.RecMbQuiet

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.RecMbIdeal Cert.RecMbIdeal.Gen

variable {F : FTy → Type} [FloatOps F]

local notation "𝕄" => MT nD τ sig Unit (Elt F) ℕ (UR sig nD τ) ℕ

set_option maxHeartbeats 8000000 in
/-- One grid point's body: the inputs stay, the outputs end at some contents. -/
theorem run (c : Dev nD) (i : grid0.Coords)
    (arg1 : Memref sig .tc .vmem S8x512 .f32) (harg1 : arg1.IsWhole)
    (arg2 : Memref sig .tc .vmem S8x256 .f32) (harg2 : arg2.IsWhole)
    (arg3 : Memref sig .tc .vmem S8x256 .f32) (harg3 : arg3.IsWhole)
    (arg4 : Memref sig .tc .vmem S512x128 .f32) (harg4 : arg4.IsWhole)
    (arg5 : Memref sig .tc .vmem S8x8x64x64 .f32) (harg5 : arg5.IsWhole)
    (arg6 : Memref sig .tc .vmem S512x128 .f32) (harg6 : arg6.IsWhole)
    (arg7 : Memref sig .tc .vmem S8x8x64x64 .f32) (harg7 : arg7.IsWhole)
    (x0 : Vec F S8x512 .f32) (x1 x2 : Vec F S8x256 .f32)
    (x3 : Vec F S512x128 .f32) (x4 : Vec F S8x8x64x64 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
          ∗ (∃ d, owns (c : Thread nD τ) arg6 fullShare d) ∗ (∃ d, owns (c : Thread nD τ) arg7 fullShare d)) -∗ K ⟨⟩))
      ⊢ wp frame (wpE (defs₀ (F := F)) Variants.none c none) E (cc0_rec_step i arg1 harg1 arg2 harg2 arg3 harg3 arg4 harg4 arg5 harg5 arg6 harg6 arg7 harg7) K := by
    simp only [cc0_rec_step_eq_skeleton]; unfold cc0_rec_step_skel
    simp only [k0_part1_eq_skeleton, k0_part2_eq_skeleton, k0_part3_eq_skeleton, k0_part4_eq_skeleton, k0_part5_eq_skeleton,
      k0_part6_eq_skeleton, k0_part7_eq_skeleton, k0_part8_eq_skeleton, k0_part9_eq_skeleton, k0_part10_eq_skeleton,
      k0_part11_eq_skeleton, k0_part12_eq_skeleton, k0_part13_eq_skeleton, k0_part14_eq_skeleton, k0_part15_eq_skeleton,
      k0_part16_eq_skeleton, k0_part17_eq_skeleton, k0_part18_eq_skeleton, k0_part19_eq_skeleton, k0_part20_eq_skeleton,
      k0_part21_eq_skeleton, k0_part22_eq_skeleton, k0_part23_eq_skeleton, k0_part24_eq_skeleton, k0_part25_eq_skeleton,
      k0_part26_eq_skeleton, k0_part27_eq_skeleton, k0_part28_eq_skeleton, k0_part29_eq_skeleton, k0_part30_eq_skeleton,
      k0_part31_eq_skeleton, k0_part32_eq_skeleton, k0_part33_eq_skeleton, k0_part34_eq_skeleton, k0_part35_eq_skeleton,
      k0_part36_eq_skeleton, k0_part37_eq_skeleton, k0_part38_eq_skeleton, k0_part39_eq_skeleton, k0_part40_eq_skeleton,
      k0_part41_eq_skeleton, k0_part42_eq_skeleton, k0_part43_eq_skeleton, k0_part44_eq_skeleton, k0_part45_eq_skeleton,
      k0_part46_eq_skeleton, k0_part47_eq_skeleton, k0_part48_eq_skeleton, k0_part49_eq_skeleton, k0_part50_eq_skeleton,
      k0_part51_eq_skeleton, k0_part52_eq_skeleton, k0_part53_eq_skeleton, k0_part54_eq_skeleton, k0_part55_eq_skeleton,
      k0_part56_eq_skeleton, k0_part57_eq_skeleton, k0_part58_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
    obtain rfl := harg1.eq_unread hf0; obtain rfl := harg2.eq_unread hf1; obtain rfl := harg3.eq_unread hf2; obtain rfl := harg4.eq_unread hf3; obtain rfl := harg5.eq_unread hf4
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; iexists _; isplitr
      swap; · iexact H5
      ipureintro; rfl
    iexists _; iexists _; isplitr
    swap; · iexact H6
    ipureintro; rfl

variable (m : (ℓ : Loc nD τ sig) → Buf (Elt F) ℓ) (ρ : Dev nD → PrngReg)

/-- The outputs are held to nothing. -/
def held : Fin cfg0.W → Bool := fun w => w.val == 5 || w.val == 6
def Rl (F : FTy → Type) (c : Dev nD) : (w : Fin cfg0.W) → Fin cfg0.N → ((cfg0.win w).block.Idx → Elt F (cfg0.win w).elt) → Prop := fun _ _ _ => True

def pdat (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
  Φ _ := Pipeline.ΦA spec0 c
  q _ := fullShare
  owed _ := 0

theorem A_eq (c : Dev nD) (w : Fin cfg0.W) : (pdat m 0 c).A w = V m c (Pipeline.arrRef spec0 w) := by
  dsimp only [pdat]
theorem after_0 (c : Dev nD) (t : Fin cfg0.N) : (pdat m 0 c).after 0 t = iblk m c 0 t := by dsimp only [pdat]
theorem after_1 (c : Dev nD) (t : Fin cfg0.N) : (pdat m 0 c).after 1 t = iblk m c 1 t := by dsimp only [pdat]
theorem after_2 (c : Dev nD) (t : Fin cfg0.N) : (pdat m 0 c).after 2 t = iblk m c 2 t := by dsimp only [pdat]
theorem after_3 (c : Dev nD) (t : Fin cfg0.N) : (pdat m 0 c).after 3 t = iblk m c 3 t := by dsimp only [pdat]
theorem after_4 (c : Dev nD) (t : Fin cfg0.N) : (pdat m 0 c).after 4 t = iblk m c 4 t := by dsimp only [pdat]
theorem before_0 (c : Dev nD) (t : Fin cfg0.N) (d) : (pdat m 0 c).before 0 t d = iblk m c 0 t :=
  (Dat.before_in_eq_fetched _ 0 rfl (fun _ => rfl) (fun _ _ _ => rfl) (fun t => by rw [after_0]; rfl) t d).trans rfl
theorem before_1 (c : Dev nD) (t : Fin cfg0.N) (d) : (pdat m 0 c).before 1 t d = iblk m c 1 t :=
  (Dat.before_in_eq_fetched _ 1 rfl (fun _ => rfl) (fun _ _ _ => rfl) (fun t => by rw [after_1]; rfl) t d).trans rfl
theorem before_2 (c : Dev nD) (t : Fin cfg0.N) (d) : (pdat m 0 c).before 2 t d = iblk m c 2 t :=
  (Dat.before_in_eq_fetched _ 2 rfl (fun _ => rfl) (fun _ _ _ => rfl) (fun t => by rw [after_2]; rfl) t d).trans rfl
theorem before_3 (c : Dev nD) (t : Fin cfg0.N) (d) : (pdat m 0 c).before 3 t d = iblk m c 3 t :=
  (Dat.before_in_eq_fetched _ 3 rfl (fun _ => rfl) (fun _ _ _ => rfl) (fun t => by rw [after_3]; rfl) t d).trans rfl
theorem before_4 (c : Dev nD) (t : Fin cfg0.N) (d) : (pdat m 0 c).before 4 t d = iblk m c 4 t :=
  (Dat.before_in_eq_fetched _ 4 rfl (fun _ => rfl) (fun _ _ _ => rfl) (fun t => by rw [after_4]; rfl) t d).trans rfl

def pre (c : Dev nD) (t : Fin cfg0.N) : sProp 𝕄 :=
  iprop((pdat m 0 c).Φ t.castSucc ∗ (pdat m 0 c).owesAt () t.castSucc
    ∗ (∃ d, owns (c : Thread nD τ) (st0_0 t) fullShare ((pdat m 0 c).before 0 t d))
    ∗ (∃ d, owns (c : Thread nD τ) (st0_1 t) fullShare ((pdat m 0 c).before 1 t d))
    ∗ (∃ d, owns (c : Thread nD τ) (st0_2 t) fullShare ((pdat m 0 c).before 2 t d))
    ∗ (∃ d, owns (c : Thread nD τ) (st0_3 t) fullShare ((pdat m 0 c).before 3 t d))
    ∗ (∃ d, owns (c : Thread nD τ) (st0_4 t) fullShare ((pdat m 0 c).before 4 t d))
    ∗ (∃ Y, ⌜((pdat m 0 c).toRRel held (Rl F c)).Finds 5 t Y⌝ ∗ owns (c : Thread nD τ) (st0_5 t) fullShare Y)
    ∗ (∃ Y, ⌜((pdat m 0 c).toRRel held (Rl F c)).Finds 6 t Y⌝ ∗ owns (c : Thread nD τ) (st0_6 t) fullShare Y))
def post (c : Dev nD) (t : Fin cfg0.N) : sProp 𝕄 :=
  iprop((pdat m 0 c).Φ t.succ ∗ (pdat m 0 c).owesAt () t.succ
    ∗ owns (c : Thread nD τ) (st0_0 t) fullShare ((pdat m 0 c).after 0 t)
    ∗ owns (c : Thread nD τ) (st0_1 t) fullShare ((pdat m 0 c).after 1 t)
    ∗ owns (c : Thread nD τ) (st0_2 t) fullShare ((pdat m 0 c).after 2 t)
    ∗ owns (c : Thread nD τ) (st0_3 t) fullShare ((pdat m 0 c).after 3 t)
    ∗ owns (c : Thread nD τ) (st0_4 t) fullShare ((pdat m 0 c).after 4 t)
    ∗ (∃ X, ⌜Rl F c 5 t X⌝ ∗ owns (c : Thread nD τ) (st0_5 t) fullShare X)
    ∗ (∃ X, ⌜Rl F c 6 t X⌝ ∗ owns (c : Thread nD τ) (st0_6 t) fullShare X))

set_option maxHeartbeats 800000 in
theorem sound (c : Dev nD) (t : Fin cfg0.N) :
    pre m c t ⊢ wp frame (wpE (defs₀ (F := F)) Variants.none c none) Set.univ (bodyAt0 t) (fun _ => post m c t) := by
  unfold pre post bodyAt0
  simp only [before_0, before_1, before_2, before_3, before_4]
  rw [show (pdat m 0 c).Φ t.succ = (pdat m 0 c).Φ t.castSucc from rfl,
    show (pdat m 0 c).owesAt () t.succ = (pdat m 0 c).owesAt () t.castSucc from rfl, after_0, after_1, after_2, after_3, after_4]
  iintro ⟨HΦ, Ho, ⟨%d0, H0⟩, ⟨%d1, H1⟩, ⟨%d2, H2⟩, ⟨%d3, H3⟩, ⟨%d4, H4⟩, ⟨%d5, -, H5⟩, ⟨%d6, -, H6⟩⟩
  iapply (run c (grid0.coords t) _ _ _ _ _ _ _ _ _ _ _ _ _ _ (iblk m c 0 t) (iblk m c 1 t) (iblk m c 2 t) (iblk m c 3 t) (iblk m c 4 t) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, ⟨%e5, H5⟩, ⟨%e6, H6⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]
  · iexists _; isplitr
    swap; · iexact H5
    ipureintro; trivial
  iexists _; isplitr
  swap; · iexact H6
  ipureintro; trivial

theorem row_body (t : Fin cfg0.N) : defs₀ (F := F) .tc cfg0.body (cfg0.bodyArgs t (cfg0.slots t)) = bodyAt0 t := by
  unfold defs₀; rw [Defs.onTc_tc]

theorem obligation (c : Dev nD) : Pipeline.BodyObligationRel (pdat m 0 c) (defs₀ (F := F)) Variants.none () Set.univ held (Rl F c) := fun t => by
  rw [bigSep_W0, bigSep_W0, row_body]
  exact triple_restated (sound m c t) rfl .rfl fun _ => .rfl

set_option backward.isDefEq.respectTransparency.types false in
/-- The run of the region, with every counter at zero after it. -/
theorem main_run : θ_run defs (onTc (τ := τ) (main (F := F))) (s₀ m ρ)
    (fun r => (Pipeline.RDat.FramePost (cfgs 0) (fun c => (pdat m 0 c).toRRel held (Rl F c)) (V m)) r ∧ r.2.sem = fun _ => 0) :=
  Pipeline.RDat.θ_run_frame (Q' := _) cfgs (0 : Fin 1) launch0 defs₀ Variants.none (fun c => (pdat m 0 c).toRRel held (Rl F c)) m ρ main
    (hbody := fun c => (obligation m c).toRRel) (hshare := fun c => (pdat m 0 c).share_full fun _ => rfl)
    (howed := fun _ _ => rfl) (V := V m) (hmain := hmain m Variants.none) (hA := A_eq m) (hΦ := fun _ _ => rfl)

/-- The arguments end as they were launched. -/
theorem args (r : PUnit × MemSt nD τ sig (Elt F))
    (h : Pipeline.RDat.FramePost (cfgs 0) (fun c => (pdat m 0 c).toRRel held (Rl F c)) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    (Pipeline.RDat.FramePost.arr_in h c 4 rfl).trans ((A_eq m c 4).trans (V_main_arg4 m c))⟩

end Cert.RecMbQuiet
end
-- ==== Proof.RecMb.Claims.lean ====
/-
  The claims of this call.
-/
module

public import proofs.«01_k».proof.Defs
public import proofs.«01_k».proof.Proof.Gen.RecMb
public import proofs.«01_k».proof.Proof.Gen.RecMbIdeal
public import proofs.«01_k».proof.Proof.Gen.RecMbReferenceIdeal
public import proofs.«01_k».proof.Proof.Gen.RecMbReferenceIdeal.Run
public import proofs.«01_k».proof.Proof.RecMb.Reference
public import proofs.«01_k».proof.Proof.RecMb.Quiet
public import Idealize.ShloMosaic.Adequacy
public import Idealize.ShloMosaic.Init
public import Idealize.ShloMosaic.Lib.Claim

@[expose] public section

set_option maxRecDepth 16384

noncomputable section

namespace Cert.RecMbValue

open Idealize.ShloMosaic Idealize.ShloMosaic.TcCoe Idealize.SL.Sem
open Cert.RecMbRun (L)
open Cert.Decay (wide newState)

/-- The two programs have the same text, so they have the same body table. -/
theorem table : Cert.RecMb.defs (F := Bits) = Cert.RecMbIdeal.defs (F := Bits) :=
  congrArg (Pipeline.defs (Cert.RecMbIdeal.pcfgs (F := Bits))) <| congrArg Defs.onTc <| by
    funext l a
    match l with
    | 0 => exact rfl

theorem quiescent_bits : Cert.quiescent_RecMb := fun m g _ => by
  rw [table]
  exact (θ_run Cert.RecMbIdeal.defs _ _).mono (fun _ h => ⟨fun c => Cert.RecMbQuiet.args m _ h.1 c, h.2⟩) (Cert.RecMbQuiet.main_run (F := Bits) m g)

theorem quiescent_ideal : Cert.quiescent_RecMbIdeal := fun m g _ =>
  (θ_run _ _ _).mono (fun _ h => ⟨fun c => Cert.RecMbQuiet.args m _ h.1 c, h.2⟩) (Cert.RecMbQuiet.main_run (F := Ideal) m g)

theorem quiescent_reference : Cert.quiescent_RecMbReferenceIdeal := fun m g _ =>
  (θ_run _ _ _).mono (fun r h => ⟨fun c => (h c).2.2, sem_eq_zero_of_no_sems (by decide) r.2⟩) (Cert.RecMbReferenceIdeal.Value.run m g)

theorem algebraic : Cert.algebraic_RecMbIdeal_RecMbReferenceIdeal := fun m g m' g' _ hagree =>
  ⟨fun c => Cert.RecMbRun.res m c, fun c => Cert.RecMbRun.states m c,
   (θ_run _ _ _).mono (fun _ h c => ⟨Cert.RecMbRun.final_5 m _ h.1 c, (Cert.RecMbRun.final_6 m _ h.1 c).trans (Cert.RecMbRun.states_eq m c), Cert.RecMbRun.args m _ h.1 c⟩) (Cert.RecMbRun.main_run m g),
   (θ_run _ _ _).mono (fun _ h c => by
      obtain ⟨a0, a1, a2, a3, a4⟩ := hagree c
      obtain ⟨h0, h1, hargs⟩ := h c
      refine ⟨h0.trans ?_, h1.trans ?_, hargs⟩
      · rw [a0, a1, a2, a3, a4]
        refine (Cert.RecMbReferenceIdeal.Read.val_main_v19_eq _ _ _ _ _).trans (funext fun y => ?_)
        have hy : y = ix2 (wide L ⟨(y 0).val / 64, by have := (y 0).isLt; change _ < 512 at this; omega⟩ ⟨(y 0).val % 64, by omega⟩) (y 1) := by
          funext z; apply Fin.ext; fin_cases z
          · show (y 0).val = 64 * ((y 0).val / 64) + (y 0).val % 64; omega
          · rfl
        rw [hy]
        exact (Cert.RecMbRun.ref_out _ _ _ _ _ _ _ _).trans (Cert.RecMbRun.res_eq m c _ _ _).symm
      · rw [a0, a1, a3, a4]
        refine (Cert.RecMbReferenceIdeal.Read.val_main_v16_eq _ _ _ _).trans (funext fun y => ?_)
        have hy : y = ix4 (y 0) (y 1) (y 2) (y 3) := by funext z; fin_cases z <;> rfl
        rw [hy]
        exact Cert.RecMbRun.ref_state _ _ _ _ _ _ _ _)
     (Cert.RecMbReferenceIdeal.Value.run m' g')⟩

end Cert.RecMbValue
end
-- ==== Proof.InMbStep.Value.lean ====
/-
  The second input projection's results for the sample batch, index by index, in its arguments. The batch is one block: 128 rows, a row per sequence.
-/
module

public import proofs.«01_k».proof.Proof.Gen.InMbStepIdeal.Frame
public import proofs.«01_k».proof.Proof.Gen.InMbStepIdeal.Value
public import proofs.«01_k».proof.Proof.InMb.Value
public import Idealize.ShloMosaic.Lib.Pipeline.ValueKit
public import Idealize.ShloMosaic.Lib.Claim

@[expose] public section

set_option maxRecDepth 16384

noncomputable section

namespace Cert.InMbStepValue

open Idealize.ShloMosaic Idealize.ShloMosaic.TcCoe Idealize.SL.Sem
open Cert.InMbStepIdeal Cert.InMbStepIdeal.Gen Cert.Layer
open Cert.InMbValue (packed column_xbc column_z column_dt packed_xbc packed_z packed_dt lone)

variable (m : (ℓ : Loc nD τ sig) → Buf (Elt Ideal) ℓ) (ρ : Dev nD → PrngReg)

/-! ## The body's vectors, index by index -/

theorem proj_at (x : Vec Ideal S1x128x1024 .f32) (g : Vec Ideal S1x1024 .f32) (sc sh : Vec Ideal S1x128x1024 .f32) (w : Vec Ideal S1024x1408 .bf16)
    (r : Fin 128) (n : Fin 1408) :
    k0_pay3 x g sc sh w (ix2 r n) = projected (fun j => x (ix3 0 r j)) (fun j => g (ix2 0 j)) (fun j => sc (ix3 0 r j)) (fun j => sh (ix3 0 r j))
      (fun j => w (ix2 j n)) := by
  pointwise [k0_pay3, projected, modded, scale]

/-! ## The blocks, read in the arguments -/

theorem idx : ∀ t : Fin cfg0.N, win0_0.index t = ![0, 0, 0] ∧ win0_1.index t = ![0, 0] ∧ win0_2.index t = ![0, 0, 1] ∧ win0_3.index t = ![0, 0, 0]
    ∧ win0_4.index t = ![0, 0] ∧ win0_5.index t = ![0, 0, 0] ∧ win0_6.index t = ![0, 0, 0] ∧ win0_7.index t = ![0, 0, 0] :=
  (by decide +kernel : ∀ t : Fin grid0.N, _)

/-- The sequences' single tokens as the rows of one block. -/
theorem rows (x : Vec Ideal S128x1x1024 .f32) (r : Fin 128) (k : Fin 1024) :
    shapeCast S1x128x1024 x shapeCasts_S128x1x1024_S1x128x1024 (ix3 0 r k) = x (ix3 r 0 k) := by
  refine shapeCast_apply x _ _ _ ?_
  rw [Shape.rowMajor_val_three, Shape.rowMajor_val_three]
  show (r.val * 1 + 0) * 1024 + k.val = (0 * 128 + r.val) * 1024 + k.val
  omega
theorem spread (x : Vec Ideal S128x6144 .f32) (r : Fin 128) (k : Fin 6144) :
    broadcastInDim S1x128x6144 ![1, 2] bcast_S128x6144_S1x128x6144_1_2 x (ix3 0 r k) = x (ix2 r k) := by pointwise

theorem entry_x (c : Dev nD) : V m c main_v6 = shapeCast S1x128x1024 (m ((c : Thread nD τ).loc main_arg0)) shapeCasts_S128x1x1024_S1x128x1024 := by
  entry_read
  try rfl
theorem entry_g (c : Dev nD) : V m c main_v7 = shapeCast S1x1024 (m ((c : Thread nD τ).loc main_arg1)) shapeCasts_S1024_S1x1024 := by
  entry_read
  try rfl
theorem entry_mod (c : Dev nD) : V m c main_v8 = broadcastInDim S1x128x6144 ![1, 2] bcast_S128x6144_S1x128x6144_1_2 (m ((c : Thread nD τ).loc main_arg2)) := by
  show StableHlo.after (List.flatten [hostOps0, hostOps0_1, hostOps0_2]) _ _ = _
  after_results <;> rfl
theorem entry_w (c : Dev nD) : V m c main_v5 = packed (m ((c : Thread nD τ).loc main_arg3)) := by
  simp only [V, hostOps0, hostOps0_1, hostOps0_2, List.flatten_cons, List.flatten_nil, List.append_nil, List.cons_append, List.nil_append]
  after_results <;> rfl

section
variable (c : Dev nD) (t : Fin cfg0.N)

theorem read_x (r : Fin 128) (k : Fin 1024) : iblk m c 0 t (ix3 0 r k) = m ((c : Thread nD τ).loc main_arg0) (ix3 r 0 k) := by
  show V m c main_v6 (((cfg0.win 0).blk t).view.emb (ix3 0 r k)) = _
  have e : ((cfg0.win 0).blk t).view.emb (ix3 0 r k) = (ix3 0 r k : S1x128x1024.Idx) := by blk_ext [idx t]
  rw [entry_x, e]; exact rows _ _ _
theorem read_g (k : Fin 1024) : iblk m c 1 t (ix2 0 k) = m ((c : Thread nD τ).loc main_arg1) (ix1 k) := by
  show V m c main_v7 (((cfg0.win 1).blk t).view.emb (ix2 0 k)) = _
  have e : ((cfg0.win 1).blk t).view.emb (ix2 0 k) = (ix2 0 k : S1x1024.Idx) := by blk_ext [idx t]
  rw [entry_g, e]; exact lone _ _
theorem read_sc (r : Fin 128) (k : Fin 1024) : iblk m c 2 t (ix3 0 r k) = m ((c : Thread nD τ).loc main_arg2) (ix2 r (sixth 1 k)) := by
  show V m c main_v8 (((cfg0.win 2).blk t).view.emb (ix3 0 r k)) = _
  have e : ((cfg0.win 2).blk t).view.emb (ix3 0 r k) = (ix3 0 r (sixth 1 k) : S1x128x6144.Idx) := by blk_ext [idx t, sixth]
  rw [entry_mod, e]; exact spread _ _ _
theorem read_sh (r : Fin 128) (k : Fin 1024) : iblk m c 3 t (ix3 0 r k) = m ((c : Thread nD τ).loc main_arg2) (ix2 r (sixth 0 k)) := by
  show V m c main_v8 (((cfg0.win 3).blk t).view.emb (ix3 0 r k)) = _
  have e : ((cfg0.win 3).blk t).view.emb (ix3 0 r k) = (ix3 0 r (sixth 0 k) : S1x128x6144.Idx) := by blk_ext [idx t, sixth]
  rw [entry_mod, e]; exact spread _ _ _
theorem read_w (k : Fin 1024) (n : Fin 1408) : iblk m c 4 t (ix2 k n) = packed (m ((c : Thread nD τ).loc main_arg3)) (ix2 k n) := by
  show V m c main_v5 (((cfg0.win 4).blk t).view.emb (ix2 k n)) = _
  have e : ((cfg0.win 4).blk t).view.emb (ix2 k n) = (ix2 k n : S1024x1408.Idx) := by blk_ext [idx t]
  rw [entry_w, e]
end

/-! ## The results -/

/-- The token of sequence `q`, projected on a column `w` of the weight. -/
def entryOf (x : Vec Ideal S128x1x1024 .f32) (g : Vec Ideal S1024 .f32) (md : Vec Ideal S128x6144 .f32) (q : Fin 128) (w : Fin 1024 → EReal) : EReal :=
  projected (fun j => x (ix3 q 0 j)) (fun j => g (ix1 j)) (fun j => md (ix2 q (sixth 1 j))) (fun j => md (ix2 q (sixth 0 j))) w

theorem proj_eq (c : Dev nD) (t : Fin cfg0.N) (r : Fin 128) (n : Fin 1408) :
    k0_pay3 (iblk m c 0 t) (iblk m c 1 t) (iblk m c 2 t) (iblk m c 3 t) (iblk m c 4 t) (ix2 r n)
      = entryOf (m ((c : Thread nD τ).loc main_arg0)) (m ((c : Thread nD τ).loc main_arg1)) (m ((c : Thread nD τ).loc main_arg2)) r
          (fun k => packed (m ((c : Thread nD τ).loc main_arg3)) (ix2 k n)) := by
  refine (proj_at _ _ _ _ _ _ _).trans ?_
  exact projected_congr (fun j => read_x m c t r j) (fun j => read_g m c t j) (fun j => read_sc m c t r j) (fun j => read_sh m c t r j)
    (fun j => read_w m c t j n)

theorem out_xbc (c : Dev nD) (t : Fin cfg0.N) (r : Fin 128) (n : Fin 768) :
    out0_5 (iblk m c 0 t) (iblk m c 1 t) (iblk m c 2 t) (iblk m c 3 t) (iblk m c 4 t) (ix3 0 r n)
      = k0_pay3 (iblk m c 0 t) (iblk m c 1 t) (iblk m c 2 t) (iblk m c 3 t) (iblk m c 4 t) (ix2 r ⟨n.val, by omega⟩) := by
  unfold out0_5
  frame_out
  pointwise [k0_pay4]

theorem final_xbc (c : Dev nD) : (dats m 0 c).arrAt 5 (cfgs 0).N = fun y : S1x128x768.Idx =>
    entryOf (m ((c : Thread nD τ).loc main_arg0)) (m ((c : Thread nD τ).loc main_arg1)) (m ((c : Thread nD τ).loc main_arg2)) (y 1)
      (fun k => column_xbc (m ((c : Thread nD τ).loc main_arg3)) k (y 2)) := by
  refine (dats m 0 c).arrAt_eq_of_covers 5 _ (by decide +kernel) fun t _ y => ?_
  obtain ⟨o, r, n, rfl⟩ : ∃ o r n, y = (ix3 o r n : S1x128x768.Idx) := ⟨y 0, y 1, y 2, by funext q; fin_cases q <;> rfl⟩
  obtain rfl : o = 0 := Subsingleton.elim _ _
  have e : ((cfg0.win 5).blk t).view.emb (ix3 0 r n) = (ix3 0 r n : S1x128x768.Idx) := by blk_ext [idx t]
  rw [e, after0_5]
  have e' : (cfg0.win 5).xinj (cfg0.grid.coords t) (ix3 0 r n) = (ix3 0 r n : S1x128x768.Idx) := by
    funext z; fin_cases z <;> rfl
  rw [cast_eq]
  refine (congrArg (out0_5 (iblk m c 0 t) (iblk m c 1 t) (iblk m c 2 t) (iblk m c 3 t) (iblk m c 4 t)) e').trans ?_
  refine (out_xbc m c t r n).trans ((proj_eq m c t r _).trans ?_)
  exact congrArg (entryOf _ _ _ _) (funext fun k => packed_xbc _ k n)

theorem out_z (c : Dev nD) (t : Fin cfg0.N) (r : Fin 128) (n : Fin 512) :
    out0_6 (iblk m c 0 t) (iblk m c 1 t) (iblk m c 2 t) (iblk m c 3 t) (iblk m c 4 t) (ix3 0 r n)
      = k0_pay3 (iblk m c 0 t) (iblk m c 1 t) (iblk m c 2 t) (iblk m c 3 t) (iblk m c 4 t) (ix2 r ⟨768 + n.val, by omega⟩) := by
  unfold out0_6
  frame_out
  pointwise [k0_pay1, k0_pay5]

theorem final_z (c : Dev nD) : (dats m 0 c).arrAt 6 (cfgs 0).N = fun y : S1x128x512.Idx =>
    entryOf (m ((c : Thread nD τ).loc main_arg0)) (m ((c : Thread nD τ).loc main_arg1)) (m ((c : Thread nD τ).loc main_arg2)) (y 1)
      (fun k => column_z (m ((c : Thread nD τ).loc main_arg3)) k (y 2)) := by
  refine (dats m 0 c).arrAt_eq_of_covers 6 _ (by decide +kernel) fun t _ y => ?_
  obtain ⟨o, r, n, rfl⟩ : ∃ o r n, y = (ix3 o r n : S1x128x512.Idx) := ⟨y 0, y 1, y 2, by funext q; fin_cases q <;> rfl⟩
  obtain rfl : o = 0 := Subsingleton.elim _ _
  have e : ((cfg0.win 6).blk t).view.emb (ix3 0 r n) = (ix3 0 r n : S1x128x512.Idx) := by blk_ext [idx t]
  rw [e, after0_6]
  have e' : (cfg0.win 6).xinj (cfg0.grid.coords t) (ix3 0 r n) = (ix3 0 r n : S1x128x512.Idx) := by
    funext z; fin_cases z <;> rfl
  rw [cast_eq]
  refine (congrArg (out0_6 (iblk m c 0 t) (iblk m c 1 t) (iblk m c 2 t) (iblk m c 3 t) (iblk m c 4 t)) e').trans ?_
  refine (out_z m c t r n).trans ((proj_eq m c t r _).trans ?_)
  exact congrArg (entryOf _ _ _ _) (funext fun k => packed_z _ k n)

theorem out_dt (c : Dev nD) (t : Fin cfg0.N) (r : Fin 128) (n : Fin 128) :
    out0_7 (iblk m c 0 t) (iblk m c 1 t) (iblk m c 2 t) (iblk m c 3 t) (iblk m c 4 t) (ix3 0 r n)
      = k0_pay3 (iblk m c 0 t) (iblk m c 1 t) (iblk m c 2 t) (iblk m c 3 t) (iblk m c 4 t) (ix2 r ⟨1280 + n.val, by omega⟩) := by
  unfold out0_7
  frame_out
  pointwise [k0_pay2]

theorem final_dt (c : Dev nD) : (dats m 0 c).arrAt 7 (cfgs 0).N = fun y : S1x128x128.Idx =>
    entryOf (m ((c : Thread nD τ).loc main_arg0)) (m ((c : Thread nD τ).loc main_arg1)) (m ((c : Thread nD τ).loc main_arg2)) (y 1)
      (fun k => column_dt (m ((c : Thread nD τ).loc main_arg3)) k (y 2)) := by
  refine (dats m 0 c).arrAt_eq_of_covers 7 _ (by decide +kernel) fun t _ y => ?_
  obtain ⟨o, r, n, rfl⟩ : ∃ o r n, y = (ix3 o r n : S1x128x128.Idx) := ⟨y 0, y 1, y 2, by funext q; fin_cases q <;> rfl⟩
  obtain rfl : o = 0 := Subsingleton.elim _ _
  have e : ((cfg0.win 7).blk t).view.emb (ix3 0 r n) = (ix3 0 r n : S1x128x128.Idx) := by blk_ext [idx t]
  rw [e, after0_7]
  have e' : (cfg0.win 7).xinj (cfg0.grid.coords t) (ix3 0 r n) = (ix3 0 r n : S1x128x128.Idx) := by
    funext z; fin_cases z <;> rfl
  rw [cast_eq]
  refine (congrArg (out0_7 (iblk m c 0 t) (iblk m c 1 t) (iblk m c 2 t) (iblk m c 3 t) (iblk m c 4 t)) e').trans ?_
  refine (out_dt m c t r n).trans ((proj_eq m c t r _).trans ?_)
  exact congrArg (entryOf _ _ _ _) (funext fun k => packed_dt _ k n)

end Cert.InMbStepValue
end
-- ==== Proof.FfnStep.Value.lean ====
/-
  The feed-forward call's result for the sample batch, index by index, in its arguments. The batch is one block: 128 rows, a row per sequence.
-/
module

public import proofs.«01_k».proof.Proof.Gen.FfnStepIdeal.Frame
public import proofs.«01_k».proof.Proof.Gen.FfnStepIdeal.Value
public import proofs.«01_k».proof.Proof.InMbStep.Value
public import Idealize.ShloMosaic.Lib.Pipeline.ValueKit
public import Idealize.ShloMosaic.Lib.Claim

@[expose] public section

set_option maxRecDepth 16384

noncomputable section

namespace Cert.FfnStepValue

open Idealize.ShloMosaic Idealize.ShloMosaic.TcCoe Idealize.SL.Sem
open Cert.FfnStepIdeal Cert.FfnStepIdeal.Gen Cert.Layer
open Cert.InMbStepValue (rows spread)
open Cert.InMbValue (lone)

variable (m : (ℓ : Loc nD τ sig) → Buf (Elt Ideal) ℓ) (ρ : Dev nD → PrngReg)

/-! ## The body's vectors, index by index -/

/-- The normalised and modulated block, row by row. -/
theorem modded_at (x : Vec Ideal S1x128x1024 .f32) (g : Vec Ideal S1x1024 .f32) (sc sh : Vec Ideal S1x128x1024 .f32) (r : Fin 128) (k : Fin 1024) :
    k0_pay3 x g sc sh (ix2 r k) = modded (fun j => x (ix3 0 r j)) (fun j => g (ix2 0 j)) (fun j => sc (ix3 0 r j)) (fun j => sh (ix3 0 r j)) k := by
  pointwise [k0_pay3, k0_pay2, modded, scale]

/-- One tile of the hidden block: the columns from `o` on. -/
theorem tile_at (h : FVec Ideal S128x1024 .bf16) (wg wu : Vec Ideal S1024x2816 .bf16) (o : ℕ)
    (inb : ∀ a, (![0, o] : Fin 2 → ℕ) a + (![1024, 256] : Fin 2 → ℕ) a ≤ S1024x2816.size a) (r : Fin 128) (l : Fin 2816) (x : S128x256.Idx)
    (e0 : (r : ℕ) = x 0) (e1 : (l : ℕ) = o + x 1) :
    k0_pay6 h (View.ld wg (Rect.unit (s := S1024x2816) ![0, o] ![1024, 256] inb)) (View.ld wu (Rect.unit (s := S1024x2816) ![0, o] ![1024, 256] inb)) x
      = hiddenRow (fun k => h (ix2 r k)) (fun k l => wg (ix2 k l)) (fun k l => wu (ix2 k l)) l := by
  obtain rfl : r = x 0 := Fin.ext e0
  obtain ⟨l, hl⟩ := l
  obtain rfl : l = o + x 1 := e1
  pointwise [k0_pay6, hiddenRow, gated]

/-- The block after the feed-forward part, normalised. -/
theorem tail_at (x : Vec Ideal S1x128x1024 .f32) (ga : Vec Ideal S1x128x1024 .f32) (u : FVec Ideal S128x2816 .bf16) (wd : Vec Ideal S2816x1024 .bf16)
    (gf : Vec Ideal S1x1024 .f32) (r : Fin 128) (n : Fin 1024) :
    k0_pay1 (k0_pay27 (k0_pay2 x) ga u wd gf) (ix3 0 r n)
      = after (fun j => x (ix3 0 r j)) (fun j => ga (ix3 0 r j)) (fun l => u (ix2 r l)) (fun l j => wd (ix2 l j)) n
        * scale (after (fun j => x (ix3 0 r j)) (fun j => ga (ix3 0 r j)) (fun l => u (ix2 r l)) (fun l j => wd (ix2 l j))) * gf (ix2 0 n) := by
  pointwise [k0_pay1, k0_pay27, k0_pay2, after, scale]

/-! ## The blocks, read in the arguments -/

theorem idx : ∀ t : Fin cfg0.N, win0_0.index t = ![0, 0, 0] ∧ win0_1.index t = ![0, 0] ∧ win0_2.index t = ![0, 0, 4]
    ∧ win0_3.index t = ![0, 0, 3] ∧ win0_4.index t = ![0, 0, 5] ∧ win0_5.index t = ![0, 0] ∧ win0_6.index t = ![0, 0]
    ∧ win0_7.index t = ![0, 0] ∧ win0_8.index t = ![0, 0] ∧ win0_9.index t = ![0, 0, 0] :=
  (by decide +kernel : ∀ t : Fin grid0.N, _)

theorem entry_x (c : Dev nD) : V m c main_v0 = shapeCast S1x128x1024 (m ((c : Thread nD τ).loc main_arg0)) shapeCasts_S128x1x1024_S1x128x1024 := by
  show StableHlo.after hostOps0 _ _ = _
  after_results <;> rfl
theorem entry_g (c : Dev nD) : V m c main_v1 = shapeCast S1x1024 (m ((c : Thread nD τ).loc main_arg1)) shapeCasts_S1024_S1x1024 := by
  show StableHlo.after hostOps0 _ _ = _
  after_results <;> rfl
theorem entry_mod (c : Dev nD) : V m c main_v2 = broadcastInDim S1x128x6144 ![1, 2] bcast_S128x6144_S1x128x6144_1_2 (m ((c : Thread nD τ).loc main_arg2)) := by
  show StableHlo.after hostOps0 _ _ = _
  after_results <;> rfl
theorem entry_wg (c : Dev nD) : V m c main_v3 = (m ((c : Thread nD τ).loc main_arg3) : Vec Ideal S1024x2816 .f32) := by
  show StableHlo.after hostOps0 _ _ = _
  after_results <;> rfl
theorem entry_wu (c : Dev nD) : V m c main_v4 = (m ((c : Thread nD τ).loc main_arg4) : Vec Ideal S1024x2816 .f32) := by
  show StableHlo.after hostOps0 _ _ = _
  after_results <;> rfl
theorem entry_wd (c : Dev nD) : V m c main_v5 = (m ((c : Thread nD τ).loc main_arg5) : Vec Ideal S2816x1024 .f32) := by
  show StableHlo.after hostOps0 _ _ = _
  after_results <;> rfl
theorem entry_gf (c : Dev nD) : V m c main_v6 = shapeCast S1x1024 (m ((c : Thread nD τ).loc main_arg6)) shapeCasts_S1024_S1x1024 := by
  show StableHlo.after hostOps0 _ _ = _
  after_results <;> rfl

section
variable (c : Dev nD) (t : Fin cfg0.N)

theorem read_x (r : Fin 128) (k : Fin 1024) : iblk m c 0 t (ix3 0 r k) = m ((c : Thread nD τ).loc main_arg0) (ix3 r 0 k) := by
  show V m c main_v0 (((cfg0.win 0).blk t).view.emb (ix3 0 r k)) = _
  have e : ((cfg0.win 0).blk t).view.emb (ix3 0 r k) = (ix3 0 r k : S1x128x1024.Idx) := by blk_ext [idx t]
  rw [entry_x, e]; exact rows _ _ _
theorem read_g (k : Fin 1024) : iblk m c 1 t (ix2 0 k) = m ((c : Thread nD τ).loc main_arg1) (ix1 k) := by
  show V m c main_v1 (((cfg0.win 1).blk t).view.emb (ix2 0 k)) = _
  have e : ((cfg0.win 1).blk t).view.emb (ix2 0 k) = (ix2 0 k : S1x1024.Idx) := by blk_ext [idx t]
  rw [entry_g, e]; exact lone _ _
theorem read_sc (r : Fin 128) (k : Fin 1024) : iblk m c 2 t (ix3 0 r k) = m ((c : Thread nD τ).loc main_arg2) (ix2 r (sixth 4 k)) := by
  show V m c main_v2 (((cfg0.win 2).blk t).view.emb (ix3 0 r k)) = _
  have e : ((cfg0.win 2).blk t).view.emb (ix3 0 r k) = (ix3 0 r (sixth 4 k) : S1x128x6144.Idx) := by blk_ext [idx t, sixth]
  rw [entry_mod, e]; exact spread _ _ _
theorem read_sh (r : Fin 128) (k : Fin 1024) : iblk m c 3 t (ix3 0 r k) = m ((c : Thread nD τ).loc main_arg2) (ix2 r (sixth 3 k)) := by
  show V m c main_v2 (((cfg0.win 3).blk t).view.emb (ix3 0 r k)) = _
  have e : ((cfg0.win 3).blk t).view.emb (ix3 0 r k) = (ix3 0 r (sixth 3 k) : S1x128x6144.Idx) := by blk_ext [idx t, sixth]
  rw [entry_mod, e]; exact spread _ _ _
theorem read_ga (r : Fin 128) (k : Fin 1024) : iblk m c 4 t (ix3 0 r k) = m ((c : Thread nD τ).loc main_arg2) (ix2 r (sixth 5 k)) := by
  show V m c main_v2 (((cfg0.win 4).blk t).view.emb (ix3 0 r k)) = _
  have e : ((cfg0.win 4).blk t).view.emb (ix3 0 r k) = (ix3 0 r (sixth 5 k) : S1x128x6144.Idx) := by blk_ext [idx t, sixth]
  rw [entry_mod, e]; exact spread _ _ _
theorem read_wg (k : Fin 1024) (l : Fin 2816) : iblk m c 5 t (ix2 k l) = m ((c : Thread nD τ).loc main_arg3) (ix2 k l) := by
  show V m c main_v3 (((cfg0.win 5).blk t).view.emb (ix2 k l)) = _
  have e : ((cfg0.win 5).blk t).view.emb (ix2 k l) = (ix2 k l : S1024x2816.Idx) := by blk_ext [idx t]
  rw [entry_wg, e]
theorem read_wu (k : Fin 1024) (l : Fin 2816) : iblk m c 6 t (ix2 k l) = m ((c : Thread nD τ).loc main_arg4) (ix2 k l) := by
  show V m c main_v4 (((cfg0.win 6).blk t).view.emb (ix2 k l)) = _
  have e : ((cfg0.win 6).blk t).view.emb (ix2 k l) = (ix2 k l : S1024x2816.Idx) := by blk_ext [idx t]
  rw [entry_wu, e]
theorem read_wd (l : Fin 2816) (k : Fin 1024) : iblk m c 7 t (ix2 l k) = m ((c : Thread nD τ).loc main_arg5) (ix2 l k) := by
  show V m c main_v5 (((cfg0.win 7).blk t).view.emb (ix2 l k)) = _
  have e : ((cfg0.win 7).blk t).view.emb (ix2 l k) = (ix2 l k : S2816x1024.Idx) := by blk_ext [idx t]
  rw [entry_wd, e]
theorem read_gf (k : Fin 1024) : iblk m c 8 t (ix2 0 k) = m ((c : Thread nD τ).loc main_arg6) (ix1 k) := by
  show V m c main_v6 (((cfg0.win 8).blk t).view.emb (ix2 0 k)) = _
  have e : ((cfg0.win 8).blk t).view.emb (ix2 0 k) = (ix2 0 k : S1x1024.Idx) := by blk_ext [idx t]
  rw [entry_gf, e]; exact lone _ _
end

/-! ## The result -/

section
variable (x : Vec Ideal S128x1x1024 .f32) (g : Vec Ideal S1024 .f32) (md : Vec Ideal S128x6144 .f32) (wg wu : Vec Ideal S1024x2816 .f32)
  (wd : Vec Ideal S2816x1024 .f32) (gf : Vec Ideal S1024 .f32)

/-- The layer's last row for the token of sequence `q`. -/
def lastRow (q : Fin 128) (n : Fin 1024) : EReal :=
  last (fun j => x (ix3 q 0 j)) (fun j => g (ix1 j)) (fun j => md (ix2 q (sixth 4 j))) (fun j => md (ix2 q (sixth 3 j)))
    (fun j => md (ix2 q (sixth 5 j))) (fun j => gf (ix1 j)) (fun k l => wg (ix2 k l)) (fun k l => wu (ix2 k l)) (fun l k => wd (ix2 l k)) n
end

theorem out_at (c : Dev nD) (t : Fin cfg0.N) (r : Fin 128) (n : Fin 1024) :
    outsAt0 m c t (ix3 0 r n) = last (fun j => iblk m c 0 t (ix3 0 r j)) (fun j => iblk m c 1 t (ix2 0 j)) (fun j => iblk m c 2 t (ix3 0 r j))
      (fun j => iblk m c 3 t (ix3 0 r j)) (fun j => iblk m c 4 t (ix3 0 r j)) (fun j => iblk m c 8 t (ix2 0 j))
      (fun k l => iblk m c 5 t (ix2 k l)) (fun k l => iblk m c 6 t (ix2 k l)) (fun l k => iblk m c 7 t (ix2 l k)) n := by
  unfold outsAt0
  frame_out
  rw [View.readCov_eq_canon']
  refine (tail_at _ _ _ _ _ _ _).trans ?_
  unfold last
  refine congrArg (fun u => after _ _ u _ n * scale (after _ _ u _) * _) (funext fun l => ?_)
  refine Eq.trans (b := hiddenRow (fun k => k0_pay3 (iblk m c 0 t) (iblk m c 1 t) (iblk m c 2 t) (iblk m c 3 t) (ix2 r k)) (fun k l => iblk m c 5 t (ix2 k l))
    (fun k l => iblk m c 6 t (ix2 k l)) l) ?_ (congrArg (fun q => hiddenRow q _ _ l) (funext fun k => modded_at _ _ _ _ r k))
  have e : (Rect.unit (s := S128x2816) ![0, 0] ![128, 2816] inb_S128x2816_S128x2816_0_0).idx (ix2 r l) = (ix2 r l : S128x2816.Idx) := by
    funext q; apply Fin.ext
    refine (Rect.idx_unit_val _ _ _ _ q).trans ?_
    fin_cases q <;> exact Nat.zero_add _
  refine (congrArg (View.canon _) e).trans ?_
  canon_tiles z h
  all_goals first
    | exact tile_at _ _ _ _ _ r l z h0 h1
    | exact tile_at _ _ _ 0 _ r l z h0 (h1.trans (Nat.zero_add _).symm)

theorem out_eq (c : Dev nD) (t : Fin cfg0.N) (r : Fin 128) (n : Fin 1024) :
    outsAt0 m c t (ix3 0 r n) = lastRow (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) r n := by
  refine (out_at m c t r n).trans ?_
  unfold lastRow
  exact last_congr (funext fun j => read_x m c t r j) (funext fun j => read_g m c t j) (funext fun j => read_sc m c t r j)
    (funext fun j => read_sh m c t r j) (funext fun j => read_ga m c t r j) (funext fun j => read_gf m c t j)
    (funext fun k => funext fun l => read_wg m c t k l) (funext fun k => funext fun l => read_wu m c t k l)
    (funext fun l => funext fun k => read_wd m c t l k) n

/-- What the region leaves in the result: the layer's last rows. -/
theorem final (c : Dev nD) : (dats m 0 c).arrAt 9 (cfgs 0).N = fun y : S1x128x1024.Idx =>
    lastRow (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (y 1) (y 2) := by
  refine (dats m 0 c).arrAt_eq_of_covers 9 _ (by decide +kernel) fun t _ y => ?_
  obtain ⟨o, r, n, rfl⟩ : ∃ o r n, y = (ix3 o r n : S1x128x1024.Idx) := ⟨y 0, y 1, y 2, by funext q; fin_cases q <;> rfl⟩
  obtain rfl : o = 0 := Subsingleton.elim _ _
  have e : ((cfg0.win 9).blk t).view.emb (ix3 0 r n) = (ix3 0 r n : S1x128x1024.Idx) := by blk_ext [idx t]
  rw [e, after0_9]
  have e' : (cfg0.win 9).xinj (cfg0.grid.coords t) (ix3 0 r n) = (ix3 0 r n : S1x128x1024.Idx) := by
    funext z; fin_cases z <;> rfl
  rw [cast_eq]
  refine (congrArg (outsAt0 m c t) e').trans ?_
  exact out_eq m c t r n

end Cert.FfnStepValue
end
-- ==== Proof.FfnStep.Reference.lean ====
/-
  The reference's feed-forward result for the sample batch, index by index.
-/
module

public import proofs.«01_k».proof.Proof.FfnStep.Value
public import proofs.«01_k».proof.Proof.Gen.FfnStepReferenceIdeal.Run
public import proofs.«01_k».proof.Proof.Gen.FfnStepReferenceIdeal.Read

@[expose] public section

set_option maxRecDepth 16384

noncomputable section

namespace Cert.FfnStepValue

open Idealize.ShloMosaic Idealize.ShloMosaic.TcCoe Idealize.SL.Sem
open Cert.FfnStepReferenceIdeal Cert.FfnStepReferenceIdeal.Read Cert.Layer

variable (x : Vec Ideal S128x1x1024 .f32) (g : Vec Ideal S1024 .f32) (md : Vec Ideal S128x6144 .f32) (wg wu : Vec Ideal S1024x2816 .f32)
  (wd : Vec Ideal S2816x1024 .f32) (gf : Vec Ideal S1024 .f32)

theorem ref_modded (q : Fin 128) (k : Fin 1024) :
    val_main_v28 (F := Ideal) x g md (ix3 q 0 k) = modded (fun j => x (ix3 q 0 j)) (fun j => g (ix1 j)) (fun j => md (ix2 q (sixth 4 j)))
      (fun j => md (ix2 q (sixth 3 j))) k := by
  have e (j : Fin 1024) : idx_main_v13 (idx_main_v14 (idx_main_v20 (ix3 q 0 k))) j = (ix3 q 0 j : S128x1x1024.Idx) := by
    funext z; fin_cases z <;> rfl
  have e1 : idx_main_v22 (idx_main_v23 (ix3 q 0 k)) = (ix1 k : S1024.Idx) := by funext z; fin_cases z <;> rfl
  have e2 : idx_main_v4 (idx_main_v10 (ix3 q 0 k)) = (ix2 q (sixth 4 k) : S128x6144.Idx) := by
    funext z; apply Fin.ext; fin_cases z <;> first | rfl | exact Nat.add_comm _ _
  have e3 : idx_main_v3 (idx_main_v9 (ix3 q 0 k)) = (ix2 q (sixth 3 k) : S128x6144.Idx) := by
    funext z; apply Fin.ext; fin_cases z <;> first | rfl | exact Nat.add_comm _ _
  pointwise [val_main_v28_apply, val_main_v27_apply, val_main_v26_apply, val_main_v25_apply, val_main_cst_2_apply,
    val_main_v24_apply, val_main_v23_apply, val_main_v22_apply, val_main_v21_apply, val_main_v20_apply, val_main_v19_apply, val_main_v18_apply,
    val_main_v17_apply, val_main_cst_1_apply, val_main_v16_apply, val_main_v15_apply, val_main_cst_0_apply, val_main_v14_apply, val_main_v13_apply,
    val_main_cst_apply, val_main_v12_apply, val_main_v10_apply, val_main_v9_apply, val_main_v4_apply, val_main_v3_apply, modded, scale]
  simp only [e, e1, e2, e3]

theorem ref_hidden (q : Fin 128) (l : Fin 2816) :
    val_main_v32 (F := Ideal) x g md wg wu (ix3 q 0 l) = hiddenRow (fun k => val_main_v28 (F := Ideal) x g md (ix3 q 0 k)) (fun k l => wg (ix2 k l))
      (fun k l => wu (ix2 k l)) l := by
  have e (k : Fin 1024) : lidx_main_v29 (ix3 q 0 l) k = (ix3 q 0 k : S128x1x1024.Idx) := by funext z; fin_cases z <;> rfl
  have e1 (k : Fin 1024) : ridx_main_v29 (ix3 q 0 l) k = (ix2 k l : S1024x2816.Idx) := by funext z; fin_cases z <;> rfl
  have e2 (k : Fin 1024) : lidx_main_v31 (ix3 q 0 l) k = (ix3 q 0 k : S128x1x1024.Idx) := by funext z; fin_cases z <;> rfl
  have e3 (k : Fin 1024) : ridx_main_v31 (ix3 q 0 l) k = (ix2 k l : S1024x2816.Idx) := by funext z; fin_cases z <;> rfl
  pointwise [val_main_v32_apply, val_main_v31_apply, val_main_v30_apply, val_main_call0_v5_apply, val_main_call0_v4_apply, val_main_call0_v3_apply,
    val_main_call0_v2_apply, val_main_call0_v1_apply, val_main_call0_v0_apply, val_main_call0_cst_apply, val_main_call0_cst_0_apply, val_main_v29_apply,
    hiddenRow, gated]
  simp only [e, e1, e2, e3, zero_sub]

theorem ref_after (q : Fin 128) (n : Fin 1024) :
    val_main_v35 (F := Ideal) x g md wg wu wd (ix3 q 0 n) = after (fun j => x (ix3 q 0 j)) (fun j => md (ix2 q (sixth 5 j)))
      (fun l => val_main_v32 (F := Ideal) x g md wg wu (ix3 q 0 l)) (fun l j => wd (ix2 l j)) n := by
  have e (k : Fin 2816) : lidx_main_v33 (ix3 q 0 n) k = (ix3 q 0 k : S128x1x2816.Idx) := by funext z; fin_cases z <;> rfl
  have e1 (k : Fin 2816) : ridx_main_v33 (ix3 q 0 n) k = (ix2 k n : S2816x1024.Idx) := by funext z; fin_cases z <;> rfl
  have e2 : idx_main_v5 (idx_main_v11 (ix3 q 0 n)) = (ix2 q (sixth 5 n) : S128x6144.Idx) := by
    funext z; apply Fin.ext; fin_cases z <;> first | rfl | exact Nat.add_comm _ _
  pointwise [val_main_v35_apply, val_main_v34_apply, val_main_v33_apply, val_main_v11_apply, val_main_v5_apply, after]
  simp only [e, e1, e2]

theorem ref_last (q : Fin 128) (n : Fin 1024) :
    val_main_v48 (F := Ideal) x g md wg wu wd gf (ix3 q 0 n) = val_main_v35 (F := Ideal) x g md wg wu wd (ix3 q 0 n)
      * scale (fun j => val_main_v35 (F := Ideal) x g md wg wu wd (ix3 q 0 j)) * gf (ix1 n) := by
  have e (j : Fin 1024) : idx_main_v37 (idx_main_v38 (idx_main_v44 (ix3 q 0 n))) j = (ix3 q 0 j : S128x1x1024.Idx) := by
    funext z; fin_cases z <;> rfl
  have e1 : idx_main_v46 (idx_main_v47 (ix3 q 0 n)) = (ix1 n : S1024.Idx) := by funext z; fin_cases z <;> rfl
  pointwise [val_main_v48_apply, val_main_v47_apply, val_main_v46_apply, val_main_v45_apply, val_main_v44_apply, val_main_v43_apply, val_main_v42_apply,
    val_main_v41_apply, val_main_cst_5_apply, val_main_v40_apply, val_main_v39_apply, val_main_cst_4_apply, val_main_v38_apply, val_main_v37_apply,
    val_main_cst_3_apply, val_main_v36_apply, scale]
  simp only [e, e1]

theorem ref_row (q : Fin 128) (n : Fin 1024) :
    val_main_v49 (F := Ideal) x g md wg wu wd gf (ix3 0 q n) = lastRow x g md wg wu wd gf q n := by
  have e : idx_main_v49 (ix3 0 q n) = (ix3 q 0 n : S128x1x1024.Idx) := by
    funext z; apply Fin.ext; fin_cases z
    · show ((0 * 128 + q.val) * 1024 + n.val) / 1024 = q.val
      omega
    · rfl
    · show ((0 * 128 + q.val) * 1024 + n.val) % 1024 = n.val
      omega
  rw [val_main_v49_apply, e, ref_last]
  simp only [ref_after, ref_hidden, ref_modded]
  rfl

end Cert.FfnStepValue
end
-- ==== Proof.FfnStep.Claims.lean ====
/-
  The claims of the feed-forward call for the sample batch.
-/
module

public import proofs.«01_k».proof.Defs
public import proofs.«01_k».proof.Proof.Gen.FfnStep
public import proofs.«01_k».proof.Proof.Gen.FfnStep.Frame
public import proofs.«01_k».proof.Proof.Gen.FfnStepIdeal
public import proofs.«01_k».proof.Proof.Gen.FfnStepReferenceIdeal
public import proofs.«01_k».proof.Proof.FfnStep.Reference
public import Idealize.ShloMosaic.Adequacy
public import Idealize.ShloMosaic.Init
public import Idealize.ShloMosaic.Lib.Claim

@[expose] public section

set_option maxRecDepth 16384

noncomputable section

namespace Cert.FfnStepValue

open Idealize.ShloMosaic Idealize.ShloMosaic.TcCoe Idealize.SL.Sem

theorem quiescent_bits : Cert.quiescent_FfnStep := fun m g _ => Cert.FfnStep.Gen.frame m g

theorem quiescent_ideal : Cert.quiescent_FfnStepIdeal := fun m g _ => Cert.FfnStepIdeal.Gen.frame m g

theorem quiescent_reference : Cert.quiescent_FfnStepReferenceIdeal := fun m g _ =>
  (θ_run _ _ _).mono (fun r h => ⟨fun c => (h c).2, sem_eq_zero_of_no_sems (by decide) r.2⟩) (Cert.FfnStepReferenceIdeal.Value.run m g)

theorem algebraic : Cert.algebraic_FfnStepIdeal_FfnStepReferenceIdeal := fun m g m' g' _ hagree =>
  ⟨fun c => (Cert.FfnStepIdeal.Gen.dats m 0 c).arrAt 9 Cert.FfnStepIdeal.cfg0.N,
   Cert.FfnStepIdeal.Value.run_blocks m g,
   (θ_run _ _ _).mono (fun _ h c => by
      obtain ⟨a0, a1, a2, a3, a4, a5, a6⟩ := hagree c
      obtain ⟨h0, hargs⟩ := h c
      refine ⟨h0.trans ?_, hargs⟩
      refine (Cert.FfnStepReferenceIdeal.Read.val_main_v49_eq m' c).trans ?_
      rw [a0, a1, a2, a3, a4, a5, a6]
      refine Eq.trans (funext fun y => ?_) (final m c).symm
      have hy : y = ix3 0 (y 1) (y 2) := by funext z; fin_cases z <;> first | rfl | exact Subsingleton.elim (α := Fin 1) _ _
      rw [hy]
      exact ref_row _ _ _ _ _ _ _ _ _)
     (Cert.FfnStepReferenceIdeal.Value.run m' g')⟩

end Cert.FfnStepValue
end
-- ==== Proof.InMbStep.Reference.lean ====
/-
  The reference's second input projection for the sample batch, index by index.
-/
module

public import proofs.«01_k».proof.Proof.InMbStep.Value
public import proofs.«01_k».proof.Proof.Gen.InMbStepReferenceIdeal.Run
public import proofs.«01_k».proof.Proof.Gen.InMbStepReferenceIdeal.Read

@[expose] public section

set_option maxRecDepth 16384

noncomputable section

namespace Cert.InMbStepValue

open Idealize.ShloMosaic Idealize.ShloMosaic.TcCoe Idealize.SL.Sem
open Cert.InMbStepReferenceIdeal Cert.InMbStepReferenceIdeal.Read Cert.Layer
open Cert.InMbValue (column_xbc column_z column_dt zero)

variable (x : Vec Ideal S128x1x1024 .f32) (g : Vec Ideal S1024 .f32) (md : Vec Ideal S128x6144 .f32) (w : Vec Ideal S1024x3208 .f32)

theorem ref_modded (q : Fin 128) (k : Fin 1024) :
    val_main_v28 (F := Ideal) x g md (ix3 q 0 k) = modded (fun j => x (ix3 q 0 j)) (fun j => g (ix1 j)) (fun j => md (ix2 q (sixth 1 j)))
      (fun j => md (ix2 q (sixth 0 j))) k := by
  have e (j : Fin 1024) : idx_main_v13 (idx_main_v14 (idx_main_v20 (ix3 q 0 k))) j = (ix3 q 0 j : S128x1x1024.Idx) := by
    funext z; fin_cases z <;> rfl
  have e1 : idx_main_v22 (idx_main_v23 (ix3 q 0 k)) = (ix1 k : S1024.Idx) := by funext z; fin_cases z <;> rfl
  have e2 : idx_main_v1 (idx_main_v7 (ix3 q 0 k)) = (ix2 q (sixth 1 k) : S128x6144.Idx) := by
    funext z; apply Fin.ext; fin_cases z <;> first | rfl | exact Nat.add_comm _ _ | simp
  have e3 : idx_main_v0 (idx_main_v6 (ix3 q 0 k)) = (ix2 q (sixth 0 k) : S128x6144.Idx) := by
    funext z; apply Fin.ext; fin_cases z <;> first | rfl | exact Nat.add_comm _ _ | simp
  pointwise [val_main_v28_apply, val_main_v27_apply, val_main_v26_apply, val_main_v25_apply, val_main_cst_2_apply,
    val_main_v24_apply, val_main_v23_apply, val_main_v22_apply, val_main_v21_apply, val_main_v20_apply, val_main_v19_apply, val_main_v18_apply,
    val_main_v17_apply, val_main_cst_1_apply, val_main_v16_apply, val_main_v15_apply, val_main_cst_0_apply, val_main_v14_apply, val_main_v13_apply,
    val_main_cst_apply, val_main_v12_apply, val_main_v7_apply, val_main_v6_apply, val_main_v1_apply, val_main_v0_apply, modded, scale]
  simp only [e, e1, e2, e3]

/-- The whole projection. -/
theorem ref_proj (q : Fin 128) (n : Fin 3208) :
    val_main_v29 (F := Ideal) x g md w (ix3 q 0 n) = entryOf x g md q (fun k => w (ix2 k n)) := by
  have e (k : Fin 1024) : lidx_main_v29 (ix3 q 0 n) k = (ix3 q 0 k : S128x1x1024.Idx) := by funext z; fin_cases z <;> rfl
  have e1 (k : Fin 1024) : ridx_main_v29 (ix3 q 0 n) k = (ix2 k n : S1024x3208.Idx) := by funext z; fin_cases z <;> rfl
  unfold entryOf projected
  rw [val_main_v29_apply]
  refine Finset.sum_congr rfl fun k _ => ?_
  rw [e, e1, ref_modded]

theorem ref_xbc (q : Fin 128) (n : Fin 768) :
    val_main_v39 (F := Ideal) x g md w (ix3 0 q n) = entryOf x g md q (fun k => column_xbc w k n) := by
  rw [val_main_v39_apply, val_main_v35_apply]
  refine Eq.trans (congrArg _ ?_) (ref_proj x g md w q ⟨1536 + n.val, by omega⟩)
  funext z; apply Fin.ext; fin_cases z
  · show ((0 * 128 + q.val) * 768 + n.val) / 768 = q.val
    omega
  · rfl
  · show 1536 + ((0 * 128 + q.val) * 768 + n.val) % 768 = 1536 + n.val
    omega

theorem ref_z (q : Fin 128) (n : Fin 512) :
    val_main_v40 (F := Ideal) x g md w (ix3 0 q n) = entryOf x g md q (fun k => column_z w k n) := by
  rw [val_main_v40_apply, val_main_v34_apply]
  refine Eq.trans (congrArg _ ?_) (ref_proj x g md w q ⟨1024 + n.val, by omega⟩)
  funext z; apply Fin.ext; fin_cases z
  · show ((0 * 128 + q.val) * 512 + n.val) / 512 = q.val
    omega
  · rfl
  · show 1024 + ((0 * 128 + q.val) * 512 + n.val) % 512 = 1024 + n.val
    omega

theorem ref_dt (q : Fin 128) (n : Fin 128) :
    val_main_v41 (F := Ideal) x g md w (ix3 0 q n) = entryOf x g md q (fun k => column_dt w k n) := by
  have e : idx_main_v41 (ix3 0 q n) = (ix3 q 0 n : S128x1x128.Idx) := by
    funext z; apply Fin.ext; fin_cases z
    · show ((0 * 128 + q.val) * 128 + n.val) / 128 = q.val
      omega
    · rfl
    · show ((0 * 128 + q.val) * 128 + n.val) % 128 = n.val
      omega
  rw [val_main_v41_apply, e]
  pointwise [val_main_v38, val_main_call0_v0_apply, val_main_c_apply]
  split
  · rename_i h
    have e : (fun k => column_dt w k n) = fun k => w (ix2 k ⟨2304 + n.val, by omega⟩) := funext fun k => dif_pos h
    rw [e]
    rw [val_main_v36_apply]
    refine Eq.trans (congrArg _ ?_) (ref_proj x g md w q ⟨2304 + n.val, by omega⟩)
    funext z; apply Fin.ext; fin_cases z <;> first | rfl | exact Nat.add_comm _ _
  · rename_i h
    have e : (fun k => column_dt w k n) = fun _ => 0 := funext fun k => dif_neg h
    rw [e]
    exact zero.trans (projected_zero _ _ _ _).symm

end Cert.InMbStepValue
end
-- ==== Proof.InMbStep.Claims.lean ====
/-
  The claims of the second input projection for the sample batch.
-/
module

public import proofs.«01_k».proof.Defs
public import proofs.«01_k».proof.Proof.Gen.InMbStep
public import proofs.«01_k».proof.Proof.Gen.InMbStep.Frame
public import proofs.«01_k».proof.Proof.Gen.InMbStepIdeal
public import proofs.«01_k».proof.Proof.Gen.InMbStepReferenceIdeal
public import proofs.«01_k».proof.Proof.InMbStep.Reference
public import Idealize.ShloMosaic.Adequacy
public import Idealize.ShloMosaic.Init
public import Idealize.ShloMosaic.Lib.Claim

@[expose] public section

set_option maxRecDepth 16384

noncomputable section

namespace Cert.InMbStepValue

open Idealize.ShloMosaic Idealize.ShloMosaic.TcCoe Idealize.SL.Sem

theorem quiescent_bits : Cert.quiescent_InMbStep := fun m g _ => Cert.InMbStep.Gen.frame m g

theorem quiescent_ideal : Cert.quiescent_InMbStepIdeal := fun m g _ => Cert.InMbStepIdeal.Gen.frame m g

theorem quiescent_reference : Cert.quiescent_InMbStepReferenceIdeal := fun m g _ =>
  (θ_run _ _ _).mono (fun r h => ⟨fun c => (h c).2.2.2, sem_eq_zero_of_no_sems (by decide) r.2⟩) (Cert.InMbStepReferenceIdeal.Value.run m g)

theorem algebraic : Cert.algebraic_InMbStepIdeal_InMbStepReferenceIdeal := fun m g m' g' _ hagree =>
  ⟨fun c => (Cert.InMbStepIdeal.Gen.dats m 0 c).arrAt 5 Cert.InMbStepIdeal.cfg0.N,
   fun c => (Cert.InMbStepIdeal.Gen.dats m 0 c).arrAt 6 Cert.InMbStepIdeal.cfg0.N,
   fun c => (Cert.InMbStepIdeal.Gen.dats m 0 c).arrAt 7 Cert.InMbStepIdeal.cfg0.N,
   Cert.InMbStepIdeal.Value.run_blocks m g,
   (θ_run _ _ _).mono (fun _ h c => by
      obtain ⟨a0, a1, a2, a3⟩ := hagree c
      obtain ⟨h0, h1, h2, hargs⟩ := h c
      refine ⟨h0.trans ?_, h1.trans ?_, h2.trans ?_, hargs⟩
      · rw [a0, a1, a2, a3]
        refine (Cert.InMbStepReferenceIdeal.Read.val_main_v39_eq _ _ _ _).trans (Eq.trans (funext fun y => ?_) (final_xbc m c).symm)
        have hy : y = ix3 0 (y 1) (y 2) := by funext z; fin_cases z <;> first | rfl | exact Subsingleton.elim (α := Fin 1) _ _
        rw [hy]
        exact ref_xbc _ _ _ _ _ _
      · rw [a0, a1, a2, a3]
        refine (Cert.InMbStepReferenceIdeal.Read.val_main_v40_eq _ _ _ _).trans (Eq.trans (funext fun y => ?_) (final_z m c).symm)
        have hy : y = ix3 0 (y 1) (y 2) := by funext z; fin_cases z <;> first | rfl | exact Subsingleton.elim (α := Fin 1) _ _
        rw [hy]
        exact ref_z _ _ _ _ _ _
      · rw [a0, a1, a2, a3]
        refine (Cert.InMbStepReferenceIdeal.Read.val_main_v41_eq _ _ _ _).trans (Eq.trans (funext fun y => ?_) (final_dt m c).symm)
        have hy : y = ix3 0 (y 1) (y 2) := by funext z; fin_cases z <;> first | rfl | exact Subsingleton.elim (α := Fin 1) _ _
        rw [hy]
        exact ref_dt _ _ _ _ _ _)
     (Cert.InMbStepReferenceIdeal.Value.run m' g')⟩

end Cert.InMbStepValue
end
-- ==== Proof.InRwStep.Value.lean ====
/-
  The third input projection's result for the sample batch, index by index, in its arguments. The batch is one block: 128 rows, a row per sequence.
-/
module

public import proofs.«01_k».proof.Proof.Gen.InRwStepIdeal.Frame
public import proofs.«01_k».proof.Proof.Gen.InRwStepIdeal.Value
public import proofs.«01_k».proof.Proof.InRw.Value
public import proofs.«01_k».proof.Proof.InMbStep.Value
public import Idealize.ShloMosaic.Lib.Pipeline.ValueKit
public import Idealize.ShloMosaic.Lib.Claim

@[expose] public section

set_option maxRecDepth 16384

noncomputable section

namespace Cert.InRwStepValue

open Idealize.ShloMosaic Idealize.ShloMosaic.TcCoe Idealize.SL.Sem
open Cert.InRwStepIdeal Cert.InRwStepIdeal.Gen Cert.Layer
open Cert.InMbStepValue (entryOf rows spread)
open Cert.InRwValue (packed column packed_eq lone)

variable (m : (ℓ : Loc nD τ sig) → Buf (Elt Ideal) ℓ) (ρ : Dev nD → PrngReg)

/-! ## The body's vectors, index by index -/

theorem proj_at (x : Vec Ideal S1x128x1024 .f32) (g : Vec Ideal S1x1024 .f32) (sc sh : Vec Ideal S1x128x1024 .f32) (w : Vec Ideal S1024x1152 .bf16)
    (r : Fin 128) (n : Fin 1152) :
    k0_pay1 x g sc sh w (ix3 0 r n) = projected (fun j => x (ix3 0 r j)) (fun j => g (ix2 0 j)) (fun j => sc (ix3 0 r j)) (fun j => sh (ix3 0 r j))
      (fun j => w (ix2 j n)) := by
  pointwise [k0_pay1, projected, modded, scale]

/-! ## The blocks, read in the arguments -/

theorem idx : ∀ t : Fin cfg0.N, win0_0.index t = ![0, 0, 0] ∧ win0_1.index t = ![0, 0] ∧ win0_2.index t = ![0, 0, 1] ∧ win0_3.index t = ![0, 0, 0]
    ∧ win0_4.index t = ![0, 0] ∧ win0_5.index t = ![0, 0, 0] :=
  (by decide +kernel : ∀ t : Fin grid0.N, _)

theorem entry_x (c : Dev nD) : V m c main_v10 = shapeCast S1x128x1024 (m ((c : Thread nD τ).loc main_arg0)) shapeCasts_S128x1x1024_S1x128x1024 := by
  entry_read
  try rfl
theorem entry_g (c : Dev nD) : V m c main_v11 = shapeCast S1x1024 (m ((c : Thread nD τ).loc main_arg1)) shapeCasts_S1024_S1x1024 := by
  entry_read
  try rfl
theorem entry_mod (c : Dev nD) : V m c main_v12 = broadcastInDim S1x128x6144 ![1, 2] bcast_S128x6144_S1x128x6144_1_2 (m ((c : Thread nD τ).loc main_arg2)) := by
  show StableHlo.after (List.flatten [hostOps0, hostOps0_1, hostOps0_2, hostOps0_3, hostOps0_4, hostOps0_5, hostOps0_6]) _ _ = _
  after_results <;> rfl
theorem entry_w (c : Dev nD) : V m c main_v9 = packed (m ((c : Thread nD τ).loc main_arg3)) := by
  simp only [V, hostOps0, hostOps0_1, hostOps0_2, hostOps0_3, hostOps0_4, hostOps0_5, hostOps0_6, List.flatten_cons, List.flatten_nil, List.append_nil, List.cons_append, List.nil_append]
  after_results <;> rfl

section
variable (c : Dev nD) (t : Fin cfg0.N)

theorem read_x (r : Fin 128) (k : Fin 1024) : iblk m c 0 t (ix3 0 r k) = m ((c : Thread nD τ).loc main_arg0) (ix3 r 0 k) := by
  show V m c main_v10 (((cfg0.win 0).blk t).view.emb (ix3 0 r k)) = _
  have e : ((cfg0.win 0).blk t).view.emb (ix3 0 r k) = (ix3 0 r k : S1x128x1024.Idx) := by blk_ext [idx t]
  rw [entry_x, e]; exact rows _ _ _
theorem read_g (k : Fin 1024) : iblk m c 1 t (ix2 0 k) = m ((c : Thread nD τ).loc main_arg1) (ix1 k) := by
  show V m c main_v11 (((cfg0.win 1).blk t).view.emb (ix2 0 k)) = _
  have e : ((cfg0.win 1).blk t).view.emb (ix2 0 k) = (ix2 0 k : S1x1024.Idx) := by blk_ext [idx t]
  rw [entry_g, e]; exact lone _ _
theorem read_sc (r : Fin 128) (k : Fin 1024) : iblk m c 2 t (ix3 0 r k) = m ((c : Thread nD τ).loc main_arg2) (ix2 r (sixth 1 k)) := by
  show V m c main_v12 (((cfg0.win 2).blk t).view.emb (ix3 0 r k)) = _
  have e : ((cfg0.win 2).blk t).view.emb (ix3 0 r k) = (ix3 0 r (sixth 1 k) : S1x128x6144.Idx) := by blk_ext [idx t, sixth]
  rw [entry_mod, e]; exact spread _ _ _
theorem read_sh (r : Fin 128) (k : Fin 1024) : iblk m c 3 t (ix3 0 r k) = m ((c : Thread nD τ).loc main_arg2) (ix2 r (sixth 0 k)) := by
  show V m c main_v12 (((cfg0.win 3).blk t).view.emb (ix3 0 r k)) = _
  have e : ((cfg0.win 3).blk t).view.emb (ix3 0 r k) = (ix3 0 r (sixth 0 k) : S1x128x6144.Idx) := by blk_ext [idx t, sixth]
  rw [entry_mod, e]; exact spread _ _ _
theorem read_w (k : Fin 1024) (n : Fin 1152) : iblk m c 4 t (ix2 k n) = packed (m ((c : Thread nD τ).loc main_arg3)) (ix2 k n) := by
  show V m c main_v9 (((cfg0.win 4).blk t).view.emb (ix2 k n)) = _
  have e : ((cfg0.win 4).blk t).view.emb (ix2 k n) = (ix2 k n : S1024x1152.Idx) := by blk_ext [idx t]
  rw [entry_w, e]
end

/-! ## The results -/

theorem proj_eq (c : Dev nD) (t : Fin cfg0.N) (r : Fin 128) (n : Fin 1152) :
    k0_pay1 (iblk m c 0 t) (iblk m c 1 t) (iblk m c 2 t) (iblk m c 3 t) (iblk m c 4 t) (ix3 0 r n)
      = entryOf (m ((c : Thread nD τ).loc main_arg0)) (m ((c : Thread nD τ).loc main_arg1)) (m ((c : Thread nD τ).loc main_arg2)) r
          (fun k => packed (m ((c : Thread nD τ).loc main_arg3)) (ix2 k n)) := by
  refine (proj_at _ _ _ _ _ _ _).trans ?_
  exact projected_congr (fun j => read_x m c t r j) (fun j => read_g m c t j) (fun j => read_sc m c t r j) (fun j => read_sh m c t r j)
    (fun j => read_w m c t j n)

theorem out_at (c : Dev nD) (t : Fin cfg0.N) (r : Fin 128) (n : Fin 1152) :
    out0_5 (iblk m c 0 t) (iblk m c 1 t) (iblk m c 2 t) (iblk m c 3 t) (iblk m c 4 t) (ix3 0 r n)
      = k0_pay1 (iblk m c 0 t) (iblk m c 1 t) (iblk m c 2 t) (iblk m c 3 t) (iblk m c 4 t) (ix3 0 r n) := by
  unfold out0_5
  frame_out

theorem final (c : Dev nD) : (dats m 0 c).arrAt 5 (cfgs 0).N = fun y : S1x128x1152.Idx =>
    entryOf (m ((c : Thread nD τ).loc main_arg0)) (m ((c : Thread nD τ).loc main_arg1)) (m ((c : Thread nD τ).loc main_arg2)) (y 1)
      (fun k => column (m ((c : Thread nD τ).loc main_arg3)) k (y 2)) := by
  refine (dats m 0 c).arrAt_eq_of_covers 5 _ (by decide +kernel) fun t _ y => ?_
  obtain ⟨o, r, n, rfl⟩ : ∃ o r n, y = (ix3 o r n : S1x128x1152.Idx) := ⟨y 0, y 1, y 2, by funext q; fin_cases q <;> rfl⟩
  obtain rfl : o = 0 := Subsingleton.elim _ _
  have e : ((cfg0.win 5).blk t).view.emb (ix3 0 r n) = (ix3 0 r n : S1x128x1152.Idx) := by blk_ext [idx t]
  rw [e, after0_5]
  have e' : (cfg0.win 5).xinj (cfg0.grid.coords t) (ix3 0 r n) = (ix3 0 r n : S1x128x1152.Idx) := by
    funext z; fin_cases z <;> rfl
  rw [cast_eq]
  refine (congrArg (out0_5 (iblk m c 0 t) (iblk m c 1 t) (iblk m c 2 t) (iblk m c 3 t) (iblk m c 4 t)) e').trans ?_
  refine (out_at m c t r n).trans ((proj_eq m c t r _).trans ?_)
  exact congrArg (entryOf _ _ _ _) (funext fun k => packed_eq _ k n)

end Cert.InRwStepValue
end
-- ==== Proof.InRwStep.Reference.lean ====
/-
  The reference's third input projection for the sample batch, index by index.
-/
module

public import proofs.«01_k».proof.Proof.InRwStep.Value
public import proofs.«01_k».proof.Proof.InMbStep.Reference
public import proofs.«01_k».proof.Proof.Gen.InRwStepReferenceIdeal.Run
public import proofs.«01_k».proof.Proof.Gen.InRwStepReferenceIdeal.Read

@[expose] public section

set_option maxRecDepth 16384

noncomputable section

namespace Cert.InRwStepValue

open Idealize.ShloMosaic Idealize.ShloMosaic.TcCoe Idealize.SL.Sem
open Cert.InRwStepReferenceIdeal Cert.InRwStepReferenceIdeal.Read Cert.Layer
open Cert.InMbStepValue (entryOf)
open Cert.InMbValue (zero)
open Cert.InRwValue (column)

variable (x : Vec Ideal S128x1x1024 .f32) (g : Vec Ideal S1024 .f32) (md : Vec Ideal S128x6144 .f32) (w : Vec Ideal S1024x3208 .f32)

theorem ref_proj (q : Fin 128) (n : Fin 3208) :
    val_main_v29 (F := Ideal) x g md w (ix3 q 0 n) = entryOf x g md q (fun k => w (ix2 k n)) :=
  Cert.InMbStepValue.ref_proj x g md w q n

theorem ref_rw (q : Fin 128) (n : Fin 896) :
    val_main_v37 (F := Ideal) x g md w (ix3 q 0 n) = entryOf x g md q (fun k => w (ix2 k ⟨2312 + n.val, by omega⟩)) := by
  rw [val_main_v37_apply]
  refine Eq.trans (congrArg _ ?_) (ref_proj x g md w q ⟨2312 + n.val, by omega⟩)
  funext z; apply Fin.ext; fin_cases z <;> first | rfl | exact Nat.add_comm _ _

theorem ref_res (q : Fin 128) (n : Fin 1152) :
    val_main_v46 (F := Ideal) x g md w (ix3 0 q n) = entryOf x g md q (fun k => column w k n) := by
  have e : idx_main_v46 (ix3 0 q n) = (ix3 q 0 n : S128x1x1152.Idx) := by
    funext z; apply Fin.ext; fin_cases z
    · show ((0 * 128 + q.val) * 1152 + n.val) / 1152 = q.val
      omega
    · rfl
    · show ((0 * 128 + q.val) * 1152 + n.val) % 1152 = n.val
      omega
  have lane (i : S128x1x896.Idx) (o : Fin 896) (hi : i = ix3 q 0 o) (hc : ∀ k, column w k n = w (ix2 k ⟨2312 + o.val, by omega⟩)) :
      val_main_v37 (F := Ideal) x g md w i = entryOf x g md q (fun k => column w k n) := by
    rw [hi, ref_rw, funext hc]
  have none (hc : ∀ k, column w k n = 0) : FloatOps.sitofp (F := Ideal) FTy.f32 (0#32) = entryOf x g md q (fun k => column w k n) := by
    rw [funext hc]
    exact zero.trans (projected_zero _ _ _ _).symm
  rw [val_main_v46_apply, e]
  pointwise [val_main_v45, val_main_v44, val_main_v43, val_main_v42, val_main_call0_v0_apply, val_main_call1_v0_apply, val_main_call2_v0_apply, val_main_c_apply,
    val_main_c_3_apply, val_main_c_4_apply, val_main_v38_apply, val_main_v39_apply, val_main_v40_apply, val_main_v41_apply]
  split
  · rename_i h
    exact lane _ ⟨n.val, by omega⟩ (by funext z; apply Fin.ext; fin_cases z <;> simp) (fun k => by simp [column, h])
  split
  · rename_i h h1
    split
    · rename_i h2
      exact lane _ ⟨768 + (n.val - 768), by omega⟩ (by funext z; apply Fin.ext; fin_cases z <;> simp) (fun k => by simp [column, h, h1, h2])
    · rename_i h2
      exact none fun k => by simp [column, h, h1, h2]
  split
  · rename_i h h1 h3
    split
    · rename_i h2
      exact lane _ ⟨800 + (n.val - 768 - 128), by omega⟩ (by funext z; apply Fin.ext; fin_cases z <;> simp) (fun k => by simp [column, h, h1, h2, h3])
    · rename_i h2
      exact none fun k => by simp [column, h, h1, h2, h3]
  · rename_i h h1 h3
    split
    · rename_i h2
      exact lane _ ⟨832 + (n.val - 768 - 128 - 128), by omega⟩ (by funext z; apply Fin.ext; fin_cases z <;> simp) (fun k => by simp [column, h, h1, h2, h3])
    · rename_i h2
      exact none fun k => by simp [column, h, h1, h2, h3]

end Cert.InRwStepValue
end
-- ==== Proof.InRwStep.Claims.lean ====
/-
  The claims of the third input projection for the sample batch.
-/
module

public import proofs.«01_k».proof.Defs
public import proofs.«01_k».proof.Proof.Gen.InRwStep
public import proofs.«01_k».proof.Proof.Gen.InRwStep.Frame
public import proofs.«01_k».proof.Proof.Gen.InRwStepIdeal
public import proofs.«01_k».proof.Proof.Gen.InRwStepReferenceIdeal
public import proofs.«01_k».proof.Proof.InRwStep.Reference
public import Idealize.ShloMosaic.Adequacy
public import Idealize.ShloMosaic.Init
public import Idealize.ShloMosaic.Lib.Claim

@[expose] public section

set_option maxRecDepth 16384

noncomputable section

namespace Cert.InRwStepValue

open Idealize.ShloMosaic Idealize.ShloMosaic.TcCoe Idealize.SL.Sem

theorem quiescent_bits : Cert.quiescent_InRwStep := fun m g _ => Cert.InRwStep.Gen.frame m g

theorem quiescent_ideal : Cert.quiescent_InRwStepIdeal := fun m g _ => Cert.InRwStepIdeal.Gen.frame m g

theorem quiescent_reference : Cert.quiescent_InRwStepReferenceIdeal := fun m g _ =>
  (θ_run _ _ _).mono (fun r h => ⟨fun c => (h c).2, sem_eq_zero_of_no_sems (by decide) r.2⟩) (Cert.InRwStepReferenceIdeal.Value.run m g)

theorem algebraic : Cert.algebraic_InRwStepIdeal_InRwStepReferenceIdeal := fun m g m' g' _ hagree =>
  ⟨fun c => (Cert.InRwStepIdeal.Gen.dats m 0 c).arrAt 5 Cert.InRwStepIdeal.cfg0.N,
   Cert.InRwStepIdeal.Value.run_blocks m g,
   (θ_run _ _ _).mono (fun _ h c => by
      obtain ⟨a0, a1, a2, a3⟩ := hagree c
      obtain ⟨h0, hargs⟩ := h c
      refine ⟨h0.trans ?_, hargs⟩
      refine (Cert.InRwStepReferenceIdeal.Read.val_main_v46_eq m' c).trans ?_
      rw [a0, a1, a2, a3]
      refine Eq.trans (funext fun y => ?_) (final m c).symm
      have hy : y = ix3 0 (y 1) (y 2) := by funext z; fin_cases z <;> first | rfl | exact Subsingleton.elim (α := Fin 1) _ _
      rw [hy]
      exact ref_res _ _ _ _ _ _)
     (Cert.InRwStepReferenceIdeal.Value.run m' g')⟩

end Cert.InRwStepValue
end
-- ==== Proof.Ssd.Value.lean ====
/-
  The chunk scan of the Mamba-2 mixer for the prompt batch, index by index, in its arguments. A chunk is 128 rows of one sequence; the state of
  the eight heads passes from a chunk to the next.
-/
module

public import proofs.«01_k».proof.Proof.Gen.SsdIdeal.Value
public import Idealize.ShloMosaic.Lib.Pipeline.ValueKit
public import Idealize.ShloMosaic.Lib.Pipeline.ReadBack
public import Idealize.ShloMosaic.Lib.Claim

@[expose] public section

set_option maxRecDepth 16384

noncomputable section

namespace Cert.SsdValue

open Idealize.ShloMosaic Idealize.ShloMosaic.TcCoe Idealize.SL.Sem
open Cert.SsdIdeal Cert.SsdIdeal.Gen

variable (m : (ℓ : Loc nD τ sig) → Buf (Elt Ideal) ℓ) (ρ : Dev nD → PrngReg)

/-! ## One chunk of one head -/

/-- The running sum of a chunk's log decays. -/
def cum (a : Fin 128 → EReal) (t : Fin 128) : EReal := ∑ j : Fin 128, if j ≤ t then a j else 0

/-- Row `t` of a head's output lane: the rows of the chunk so far, and the state the chunk was entered with. `A` the running log decay, `B` and `C`
    the group's rows, `X` the lane's inputs, `S` the lane's row of the entering state. -/
def yAt (A : Fin 128 → EReal) (B C : Fin 128 → Fin 64 → EReal) (X : Fin 128 → EReal) (S : Fin 64 → EReal) (t : Fin 128) : EReal :=
  (∑ s : Fin 128, (∑ n : Fin 64, C t n * B s n) * Ideal.exp (if s ≤ t then A t - A s else Ideal.ofBits .f32 0xFF800000#32) * X s) + Ideal.exp (A t) * ∑ n : Fin 64, C t n * S n

/-- An entry of the state after the chunk: the entering one decayed, and the chunk's rows. -/
def sAt (A : Fin 128 → EReal) (B : Fin 128 → EReal) (X : Fin 128 → EReal) (S : EReal) : EReal :=
  Ideal.exp (A 127) * S + ∑ s : Fin 128, X s * Ideal.exp (A 127 - A s) * B s

/-- Lane `p` of head `h`. -/
def lane (h : Fin 8) (p : Fin 64) : Fin 512 := ⟨64 * h + p, by omega⟩
/-- The place of head `h` among the decays' lanes. -/
def slot (h : Fin 8) : Fin 128 := ⟨h, by omega⟩
/-- The lane of B and of C that holds entry `n` for head `h`: heads 0 to 3 share the first group, 4 to 7 the second. -/
def laneB (h : Fin 8) (n : Fin 64) : Fin 256 := ⟨64 * (h / 4) + n, by omega⟩
def laneC (h : Fin 8) (n : Fin 64) : Fin 256 := ⟨128 + 64 * (h / 4) + n, by omega⟩

theorem mask (t s : Fin 128) (u v : EReal) : Scalar.select (k0_pay6 (ix2 t s)) u v = if s ≤ t then u else v := by
  have e : k0_pay6 (ix2 t s) = IntOp.cmpi CmpIPredicate.sge (BitVec.ofNat 32 t) (BitVec.ofNat 32 s) := by pointwise [k0_pay6]
  rw [e]
  have e' : IntOp.cmpi CmpIPredicate.sge (BitVec.ofNat 32 t) (BitVec.ofNat 32 s) = if s ≤ t then 1#1 else 0#1 :=
    (by decide +kernel : ∀ t s : Fin 128, IntOp.cmpi CmpIPredicate.sge (BitVec.ofNat 32 t) (BitVec.ofNat 32 s) = if s ≤ t then 1#1 else 0#1) t s
  rw [e']
  by_cases h : s ≤ t
  · rw [if_pos h, if_pos h]; rfl
  · rw [if_neg h, if_neg h]; rfl

/-- Stores that together cover an index, over earlier ones: what lies beneath does not show. -/
theorem canon_over {S : Shape} {e : EltTy} (L' : List (View.Piece (Elt Ideal) S e)) : ∀ (L : List (View.Piece (Elt Ideal) S e)) (y : S.Idx),
    (∃ p ∈ L, y ∈ p.1.set) → View.canon (L ++ L') y = View.canon L y
  | [], _, hy => by obtain ⟨p, hp, _⟩ := hy; simp at hp
  | p :: L, y, hy => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      refine canon_over L' L y ?_
      obtain ⟨q, hq, hy⟩ := hy
      rcases List.mem_cons.mp hq with rfl | hq
      · exact absurd hy hm
      · exact ⟨q, hq, hy⟩

theorem whole_at (v : Vec Ideal S8x64x64 .f32) (h : Fin 8) (p n : Fin 64) : k0_pay4 v (ix4 0 h p n) = v (ix3 h p n) := by
  pointwise [k0_pay4]

theorem entered_at (v : Vec Ideal S1x8x64x64 .f32) (h : Fin 8) (p n : Fin 64) : k0_pay5 v (ix3 h p n) = v (ix4 0 h p n) := by
  pointwise [k0_pay5]

theorem cum_at (a : Vec Ideal S1x128x128 .f32) (t l : Fin 128) : k0_pay7 a (ix2 t l) = cum (fun j => a (ix3 0 j l)) t := by
  pointwise [k0_pay7]
  simp only [mask, cum]

section
variable (a : Vec Ideal S1x128x128 .f32) (x : Vec Ideal S1x128x512 .f32) (bc : Vec Ideal S1x128x256 .f32) (st : Vec Ideal S8x64x64 .f32)

/-- A row of the block's output, in the block's inputs and the entering state. -/
def rowY (r : Fin 128) (h : Fin 8) (p : Fin 64) : EReal :=
  yAt (fun s => k0_pay7 a (ix2 s (slot h))) (fun s n => bc (ix3 0 s (laneB h n))) (fun s n => bc (ix3 0 s (laneC h n)))
    (fun s => x (ix3 0 s (lane h p))) (fun n => st (ix3 h p n)) r

/-- An entry of the state the block leaves. -/
def rowS (h : Fin 8) (p n : Fin 64) : EReal :=
  sAt (fun s => k0_pay7 a (ix2 s (slot h))) (fun s => bc (ix3 0 s (laneB h n))) (fun s => x (ix3 0 s (lane h p))) (st (ix3 h p n))
end

/-- The rows a grid point writes: at a sequence's first chunk, at one between, at the last. -/
theorem out_at (c : Dev nD) (t : Fin cfg0.N) (r : Fin 128) (h : Fin 8) (p : Fin 64) :
    (∀ (h0 : t.val % 16 = 0) (h1 : ¬t.val % 16 = 15),
      out0_A_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0
        (Memref.isWhole_whole _)
        ((hcond0_0 t).mpr h0) (fun h => h1 ((hcond0_1 t).mp h)) (iblk m c 0 t) (iblk m c 1 t) (iblk m c 2 t) (iblk m c 3 t) (ix3 0 r (lane h p))
        = rowY (iblk m c 0 t) (iblk m c 1 t) (iblk m c 2 t) (k0_pay5 (iblk m c 3 t)) r h p)
    ∧ (∀ (h0 : ¬t.val % 16 = 0) (h1 : ¬t.val % 16 = 15) (st : Vec Ideal S8x64x64 .f32),
      out0_B_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0
        (Memref.isWhole_whole _)
        (fun h => h0 ((hcond0_0 t).mp h)) (fun h => h1 ((hcond0_1 t).mp h)) (iblk m c 0 t) (iblk m c 1 t) (iblk m c 2 t) (iblk m c 3 t) st (ix3 0 r (lane h p))
        = rowY (iblk m c 0 t) (iblk m c 1 t) (iblk m c 2 t) st r h p)
    ∧ (∀ (h0 : ¬t.val % 16 = 0) (h1 : t.val % 16 = 15) (st : Vec Ideal S8x64x64 .f32),
      out0_C_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0
        (Memref.isWhole_whole _)
        (fun h => h0 ((hcond0_0 t).mp h)) ((hcond0_1 t).mpr h1) (iblk m c 0 t) (iblk m c 1 t) (iblk m c 2 t) (iblk m c 3 t) st (ix3 0 r (lane h p))
        = rowY (iblk m c 0 t) (iblk m c 1 t) (iblk m c 2 t) st r h p) := by
  refine ⟨fun h0 h1 => ?_, fun h0 h1 st => ?_, fun h0 h1 st => ?_⟩
  all_goals
    generalize iblk m c 0 t = a
    generalize iblk m c 1 t = x
    generalize iblk m c 2 t = bc
    generalize iblk m c 3 t = s0
    frame_open
    simp (disch := decide) only [↓ View.readCov_skip, ↓ View.readCov_cons_toLoadRect, ↓ View.readCov_fill]
    frame_out
    try simp only [read_unread_whole]
    canon_tiles z h
  all_goals
    obtain ⟨o, r', q, rfl⟩ : ∃ o r' q, z = (ix3 o r' q : S1x128x64.Idx) := ⟨z 0, z 1, z 2, by funext w; fin_cases w <;> rfl⟩
    obtain rfl : r = r' := Fin.ext h1
    first | have h2' : 64 * (h : ℕ) + p = _ + (q : ℕ) := h2 | have h2' : 64 * (h : ℕ) + p = q := h2
    pointwise [k0_pay1, k0_pay2, k0_pay3, k0_pay4, k0_pay5, k0_pay8, k0_pay9, k0_pay10, k0_pay11, k0_pay12, k0_pay13, k0_pay14, k0_pay15, k0_pay16,
      k0_pay17, k0_pay18, k0_pay19, k0_pay20, k0_pay21, k0_pay22, k0_pay23, k0_pay24, k0_pay25, k0_pay26, k0_pay27, k0_pay28, k0_pay29, k0_pay30,
      k0_pay31, k0_pay32, k0_pay33, k0_pay34, k0_pay35, k0_pay36, k0_pay37, k0_pay38, k0_pay39, k0_pay40, k0_pay41, k0_pay42, k0_pay43, k0_pay44,
      k0_pay45, k0_pay46, k0_pay47, k0_pay48, k0_pay49, k0_pay50, k0_pay51, k0_pay52, k0_pay53, k0_pay54, k0_pay55, k0_pay56, k0_pay57, k0_pay58,
      k0_pay59, k0_pay60, k0_pay61, k0_pay62, k0_pay63, k0_pay64, k0_pay65, k0_pay66, k0_pay67, k0_pay68, k0_pay69, k0_pay70, k0_pay71, k0_pay72,
      k0_pay73, k0_pay74, k0_pay75, k0_pay76, k0_pay77, k0_pay78, k0_pay79, k0_pay80, k0_pay81, k0_pay82, k0_pay83, k0_pay84, k0_pay85, k0_pay86,
      k0_pay87, k0_pay88, k0_pay89, k0_pay90, k0_pay91, k0_pay92, k0_pay93, k0_pay94, k0_pay95, k0_pay96, k0_pay97, k0_pay98, k0_pay99, k0_pay100,
      k0_pay101, k0_pay102, k0_pay103, k0_pay104, k0_pay105, k0_pay106, k0_pay107, k0_pay108, k0_pay109, k0_pay110, k0_pay111, k0_pay112,
      k0_pay113, k0_pay114, rowY, yAt]
    simp only [mask]
    blk_point [slot, lane, laneB, laneC]

/-- The state a grid point leaves, in the three cases, and the state array's block at the last chunk. -/
theorem state_at (c : Dev nD) (t : Fin cfg0.N) (h : Fin 8) (p n : Fin 64) :
    (∀ (h0 : t.val % 16 = 0) (h1 : ¬t.val % 16 = 15),
      sout0_A_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0
        (Memref.isWhole_whole _)
        ((hcond0_0 t).mpr h0) (fun h => h1 ((hcond0_1 t).mp h)) (iblk m c 0 t) (iblk m c 1 t) (iblk m c 2 t) (iblk m c 3 t) (ix3 h p n)
        = rowS (iblk m c 0 t) (iblk m c 1 t) (iblk m c 2 t) (k0_pay5 (iblk m c 3 t)) h p n)
    ∧ (∀ (h0 : ¬t.val % 16 = 0) (h1 : ¬t.val % 16 = 15) (st : Vec Ideal S8x64x64 .f32),
      sout0_B_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0
        (Memref.isWhole_whole _)
        (fun h => h0 ((hcond0_0 t).mp h)) (fun h => h1 ((hcond0_1 t).mp h)) (iblk m c 0 t) (iblk m c 1 t) (iblk m c 2 t) (iblk m c 3 t) st (ix3 h p n)
        = rowS (iblk m c 0 t) (iblk m c 1 t) (iblk m c 2 t) st h p n)
    ∧ (∀ (h0 : ¬t.val % 16 = 0) (h1 : t.val % 16 = 15) (st : Vec Ideal S8x64x64 .f32),
      sout0_C_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0
        (Memref.isWhole_whole _)
        (fun h => h0 ((hcond0_0 t).mp h)) ((hcond0_1 t).mpr h1) (iblk m c 0 t) (iblk m c 1 t) (iblk m c 2 t) (iblk m c 3 t) st (ix3 h p n)
        = rowS (iblk m c 0 t) (iblk m c 1 t) (iblk m c 2 t) st h p n)
    ∧ (∀ (h0 : ¬t.val % 16 = 0) (h1 : t.val % 16 = 15) (st : Vec Ideal S8x64x64 .f32),
      out0_C_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0
        (Memref.isWhole_whole _)
        (fun h => h0 ((hcond0_0 t).mp h)) ((hcond0_1 t).mpr h1) (iblk m c 0 t) (iblk m c 1 t) (iblk m c 2 t) (iblk m c 3 t) st (ix4 0 h p n)
        = rowS (iblk m c 0 t) (iblk m c 1 t) (iblk m c 2 t) st h p n) := by
  refine ⟨fun h0 h1 => ?first, fun h0 h1 st => ?_, fun h0 h1 st => ?_, fun h0 h1 st => ?last⟩
  all_goals
    generalize iblk m c 0 t = a
    generalize iblk m c 1 t = x
    generalize iblk m c 2 t = bc
    generalize iblk m c 3 t = s0
    frame_open
    simp (disch := decide) only [↓ View.readCov_skip, ↓ View.readCov_cons_toLoadRect, ↓ View.readCov_fill]
    frame_out
    try simp only [read_unread_whole]
  case' first => refine (canon_over [_] [_, _, _, _, _, _, _, _] _ (View.cover_of_tiledL _ ![1, 64, 64] (by sl_kernel_rfl) _)).trans ?_
  case' last =>
    rw [View.readCov_eq_canon']
    refine (whole_at _ h p n).trans ?_
    have e : (Rect.unit (s := S8x64x64) ![0, 0, 0] ![8, 64, 64] inb_S8x64x64_S8x64x64_0_0_0).idx (ix3 h p n) = (ix3 h p n : S8x64x64.Idx) := by
      funext q; apply Fin.ext
      refine (Rect.idx_unit_val _ _ _ _ q).trans ?_
      fin_cases q <;> exact Nat.zero_add _
    refine (congrArg (View.canon _) e).trans ?_
  all_goals canon_tiles z h
  all_goals
    obtain ⟨o, r', q, rfl⟩ : ∃ o r' q, z = (ix3 o r' q : S1x64x64.Idx) := ⟨z 0, z 1, z 2, by funext w; fin_cases w <;> rfl⟩
    obtain rfl : p = r' := Fin.ext h1
    obtain rfl : n = q := Fin.ext h2
    first | have h0' : (h : ℕ) = _ + (o : ℕ) := h0 | have h0' : (h : ℕ) = o := h0
    pointwise [k0_pay1, k0_pay2, k0_pay3, k0_pay4, k0_pay5, k0_pay8, k0_pay9, k0_pay10, k0_pay11, k0_pay12, k0_pay13, k0_pay14, k0_pay15, k0_pay16,
      k0_pay17, k0_pay18, k0_pay19, k0_pay20, k0_pay21, k0_pay22, k0_pay23, k0_pay24, k0_pay25, k0_pay26, k0_pay27, k0_pay28, k0_pay29, k0_pay30,
      k0_pay31, k0_pay32, k0_pay33, k0_pay34, k0_pay35, k0_pay36, k0_pay37, k0_pay38, k0_pay39, k0_pay40, k0_pay41, k0_pay42, k0_pay43, k0_pay44,
      k0_pay45, k0_pay46, k0_pay47, k0_pay48, k0_pay49, k0_pay50, k0_pay51, k0_pay52, k0_pay53, k0_pay54, k0_pay55, k0_pay56, k0_pay57, k0_pay58,
      k0_pay59, k0_pay60, k0_pay61, k0_pay62, k0_pay63, k0_pay64, k0_pay65, k0_pay66, k0_pay67, k0_pay68, k0_pay69, k0_pay70, k0_pay71, k0_pay72,
      k0_pay73, k0_pay74, k0_pay75, k0_pay76, k0_pay77, k0_pay78, k0_pay79, k0_pay80, k0_pay81, k0_pay82, k0_pay83, k0_pay84, k0_pay85, k0_pay86,
      k0_pay87, k0_pay88, k0_pay89, k0_pay90, k0_pay91, k0_pay92, k0_pay93, k0_pay94, k0_pay95, k0_pay96, k0_pay97, k0_pay98, k0_pay99, k0_pay100,
      k0_pay101, k0_pay102, k0_pay103, k0_pay104, k0_pay105, k0_pay106, k0_pay107, k0_pay108, k0_pay109, k0_pay110, k0_pay111, k0_pay112,
      k0_pay113, k0_pay114, rowS, sAt]
    blk_point [slot, lane, laneB]

end Cert.SsdValue
end
-- ==== Proof.Ssd.Fold.lean ====
/-
  The chunk scan's two results: the state from chunk to chunk, and the rows and the state as functions of the four arguments.
-/
module

public import proofs.«01_k».proof.Proof.Ssd.Value

@[expose] public section

set_option maxRecDepth 16384

noncomputable section

namespace Cert.SsdValue

open Idealize.ShloMosaic Idealize.ShloMosaic.TcCoe Idealize.SL.Sem
open Cert.SsdIdeal Cert.SsdIdeal.Gen

variable (m : (ℓ : Loc nD τ sig) → Buf (Elt Ideal) ℓ)

/-! ## The results, in the arguments -/

/-- Row `j` of chunk `k`. -/
def rowOf (k : ℕ) (j : Fin 128) : Fin 2048 := ⟨(128 * k + j) % 2048, by omega⟩

section
variable (a : Vec Ideal S8x2048x128 .f32) (x : Vec Ideal S8x2048x512 .f32) (bc : Vec Ideal S8x2048x256 .f32) (s0 : Vec Ideal S8x8x64x64 .f32)

/-- The running log decay of head `h` in chunk `k` of sequence `b`. -/
def decay (b : Fin 8) (k : ℕ) (h : Fin 8) (t : Fin 128) : EReal := cum (fun j => a (ix3 b (rowOf k j) (slot h))) t

/-- The state sequence `b` enters chunk `k` with. -/
def stateAt (b : Fin 8) : ℕ → Fin 8 → Fin 64 → Fin 64 → EReal
  | 0, h, p, n => s0 (ix4 b h p n)
  | k + 1, h, p, n => sAt (decay a b k h) (fun s => bc (ix3 b (rowOf k s) (laneB h n))) (fun s => x (ix3 b (rowOf k s) (lane h p))) (stateAt b k h p n)

/-- Row `t` of chunk `k` of sequence `b`, lane `p` of head `h`. -/
def yRow (b : Fin 8) (k : ℕ) (t : Fin 128) (h : Fin 8) (p : Fin 64) : EReal :=
  yAt (decay a b k h) (fun s n => bc (ix3 b (rowOf k s) (laneB h n))) (fun s n => bc (ix3 b (rowOf k s) (laneC h n)))
    (fun s => x (ix3 b (rowOf k s) (lane h p))) (fun n => stateAt a x bc s0 b k h p n) t
end

/-! ## The blocks -/

/-- The sequence of grid point `t`. -/
def seq (t : ℕ) : Fin 8 := ⟨t / 16 % 8, by omega⟩

theorem idx : ∀ t : Fin cfg0.N, win0_0.index t = ![t.val / 16, t.val % 16, 0] ∧ win0_1.index t = ![t.val / 16, t.val % 16, 0]
    ∧ win0_2.index t = ![t.val / 16, t.val % 16, 0] ∧ win0_3.index t = ![t.val / 16, 0, 0, 0] ∧ win0_4.index t = ![t.val / 16, t.val % 16, 0]
    ∧ win0_5.index t = ![t.val / 16, 0, 0, 0] :=
  (by decide +kernel : ∀ t : Fin grid0.N, _)

section
variable (c : Dev nD) (t : Fin cfg0.N)

theorem read_a (r l : Fin 128) : iblk m c 0 t (ix3 0 r l) = m ((c : Thread nD τ).loc main_arg0) (ix3 (seq t) (rowOf (t.val % 16) r) l) := by
  have ht : t.val < 128 := t.isLt.trans_eq N_0
  show V m c main_arg0 (((cfg0.win 0).blk t).view.emb (ix3 0 r l)) = _
  have e : ((cfg0.win 0).blk t).view.emb (ix3 0 r l) = (ix3 (seq t) (rowOf (t.val % 16) r) l : S8x2048x128.Idx) := by blk_ext [idx t, seq, rowOf]
  rw [V_main_arg0, e]
theorem read_x (r : Fin 128) (l : Fin 512) : iblk m c 1 t (ix3 0 r l) = m ((c : Thread nD τ).loc main_arg1) (ix3 (seq t) (rowOf (t.val % 16) r) l) := by
  have ht : t.val < 128 := t.isLt.trans_eq N_0
  show V m c main_arg1 (((cfg0.win 1).blk t).view.emb (ix3 0 r l)) = _
  have e : ((cfg0.win 1).blk t).view.emb (ix3 0 r l) = (ix3 (seq t) (rowOf (t.val % 16) r) l : S8x2048x512.Idx) := by blk_ext [idx t, seq, rowOf]
  rw [V_main_arg1, e]
theorem read_bc (r : Fin 128) (l : Fin 256) : iblk m c 2 t (ix3 0 r l) = m ((c : Thread nD τ).loc main_arg2) (ix3 (seq t) (rowOf (t.val % 16) r) l) := by
  have ht : t.val < 128 := t.isLt.trans_eq N_0
  show V m c main_arg2 (((cfg0.win 2).blk t).view.emb (ix3 0 r l)) = _
  have e : ((cfg0.win 2).blk t).view.emb (ix3 0 r l) = (ix3 (seq t) (rowOf (t.val % 16) r) l : S8x2048x256.Idx) := by blk_ext [idx t, seq, rowOf]
  rw [V_main_arg2, e]
theorem read_s (h : Fin 8) (p n : Fin 64) : iblk m c 3 t (ix4 0 h p n) = m ((c : Thread nD τ).loc main_arg3) (ix4 (seq t) h p n) := by
  have ht : t.val < 128 := t.isLt.trans_eq N_0
  show V m c main_arg3 (((cfg0.win 3).blk t).view.emb (ix4 0 h p n)) = _
  have e : ((cfg0.win 3).blk t).view.emb (ix4 0 h p n) = (ix4 (seq t) h p n : S8x8x64x64.Idx) := by blk_ext [idx t, seq]
  rw [V_main_arg3, e]

/-- The running log decay the block holds is the array's. -/
theorem decay_eq (h : Fin 8) : (fun s => k0_pay7 (iblk m c 0 t) (ix2 s (slot h))) = decay (m ((c : Thread nD τ).loc main_arg0)) (seq t) (t.val % 16) h :=
  funext fun s => (cum_at _ _ _).trans (congrArg (fun f => cum f s) (funext fun j => read_a m c t j (slot h)))

theorem rowS_eq (st : Vec Ideal S8x64x64 .f32) (h : Fin 8) (p n : Fin 64)
    (hs : st (ix3 h p n) = stateAt (m ((c : Thread nD τ).loc main_arg0)) (m ((c : Thread nD τ).loc main_arg1)) (m ((c : Thread nD τ).loc main_arg2))
      (m ((c : Thread nD τ).loc main_arg3)) (seq t) (t.val % 16) h p n) :
    rowS (iblk m c 0 t) (iblk m c 1 t) (iblk m c 2 t) st h p n = stateAt (m ((c : Thread nD τ).loc main_arg0)) (m ((c : Thread nD τ).loc main_arg1))
      (m ((c : Thread nD τ).loc main_arg2)) (m ((c : Thread nD τ).loc main_arg3)) (seq t) (t.val % 16 + 1) h p n := by
  unfold rowS
  rw [decay_eq, hs, stateAt, funext fun s => read_bc m c t s (laneB h n), funext fun s => read_x m c t s (lane h p)]

theorem rowY_eq (st : Vec Ideal S8x64x64 .f32) (r : Fin 128) (h : Fin 8) (p : Fin 64)
    (hs : ∀ n, st (ix3 h p n) = stateAt (m ((c : Thread nD τ).loc main_arg0)) (m ((c : Thread nD τ).loc main_arg1)) (m ((c : Thread nD τ).loc main_arg2))
      (m ((c : Thread nD τ).loc main_arg3)) (seq t) (t.val % 16) h p n) :
    rowY (iblk m c 0 t) (iblk m c 1 t) (iblk m c 2 t) st r h p = yRow (m ((c : Thread nD τ).loc main_arg0)) (m ((c : Thread nD τ).loc main_arg1))
      (m ((c : Thread nD τ).loc main_arg2)) (m ((c : Thread nD τ).loc main_arg3)) (seq t) (t.val % 16) r h p := by
  unfold rowY yRow
  rw [decay_eq, funext hs, funext fun s => funext fun n => read_bc m c t s (laneB h n), funext fun s => funext fun n => read_bc m c t s (laneC h n),
    funext fun s => read_x m c t s (lane h p)]
end

/-! ## The grid points in order -/

/-- The state the sequence of grid point `t` enters chunk `k` with, and a row of its chunk, in what the arguments hold. -/
abbrev stOf (c : Dev nD) (t k : ℕ) (h : Fin 8) (p n : Fin 64) : EReal :=
  stateAt (m ((c : Thread nD τ).loc main_arg0)) (m ((c : Thread nD τ).loc main_arg1)) (m ((c : Thread nD τ).loc main_arg2))
    (m ((c : Thread nD τ).loc main_arg3)) (seq t) k h p n
abbrev rowAt (c : Dev nD) (t : ℕ) (r : Fin 128) (h : Fin 8) (p : Fin 64) : EReal :=
  yRow (m ((c : Thread nD τ).loc main_arg0)) (m ((c : Thread nD τ).loc main_arg1)) (m ((c : Thread nD τ).loc main_arg2))
    (m ((c : Thread nD τ).loc main_arg3)) (seq t) (t % 16) r h p

section
variable (c : Dev nD) (t : Fin cfg0.N) (h : Fin 8) (p : Fin 64)

theorem outs_first (h0 : t.val % 16 = 0) (h1 : ¬t.val % 16 = 15) :
    (∀ n, (outsAt0 m c t.val t.isLt).2.2 (ix3 h p n) = stOf m c t (t.val % 16 + 1) h p n)
    ∧ ∀ r, (outsAt0 m c t.val t.isLt).1 (ix3 0 r (lane h p)) = rowAt m c t r h p := by
  have hs : ∀ n, k0_pay5 (iblk m c 3 t) (ix3 h p n) = stOf m c t (t.val % 16) h p n := fun n => by
    rw [h0]; exact (entered_at _ h p n).trans (read_s m c t h p n)
  rw [outsAt0_A m c t h0 h1]
  dsimp only
  exact ⟨fun n => ((state_at m c t h p n).1 h0 h1).trans (rowS_eq m c t _ h p n (hs n)),
    fun r => ((out_at m c t r h p).1 h0 h1).trans (rowY_eq m c t _ r h p hs)⟩

theorem outs_later (h0 : ¬t.val % 16 = 0)
    (hs : ∀ n, (outsAt0 m c (t.val - 1) (Nat.lt_of_le_of_lt (Nat.sub_le _ _) t.isLt)).2.2 (ix3 h p n) = stOf m c t (t.val % 16) h p n) :
    (∀ n, (outsAt0 m c t.val t.isLt).2.2 (ix3 h p n) = stOf m c t (t.val % 16 + 1) h p n)
    ∧ (∀ r, (outsAt0 m c t.val t.isLt).1 (ix3 0 r (lane h p)) = rowAt m c t r h p)
    ∧ (t.val % 16 = 15 → ∀ n, (outsAt0 m c t.val t.isLt).2.1 (ix4 0 h p n) = stOf m c t 16 h p n) := by
  by_cases h1 : t.val % 16 = 15
  · rw [outsAt0_C m c t h0 h1]
    dsimp only
    refine ⟨fun n => ((state_at m c t h p n).2.2.1 h0 h1 _).trans (rowS_eq m c t _ h p n (hs n)),
      fun r => ((out_at m c t r h p).2.2 h0 h1 _).trans (rowY_eq m c t _ r h p hs), fun _ n => ?_⟩
    refine ((state_at m c t h p n).2.2.2 h0 h1 _).trans ((rowS_eq m c t _ h p n (hs n)).trans ?_)
    rw [h1]
  · rw [outsAt0_B m c t h0 h1]
    dsimp only
    exact ⟨fun n => ((state_at m c t h p n).2.1 h0 h1 _).trans (rowS_eq m c t _ h p n (hs n)),
      fun r => ((out_at m c t r h p).2.1 h0 h1 _).trans (rowY_eq m c t _ r h p hs), fun e => absurd e h1⟩
end

/-- What grid point `t` leaves: the state its sequence enters the next chunk with, and the rows of its chunk; at a sequence's last chunk, the state array's block. -/
theorem outs (c : Dev nD) : ∀ (t : ℕ) (ht : t < cfg0.N) (h : Fin 8) (p : Fin 64),
    (∀ n, (outsAt0 m c t ht).2.2 (ix3 h p n) = stOf m c t (t % 16 + 1) h p n)
    ∧ (∀ r, (outsAt0 m c t ht).1 (ix3 0 r (lane h p)) = rowAt m c t r h p)
    ∧ (t % 16 = 15 → ∀ n, (outsAt0 m c t ht).2.1 (ix4 0 h p n) = stOf m c t 16 h p n) := by
  intro t
  induction t using Nat.strongRecOn with
  | _ t ih =>
  intro ht h p
  by_cases h0 : t % 16 = 0
  · have h1 : ¬t % 16 = 15 := by omega
    obtain ⟨a, b⟩ := outs_first m c ⟨t, ht⟩ h p h0 h1
    exact ⟨a, b, fun e => absurd e h1⟩
  · refine outs_later m c ⟨t, ht⟩ h p h0 fun n => ?_
    refine ((ih (t - 1) (by omega) _ h p).1 n).trans ?_
    have e1 : (t - 1) % 16 + 1 = t % 16 := by omega
    have e2 : seq (t - 1) = seq t := Fin.ext (by show (t - 1) / 16 % 8 = t / 16 % 8; omega)
    show stateAt _ _ _ _ (seq (t - 1)) ((t - 1) % 16 + 1) h p n = stateAt _ _ _ _ (seq t) (t % 16) h p n
    rw [e1, e2]

/-- Every lane is some head's. -/
theorem lane_split (l : Fin 512) : ∃ h p, l = lane h p := ⟨⟨l / 64, by omega⟩, ⟨l % 64, by omega⟩, Fin.ext (by show l.val = 64 * (l.val / 64) + l.val % 64; omega)⟩

/-- The rows, as an array. -/
def yArr (a : Vec Ideal S8x2048x128 .f32) (x : Vec Ideal S8x2048x512 .f32) (bc : Vec Ideal S8x2048x256 .f32) (s0 : Vec Ideal S8x8x64x64 .f32) : Vec Ideal S8x2048x512 .f32 :=
  fun y : S8x2048x512.Idx => yRow a x bc s0 (y 0) ((y 1).val / 128) ⟨(y 1).val % 128, Nat.mod_lt _ (by decide)⟩
    ⟨(y 2).val / 64, Nat.div_lt_of_lt_mul (y 2).isLt⟩ ⟨(y 2).val % 64, Nat.mod_lt _ (by decide)⟩

/-- The state after the last chunk, as an array. -/
def sArr (a : Vec Ideal S8x2048x128 .f32) (x : Vec Ideal S8x2048x512 .f32) (bc : Vec Ideal S8x2048x256 .f32) (s0 : Vec Ideal S8x8x64x64 .f32) : Vec Ideal S8x8x64x64 .f32 :=
  fun y : S8x8x64x64.Idx => stateAt a x bc s0 (y 0) 16 (y 1) (y 2) (y 3)

theorem yArr_at (a : Vec Ideal S8x2048x128 .f32) (x : Vec Ideal S8x2048x512 .f32) (bc : Vec Ideal S8x2048x256 .f32) (s0 : Vec Ideal S8x8x64x64 .f32)
    (b : Fin 8) (k : ℕ) (hk : k < 16) (t : Fin 128) (h : Fin 8) (p : Fin 64) :
    yArr a x bc s0 (ix3 b (rowOf k t) (lane h p)) = yRow a x bc s0 b k t h p := by
  have e1 : (rowOf k t).val / 128 = k := by show (128 * k + t.val) % 2048 / 128 = k; omega
  have e2 : (rowOf k t).val % 128 = t.val := by show (128 * k + t.val) % 2048 % 128 = t.val; omega
  have e3 : (lane h p).val / 64 = h.val := by show (64 * h.val + p.val) / 64 = h.val; omega
  have e4 : (lane h p).val % 64 = p.val := by show (64 * h.val + p.val) % 64 = p.val; omega
  show yRow a x bc s0 b ((rowOf k t).val / 128) ⟨(rowOf k t).val % 128, _⟩ ⟨(lane h p).val / 64, _⟩ ⟨(lane h p).val % 64, _⟩ = _
  congr 1
  · exact Fin.ext e2
  · exact Fin.ext e3
  · exact Fin.ext e4

theorem final_y (c : Dev nD) : (dats m 0 c).arrAt 4 (cfgs 0).N = yArr (m ((c : Thread nD τ).loc main_arg0)) (m ((c : Thread nD τ).loc main_arg1))
    (m ((c : Thread nD τ).loc main_arg2)) (m ((c : Thread nD τ).loc main_arg3)) := by
  refine (dats m 0 c).arrAt_eq_of_covers 4 _ (by decide +kernel) fun t _ y => ?_
  have ht : t.val < 128 := t.isLt.trans_eq N_0
  obtain ⟨o, r, l, rfl⟩ : ∃ o r l, y = (ix3 o r l : S1x128x512.Idx) := ⟨y 0, y 1, y 2, by funext q; fin_cases q <;> rfl⟩
  obtain rfl : o = 0 := Subsingleton.elim _ _
  obtain ⟨h, p, rfl⟩ := lane_split l
  have e : ((cfg0.win 4).blk t).view.emb (ix3 0 r (lane h p)) = (ix3 (seq t) (rowOf (t.val % 16) r) (lane h p) : S8x2048x512.Idx) := by
    blk_ext [idx t, seq, rowOf]
  rw [e, after0_4]
  have e' : (cfg0.win 4).xinj (cfg0.grid.coords t) (ix3 0 r (lane h p)) = (ix3 0 r (lane h p) : S1x128x512.Idx) := by
    funext z; fin_cases z <;> rfl
  rw [cast_eq]
  refine (congrArg (outsAt0 m c t.val t.isLt).1 e').trans ?_
  exact ((outs m c t.val t.isLt h p).2.1 r).trans (yArr_at _ _ _ _ _ _ (by omega) _ _ _).symm

theorem final_s (c : Dev nD) : (dats m 0 c).arrAt 5 (cfgs 0).N = sArr (m ((c : Thread nD τ).loc main_arg0)) (m ((c : Thread nD τ).loc main_arg1))
    (m ((c : Thread nD τ).loc main_arg2)) (m ((c : Thread nD τ).loc main_arg3)) := by
  refine (dats m 0 c).arrAt_eq_of_covers 5 _ (by decide +kernel) fun t hf y => ?_
  have ht : t.val < 128 := t.isLt.trans_eq N_0
  obtain ⟨o, h, p, n, rfl⟩ : ∃ o h p n, y = (ix4 o h p n : S1x8x64x64.Idx) := ⟨y 0, y 1, y 2, y 3, by funext q; fin_cases q <;> rfl⟩
  obtain rfl : o = 0 := Subsingleton.elim _ _
  have e : ((cfg0.win 5).blk t).view.emb (ix4 0 h p n) = (ix4 (seq t) h p n : S8x8x64x64.Idx) := by blk_ext [idx t, seq]
  rw [e, after0_5]
  have e' : (cfg0.win 5).xinj (cfg0.grid.coords t) (ix4 0 h p n) = (ix4 0 h p n : S1x8x64x64.Idx) := by
    funext z; fin_cases z <;> rfl
  rw [cast_eq]
  refine (congrArg (outsAt0 m c t.val t.isLt).2.1 e').trans ?_
  exact (outs m c t.val t.isLt h p).2.2 ((flush0_5 t).mp hf) n

end Cert.SsdValue
end
-- ==== Proof.Ssd.Reference.lean ====
/-
  The reference's chunk scan, index by index: the running sums, the rows of a chunk, what a chunk adds to the state.
-/
module

public import proofs.«01_k».proof.Proof.Ssd.Fold
public import proofs.«01_k».proof.Proof.Gen.SsdReferenceIdeal.Run
public import proofs.«01_k».proof.Proof.Gen.SsdReferenceIdeal.Read
public import Idealize.ShloMosaic.Lib.ValueIdxRank6

@[expose] public section

set_option maxRecDepth 16384

noncomputable section

namespace Cert.SsdValue

open Idealize.ShloMosaic Idealize.ShloMosaic.TcCoe Idealize.SL.Sem
open Cert.SsdReferenceIdeal Cert.SsdReferenceIdeal.Read

/-! ## A running sum, as a window of the whole axis padded low -/

theorem foldl_add {ι : Type} (f : ι → EReal) : ∀ (l : List ι) (v : EReal), l.foldl (fun r n => r + f n) v = v + (l.map f).sum
  | [], v => by simp
  | n :: l, v => by rw [List.foldl_cons, foldl_add f l, List.map_cons, List.sum_cons, add_assoc]

/-- Where the window's `n`-th entry lies. -/
def windowAt (n : Fin (⟨5, ![1, 1, 128, 1, 1]⟩ : Shape).numel) : (⟨5, ![1, 1, 128, 1, 1]⟩ : Shape).Idx := Shape.rowMajor _ |>.symm n

theorem running_sum (x : Vec Ideal S8x16x128x2x4 .f32) (init : Vec Ideal S_ .f32) (h) (hu) (hi : init (Shape.Idx.first hu) = (0 : EReal))
    (b : Fin 8) (k : Fin 16) (t : Fin 128) (g : Fin 2) (r : Fin 4) :
    Host.reduceWindowAdd (F := Ideal) (φ := .f32) (s := S8x16x128x2x4) (t := S8x16x128x2x4) ![1, 1, 128, 1, 1] ![1, 1, 1, 1, 1] ![0, 0, 127, 0, 0] ![0, 0, 0, 0, 0] x init h hu (ix5 b k t g r)
      = ∑ j : Fin 128, if j ≤ t then (x (ix5 b k j g r) : EReal) else 0 := by
  have hN : (⟨5, ![1, 1, 128, 1, 1]⟩ : Shape).numel = 128 := by decide
  show Host.reduceWindow (fun u v : EReal => u + v) ![1, 1, 128, 1, 1] ![1, 1, 1, 1, 1] ![0, 0, 127, 0, 0] ![0, 0, 0, 0, 0] x
    (fun _ : S_.Idx => init (Shape.Idx.first hu)) h hu (ix5 b k t g r) = _
  unfold Host.reduceWindow
  refine (foldl_add _ _ _).trans ?_
  rw [← Fin.sum_univ_def, hi, zero_add]
  refine Finset.sum_nbij' (fun n => (⟨(n.val + t.val + 1) % 128, Nat.mod_lt _ (by decide)⟩ : Fin 128))
    (fun j => ⟨(j.val + 127 - t.val) % 128, lt_of_lt_of_eq (Nat.mod_lt _ (by decide)) hN.symm⟩) (fun _ _ => Finset.mem_univ _) (fun _ _ => Finset.mem_univ _)
    (fun n _ => Fin.ext ?_) (fun j _ => Fin.ext ?_) (fun n _ => ?_)
  · have hn : n.val < 128 := lt_of_lt_of_eq n.isLt hN
    show ((n.val + t.val + 1) % 128 + 127 - t.val) % 128 = n.val
    omega
  · show ((j.val + 127 - t.val) % 128 + t.val + 1) % 128 = j.val
    omega
  · have hn : n.val < 128 := lt_of_lt_of_eq n.isLt hN
    have e := Shape.rowMajor_val_five (windowAt n)
    rw [show (⟨5, ![1, 1, 128, 1, 1]⟩ : Shape).rowMajor (windowAt n) = n from Equiv.apply_symm_apply _ n] at e
    have w0 : (windowAt n 0).val < 1 := (windowAt n 0).isLt
    have w1 : (windowAt n 1).val < 1 := (windowAt n 1).isLt
    have w3 : (windowAt n 3).val < 1 := (windowAt n 3).isLt
    have w4 : (windowAt n 4).val < 1 := (windowAt n 4).isLt
    change n.val = ((((windowAt n 0).val * 1 + (windowAt n 1).val) * 128 + (windowAt n 2).val) * 1 + (windowAt n 3).val) * 1 + (windowAt n 4).val at e
    have e2 : (windowAt n 2).val = n.val := by omega
    have b0 := b.isLt
    have k0 := k.isLt
    have g0 := g.isLt
    have r0 := r.isLt
    split
    · next hin =>
      have h2 : 127 ≤ t.val * 1 + (windowAt n 2).val ∧ t.val * 1 + (windowAt n 2).val - 127 < 128 := hin 2
      have hle : (⟨(n.val + t.val + 1) % 128, Nat.mod_lt _ (by decide)⟩ : Fin 128) ≤ t := by
        show (n.val + t.val + 1) % 128 ≤ t.val; omega
      rw [if_pos hle]
      refine congrArg x (funext fun a => Fin.ext ?_)
      match a with
      | ⟨0, _⟩ => show b.val * 1 + (windowAt n 0).val - 0 = b.val; omega
      | ⟨1, _⟩ => show k.val * 1 + (windowAt n 1).val - 0 = k.val; omega
      | ⟨2, _⟩ => show t.val * 1 + (windowAt n 2).val - 127 = (n.val + t.val + 1) % 128; omega
      | ⟨3, _⟩ => show g.val * 1 + (windowAt n 3).val - 0 = g.val; omega
      | ⟨4, _⟩ => show r.val * 1 + (windowAt n 4).val - 0 = r.val; omega
    · next hin =>
      have hle : ¬(⟨(n.val + t.val + 1) % 128, Nat.mod_lt _ (by decide)⟩ : Fin 128) ≤ t := fun hc => hin fun a => by
        change (n.val + t.val + 1) % 128 ≤ t.val at hc
        match a with
        | ⟨0, _⟩ => show 0 ≤ b.val * 1 + (windowAt n 0).val ∧ b.val * 1 + (windowAt n 0).val - 0 < 8; omega
        | ⟨1, _⟩ => show 0 ≤ k.val * 1 + (windowAt n 1).val ∧ k.val * 1 + (windowAt n 1).val - 0 < 16; omega
        | ⟨2, _⟩ => show 127 ≤ t.val * 1 + (windowAt n 2).val ∧ t.val * 1 + (windowAt n 2).val - 127 < 128; omega
        | ⟨3, _⟩ => show 0 ≤ g.val * 1 + (windowAt n 3).val ∧ g.val * 1 + (windowAt n 3).val - 0 < 2; omega
        | ⟨4, _⟩ => show 0 ≤ r.val * 1 + (windowAt n 4).val ∧ r.val * 1 + (windowAt n 4).val - 0 < 4; omega
      rw [if_neg hle]

/-! ## The arguments, chunk by chunk -/

/-- Head `r` of group `g`. -/
def hd (g : Fin 2) (r : Fin 4) : Fin 8 := ⟨4 * g + r, by omega⟩

variable (a : Vec Ideal S8x2048x128 .f32) (x : Vec Ideal S8x2048x512 .f32) (bc : Vec Ideal S8x2048x256 .f32) (s0 : Vec Ideal S8x8x64x64 .f32)
  (b : Fin 8) (k : Fin 16) (g : Fin 2) (r : Fin 4)

theorem ref_a (t : Fin 128) : val_main_v1 (F := Ideal) a (ix5 b k t g r) = a (ix3 b (rowOf k t) (slot (hd g r))) := by
  unfold val_main_v1
  refine (shapeCast_apply _ _ (ix5 b k t g r) (ix3 b (rowOf k t) (hd g r) : S8x2048x8.Idx) ?_).trans ?_
  · rw [Shape.rowMajor_val_three, Shape.rowMajor_val_five]
    show (b.val * 2048 + (128 * k.val + t.val) % 2048) * 8 + (4 * g.val + r.val) = (((b.val * 16 + k.val) * 128 + t.val) * 2 + g.val) * 4 + r.val
    omega
  · rw [val_main_v0_apply]
    exact congrArg a (funext fun z => by fin_cases z <;> rfl)

theorem ref_x (t : Fin 128) (p : Fin 64) : val_main_v2 (F := Ideal) x (ix6 b k t g r p) = x (ix3 b (rowOf k t) (lane (hd g r) p)) := by
  unfold val_main_v2
  refine shapeCast_apply _ _ (ix6 b k t g r p) (ix3 b (rowOf k t) (lane (hd g r) p) : S8x2048x512.Idx) ?_
  rw [Shape.rowMajor_val_three, Shape.rowMajor_val_six]
  show (b.val * 2048 + (128 * k.val + t.val) % 2048) * 512 + (64 * (4 * g.val + r.val) + p.val)
    = ((((b.val * 16 + k.val) * 128 + t.val) * 2 + g.val) * 4 + r.val) * 64 + p.val
  omega

theorem ref_b (t : Fin 128) (n : Fin 64) : val_main_v4 (F := Ideal) bc (ix5 b k t g n) = bc (ix3 b (rowOf k t) (laneB (hd g r) n)) := by
  unfold val_main_v4
  refine (shapeCast_apply _ _ (ix5 b k t g n) (ix3 b (rowOf k t) ⟨64 * g.val + n.val, by omega⟩ : S8x2048x128.Idx) ?_).trans ?_
  · rw [Shape.rowMajor_val_three, Shape.rowMajor_val_five]
    show (b.val * 2048 + (128 * k.val + t.val) % 2048) * 128 + (64 * g.val + n.val) = (((b.val * 16 + k.val) * 128 + t.val) * 2 + g.val) * 64 + n.val
    omega
  · rw [val_main_v3_apply]
    refine congrArg bc (funext fun z => Fin.ext ?_)
    fin_cases z
    · rfl
    · rfl
    · show 64 * g.val + n.val = 64 * ((4 * g.val + r.val) / 4) + n.val; omega

theorem ref_c (t : Fin 128) (n : Fin 64) : val_main_v6 (F := Ideal) bc (ix5 b k t g n) = bc (ix3 b (rowOf k t) (laneC (hd g r) n)) := by
  unfold val_main_v6
  refine (shapeCast_apply _ _ (ix5 b k t g n) (ix3 b (rowOf k t) ⟨64 * g.val + n.val, by omega⟩ : S8x2048x128.Idx) ?_).trans ?_
  · rw [Shape.rowMajor_val_three, Shape.rowMajor_val_five]
    show (b.val * 2048 + (128 * k.val + t.val) % 2048) * 128 + (64 * g.val + n.val) = (((b.val * 16 + k.val) * 128 + t.val) * 2 + g.val) * 64 + n.val
    omega
  · rw [val_main_v5_apply]
    refine congrArg bc (funext fun z => Fin.ext ?_)
    fin_cases z
    · rfl
    · rfl
    · show 128 + (64 * g.val + n.val) = 128 + 64 * ((4 * g.val + r.val) / 4) + n.val; omega

theorem ref_cum (t : Fin 128) : val_main_v7 (F := Ideal) a (ix5 b k t g r) = decay a b k (hd g r) t := by
  unfold val_main_v7
  refine (running_sum _ _ _ _ ?_ b k t g r).trans ?_
  · rw [val_main_call0_call0_v0_apply, val_main_call0_call0_cst_apply]
    exact Ideal.ofBits_zero_f32
  · unfold decay cum
    refine Finset.sum_congr rfl fun j _ => ?_
    rw [ref_a]

theorem ref_tot : val_main_v26 (F := Ideal) a (ix4 b k g r) = decay a b k (hd g r) 127 := by
  unfold val_main_v26
  refine (shapeCast_apply _ _ (ix4 b k g r) (ix5 b k 0 g r : S8x16x1x2x4.Idx) ?_).trans ?_
  · rw [Shape.rowMajor_val_five, Shape.rowMajor_val_four]
    show (((b.val * 16 + k.val) * 1 + 0) * 2 + g.val) * 4 + r.val = ((b.val * 16 + k.val) * 2 + g.val) * 4 + r.val
    omega
  · rw [val_main_v25_apply]
    have e : idx_main_v25 (ix5 b k 0 g r) = (ix5 b k 127 g r : S8x16x128x2x4.Idx) := by funext z; fin_cases z <;> rfl
    rw [e]; exact ref_cum a b k g r 127

theorem ref_mask (t s : Fin 128) : val_main_v9 (F := Ideal) (ix2 t s) = if s ≤ t then 1#1 else 0#1 := by
  show Scalar.select (IntOp.cmpi .sge (IntOp.addi (BitVec.ofNat 32 t.val) (val_main_call1_v1 (F := Ideal) (ix2 t s))) (BitVec.ofNat 32 s.val))
    (val_main_v8 (F := Ideal) (ix2 t s)) (val_main_call1_v5 (F := Ideal) (ix2 t s)) = _
  rw [val_main_call1_v1_apply, val_main_v8_apply, val_main_call1_v5_apply]
  exact (by decide +kernel : ∀ t s : Fin 128, Scalar.select (IntOp.cmpi .sge (IntOp.addi (BitVec.ofNat 32 t.val) 0#32) (BitVec.ofNat 32 s.val)) 1#1 0#1
    = if s ≤ t then 1#1 else 0#1) t s

/-- The decay from row `s` to row `t`. -/
theorem ref_seg (t s : Fin 128) : val_main_v17 (F := Ideal) a (ix6 b k t s g r)
    = Ideal.exp (if s ≤ t then decay a b k (hd g r) t - decay a b k (hd g r) s else Ideal.ofBits .f32 0xFF800000#32) := by
  have e1 : idx_main_v10 (idx_main_v12 (ix6 b k t s g r)) = (ix5 b k t g r : S8x16x128x2x4.Idx) := by funext z; fin_cases z <;> rfl
  have e2 : idx_main_v11 (idx_main_v13 (ix6 b k t s g r)) = (ix5 b k s g r : S8x16x128x2x4.Idx) := by funext z; fin_cases z <;> rfl
  have e3 : idx_main_v15 (idx_main_call2_v1 (ix6 b k t s g r)) = (ix2 t s : S128x128.Idx) := by funext z; fin_cases z <;> rfl
  rw [val_main_v17_apply, val_main_v16_apply, val_main_call2_v1_apply, val_main_v15_apply, e3, ref_mask, val_main_v14_apply, val_main_v12_apply,
    val_main_v10_apply, e1, val_main_v13_apply, val_main_v11_apply, e2, ref_cum, ref_cum, val_main_call2_v2_apply, val_main_call2_v0_apply, val_main_cst_apply]
  by_cases h : s ≤ t
  · rw [if_pos h, if_pos h]; rfl
  · rw [if_neg h, if_neg h]; rfl

/-- The rows of a chunk on each other. -/
theorem ref_intra (t : Fin 128) (p : Fin 64) : val_main_v24 (F := Ideal) a x bc (ix6 b k t g r p)
    = ∑ s : Fin 128, (∑ n : Fin 64, bc (ix3 b (rowOf k t) (laneC (hd g r) n)) * bc (ix3 b (rowOf k s) (laneB (hd g r) n)))
      * Ideal.exp (if s ≤ t then decay a b k (hd g r) t - decay a b k (hd g r) s else Ideal.ofBits .f32 0xFF800000#32) * x (ix3 b (rowOf k s) (lane (hd g r) p)) := by
  have e : idx_main_v24 (ix6 b k t g r p) = (ix6 b k g r p t : S8x16x2x4x64x128.Idx) := by funext z; fin_cases z <;> rfl
  rw [val_main_v24_apply, e, val_main_v23_apply]
  refine Finset.sum_congr rfl fun s _ => ?_
  have e1 : lidx_main_v23 (ix6 b k g r p t) s = (ix6 b k s g r p : S8x16x128x2x4x64.Idx) := by funext z; fin_cases z <;> rfl
  have e2 : ridx_main_v23 (ix6 b k g r p t) s = (ix6 b k t s g r : S8x16x128x128x2x4.Idx) := by funext z; fin_cases z <;> rfl
  have e3 : idx_main_v19 (idx_main_v20 (idx_main_v21 (ix6 b k t s g r))) = (ix5 b k g s t : S8x16x2x128x128.Idx) := by funext z; fin_cases z <;> rfl
  rw [e1, e2, ref_x, val_main_v22_apply, ref_seg, val_main_v21_apply, val_main_v20_apply, val_main_v19_apply, e3, val_main_v18_apply]
  refine (mul_comm _ _).trans (congrArg (fun u => u * _ * _) (Finset.sum_congr rfl fun n _ => ?_))
  have e4 : lidx_main_v18 (ix5 b k g s t) n = (ix5 b k s g n : S8x16x128x2x64.Idx) := by funext z; fin_cases z <;> rfl
  have e5 : ridx_main_v18 (ix5 b k g s t) n = (ix5 b k t g n : S8x16x128x2x64.Idx) := by funext z; fin_cases z <;> rfl
  rw [e4, e5, ref_b _ _ _ g r, ref_c _ _ _ g r, mul_comm]

/-- What a chunk adds to the state. -/
theorem ref_add (p n : Fin 64) : val_main_v34 (F := Ideal) a x bc (ix6 b k g r p n)
    = ∑ s : Fin 128, x (ix3 b (rowOf k s) (lane (hd g r) p)) * Ideal.exp (decay a b k (hd g r) 127 - decay a b k (hd g r) s)
      * bc (ix3 b (rowOf k s) (laneB (hd g r) n)) := by
  rw [val_main_v34_apply]
  refine Finset.sum_congr rfl fun s _ => ?_
  have e1 : lidx_main_v34 (ix6 b k g r p n) s = (ix6 b k s g r p : S8x16x128x2x4x64.Idx) := by funext z; fin_cases z <;> rfl
  have e2 : ridx_main_v34 (ix6 b k g r p n) s = (ix5 b k s g n : S8x16x128x2x64.Idx) := by funext z; fin_cases z <;> rfl
  have e3 : idx_main_v31 (idx_main_v32 (ix6 b k s g r p)) = (ix5 b k s g r : S8x16x128x2x4.Idx) := by funext z; fin_cases z <;> rfl
  have e4 : idx_main_v27 (idx_main_v28 (ix5 b k s g r)) = (ix4 b k g r : S8x16x2x4.Idx) := by funext z; fin_cases z <;> rfl
  rw [e1, e2, ref_b _ _ _ g r, val_main_v33_apply, ref_x, val_main_v32_apply, val_main_v31_apply, e3, val_main_v30_apply, val_main_v29_apply, ref_cum,
    val_main_v28_apply, val_main_v27_apply, e4, ref_tot]
  exact congrArg (· * _) (mul_comm _ _)

theorem ref_dec : val_main_v35 (F := Ideal) a (ix4 b k g r) = Ideal.exp (decay a b k (hd g r) 127) := by
  rw [val_main_v35_apply, ref_tot]; rfl

end Cert.SsdValue
end
-- ==== Proof.Ssd.Chunks.lean ====
/-
  The reference's chunks in order: the state each starts from, the rows it gives, and both results.
-/
module

public import proofs.«01_k».proof.Proof.Ssd.Reference

@[expose] public section

set_option maxRecDepth 16384

noncomputable section

namespace Cert.SsdValue

open Idealize.ShloMosaic Idealize.ShloMosaic.TcCoe Idealize.SL.Sem
open Cert.SsdReferenceIdeal Cert.SsdReferenceIdeal.Read

variable (a : Vec Ideal S8x2048x128 .f32) (x : Vec Ideal S8x2048x512 .f32) (bc : Vec Ideal S8x2048x256 .f32) (s0 : Vec Ideal S8x8x64x64 .f32)

/-- `v` is the state after `o` chunks, heads by group. -/
def Held (o : ℕ) (v : Vec Ideal S8x2x4x64x64 .f32) : Prop :=
  ∀ (b : Fin 8) (g : Fin 2) (r : Fin 4) (p n : Fin 64), v (ix5 b g r p n) = stateAt a x bc s0 b o (hd g r) p n

theorem held_first : Held a x bc s0 0 (val_main_v36 s0) := fun b g r p n => by
  unfold val_main_v36
  refine shapeCast_apply _ _ (ix5 b g r p n) (ix4 b (hd g r) p n : S8x8x64x64.Idx) ?_
  rw [Shape.rowMajor_val_four, Shape.rowMajor_val_five]
  show ((b.val * 8 + (4 * g.val + r.val)) * 64 + p.val) * 64 + n.val = (((b.val * 2 + g.val) * 4 + r.val) * 64 + p.val) * 64 + n.val
  omega

/-- One chunk: the old state decayed, and what the chunk adds. -/
theorem held_next (o : ℕ) (ho : o < 16) (v : Vec Ideal S8x2x4x64x64 .f32) (hv : Held a x bc s0 o v) (h1) (h2) (h3) (h4) (h5) (h6) :
    Held a x bc s0 (o + 1) (addf (F := Ideal) (φ := .f32)
      (mulf (F := Ideal) (φ := .f32) (broadcastInDim S8x2x4x64x64 ![0, 1, 2, 3, 4] h4 (broadcastInDim S8x2x4x1x1 ![0, 1, 2] h3 (shapeCast S8x2x4 (extractStridedSlice S8x1x2x4 ![0, o, 0, 0] (val_main_v35 (F := Ideal) a) h1) h2))) v)
      (shapeCast S8x2x4x64x64 (extractStridedSlice S8x1x2x4x64x64 ![0, o, 0, 0, 0, 0] (val_main_v34 (F := Ideal) a x bc) h5) h6)) := fun b g r p n => by
  have e1 : broadcastInDim S8x2x4x64x64 ![0, 1, 2, 3, 4] h4 (broadcastInDim S8x2x4x1x1 ![0, 1, 2] h3 (shapeCast S8x2x4 (extractStridedSlice S8x1x2x4 ![0, o, 0, 0] (val_main_v35 (F := Ideal) a) h1) h2)) (ix5 b g r p n)
      = Ideal.exp (decay a b o (hd g r) 127) := by
    refine (broadcastInDim_apply _ h4 _ (ix5 b g r p n) (ix5 b g r 0 0 : S8x2x4x1x1.Idx) (fun z => by fin_cases z <;> rfl)).trans ?_
    refine (broadcastInDim_apply _ h3 _ (ix5 b g r 0 0 : S8x2x4x1x1.Idx) (ix3 b g r : S8x2x4.Idx) (fun z => by fin_cases z <;> rfl)).trans ?_
    refine (shapeCast_apply _ h2 (ix3 b g r : S8x2x4.Idx) (ix4 b 0 g r : S8x1x2x4.Idx) ?_).trans ?_
    · rw [Shape.rowMajor_val_four, Shape.rowMajor_val_three]
      show ((b.val * 1 + 0) * 2 + g.val) * 4 + r.val = (b.val * 2 + g.val) * 4 + r.val
      omega
    · exact (extractStridedSlice_apply _ _ h1 (ix4 b 0 g r : S8x1x2x4.Idx) (ix4 b (⟨o, ho⟩ : Fin 16) g r : S8x16x2x4.Idx)
        (fun z => by fin_cases z <;> simp)).trans (ref_dec a b ⟨o, ho⟩ g r)
  have e2 : shapeCast S8x2x4x64x64 (extractStridedSlice S8x1x2x4x64x64 ![0, o, 0, 0, 0, 0] (val_main_v34 (F := Ideal) a x bc) h5) h6 (ix5 b g r p n)
      = val_main_v34 (F := Ideal) a x bc (ix6 b (⟨o, ho⟩ : Fin 16) g r p n) := by
    refine (shapeCast_apply _ h6 (ix5 b g r p n) (ix6 b 0 g r p n : S8x1x2x4x64x64.Idx) ?_).trans ?_
    · rw [Shape.rowMajor_val_six, Shape.rowMajor_val_five]
      show ((((b.val * 1 + 0) * 2 + g.val) * 4 + r.val) * 64 + p.val) * 64 + n.val = (((b.val * 2 + g.val) * 4 + r.val) * 64 + p.val) * 64 + n.val
      omega
    · exact extractStridedSlice_apply _ _ h5 (ix6 b 0 g r p n : S8x1x2x4x64x64.Idx) (ix6 b (⟨o, ho⟩ : Fin 16) g r p n : S8x16x2x4x64x64.Idx)
        (fun z => by fin_cases z <;> simp)
  refine (congrArg₂ (fun u w : EReal => u + w) (congrArg₂ (fun u w : EReal => u * w) e1 (hv b g r p n)) e2).trans ?_
  rw [ref_add]
  rfl

theorem held_1 : Held a x bc s0 1 (val_main_v44 a x bc s0) := held_next a x bc s0 0 (by decide) _ (held_first a x bc s0) _ _ _ _ _ _
theorem held_2 : Held a x bc s0 2 (val_main_v52 a x bc s0) := held_next a x bc s0 1 (by decide) _ (held_1 a x bc s0) _ _ _ _ _ _
theorem held_3 : Held a x bc s0 3 (val_main_v60 a x bc s0) := held_next a x bc s0 2 (by decide) _ (held_2 a x bc s0) _ _ _ _ _ _
theorem held_4 : Held a x bc s0 4 (val_main_v68 a x bc s0) := held_next a x bc s0 3 (by decide) _ (held_3 a x bc s0) _ _ _ _ _ _
theorem held_5 : Held a x bc s0 5 (val_main_v76 a x bc s0) := held_next a x bc s0 4 (by decide) _ (held_4 a x bc s0) _ _ _ _ _ _
theorem held_6 : Held a x bc s0 6 (val_main_v84 a x bc s0) := held_next a x bc s0 5 (by decide) _ (held_5 a x bc s0) _ _ _ _ _ _
theorem held_7 : Held a x bc s0 7 (val_main_v92 a x bc s0) := held_next a x bc s0 6 (by decide) _ (held_6 a x bc s0) _ _ _ _ _ _
theorem held_8 : Held a x bc s0 8 (val_main_v100 a x bc s0) := held_next a x bc s0 7 (by decide) _ (held_7 a x bc s0) _ _ _ _ _ _
theorem held_9 : Held a x bc s0 9 (val_main_v108 a x bc s0) := held_next a x bc s0 8 (by decide) _ (held_8 a x bc s0) _ _ _ _ _ _
theorem held_10 : Held a x bc s0 10 (val_main_v116 a x bc s0) := held_next a x bc s0 9 (by decide) _ (held_9 a x bc s0) _ _ _ _ _ _
theorem held_11 : Held a x bc s0 11 (val_main_v124 a x bc s0) := held_next a x bc s0 10 (by decide) _ (held_10 a x bc s0) _ _ _ _ _ _
theorem held_12 : Held a x bc s0 12 (val_main_v132 a x bc s0) := held_next a x bc s0 11 (by decide) _ (held_11 a x bc s0) _ _ _ _ _ _
theorem held_13 : Held a x bc s0 13 (val_main_v140 a x bc s0) := held_next a x bc s0 12 (by decide) _ (held_12 a x bc s0) _ _ _ _ _ _
theorem held_14 : Held a x bc s0 14 (val_main_v148 a x bc s0) := held_next a x bc s0 13 (by decide) _ (held_13 a x bc s0) _ _ _ _ _ _
theorem held_15 : Held a x bc s0 15 (val_main_v156 a x bc s0) := held_next a x bc s0 14 (by decide) _ (held_14 a x bc s0) _ _ _ _ _ _
theorem held_16 : Held a x bc s0 16 (val_main_v164 a x bc s0) := held_next a x bc s0 15 (by decide) _ (held_15 a x bc s0) _ _ _ _ _ _

/-- The state a chunk starts from, as one row of the table of states. -/
theorem starts {o : ℕ} {v : Vec Ideal S8x2x4x64x64 .f32} (hv : Held a x bc s0 o v) (hb) (b : Fin 8) (k : Fin 16) (g : Fin 2) (r : Fin 4) (p n : Fin 64)
    (hk : k.val = o) (i : S8x1x2x4x64x64.Idx) (h0 : (i 0).val = b.val) (h2 : (i 2).val = g.val) (h3 : (i 3).val = r.val) (h4 : (i 4).val = p.val) (h5 : (i 5).val = n.val) :
    broadcastInDim S8x1x2x4x64x64 ![0, 2, 3, 4, 5] hb v i = stateAt a x bc s0 b k (hd g r) p n := by
  rw [hk, ← hv b g r p n]
  refine broadcastInDim_apply _ hb v i (ix5 b g r p n : S8x2x4x64x64.Idx) (fun z => ?_)
  fin_cases z
  · exact h0.symm
  · exact h2.symm
  · exact h3.symm
  · exact h4.symm
  · exact h5.symm

theorem ref_start (b : Fin 8) (k : Fin 16) (g : Fin 2) (r : Fin 4) (p n : Fin 64) :
    val_main_v181 (F := Ideal) a x bc s0 (ix6 b k g r p n) = stateAt a x bc s0 b k (hd g r) p n := by
  unfold val_main_v181
  concat_tiles i h
  exacts [starts a x bc s0 (held_first a x bc s0) _ b k g r p n h i h0 h2 h3 h4 h5,
    starts a x bc s0 (held_1 a x bc s0) _ b k g r p n h i h0 h2 h3 h4 h5,
    starts a x bc s0 (held_2 a x bc s0) _ b k g r p n h i h0 h2 h3 h4 h5,
    starts a x bc s0 (held_3 a x bc s0) _ b k g r p n h i h0 h2 h3 h4 h5,
    starts a x bc s0 (held_4 a x bc s0) _ b k g r p n h i h0 h2 h3 h4 h5,
    starts a x bc s0 (held_5 a x bc s0) _ b k g r p n h i h0 h2 h3 h4 h5,
    starts a x bc s0 (held_6 a x bc s0) _ b k g r p n h i h0 h2 h3 h4 h5,
    starts a x bc s0 (held_7 a x bc s0) _ b k g r p n h i h0 h2 h3 h4 h5,
    starts a x bc s0 (held_8 a x bc s0) _ b k g r p n h i h0 h2 h3 h4 h5,
    starts a x bc s0 (held_9 a x bc s0) _ b k g r p n h i h0 h2 h3 h4 h5,
    starts a x bc s0 (held_10 a x bc s0) _ b k g r p n h i h0 h2 h3 h4 h5,
    starts a x bc s0 (held_11 a x bc s0) _ b k g r p n h i h0 h2 h3 h4 h5,
    starts a x bc s0 (held_12 a x bc s0) _ b k g r p n h i h0 h2 h3 h4 h5,
    starts a x bc s0 (held_13 a x bc s0) _ b k g r p n h i h0 h2 h3 h4 h5,
    starts a x bc s0 (held_14 a x bc s0) _ b k g r p n h i h0 h2 h3 h4 h5,
    starts a x bc s0 (held_15 a x bc s0) _ b k g r p n h i h0 h2 h3 h4 h5]

/-- The rows a chunk gives. -/
theorem ref_row (b : Fin 8) (k : Fin 16) (t : Fin 128) (g : Fin 2) (r : Fin 4) (p : Fin 64) :
    val_main_v188 (F := Ideal) a x bc s0 (ix6 b k t g r p) = yRow a x bc s0 b k t (hd g r) p := by
  have e1 : idx_main_v183 (idx_main_v186 (ix6 b k t g r p)) = (ix5 b k t g r : S8x16x128x2x4.Idx) := by funext z; fin_cases z <;> rfl
  have e2 : idx_main_v185 (ix6 b k t g r p) = (ix6 b k g r p t : S8x16x2x4x64x128.Idx) := by funext z; fin_cases z <;> rfl
  rw [val_main_v188_apply, ref_intra, val_main_v187_apply, val_main_v186_apply, val_main_v183_apply, e1, val_main_v182_apply, ref_cum, val_main_v185_apply, e2,
    val_main_v184_apply]
  refine congrArg (fun u => _ + _ * u) (Finset.sum_congr rfl fun n _ => ?_)
  have e3 : lidx_main_v184 (ix6 b k g r p t) n = (ix6 b k g r p n : S8x16x2x4x64x64.Idx) := by funext z; fin_cases z <;> rfl
  have e4 : ridx_main_v184 (ix6 b k g r p t) n = (ix5 b k t g n : S8x16x128x2x64.Idx) := by funext z; fin_cases z <;> rfl
  rw [e3, e4, ref_start, ref_c _ _ _ g r, mul_comm]

theorem hd_split (h : Fin 8) : ∃ g r, h = hd g r :=
  ⟨⟨h.val / 4, by omega⟩, ⟨h.val % 4, by omega⟩, Fin.ext (by show h.val = 4 * (h.val / 4) + h.val % 4; omega)⟩

theorem ref_y_at (b : Fin 8) (k : ℕ) (hk : k < 16) (t : Fin 128) (g : Fin 2) (r : Fin 4) (p : Fin 64) :
    val_main_v189 (F := Ideal) a x bc s0 (ix3 b (rowOf k t) (lane (hd g r) p)) = yArr a x bc s0 (ix3 b (rowOf k t) (lane (hd g r) p)) := by
  refine Eq.trans ?_ ((ref_row a x bc s0 b ⟨k, hk⟩ t g r p).trans (yArr_at a x bc s0 b k hk t (hd g r) p).symm)
  unfold val_main_v189
  refine shapeCast_apply _ _ (ix3 b (rowOf k t) (lane (hd g r) p) : S8x2048x512.Idx) (ix6 b (⟨k, hk⟩ : Fin 16) t g r p : S8x16x128x2x4x64.Idx) ?_
  rw [Shape.rowMajor_val_three, Shape.rowMajor_val_six]
  show ((((b.val * 16 + k) * 128 + t.val) * 2 + g.val) * 4 + r.val) * 64 + p.val
    = (b.val * 2048 + (128 * k + t.val) % 2048) * 512 + (64 * (4 * g.val + r.val) + p.val)
  omega

theorem ref_y : val_main_v189 (F := Ideal) a x bc s0 = yArr a x bc s0 := by
  funext y
  obtain ⟨h, p, hl⟩ := lane_split (y 2)
  obtain ⟨g, r, rfl⟩ := hd_split h
  have h1 : (y 1).val < 2048 := (y 1).isLt
  have hy : y = ix3 (y 0) (rowOf ((y 1).val / 128) ⟨(y 1).val % 128, by omega⟩) (lane (hd g r) p) := by
    funext z; apply Fin.ext; fin_cases z
    · rfl
    · show (y 1).val = (128 * ((y 1).val / 128) + (y 1).val % 128) % 2048; omega
    · exact congrArg Fin.val hl
  rw [hy]
  exact ref_y_at a x bc s0 (y 0) _ (by omega) _ g r p

theorem ref_s_at (b : Fin 8) (g : Fin 2) (r : Fin 4) (p n : Fin 64) :
    val_main_v190 (F := Ideal) a x bc s0 (ix4 b (hd g r) p n) = sArr a x bc s0 (ix4 b (hd g r) p n) := by
  refine Eq.trans ?_ (held_16 a x bc s0 b g r p n)
  unfold val_main_v190
  refine shapeCast_apply _ _ (ix4 b (hd g r) p n : S8x8x64x64.Idx) (ix5 b g r p n : S8x2x4x64x64.Idx) ?_
  rw [Shape.rowMajor_val_four, Shape.rowMajor_val_five]
  show (((b.val * 2 + g.val) * 4 + r.val) * 64 + p.val) * 64 + n.val = ((b.val * 8 + (4 * g.val + r.val)) * 64 + p.val) * 64 + n.val
  omega

theorem ref_s : val_main_v190 (F := Ideal) a x bc s0 = sArr a x bc s0 := by
  funext y
  obtain ⟨g, r, hh⟩ := hd_split (y 1)
  have hy : y = ix4 (y 0) (hd g r) (y 2) (y 3) := by
    funext z; fin_cases z
    · rfl
    · exact hh
    · rfl
    · rfl
  rw [hy]
  exact ref_s_at a x bc s0 (y 0) g r (y 2) (y 3)

end Cert.SsdValue
end
-- ==== Proof.Ssd.Claims.lean ====
/-
  The claims of the chunk scan.
-/
module

public import proofs.«01_k».proof.Defs
public import proofs.«01_k».proof.Proof.Gen.Ssd
public import proofs.«01_k».proof.Proof.Gen.Ssd.Frame
public import proofs.«01_k».proof.Proof.Gen.SsdIdeal
public import proofs.«01_k».proof.Proof.Gen.SsdReferenceIdeal
public import proofs.«01_k».proof.Proof.Ssd.Chunks
public import Idealize.ShloMosaic.Adequacy
public import Idealize.ShloMosaic.Init
public import Idealize.ShloMosaic.Lib.Claim

@[expose] public section

set_option maxRecDepth 16384

noncomputable section

namespace Cert.SsdValue

open Idealize.ShloMosaic Idealize.ShloMosaic.TcCoe Idealize.SL.Sem

theorem quiescent_bits : Cert.quiescent_Ssd := fun m g _ => Cert.Ssd.Gen.frame m g

theorem quiescent_ideal : Cert.quiescent_SsdIdeal := fun m g _ => Cert.SsdIdeal.Gen.frame m g

theorem quiescent_reference : Cert.quiescent_SsdReferenceIdeal := fun m g _ =>
  (θ_run _ _ _).mono (fun r h => ⟨fun c => (h c).2.2, sem_eq_zero_of_no_sems (by decide) r.2⟩) (Cert.SsdReferenceIdeal.Value.run m g)

/-- Equal arguments, equal results. -/
theorem four {A B C D E : Type} (f : A → B → C → D → E) {a a' : A} {b b' : B} {c c' : C} {d d' : D} (ha : a = a') (hb : b = b') (hc : c = c') (hd : d = d') :
    f a b c d = f a' b' c' d' := by
  rw [ha, hb, hc, hd]

theorem algebraic : Cert.algebraic_SsdIdeal_SsdReferenceIdeal := fun m g m' g' _ hagree =>
  ⟨fun c => (Cert.SsdIdeal.Gen.dats m 0 c).arrAt 4 Cert.SsdIdeal.cfg0.N, fun c => (Cert.SsdIdeal.Gen.dats m 0 c).arrAt 5 Cert.SsdIdeal.cfg0.N,
   Cert.SsdIdeal.Value.run_blocks m g,
   (θ_run _ _ _).mono (fun _ h c => by
      obtain ⟨a0, a1, a2, a3⟩ := hagree c
      obtain ⟨h0, h1, hargs⟩ := h c
      refine ⟨h0.trans ?_, h1.trans ?_, hargs⟩
      · refine (Cert.SsdReferenceIdeal.Read.val_main_v189_eq (StableHlo.launchContents m' c)).trans ?_
        refine (ref_y _ _ _ _).trans (Eq.trans ?_ (final_y m c).symm)
        exact four yArr a0 a1 a2 a3
      · refine (Cert.SsdReferenceIdeal.Read.val_main_v190_eq (StableHlo.launchContents m' c)).trans ?_
        refine (ref_s _ _ _ _).trans (Eq.trans ?_ (final_s m c).symm)
        exact four sArr a0 a1 a2 a3) (Cert.SsdReferenceIdeal.Value.run m' g')⟩

end Cert.SsdValue
end
-- ==== Proof.Ada.Value.lean ====
/-
  The adaptive modulation's result, index by index, in its arguments.
-/
module

public import proofs.«01_k».proof.Proof.Gen.AdaIdeal.Frame
public import proofs.«01_k».proof.Proof.Gen.AdaIdeal.Value
public import proofs.«01_k».proof.Proof.InMb.Value
public import Idealize.ShloMosaic.Lib.Pipeline.ValueKit
public import Idealize.ShloMosaic.Lib.Claim

@[expose] public section

set_option maxRecDepth 16384

noncomputable section

namespace Cert.AdaValue

open Idealize.ShloMosaic Idealize.ShloMosaic.TcCoe Idealize.SL.Sem
open Cert.AdaIdeal Cert.AdaIdeal.Gen

/-- The conditions of both batches, and zeros after them. -/
def cond (cp : Vec Ideal S8x1024 .f32) (cs : Vec Ideal S128x1024 .f32) (q : Fin 144) (k : Fin 1024) : EReal :=
  if h : q.val < 8 then cp (ix2 ⟨q.val, h⟩ k) else if h1 : q.val < 136 then cs (ix2 ⟨q.val - 8, by omega⟩ k) else 0

/-- `silu v`. -/
def act (v : EReal) : EReal := v * Ideal.div 1 (1 + Ideal.exp (0 - v))

/-- One entry of the modulation: an activated condition against a column of the weight, and the bias. -/
def entry (c : Fin 1024 → EReal) (w : Fin 1024 → EReal) (b : EReal) : EReal := (∑ k, act (c k) * w k) + b

theorem entry_congr {c w c' w' : Fin 1024 → EReal} {b b' : EReal} (hc : ∀ k, c k = c' k) (hw : ∀ k, w k = w' k) (hb : b = b') : entry c w b = entry c' w' b' := by
  rw [funext hc, funext hw, hb]

/-- The modulation of every layer. -/
def mods (cp : Vec Ideal S8x1024 .f32) (cs : Vec Ideal S128x1024 .f32) (w : Vec Ideal S4x1024x6144 .f32) (b : Vec Ideal S4x6144 .f32) : Vec Ideal S4x144x6144 .f32 :=
  fun y : S4x144x6144.Idx => entry (fun k => cond cp cs (y 1) k) (fun k => w (ix3 (y 0) k (y 2))) (b (ix2 (y 0) (y 2)))

variable (m : (ℓ : Loc nD τ sig) → Buf (Elt Ideal) ℓ) (ρ : Dev nD → PrngReg)

theorem pay_at (x : Vec Ideal S144x1024 .f32) (w : Vec Ideal S1x1024x1536 .f32) (b : Vec Ideal S1x1x1536 .f32) (q : Fin 144) (n : Fin 1536) :
    k0_pay1 x w b (ix3 0 q n) = entry (fun k => x (ix2 q k)) (fun k => w (ix3 0 k n)) (b (ix3 0 0 n)) := by
  pointwise [k0_pay1, entry, act]

theorem idx : ∀ t : Fin cfg0.N, win0_0.index t = ![0, 0] ∧ win0_1.index t = ![t.val / 4, 0, t.val % 4] ∧ win0_2.index t = ![t.val / 4, 0, t.val % 4]
    ∧ win0_3.index t = ![t.val / 4, 0, t.val % 4] :=
  (by decide +kernel : ∀ t : Fin grid0.N, _)

/-- The conditions as the call takes them: joined and padded. -/
def joined (cp : Vec Ideal S8x1024 .f32) (cs : Vec Ideal S128x1024 .f32) : Vec Ideal S144x1024 .f32 :=
  pad S144x1024 ![0, 0] ![8, 0] ![0, 0] (concatenate S136x1024 0 [⟨S8x1024, cp⟩, ⟨S128x1024, cs⟩] concatenates_S8x1024_S128x1024_S136x1024_d0)
    (sitofp (F := Ideal) .f32 (constantI S_ 32 0#32)) pads_S136x1024_S144x1024_080_000 h_S_

theorem joined_at (cp : Vec Ideal S8x1024 .f32) (cs : Vec Ideal S128x1024 .f32) (q : Fin 144) (k : Fin 1024) : joined cp cs (ix2 q k) = cond cp cs q k := by
  pointwise [joined, cond]
  by_cases h : q.val < 8
  · rw [dif_pos (by omega), dif_pos h, dif_pos h]
  · rw [dif_neg h]
    by_cases h1 : q.val < 136
    · rw [dif_pos h1, dif_pos h1, dif_neg h]
    · rw [dif_neg h1, dif_neg h1]
      exact Cert.InMbValue.zero

theorem entry_x (c : Dev nD) : V m c main_v1 = joined (m ((c : Thread nD τ).loc main_arg0)) (m ((c : Thread nD τ).loc main_arg1)) := by
  simp only [V, hostOps0, hostOps0_1, hostOps0_2, List.flatten_cons, List.flatten_nil, List.append_nil, List.cons_append, List.nil_append]
  after_results <;> rfl
theorem entry_b (c : Dev nD) : V m c main_v2 = shapeCast S4x1x6144 (m ((c : Thread nD τ).loc main_arg3)) shapeCasts_S4x6144_S4x1x6144 := by
  simp only [V, hostOps0, hostOps0_1, hostOps0_2, List.flatten_cons, List.flatten_nil, List.append_nil, List.cons_append, List.nil_append]
  after_results <;> rfl

theorem bias (b : Vec Ideal S4x6144 .f32) (l : Fin 4) (n : Fin 6144) : shapeCast S4x1x6144 b shapeCasts_S4x6144_S4x1x6144 (ix3 l 0 n) = b (ix2 l n) := by pointwise

/-- Lane `n` of the `j`-th block of columns. -/
abbrev col (j : Fin 4) (n : Fin 1536) : Fin 6144 := ⟨1536 * j.val + n.val, by omega⟩

section
variable (c : Dev nD) (t : Fin cfg0.N) (l j : Fin 4)

theorem read_x (q : Fin 144) (k : Fin 1024) : iblk m c 0 t (ix2 q k) = cond (m ((c : Thread nD τ).loc main_arg0)) (m ((c : Thread nD τ).loc main_arg1)) q k := by
  show V m c main_v1 (((cfg0.win 0).blk t).view.emb (ix2 q k)) = _
  have e : ((cfg0.win 0).blk t).view.emb (ix2 q k) = (ix2 q k : S144x1024.Idx) := by blk_ext [idx t]
  rw [entry_x, e, joined_at]
theorem read_w (hl : l.val = t.val / 4) (hj : j.val = t.val % 4) (k : Fin 1024) (n : Fin 1536) :
    iblk m c 1 t (ix3 0 k n) = m ((c : Thread nD τ).loc main_arg2) (ix3 l k (col j n)) := by
  show V m c main_arg2 (((cfg0.win 1).blk t).view.emb (ix3 0 k n)) = _
  have e : ((cfg0.win 1).blk t).view.emb (ix3 0 k n) = (ix3 l k (col j n) : S4x1024x6144.Idx) := by blk_ext [idx t, col, hl, hj]
  rw [V_main_arg2, e]
theorem read_b (hl : l.val = t.val / 4) (hj : j.val = t.val % 4) (n : Fin 1536) :
    iblk m c 2 t (ix3 0 0 n) = m ((c : Thread nD τ).loc main_arg3) (ix2 l (col j n)) := by
  show V m c main_v2 (((cfg0.win 2).blk t).view.emb (ix3 0 0 n)) = _
  have e : ((cfg0.win 2).blk t).view.emb (ix3 0 0 n) = (ix3 l 0 (col j n) : S4x1x6144.Idx) := by blk_ext [idx t, col, hl, hj]
  rw [entry_b, e]; exact bias _ _ _
end

theorem out_at (c : Dev nD) (t : Fin cfg0.N) (q : Fin 144) (n : Fin 1536) :
    out0_3 (iblk m c 0 t) (iblk m c 1 t) (iblk m c 2 t) (ix3 0 q n) = k0_pay1 (iblk m c 0 t) (iblk m c 1 t) (iblk m c 2 t) (ix3 0 q n) := by
  unfold out0_3
  frame_out

theorem final (c : Dev nD) : (dats m 0 c).arrAt 3 (cfgs 0).N = mods (m ((c : Thread nD τ).loc main_arg0)) (m ((c : Thread nD τ).loc main_arg1))
    (m ((c : Thread nD τ).loc main_arg2)) (m ((c : Thread nD τ).loc main_arg3)) := by
  refine (dats m 0 c).arrAt_eq_of_covers 3 _ (by decide +kernel) fun t _ y => ?_
  obtain ⟨o, q, n, rfl⟩ : ∃ o q n, y = (ix3 o q n : S1x144x1536.Idx) := ⟨y 0, y 1, y 2, by funext z; fin_cases z <;> rfl⟩
  obtain rfl : o = 0 := Subsingleton.elim _ _
  have hN : t.val < 16 := t.isLt
  have e : ((cfg0.win 3).blk t).view.emb (ix3 0 q n) = (ix3 (⟨t.val / 4, by omega⟩ : Fin 4) q (col ⟨t.val % 4, by omega⟩ n) : S4x144x6144.Idx) := by
    blk_ext [idx t, col]
  rw [e, after0_3]
  have e' : (cfg0.win 3).xinj (cfg0.grid.coords t) (ix3 0 q n) = (ix3 0 q n : S1x144x1536.Idx) := by
    funext z; fin_cases z <;> rfl
  rw [cast_eq]
  refine (congrArg (out0_3 (iblk m c 0 t) (iblk m c 1 t) (iblk m c 2 t)) e').trans ?_
  refine (out_at m c t q n).trans ((pay_at _ _ _ _ _).trans ?_)
  exact entry_congr (fun k => read_x m c t q k) (fun k => read_w m c t ⟨t.val / 4, by omega⟩ ⟨t.val % 4, by omega⟩ rfl rfl k n)
    (read_b m c t ⟨t.val / 4, by omega⟩ ⟨t.val % 4, by omega⟩ rfl rfl n)

end Cert.AdaValue
end
-- ==== Proof.Ada.Reference.lean ====
/-
  The reference's adaptive modulation, index by index.
-/
module

public import proofs.«01_k».proof.Proof.Ada.Value
public import proofs.«01_k».proof.Proof.Gen.AdaReferenceIdeal.Run
public import proofs.«01_k».proof.Proof.Gen.AdaReferenceIdeal.Read

@[expose] public section

set_option maxRecDepth 16384

noncomputable section

namespace Cert.AdaValue

open Idealize.ShloMosaic Idealize.ShloMosaic.TcCoe Idealize.SL.Sem
open Cert.AdaReferenceIdeal Cert.AdaReferenceIdeal.Read

variable (cp : Vec Ideal S8x1024 .f32) (cs : Vec Ideal S128x1024 .f32) (w : Vec Ideal S4x1024x6144 .f32) (b : Vec Ideal S4x6144 .f32)

theorem ref_cond (q : Fin 144) (k : Fin 1024) : val_main_v1 (F := Ideal) cp cs (ix2 q k) = cond cp cs q k := by
  pointwise [val_main_v1, val_main_v0_apply, val_main_cst_apply, cond]
  by_cases h : q.val < 8
  · rw [dif_pos h, dif_pos h]
  · rw [dif_neg h, dif_neg h]
    by_cases h1 : q.val < 136
    · rw [dif_pos (by omega), dif_pos h1]
    · rw [dif_neg (by omega), dif_neg h1]

theorem ref_act (q : Fin 144) (k : Fin 1024) : val_main_v2 (F := Ideal) cp cs (ix2 q k) = act (cond cp cs q k) := by
  pointwise [val_main_v2_apply, val_main_call0_v5_apply, val_main_call0_v4_apply, val_main_call0_v3_apply,
    val_main_call0_v2_apply, val_main_call0_v1_apply, val_main_call0_v0_apply, val_main_call0_cst_apply, val_main_call0_cst_0_apply, act]
  simp only [ref_cond, zero_sub]

theorem ref_mods (l : Fin 4) (q : Fin 144) (n : Fin 6144) : val_main_v7 (F := Ideal) cp cs w b (ix3 l q n) = mods cp cs w b (ix3 l q n) := by
  have e0 : idx_main_v4 (ix3 l q n) = (ix3 l n q : S4x6144x144.Idx) := by funext z; fin_cases z <;> rfl
  have e1 (k : Fin 1024) : lidx_main_v3 (ix3 l n q) k = (ix3 l k n : S4x1024x6144.Idx) := by funext z; fin_cases z <;> rfl
  have e2 (k : Fin 1024) : ridx_main_v3 (ix3 l n q) k = (ix2 q k : S144x1024.Idx) := by funext z; fin_cases z <;> rfl
  have e3 : idx_main_v5 (idx_main_v6 (ix3 l q n)) = (ix2 l n : S4x6144.Idx) := by funext z; fin_cases z <;> rfl
  rw [val_main_v7_apply, val_main_v4_apply, e0, val_main_v3_apply, val_main_v6_apply, val_main_v5_apply, e3]
  refine congrArg (fun u : EReal => u + b (ix2 l n)) (Finset.sum_congr rfl fun k _ => ?_)
  rw [e1, e2, ref_act]
  exact mul_comm _ _

end Cert.AdaValue
end
-- ==== Proof.Ada.Claims.lean ====
/-
  The claims of the adaptive modulation.
-/
module

public import proofs.«01_k».proof.Defs
public import proofs.«01_k».proof.Proof.Gen.Ada
public import proofs.«01_k».proof.Proof.Gen.Ada.Frame
public import proofs.«01_k».proof.Proof.Gen.AdaIdeal
public import proofs.«01_k».proof.Proof.Gen.AdaReferenceIdeal
public import proofs.«01_k».proof.Proof.Ada.Reference
public import Idealize.ShloMosaic.Adequacy
public import Idealize.ShloMosaic.Init
public import Idealize.ShloMosaic.Lib.Claim

@[expose] public section

set_option maxRecDepth 16384

noncomputable section

namespace Cert.AdaValue

open Idealize.ShloMosaic Idealize.ShloMosaic.TcCoe Idealize.SL.Sem

theorem quiescent_bits : Cert.quiescent_Ada := fun m g _ => Cert.Ada.Gen.frame m g

theorem quiescent_ideal : Cert.quiescent_AdaIdeal := fun m g _ => Cert.AdaIdeal.Gen.frame m g

theorem quiescent_reference : Cert.quiescent_AdaReferenceIdeal := fun m g _ =>
  (θ_run _ _ _).mono (fun r h => ⟨fun c => (h c).2, sem_eq_zero_of_no_sems (by decide) r.2⟩) (Cert.AdaReferenceIdeal.Value.run m g)

theorem algebraic : Cert.algebraic_AdaIdeal_AdaReferenceIdeal := fun m g m' g' _ hagree =>
  ⟨fun c => (Cert.AdaIdeal.Gen.dats m 0 c).arrAt 3 Cert.AdaIdeal.cfg0.N,
   Cert.AdaIdeal.Value.run_blocks m g,
   (θ_run _ _ _).mono (fun _ h c => by
      obtain ⟨a0, a1, a2, a3⟩ := hagree c
      obtain ⟨h0, hargs⟩ := h c
      refine ⟨h0.trans ?_, hargs⟩
      rw [a0, a1, a2, a3]
      refine (Cert.AdaReferenceIdeal.Read.val_main_v7_eq _ _ _ _).trans ?_
      refine Eq.trans (funext fun y => ?_) (final m c).symm
      have hy : y = ix3 (y 0) (y 1) (y 2) := by funext z; fin_cases z <;> rfl
      rw [hy]
      exact ref_mods _ _ _ _ (y 0) (y 1) (y 2)) (Cert.AdaReferenceIdeal.Value.run m' g')⟩

end Cert.AdaValue
end
-- ==== Proof.lean ====
/-
  The claims.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Rec.Reference
public import proofs.«01_k».proof.Proof.Rec.Quiet
public import proofs.«01_k».proof.Proof.Ffn.Claims
public import proofs.«01_k».proof.Proof.InMb.Claims
public import proofs.«01_k».proof.Proof.InRw.Claims
public import proofs.«01_k».proof.Proof.InHg.Claims
public import proofs.«01_k».proof.Proof.OutProj.Claims
public import proofs.«01_k».proof.Proof.RecHg.Claims
public import proofs.«01_k».proof.Proof.RecMb.Claims
public import proofs.«01_k».proof.Proof.FfnStep.Claims
public import proofs.«01_k».proof.Proof.InMbStep.Claims
public import proofs.«01_k».proof.Proof.InRwStep.Claims
public import proofs.«01_k».proof.Proof.Ssd.Claims
public import proofs.«01_k».proof.Proof.Ada.Claims
public import Idealize.ShloMosaic.Adequacy
public import Idealize.ShloMosaic.Init
public import Idealize.ShloMosaic.Lib.Claim

@[expose] public section

set_option maxRecDepth 16384

noncomputable section

namespace Cert.Proof

open Idealize.ShloMosaic Idealize.ShloMosaic.TcCoe Idealize.SL.Sem

/-- The two programs have the same text, so they have the same body table. -/
theorem table : Cert.Kernel.defs (F := Bits) = Cert.KernelIdeal.defs (F := Bits) :=
  congrArg (Pipeline.defs (Cert.KernelIdeal.pcfgs (F := Bits))) <| congrArg Defs.onTc <| by
    funext l a
    match l with
    | 0 => exact rfl

theorem quiescent_bits : Cert.quiescent_Kernel := fun m g _ => by
  rw [table]
  exact (θ_run Cert.KernelIdeal.defs _ _).mono (fun _ h => ⟨fun c => Cert.RecQuiet.args m _ h.1 c, h.2⟩) (Cert.RecQuiet.main_run (F := Bits) m g)

theorem quiescent_ideal : Cert.quiescent_KernelIdeal := fun m g _ =>
  (θ_run _ _ _).mono (fun _ h => ⟨fun c => Cert.RecQuiet.args m _ h.1 c, h.2⟩) (Cert.RecQuiet.main_run (F := Ideal) m g)

theorem quiescent_reference : Cert.quiescent_ReferenceIdeal := fun m g _ =>
  (θ_run _ _ _).mono (fun r h => ⟨fun c => (h c).2.2, sem_eq_zero_of_no_sems (by decide) r.2⟩) (Cert.ReferenceIdeal.Value.run m g)

theorem algebraic : Cert.algebraic_KernelIdeal_ReferenceIdeal := fun m g m' g' _ hagree =>
  ⟨fun c => Cert.Rec.res m c,
   fun c y => Cert.Rec.newState (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (y 0) (y 1) (y 2) (y 3),
   (θ_run _ _ _).mono (fun _ h c => ⟨Cert.Rec.final_7 m _ h.1 c, (Cert.Rec.final_8 m _ h.1 c).trans (Cert.Rec.states_eq m c), Cert.Rec.args m _ h.1 c⟩) (Cert.Rec.main_run m g),
   (θ_run _ _ _).mono (fun _ h c => by
      obtain ⟨a0, a1, a2, a3, a4, a5, a6⟩ := hagree c
      obtain ⟨h0, h1, hargs⟩ := h c
      refine ⟨h0.trans ?_, h1.trans ?_, hargs⟩
      · rw [a0, a1, a2, a3, a4, a5, a6]
        refine (Cert.ReferenceIdeal.Read.val_main_v24_eq _ _ _ _ _ _ _).trans (funext fun y => ?_)
        have hy : y = ix2 (Cert.Rec.at4 ⟨(y 0).val / 64, by have := (y 0).isLt; change _ < 256 at this; omega⟩ ⟨(y 0).val % 64, by omega⟩) (y 1) := by
          funext z; apply Fin.ext; fin_cases z
          · show (y 0).val = 64 * ((y 0).val / 64) + (y 0).val % 64; omega
          · rfl
        rw [hy]
        exact (Cert.Rec.ref_out _ _ _ _ _ _ _ _ _ _).trans (Cert.Rec.res_eq m c _ _ _).symm
      · rw [a0, a1, a3, a4, a5, a6]
        refine (Cert.ReferenceIdeal.Read.val_main_v21_eq _ _ _ _ _ _).trans (funext fun y => ?_)
        have hy : y = ix4 (y 0) (y 1) (y 2) (y 3) := by funext z; fin_cases z <;> rfl
        rw [hy]
        exact Cert.Rec.ref_state _ _ _ _ _ _ _ _ _ _)
     (Cert.ReferenceIdeal.Value.run m' g')⟩

theorem claim : Cert.Claim := ⟨Cert.Kernel.Gen.facts, Cert.KernelIdeal.Gen.facts, Cert.ReferenceIdeal.Gen.facts,
  Cert.Ffn.Gen.facts, Cert.FfnIdeal.Gen.facts, Cert.FfnReferenceIdeal.Gen.facts,
  Cert.InMb.Gen.facts, Cert.InMbIdeal.Gen.facts, Cert.InMbReferenceIdeal.Gen.facts,
  Cert.InRw.Gen.facts, Cert.InRwIdeal.Gen.facts, Cert.InRwReferenceIdeal.Gen.facts,
  Cert.InHg.Gen.facts, Cert.InHgIdeal.Gen.facts, Cert.InHgReferenceIdeal.Gen.facts,
  Cert.OutProj.Gen.facts, Cert.OutProjIdeal.Gen.facts, Cert.OutProjReferenceIdeal.Gen.facts,
  Cert.RecHg.Gen.facts, Cert.RecHgIdeal.Gen.facts, Cert.RecHgReferenceIdeal.Gen.facts,
  Cert.RecMb.Gen.facts, Cert.RecMbIdeal.Gen.facts, Cert.RecMbReferenceIdeal.Gen.facts,
  Cert.FfnStep.Gen.facts, Cert.FfnStepIdeal.Gen.facts, Cert.FfnStepReferenceIdeal.Gen.facts,
  Cert.InMbStep.Gen.facts, Cert.InMbStepIdeal.Gen.facts, Cert.InMbStepReferenceIdeal.Gen.facts,
  Cert.InRwStep.Gen.facts, Cert.InRwStepIdeal.Gen.facts, Cert.InRwStepReferenceIdeal.Gen.facts,
  Cert.Ssd.Gen.facts, Cert.SsdIdeal.Gen.facts, Cert.SsdReferenceIdeal.Gen.facts,
  Cert.Ada.Gen.facts, Cert.AdaIdeal.Gen.facts, Cert.AdaReferenceIdeal.Gen.facts,
  quiescent_bits, quiescent_ideal, quiescent_reference,
  Cert.FfnValue.quiescent_bits, Cert.FfnValue.quiescent_ideal, Cert.FfnValue.quiescent_reference,
  Cert.InMbValue.quiescent_bits, Cert.InMbValue.quiescent_ideal, Cert.InMbValue.quiescent_reference,
  Cert.InRwValue.quiescent_bits, Cert.InRwValue.quiescent_ideal, Cert.InRwValue.quiescent_reference,
  Cert.InHgValue.quiescent_bits, Cert.InHgValue.quiescent_ideal, Cert.InHgValue.quiescent_reference,
  Cert.OutValue.quiescent_bits, Cert.OutValue.quiescent_ideal, Cert.OutValue.quiescent_reference,
  Cert.RecHgValue.quiescent_bits, Cert.RecHgValue.quiescent_ideal, Cert.RecHgValue.quiescent_reference,
  Cert.RecMbValue.quiescent_bits, Cert.RecMbValue.quiescent_ideal, Cert.RecMbValue.quiescent_reference,
  Cert.FfnStepValue.quiescent_bits, Cert.FfnStepValue.quiescent_ideal, Cert.FfnStepValue.quiescent_reference,
  Cert.InMbStepValue.quiescent_bits, Cert.InMbStepValue.quiescent_ideal, Cert.InMbStepValue.quiescent_reference,
  Cert.InRwStepValue.quiescent_bits, Cert.InRwStepValue.quiescent_ideal, Cert.InRwStepValue.quiescent_reference,
  Cert.SsdValue.quiescent_bits, Cert.SsdValue.quiescent_ideal, Cert.SsdValue.quiescent_reference,
  Cert.AdaValue.quiescent_bits, Cert.AdaValue.quiescent_ideal, Cert.AdaValue.quiescent_reference,
  trivial, algebraic, trivial, Cert.FfnValue.algebraic, trivial, Cert.InMbValue.algebraic, trivial, Cert.InRwValue.algebraic, trivial, Cert.InHgValue.algebraic, trivial, Cert.OutValue.algebraic,
  trivial, Cert.RecHgValue.algebraic, trivial, Cert.RecMbValue.algebraic, trivial, Cert.FfnStepValue.algebraic, trivial, Cert.InMbStepValue.algebraic, trivial, Cert.InRwStepValue.algebraic,
  trivial, Cert.SsdValue.algebraic, trivial, Cert.AdaValue.algebraic⟩

end Cert.Proof

end
